-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_prompt [hPre_finite_prompt : Cert.Pre_finite_prompt.Facts] (m : (ℓ : Loc Cert.KernelIdeal.nD Cert.KernelIdeal.τ Cert.KernelIdeal.sig) → Buf (Elt Ideal) ℓ) : Prop :=
  ∀ c : Dev Cert.KernelIdeal.nD,
    (Cert.Pre_finite_prompt.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_prompt [hPre_finite_prompt : Cert.Pre_finite_prompt.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_prompt.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_sample [hPre_finite_sample : Cert.Pre_finite_sample.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_sample.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_sample [hPre_finite_sample : Cert.Pre_finite_sample.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_sample.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_hgrn_inputs [hPre_hgrn_inputs : Cert.Pre_hgrn_inputs.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_hgrn_inputs.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_hgrn_inputs [hPre_hgrn_inputs : Cert.Pre_hgrn_inputs.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_hgrn_inputs.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_hgrn_bound [hPre_hgrn_bound : Cert.Pre_hgrn_bound.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_hgrn_bound.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_hgrn_bound [hPre_hgrn_bound : Cert.Pre_hgrn_bound.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_hgrn_bound.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_prompt [hKernelIdeal : Cert.KernelIdeal.Facts] [hPre_finite_prompt : Cert.Pre_finite_prompt.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_prompt m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_prompt [hReferenceIdeal : Cert.ReferenceIdeal.Facts] [hPre_finite_prompt : Cert.Pre_finite_prompt.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_prompt m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_sample [hKernel2Ideal : Cert.Kernel2Ideal.Facts] [hPre_finite_sample : Cert.Pre_finite_sample.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_sample m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_sample [hReference2Ideal : Cert.Reference2Ideal.Facts] [hPre_finite_sample : Cert.Pre_finite_sample.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_sample m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_hgrn_inputs [hKernel10Ideal : Cert.Kernel10Ideal.Facts] [hPre_hgrn_inputs : Cert.Pre_hgrn_inputs.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_hgrn_inputs m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_hgrn_inputs [hReference10Ideal : Cert.Reference10Ideal.Facts] [hPre_hgrn_inputs : Cert.Pre_hgrn_inputs.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_hgrn_inputs m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_hgrn_bound [hKernel11Ideal : Cert.Kernel11Ideal.Facts] [hPre_hgrn_bound : Cert.Pre_hgrn_bound.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_hgrn_bound m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_hgrn_bound [hReference11Ideal : Cert.Reference11Ideal.Facts] [hPre_hgrn_bound : Cert.Pre_hgrn_bound.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_hgrn_bound m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  IdealRules.named_const.Statement Cert.KernelIdeal.κ "log_zero" .f32 0xC2D00000#32 ⊥

def algebraic_KernelIdeal_ReferenceIdeal_pre_finite_prompt [hKernelIdeal : Cert.KernelIdeal.Facts] [hReferenceIdeal : Cert.ReferenceIdeal.Facts] [hPre_finite_prompt : Cert.Pre_finite_prompt.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_prompt m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_sample [hKernel2Ideal : Cert.Kernel2Ideal.Facts] [hReference2Ideal : Cert.Reference2Ideal.Facts] [hPre_finite_sample : Cert.Pre_finite_sample.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_sample m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)) (v3 : (c : Dev Cert.Kernel5Ideal.nD) → Buf (Elt Ideal) ((c.tc : Thread Cert.Kernel5Ideal.nD Cert.Kernel5Ideal.τ).loc Cert.Kernel5Ideal.main_v9_3)) (v4 : (c : Dev Cert.Kernel5Ideal.nD) → Buf (Elt Ideal) ((c.tc : Thread Cert.Kernel5Ideal.nD Cert.Kernel5Ideal.τ).loc Cert.Kernel5Ideal.main_v9_4)) (v5 : (c : Dev Cert.Kernel5Ideal.nD) → Buf (Elt Ideal) ((c.tc : Thread Cert.Kernel5Ideal.nD Cert.Kernel5Ideal.τ).loc Cert.Kernel5Ideal.main_v9_5)) (v6 : (c : Dev Cert.Kernel5Ideal.nD) → Buf (Elt Ideal) ((c.tc : Thread Cert.Kernel5Ideal.nD Cert.Kernel5Ideal.τ).loc Cert.Kernel5Ideal.main_v9_6)) (v7 : (c : Dev Cert.Kernel5Ideal.nD) → Buf (Elt Ideal) ((c.tc : Thread Cert.Kernel5Ideal.nD Cert.Kernel5Ideal.τ).loc Cert.Kernel5Ideal.main_v9_7)) (v8 : (c : Dev Cert.Kernel5Ideal.nD) → Buf (Elt Ideal) ((c.tc : Thread Cert.Kernel5Ideal.nD Cert.Kernel5Ideal.τ).loc Cert.Kernel5Ideal.main_v9_8)) (v9 : (c : Dev Cert.Kernel5Ideal.nD) → Buf (Elt Ideal) ((c.tc : Thread Cert.Kernel5Ideal.nD Cert.Kernel5Ideal.τ).loc Cert.Kernel5Ideal.main_v9_9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_v9_3) = v3 c
          ∧ r.2.mem ((c.tc : Thread Cert.Kernel5Ideal.nD Cert.Kernel5Ideal.τ).loc Cert.Kernel5Ideal.main_v9_4) = v4 c
          ∧ r.2.mem ((c.tc : Thread Cert.Kernel5Ideal.nD Cert.Kernel5Ideal.τ).loc Cert.Kernel5Ideal.main_v9_5) = v5 c
          ∧ r.2.mem ((c.tc : Thread Cert.Kernel5Ideal.nD Cert.Kernel5Ideal.τ).loc Cert.Kernel5Ideal.main_v9_6) = v6 c
          ∧ r.2.mem ((c.tc : Thread Cert.Kernel5Ideal.nD Cert.Kernel5Ideal.τ).loc Cert.Kernel5Ideal.main_v9_7) = v7 c
          ∧ r.2.mem ((c.tc : Thread Cert.Kernel5Ideal.nD Cert.Kernel5Ideal.τ).loc Cert.Kernel5Ideal.main_v9_8) = v8 c
          ∧ r.2.mem ((c.tc : Thread Cert.Kernel5Ideal.nD Cert.Kernel5Ideal.τ).loc Cert.Kernel5Ideal.main_v9_9) = v9 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_v56) = v1 c
          ∧ r.2.mem ((c.tc : Thread Cert.Reference5Ideal.nD Cert.Reference5Ideal.τ).loc Cert.Reference5Ideal.main_v57) = v2 c
          ∧ r.2.mem ((c.tc : Thread Cert.Reference5Ideal.nD Cert.Reference5Ideal.τ).loc Cert.Reference5Ideal.main_v58) = v3 c
          ∧ r.2.mem ((c.tc : Thread Cert.Reference5Ideal.nD Cert.Reference5Ideal.τ).loc Cert.Reference5Ideal.main_v52) = v4 c
          ∧ r.2.mem ((c.tc : Thread Cert.Reference5Ideal.nD Cert.Reference5Ideal.τ).loc Cert.Reference5Ideal.main_v53) = v5 c
          ∧ r.2.mem ((c.tc : Thread Cert.Reference5Ideal.nD Cert.Reference5Ideal.τ).loc Cert.Reference5Ideal.main_v59) = v6 c
          ∧ r.2.mem ((c.tc : Thread Cert.Reference5Ideal.nD Cert.Reference5Ideal.τ).loc Cert.Reference5Ideal.main_v60) = v7 c
          ∧ r.2.mem ((c.tc : Thread Cert.Reference5Ideal.nD Cert.Reference5Ideal.τ).loc Cert.Reference5Ideal.main_v54) = v8 c
          ∧ r.2.mem ((c.tc : Thread Cert.Reference5Ideal.nD Cert.Reference5Ideal.τ).loc Cert.Reference5Ideal.main_v61) = v9 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v63) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)) (v2 : (c : Dev Cert.Kernel8Ideal.nD) → Buf (Elt Ideal) ((c.tc : Thread Cert.Kernel8Ideal.nD Cert.Kernel8Ideal.τ).loc Cert.Kernel8Ideal.main_v9_2)) (v3 : (c : Dev Cert.Kernel8Ideal.nD) → Buf (Elt Ideal) ((c.tc : Thread Cert.Kernel8Ideal.nD Cert.Kernel8Ideal.τ).loc Cert.Kernel8Ideal.main_v9_3)) (v4 : (c : Dev Cert.Kernel8Ideal.nD) → Buf (Elt Ideal) ((c.tc : Thread Cert.Kernel8Ideal.nD Cert.Kernel8Ideal.τ).loc Cert.Kernel8Ideal.main_v9_4)) (v5 : (c : Dev Cert.Kernel8Ideal.nD) → Buf (Elt Ideal) ((c.tc : Thread Cert.Kernel8Ideal.nD Cert.Kernel8Ideal.τ).loc Cert.Kernel8Ideal.main_v9_5)) (v6 : (c : Dev Cert.Kernel8Ideal.nD) → Buf (Elt Ideal) ((c.tc : Thread Cert.Kernel8Ideal.nD Cert.Kernel8Ideal.τ).loc Cert.Kernel8Ideal.main_v9_6)) (v7 : (c : Dev Cert.Kernel8Ideal.nD) → Buf (Elt Ideal) ((c.tc : Thread Cert.Kernel8Ideal.nD Cert.Kernel8Ideal.τ).loc Cert.Kernel8Ideal.main_v9_7)) (v8 : (c : Dev Cert.Kernel8Ideal.nD) → Buf (Elt Ideal) ((c.tc : Thread Cert.Kernel8Ideal.nD Cert.Kernel8Ideal.τ).loc Cert.Kernel8Ideal.main_v9_8)) (v9 : (c : Dev Cert.Kernel8Ideal.nD) → Buf (Elt Ideal) ((c.tc : Thread Cert.Kernel8Ideal.nD Cert.Kernel8Ideal.τ).loc Cert.Kernel8Ideal.main_v9_9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_v9_2) = v2 c
          ∧ r.2.mem ((c.tc : Thread Cert.Kernel8Ideal.nD Cert.Kernel8Ideal.τ).loc Cert.Kernel8Ideal.main_v9_3) = v3 c
          ∧ r.2.mem ((c.tc : Thread Cert.Kernel8Ideal.nD Cert.Kernel8Ideal.τ).loc Cert.Kernel8Ideal.main_v9_4) = v4 c
          ∧ r.2.mem ((c.tc : Thread Cert.Kernel8Ideal.nD Cert.Kernel8Ideal.τ).loc Cert.Kernel8Ideal.main_v9_5) = v5 c
          ∧ r.2.mem ((c.tc : Thread Cert.Kernel8Ideal.nD Cert.Kernel8Ideal.τ).loc Cert.Kernel8Ideal.main_v9_6) = v6 c
          ∧ r.2.mem ((c.tc : Thread Cert.Kernel8Ideal.nD Cert.Kernel8Ideal.τ).loc Cert.Kernel8Ideal.main_v9_7) = v7 c
          ∧ r.2.mem ((c.tc : Thread Cert.Kernel8Ideal.nD Cert.Kernel8Ideal.τ).loc Cert.Kernel8Ideal.main_v9_8) = v8 c
          ∧ r.2.mem ((c.tc : Thread Cert.Kernel8Ideal.nD Cert.Kernel8Ideal.τ).loc Cert.Kernel8Ideal.main_v9_9) = v9 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v55) = v0 c
          ∧ r.2.mem ((c.tc : Thread Cert.Reference8Ideal.nD Cert.Reference8Ideal.τ).loc Cert.Reference8Ideal.main_v56) = v1 c
          ∧ r.2.mem ((c.tc : Thread Cert.Reference8Ideal.nD Cert.Reference8Ideal.τ).loc Cert.Reference8Ideal.main_v57) = v2 c
          ∧ r.2.mem ((c.tc : Thread Cert.Reference8Ideal.nD Cert.Reference8Ideal.τ).loc Cert.Reference8Ideal.main_v58) = v3 c
          ∧ r.2.mem ((c.tc : Thread Cert.Reference8Ideal.nD Cert.Reference8Ideal.τ).loc Cert.Reference8Ideal.main_v52) = v4 c
          ∧ r.2.mem ((c.tc : Thread Cert.Reference8Ideal.nD Cert.Reference8Ideal.τ).loc Cert.Reference8Ideal.main_v53) = v5 c
          ∧ r.2.mem ((c.tc : Thread Cert.Reference8Ideal.nD Cert.Reference8Ideal.τ).loc Cert.Reference8Ideal.main_v59) = v6 c
          ∧ r.2.mem ((c.tc : Thread Cert.Reference8Ideal.nD Cert.Reference8Ideal.τ).loc Cert.Reference8Ideal.main_v60) = v7 c
          ∧ r.2.mem ((c.tc : Thread Cert.Reference8Ideal.nD Cert.Reference8Ideal.τ).loc Cert.Reference8Ideal.main_v54) = v8 c
          ∧ r.2.mem ((c.tc : Thread Cert.Reference8Ideal.nD Cert.Reference8Ideal.τ).loc Cert.Reference8Ideal.main_v61) = v9 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_hgrn_inputs [hKernel10Ideal : Cert.Kernel10Ideal.Facts] [hReference10Ideal : Cert.Reference10Ideal.Facts] [hPre_hgrn_inputs : Cert.Pre_hgrn_inputs.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_hgrn_inputs m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v89) = v0 c
          ∧ r.2.mem ((c.tc : Thread Cert.Reference10Ideal.nD Cert.Reference10Ideal.τ).loc Cert.Reference10Ideal.main_v90) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_pre_hgrn_bound [hKernel11Ideal : Cert.Kernel11Ideal.Facts] [hReference11Ideal : Cert.Reference11Ideal.Facts] [hPre_hgrn_bound : Cert.Pre_hgrn_bound.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_hgrn_bound m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v89) = v0 c
          ∧ r.2.mem ((c.tc : Thread Cert.Reference11Ideal.nD Cert.Reference11Ideal.τ).loc Cert.Reference11Ideal.main_v90) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_prompt : Cert.Pre_finite_prompt.Facts) (hPre_finite_sample : Cert.Pre_finite_sample.Facts) (hPre_hgrn_inputs : Cert.Pre_hgrn_inputs.Facts) (hPre_hgrn_bound : Cert.Pre_hgrn_bound.Facts),
    quiescent_Kernel (hKernel := hKernel)
    ∧ quiescent_KernelIdeal (hKernelIdeal := hKernelIdeal)
    ∧ quiescent_KernelIdeal_pre_finite_prompt (hKernelIdeal := hKernelIdeal) (hPre_finite_prompt := hPre_finite_prompt)
    ∧ quiescent_ReferenceIdeal (hReferenceIdeal := hReferenceIdeal)
    ∧ quiescent_ReferenceIdeal_pre_finite_prompt (hReferenceIdeal := hReferenceIdeal) (hPre_finite_prompt := hPre_finite_prompt)
    ∧ quiescent_Kernel2 (hKernel2 := hKernel2)
    ∧ quiescent_Kernel2Ideal (hKernel2Ideal := hKernel2Ideal)
    ∧ quiescent_Kernel2Ideal_pre_finite_sample (hKernel2Ideal := hKernel2Ideal) (hPre_finite_sample := hPre_finite_sample)
    ∧ quiescent_Reference2Ideal (hReference2Ideal := hReference2Ideal)
    ∧ quiescent_Reference2Ideal_pre_finite_sample (hReference2Ideal := hReference2Ideal) (hPre_finite_sample := hPre_finite_sample)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_hgrn_inputs (hKernel10Ideal := hKernel10Ideal) (hPre_hgrn_inputs := hPre_hgrn_inputs)
    ∧ quiescent_Reference10Ideal (hReference10Ideal := hReference10Ideal)
    ∧ quiescent_Reference10Ideal_pre_hgrn_inputs (hReference10Ideal := hReference10Ideal) (hPre_hgrn_inputs := hPre_hgrn_inputs)
    ∧ quiescent_Kernel11 (hKernel11 := hKernel11)
    ∧ quiescent_Kernel11Ideal (hKernel11Ideal := hKernel11Ideal)
    ∧ quiescent_Kernel11Ideal_pre_hgrn_bound (hKernel11Ideal := hKernel11Ideal) (hPre_hgrn_bound := hPre_hgrn_bound)
    ∧ quiescent_Reference11Ideal (hReference11Ideal := hReference11Ideal)
    ∧ quiescent_Reference11Ideal_pre_hgrn_bound (hReference11Ideal := hReference11Ideal) (hPre_hgrn_bound := hPre_hgrn_bound)
    ∧ preserves_Kernel_KernelIdeal
    ∧ algebraic_KernelIdeal_ReferenceIdeal_pre_finite_prompt (hKernelIdeal := hKernelIdeal) (hReferenceIdeal := hReferenceIdeal) (hPre_finite_prompt := hPre_finite_prompt)
    ∧ preserves_Kernel2_Kernel2Ideal
    ∧ algebraic_Kernel2Ideal_Reference2Ideal_pre_finite_sample (hKernel2Ideal := hKernel2Ideal) (hReference2Ideal := hReference2Ideal) (hPre_finite_sample := hPre_finite_sample)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_hgrn_inputs (hKernel10Ideal := hKernel10Ideal) (hReference10Ideal := hReference10Ideal) (hPre_hgrn_inputs := hPre_hgrn_inputs)
    ∧ preserves_Kernel11_Kernel11Ideal
    ∧ algebraic_Kernel11Ideal_Reference11Ideal_pre_hgrn_bound (hKernel11Ideal := hKernel11Ideal) (hReference11Ideal := hReference11Ideal) (hPre_hgrn_bound := hPre_hgrn_bound)
-- ==== Pre_finite_prompt.lean ====
abbrev S1 : Shape := ⟨1, ![1]⟩
abbrev S2x16384x512 : Shape := ⟨3, ![2, 16384, 512]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bitsLt_bf16_f32 : FTy.bits .bf16 < FTy.bits .f32
  bcast_S_S2x16384x512 : S_.BroadcastsInDim S2x16384x512 (![] : Fin 0 → Fin S2x16384x512.rank)
  reducesTo_S2x16384x512_S_d0_1_2 : S2x16384x512.ReducesTo [0, 1, 2] S_

variable [Facts]

def fn {F : FTy → Type} [FloatOps F] (main_arg0 : FVec F S1 .f32) (main_arg1 : FVec F S2x16384x512 .bf16) (main_arg2 : FVec F S2x16384x512 .bf16) (main_arg3 : FVec F S2x16384x512 .bf16) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S2x16384x512 .f32 := (extf .f32 · bitsLt_bf16_f32) main_arg1
  let main_v5 : FVec F S2x16384x512 .f32 := Host.absf main_v4
  let main_cst_0 : FVec F S_ .f32 := constant S_ .f32 0x7F800000#32
  let main_v6 : FVec F S2x16384x512 .f32 := broadcastInDim S2x16384x512 ![] bcast_S_S2x16384x512 main_cst_0
  let main_v7 : IVec S2x16384x512 1 := cmpf .olt main_v5 main_v6
  let main_c_1 : IVec S_ 1 := constantI S_ 1 1#1
  let main_v8 : IVec S_ 1 := (fun x v => Host.reduce IntOp.andi x v reducesTo_S2x16384x512_S_d0_1_2 h_S_) main_v7 main_c_1
  let main_v9 : IVec S_ 1 := andi main_v3 main_v8
  let main_v10 : FVec F S2x16384x512 .f32 := (extf .f32 · bitsLt_bf16_f32) main_arg2
  let main_v11 : FVec F S2x16384x512 .f32 := Host.absf main_v10
  let main_cst_2 : FVec F S_ .f32 := constant S_ .f32 0x7F800000#32
  let main_v12 : FVec F S2x16384x512 .f32 := broadcastInDim S2x16384x512 ![] bcast_S_S2x16384x512 main_cst_2
  let main_v13 : IVec S2x16384x512 1 := cmpf .olt main_v11 main_v12
  let main_c_3 : IVec S_ 1 := constantI S_ 1 1#1
  let main_v14 : IVec S_ 1 := (fun x v => Host.reduce IntOp.andi x v reducesTo_S2x16384x512_S_d0_1_2 h_S_) main_v13 main_c_3
  let main_v15 : IVec S_ 1 := andi main_v9 main_v14
  main_v15
-- ==== Pre_finite_sample.lean ====
abbrev S16x32x512 : Shape := ⟨3, ![16, 32, 512]⟩
abbrev S16x2048x4x128 : Shape := ⟨4, ![16, 2048, 4, 128]⟩
abbrev S_ : Shape := ⟨0, ![]⟩

class Facts : Prop where
  bitsLt_bf16_f32 : FTy.bits .bf16 < FTy.bits .f32
  bcast_S_S16x32x512 : S_.BroadcastsInDim S16x32x512 (![] : Fin 0 → Fin S16x32x512.rank)
  reducesTo_S16x32x512_S_d0_1_2 : S16x32x512.ReducesTo [0, 1, 2] S_
  h_S_ : 0 < S_.numel
  bcast_S_S16x2048x4x128 : S_.BroadcastsInDim S16x2048x4x128 (![] : Fin 0 → Fin S16x2048x4x128.rank)
  reducesTo_S16x2048x4x128_S_d0_1_2_3 : S16x2048x4x128.ReducesTo [0, 1, 2, 3] S_

variable [Facts]

def fn {F : FTy → Type} [FloatOps F] (main_arg0 : FVec F S16x32x512 .bf16) (main_arg1 : FVec F S16x32x512 .bf16) (main_arg2 : FVec F S16x32x512 .bf16) (main_arg3 : FVec F S16x2048x4x128 .f32) (main_arg4 : FVec F S16x2048x4x128 .f32) : IVec S_ 1 :=
  let main_v0 : FVec F S16x32x512 .f32 := (extf .f32 · bitsLt_bf16_f32) main_arg0
  let main_v1 : FVec F S16x32x512 .f32 := Host.absf main_v0
  let main_cst : FVec F S_ .f32 := constant S_ .f32 0x7F800000#32
  let main_v2 : FVec F S16x32x512 .f32 := broadcastInDim S16x32x512 ![] bcast_S_S16x32x512 main_cst
  let main_v3 : IVec S16x32x512 1 := cmpf .olt main_v1 main_v2
  let main_c : IVec S_ 1 := constantI S_ 1 1#1
  let main_v4 : IVec S_ 1 := (fun x v => Host.reduce IntOp.andi x v reducesTo_S16x32x512_S_d0_1_2 h_S_) main_v3 main_c
  let main_v5 : FVec F S16x32x512 .f32 := (extf .f32 · bitsLt_bf16_f32) main_arg1
  let main_v6 : FVec F S16x32x512 .f32 := Host.absf main_v5
  let main_cst_0 : FVec F S_ .f32 := constant S_ .f32 0x7F800000#32
  let main_v7 : FVec F S16x32x512 .f32 := broadcastInDim S16x32x512 ![] bcast_S_S16x32x512 main_cst_0
  let main_v8 : IVec S16x32x512 1 := cmpf .olt main_v6 main_v7
  let main_c_1 : IVec S_ 1 := constantI S_ 1 1#1
  let main_v9 : IVec S_ 1 := (fun x v => Host.reduce IntOp.andi x v reducesTo_S16x32x512_S_d0_1_2 h_S_) main_v8 main_c_1
  let main_v10 : IVec S_ 1 := andi main_v4 main_v9
  let main_v11 : FVec F S16x2048x4x128 .f32 := Host.absf main_arg3
  let main_cst_2 : FVec F S_ .f32 := constant S_ .f32 0x7F800000#32
  let main_v12 : FVec F S16x2048x4x128 .f32 := broadcastInDim S16x2048x4x128 ![] bcast_S_S16x2048x4x128 main_cst_2
  let main_v13 : IVec S16x2048x4x128 1 := cmpf .olt main_v11 main_v12
  let main_c_3 : IVec S_ 1 := constantI S_ 1 1#1
  let main_v14 : IVec S_ 1 := (fun x v => Host.reduce IntOp.andi x v reducesTo_S16x2048x4x128_S_d0_1_2_3 h_S_) main_v13 main_c_3
  let main_v15 : IVec S_ 1 := andi main_v10 main_v14
  main_v15
-- ==== Pre_hgrn_bound.lean ====
abbrev S16x32x2048 : Shape := ⟨3, ![16, 32, 2048]⟩
abbrev S16x4x128x128 : Shape := ⟨4, ![16, 4, 128, 128]⟩
abbrev S1x512 : Shape := ⟨2, ![1, 512]⟩
abbrev S_ : Shape := ⟨0, ![]⟩

class Facts : Prop where
  bcast_S_S1x512 : S_.BroadcastsInDim S1x512 (![] : Fin 0 → Fin S1x512.rank)
  reducesTo_S1x512_S_d0_1 : S1x512.ReducesTo [0, 1] S_
  h_S_ : 0 < S_.numel

variable [Facts]

def fn {F : FTy → Type} [FloatOps F] (main_arg0 : FVec F S16x32x2048 .f32) (main_arg1 : FVec F S16x4x128x128 .f32) (main_arg2 : FVec F S1x512 .f32) (main_arg3 : FVec F S1x512 .f32) : IVec S_ 1 :=
  let main_cst : FVec F S_ .f32 := constant S_ .f32 0x00000000#32
  let main_v0 : FVec F S1x512 .f32 := broadcastInDim S1x512 ![] bcast_S_S1x512 main_cst
  let main_v1 : IVec S1x512 1 := cmpf .oge main_arg2 main_v0
  let main_c : IVec S_ 1 := constantI S_ 1 1#1
  let main_v2 : IVec S_ 1 := (fun x v => Host.reduce IntOp.andi x v reducesTo_S1x512_S_d0_1 h_S_) main_v1 main_c
  let main_cst_0 : FVec F S_ .f32 := constant S_ .f32 0x3F800000#32
  let main_v3 : FVec F S1x512 .f32 := broadcastInDim S1x512 ![] bcast_S_S1x512 main_cst_0
  let main_v4 : IVec S1x512 1 := cmpf .ole main_arg2 main_v3
  let main_c_1 : IVec S_ 1 := constantI S_ 1 1#1
  let main_v5 : IVec S_ 1 := (fun x v => Host.reduce IntOp.andi x v reducesTo_S1x512_S_d0_1 h_S_) main_v4 main_c_1
  let main_v6 : IVec S_ 1 := andi main_v2 main_v5
  main_v6
-- ==== Pre_hgrn_inputs.lean ====
abbrev S2x16384x2048 : Shape := ⟨3, ![2, 16384, 2048]⟩
abbrev S2x4x128x128 : Shape := ⟨4, ![2, 4, 128, 128]⟩
abbrev S1x512 : Shape := ⟨2, ![1, 512]⟩
abbrev S2x16384x1536 : Shape := ⟨3, ![2, 16384, 1536]⟩
abbrev S_ : Shape := ⟨0, ![]⟩

class Facts : Prop where
  slices_S2x16384x2048_S2x16384x1536_0_0_0 : S2x16384x2048.Slices ![0, 0, 0] S2x16384x1536
  bcast_S_S2x16384x1536 : S_.BroadcastsInDim S2x16384x1536 (![] : Fin 0 → Fin S2x16384x1536.rank)
  reducesTo_S2x16384x1536_S_d0_1_2 : S2x16384x1536.ReducesTo [0, 1, 2] S_
  h_S_ : 0 < S_.numel
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S2x16384x2048 .f32) (main_arg1 : FVec F S2x4x128x128 .f32) (main_arg2 : FVec F S1x512 .f32) (main_arg3 : FVec F S1x512 .f32) : IVec S_ 1 :=
  let main_v0 : FVec F S2x16384x1536 .f32 := (extractStridedSlice S2x16384x1536 ![0, 0, 0] · slices_S2x16384x2048_S2x16384x1536_0_0_0) main_arg0
  let main_v1 : FVec F S2x16384x1536 .f32 := Host.absf main_v0
  let main_cst : FVec F S_ .f32 := constant S_ .f32 0x7F800000#32
  let main_v2 : FVec F S2x16384x1536 .f32 := broadcastInDim S2x16384x1536 ![] bcast_S_S2x16384x1536 main_cst
  let main_v3 : IVec S2x16384x1536 1 := cmpf .olt main_v1 main_v2
  let main_c : IVec S_ 1 := constantI S_ 1 1#1
  let main_v4 : IVec S_ 1 := (fun x v => Host.reduce IntOp.andi x v reducesTo_S2x16384x1536_S_d0_1_2 h_S_) main_v3 main_c
  let main_cst_0 : FVec F S_ .f32 := constant S_ .f32 0x00000000#32
  let main_v5 : FVec F S1x512 .f32 := broadcastInDim S1x512 ![] bcast_S_S1x512 main_cst_0
  let main_v6 : IVec S1x512 1 := cmpf .oge main_arg2 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v4 main_v7
  let main_cst_2 : FVec F S_ .f32 := constant S_ .f32 0x3F800000#32
  let main_v9 : FVec F S1x512 .f32 := broadcastInDim S1x512 ![] bcast_S_S1x512 main_cst_2
  let main_v10 : IVec S1x512 1 := cmpf .ole main_arg2 main_v9
  let main_c_3 : IVec S_ 1 := constantI S_ 1 1#1
  let main_v11 : IVec S_ 1 := (fun x v => Host.reduce IntOp.andi x v reducesTo_S1x512_S_d0_1 h_S_) main_v10 main_c_3
  let main_v12 : IVec S_ 1 := andi main_v8 main_v11
  main_v12
-- ==== Kernel.lean ====
abbrev S1 : Shape := ⟨1, ![1]⟩
abbrev S2x16384x512 : Shape := ⟨3, ![2, 16384, 512]⟩
abbrev S_ : Shape := ⟨0, ![]⟩
abbrev S256x256 : Shape := ⟨2, ![256, 256]⟩
abbrev S1x256x128 : Shape := ⟨3, ![1, 256, 128]⟩
abbrev S1x16384x128 : Shape := ⟨3, ![1, 16384, 128]⟩
abbrev S256x128 : Shape := ⟨2, ![256, 128]⟩
abbrev S256x1 : Shape := ⟨2, ![256, 1]⟩
abbrev S1x256x1 : Shape := ⟨3, ![1, 256, 1]⟩
abbrev S1x1x1 : Shape := ⟨3, ![1, 1, 1]⟩

abbrev nBuf : Space → Nat
  | .hbm => 16
  | .vmem => 9
  | .smem => 1
  | _ => 0

abbrev bufTy : (tb : Table) → Fin (tcTables nBuf tb) → BufTy
  | .hbm, ⟨0, _⟩ => ⟨S1, .f32⟩
  | .hbm, ⟨1, _⟩ => ⟨S2x16384x512, .bf16⟩
  | .hbm, ⟨2, _⟩ => ⟨S2x16384x512, .bf16⟩
  | .hbm, ⟨3, _⟩ => ⟨S2x16384x512, .bf16⟩
  | .hbm, ⟨4, _⟩ => ⟨S_, .bf16⟩
  | .hbm, ⟨5, _⟩ => ⟨S256x256, .bf16⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S256x256, .i1⟩
  | .hbm, ⟨12, _⟩ => ⟨S_, .bf16⟩
  | .hbm, ⟨13, _⟩ => ⟨S256x256, .bf16⟩
  | .hbm, ⟨14, _⟩ => ⟨S256x256, .bf16⟩
  | .hbm, ⟨15, _⟩ => ⟨S2x16384x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S256x256, .bf16⟩
  | .local _ .vmem, ⟨7, _⟩ => ⟨S1x256x128, .bf16⟩
  | .local _ .vmem, ⟨8, _⟩ => ⟨S1x256x128, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 64], ![false, false, false]⟩

def k0_mult1 (i : grid0.Coords) : BitVec 32 :=
  let arg2 : BitVec 32 := BitVec.ofNat 32 (i 2).val
  let c256_i32 : BitVec 32 := 256#32
  let v5 : BitVec 32 := Scalar.muli arg2 c256_i32
  v5
def k0_off1 (i : grid0.Coords) : Fin 3 → Nat :=
  let c0_5 : Index := 0#32
  let arg2 : BitVec 32 := BitVec.ofNat 32 (i 2).val
  let c256_i32 : BitVec 32 := 256#32
  let v5 : BitVec 32 := Scalar.muli arg2 c256_i32
  let v6 : BitVec 32 := v5
  let v7 : Index := Scalar.indexCast v6
  let c0_6 : Index := 0#32
  ![0, v7.toNat, 0]
def k0_mult2 (arg9 : BitVec 32) : BitVec 32 :=
  let c256_i32_23 : BitVec 32 := 256#32
  let v59 : BitVec 32 := Scalar.muli arg9 c256_i32_23
  v59

def k0_off2 (arg9 : BitVec 32) : Fin 3 → Nat :=
  let c0_24 : Index := 0#32
  let c256_i32_23 : BitVec 32 := 256#32
  let v59 : BitVec 32 := Scalar.muli arg9 c256_i32_23
  let v60 : BitVec 32 := v59
  let v61 : Index := Scalar.indexCast v60
  let c0_25 : Index := 0#32
  ![0, v61.toNat, 0]

def k0_chk1 (arg9 : BitVec 32) : Prop :=
  (256 ∣ (k0_mult2 arg9).toNat) ∧
  (∀ a, (k0_off2 arg9) a + S1x256x128.size a ≤ S1x16384x128.size a)
theorem k0_mult2_dvd : ∀ (arg9 : BitVec 32) (k0_hw1 : k0_chk1 arg9), 256 ∣ (k0_mult2 arg9).toNat := fun arg9 k0_hw1 => k0_hw1.1
theorem k0_off2_inb : ∀ (arg9 : BitVec 32) (k0_hw1 : k0_chk1 arg9), ∀ a, (k0_off2 arg9) a + S1x256x128.size a ≤ S1x16384x128.size a := fun arg9 k0_hw1 => k0_hw1.2

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log_zero" => some ⊥
  | _ => none
-- ==== ReferenceIdeal.lean ====
abbrev S1 : Shape := ⟨1, ![1]⟩
abbrev S2x16384x512 : Shape := ⟨3, ![2, 16384, 512]⟩
abbrev S2x16384x4x128 : Shape := ⟨4, ![2, 16384, 4, 128]⟩
abbrev S16384 : Shape := ⟨1, ![16384]⟩
abbrev S_ : Shape := ⟨0, ![]⟩
abbrev S2x4x16384x16384 : Shape := ⟨4, ![2, 4, 16384, 16384]⟩
abbrev S1x16384 : Shape := ⟨2, ![1, 16384]⟩
abbrev S16384x1 : Shape := ⟨2, ![16384, 1]⟩
abbrev S16384x16384 : Shape := ⟨2, ![16384, 16384]⟩
abbrev S2x4x128x16384 : Shape := ⟨4, ![2, 4, 128, 16384]⟩

abbrev nBuf : Space → Nat
  | .hbm => 64
  | .vmem => 0
  | .smem => 0
  | _ => 0

abbrev bufTy : (tb : Table) → Fin (tcTables nBuf tb) → BufTy
  | .hbm, ⟨0, _⟩ => ⟨S1, .f32⟩
  | .hbm, ⟨1, _⟩ => ⟨S2x16384x512, .bf16⟩
  | .hbm, ⟨2, _⟩ => ⟨S2x16384x512, .bf16⟩
  | .hbm, ⟨3, _⟩ => ⟨S2x16384x512, .bf16⟩
  | .hbm, ⟨4, _⟩ => ⟨S2x16384x512, .f32⟩
  | .hbm, ⟨5, _⟩ => ⟨S2x16384x4x128, .f32⟩
  | .hbm, ⟨6, _⟩ => ⟨S2x16384x512, .f32⟩
  | .hbm, ⟨7, _⟩ => ⟨S2x16384x4x128, .f32⟩
  | .hbm, ⟨8, _⟩ => ⟨S2x16384x512, .f32⟩
  | .hbm, ⟨9, _⟩ => ⟨S2x16384x4x128, .f32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S2x4x16384x16384, .f32⟩
  | .hbm, ⟨16, _⟩ => ⟨S_, .f32⟩
  | .hbm, ⟨17, _⟩ => ⟨S2x4x16384x16384, .f32⟩
  | .hbm, ⟨18, _⟩ => ⟨S2x4x16384x16384, .f32⟩
  | .hbm, ⟨19, _⟩ => ⟨S1x16384, .i32⟩
  | .hbm, ⟨20, _⟩ => ⟨S16384x1, .i32⟩
  | .hbm, ⟨21, _⟩ => ⟨S16384x16384, .i32⟩
  | .hbm, ⟨22, _⟩ => ⟨S16384x16384, .i32⟩
  | .hbm, ⟨23, _⟩ => ⟨S16384x16384, .i1⟩
  | .hbm, ⟨24, _⟩ => ⟨S2x4x16384x16384, .f32⟩
  | .hbm, ⟨25, _⟩ => ⟨S2x4x16384x16384, .f32⟩
  | .hbm, ⟨26, _⟩ => ⟨S_, .f32⟩
  | .hbm, ⟨27, _⟩ => ⟨S2x4x16384x16384, .f32⟩
  | .hbm, ⟨28, _⟩ => ⟨S2x4x16384x16384, .f32⟩
  | .hbm, ⟨29, _⟩ => ⟨S2x4x16384x16384, .f32⟩
  | .hbm, ⟨30, _⟩ => ⟨S2x4x16384x16384, .f32⟩
  | .hbm, ⟨31, _⟩ => ⟨S2x4x16384x16384, .i1⟩
  | .hbm, ⟨32, _⟩ => ⟨S2x4x16384x16384, .f32⟩
  | .hbm, ⟨33, _⟩ => ⟨S2x4x16384x16384, .f32⟩
  | .hbm, ⟨34, _⟩ => ⟨S2x4x16384x16384, .f32⟩
  | .hbm, ⟨35, _⟩ => ⟨S2x4x16384x16384, .f32⟩
  | .hbm, ⟨36, _⟩ => ⟨S2x4x16384x16384, .f32⟩
  | .hbm, ⟨37, _⟩ => ⟨S2x4x16384x16384, .f32⟩
  | .hbm, ⟨38, _⟩ => ⟨S2x4x16384x16384, .f32⟩
  | .hbm, ⟨39, _⟩ => ⟨S2x4x16384x16384, .f32⟩
  | .hbm, ⟨40, _⟩ => ⟨S2x4x16384x16384, .f32⟩
  | .hbm, ⟨41, _⟩ => ⟨S_, .f32⟩
  | .hbm, ⟨42, _⟩ => ⟨S_, .f32⟩
  | .hbm, ⟨43, _⟩ => ⟨S2x4x16384x16384, .i1⟩
  | .hbm, ⟨44, _⟩ => ⟨S2x4x16384x16384, .f32⟩
  | .hbm, ⟨45, _⟩ => ⟨S2x4x16384x16384, .f32⟩
  | .hbm, ⟨46, _⟩ => ⟨S16384x1, .i32⟩
  | .hbm, ⟨47, _⟩ => ⟨S1x16384, .i32⟩
  | .hbm, ⟨48, _⟩ => ⟨S16384x16384, .i32⟩
  | .hbm, ⟨49, _⟩ => ⟨S16384x16384, .i32⟩
  | .hbm, ⟨50, _⟩ => ⟨S16384x16384, .i1⟩
  | .hbm, ⟨51, _⟩ => ⟨S16384x16384, .f32⟩
  | .hbm, ⟨52, _⟩ => ⟨S2x4x16384x16384, .f32⟩
  | .hbm, ⟨53, _⟩ => ⟨S2x4x16384x16384, .f32⟩
  | .hbm, ⟨54, _⟩ => ⟨S2x4x16384x16384, .f32⟩
  | .hbm, ⟨55, _⟩ => ⟨S_, .f32⟩
  | .hbm, ⟨56, _⟩ => ⟨S_, .f32⟩
  | .hbm, ⟨57, _⟩ => ⟨S2x4x16384x16384, .i1⟩
  | .hbm, ⟨58, _⟩ => ⟨S2x4x16384x16384, .f32⟩
  | .hbm, ⟨59, _⟩ => ⟨S2x4x16384x16384, .f32⟩
  | .hbm, ⟨60, _⟩ => ⟨S2x4x128x16384, .f32⟩
  | .hbm, ⟨61, _⟩ => ⟨S2x16384x4x128, .f32⟩
  | .hbm, ⟨62, _⟩ => ⟨S2x16384x512, .f32⟩
  | .hbm, ⟨63, _⟩ => ⟨S2x16384x512, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v19 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩

abbrev nD : Nat := 1
abbrev τ : Topo := Topo.v7x

variable {F : FTy → Type} [FloatOps F]
-- ==== Kernel2.lean ====
abbrev S16x32x512 : Shape := ⟨3, ![16, 32, 512]⟩
abbrev S16x2048x4x128 : Shape := ⟨4, ![16, 2048, 4, 128]⟩
abbrev S16x2048x512 : Shape := ⟨3, ![16, 2048, 512]⟩
abbrev S_ : Shape := ⟨0, ![]⟩
abbrev S32x32 : Shape := ⟨2, ![32, 32]⟩
abbrev S256x256 : Shape := ⟨2, ![256, 256]⟩
abbrev S1x32x128 : Shape := ⟨3, ![1, 32, 128]⟩
abbrev S1x2048x128 : Shape := ⟨3, ![1, 2048, 128]⟩
abbrev S32x128 : Shape := ⟨2, ![32, 128]⟩
abbrev S32x1 : Shape := ⟨2, ![32, 1]⟩
abbrev S1x256x128 : Shape := ⟨3, ![1, 256, 128]⟩
abbrev S256x128 : Shape := ⟨2, ![256, 128]⟩
abbrev S32x256 : Shape := ⟨2, ![32, 256]⟩

abbrev nBuf : Space → Nat
  | .hbm => 30
  | .vmem => 14
  | .smem => 0
  | _ => 0

abbrev bufTy : (tb : Table) → Fin (tcTables nBuf tb) → BufTy
  | .hbm, ⟨0, _⟩ => ⟨S16x32x512, .bf16⟩
  | .hbm, ⟨1, _⟩ => ⟨S16x32x512, .bf16⟩
  | .hbm, ⟨2, _⟩ => ⟨S16x32x512, .bf16⟩
  | .hbm, ⟨3, _⟩ => ⟨S16x2048x4x128, .f32⟩
  | .hbm, ⟨4, _⟩ => ⟨S16x2048x4x128, .f32⟩
  | .hbm, ⟨5, _⟩ => ⟨S16x2048x512, .f32⟩
  | .hbm, ⟨6, _⟩ => ⟨S16x2048x512, .f32⟩
  | .hbm, ⟨7, _⟩ => ⟨S_, .bf16⟩
  | .hbm, ⟨8, _⟩ => ⟨S32x32, .bf16⟩
  | .hbm, ⟨9, _⟩ => ⟨S32x32, .i32⟩
  | .hbm, ⟨10, _⟩ => ⟨S_, .i32⟩
  | .hbm, ⟨11, _⟩ => ⟨S32x32, .i32⟩
  | .hbm, ⟨12, _⟩ => ⟨S32x32, .i32⟩
  | .hbm, ⟨13, _⟩ => ⟨S32x32, .i32⟩
  | .hbm, ⟨14, _⟩ => ⟨S32x32, .i1⟩
  | .hbm, ⟨15, _⟩ => ⟨S_, .bf16⟩
  | .hbm, ⟨16, _⟩ => ⟨S32x32, .bf16⟩
  | .hbm, ⟨17, _⟩ => ⟨S32x32, .bf16⟩
  | .hbm, ⟨18, _⟩ => ⟨S_, .bf16⟩
  | .hbm, ⟨19, _⟩ => ⟨S256x256, .bf16⟩
  | .hbm, ⟨20, _⟩ => ⟨S256x256, .i32⟩
  | .hbm, ⟨21, _⟩ => ⟨S_, .i32⟩
  | .hbm, ⟨22, _⟩ => ⟨S256x256, .i32⟩
  | .hbm, ⟨23, _⟩ => ⟨S256x256, .i32⟩
  | .hbm, ⟨24, _⟩ => ⟨S256x256, .i32⟩
  | .hbm, ⟨25, _⟩ => ⟨S256x256, .i1⟩
  | .hbm, ⟨26, _⟩ => ⟨S_, .bf16⟩
  | .hbm, ⟨27, _⟩ => ⟨S256x256, .bf16⟩
  | .hbm, ⟨28, _⟩ => ⟨S256x256, .bf16⟩
  | .hbm, ⟨29, _⟩ => ⟨S16x32x512, .bf16⟩
  | .local _ .vmem, ⟨0, _⟩ => ⟨S1x32x128, .bf16⟩
  | .local _ .vmem, ⟨1, _⟩ => ⟨S1x32x128, .bf16⟩
  | .local _ .vmem, ⟨2, _⟩ => ⟨S1x32x128, .bf16⟩
  | .local _ .vmem, ⟨3, _⟩ => ⟨S1x32x128, .bf16⟩
  | .local _ .vmem, ⟨4, _⟩ => ⟨S1x32x128, .bf16⟩
  | .local _ .vmem, ⟨5, _⟩ => ⟨S1x32x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S32x32, .bf16⟩
  | .local _ .vmem, ⟨11, _⟩ => ⟨S256x256, .bf16⟩
  | .local _ .vmem, ⟨12, _⟩ => ⟨S1x32x128, .bf16⟩
  | .local _ .vmem, ⟨13, _⟩ => ⟨S1x32x128, .bf16⟩
  | _, _ => ⟨S16x32x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_call1_v0 : Ref sig .tc := ⟨.hbm, 20, rfl⟩
abbrev main_call1_c : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_cst : Ref sig .tc := ⟨.hbm, 26, rfl⟩
abbrev main_call1_v5 : Ref sig .tc := ⟨.hbm, 27, rfl⟩
abbrev main_v5 : Ref sig .tc := ⟨.hbm, 28, rfl⟩
abbrev main_v6 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S32x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16x32x512 : Shape := ⟨3, ![16, 32, 512]⟩
abbrev S16x2048x4x128 : Shape := ⟨4, ![16, 2048, 4, 128]⟩
abbrev S16x32x4x128 : Shape := ⟨4, ![16, 32, 4, 128]⟩
abbrev S16x2080x4x128 : Shape := ⟨4, ![16, 2080, 4, 128]⟩
abbrev S32 : Shape := ⟨1, ![32]⟩
abbrev S_ : Shape := ⟨0, ![]⟩
abbrev S2080 : Shape := ⟨1, ![2080]⟩
abbrev S16x4x32x2080 : Shape := ⟨4, ![16, 4, 32, 2080]⟩
abbrev S1x2080 : Shape := ⟨2, ![1, 2080]⟩
abbrev S32x1 : Shape := ⟨2, ![32, 1]⟩
abbrev S32x2080 : Shape := ⟨2, ![32, 2080]⟩
abbrev S2080x1 : Shape := ⟨2, ![2080, 1]⟩
abbrev S2080x2080 : Shape := ⟨2, ![2080, 2080]⟩
abbrev S16x4x128x32 : Shape := ⟨4, ![16, 4, 128, 32]⟩

abbrev nBuf : Space → Nat
  | .hbm => 67
  | .vmem => 0
  | .smem => 0
  | _ => 0

abbrev bufTy : (tb : Table) → Fin (tcTables nBuf tb) → BufTy
  | .hbm, ⟨0, _⟩ => ⟨S16x32x512, .bf16⟩
  | .hbm, ⟨1, _⟩ => ⟨S16x32x512, .bf16⟩
  | .hbm, ⟨2, _⟩ => ⟨S16x32x512, .bf16⟩
  | .hbm, ⟨3, _⟩ => ⟨S16x2048x4x128, .f32⟩
  | .hbm, ⟨4, _⟩ => ⟨S16x2048x4x128, .f32⟩
  | .hbm, ⟨5, _⟩ => ⟨S16x32x512, .f32⟩
  | .hbm, ⟨6, _⟩ => ⟨S16x32x4x128, .f32⟩
  | .hbm, ⟨7, _⟩ => ⟨S16x32x512, .f32⟩
  | .hbm, ⟨8, _⟩ => ⟨S16x32x4x128, .f32⟩
  | .hbm, ⟨9, _⟩ => ⟨S16x2080x4x128, .f32⟩
  | .hbm, ⟨10, _⟩ => ⟨S16x32x512, .f32⟩
  | .hbm, ⟨11, _⟩ => ⟨S16x32x4x128, .f32⟩
  | .hbm, ⟨12, _⟩ => ⟨S16x2080x4x128, .f32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S2080, .i32⟩
  | .hbm, ⟨18, _⟩ => ⟨S16x4x32x2080, .f32⟩
  | .hbm, ⟨19, _⟩ => ⟨S_, .f32⟩
  | .hbm, ⟨20, _⟩ => ⟨S16x4x32x2080, .f32⟩
  | .hbm, ⟨21, _⟩ => ⟨S16x4x32x2080, .f32⟩
  | .hbm, ⟨22, _⟩ => ⟨S1x2080, .i32⟩
  | .hbm, ⟨23, _⟩ => ⟨S32x1, .i32⟩
  | .hbm, ⟨24, _⟩ => ⟨S32x2080, .i32⟩
  | .hbm, ⟨25, _⟩ => ⟨S32x2080, .i32⟩
  | .hbm, ⟨26, _⟩ => ⟨S32x2080, .i1⟩
  | .hbm, ⟨27, _⟩ => ⟨S16x4x32x2080, .f32⟩
  | .hbm, ⟨28, _⟩ => ⟨S16x4x32x2080, .f32⟩
  | .hbm, ⟨29, _⟩ => ⟨S_, .f32⟩
  | .hbm, ⟨30, _⟩ => ⟨S16x4x32x2080, .f32⟩
  | .hbm, ⟨31, _⟩ => ⟨S16x4x32x2080, .f32⟩
  | .hbm, ⟨32, _⟩ => ⟨S16x4x32x2080, .f32⟩
  | .hbm, ⟨33, _⟩ => ⟨S16x4x32x2080, .f32⟩
  | .hbm, ⟨34, _⟩ => ⟨S16x4x32x2080, .i1⟩
  | .hbm, ⟨35, _⟩ => ⟨S16x4x32x2080, .f32⟩
  | .hbm, ⟨36, _⟩ => ⟨S16x4x32x2080, .f32⟩
  | .hbm, ⟨37, _⟩ => ⟨S16x4x32x2080, .f32⟩
  | .hbm, ⟨38, _⟩ => ⟨S16x4x32x2080, .f32⟩
  | .hbm, ⟨39, _⟩ => ⟨S16x4x32x2080, .f32⟩
  | .hbm, ⟨40, _⟩ => ⟨S16x4x32x2080, .f32⟩
  | .hbm, ⟨41, _⟩ => ⟨S16x4x32x2080, .f32⟩
  | .hbm, ⟨42, _⟩ => ⟨S16x4x32x2080, .f32⟩
  | .hbm, ⟨43, _⟩ => ⟨S16x4x32x2080, .f32⟩
  | .hbm, ⟨44, _⟩ => ⟨S_, .f32⟩
  | .hbm, ⟨45, _⟩ => ⟨S_, .f32⟩
  | .hbm, ⟨46, _⟩ => ⟨S16x4x32x2080, .i1⟩
  | .hbm, ⟨47, _⟩ => ⟨S16x4x32x2080, .f32⟩
  | .hbm, ⟨48, _⟩ => ⟨S16x4x32x2080, .f32⟩
  | .hbm, ⟨49, _⟩ => ⟨S2080x1, .i32⟩
  | .hbm, ⟨50, _⟩ => ⟨S1x2080, .i32⟩
  | .hbm, ⟨51, _⟩ => ⟨S2080x2080, .i32⟩
  | .hbm, ⟨52, _⟩ => ⟨S2080x2080, .i32⟩
  | .hbm, ⟨53, _⟩ => ⟨S2080x2080, .i1⟩
  | .hbm, ⟨54, _⟩ => ⟨S2080x2080, .f32⟩
  | .hbm, ⟨55, _⟩ => ⟨S16x4x32x2080, .f32⟩
  | .hbm, ⟨56, _⟩ => ⟨S16x4x32x2080, .f32⟩
  | .hbm, ⟨57, _⟩ => ⟨S16x4x32x2080, .f32⟩
  | .hbm, ⟨58, _⟩ => ⟨S_, .f32⟩
  | .hbm, ⟨59, _⟩ => ⟨S_, .f32⟩
  | .hbm, ⟨60, _⟩ => ⟨S16x4x32x2080, .i1⟩
  | .hbm, ⟨61, _⟩ => ⟨S16x4x32x2080, .f32⟩
  | .hbm, ⟨62, _⟩ => ⟨S16x4x32x2080, .f32⟩
  | .hbm, ⟨63, _⟩ => ⟨S16x4x128x32, .f32⟩
  | .hbm, ⟨64, _⟩ => ⟨S16x32x4x128, .f32⟩
  | .hbm, ⟨65, _⟩ => ⟨S16x32x512, .f32⟩
  | .hbm, ⟨66, _⟩ => ⟨S16x32x512, .bf16⟩
  | _, _ => ⟨S16x32x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩
abbrev main_cst_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x1x1024 : Shape := ⟨3, ![2, 1, 1024]⟩
abbrev S1x1024 : Shape := ⟨2, ![1, 1024]⟩
abbrev S1024x2048 : Shape := ⟨2, ![1024, 2048]⟩
abbrev S2048x1024 : Shape := ⟨2, ![2048, 1024]⟩
abbrev S1x512x1024 : Shape := ⟨3, ![1, 512, 1024]⟩
abbrev S1x1x1024 : Shape := ⟨3, ![1, 1, 1024]⟩
abbrev S1x512 : Shape := ⟨2, ![1, 512]⟩
abbrev S1x512x1 : Shape := ⟨3, ![1, 512, 1]⟩
abbrev S512x1024 : Shape := ⟨2, ![512, 1024]⟩
abbrev S512x2048 : Shape := ⟨2, ![512, 2048]⟩

abbrev nBuf : Space → Nat
  | .hbm => 12
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1x1024, .f32⟩
  | .hbm, ⟨5, _⟩ => ⟨S1024x2048, .f32⟩
  | .hbm, ⟨6, _⟩ => ⟨S1024x2048, .f32⟩
  | .hbm, ⟨7, _⟩ => ⟨S2048x1024, .f32⟩
  | .hbm, ⟨8, _⟩ => ⟨S1024x2048, .bf16⟩
  | .hbm, ⟨9, _⟩ => ⟨S1024x2048, .bf16⟩
  | .hbm, ⟨10, _⟩ => ⟨S2048x1024, .bf16⟩
  | .hbm, ⟨11, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x2048, .bf16⟩
  | .local _ .vmem, ⟨10, _⟩ => ⟨S1024x2048, .bf16⟩
  | .local _ .vmem, ⟨11, _⟩ => ⟨S2048x1024, .bf16⟩
  | .local _ .vmem, ⟨12, _⟩ => ⟨S1x512x1024, .f32⟩
  | .local _ .vmem, ⟨13, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel3Ideal.lean ====
abbrev S2x16384x1024 : Shape := ⟨3, ![2, 16384, 1024]⟩
abbrev S2x1x1024 : Shape := ⟨3, ![2, 1, 1024]⟩
abbrev S1x1024 : Shape := ⟨2, ![1, 1024]⟩
abbrev S1024x2048 : Shape := ⟨2, ![1024, 2048]⟩
abbrev S2048x1024 : Shape := ⟨2, ![2048, 1024]⟩
abbrev S1x512x1024 : Shape := ⟨3, ![1, 512, 1024]⟩
abbrev S1x1x1024 : Shape := ⟨3, ![1, 1, 1024]⟩
abbrev S1x512 : Shape := ⟨2, ![1, 512]⟩
abbrev S1x512x1 : Shape := ⟨3, ![1, 512, 1]⟩
abbrev S512x1024 : Shape := ⟨2, ![512, 1024]⟩
abbrev S512x2048 : Shape := ⟨2, ![512, 2048]⟩

abbrev nBuf : Space → Nat
  | .hbm => 12
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1x1024, .f32⟩
  | .hbm, ⟨5, _⟩ => ⟨S1024x2048, .f32⟩
  | .hbm, ⟨6, _⟩ => ⟨S1024x2048, .f32⟩
  | .hbm, ⟨7, _⟩ => ⟨S2048x1024, .f32⟩
  | .hbm, ⟨8, _⟩ => ⟨S1024x2048, .bf16⟩
  | .hbm, ⟨9, _⟩ => ⟨S1024x2048, .bf16⟩
  | .hbm, ⟨10, _⟩ => ⟨S2048x1024, .bf16⟩
  | .hbm, ⟨11, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x2048, .bf16⟩
  | .local _ .vmem, ⟨10, _⟩ => ⟨S1024x2048, .bf16⟩
  | .local _ .vmem, ⟨11, _⟩ => ⟨S2048x1024, .bf16⟩
  | .local _ .vmem, ⟨12, _⟩ => ⟨S1x512x1024, .f32⟩
  | .local _ .vmem, ⟨13, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S2x16384x1024 : Shape := ⟨3, ![2, 16384, 1024]⟩
abbrev S2x1x1024 : Shape := ⟨3, ![2, 1, 1024]⟩
abbrev S1x1024 : Shape := ⟨2, ![1, 1024]⟩
abbrev S1024x2048 : Shape := ⟨2, ![1024, 2048]⟩
abbrev S2048x1024 : Shape := ⟨2, ![2048, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2048 : Shape := ⟨3, ![2, 16384, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1x1024, .f32⟩
  | .hbm, ⟨5, _⟩ => ⟨S1024x2048, .f32⟩
  | .hbm, ⟨6, _⟩ => ⟨S1024x2048, .f32⟩
  | .hbm, ⟨7, _⟩ => ⟨S2048x1024, .f32⟩
  | .hbm, ⟨8, _⟩ => ⟨S1024, .f32⟩
  | .hbm, ⟨9, _⟩ => ⟨S2x16384x1024, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x1024, .f32⟩
  | .hbm, ⟨21, _⟩ => ⟨S2x16384x1024, .f32⟩
  | .hbm, ⟨22, _⟩ => ⟨S1x1x1024, .f32⟩
  | .hbm, ⟨23, _⟩ => ⟨S2x16384x1024, .f32⟩
  | .hbm, ⟨24, _⟩ => ⟨S2x16384x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x16384x2048, .f32⟩
  | .hbm, ⟨36, _⟩ => ⟨S2x16384x2048, .f32⟩
  | .hbm, ⟨37, _⟩ => ⟨S2x16384x2048, .f32⟩
  | .hbm, ⟨38, _⟩ => ⟨S_, .f32⟩
  | .hbm, ⟨39, _⟩ => ⟨S2x16384x2048, .f32⟩
  | .hbm, ⟨40, _⟩ => ⟨S2x16384x2048, .f32⟩
  | .hbm, ⟨41, _⟩ => ⟨S_, .f32⟩
  | .hbm, ⟨42, _⟩ => ⟨S2x16384x2048, .f32⟩
  | .hbm, ⟨43, _⟩ => ⟨S2x16384x2048, .f32⟩
  | .hbm, ⟨44, _⟩ => ⟨S2x16384x2048, .f32⟩
  | .hbm, ⟨45, _⟩ => ⟨S2x16384x2048, .f32⟩
  | .hbm, ⟨46, _⟩ => ⟨S2x16384x2048, .f32⟩
  | .hbm, ⟨47, _⟩ => ⟨S2x16384x1024, .f32⟩
  | .hbm, ⟨48, _⟩ => ⟨S2x16384x1024, .f32⟩
  | .hbm, ⟨49, _⟩ => ⟨S2x16384x1024, .f32⟩
  | .hbm, ⟨50, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x16384x512 : Shape := ⟨3, ![2, 16384, 512]⟩
abbrev S2x1x1024 : Shape := ⟨3, ![2, 1, 1024]⟩
abbrev S3x1024x1024 : Shape := ⟨3, ![3, 1024, 1024]⟩
abbrev S3x1024 : Shape := ⟨2, ![3, 1024]⟩
abbrev S3x512x1024 : Shape := ⟨3, ![3, 512, 1024]⟩
abbrev S1024x1024 : Shape := ⟨2, ![1024, 1024]⟩
abbrev S3x1x1024 : Shape := ⟨3, ![3, 1, 1024]⟩
abbrev S1x512x1024 : Shape := ⟨3, ![1, 512, 1024]⟩
abbrev S1x512x512 : Shape := ⟨3, ![1, 512, 512]⟩
abbrev S1x1x1024 : Shape := ⟨3, ![1, 1, 1024]⟩
abbrev S512x1024 : Shape := ⟨2, ![512, 1024]⟩
abbrev S512x512 : Shape := ⟨2, ![512, 512]⟩
abbrev S1x1024x1024 : Shape := ⟨3, ![1, 1024, 1024]⟩
abbrev S1x1024 : Shape := ⟨2, ![1, 1024]⟩

abbrev nBuf : Space → Nat
  | .hbm => 15
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S2x16384x512, .bf16⟩
  | .hbm, ⟨3, _⟩ => ⟨S2x16384x512, .bf16⟩
  | .hbm, ⟨4, _⟩ => ⟨S2x16384x512, .bf16⟩
  | .hbm, ⟨5, _⟩ => ⟨S2x1x1024, .f32⟩
  | .hbm, ⟨6, _⟩ => ⟨S3x1024x1024, .f32⟩
  | .hbm, ⟨7, _⟩ => ⟨S3x1024, .f32⟩
  | .hbm, ⟨8, _⟩ => ⟨S3x512x1024, .f32⟩
  | .hbm, ⟨9, _⟩ => ⟨S1024x1024, .f32⟩
  | .hbm, ⟨10, _⟩ => ⟨S3x1024x1024, .bf16⟩
  | .hbm, ⟨11, _⟩ => ⟨S3x1x1024, .f32⟩
  | .hbm, ⟨12, _⟩ => ⟨S3x512x1024, .bf16⟩
  | .hbm, ⟨13, _⟩ => ⟨S1024x1024, .bf16⟩
  | .hbm, ⟨14, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x1x1024, .f32⟩
  | .local _ .vmem, ⟨11, _⟩ => ⟨S1x1x1024, .f32⟩
  | .local _ .vmem, ⟨12, _⟩ => ⟨S3x1024x1024, .bf16⟩
  | .local _ .vmem, ⟨13, _⟩ => ⟨S3x1x1024, .f32⟩
  | .local _ .vmem, ⟨14, _⟩ => ⟨S3x512x1024, .bf16⟩
  | .local _ .vmem, ⟨15, _⟩ => ⟨S1024x1024, .bf16⟩
  | .local _ .vmem, ⟨16, _⟩ => ⟨S1x512x1024, .f32⟩
  | .local _ .vmem, ⟨17, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S3x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel4Ideal.lean ====
abbrev S2x16384x1024 : Shape := ⟨3, ![2, 16384, 1024]⟩
abbrev S2x16384x512 : Shape := ⟨3, ![2, 16384, 512]⟩
abbrev S2x1x1024 : Shape := ⟨3, ![2, 1, 1024]⟩
abbrev S3x1024x1024 : Shape := ⟨3, ![3, 1024, 1024]⟩
abbrev S3x1024 : Shape := ⟨2, ![3, 1024]⟩
abbrev S3x512x1024 : Shape := ⟨3, ![3, 512, 1024]⟩
abbrev S1024x1024 : Shape := ⟨2, ![1024, 1024]⟩
abbrev S3x1x1024 : Shape := ⟨3, ![3, 1, 1024]⟩
abbrev S1x512x1024 : Shape := ⟨3, ![1, 512, 1024]⟩
abbrev S1x512x512 : Shape := ⟨3, ![1, 512, 512]⟩
abbrev S1x1x1024 : Shape := ⟨3, ![1, 1, 1024]⟩
abbrev S512x1024 : Shape := ⟨2, ![512, 1024]⟩
abbrev S512x512 : Shape := ⟨2, ![512, 512]⟩
abbrev S1x1024x1024 : Shape := ⟨3, ![1, 1024, 1024]⟩
abbrev S1x1024 : Shape := ⟨2, ![1, 1024]⟩

abbrev nBuf : Space → Nat
  | .hbm => 15
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S2x16384x512, .bf16⟩
  | .hbm, ⟨3, _⟩ => ⟨S2x16384x512, .bf16⟩
  | .hbm, ⟨4, _⟩ => ⟨S2x16384x512, .bf16⟩
  | .hbm, ⟨5, _⟩ => ⟨S2x1x1024, .f32⟩
  | .hbm, ⟨6, _⟩ => ⟨S3x1024x1024, .f32⟩
  | .hbm, ⟨7, _⟩ => ⟨S3x1024, .f32⟩
  | .hbm, ⟨8, _⟩ => ⟨S3x512x1024, .f32⟩
  | .hbm, ⟨9, _⟩ => ⟨S1024x1024, .f32⟩
  | .hbm, ⟨10, _⟩ => ⟨S3x1024x1024, .bf16⟩
  | .hbm, ⟨11, _⟩ => ⟨S3x1x1024, .f32⟩
  | .hbm, ⟨12, _⟩ => ⟨S3x512x1024, .bf16⟩
  | .hbm, ⟨13, _⟩ => ⟨S1024x1024, .bf16⟩
  | .hbm, ⟨14, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x1x1024, .f32⟩
  | .local _ .vmem, ⟨11, _⟩ => ⟨S1x1x1024, .f32⟩
  | .local _ .vmem, ⟨12, _⟩ => ⟨S3x1024x1024, .bf16⟩
  | .local _ .vmem, ⟨13, _⟩ => ⟨S3x1x1024, .f32⟩
  | .local _ .vmem, ⟨14, _⟩ => ⟨S3x512x1024, .bf16⟩
  | .local _ .vmem, ⟨15, _⟩ => ⟨S1024x1024, .bf16⟩
  | .local _ .vmem, ⟨16, _⟩ => ⟨S1x512x1024, .f32⟩
  | .local _ .vmem, ⟨17, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S3x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S2x16384x1024 : Shape := ⟨3, ![2, 16384, 1024]⟩
abbrev S2x16384x512 : Shape := ⟨3, ![2, 16384, 512]⟩
abbrev S2x1x1024 : Shape := ⟨3, ![2, 1, 1024]⟩
abbrev S3x1024x1024 : Shape := ⟨3, ![3, 1024, 1024]⟩
abbrev S3x1024 : Shape := ⟨2, ![3, 1024]⟩
abbrev S3x512x1024 : Shape := ⟨3, ![3, 512, 1024]⟩
abbrev S1024x1024 : Shape := ⟨2, ![1024, 1024]⟩
abbrev S1x1024x1024 : Shape := ⟨3, ![1, 1024, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S1x512x1024 : Shape := ⟨3, ![1, 512, 1024]⟩
abbrev S512x1024 : Shape := ⟨2, ![512, 1024]⟩

abbrev nBuf : Space → Nat
  | .hbm => 80
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S2x16384x512, .bf16⟩
  | .hbm, ⟨3, _⟩ => ⟨S2x16384x512, .bf16⟩
  | .hbm, ⟨4, _⟩ => ⟨S2x16384x512, .bf16⟩
  | .hbm, ⟨5, _⟩ => ⟨S2x1x1024, .f32⟩
  | .hbm, ⟨6, _⟩ => ⟨S3x1024x1024, .f32⟩
  | .hbm, ⟨7, _⟩ => ⟨S3x1024, .f32⟩
  | .hbm, ⟨8, _⟩ => ⟨S3x512x1024, .f32⟩
  | .hbm, ⟨9, _⟩ => ⟨S1024x1024, .f32⟩
  | .hbm, ⟨10, _⟩ => ⟨S2x16384x1024, .f32⟩
  | .hbm, ⟨11, _⟩ => ⟨S1x1024x1024, .f32⟩
  | .hbm, ⟨12, _⟩ => ⟨S1024x1024, .f32⟩
  | .hbm, ⟨13, _⟩ => ⟨S2x16384x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x1024, .f32⟩
  | .hbm, ⟨20, _⟩ => ⟨S2x16384x1024, .f32⟩
  | .hbm, ⟨21, _⟩ => ⟨S_, .f32⟩
  | .hbm, ⟨22, _⟩ => ⟨S2x16384x1024, .f32⟩
  | .hbm, ⟨23, _⟩ => ⟨S2x16384x1024, .f32⟩
  | .hbm, ⟨24, _⟩ => ⟨S_, .f32⟩
  | .hbm, ⟨25, _⟩ => ⟨S2x16384x1024, .f32⟩
  | .hbm, ⟨26, _⟩ => ⟨S2x16384x1024, .f32⟩
  | .hbm, ⟨27, _⟩ => ⟨S2x16384x512, .f32⟩
  | .hbm, ⟨28, _⟩ => ⟨S1x512x1024, .f32⟩
  | .hbm, ⟨29, _⟩ => ⟨S512x1024, .f32⟩
  | .hbm, ⟨30, _⟩ => ⟨S2x16384x1024, .f32⟩
  | .hbm, ⟨31, _⟩ => ⟨S2x16384x1024, .f32⟩
  | .hbm, ⟨32, _⟩ => ⟨S1x1024x1024, .f32⟩
  | .hbm, ⟨33, _⟩ => ⟨S1024x1024, .f32⟩
  | .hbm, ⟨34, _⟩ => ⟨S2x16384x1024, .f32⟩
  | .hbm, ⟨35, _⟩ => ⟨S1x1024, .f32⟩
  | .hbm, ⟨36, _⟩ => ⟨S1024, .f32⟩
  | .hbm, ⟨37, _⟩ => ⟨S1x1x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S_, .f32⟩
  | .hbm, ⟨43, _⟩ => ⟨S2x16384x1024, .f32⟩
  | .hbm, ⟨44, _⟩ => ⟨S2x16384x1024, .f32⟩
  | .hbm, ⟨45, _⟩ => ⟨S_, .f32⟩
  | .hbm, ⟨46, _⟩ => ⟨S2x16384x1024, .f32⟩
  | .hbm, ⟨47, _⟩ => ⟨S2x16384x1024, .f32⟩
  | .hbm, ⟨48, _⟩ => ⟨S2x16384x512, .f32⟩
  | .hbm, ⟨49, _⟩ => ⟨S1x512x1024, .f32⟩
  | .hbm, ⟨50, _⟩ => ⟨S512x1024, .f32⟩
  | .hbm, ⟨51, _⟩ => ⟨S2x16384x1024, .f32⟩
  | .hbm, ⟨52, _⟩ => ⟨S2x16384x1024, .f32⟩
  | .hbm, ⟨53, _⟩ => ⟨S2x16384x1024, .f32⟩
  | .hbm, ⟨54, _⟩ => ⟨S1x1024x1024, .f32⟩
  | .hbm, ⟨55, _⟩ => ⟨S1024x1024, .f32⟩
  | .hbm, ⟨56, _⟩ => ⟨S2x16384x1024, .f32⟩
  | .hbm, ⟨57, _⟩ => ⟨S1x1024, .f32⟩
  | .hbm, ⟨58, _⟩ => ⟨S1024, .f32⟩
  | .hbm, ⟨59, _⟩ => ⟨S1x1x1024, .f32⟩
  | .hbm, ⟨60, _⟩ => ⟨S2x16384x1024, .f32⟩
  | .hbm, ⟨61, _⟩ => ⟨S2x16384x1024, .f32⟩
  | .hbm, ⟨62, _⟩ => ⟨S2x16384x1024, .f32⟩
  | .hbm, ⟨63, _⟩ => ⟨S2x16384x1024, .f32⟩
  | .hbm, ⟨64, _⟩ => ⟨S_, .f32⟩
  | .hbm, ⟨65, _⟩ => ⟨S2x16384x1024, .f32⟩
  | .hbm, ⟨66, _⟩ => ⟨S2x16384x1024, .f32⟩
  | .hbm, ⟨67, _⟩ => ⟨S_, .f32⟩
  | .hbm, ⟨68, _⟩ => ⟨S2x16384x1024, .f32⟩
  | .hbm, ⟨69, _⟩ => ⟨S2x16384x1024, .f32⟩
  | .hbm, ⟨70, _⟩ => ⟨S2x16384x512, .f32⟩
  | .hbm, ⟨71, _⟩ => ⟨S1x512x1024, .f32⟩
  | .hbm, ⟨72, _⟩ => ⟨S512x1024, .f32⟩
  | .hbm, ⟨73, _⟩ => ⟨S2x16384x1024, .f32⟩
  | .hbm, ⟨74, _⟩ => ⟨S2x16384x1024, .f32⟩
  | .hbm, ⟨75, _⟩ => ⟨S2x16384x1024, .f32⟩
  | .hbm, ⟨76, _⟩ => ⟨S2x16384x1024, .f32⟩
  | .hbm, ⟨77, _⟩ => ⟨S2x16384x1024, .f32⟩
  | .hbm, ⟨78, _⟩ => ⟨S2x16384x1024, .f32⟩
  | .hbm, ⟨79, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_3 : Ref sig .tc := ⟨.hbm, 64, rfl⟩
abbrev main_v50 : Ref sig .tc := ⟨.hbm, 65, rfl⟩
abbrev main_v51 : Ref sig .tc := ⟨.hbm, 66, rfl⟩
abbrev main_cst_4 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Kernel5.lean ====
abbrev S2x16384x1024 : Shape := ⟨3, ![2, 16384, 1024]⟩
abbrev S2x1x1024 : Shape := ⟨3, ![2, 1, 1024]⟩
abbrev S1x1024 : Shape := ⟨2, ![1, 1024]⟩
abbrev S1024x5640 : Shape := ⟨2, ![1024, 5640]⟩
abbrev S128 : Shape := ⟨1, ![128]⟩
abbrev S1024x2048 : Shape := ⟨2, ![1024, 2048]⟩
abbrev S1024x3584 : Shape := ⟨2, ![1024, 3584]⟩
abbrev S1024x5632 : Shape := ⟨2, ![1024, 5632]⟩
abbrev S1024x8 : Shape := ⟨2, ![1024, 8]⟩
abbrev S8x1024 : Shape := ⟨2, ![8, 1024]⟩
abbrev S1x128 : Shape := ⟨2, ![1, 128]⟩
abbrev S2x16384x2048 : Shape := ⟨3, ![2, 16384, 2048]⟩
abbrev S2x16384x512 : Shape := ⟨3, ![2, 16384, 512]⟩
abbrev S2x16384x8 : Shape := ⟨3, ![2, 16384, 8]⟩
abbrev S2x8x16384 : Shape := ⟨3, ![2, 8, 16384]⟩
abbrev S1x512x1024 : Shape := ⟨3, ![1, 512, 1024]⟩
abbrev S1x1x1024 : Shape := ⟨3, ![1, 1, 1024]⟩
abbrev S1x512x2048 : Shape := ⟨3, ![1, 512, 2048]⟩
abbrev S1x512x512 : Shape := ⟨3, ![1, 512, 512]⟩
abbrev S1x512x8 : Shape := ⟨3, ![1, 512, 8]⟩
abbrev S1x8x512 : Shape := ⟨3, ![1, 8, 512]⟩
abbrev S1x512 : Shape := ⟨2, ![1, 512]⟩
abbrev S1x512x1 : Shape := ⟨3, ![1, 512, 1]⟩
abbrev S512x1024 : Shape := ⟨2, ![512, 1024]⟩
abbrev S512x2048 : Shape := ⟨2, ![512, 2048]⟩
abbrev S1024x128 : Shape := ⟨2, ![1024, 128]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S1024x512 : Shape := ⟨2, ![1024, 512]⟩
abbrev S512x512 : Shape := ⟨2, ![512, 512]⟩
abbrev S512x8 : Shape := ⟨2, ![512, 8]⟩
abbrev S8x512 : Shape := ⟨2, ![8, 512]⟩

abbrev nBuf : Space → Nat
  | .hbm => 26
  | .vmem => 32
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S1024x5640, .f32⟩
  | .hbm, ⟨5, _⟩ => ⟨S128, .f32⟩
  | .hbm, ⟨6, _⟩ => ⟨S128, .f32⟩
  | .hbm, ⟨7, _⟩ => ⟨S1024x2048, .f32⟩
  | .hbm, ⟨8, _⟩ => ⟨S1024x3584, .f32⟩
  | .hbm, ⟨9, _⟩ => ⟨S1024x5632, .f32⟩
  | .hbm, ⟨10, _⟩ => ⟨S1024x5632, .bf16⟩
  | .hbm, ⟨11, _⟩ => ⟨S1024x8, .f32⟩
  | .hbm, ⟨12, _⟩ => ⟨S1024x8, .bf16⟩
  | .hbm, ⟨13, _⟩ => ⟨S8x1024, .bf16⟩
  | .hbm, ⟨14, _⟩ => ⟨S1x128, .f32⟩
  | .hbm, ⟨15, _⟩ => ⟨S1x128, .f32⟩
  | .hbm, ⟨16, _⟩ => ⟨S2x16384x1024, .bf16⟩
  | .hbm, ⟨17, _⟩ => ⟨S2x16384x2048, .f32⟩
  | .hbm, ⟨18, _⟩ => ⟨S2x16384x2048, .f32⟩
  | .hbm, ⟨19, _⟩ => ⟨S2x16384x512, .bf16⟩
  | .hbm, ⟨20, _⟩ => ⟨S2x16384x512, .f32⟩
  | .hbm, ⟨21, _⟩ => ⟨S2x16384x512, .f32⟩
  | .hbm, ⟨22, _⟩ => ⟨S2x16384x512, .bf16⟩
  | .hbm, ⟨23, _⟩ => ⟨S2x16384x512, .bf16⟩
  | .hbm, ⟨24, _⟩ => ⟨S2x16384x8, .f32⟩
  | .hbm, ⟨25, _⟩ => ⟨S2x8x16384, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x5632, .bf16⟩
  | .local _ .vmem, ⟨8, _⟩ => ⟨S1024x8, .bf16⟩
  | .local _ .vmem, ⟨9, _⟩ => ⟨S8x1024, .bf16⟩
  | .local _ .vmem, ⟨10, _⟩ => ⟨S1x128, .f32⟩
  | .local _ .vmem, ⟨11, _⟩ => ⟨S1x128, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x2048, .f32⟩
  | .local _ .vmem, ⟨15, _⟩ => ⟨S1x512x2048, .f32⟩
  | .local _ .vmem, ⟨16, _⟩ => ⟨S1x512x2048, .f32⟩
  | .local _ .vmem, ⟨17, _⟩ => ⟨S1x512x2048, .f32⟩
  | .local _ .vmem, ⟨18, _⟩ => ⟨S1x512x512, .bf16⟩
  | .local _ .vmem, ⟨19, _⟩ => ⟨S1x512x512, .bf16⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x8, .f32⟩
  | .local _ .vmem, ⟨29, _⟩ => ⟨S1x512x8, .f32⟩
  | .local _ .vmem, ⟨30, _⟩ => ⟨S1x8x512, .f32⟩
  | .local _ .vmem, ⟨31, _⟩ => ⟨S1x8x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev main_v9_7 : Ref sig .tc := ⟨.hbm, 23, rfl⟩
abbrev main_v9_8 : Ref sig .tc := ⟨.hbm, 24, rfl⟩
abbrev main_v9_9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x8 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Kernel5Ideal.lean ====
abbrev S2x16384x1024 : Shape := ⟨3, ![2, 16384, 1024]⟩
abbrev S2x1x1024 : Shape := ⟨3, ![2, 1, 1024]⟩
abbrev S1x1024 : Shape := ⟨2, ![1, 1024]⟩
abbrev S1024x5640 : Shape := ⟨2, ![1024, 5640]⟩
abbrev S128 : Shape := ⟨1, ![128]⟩
abbrev S1024x2048 : Shape := ⟨2, ![1024, 2048]⟩
abbrev S1024x3584 : Shape := ⟨2, ![1024, 3584]⟩
abbrev S1024x5632 : Shape := ⟨2, ![1024, 5632]⟩
abbrev S1024x8 : Shape := ⟨2, ![1024, 8]⟩
abbrev S8x1024 : Shape := ⟨2, ![8, 1024]⟩
abbrev S1x128 : Shape := ⟨2, ![1, 128]⟩
abbrev S2x16384x2048 : Shape := ⟨3, ![2, 16384, 2048]⟩
abbrev S2x16384x512 : Shape := ⟨3, ![2, 16384, 512]⟩
abbrev S2x16384x8 : Shape := ⟨3, ![2, 16384, 8]⟩
abbrev S2x8x16384 : Shape := ⟨3, ![2, 8, 16384]⟩
abbrev S1x512x1024 : Shape := ⟨3, ![1, 512, 1024]⟩
abbrev S1x1x1024 : Shape := ⟨3, ![1, 1, 1024]⟩
abbrev S1x512x2048 : Shape := ⟨3, ![1, 512, 2048]⟩
abbrev S1x512x512 : Shape := ⟨3, ![1, 512, 512]⟩
abbrev S1x512x8 : Shape := ⟨3, ![1, 512, 8]⟩
abbrev S1x8x512 : Shape := ⟨3, ![1, 8, 512]⟩
abbrev S1x512 : Shape := ⟨2, ![1, 512]⟩
abbrev S1x512x1 : Shape := ⟨3, ![1, 512, 1]⟩
abbrev S512x1024 : Shape := ⟨2, ![512, 1024]⟩
abbrev S512x2048 : Shape := ⟨2, ![512, 2048]⟩
abbrev S1024x128 : Shape := ⟨2, ![1024, 128]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S1024x512 : Shape := ⟨2, ![1024, 512]⟩
abbrev S512x512 : Shape := ⟨2, ![512, 512]⟩
abbrev S512x8 : Shape := ⟨2, ![512, 8]⟩
abbrev S8x512 : Shape := ⟨2, ![8, 512]⟩

abbrev nBuf : Space → Nat
  | .hbm => 26
  | .vmem => 32
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S1024x5640, .f32⟩
  | .hbm, ⟨5, _⟩ => ⟨S128, .f32⟩
  | .hbm, ⟨6, _⟩ => ⟨S128, .f32⟩
  | .hbm, ⟨7, _⟩ => ⟨S1024x2048, .f32⟩
  | .hbm, ⟨8, _⟩ => ⟨S1024x3584, .f32⟩
  | .hbm, ⟨9, _⟩ => ⟨S1024x5632, .f32⟩
  | .hbm, ⟨10, _⟩ => ⟨S1024x5632, .bf16⟩
  | .hbm, ⟨11, _⟩ => ⟨S1024x8, .f32⟩
  | .hbm, ⟨12, _⟩ => ⟨S1024x8, .bf16⟩
  | .hbm, ⟨13, _⟩ => ⟨S8x1024, .bf16⟩
  | .hbm, ⟨14, _⟩ => ⟨S1x128, .f32⟩
  | .hbm, ⟨15, _⟩ => ⟨S1x128, .f32⟩
  | .hbm, ⟨16, _⟩ => ⟨S2x16384x1024, .bf16⟩
  | .hbm, ⟨17, _⟩ => ⟨S2x16384x2048, .f32⟩
  | .hbm, ⟨18, _⟩ => ⟨S2x16384x2048, .f32⟩
  | .hbm, ⟨19, _⟩ => ⟨S2x16384x512, .bf16⟩
  | .hbm, ⟨20, _⟩ => ⟨S2x16384x512, .f32⟩
  | .hbm, ⟨21, _⟩ => ⟨S2x16384x512, .f32⟩
  | .hbm, ⟨22, _⟩ => ⟨S2x16384x512, .bf16⟩
  | .hbm, ⟨23, _⟩ => ⟨S2x16384x512, .bf16⟩
  | .hbm, ⟨24, _⟩ => ⟨S2x16384x8, .f32⟩
  | .hbm, ⟨25, _⟩ => ⟨S2x8x16384, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x5632, .bf16⟩
  | .local _ .vmem, ⟨8, _⟩ => ⟨S1024x8, .bf16⟩
  | .local _ .vmem, ⟨9, _⟩ => ⟨S8x1024, .bf16⟩
  | .local _ .vmem, ⟨10, _⟩ => ⟨S1x128, .f32⟩
  | .local _ .vmem, ⟨11, _⟩ => ⟨S1x128, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x2048, .f32⟩
  | .local _ .vmem, ⟨15, _⟩ => ⟨S1x512x2048, .f32⟩
  | .local _ .vmem, ⟨16, _⟩ => ⟨S1x512x2048, .f32⟩
  | .local _ .vmem, ⟨17, _⟩ => ⟨S1x512x2048, .f32⟩
  | .local _ .vmem, ⟨18, _⟩ => ⟨S1x512x512, .bf16⟩
  | .local _ .vmem, ⟨19, _⟩ => ⟨S1x512x512, .bf16⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x8, .f32⟩
  | .local _ .vmem, ⟨29, _⟩ => ⟨S1x512x8, .f32⟩
  | .local _ .vmem, ⟨30, _⟩ => ⟨S1x8x512, .f32⟩
  | .local _ .vmem, ⟨31, _⟩ => ⟨S1x8x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev main_v9_7 : Ref sig .tc := ⟨.hbm, 23, rfl⟩
abbrev main_v9_8 : Ref sig .tc := ⟨.hbm, 24, rfl⟩
abbrev main_v9_9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x8 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference5Ideal.lean ====
abbrev S2x16384x1024 : Shape := ⟨3, ![2, 16384, 1024]⟩
abbrev S2x1x1024 : Shape := ⟨3, ![2, 1, 1024]⟩
abbrev S1x1024 : Shape := ⟨2, ![1, 1024]⟩
abbrev S1024x5640 : Shape := ⟨2, ![1024, 5640]⟩
abbrev S128 : Shape := ⟨1, ![128]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5640 : Shape := ⟨3, ![2, 16384, 5640]⟩
abbrev S2x16384x512 : Shape := ⟨3, ![2, 16384, 512]⟩
abbrev S2x16384x4x128 : Shape := ⟨4, ![2, 16384, 4, 128]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S2x16384x8 : Shape := ⟨3, ![2, 16384, 8]⟩
abbrev S2x16384x2048 : Shape := ⟨3, ![2, 16384, 2048]⟩
abbrev S2x8x16384 : Shape := ⟨3, ![2, 8, 16384]⟩

abbrev nBuf : Space → Nat
  | .hbm => 79
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S1024x5640, .f32⟩
  | .hbm, ⟨5, _⟩ => ⟨S128, .f32⟩
  | .hbm, ⟨6, _⟩ => ⟨S128, .f32⟩
  | .hbm, ⟨7, _⟩ => ⟨S1024, .f32⟩
  | .hbm, ⟨8, _⟩ => ⟨S2x16384x1024, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x1024, .f32⟩
  | .hbm, ⟨20, _⟩ => ⟨S2x16384x1024, .f32⟩
  | .hbm, ⟨21, _⟩ => ⟨S1x1x1024, .f32⟩
  | .hbm, ⟨22, _⟩ => ⟨S2x16384x1024, .f32⟩
  | .hbm, ⟨23, _⟩ => ⟨S2x16384x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S2x16384x5640, .f32⟩
  | .hbm, ⟨32, _⟩ => ⟨S2x16384x512, .f32⟩
  | .hbm, ⟨33, _⟩ => ⟨S2x16384x4x128, .f32⟩
  | .hbm, ⟨34, _⟩ => ⟨S2x16384x4x128, .f32⟩
  | .hbm, ⟨35, _⟩ => ⟨S_, .f32⟩
  | .hbm, ⟨36, _⟩ => ⟨S2x16384x4, .f32⟩
  | .hbm, ⟨37, _⟩ => ⟨S2x16384x4x1, .f32⟩
  | .hbm, ⟨38, _⟩ => ⟨S_, .f32⟩
  | .hbm, ⟨39, _⟩ => ⟨S2x16384x4x1, .f32⟩
  | .hbm, ⟨40, _⟩ => ⟨S2x16384x4x1, .f32⟩
  | .hbm, ⟨41, _⟩ => ⟨S_, .f32⟩
  | .hbm, ⟨42, _⟩ => ⟨S2x16384x4x1, .f32⟩
  | .hbm, ⟨43, _⟩ => ⟨S2x16384x4x1, .f32⟩
  | .hbm, ⟨44, _⟩ => ⟨S2x16384x4x1, .f32⟩
  | .hbm, ⟨45, _⟩ => ⟨S2x16384x4x128, .f32⟩
  | .hbm, ⟨46, _⟩ => ⟨S2x16384x4x128, .f32⟩
  | .hbm, ⟨47, _⟩ => ⟨S1x1x1x128, .f32⟩
  | .hbm, ⟨48, _⟩ => ⟨S2x16384x4x128, .f32⟩
  | .hbm, ⟨49, _⟩ => ⟨S2x16384x4x128, .f32⟩
  | .hbm, ⟨50, _⟩ => ⟨S2x16384x512, .f32⟩
  | .hbm, ⟨51, _⟩ => ⟨S2x16384x512, .f32⟩
  | .hbm, ⟨52, _⟩ => ⟨S2x16384x4x128, .f32⟩
  | .hbm, ⟨53, _⟩ => ⟨S2x16384x4x128, .f32⟩
  | .hbm, ⟨54, _⟩ => ⟨S_, .f32⟩
  | .hbm, ⟨55, _⟩ => ⟨S2x16384x4, .f32⟩
  | .hbm, ⟨56, _⟩ => ⟨S2x16384x4x1, .f32⟩
  | .hbm, ⟨57, _⟩ => ⟨S_, .f32⟩
  | .hbm, ⟨58, _⟩ => ⟨S2x16384x4x1, .f32⟩
  | .hbm, ⟨59, _⟩ => ⟨S2x16384x4x1, .f32⟩
  | .hbm, ⟨60, _⟩ => ⟨S_, .f32⟩
  | .hbm, ⟨61, _⟩ => ⟨S2x16384x4x1, .f32⟩
  | .hbm, ⟨62, _⟩ => ⟨S2x16384x4x1, .f32⟩
  | .hbm, ⟨63, _⟩ => ⟨S2x16384x4x1, .f32⟩
  | .hbm, ⟨64, _⟩ => ⟨S2x16384x4x128, .f32⟩
  | .hbm, ⟨65, _⟩ => ⟨S2x16384x4x128, .f32⟩
  | .hbm, ⟨66, _⟩ => ⟨S1x1x1x128, .f32⟩
  | .hbm, ⟨67, _⟩ => ⟨S2x16384x4x128, .f32⟩
  | .hbm, ⟨68, _⟩ => ⟨S2x16384x4x128, .f32⟩
  | .hbm, ⟨69, _⟩ => ⟨S2x16384x512, .f32⟩
  | .hbm, ⟨70, _⟩ => ⟨S2x16384x512, .f32⟩
  | .hbm, ⟨71, _⟩ => ⟨S2x16384x8, .f32⟩
  | .hbm, ⟨72, _⟩ => ⟨S2x16384x1024, .bf16⟩
  | .hbm, ⟨73, _⟩ => ⟨S2x16384x2048, .f32⟩
  | .hbm, ⟨74, _⟩ => ⟨S2x16384x2048, .f32⟩
  | .hbm, ⟨75, _⟩ => ⟨S2x16384x512, .bf16⟩
  | .hbm, ⟨76, _⟩ => ⟨S2x16384x512, .bf16⟩
  | .hbm, ⟨77, _⟩ => ⟨S2x16384x512, .bf16⟩
  | .hbm, ⟨78, _⟩ => ⟨S2x8x16384, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== Kernel6.lean ====
abbrev S16x32x1024 : Shape := ⟨3, ![16, 32, 1024]⟩
abbrev S16x1x1024 : Shape := ⟨3, ![16, 1, 1024]⟩
abbrev S1x1024 : Shape := ⟨2, ![1, 1024]⟩
abbrev S1024x2048 : Shape := ⟨2, ![1024, 2048]⟩
abbrev S2048x1024 : Shape := ⟨2, ![2048, 1024]⟩
abbrev S8x32x1024 : Shape := ⟨3, ![8, 32, 1024]⟩
abbrev S8x1x1024 : Shape := ⟨3, ![8, 1, 1024]⟩
abbrev S8x32 : Shape := ⟨2, ![8, 32]⟩
abbrev S8x32x1 : Shape := ⟨3, ![8, 32, 1]⟩
abbrev S1x1x1024 : Shape := ⟨3, ![1, 1, 1024]⟩
abbrev S256x1024 : Shape := ⟨2, ![256, 1024]⟩
abbrev S256x2048 : Shape := ⟨2, ![256, 2048]⟩

abbrev nBuf : Space → Nat
  | .hbm => 12
  | .vmem => 14
  | .smem => 0
  | _ => 0

abbrev bufTy : (tb : Table) → Fin (tcTables nBuf tb) → BufTy
  | .hbm, ⟨0, _⟩ => ⟨S16x32x1024, .f32⟩
  | .hbm, ⟨1, _⟩ => ⟨S16x1x1024, .f32⟩
  | .hbm, ⟨2, _⟩ => ⟨S16x1x1024, .f32⟩
  | .hbm, ⟨3, _⟩ => ⟨S16x1x1024, .f32⟩
  | .hbm, ⟨4, _⟩ => ⟨S1x1024, .f32⟩
  | .hbm, ⟨5, _⟩ => ⟨S1024x2048, .f32⟩
  | .hbm, ⟨6, _⟩ => ⟨S1024x2048, .f32⟩
  | .hbm, ⟨7, _⟩ => ⟨S2048x1024, .f32⟩
  | .hbm, ⟨8, _⟩ => ⟨S1024x2048, .bf16⟩
  | .hbm, ⟨9, _⟩ => ⟨S1024x2048, .bf16⟩
  | .hbm, ⟨10, _⟩ => ⟨S2048x1024, .bf16⟩
  | .hbm, ⟨11, _⟩ => ⟨S16x32x1024, .f32⟩
  | .local _ .vmem, ⟨0, _⟩ => ⟨S8x32x1024, .f32⟩
  | .local _ .vmem, ⟨1, _⟩ => ⟨S8x32x1024, .f32⟩
  | .local _ .vmem, ⟨2, _⟩ => ⟨S8x1x1024, .f32⟩
  | .local _ .vmem, ⟨3, _⟩ => ⟨S8x1x1024, .f32⟩
  | .local _ .vmem, ⟨4, _⟩ => ⟨S8x1x1024, .f32⟩
  | .local _ .vmem, ⟨5, _⟩ => ⟨S8x1x1024, .f32⟩
  | .local _ .vmem, ⟨6, _⟩ => ⟨S8x1x1024, .f32⟩
  | .local _ .vmem, ⟨7, _⟩ => ⟨S8x1x1024, .f32⟩
  | .local _ .vmem, ⟨8, _⟩ => ⟨S1x1024, .f32⟩
  | .local _ .vmem, ⟨9, _⟩ => ⟨S1024x2048, .bf16⟩
  | .local _ .vmem, ⟨10, _⟩ => ⟨S1024x2048, .bf16⟩
  | .local _ .vmem, ⟨11, _⟩ => ⟨S2048x1024, .bf16⟩
  | .local _ .vmem, ⟨12, _⟩ => ⟨S8x32x1024, .f32⟩
  | .local _ .vmem, ⟨13, _⟩ => ⟨S8x32x1024, .f32⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S16x32x1024 : Shape := ⟨3, ![16, 32, 1024]⟩
abbrev S16x1x1024 : Shape := ⟨3, ![16, 1, 1024]⟩
abbrev S1x1024 : Shape := ⟨2, ![1, 1024]⟩
abbrev S1024x2048 : Shape := ⟨2, ![1024, 2048]⟩
abbrev S2048x1024 : Shape := ⟨2, ![2048, 1024]⟩
abbrev S1024 : Shape := ⟨1, ![1024]⟩
abbrev S_ : Shape := ⟨0, ![]⟩
abbrev S16x32 : Shape := ⟨2, ![16, 32]⟩
abbrev S16x32x1 : Shape := ⟨3, ![16, 32, 1]⟩
abbrev S1x1x1024 : Shape := ⟨3, ![1, 1, 1024]⟩
abbrev S16x32x2048 : Shape := ⟨3, ![16, 32, 2048]⟩

abbrev nBuf : Space → Nat
  | .hbm => 51
  | .vmem => 0
  | .smem => 0
  | _ => 0

abbrev bufTy : (tb : Table) → Fin (tcTables nBuf tb) → BufTy
  | .hbm, ⟨0, _⟩ => ⟨S16x32x1024, .f32⟩
  | .hbm, ⟨1, _⟩ => ⟨S16x1x1024, .f32⟩
  | .hbm, ⟨2, _⟩ => ⟨S16x1x1024, .f32⟩
  | .hbm, ⟨3, _⟩ => ⟨S16x1x1024, .f32⟩
  | .hbm, ⟨4, _⟩ => ⟨S1x1024, .f32⟩
  | .hbm, ⟨5, _⟩ => ⟨S1024x2048, .f32⟩
  | .hbm, ⟨6, _⟩ => ⟨S1024x2048, .f32⟩
  | .hbm, ⟨7, _⟩ => ⟨S2048x1024, .f32⟩
  | .hbm, ⟨8, _⟩ => ⟨S1024, .f32⟩
  | .hbm, ⟨9, _⟩ => ⟨S16x32x1024, .f32⟩
  | .hbm, ⟨10, _⟩ => ⟨S_, .f32⟩
  | .hbm, ⟨11, _⟩ => ⟨S16x32, .f32⟩
  | .hbm, ⟨12, _⟩ => ⟨S16x32x1, .f32⟩
  | .hbm, ⟨13, _⟩ => ⟨S_, .f32⟩
  | .hbm, ⟨14, _⟩ => ⟨S16x32x1, .f32⟩
  | .hbm, ⟨15, _⟩ => ⟨S16x32x1, .f32⟩
  | .hbm, ⟨16, _⟩ => ⟨S_, .f32⟩
  | .hbm, ⟨17, _⟩ => ⟨S16x32x1, .f32⟩
  | .hbm, ⟨18, _⟩ => ⟨S16x32x1, .f32⟩
  | .hbm, ⟨19, _⟩ => ⟨S16x32x1, .f32⟩
  | .hbm, ⟨20, _⟩ => ⟨S16x32x1024, .f32⟩
  | .hbm, ⟨21, _⟩ => ⟨S16x32x1024, .f32⟩
  | .hbm, ⟨22, _⟩ => ⟨S1x1x1024, .f32⟩
  | .hbm, ⟨23, _⟩ => ⟨S16x32x1024, .f32⟩
  | .hbm, ⟨24, _⟩ => ⟨S16x32x1024, .f32⟩
  | .hbm, ⟨25, _⟩ => ⟨S_, .f32⟩
  | .hbm, ⟨26, _⟩ => ⟨S16x1x1024, .f32⟩
  | .hbm, ⟨27, _⟩ => ⟨S16x1x1024, .f32⟩
  | .hbm, ⟨28, _⟩ => ⟨S16x32x1024, .f32⟩
  | .hbm, ⟨29, _⟩ => ⟨S16x32x1024, .f32⟩
  | .hbm, ⟨30, _⟩ => ⟨S16x32x1024, .f32⟩
  | .hbm, ⟨31, _⟩ => ⟨S16x32x1024, .f32⟩
  | .hbm, ⟨32, _⟩ => ⟨S_, .f32⟩
  | .hbm, ⟨33, _⟩ => ⟨S16x1x1024, .f32⟩
  | .hbm, ⟨34, _⟩ => ⟨S16x1x1024, .f32⟩
  | .hbm, ⟨35, _⟩ => ⟨S16x32x2048, .f32⟩
  | .hbm, ⟨36, _⟩ => ⟨S16x32x2048, .f32⟩
  | .hbm, ⟨37, _⟩ => ⟨S16x32x2048, .f32⟩
  | .hbm, ⟨38, _⟩ => ⟨S_, .f32⟩
  | .hbm, ⟨39, _⟩ => ⟨S16x32x2048, .f32⟩
  | .hbm, ⟨40, _⟩ => ⟨S16x32x2048, .f32⟩
  | .hbm, ⟨41, _⟩ => ⟨S_, .f32⟩
  | .hbm, ⟨42, _⟩ => ⟨S16x32x2048, .f32⟩
  | .hbm, ⟨43, _⟩ => ⟨S16x32x2048, .f32⟩
  | .hbm, ⟨44, _⟩ => ⟨S16x32x2048, .f32⟩
  | .hbm, ⟨45, _⟩ => ⟨S16x32x2048, .f32⟩
  | .hbm, ⟨46, _⟩ => ⟨S16x32x2048, .f32⟩
  | .hbm, ⟨47, _⟩ => ⟨S16x32x1024, .f32⟩
  | .hbm, ⟨48, _⟩ => ⟨S16x32x1024, .f32⟩
  | .hbm, ⟨49, _⟩ => ⟨S16x32x1024, .f32⟩
  | .hbm, ⟨50, _⟩ => ⟨S16x32x1024, .f32⟩
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩

abbrev nD : Nat := 1
abbrev τ : Topo := Topo.v7x

variable {F : FTy → Type} [FloatOps F]
-- ==== Kernel7.lean ====
abbrev S16x32x1024 : Shape := ⟨3, ![16, 32, 1024]⟩
abbrev S16x32x512 : Shape := ⟨3, ![16, 32, 512]⟩
abbrev S16x1x1024 : Shape := ⟨3, ![16, 1, 1024]⟩
abbrev S3x1024x1024 : Shape := ⟨3, ![3, 1024, 1024]⟩
abbrev S3x1024 : Shape := ⟨2, ![3, 1024]⟩
abbrev S3x512x1024 : Shape := ⟨3, ![3, 512, 1024]⟩
abbrev S1024x1024 : Shape := ⟨2, ![1024, 1024]⟩
abbrev S3x1x1024 : Shape := ⟨3, ![3, 1, 1024]⟩
abbrev S8x32x1024 : Shape := ⟨3, ![8, 32, 1024]⟩
abbrev S8x32x512 : Shape := ⟨3, ![8, 32, 512]⟩
abbrev S8x1x1024 : Shape := ⟨3, ![8, 1, 1024]⟩
abbrev S256x1024 : Shape := ⟨2, ![256, 1024]⟩
abbrev S256x512 : Shape := ⟨2, ![256, 512]⟩
abbrev S1x1024x1024 : Shape := ⟨3, ![1, 1024, 1024]⟩
abbrev S1x1x1024 : Shape := ⟨3, ![1, 1, 1024]⟩
abbrev S1x1024 : Shape := ⟨2, ![1, 1024]⟩
abbrev S1x512x1024 : Shape := ⟨3, ![1, 512, 1024]⟩
abbrev S512x1024 : Shape := ⟨2, ![512, 1024]⟩

abbrev nBuf : Space → Nat
  | .hbm => 15
  | .vmem => 18
  | .smem => 0
  | _ => 0

abbrev bufTy : (tb : Table) → Fin (tcTables nBuf tb) → BufTy
  | .hbm, ⟨0, _⟩ => ⟨S16x32x1024, .f32⟩
  | .hbm, ⟨1, _⟩ => ⟨S16x32x1024, .bf16⟩
  | .hbm, ⟨2, _⟩ => ⟨S16x32x512, .bf16⟩
  | .hbm, ⟨3, _⟩ => ⟨S16x32x512, .bf16⟩
  | .hbm, ⟨4, _⟩ => ⟨S16x32x512, .bf16⟩
  | .hbm, ⟨5, _⟩ => ⟨S16x1x1024, .f32⟩
  | .hbm, ⟨6, _⟩ => ⟨S3x1024x1024, .f32⟩
  | .hbm, ⟨7, _⟩ => ⟨S3x1024, .f32⟩
  | .hbm, ⟨8, _⟩ => ⟨S3x512x1024, .f32⟩
  | .hbm, ⟨9, _⟩ => ⟨S1024x1024, .f32⟩
  | .hbm, ⟨10, _⟩ => ⟨S3x1024x1024, .bf16⟩
  | .hbm, ⟨11, _⟩ => ⟨S3x1x1024, .f32⟩
  | .hbm, ⟨12, _⟩ => ⟨S3x512x1024, .bf16⟩
  | .hbm, ⟨13, _⟩ => ⟨S1024x1024, .bf16⟩
  | .hbm, ⟨14, _⟩ => ⟨S16x32x1024, .f32⟩
  | .local _ .vmem, ⟨0, _⟩ => ⟨S8x32x1024, .f32⟩
  | .local _ .vmem, ⟨1, _⟩ => ⟨S8x32x1024, .f32⟩
  | .local _ .vmem, ⟨2, _⟩ => ⟨S8x32x1024, .bf16⟩
  | .local _ .vmem, ⟨3, _⟩ => ⟨S8x32x1024, .bf16⟩
  | .local _ .vmem, ⟨4, _⟩ => ⟨S8x32x512, .bf16⟩
  | .local _ .vmem, ⟨5, _⟩ => ⟨S8x32x512, .bf16⟩
  | .local _ .vmem, ⟨6, _⟩ => ⟨S8x32x512, .bf16⟩
  | .local _ .vmem, ⟨7, _⟩ => ⟨S8x32x512, .bf16⟩
  | .local _ .vmem, ⟨8, _⟩ => ⟨S8x32x512, .bf16⟩
  | .local _ .vmem, ⟨9, _⟩ => ⟨S8x32x512, .bf16⟩
  | .local _ .vmem, ⟨10, _⟩ => ⟨S8x1x1024, .f32⟩
  | .local _ .vmem, ⟨11, _⟩ => ⟨S8x1x1024, .f32⟩
  | .local _ .vmem, ⟨12, _⟩ => ⟨S3x1024x1024, .bf16⟩
  | .local _ .vmem, ⟨13, _⟩ => ⟨S3x1x1024, .f32⟩
  | .local _ .vmem, ⟨14, _⟩ => ⟨S3x512x1024, .bf16⟩
  | .local _ .vmem, ⟨15, _⟩ => ⟨S1024x1024, .bf16⟩
  | .local _ .vmem, ⟨16, _⟩ => ⟨S8x32x1024, .f32⟩
  | .local _ .vmem, ⟨17, _⟩ => ⟨S8x32x1024, .f32⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S3x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S8x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference7Ideal.lean ====
abbrev S16x32x1024 : Shape := ⟨3, ![16, 32, 1024]⟩
abbrev S16x32x512 : Shape := ⟨3, ![16, 32, 512]⟩
abbrev S16x1x1024 : Shape := ⟨3, ![16, 1, 1024]⟩
abbrev S3x1024x1024 : Shape := ⟨3, ![3, 1024, 1024]⟩
abbrev S3x1024 : Shape := ⟨2, ![3, 1024]⟩
abbrev S3x512x1024 : Shape := ⟨3, ![3, 512, 1024]⟩
abbrev S1024x1024 : Shape := ⟨2, ![1024, 1024]⟩
abbrev S1x1024x1024 : Shape := ⟨3, ![1, 1024, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S1x512x1024 : Shape := ⟨3, ![1, 512, 1024]⟩
abbrev S512x1024 : Shape := ⟨2, ![512, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16x32x1024, .f32⟩
  | .hbm, ⟨1, _⟩ => ⟨S16x32x1024, .bf16⟩
  | .hbm, ⟨2, _⟩ => ⟨S16x32x512, .bf16⟩
  | .hbm, ⟨3, _⟩ => ⟨S16x32x512, .bf16⟩
  | .hbm, ⟨4, _⟩ => ⟨S16x32x512, .bf16⟩
  | .hbm, ⟨5, _⟩ => ⟨S16x1x1024, .f32⟩
  | .hbm, ⟨6, _⟩ => ⟨S3x1024x1024, .f32⟩
  | .hbm, ⟨7, _⟩ => ⟨S3x1024, .f32⟩
  | .hbm, ⟨8, _⟩ => ⟨S3x512x1024, .f32⟩
  | .hbm, ⟨9, _⟩ => ⟨S1024x1024, .f32⟩
  | .hbm, ⟨10, _⟩ => ⟨S16x32x1024, .f32⟩
  | .hbm, ⟨11, _⟩ => ⟨S1x1024x1024, .f32⟩
  | .hbm, ⟨12, _⟩ => ⟨S1024x1024, .f32⟩
  | .hbm, ⟨13, _⟩ => ⟨S16x32x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S16x32x1024, .f32⟩
  | .hbm, ⟨18, _⟩ => ⟨S16x32x1024, .f32⟩
  | .hbm, ⟨19, _⟩ => ⟨S16x32x1024, .f32⟩
  | .hbm, ⟨20, _⟩ => ⟨S16x32x1024, .f32⟩
  | .hbm, ⟨21, _⟩ => ⟨S_, .f32⟩
  | .hbm, ⟨22, _⟩ => ⟨S16x32x1024, .f32⟩
  | .hbm, ⟨23, _⟩ => ⟨S16x32x1024, .f32⟩
  | .hbm, ⟨24, _⟩ => ⟨S_, .f32⟩
  | .hbm, ⟨25, _⟩ => ⟨S16x32x1024, .f32⟩
  | .hbm, ⟨26, _⟩ => ⟨S16x32x1024, .f32⟩
  | .hbm, ⟨27, _⟩ => ⟨S16x32x512, .f32⟩
  | .hbm, ⟨28, _⟩ => ⟨S1x512x1024, .f32⟩
  | .hbm, ⟨29, _⟩ => ⟨S512x1024, .f32⟩
  | .hbm, ⟨30, _⟩ => ⟨S16x32x1024, .f32⟩
  | .hbm, ⟨31, _⟩ => ⟨S16x32x1024, .f32⟩
  | .hbm, ⟨32, _⟩ => ⟨S1x1024x1024, .f32⟩
  | .hbm, ⟨33, _⟩ => ⟨S1024x1024, .f32⟩
  | .hbm, ⟨34, _⟩ => ⟨S16x32x1024, .f32⟩
  | .hbm, ⟨35, _⟩ => ⟨S1x1024, .f32⟩
  | .hbm, ⟨36, _⟩ => ⟨S1024, .f32⟩
  | .hbm, ⟨37, _⟩ => ⟨S1x1x1024, .f32⟩
  | .hbm, ⟨38, _⟩ => ⟨S16x32x1024, .f32⟩
  | .hbm, ⟨39, _⟩ => ⟨S16x32x1024, .f32⟩
  | .hbm, ⟨40, _⟩ => ⟨S16x32x1024, .f32⟩
  | .hbm, ⟨41, _⟩ => ⟨S16x32x1024, .f32⟩
  | .hbm, ⟨42, _⟩ => ⟨S_, .f32⟩
  | .hbm, ⟨43, _⟩ => ⟨S16x32x1024, .f32⟩
  | .hbm, ⟨44, _⟩ => ⟨S16x32x1024, .f32⟩
  | .hbm, ⟨45, _⟩ => ⟨S_, .f32⟩
  | .hbm, ⟨46, _⟩ => ⟨S16x32x1024, .f32⟩
  | .hbm, ⟨47, _⟩ => ⟨S16x32x1024, .f32⟩
  | .hbm, ⟨48, _⟩ => ⟨S16x32x512, .f32⟩
  | .hbm, ⟨49, _⟩ => ⟨S1x512x1024, .f32⟩
  | .hbm, ⟨50, _⟩ => ⟨S512x1024, .f32⟩
  | .hbm, ⟨51, _⟩ => ⟨S16x32x1024, .f32⟩
  | .hbm, ⟨52, _⟩ => ⟨S16x32x1024, .f32⟩
  | .hbm, ⟨53, _⟩ => ⟨S16x32x1024, .f32⟩
  | .hbm, ⟨54, _⟩ => ⟨S1x1024x1024, .f32⟩
  | .hbm, ⟨55, _⟩ => ⟨S1024x1024, .f32⟩
  | .hbm, ⟨56, _⟩ => ⟨S16x32x1024, .f32⟩
  | .hbm, ⟨57, _⟩ => ⟨S1x1024, .f32⟩
  | .hbm, ⟨58, _⟩ => ⟨S1024, .f32⟩
  | .hbm, ⟨59, _⟩ => ⟨S1x1x1024, .f32⟩
  | .hbm, ⟨60, _⟩ => ⟨S16x32x1024, .f32⟩
  | .hbm, ⟨61, _⟩ => ⟨S16x32x1024, .f32⟩
  | .hbm, ⟨62, _⟩ => ⟨S16x32x1024, .f32⟩
  | .hbm, ⟨63, _⟩ => ⟨S16x32x1024, .f32⟩
  | .hbm, ⟨64, _⟩ => ⟨S_, .f32⟩
  | .hbm, ⟨65, _⟩ => ⟨S16x32x1024, .f32⟩
  | .hbm, ⟨66, _⟩ => ⟨S16x32x1024, .f32⟩
  | .hbm, ⟨67, _⟩ => ⟨S_, .f32⟩
  | .hbm, ⟨68, _⟩ => ⟨S16x32x1024, .f32⟩
  | .hbm, ⟨69, _⟩ => ⟨S16x32x1024, .f32⟩
  | .hbm, ⟨70, _⟩ => ⟨S16x32x512, .f32⟩
  | .hbm, ⟨71, _⟩ => ⟨S1x512x1024, .f32⟩
  | .hbm, ⟨72, _⟩ => ⟨S512x1024, .f32⟩
  | .hbm, ⟨73, _⟩ => ⟨S16x32x1024, .f32⟩
  | .hbm, ⟨74, _⟩ => ⟨S16x32x1024, .f32⟩
  | .hbm, ⟨75, _⟩ => ⟨S16x32x1024, .f32⟩
  | .hbm, ⟨76, _⟩ => ⟨S16x32x1024, .f32⟩
  | .hbm, ⟨77, _⟩ => ⟨S16x32x1024, .f32⟩
  | .hbm, ⟨78, _⟩ => ⟨S16x32x1024, .f32⟩
  | .hbm, ⟨79, _⟩ => ⟨S16x32x1024, .f32⟩
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_3 : Ref sig .tc := ⟨.hbm, 64, rfl⟩
abbrev main_v50 : Ref sig .tc := ⟨.hbm, 65, rfl⟩
abbrev main_v51 : Ref sig .tc := ⟨.hbm, 66, rfl⟩
abbrev main_cst_4 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Kernel8.lean ====
abbrev S16x32x1024 : Shape := ⟨3, ![16, 32, 1024]⟩
abbrev S16x1x1024 : Shape := ⟨3, ![16, 1, 1024]⟩
abbrev S1x1024 : Shape := ⟨2, ![1, 1024]⟩
abbrev S1024x5640 : Shape := ⟨2, ![1024, 5640]⟩
abbrev S128 : Shape := ⟨1, ![128]⟩
abbrev S1024x2048 : Shape := ⟨2, ![1024, 2048]⟩
abbrev S1024x3584 : Shape := ⟨2, ![1024, 3584]⟩
abbrev S1024x5632 : Shape := ⟨2, ![1024, 5632]⟩
abbrev S1024x8 : Shape := ⟨2, ![1024, 8]⟩
abbrev S8x1024 : Shape := ⟨2, ![8, 1024]⟩
abbrev S1x128 : Shape := ⟨2, ![1, 128]⟩
abbrev S16x32x2048 : Shape := ⟨3, ![16, 32, 2048]⟩
abbrev S16x32x512 : Shape := ⟨3, ![16, 32, 512]⟩
abbrev S16x32x8 : Shape := ⟨3, ![16, 32, 8]⟩
abbrev S16x8x32 : Shape := ⟨3, ![16, 8, 32]⟩
abbrev S8x32x1024 : Shape := ⟨3, ![8, 32, 1024]⟩
abbrev S8x1x1024 : Shape := ⟨3, ![8, 1, 1024]⟩
abbrev S8x32x2048 : Shape := ⟨3, ![8, 32, 2048]⟩
abbrev S8x32x512 : Shape := ⟨3, ![8, 32, 512]⟩
abbrev S8x32x8 : Shape := ⟨3, ![8, 32, 8]⟩
abbrev S8x8x32 : Shape := ⟨3, ![8, 8, 32]⟩
abbrev S8x32 : Shape := ⟨2, ![8, 32]⟩
abbrev S8x32x1 : Shape := ⟨3, ![8, 32, 1]⟩
abbrev S1x1x1024 : Shape := ⟨3, ![1, 1, 1024]⟩
abbrev S256x1024 : Shape := ⟨2, ![256, 1024]⟩
abbrev S256x2048 : Shape := ⟨2, ![256, 2048]⟩
abbrev S1024x128 : Shape := ⟨2, ![1024, 128]⟩
abbrev S256x128 : Shape := ⟨2, ![256, 128]⟩
abbrev S256 : Shape := ⟨1, ![256]⟩
abbrev S256x1 : Shape := ⟨2, ![256, 1]⟩
abbrev S8x32x128 : Shape := ⟨3, ![8, 32, 128]⟩
abbrev S1024x512 : Shape := ⟨2, ![1024, 512]⟩
abbrev S256x512 : Shape := ⟨2, ![256, 512]⟩
abbrev S256x8 : Shape := ⟨2, ![256, 8]⟩
abbrev S1x32x1024 : Shape := ⟨3, ![1, 32, 1024]⟩
abbrev S32x1024 : Shape := ⟨2, ![32, 1024]⟩
abbrev S1x8x32 : Shape := ⟨3, ![1, 8, 32]⟩

abbrev nBuf : Space → Nat
  | .hbm => 26
  | .vmem => 32
  | .smem => 0
  | _ => 0

abbrev bufTy : (tb : Table) → Fin (tcTables nBuf tb) → BufTy
  | .hbm, ⟨0, _⟩ => ⟨S16x32x1024, .f32⟩
  | .hbm, ⟨1, _⟩ => ⟨S16x1x1024, .f32⟩
  | .hbm, ⟨2, _⟩ => ⟨S16x1x1024, .f32⟩
  | .hbm, ⟨3, _⟩ => ⟨S1x1024, .f32⟩
  | .hbm, ⟨4, _⟩ => ⟨S1024x5640, .f32⟩
  | .hbm, ⟨5, _⟩ => ⟨S128, .f32⟩
  | .hbm, ⟨6, _⟩ => ⟨S128, .f32⟩
  | .hbm, ⟨7, _⟩ => ⟨S1024x2048, .f32⟩
  | .hbm, ⟨8, _⟩ => ⟨S1024x3584, .f32⟩
  | .hbm, ⟨9, _⟩ => ⟨S1024x5632, .f32⟩
  | .hbm, ⟨10, _⟩ => ⟨S1024x5632, .bf16⟩
  | .hbm, ⟨11, _⟩ => ⟨S1024x8, .f32⟩
  | .hbm, ⟨12, _⟩ => ⟨S1024x8, .bf16⟩
  | .hbm, ⟨13, _⟩ => ⟨S8x1024, .bf16⟩
  | .hbm, ⟨14, _⟩ => ⟨S1x128, .f32⟩
  | .hbm, ⟨15, _⟩ => ⟨S1x128, .f32⟩
  | .hbm, ⟨16, _⟩ => ⟨S16x32x1024, .bf16⟩
  | .hbm, ⟨17, _⟩ => ⟨S16x32x2048, .f32⟩
  | .hbm, ⟨18, _⟩ => ⟨S16x32x2048, .f32⟩
  | .hbm, ⟨19, _⟩ => ⟨S16x32x512, .bf16⟩
  | .hbm, ⟨20, _⟩ => ⟨S16x32x512, .f32⟩
  | .hbm, ⟨21, _⟩ => ⟨S16x32x512, .f32⟩
  | .hbm, ⟨22, _⟩ => ⟨S16x32x512, .bf16⟩
  | .hbm, ⟨23, _⟩ => ⟨S16x32x512, .bf16⟩
  | .hbm, ⟨24, _⟩ => ⟨S16x32x8, .f32⟩
  | .hbm, ⟨25, _⟩ => ⟨S16x8x32, .f32⟩
  | .local _ .vmem, ⟨0, _⟩ => ⟨S8x32x1024, .f32⟩
  | .local _ .vmem, ⟨1, _⟩ => ⟨S8x32x1024, .f32⟩
  | .local _ .vmem, ⟨2, _⟩ => ⟨S8x1x1024, .f32⟩
  | .local _ .vmem, ⟨3, _⟩ => ⟨S8x1x1024, .f32⟩
  | .local _ .vmem, ⟨4, _⟩ => ⟨S8x1x1024, .f32⟩
  | .local _ .vmem, ⟨5, _⟩ => ⟨S8x1x1024, .f32⟩
  | .local _ .vmem, ⟨6, _⟩ => ⟨S1x1024, .f32⟩
  | .local _ .vmem, ⟨7, _⟩ => ⟨S1024x5632, .bf16⟩
  | .local _ .vmem, ⟨8, _⟩ => ⟨S1024x8, .bf16⟩
  | .local _ .vmem, ⟨9, _⟩ => ⟨S8x1024, .bf16⟩
  | .local _ .vmem, ⟨10, _⟩ => ⟨S1x128, .f32⟩
  | .local _ .vmem, ⟨11, _⟩ => ⟨S1x128, .f32⟩
  | .local _ .vmem, ⟨12, _⟩ => ⟨S8x32x1024, .bf16⟩
  | .local _ .vmem, ⟨13, _⟩ => ⟨S8x32x1024, .bf16⟩
  | .local _ .vmem, ⟨14, _⟩ => ⟨S8x32x2048, .f32⟩
  | .local _ .vmem, ⟨15, _⟩ => ⟨S8x32x2048, .f32⟩
  | .local _ .vmem, ⟨16, _⟩ => ⟨S8x32x2048, .f32⟩
  | .local _ .vmem, ⟨17, _⟩ => ⟨S8x32x2048, .f32⟩
  | .local _ .vmem, ⟨18, _⟩ => ⟨S8x32x512, .bf16⟩
  | .local _ .vmem, ⟨19, _⟩ => ⟨S8x32x512, .bf16⟩
  | .local _ .vmem, ⟨20, _⟩ => ⟨S8x32x512, .f32⟩
  | .local _ .vmem, ⟨21, _⟩ => ⟨S8x32x512, .f32⟩
  | .local _ .vmem, ⟨22, _⟩ => ⟨S8x32x512, .f32⟩
  | .local _ .vmem, ⟨23, _⟩ => ⟨S8x32x512, .f32⟩
  | .local _ .vmem, ⟨24, _⟩ => ⟨S8x32x512, .bf16⟩
  | .local _ .vmem, ⟨25, _⟩ => ⟨S8x32x512, .bf16⟩
  | .local _ .vmem, ⟨26, _⟩ => ⟨S8x32x512, .bf16⟩
  | .local _ .vmem, ⟨27, _⟩ => ⟨S8x32x512, .bf16⟩
  | .local _ .vmem, ⟨28, _⟩ => ⟨S8x32x8, .f32⟩
  | .local _ .vmem, ⟨29, _⟩ => ⟨S8x32x8, .f32⟩
  | .local _ .vmem, ⟨30, _⟩ => ⟨S8x8x32, .f32⟩
  | .local _ .vmem, ⟨31, _⟩ => ⟨S8x8x32, .f32⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev main_v9_7 : Ref sig .tc := ⟨.hbm, 23, rfl⟩
abbrev main_v9_8 : Ref sig .tc := ⟨.hbm, 24, rfl⟩
abbrev main_v9_9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x8 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8x32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x32x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x32x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S8x32x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x32x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S8x32x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S8x32x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S8x8x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference8Ideal.lean ====
abbrev S16x32x1024 : Shape := ⟨3, ![16, 32, 1024]⟩
abbrev S16x1x1024 : Shape := ⟨3, ![16, 1, 1024]⟩
abbrev S1x1024 : Shape := ⟨2, ![1, 1024]⟩
abbrev S1024x5640 : Shape := ⟨2, ![1024, 5640]⟩
abbrev S128 : Shape := ⟨1, ![128]⟩
abbrev S1024 : Shape := ⟨1, ![1024]⟩
abbrev S_ : Shape := ⟨0, ![]⟩
abbrev S16x32 : Shape := ⟨2, ![16, 32]⟩
abbrev S16x32x1 : Shape := ⟨3, ![16, 32, 1]⟩
abbrev S1x1x1024 : Shape := ⟨3, ![1, 1, 1024]⟩
abbrev S16x32x5640 : Shape := ⟨3, ![16, 32, 5640]⟩
abbrev S16x32x512 : Shape := ⟨3, ![16, 32, 512]⟩
abbrev S16x32x4x128 : Shape := ⟨4, ![16, 32, 4, 128]⟩
abbrev S16x32x4 : Shape := ⟨3, ![16, 32, 4]⟩
abbrev S16x32x4x1 : Shape := ⟨4, ![16, 32, 4, 1]⟩
abbrev S1x1x1x128 : Shape := ⟨4, ![1, 1, 1, 128]⟩
abbrev S16x32x8 : Shape := ⟨3, ![16, 32, 8]⟩
abbrev S16x32x2048 : Shape := ⟨3, ![16, 32, 2048]⟩
abbrev S16x8x32 : Shape := ⟨3, ![16, 8, 32]⟩

abbrev nBuf : Space → Nat
  | .hbm => 79
  | .vmem => 0
  | .smem => 0
  | _ => 0

abbrev bufTy : (tb : Table) → Fin (tcTables nBuf tb) → BufTy
  | .hbm, ⟨0, _⟩ => ⟨S16x32x1024, .f32⟩
  | .hbm, ⟨1, _⟩ => ⟨S16x1x1024, .f32⟩
  | .hbm, ⟨2, _⟩ => ⟨S16x1x1024, .f32⟩
  | .hbm, ⟨3, _⟩ => ⟨S1x1024, .f32⟩
  | .hbm, ⟨4, _⟩ => ⟨S1024x5640, .f32⟩
  | .hbm, ⟨5, _⟩ => ⟨S128, .f32⟩
  | .hbm, ⟨6, _⟩ => ⟨S128, .f32⟩
  | .hbm, ⟨7, _⟩ => ⟨S1024, .f32⟩
  | .hbm, ⟨8, _⟩ => ⟨S16x32x1024, .f32⟩
  | .hbm, ⟨9, _⟩ => ⟨S_, .f32⟩
  | .hbm, ⟨10, _⟩ => ⟨S16x32, .f32⟩
  | .hbm, ⟨11, _⟩ => ⟨S16x32x1, .f32⟩
  | .hbm, ⟨12, _⟩ => ⟨S_, .f32⟩
  | .hbm, ⟨13, _⟩ => ⟨S16x32x1, .f32⟩
  | .hbm, ⟨14, _⟩ => ⟨S16x32x1, .f32⟩
  | .hbm, ⟨15, _⟩ => ⟨S_, .f32⟩
  | .hbm, ⟨16, _⟩ => ⟨S16x32x1, .f32⟩
  | .hbm, ⟨17, _⟩ => ⟨S16x32x1, .f32⟩
  | .hbm, ⟨18, _⟩ => ⟨S16x32x1, .f32⟩
  | .hbm, ⟨19, _⟩ => ⟨S16x32x1024, .f32⟩
  | .hbm, ⟨20, _⟩ => ⟨S16x32x1024, .f32⟩
  | .hbm, ⟨21, _⟩ => ⟨S1x1x1024, .f32⟩
  | .hbm, ⟨22, _⟩ => ⟨S16x32x1024, .f32⟩
  | .hbm, ⟨23, _⟩ => ⟨S16x32x1024, .f32⟩
  | .hbm, ⟨24, _⟩ => ⟨S_, .f32⟩
  | .hbm, ⟨25, _⟩ => ⟨S16x1x1024, .f32⟩
  | .hbm, ⟨26, _⟩ => ⟨S16x1x1024, .f32⟩
  | .hbm, ⟨27, _⟩ => ⟨S16x32x1024, .f32⟩
  | .hbm, ⟨28, _⟩ => ⟨S16x32x1024, .f32⟩
  | .hbm, ⟨29, _⟩ => ⟨S16x32x1024, .f32⟩
  | .hbm, ⟨30, _⟩ => ⟨S16x32x1024, .f32⟩
  | .hbm, ⟨31, _⟩ => ⟨S16x32x5640, .f32⟩
  | .hbm, ⟨32, _⟩ => ⟨S16x32x512, .f32⟩
  | .hbm, ⟨33, _⟩ => ⟨S16x32x4x128, .f32⟩
  | .hbm, ⟨34, _⟩ => ⟨S16x32x4x128, .f32⟩
  | .hbm, ⟨35, _⟩ => ⟨S_, .f32⟩
  | .hbm, ⟨36, _⟩ => ⟨S16x32x4, .f32⟩
  | .hbm, ⟨37, _⟩ => ⟨S16x32x4x1, .f32⟩
  | .hbm, ⟨38, _⟩ => ⟨S_, .f32⟩
  | .hbm, ⟨39, _⟩ => ⟨S16x32x4x1, .f32⟩
  | .hbm, ⟨40, _⟩ => ⟨S16x32x4x1, .f32⟩
  | .hbm, ⟨41, _⟩ => ⟨S_, .f32⟩
  | .hbm, ⟨42, _⟩ => ⟨S16x32x4x1, .f32⟩
  | .hbm, ⟨43, _⟩ => ⟨S16x32x4x1, .f32⟩
  | .hbm, ⟨44, _⟩ => ⟨S16x32x4x1, .f32⟩
  | .hbm, ⟨45, _⟩ => ⟨S16x32x4x128, .f32⟩
  | .hbm, ⟨46, _⟩ => ⟨S16x32x4x128, .f32⟩
  | .hbm, ⟨47, _⟩ => ⟨S1x1x1x128, .f32⟩
  | .hbm, ⟨48, _⟩ => ⟨S16x32x4x128, .f32⟩
  | .hbm, ⟨49, _⟩ => ⟨S16x32x4x128, .f32⟩
  | .hbm, ⟨50, _⟩ => ⟨S16x32x512, .f32⟩
  | .hbm, ⟨51, _⟩ => ⟨S16x32x512, .f32⟩
  | .hbm, ⟨52, _⟩ => ⟨S16x32x4x128, .f32⟩
  | .hbm, ⟨53, _⟩ => ⟨S16x32x4x128, .f32⟩
  | .hbm, ⟨54, _⟩ => ⟨S_, .f32⟩
  | .hbm, ⟨55, _⟩ => ⟨S16x32x4, .f32⟩
  | .hbm, ⟨56, _⟩ => ⟨S16x32x4x1, .f32⟩
  | .hbm, ⟨57, _⟩ => ⟨S_, .f32⟩
  | .hbm, ⟨58, _⟩ => ⟨S16x32x4x1, .f32⟩
  | .hbm, ⟨59, _⟩ => ⟨S16x32x4x1, .f32⟩
  | .hbm, ⟨60, _⟩ => ⟨S_, .f32⟩
  | .hbm, ⟨61, _⟩ => ⟨S16x32x4x1, .f32⟩
  | .hbm, ⟨62, _⟩ => ⟨S16x32x4x1, .f32⟩
  | .hbm, ⟨63, _⟩ => ⟨S16x32x4x1, .f32⟩
  | .hbm, ⟨64, _⟩ => ⟨S16x32x4x128, .f32⟩
  | .hbm, ⟨65, _⟩ => ⟨S16x32x4x128, .f32⟩
  | .hbm, ⟨66, _⟩ => ⟨S1x1x1x128, .f32⟩
  | .hbm, ⟨67, _⟩ => ⟨S16x32x4x128, .f32⟩
  | .hbm, ⟨68, _⟩ => ⟨S16x32x4x128, .f32⟩
  | .hbm, ⟨69, _⟩ => ⟨S16x32x512, .f32⟩
  | .hbm, ⟨70, _⟩ => ⟨S16x32x512, .f32⟩
  | .hbm, ⟨71, _⟩ => ⟨S16x32x8, .f32⟩
  | .hbm, ⟨72, _⟩ => ⟨S16x32x1024, .bf16⟩
  | .hbm, ⟨73, _⟩ => ⟨S16x32x2048, .f32⟩
  | .hbm, ⟨74, _⟩ => ⟨S16x32x2048, .f32⟩
  | .hbm, ⟨75, _⟩ => ⟨S16x32x512, .bf16⟩
  | .hbm, ⟨76, _⟩ => ⟨S16x32x512, .bf16⟩
  | .hbm, ⟨77, _⟩ => ⟨S16x32x512, .bf16⟩
  | .hbm, ⟨78, _⟩ => ⟨S16x8x32, .f32⟩
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== Kernel9.lean ====
abbrev S18x1024 : Shape := ⟨2, ![18, 1024]⟩
abbrev S4x1024x9216 : Shape := ⟨3, ![4, 1024, 9216]⟩
abbrev S4x9216 : Shape := ⟨2, ![4, 9216]⟩
abbrev S4x1x9216 : Shape := ⟨3, ![4, 1, 9216]⟩
abbrev S4x18x9216 : Shape := ⟨3, ![4, 18, 9216]⟩
abbrev S1x1024x1152 : Shape := ⟨3, ![1, 1024, 1152]⟩
abbrev S1x1x1152 : Shape := ⟨3, ![1, 1, 1152]⟩
abbrev S1x18x1152 : Shape := ⟨3, ![1, 18, 1152]⟩
abbrev S1024x1152 : Shape := ⟨2, ![1024, 1152]⟩
abbrev S18x1152 : Shape := ⟨2, ![18, 1152]⟩
abbrev S1x1152 : Shape := ⟨2, ![1, 1152]⟩

abbrev nBuf : Space → Nat
  | .hbm => 5
  | .vmem => 7
  | .smem => 0
  | _ => 0

abbrev bufTy : (tb : Table) → Fin (tcTables nBuf tb) → BufTy
  | .hbm, ⟨0, _⟩ => ⟨S18x1024, .f32⟩
  | .hbm, ⟨1, _⟩ => ⟨S4x1024x9216, .f32⟩
  | .hbm, ⟨2, _⟩ => ⟨S4x9216, .f32⟩
  | .hbm, ⟨3, _⟩ => ⟨S4x1x9216, .f32⟩
  | .hbm, ⟨4, _⟩ => ⟨S4x18x9216, .f32⟩
  | .local _ .vmem, ⟨0, _⟩ => ⟨S18x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1x1152, .f32⟩
  | .local _ .vmem, ⟨4, _⟩ => ⟨S1x1x1152, .f32⟩
  | .local _ .vmem, ⟨5, _⟩ => ⟨S1x18x1152, .f32⟩
  | .local _ .vmem, ⟨6, _⟩ => ⟨S1x18x1152, .f32⟩
  | _, _ => ⟨S18x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S18x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x18x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S18x1024 : Shape := ⟨2, ![18, 1024]⟩
abbrev S4x1024x9216 : Shape := ⟨3, ![4, 1024, 9216]⟩
abbrev S4x9216 : Shape := ⟨2, ![4, 9216]⟩
abbrev S_ : Shape := ⟨0, ![]⟩
abbrev S18x4x9216 : Shape := ⟨3, ![18, 4, 9216]⟩
abbrev S4x18x9216 : Shape := ⟨3, ![4, 18, 9216]⟩
abbrev S4x1x9216 : Shape := ⟨3, ![4, 1, 9216]⟩

abbrev nBuf : Space → Nat
  | .hbm => 17
  | .vmem => 0
  | .smem => 0
  | _ => 0

abbrev bufTy : (tb : Table) → Fin (tcTables nBuf tb) → BufTy
  | .hbm, ⟨0, _⟩ => ⟨S18x1024, .f32⟩
  | .hbm, ⟨1, _⟩ => ⟨S4x1024x9216, .f32⟩
  | .hbm, ⟨2, _⟩ => ⟨S4x9216, .f32⟩
  | .hbm, ⟨3, _⟩ => ⟨S18x1024, .f32⟩
  | .hbm, ⟨4, _⟩ => ⟨S18x1024, .f32⟩
  | .hbm, ⟨5, _⟩ => ⟨S_, .f32⟩
  | .hbm, ⟨6, _⟩ => ⟨S18x1024, .f32⟩
  | .hbm, ⟨7, _⟩ => ⟨S18x1024, .f32⟩
  | .hbm, ⟨8, _⟩ => ⟨S_, .f32⟩
  | .hbm, ⟨9, _⟩ => ⟨S18x1024, .f32⟩
  | .hbm, ⟨10, _⟩ => ⟨S18x1024, .f32⟩
  | .hbm, ⟨11, _⟩ => ⟨S18x1024, .f32⟩
  | .hbm, ⟨12, _⟩ => ⟨S18x4x9216, .f32⟩
  | .hbm, ⟨13, _⟩ => ⟨S4x18x9216, .f32⟩
  | .hbm, ⟨14, _⟩ => ⟨S4x1x9216, .f32⟩
  | .hbm, ⟨15, _⟩ => ⟨S4x18x9216, .f32⟩
  | .hbm, ⟨16, _⟩ => ⟨S4x18x9216, .f32⟩
  | _, _ => ⟨S18x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel10.lean ====
abbrev S2x16384x2048 : Shape := ⟨3, ![2, 16384, 2048]⟩
abbrev S2x4x128x128 : Shape := ⟨4, ![2, 4, 128, 128]⟩
abbrev S1x512 : Shape := ⟨2, ![1, 512]⟩
abbrev S_ : Shape := ⟨0, ![]⟩
abbrev S128x128 : Shape := ⟨2, ![128, 128]⟩
abbrev S2x16384x512 : Shape := ⟨3, ![2, 16384, 512]⟩
abbrev S1x128x2048 : Shape := ⟨3, ![1, 128, 2048]⟩
abbrev S1x4x128x128 : Shape := ⟨4, ![1, 4, 128, 128]⟩
abbrev S1x128x512 : Shape := ⟨3, ![1, 128, 512]⟩
abbrev S128x512 : Shape := ⟨2, ![128, 512]⟩
abbrev S16x128 : Shape := ⟨2, ![16, 128]⟩
abbrev S1x128x128 : Shape := ⟨3, ![1, 128, 128]⟩
abbrev S1x1x128x128 : Shape := ⟨4, ![1, 1, 128, 128]⟩
abbrev S1x128 : Shape := ⟨2, ![1, 128]⟩
abbrev S128 : Shape := ⟨1, ![128]⟩
abbrev S128x1 : Shape := ⟨2, ![128, 1]⟩

abbrev nBuf : Space → Nat
  | .hbm => 17
  | .vmem => 11
  | .smem => 0
  | _ => 0

abbrev bufTy : (tb : Table) → Fin (tcTables nBuf tb) → BufTy
  | .hbm, ⟨0, _⟩ => ⟨S2x16384x2048, .f32⟩
  | .hbm, ⟨1, _⟩ => ⟨S2x4x128x128, .f32⟩
  | .hbm, ⟨2, _⟩ => ⟨S1x512, .f32⟩
  | .hbm, ⟨3, _⟩ => ⟨S1x512, .f32⟩
  | .hbm, ⟨4, _⟩ => ⟨S_, .bf16⟩
  | .hbm, ⟨5, _⟩ => ⟨S128x128, .bf16⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .bf16⟩
  | .hbm, ⟨13, _⟩ => ⟨S128x128, .bf16⟩
  | .hbm, ⟨14, _⟩ => ⟨S128x128, .bf16⟩
  | .hbm, ⟨15, _⟩ => ⟨S2x16384x512, .bf16⟩
  | .hbm, ⟨16, _⟩ => ⟨S2x4x128x128, .f32⟩
  | .local _ .vmem, ⟨0, _⟩ => ⟨S1x128x2048, .f32⟩
  | .local _ .vmem, ⟨1, _⟩ => ⟨S1x128x2048, .f32⟩
  | .local _ .vmem, ⟨2, _⟩ => ⟨S1x4x128x128, .f32⟩
  | .local _ .vmem, ⟨3, _⟩ => ⟨S1x4x128x128, .f32⟩
  | .local _ .vmem, ⟨4, _⟩ => ⟨S1x512, .f32⟩
  | .local _ .vmem, ⟨5, _⟩ => ⟨S1x512, .f32⟩
  | .local _ .vmem, ⟨6, _⟩ => ⟨S128x128, .bf16⟩
  | .local _ .vmem, ⟨7, _⟩ => ⟨S1x128x512, .bf16⟩
  | .local _ .vmem, ⟨8, _⟩ => ⟨S1x128x512, .bf16⟩
  | .local _ .vmem, ⟨9, _⟩ => ⟨S1x4x128x128, .f32⟩
  | .local _ .vmem, ⟨10, _⟩ => ⟨S1x4x128x128, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel10Ideal.lean ====
abbrev S2x16384x2048 : Shape := ⟨3, ![2, 16384, 2048]⟩
abbrev S2x4x128x128 : Shape := ⟨4, ![2, 4, 128, 128]⟩
abbrev S1x512 : Shape := ⟨2, ![1, 512]⟩
abbrev S_ : Shape := ⟨0, ![]⟩
abbrev S128x128 : Shape := ⟨2, ![128, 128]⟩
abbrev S2x16384x512 : Shape := ⟨3, ![2, 16384, 512]⟩
abbrev S1x128x2048 : Shape := ⟨3, ![1, 128, 2048]⟩
abbrev S1x4x128x128 : Shape := ⟨4, ![1, 4, 128, 128]⟩
abbrev S1x128x512 : Shape := ⟨3, ![1, 128, 512]⟩
abbrev S128x512 : Shape := ⟨2, ![128, 512]⟩
abbrev S16x128 : Shape := ⟨2, ![16, 128]⟩
abbrev S1x128x128 : Shape := ⟨3, ![1, 128, 128]⟩
abbrev S1x1x128x128 : Shape := ⟨4, ![1, 1, 128, 128]⟩
abbrev S1x128 : Shape := ⟨2, ![1, 128]⟩
abbrev S128 : Shape := ⟨1, ![128]⟩
abbrev S128x1 : Shape := ⟨2, ![128, 1]⟩

abbrev nBuf : Space → Nat
  | .hbm => 17
  | .vmem => 11
  | .smem => 0
  | _ => 0

abbrev bufTy : (tb : Table) → Fin (tcTables nBuf tb) → BufTy
  | .hbm, ⟨0, _⟩ => ⟨S2x16384x2048, .f32⟩
  | .hbm, ⟨1, _⟩ => ⟨S2x4x128x128, .f32⟩
  | .hbm, ⟨2, _⟩ => ⟨S1x512, .f32⟩
  | .hbm, ⟨3, _⟩ => ⟨S1x512, .f32⟩
  | .hbm, ⟨4, _⟩ => ⟨S_, .bf16⟩
  | .hbm, ⟨5, _⟩ => ⟨S128x128, .bf16⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .bf16⟩
  | .hbm, ⟨13, _⟩ => ⟨S128x128, .bf16⟩
  | .hbm, ⟨14, _⟩ => ⟨S128x128, .bf16⟩
  | .hbm, ⟨15, _⟩ => ⟨S2x16384x512, .bf16⟩
  | .hbm, ⟨16, _⟩ => ⟨S2x4x128x128, .f32⟩
  | .local _ .vmem, ⟨0, _⟩ => ⟨S1x128x2048, .f32⟩
  | .local _ .vmem, ⟨1, _⟩ => ⟨S1x128x2048, .f32⟩
  | .local _ .vmem, ⟨2, _⟩ => ⟨S1x4x128x128, .f32⟩
  | .local _ .vmem, ⟨3, _⟩ => ⟨S1x4x128x128, .f32⟩
  | .local _ .vmem, ⟨4, _⟩ => ⟨S1x512, .f32⟩
  | .local _ .vmem, ⟨5, _⟩ => ⟨S1x512, .f32⟩
  | .local _ .vmem, ⟨6, _⟩ => ⟨S128x128, .bf16⟩
  | .local _ .vmem, ⟨7, _⟩ => ⟨S1x128x512, .bf16⟩
  | .local _ .vmem, ⟨8, _⟩ => ⟨S1x128x512, .bf16⟩
  | .local _ .vmem, ⟨9, _⟩ => ⟨S1x4x128x128, .f32⟩
  | .local _ .vmem, ⟨10, _⟩ => ⟨S1x4x128x128, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference10Ideal.lean ====
abbrev S2x16384x2048 : Shape := ⟨3, ![2, 16384, 2048]⟩
abbrev S2x4x128x128 : Shape := ⟨4, ![2, 4, 128, 128]⟩
abbrev S1x512 : Shape := ⟨2, ![1, 512]⟩
abbrev S2x16384x512 : Shape := ⟨3, ![2, 16384, 512]⟩
abbrev S2x16384x4x128 : Shape := ⟨4, ![2, 16384, 4, 128]⟩
abbrev S4x128 : Shape := ⟨2, ![4, 128]⟩
abbrev S_ : Shape := ⟨0, ![]⟩
abbrev S1x1x4x128 : Shape := ⟨4, ![1, 1, 4, 128]⟩
abbrev S16384x16384 : Shape := ⟨2, ![16384, 16384]⟩
abbrev S2x4x128x16384 : Shape := ⟨4, ![2, 4, 128, 16384]⟩
abbrev S1x16384x16384x1x1 : Shape := ⟨5, ![1, 16384, 16384, 1, 1]⟩
abbrev S2x16384x1x4x128 : Shape := ⟨5, ![2, 16384, 1, 4, 128]⟩
abbrev S2x1x16384x4x128 : Shape := ⟨5, ![2, 1, 16384, 4, 128]⟩
abbrev S2x16384x16384x4x128 : Shape := ⟨5, ![2, 16384, 16384, 4, 128]⟩
abbrev S2x16384x16384x4 : Shape := ⟨4, ![2, 16384, 16384, 4]⟩
abbrev S2x1x4x128 : Shape := ⟨4, ![2, 1, 4, 128]⟩
abbrev S2x4x128 : Shape := ⟨3, ![2, 4, 128]⟩
abbrev S2x4x128x1 : Shape := ⟨4, ![2, 4, 128, 1]⟩
abbrev S2x16384x4 : Shape := ⟨3, ![2, 16384, 4]⟩
abbrev S2x16384x4x1 : Shape := ⟨4, ![2, 16384, 4, 1]⟩

abbrev nBuf : Space → Nat
  | .hbm => 135
  | .vmem => 0
  | .smem => 0
  | _ => 0

abbrev hbmTy0_0 (i : Nat) : BufTy := match i % 128 with
  | 0 => ⟨S2x16384x2048, .f32⟩
  | 1 => ⟨S2x4x128x128, .f32⟩
  | 2 => ⟨S1x512, .f32⟩
  | 3 => ⟨S1x512, .f32⟩
  | 4 => ⟨S2x4x128x128, .f32⟩
  | 5 => ⟨S2x16384x512, .f32⟩
  | 6 => ⟨S2x16384x4x128, .f32⟩
  | 7 => ⟨S2x16384x512, .f32⟩
  | 8 => ⟨S2x16384x4x128, .f32⟩
  | 9 => ⟨S2x16384x512, .f32⟩
  | 10 => ⟨S2x16384x4x128, .f32⟩
  | 11 => ⟨S2x16384x512, .f32⟩
  | 12 => ⟨S4x128, .f32⟩
  | 13 => ⟨S4x128, .f32⟩
  | 14 => ⟨S4x128, .f32⟩
  | 15 => ⟨S4x128, .f32⟩
  | 16 => ⟨S2x16384x4x128, .f32⟩
  | 17 => ⟨S_, .f32⟩
  | 18 => ⟨S2x16384x4x128, .f32⟩
  | 19 => ⟨S2x16384x4x128, .f32⟩
  | 20 => ⟨S2x16384x4x128, .f32⟩
  | 21 => ⟨S2x16384x4x128, .f32⟩
  | 22 => ⟨S2x16384x4x128, .i1⟩
  | 23 => ⟨S2x16384x4x128, .f32⟩
  | 24 => ⟨S2x16384x4x128, .f32⟩
  | 25 => ⟨S2x16384x4x128, .f32⟩
  | 26 => ⟨S2x16384x4x128, .f32⟩
  | 27 => ⟨S2x16384x4x128, .f32⟩
  | 28 => ⟨S2x16384x4x128, .f32⟩
  | 29 => ⟨S2x16384x4x128, .f32⟩
  | 30 => ⟨S2x16384x4x128, .f32⟩
  | 31 => ⟨S2x16384x4x128, .f32⟩
  | 32 => ⟨S1x1x4x128, .f32⟩
  | 33 => ⟨S2x16384x4x128, .f32⟩
  | 34 => ⟨S2x16384x4x128, .f32⟩
  | 35 => ⟨S1x1x4x128, .f32⟩
  | 36 => ⟨S2x16384x4x128, .f32⟩
  | 37 => ⟨S2x16384x4x128, .f32⟩
  | 38 => ⟨S2x16384x4x128, .f32⟩
  | 39 => ⟨S2x16384x4x128, .f32⟩
  | 40 => ⟨S2x16384x4x128, .i1⟩
  | 41 => ⟨S2x16384x4x128, .f32⟩
  | 42 => ⟨S2x16384x4x128, .f32⟩
  | 43 => ⟨S2x16384x4x128, .f32⟩
  | 44 => ⟨S2x16384x4x128, .f32⟩
  | 45 => ⟨S2x16384x4x128, .f32⟩
  | 46 => ⟨S2x16384x4x128, .f32⟩
  | 47 => ⟨S2x16384x4x128, .f32⟩
  | 48 => ⟨S2x16384x4x128, .f32⟩
  | 49 => ⟨S2x16384x4x128, .f32⟩
  | 50 => ⟨S2x16384x4x128, .f32⟩
  | 51 => ⟨S_, .i1⟩
  | 52 => ⟨S16384x16384, .i1⟩
  | 53 => ⟨S16384x16384, .i32⟩
  | 54 => ⟨S_, .i32⟩
  | 55 => ⟨S16384x16384, .i32⟩
  | 56 => ⟨S16384x16384, .i32⟩
  | 57 => ⟨S16384x16384, .i32⟩
  | 58 => ⟨S16384x16384, .i1⟩
  | 59 => ⟨S_, .i1⟩
  | 60 => ⟨S16384x16384, .i1⟩
  | 61 => ⟨S16384x16384, .i1⟩
  | 62 => ⟨S16384x16384, .f32⟩
  | 63 => ⟨S2x4x128x16384, .f32⟩
  | 64 => ⟨S2x16384x4x128, .f32⟩
  | 65 => ⟨S1x16384x16384x1x1, .i1⟩
  | 66 => ⟨S2x16384x1x4x128, .f32⟩
  | 67 => ⟨S2x1x16384x4x128, .f32⟩
  | 68 => ⟨S2x16384x16384x4x128, .f32⟩
  | 69 => ⟨S2x16384x16384x4x128, .f32⟩
  | 70 => ⟨S2x16384x16384x4x128, .f32⟩
  | 71 => ⟨S_, .f32⟩
  | 72 => ⟨S_, .f32⟩
  | 73 => ⟨S2x16384x16384x4x128, .i1⟩
  | 74 => ⟨S2x16384x16384x4x128, .f32⟩
  | 75 => ⟨S2x16384x16384x4x128, .f32⟩
  | 76 => ⟨S2x16384x16384x4x128, .f32⟩
  | 77 => ⟨S2x16384x1x4x128, .f32⟩
  | 78 => ⟨S2x16384x16384x4x128, .f32⟩
  | 79 => ⟨S2x16384x16384x4x128, .f32⟩
  | 80 => ⟨S2x1x16384x4x128, .f32⟩
  | 81 => ⟨S2x16384x16384x4x128, .f32⟩
  | 82 => ⟨S2x16384x16384x4x128, .f32⟩
  | 83 => ⟨S_, .f32⟩
  | 84 => ⟨S2x16384x16384x4, .f32⟩
  | 85 => ⟨S2x4x128x16384, .f32⟩
  | 86 => ⟨S2x16384x4x128, .f32⟩
  | 87 => ⟨S2x16384x4x128, .f32⟩
  | 88 => ⟨S2x16384x4x128, .f32⟩
  | 89 => ⟨S2x4x128x16384, .f32⟩
  | 90 => ⟨S2x16384x4x128, .f32⟩
  | 91 => ⟨S2x16384x4x128, .f32⟩
  | 92 => ⟨S2x1x4x128, .f32⟩
  | 93 => ⟨S2x4x128, .f32⟩
  | 94 => ⟨S2x4x128, .f32⟩
  | 95 => ⟨S2x4x128x1, .f32⟩
  | 96 => ⟨S2x4x128x128, .f32⟩
  | 97 => ⟨S2x4x128x128, .f32⟩
  | 98 => ⟨S2x1x4x128, .f32⟩
  | 99 => ⟨S2x16384x4x128, .f32⟩
  | 100 => ⟨S2x16384x4x128, .f32⟩
  | 101 => ⟨S2x16384x4x128, .f32⟩
  | 102 => ⟨S2x16384x4x128, .f32⟩
  | 103 => ⟨S2x4x128x128, .f32⟩
  | 104 => ⟨S2x4x128x128, .f32⟩
  | 105 => ⟨S4x128, .f32⟩
  | 106 => ⟨S2x16384x4x128, .f32⟩
  | 107 => ⟨S_, .f32⟩
  | 108 => ⟨S2x16384x4, .f32⟩
  | 109 => ⟨S2x16384x4x1, .f32⟩
  | 110 => ⟨S_, .f32⟩
  | 111 => ⟨S2x16384x4x1, .f32⟩
  | 112 => ⟨S2x16384x4x1, .f32⟩
  | 113 => ⟨S_, .f32⟩
  | 114 => ⟨S2x16384x4x1, .f32⟩
  | 115 => ⟨S2x16384x4x1, .f32⟩
  | 116 => ⟨S2x16384x4x1, .f32⟩
  | 117 => ⟨S2x16384x4x128, .f32⟩
  | 118 => ⟨S2x16384x4x128, .f32⟩
  | 119 => ⟨S1x1x4x128, .f32⟩
  | 120 => ⟨S2x16384x4x128, .f32⟩
  | 121 => ⟨S2x16384x4x128, .f32⟩
  | 122 => ⟨S2x16384x512, .f32⟩
  | 123 => ⟨S2x16384x512, .f32⟩
  | 124 => ⟨S2x16384x512, .f32⟩
  | 125 => ⟨S_, .f32⟩
  | 126 => ⟨S2x16384x512, .f32⟩
  | 127 => ⟨S2x16384x512, .f32⟩
  | _ => ⟨S2x16384x2048, .f32⟩

abbrev hbmTy0_1 (i : Nat) : BufTy := match i % 128 with
  | 0 => ⟨S_, .f32⟩
  | 1 => ⟨S2x16384x512, .f32⟩
  | 2 => ⟨S2x16384x512, .f32⟩
  | 3 => ⟨S2x16384x512, .f32⟩
  | 4 => ⟨S2x16384x512, .f32⟩
  | 5 => ⟨S2x16384x512, .bf16⟩
  | 6 => ⟨S2x4x128x128, .f32⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c : Ref sig .tc := ⟨.hbm, 51, rfl⟩
abbrev main_v32 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_0 : Ref sig .tc := ⟨.hbm, 59, rfl⟩
abbrev main_call1_v5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_0 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_1 : Ref sig .tc := ⟨.hbm, 107, rfl⟩
abbrev main_v74 : Ref sig .tc := ⟨.hbm, 108, rfl⟩
abbrev main_v75 : Ref sig .tc := ⟨.hbm, 109, rfl⟩
abbrev main_cst_2 : Ref sig .tc := ⟨.hbm, 110, rfl⟩
abbrev main_v76 : Ref sig .tc := ⟨.hbm, 111, rfl⟩
abbrev main_v77 : Ref sig .tc := ⟨.hbm, 112, rfl⟩
abbrev main_cst_3 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_call3_v0 : Ref sig .tc := ⟨.hbm, 123, rfl⟩
abbrev main_call3_v1 : Ref sig .tc := ⟨.hbm, 124, rfl⟩
abbrev main_call3_cst : Ref sig .tc := ⟨.hbm, 125, rfl⟩
abbrev main_call3_v2 : Ref sig .tc := ⟨.hbm, 126, rfl⟩
abbrev main_call3_v3 : Ref sig .tc := ⟨.hbm, 127, rfl⟩
abbrev main_call3_cst_0 : Ref sig .tc := ⟨.hbm, 128, rfl⟩
abbrev main_call3_v4 : Ref sig .tc := ⟨.hbm, 129, rfl⟩
abbrev main_call3_v5 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩

abbrev nD : Nat := 1
abbrev τ : Topo := Topo.v7x

variable {F : FTy → Type} [FloatOps F]
-- ==== Kernel11.lean ====
abbrev S16x32x2048 : Shape := ⟨3, ![16, 32, 2048]⟩
abbrev S16x4x128x128 : Shape := ⟨4, ![16, 4, 128, 128]⟩
abbrev S1x512 : Shape := ⟨2, ![1, 512]⟩
abbrev S_ : Shape := ⟨0, ![]⟩
abbrev S32x32 : Shape := ⟨2, ![32, 32]⟩
abbrev S16x32x512 : Shape := ⟨3, ![16, 32, 512]⟩
abbrev S1x32x2048 : Shape := ⟨3, ![1, 32, 2048]⟩
abbrev S1x4x128x128 : Shape := ⟨4, ![1, 4, 128, 128]⟩
abbrev S1x32x512 : Shape := ⟨3, ![1, 32, 512]⟩
abbrev S32x512 : Shape := ⟨2, ![32, 512]⟩
abbrev S32x128 : Shape := ⟨2, ![32, 128]⟩
abbrev S16x32 : Shape := ⟨2, ![16, 32]⟩
abbrev S1x32x128 : Shape := ⟨3, ![1, 32, 128]⟩
abbrev S1x1x128x128 : Shape := ⟨4, ![1, 1, 128, 128]⟩
abbrev S128x128 : Shape := ⟨2, ![128, 128]⟩
abbrev S1x128 : Shape := ⟨2, ![1, 128]⟩
abbrev S16x128 : Shape := ⟨2, ![16, 128]⟩
abbrev S32 : Shape := ⟨1, ![32]⟩
abbrev S32x1 : Shape := ⟨2, ![32, 1]⟩

abbrev nBuf : Space → Nat
  | .hbm => 17
  | .vmem => 11
  | .smem => 0
  | _ => 0

abbrev bufTy : (tb : Table) → Fin (tcTables nBuf tb) → BufTy
  | .hbm, ⟨0, _⟩ => ⟨S16x32x2048, .f32⟩
  | .hbm, ⟨1, _⟩ => ⟨S16x4x128x128, .f32⟩
  | .hbm, ⟨2, _⟩ => ⟨S1x512, .f32⟩
  | .hbm, ⟨3, _⟩ => ⟨S1x512, .f32⟩
  | .hbm, ⟨4, _⟩ => ⟨S_, .bf16⟩
  | .hbm, ⟨5, _⟩ => ⟨S32x32, .bf16⟩
  | .hbm, ⟨6, _⟩ => ⟨S32x32, .i32⟩
  | .hbm, ⟨7, _⟩ => ⟨S_, .i32⟩
  | .hbm, ⟨8, _⟩ => ⟨S32x32, .i32⟩
  | .hbm, ⟨9, _⟩ => ⟨S32x32, .i32⟩
  | .hbm, ⟨10, _⟩ => ⟨S32x32, .i32⟩
  | .hbm, ⟨11, _⟩ => ⟨S32x32, .i1⟩
  | .hbm, ⟨12, _⟩ => ⟨S_, .bf16⟩
  | .hbm, ⟨13, _⟩ => ⟨S32x32, .bf16⟩
  | .hbm, ⟨14, _⟩ => ⟨S32x32, .bf16⟩
  | .hbm, ⟨15, _⟩ => ⟨S16x32x512, .bf16⟩
  | .hbm, ⟨16, _⟩ => ⟨S16x4x128x128, .f32⟩
  | .local _ .vmem, ⟨0, _⟩ => ⟨S1x32x2048, .f32⟩
  | .local _ .vmem, ⟨1, _⟩ => ⟨S1x32x2048, .f32⟩
  | .local _ .vmem, ⟨2, _⟩ => ⟨S1x4x128x128, .f32⟩
  | .local _ .vmem, ⟨3, _⟩ => ⟨S1x4x128x128, .f32⟩
  | .local _ .vmem, ⟨4, _⟩ => ⟨S1x512, .f32⟩
  | .local _ .vmem, ⟨5, _⟩ => ⟨S1x512, .f32⟩
  | .local _ .vmem, ⟨6, _⟩ => ⟨S32x32, .bf16⟩
  | .local _ .vmem, ⟨7, _⟩ => ⟨S1x32x512, .bf16⟩
  | .local _ .vmem, ⟨8, _⟩ => ⟨S1x32x512, .bf16⟩
  | .local _ .vmem, ⟨9, _⟩ => ⟨S1x4x128x128, .f32⟩
  | .local _ .vmem, ⟨10, _⟩ => ⟨S1x4x128x128, .f32⟩
  | _, _ => ⟨S16x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference11Ideal.lean ====
abbrev S16x32x2048 : Shape := ⟨3, ![16, 32, 2048]⟩
abbrev S16x4x128x128 : Shape := ⟨4, ![16, 4, 128, 128]⟩
abbrev S1x512 : Shape := ⟨2, ![1, 512]⟩
abbrev S16x32x512 : Shape := ⟨3, ![16, 32, 512]⟩
abbrev S16x32x4x128 : Shape := ⟨4, ![16, 32, 4, 128]⟩
abbrev S4x128 : Shape := ⟨2, ![4, 128]⟩
abbrev S_ : Shape := ⟨0, ![]⟩
abbrev S1x1x4x128 : Shape := ⟨4, ![1, 1, 4, 128]⟩
abbrev S32x32 : Shape := ⟨2, ![32, 32]⟩
abbrev S16x4x128x32 : Shape := ⟨4, ![16, 4, 128, 32]⟩
abbrev S1x32x32x1x1 : Shape := ⟨5, ![1, 32, 32, 1, 1]⟩
abbrev S16x32x1x4x128 : Shape := ⟨5, ![16, 32, 1, 4, 128]⟩
abbrev S16x1x32x4x128 : Shape := ⟨5, ![16, 1, 32, 4, 128]⟩
abbrev S16x32x32x4x128 : Shape := ⟨5, ![16, 32, 32, 4, 128]⟩
abbrev S16x32x32x4 : Shape := ⟨4, ![16, 32, 32, 4]⟩
abbrev S16x1x4x128 : Shape := ⟨4, ![16, 1, 4, 128]⟩
abbrev S16x4x128 : Shape := ⟨3, ![16, 4, 128]⟩
abbrev S16x4x128x1 : Shape := ⟨4, ![16, 4, 128, 1]⟩
abbrev S16x32x4 : Shape := ⟨3, ![16, 32, 4]⟩
abbrev S16x32x4x1 : Shape := ⟨4, ![16, 32, 4, 1]⟩

abbrev nBuf : Space → Nat
  | .hbm => 135
  | .vmem => 0
  | .smem => 0
  | _ => 0

abbrev hbmTy0_0 (i : Nat) : BufTy := match i % 128 with
  | 0 => ⟨S16x32x2048, .f32⟩
  | 1 => ⟨S16x4x128x128, .f32⟩
  | 2 => ⟨S1x512, .f32⟩
  | 3 => ⟨S1x512, .f32⟩
  | 4 => ⟨S16x4x128x128, .f32⟩
  | 5 => ⟨S16x32x512, .f32⟩
  | 6 => ⟨S16x32x4x128, .f32⟩
  | 7 => ⟨S16x32x512, .f32⟩
  | 8 => ⟨S16x32x4x128, .f32⟩
  | 9 => ⟨S16x32x512, .f32⟩
  | 10 => ⟨S16x32x4x128, .f32⟩
  | 11 => ⟨S16x32x512, .f32⟩
  | 12 => ⟨S4x128, .f32⟩
  | 13 => ⟨S4x128, .f32⟩
  | 14 => ⟨S4x128, .f32⟩
  | 15 => ⟨S4x128, .f32⟩
  | 16 => ⟨S16x32x4x128, .f32⟩
  | 17 => ⟨S_, .f32⟩
  | 18 => ⟨S16x32x4x128, .f32⟩
  | 19 => ⟨S16x32x4x128, .f32⟩
  | 20 => ⟨S16x32x4x128, .f32⟩
  | 21 => ⟨S16x32x4x128, .f32⟩
  | 22 => ⟨S16x32x4x128, .i1⟩
  | 23 => ⟨S16x32x4x128, .f32⟩
  | 24 => ⟨S16x32x4x128, .f32⟩
  | 25 => ⟨S16x32x4x128, .f32⟩
  | 26 => ⟨S16x32x4x128, .f32⟩
  | 27 => ⟨S16x32x4x128, .f32⟩
  | 28 => ⟨S16x32x4x128, .f32⟩
  | 29 => ⟨S16x32x4x128, .f32⟩
  | 30 => ⟨S16x32x4x128, .f32⟩
  | 31 => ⟨S16x32x4x128, .f32⟩
  | 32 => ⟨S1x1x4x128, .f32⟩
  | 33 => ⟨S16x32x4x128, .f32⟩
  | 34 => ⟨S16x32x4x128, .f32⟩
  | 35 => ⟨S1x1x4x128, .f32⟩
  | 36 => ⟨S16x32x4x128, .f32⟩
  | 37 => ⟨S16x32x4x128, .f32⟩
  | 38 => ⟨S16x32x4x128, .f32⟩
  | 39 => ⟨S16x32x4x128, .f32⟩
  | 40 => ⟨S16x32x4x128, .i1⟩
  | 41 => ⟨S16x32x4x128, .f32⟩
  | 42 => ⟨S16x32x4x128, .f32⟩
  | 43 => ⟨S16x32x4x128, .f32⟩
  | 44 => ⟨S16x32x4x128, .f32⟩
  | 45 => ⟨S16x32x4x128, .f32⟩
  | 46 => ⟨S16x32x4x128, .f32⟩
  | 47 => ⟨S16x32x4x128, .f32⟩
  | 48 => ⟨S16x32x4x128, .f32⟩
  | 49 => ⟨S16x32x4x128, .f32⟩
  | 50 => ⟨S16x32x4x128, .f32⟩
  | 51 => ⟨S_, .i1⟩
  | 52 => ⟨S32x32, .i1⟩
  | 53 => ⟨S32x32, .i32⟩
  | 54 => ⟨S_, .i32⟩
  | 55 => ⟨S32x32, .i32⟩
  | 56 => ⟨S32x32, .i32⟩
  | 57 => ⟨S32x32, .i32⟩
  | 58 => ⟨S32x32, .i1⟩
  | 59 => ⟨S_, .i1⟩
  | 60 => ⟨S32x32, .i1⟩
  | 61 => ⟨S32x32, .i1⟩
  | 62 => ⟨S32x32, .f32⟩
  | 63 => ⟨S16x4x128x32, .f32⟩
  | 64 => ⟨S16x32x4x128, .f32⟩
  | 65 => ⟨S1x32x32x1x1, .i1⟩
  | 66 => ⟨S16x32x1x4x128, .f32⟩
  | 67 => ⟨S16x1x32x4x128, .f32⟩
  | 68 => ⟨S16x32x32x4x128, .f32⟩
  | 69 => ⟨S16x32x32x4x128, .f32⟩
  | 70 => ⟨S16x32x32x4x128, .f32⟩
  | 71 => ⟨S_, .f32⟩
  | 72 => ⟨S_, .f32⟩
  | 73 => ⟨S16x32x32x4x128, .i1⟩
  | 74 => ⟨S16x32x32x4x128, .f32⟩
  | 75 => ⟨S16x32x32x4x128, .f32⟩
  | 76 => ⟨S16x32x32x4x128, .f32⟩
  | 77 => ⟨S16x32x1x4x128, .f32⟩
  | 78 => ⟨S16x32x32x4x128, .f32⟩
  | 79 => ⟨S16x32x32x4x128, .f32⟩
  | 80 => ⟨S16x1x32x4x128, .f32⟩
  | 81 => ⟨S16x32x32x4x128, .f32⟩
  | 82 => ⟨S16x32x32x4x128, .f32⟩
  | 83 => ⟨S_, .f32⟩
  | 84 => ⟨S16x32x32x4, .f32⟩
  | 85 => ⟨S16x4x128x32, .f32⟩
  | 86 => ⟨S16x32x4x128, .f32⟩
  | 87 => ⟨S16x32x4x128, .f32⟩
  | 88 => ⟨S16x32x4x128, .f32⟩
  | 89 => ⟨S16x4x128x32, .f32⟩
  | 90 => ⟨S16x32x4x128, .f32⟩
  | 91 => ⟨S16x32x4x128, .f32⟩
  | 92 => ⟨S16x1x4x128, .f32⟩
  | 93 => ⟨S16x4x128, .f32⟩
  | 94 => ⟨S16x4x128, .f32⟩
  | 95 => ⟨S16x4x128x1, .f32⟩
  | 96 => ⟨S16x4x128x128, .f32⟩
  | 97 => ⟨S16x4x128x128, .f32⟩
  | 98 => ⟨S16x1x4x128, .f32⟩
  | 99 => ⟨S16x32x4x128, .f32⟩
  | 100 => ⟨S16x32x4x128, .f32⟩
  | 101 => ⟨S16x32x4x128, .f32⟩
  | 102 => ⟨S16x32x4x128, .f32⟩
  | 103 => ⟨S16x4x128x128, .f32⟩
  | 104 => ⟨S16x4x128x128, .f32⟩
  | 105 => ⟨S4x128, .f32⟩
  | 106 => ⟨S16x32x4x128, .f32⟩
  | 107 => ⟨S_, .f32⟩
  | 108 => ⟨S16x32x4, .f32⟩
  | 109 => ⟨S16x32x4x1, .f32⟩
  | 110 => ⟨S_, .f32⟩
  | 111 => ⟨S16x32x4x1, .f32⟩
  | 112 => ⟨S16x32x4x1, .f32⟩
  | 113 => ⟨S_, .f32⟩
  | 114 => ⟨S16x32x4x1, .f32⟩
  | 115 => ⟨S16x32x4x1, .f32⟩
  | 116 => ⟨S16x32x4x1, .f32⟩
  | 117 => ⟨S16x32x4x128, .f32⟩
  | 118 => ⟨S16x32x4x128, .f32⟩
  | 119 => ⟨S1x1x4x128, .f32⟩
  | 120 => ⟨S16x32x4x128, .f32⟩
  | 121 => ⟨S16x32x4x128, .f32⟩
  | 122 => ⟨S16x32x512, .f32⟩
  | 123 => ⟨S16x32x512, .f32⟩
  | 124 => ⟨S16x32x512, .f32⟩
  | 125 => ⟨S_, .f32⟩
  | 126 => ⟨S16x32x512, .f32⟩
  | 127 => ⟨S16x32x512, .f32⟩
  | _ => ⟨S16x32x2048, .f32⟩

abbrev hbmTy0_1 (i : Nat) : BufTy := match i % 128 with
  | 0 => ⟨S_, .f32⟩
  | 1 => ⟨S16x32x512, .f32⟩
  | 2 => ⟨S16x32x512, .f32⟩
  | 3 => ⟨S16x32x512, .f32⟩
  | 4 => ⟨S16x32x512, .f32⟩
  | 5 => ⟨S16x32x512, .bf16⟩
  | 6 => ⟨S16x4x128x128, .f32⟩
  | _ => ⟨S16x32x2048, .f32⟩

abbrev hbmTy (i : Nat) : BufTy := match i / 128 with
  | 0 => hbmTy0_0 i
  | 1 => hbmTy0_1 i
  | _ => ⟨S16x32x2048, .f32⟩

abbrev bufTy : (tb : Table) → Fin (tcTables nBuf tb) → BufTy
  | .hbm, ⟨i, _⟩ => hbmTy i
  | _, _ => ⟨S16x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c : Ref sig .tc := ⟨.hbm, 51, rfl⟩
abbrev main_v32 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_0 : Ref sig .tc := ⟨.hbm, 59, rfl⟩
abbrev main_call1_v5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_0 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_1 : Ref sig .tc := ⟨.hbm, 107, rfl⟩
abbrev main_v74 : Ref sig .tc := ⟨.hbm, 108, rfl⟩
abbrev main_v75 : Ref sig .tc := ⟨.hbm, 109, rfl⟩
abbrev main_cst_2 : Ref sig .tc := ⟨.hbm, 110, rfl⟩
abbrev main_v76 : Ref sig .tc := ⟨.hbm, 111, rfl⟩
abbrev main_v77 : Ref sig .tc := ⟨.hbm, 112, rfl⟩
abbrev main_cst_3 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_call3_v0 : Ref sig .tc := ⟨.hbm, 123, rfl⟩
abbrev main_call3_v1 : Ref sig .tc := ⟨.hbm, 124, rfl⟩
abbrev main_call3_cst : Ref sig .tc := ⟨.hbm, 125, rfl⟩
abbrev main_call3_v2 : Ref sig .tc := ⟨.hbm, 126, rfl⟩
abbrev main_call3_v3 : Ref sig .tc := ⟨.hbm, 127, rfl⟩
abbrev main_call3_cst_0 : Ref sig .tc := ⟨.hbm, 128, rfl⟩
abbrev main_call3_v4 : Ref sig .tc := ⟨.hbm, 129, rfl⟩
abbrev main_call3_v5 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩

abbrev nD : Nat := 1
abbrev τ : Topo := Topo.v7x

variable {F : FTy → Type} [FloatOps F]
-- ==== Proof.Ffn.lean ====
/-
  THE FEED-FORWARD BLOCK: the kernel's result array is the reference's, over the extended reals. Both are read at an
  index and meet in one scalar formula, `cell`: the row's root-mean-square norm, its modulation, the two products with
  the input weights, the gate x · 1/(1 + exp(−x)), the product with the output weight, and the residual sum.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pointwise
public import Idealize.ShloMosaic.Lib.Pipeline.Value
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Ffn

/-- One element of the normed and modulated row `x` (weights `g`, shift `sh`, scale `sc`). -/
def hid (x g sh sc : Fin 1024 → EReal) (l : Fin 1024) : EReal :=
  x l * Ideal.rsqrt (Ideal.div (∑ k, x k * x k) (Ideal.ofBits .f32 0x44800000#32) + Ideal.ofBits .f32 0x358637BD#32)
    * g l * (1 + sc l) + sh l

/-- One element of a row's product with an input weight. -/
def up (h : Fin 1024 → EReal) (w : Fin 1024 → Fin 2048 → EReal) (j : Fin 2048) : EReal := ∑ k, h k * w k j

/-- One element of the block's result: the row plus half the gate times the output product. -/
def cell (x g sh sc gt : Fin 1024 → EReal) (w1 w3 : Fin 1024 → Fin 2048 → EReal) (w2 : Fin 2048 → Fin 1024 → EReal)
    (l : Fin 1024) : EReal :=
  x l + Ideal.ofBits .f32 0x3F000000#32 * gt l
    * ∑ j, up (hid x g sh sc) w1 j * Ideal.div 1 (1 + Ideal.exp (-(up (hid x g sh sc) w1 j))) * up (hid x g sh sc) w3 j
        * w2 j l

end Cert.Ffn

namespace Cert.Kernel3Ideal.Ffn

open Cert.Kernel3Ideal Cert.Kernel3Ideal.Gen Cert.Ffn

/-! ## The payloads at an index -/

theorem pay2_at (v0 : Vec Ideal S1x512x1024 .f32) (v1 : Vec Ideal S1x1024 .f32) (v2 v3 : Vec Ideal S1x1x1024 .f32)
    (r : Fin 512) (l : Fin 1024) : k0_pay2 v0 v1 v2 v3 (ix2 r l)
      = hid (fun k => v0 (ix3 0 r k)) (fun k => v1 (ix2 0 k)) (fun k => v3 (ix3 0 0 k)) (fun k => v2 (ix3 0 0 k)) l := by
  pointwise [k0_pay2]
  rfl

theorem pay3_at (v0 : Vec Ideal S1x512x1024 .f32) (v1 : Vec Ideal S1x1024 .f32) (v2 v3 : Vec Ideal S1x1x1024 .f32)
    (w : Vec Ideal S1024x2048 .bf16) (r : Fin 512) (j : Fin 2048) : k0_pay3 v0 v1 v2 v3 w (ix2 r j)
      = up (hid (fun k => v0 (ix3 0 r k)) (fun k => v1 (ix2 0 k)) (fun k => v3 (ix3 0 0 k)) (fun k => v2 (ix3 0 0 k)))
          (fun k j => w (ix2 k j)) j := by
  pointwise [k0_pay3]
  simp only [pay2_at]
  rfl

theorem pay4_at (v0 : Vec Ideal S1x512x1024 .f32) (v1 : Vec Ideal S1x1024 .f32) (v2 v3 : Vec Ideal S1x1x1024 .f32)
    (w : Vec Ideal S1024x2048 .bf16) (r : Fin 512) (j : Fin 2048) : k0_pay4 v0 v1 v2 v3 w (ix2 r j)
      = up (hid (fun k => v0 (ix3 0 r k)) (fun k => v1 (ix2 0 k)) (fun k => v3 (ix3 0 0 k)) (fun k => v2 (ix3 0 0 k)))
          (fun k j => w (ix2 k j)) j := by
  pointwise [k0_pay4]
  simp only [pay2_at]
  rfl

theorem pay5_at (v0 : Vec Ideal S1x512x1024 .f32) (v1 : Vec Ideal S1x1024 .f32) (v2 v3 : Vec Ideal S1x1x1024 .f32)
    (w : Vec Ideal S1024x2048 .bf16) (r : Fin 512) (j : Fin 2048) :
    k0_pay5 v0 v1 v2 v3 w (ix2 r j) = Ideal.exp (-(k0_pay3 v0 v1 v2 v3 w (ix2 r j))) := by
  pointwise [k0_pay5]
  rw [zero_sub]

theorem pay6_at (r : Fin 512) (j : Fin 2048) : k0_pay6 (F := Ideal) (ix2 r j) = 1 := by
  pointwise [k0_pay6]

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output's staging buffer, at an index. -/
theorem out_at (x0 : Vec Ideal S1x512x1024 .f32) (x1 x2 x3 : Vec Ideal S1x1x1024 .f32) (x4 : Vec Ideal S1x1024 .f32)
    (x5 x6 : Vec Ideal S1024x2048 .bf16) (x7 : Vec Ideal S2048x1024 .bf16) (r : Fin 512) (l : Fin 1024) :
    out0_8 x0 x1 x2 x3 x4 x5 x6 x7 (ix3 0 r l)
      = cell (fun k => x0 (ix3 0 r k)) (fun k => x4 (ix2 0 k)) (fun k => x1 (ix3 0 0 k)) (fun k => x2 (ix3 0 0 k))
          (fun k => x3 (ix3 0 0 k)) (fun k j => x5 (ix2 k j)) (fun k j => x6 (ix2 k j)) (fun j l => x7 (ix2 j l)) l := by
  unfold out0_8
  rw [View.canon_unit_zero hz3]
  have e3 {s : Fin 3 → Nat} {φ : EltTy} (h) (x : Vec Ideal ⟨3, s⟩ φ) : View.ld x (Rect.unit ![0, 0, 0] s h) = x :=
    View.ld_unit_zero (S := ⟨3, s⟩) hz3 h x
  have e2 {s : Fin 2 → Nat} {φ : EltTy} (h) (x : Vec Ideal ⟨2, s⟩ φ) : View.ld x (Rect.unit ![0, 0] s h) = x :=
    View.ld_unit_zero (S := ⟨2, s⟩) hz2 h x
  simp only [r0_0, r0_1, r0_2, r0_3, r0_4, e3, e2]
  pointwise [k0_pay1]
  simp only [pay5_at, pay6_at, pay3_at, pay4_at]
  rfl

/-! ## The blocks at an index -/

variable (m : (ℓ : Loc nD τ sig) → Buf (Elt Ideal) ℓ) (c : Dev nD)

theorem N64 (t : Fin cfg0.N) : t.val < 64 := t.isLt.trans_le N_0.le

/-- Point `t`'s batch number and its row `r`. -/
def bt (t : Fin cfg0.N) : Fin 2 := ⟨t.val / 32, by have := N64 t; omega⟩
def rt (t : Fin cfg0.N) (r : Fin 512) : Fin 16384 := ⟨t.val % 32 * 512 + r.val, by have := r.isLt; omega⟩

theorem idx0 : ∀ t : Fin cfg0.N, win0_0.index t 0 = t.val / 32 ∧ win0_0.index t 1 = t.val % 32 ∧ win0_0.index t 2 = 0 :=
  (by decide +kernel : ∀ t : Fin grid0.N, win0_0.index t 0 = t.val / 32 ∧ win0_0.index t 1 = t.val % 32 ∧ win0_0.index t 2 = 0)
theorem idx1 : ∀ t : Fin cfg0.N, win0_1.index t 0 = t.val / 32 ∧ win0_1.index t 1 = 0 ∧ win0_1.index t 2 = 0 :=
  (by decide +kernel : ∀ t : Fin grid0.N, win0_1.index t 0 = t.val / 32 ∧ win0_1.index t 1 = 0 ∧ win0_1.index t 2 = 0)
theorem idx2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)
theorem idx3 : ∀ t : Fin cfg0.N, win0_3.index t 0 = t.val / 32 ∧ win0_3.index t 1 = 0 ∧ win0_3.index t 2 = 0 :=
  (by decide +kernel : ∀ t : Fin grid0.N, win0_3.index t 0 = t.val / 32 ∧ win0_3.index t 1 = 0 ∧ win0_3.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = t.val / 32 ∧ win0_8.index t 1 = t.val % 32 ∧ win0_8.index t 2 = 0 :=
  (by decide +kernel : ∀ t : Fin grid0.N, win0_8.index t 0 = t.val / 32 ∧ win0_8.index t 1 = t.val % 32 ∧ win0_8.index t 2 = 0)

theorem blk0 (t : Fin cfg0.N) (r : Fin 512) (l : Fin 1024) :
    iblk m c 0 t (ix3 0 r l) = m ((c : Thread nD τ).loc main_arg0) (ix3 (bt t) (rt t r) l) := by
  unfold iblk
  rw [View.read_apply]
  show V m c main_arg0 _ = _
  rw [V_main_arg0]
  congr 1; funext a; apply Fin.ext
  match a with
  | ⟨0, _⟩ => show win0_0.index t 0 * 1 + 1 * 0 = t.val / 32; rw [(idx0 t).1]; omega
  | ⟨1, _⟩ => show win0_0.index t 1 * 512 + 1 * r.val = t.val % 32 * 512 + r.val; rw [(idx0 t).2.1]; omega
  | ⟨2, _⟩ => show win0_0.index t 2 * 1024 + 1 * l.val = l.val; rw [(idx0 t).2.2]; omega

theorem blk1 (t : Fin cfg0.N) (l : Fin 1024) :
    iblk m c 1 t (ix3 0 0 l) = m ((c : Thread nD τ).loc main_arg1) (ix3 (bt t) 0 l) := by
  unfold iblk
  rw [View.read_apply]
  show V m c main_arg1 _ = _
  rw [V_main_arg1]
  congr 1; funext a; apply Fin.ext
  match a with
  | ⟨0, _⟩ => show win0_1.index t 0 * 1 + 1 * 0 = t.val / 32; rw [(idx1 t).1]; omega
  | ⟨1, _⟩ => show win0_1.index t 1 * 1 + 1 * 0 = 0; rw [(idx1 t).2.1]
  | ⟨2, _⟩ => show win0_1.index t 2 * 1024 + 1 * l.val = l.val; rw [(idx1 t).2.2]; omega

theorem blk2 (t : Fin cfg0.N) (l : Fin 1024) :
    iblk m c 2 t (ix3 0 0 l) = m ((c : Thread nD τ).loc main_arg2) (ix3 (bt t) 0 l) := by
  unfold iblk
  rw [View.read_apply]
  show V m c main_arg2 _ = _
  rw [V_main_arg2]
  congr 1; funext a; apply Fin.ext
  match a with
  | ⟨0, _⟩ => show win0_2.index t 0 * 1 + 1 * 0 = t.val / 32; rw [(idx2 t).1]; omega
  | ⟨1, _⟩ => show win0_2.index t 1 * 1 + 1 * 0 = 0; rw [(idx2 t).2.1]
  | ⟨2, _⟩ => show win0_2.index t 2 * 1024 + 1 * l.val = l.val; rw [(idx2 t).2.2]; omega

theorem blk3 (t : Fin cfg0.N) (l : Fin 1024) :
    iblk m c 3 t (ix3 0 0 l) = m ((c : Thread nD τ).loc main_arg3) (ix3 (bt t) 0 l) := by
  unfold iblk
  rw [View.read_apply]
  show V m c main_arg3 _ = _
  rw [V_main_arg3]
  congr 1; funext a; apply Fin.ext
  match a with
  | ⟨0, _⟩ => show win0_3.index t 0 * 1 + 1 * 0 = t.val / 32; rw [(idx3 t).1]; omega
  | ⟨1, _⟩ => show win0_3.index t 1 * 1 + 1 * 0 = 0; rw [(idx3 t).2.1]
  | ⟨2, _⟩ => show win0_3.index t 2 * 1024 + 1 * l.val = l.val; rw [(idx3 t).2.2]; omega

theorem blk4 (t : Fin cfg0.N) (l : Fin 1024) :
    iblk m c 4 t (ix2 0 l) = m ((c : Thread nD τ).loc main_arg4) (ix2 0 l) := by
  unfold iblk
  rw [View.read_apply]
  show V m c main_arg4 _ = _
  rw [V_main_arg4]
  congr 1; funext a; apply Fin.ext
  match a with
  | ⟨0, _⟩ => show win0_4.index t 0 * 1 + 1 * 0 = 0; rw [(idx4 t).1]
  | ⟨1, _⟩ => show win0_4.index t 1 * 1024 + 1 * l.val = l.val; rw [(idx4 t).2]; omega

theorem blk5 (t : Fin cfg0.N) (k : Fin 1024) (j : Fin 2048) :
    iblk m c 5 t (ix2 k j) = m ((c : Thread nD τ).loc main_arg5) (ix2 k j) := by
  unfold iblk
  rw [View.read_apply]
  show V m c main_v0 _ = _
  entry_read
  show m ((c : Thread nD τ).loc main_arg5) _ = _
  congr 1; funext a; apply Fin.ext
  match a with
  | ⟨0, _⟩ => show win0_5.index t 0 * 1024 + 1 * k.val = k.val; rw [(idx5 t).1]; omega
  | ⟨1, _⟩ => show win0_5.index t 1 * 2048 + 1 * j.val = j.val; rw [(idx5 t).2]; omega

theorem blk6 (t : Fin cfg0.N) (k : Fin 1024) (j : Fin 2048) :
    iblk m c 6 t (ix2 k j) = m ((c : Thread nD τ).loc main_arg6) (ix2 k j) := by
  unfold iblk
  rw [View.read_apply]
  show V m c main_v1 _ = _
  entry_read
  show m ((c : Thread nD τ).loc main_arg6) _ = _
  congr 1; funext a; apply Fin.ext
  match a with
  | ⟨0, _⟩ => show win0_6.index t 0 * 1024 + 1 * k.val = k.val; rw [(idx6 t).1]; omega
  | ⟨1, _⟩ => show win0_6.index t 1 * 2048 + 1 * j.val = j.val; rw [(idx6 t).2]; omega

theorem blk7 (t : Fin cfg0.N) (j : Fin 2048) (l : Fin 1024) :
    iblk m c 7 t (ix2 j l) = m ((c : Thread nD τ).loc main_arg7) (ix2 j l) := by
  unfold iblk
  rw [View.read_apply]
  show V m c main_v2 _ = _
  entry_read
  show m ((c : Thread nD τ).loc main_arg7) _ = _
  congr 1; funext a; apply Fin.ext
  match a with
  | ⟨0, _⟩ => show win0_7.index t 0 * 2048 + 1 * j.val = j.val; rw [(idx7 t).1]; omega
  | ⟨1, _⟩ => show win0_7.index t 1 * 1024 + 1 * l.val = l.val; rw [(idx7 t).2]; omega

/-! ## The result array -/

/-- The whole result array as a function of the arguments. -/
def G (i : S2x16384x1024.Idx) : EReal :=
  cell (fun k => m ((c : Thread nD τ).loc main_arg0) (ix3 (i 0) (i 1) k)) (fun k => m ((c : Thread nD τ).loc main_arg4) (ix2 0 k))
    (fun k => m ((c : Thread nD τ).loc main_arg1) (ix3 (i 0) 0 k)) (fun k => m ((c : Thread nD τ).loc main_arg2) (ix3 (i 0) 0 k))
    (fun k => m ((c : Thread nD τ).loc main_arg3) (ix3 (i 0) 0 k)) (fun k j => m ((c : Thread nD τ).loc main_arg5) (ix2 k j))
    (fun k j => m ((c : Thread nD τ).loc main_arg6) (ix2 k j)) (fun j l => m ((c : Thread nD τ).loc main_arg7) (ix2 j l)) (i 2)

theorem emb8 (t : Fin cfg0.N) (r : Fin 512) (l : Fin 1024) :
    ((cfg0.win 8).blk t).view.emb (ix3 0 r l : S1x512x1024.Idx) = (ix3 (bt t) (rt t r) l : S2x16384x1024.Idx) := by
  funext a; apply Fin.ext
  match a with
  | ⟨0, _⟩ => show win0_8.index t 0 * 1 + 1 * 0 = t.val / 32; rw [(idx8 t).1]; omega
  | ⟨1, _⟩ => show win0_8.index t 1 * 512 + 1 * r.val = t.val % 32 * 512 + r.val; rw [(idx8 t).2.1]; omega
  | ⟨2, _⟩ => show win0_8.index t 2 * 1024 + 1 * l.val = l.val; rw [(idx8 t).2.2]; omega

/-- What point `t` writes back is its block of `G`. -/
theorem flushed_eq (t : Fin cfg0.N) :
    (dats m 0 c).flushed 8 t = ((cfg0.win 8).blk t).view.read (Elt Ideal) (G m c) := by
  rw [Value.flushed8]
  show out0_8 _ _ _ _ _ _ _ _ = _
  funext y
  obtain ⟨r, l, rfl⟩ : ∃ (r : Fin 512) (l : Fin 1024), y = (ix3 0 r l : S1x512x1024.Idx) :=
    ⟨y 1, y 2, by funext a; match a with | ⟨0, _⟩ => exact Subsingleton.elim (α := Fin 1) _ _ | ⟨1, _⟩ => rfl | ⟨2, _⟩ => rfl⟩
  rw [View.read_apply, emb8, out_at]
  simp only [blk0, blk1, blk2, blk3, blk4, blk5, blk6, blk7]
  rfl

theorem mem8 (t : Fin cfg0.N) (r : Fin 512) (l : Fin 1024) :
    (ix3 (bt t) (rt t r) l : S2x16384x1024.Idx) ∈ ((cfg0.win 8).blk t).view.set := by
  rw [← emb8]; exact View.emb_mem_set _ _

/-- Every index of the result is in some point's block. -/
theorem cover (i : S2x16384x1024.Idx) :
    ∃ t : Fin cfg0.N, (cfg0.win 8).flush t = true ∧ i ∈ ((cfg0.win 8).blk t).view.set := by
  have h0 : (i 0 : Nat) < 2 := (i 0).isLt
  have h1 : (i 1 : Nat) < 16384 := (i 1).isLt
  have hN : cfg0.N = 64 := N_0
  obtain ⟨t, ht⟩ : ∃ t : Fin cfg0.N, t.val = (i 0 : Nat) * 32 + (i 1 : Nat) / 512 := ⟨⟨_, by omega⟩, rfl⟩
  refine ⟨t, flush0_8 _, ?_⟩
  have e : (ix3 (bt t) (rt t ⟨(i 1 : Nat) % 512, by omega⟩) (i 2) : S2x16384x1024.Idx) = i := by
    funext a; apply Fin.ext
    match a with
    | ⟨0, _⟩ => show t.val / 32 = (i 0 : Nat); omega
    | ⟨1, _⟩ => show t.val % 32 * 512 + (i 1 : Nat) % 512 = (i 1 : Nat); omega
    | ⟨2, _⟩ => rfl
  have h := mem8 t ⟨(i 1 : Nat) % 512, by omega⟩ (i 2)
  rw [e] at h
  exact h

theorem final : (dats m 0 c).arrAt 8 cfg0.N = G m c :=
  (dats m 0 c).arrAt_eq_of_cover 8 (G m c) (fun t _ => flushed_eq m c t) cover

end Cert.Kernel3Ideal.Ffn

namespace Cert.Reference3Ideal.Ffn

open Cert.Reference3Ideal Cert.Reference3Ideal.Gen Cert.Ffn

/-- The reference's result at an index. -/
theorem ref_at (m : (ℓ : Loc nD τ sig) → Buf (Elt Ideal) ℓ) (c : Dev nD) (b : Fin 2) (r : Fin 16384) (l : Fin 1024) :
    (Value.res_out0 m c : S2x16384x1024.Idx → EReal) (ix3 b r l)
      = cell (fun k => m ((c : Thread nD τ).loc main_arg0) (ix3 b r k)) (fun k => m ((c : Thread nD τ).loc main_arg4) (ix2 0 k))
        (fun k => m ((c : Thread nD τ).loc main_arg1) (ix3 b 0 k)) (fun k => m ((c : Thread nD τ).loc main_arg2) (ix3 b 0 k))
        (fun k => m ((c : Thread nD τ).loc main_arg3) (ix3 b 0 k)) (fun k j => m ((c : Thread nD τ).loc main_arg5) (ix2 k j))
        (fun k j => m ((c : Thread nD τ).loc main_arg6) (ix2 k j)) (fun j l => m ((c : Thread nD τ).loc main_arg7) (ix2 j l)) l := by
  pointwise [Value.res_out0, Value.res_main_v29]
  rfl

end Cert.Reference3Ideal.Ffn

namespace Cert.Proof.Ffn

theorem preserves : Cert.preserves_Kernel3_Kernel3Ideal := trivial
theorem frame_k : Cert.quiescent_Kernel3 := fun m ρ _ => Cert.Kernel3.Gen.frame m ρ
theorem frame_ki : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨fun c => Cert.Kernel3Ideal.Ffn.G m c, ?_, ?_⟩
  · exact (θ_run Cert.Kernel3Ideal.defs _ _).mono
      (fun _ h c => ⟨(h c).1.trans (Cert.Kernel3Ideal.Ffn.final m c), (h c).2⟩) (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    obtain ⟨a0, a1, a2, a3, a4, a5, a6, a7⟩ := hagree c
    funext i
    obtain ⟨b, r, l, rfl⟩ : ∃ (b : Fin 2) (r : Fin 16384) (l : Fin 1024), i = ix3 b r l :=
      ⟨i 0, i 1, i 2, by funext a; match a with | ⟨0, _⟩ => rfl | ⟨1, _⟩ => rfl | ⟨2, _⟩ => rfl⟩
    refine (Cert.Reference3Ideal.Ffn.ref_at m' c b r l).trans ?_
    rw [a0, a1, a2, a3, a4, a5, a6, a7]
    rfl

end Cert.Proof.Ffn

end
-- ==== Proof.Merge.lean ====
/-
  THE MERGE OF THE THREE BRANCHES: the kernel's result array is the reference's, over the extended reals. Both are read
  at an index and meet in one scalar formula, `cell`: three gates σ(h·W + b), each times its branch's product, summed,
  multiplied by the output weight, and added to the row times the gate.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pointwise
public import Idealize.ShloMosaic.Lib.Pipeline.Value
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Merge

/-- One branch's term of the merged row at `j`: its gate times its product. -/
def term (h : Fin 1024 → EReal) (y : Fin 512 → EReal) (wg : Fin 1024 → Fin 1024 → EReal) (b : Fin 1024 → EReal)
    (wb : Fin 512 → Fin 1024 → EReal) (j : Fin 1024) : EReal :=
  Ideal.div 1 (1 + Ideal.exp (-(∑ k, h k * wg k j + b j))) * ∑ k, y k * wb k j

/-- One element of the result. -/
def cell (x h : Fin 1024 → EReal) (y0 y1 y2 : Fin 512 → EReal) (gt : Fin 1024 → EReal)
    (wg : Fin 3 → Fin 1024 → Fin 1024 → EReal) (b : Fin 3 → Fin 1024 → EReal) (wb : Fin 3 → Fin 512 → Fin 1024 → EReal)
    (wo : Fin 1024 → Fin 1024 → EReal) (l : Fin 1024) : EReal :=
  x l + gt l * ∑ j, (term h y0 (wg 0) (b 0) (wb 0) j + term h y1 (wg 1) (b 1) (wb 1) j + term h y2 (wg 2) (b 2) (wb 2) j)
    * wo j l

end Cert.Merge

namespace Cert.Kernel4Ideal.Merge

open Cert.Kernel4Ideal Cert.Kernel4Ideal.Gen Cert.Merge

theorem hz3 : (![0, 0, 0] : Fin 3 → Nat) = fun _ => 0 := funext fun a => by fin_cases a <;> rfl

/-- What the body leaves in the output's staging buffer, at an index. -/
theorem out_at (x0 : Vec Ideal S1x512x1024 .f32) (x1 : Vec Ideal S1x512x1024 .bf16) (x2 x3 x4 : Vec Ideal S1x512x512 .bf16)
    (x5 : Vec Ideal S1x1x1024 .f32) (x6 : Vec Ideal S3x1024x1024 .bf16) (x7 : Vec Ideal S3x1x1024 .f32)
    (x8 : Vec Ideal S3x512x1024 .bf16) (x9 : Vec Ideal S1024x1024 .bf16) (r : Fin 512) (l : Fin 1024) :
    out0_10 x0 x1 x2 x3 x4 x5 x6 x7 x8 x9 (ix3 0 r l)
      = cell (fun k => x0 (ix3 0 r k)) (fun k => x1 (ix3 0 r k)) (fun k => x2 (ix3 0 r k)) (fun k => x3 (ix3 0 r k))
          (fun k => x4 (ix3 0 r k)) (fun k => x5 (ix3 0 0 k)) (fun n k l => x6 (ix3 n k l)) (fun n l => x7 (ix3 n 0 l))
          (fun n k l => x8 (ix3 n k l)) (fun k l => x9 (ix2 k l)) l := by
  unfold out0_10
  rw [View.canon_unit_zero hz3]
  pointwise [k0_pay1, k0_pay2, k0_pay3, k0_pay4, k0_pay5, k0_pay6, k0_pay7, k0_pay8, k0_pay9, r0_0, r0_1, r0_2, r0_3,
    r0_4, r0_5, r0_6, r0_7, r0_8, r0_9, r0_10, r0_11, r0_12]
  simp only [zero_sub]
  rfl

variable (m : (ℓ : Loc nD τ sig) → Buf (Elt Ideal) ℓ) (c : Dev nD)

theorem N64 (t : Fin cfg0.N) : t.val < 64 := t.isLt.trans_le N_0.le

/-- Point `t`'s batch number and its row `r`. -/
def bt (t : Fin cfg0.N) : Fin 2 := ⟨t.val / 32, by have := N64 t; omega⟩
def rt (t : Fin cfg0.N) (r : Fin 512) : Fin 16384 := ⟨t.val % 32 * 512 + r.val, by have := r.isLt; omega⟩

/-! ## The windows' blocks at an index -/

theorem idx0 : ∀ t : Fin cfg0.N, win0_0.index t 0 = t.val / 32 ∧ win0_0.index t 1 = t.val % 32 ∧ win0_0.index t 2 = 0 :=
  (by decide +kernel : ∀ t : Fin grid0.N, win0_0.index t 0 = t.val / 32 ∧ win0_0.index t 1 = t.val % 32 ∧ win0_0.index t 2 = 0)

theorem emb0 (t : Fin cfg0.N) (r : Fin 512) (l : Fin 1024) :
    ((cfg0.win 0).blk t).view.emb (ix3 0 r l : S1x512x1024.Idx) = (ix3 (bt t) (rt t r) l : S2x16384x1024.Idx) := by
  funext a; apply Fin.ext
  match a with
  | ⟨0, _⟩ => show win0_0.index t 0 * 1 + 1 * 0 = t.val / 32; rw [(idx0 t).1]; omega
  | ⟨1, _⟩ => show win0_0.index t 1 * 512 + 1 * r.val = t.val % 32 * 512 + r.val; rw [(idx0 t).2.1]; omega
  | ⟨2, _⟩ => show win0_0.index t 2 * 1024 + 1 * l.val = l.val; rw [(idx0 t).2.2]; omega

theorem blk0 (t : Fin cfg0.N) (r : Fin 512) (l : Fin 1024) :
    iblk m c 0 t (ix3 0 r l : S1x512x1024.Idx) = m ((c : Thread nD τ).loc main_arg0) (ix3 (bt t) (rt t r) l) := by
  unfold iblk
  rw [View.read_apply, emb0]
  show V m c main_arg0 _ = _
  rw [V_main_arg0]

theorem idx1 : ∀ t : Fin cfg0.N, win0_1.index t 0 = t.val / 32 ∧ win0_1.index t 1 = t.val % 32 ∧ win0_1.index t 2 = 0 :=
  (by decide +kernel : ∀ t : Fin grid0.N, win0_1.index t 0 = t.val / 32 ∧ win0_1.index t 1 = t.val % 32 ∧ win0_1.index t 2 = 0)

theorem emb1 (t : Fin cfg0.N) (r : Fin 512) (l : Fin 1024) :
    ((cfg0.win 1).blk t).view.emb (ix3 0 r l : S1x512x1024.Idx) = (ix3 (bt t) (rt t r) l : S2x16384x1024.Idx) := by
  funext a; apply Fin.ext
  match a with
  | ⟨0, _⟩ => show win0_1.index t 0 * 1 + 1 * 0 = t.val / 32; rw [(idx1 t).1]; omega
  | ⟨1, _⟩ => show win0_1.index t 1 * 512 + 1 * r.val = t.val % 32 * 512 + r.val; rw [(idx1 t).2.1]; omega
  | ⟨2, _⟩ => show win0_1.index t 2 * 1024 + 1 * l.val = l.val; rw [(idx1 t).2.2]; omega

theorem blk1 (t : Fin cfg0.N) (r : Fin 512) (l : Fin 1024) :
    iblk m c 1 t (ix3 0 r l : S1x512x1024.Idx) = m ((c : Thread nD τ).loc main_arg1) (ix3 (bt t) (rt t r) l) := by
  unfold iblk
  rw [View.read_apply, emb1]
  show V m c main_arg1 _ = _
  rw [V_main_arg1]

theorem idx2 : ∀ t : Fin cfg0.N, win0_2.index t 0 = t.val / 32 ∧ win0_2.index t 1 = t.val % 32 ∧ win0_2.index t 2 = 0 :=
  (by decide +kernel : ∀ t : Fin grid0.N, win0_2.index t 0 = t.val / 32 ∧ win0_2.index t 1 = t.val % 32 ∧ win0_2.index t 2 = 0)

theorem emb2 (t : Fin cfg0.N) (r : Fin 512) (l : Fin 512) :
    ((cfg0.win 2).blk t).view.emb (ix3 0 r l : S1x512x512.Idx) = (ix3 (bt t) (rt t r) l : S2x16384x512.Idx) := by
  funext a; apply Fin.ext
  match a with
  | ⟨0, _⟩ => show win0_2.index t 0 * 1 + 1 * 0 = t.val / 32; rw [(idx2 t).1]; omega
  | ⟨1, _⟩ => show win0_2.index t 1 * 512 + 1 * r.val = t.val % 32 * 512 + r.val; rw [(idx2 t).2.1]; omega
  | ⟨2, _⟩ => show win0_2.index t 2 * 512 + 1 * l.val = l.val; rw [(idx2 t).2.2]; omega

theorem blk2 (t : Fin cfg0.N) (r : Fin 512) (l : Fin 512) :
    iblk m c 2 t (ix3 0 r l : S1x512x512.Idx) = m ((c : Thread nD τ).loc main_arg2) (ix3 (bt t) (rt t r) l) := by
  unfold iblk
  rw [View.read_apply, emb2]
  show V m c main_arg2 _ = _
  rw [V_main_arg2]

theorem idx3 : ∀ t : Fin cfg0.N, win0_3.index t 0 = t.val / 32 ∧ win0_3.index t 1 = t.val % 32 ∧ win0_3.index t 2 = 0 :=
  (by decide +kernel : ∀ t : Fin grid0.N, win0_3.index t 0 = t.val / 32 ∧ win0_3.index t 1 = t.val % 32 ∧ win0_3.index t 2 = 0)

theorem emb3 (t : Fin cfg0.N) (r : Fin 512) (l : Fin 512) :
    ((cfg0.win 3).blk t).view.emb (ix3 0 r l : S1x512x512.Idx) = (ix3 (bt t) (rt t r) l : S2x16384x512.Idx) := by
  funext a; apply Fin.ext
  match a with
  | ⟨0, _⟩ => show win0_3.index t 0 * 1 + 1 * 0 = t.val / 32; rw [(idx3 t).1]; omega
  | ⟨1, _⟩ => show win0_3.index t 1 * 512 + 1 * r.val = t.val % 32 * 512 + r.val; rw [(idx3 t).2.1]; omega
  | ⟨2, _⟩ => show win0_3.index t 2 * 512 + 1 * l.val = l.val; rw [(idx3 t).2.2]; omega

theorem blk3 (t : Fin cfg0.N) (r : Fin 512) (l : Fin 512) :
    iblk m c 3 t (ix3 0 r l : S1x512x512.Idx) = m ((c : Thread nD τ).loc main_arg3) (ix3 (bt t) (rt t r) l) := by
  unfold iblk
  rw [View.read_apply, emb3]
  show V m c main_arg3 _ = _
  rw [V_main_arg3]

theorem idx4 : ∀ t : Fin cfg0.N, win0_4.index t 0 = t.val / 32 ∧ win0_4.index t 1 = t.val % 32 ∧ win0_4.index t 2 = 0 :=
  (by decide +kernel : ∀ t : Fin grid0.N, win0_4.index t 0 = t.val / 32 ∧ win0_4.index t 1 = t.val % 32 ∧ win0_4.index t 2 = 0)

theorem emb4 (t : Fin cfg0.N) (r : Fin 512) (l : Fin 512) :
    ((cfg0.win 4).blk t).view.emb (ix3 0 r l : S1x512x512.Idx) = (ix3 (bt t) (rt t r) l : S2x16384x512.Idx) := by
  funext a; apply Fin.ext
  match a with
  | ⟨0, _⟩ => show win0_4.index t 0 * 1 + 1 * 0 = t.val / 32; rw [(idx4 t).1]; omega
  | ⟨1, _⟩ => show win0_4.index t 1 * 512 + 1 * r.val = t.val % 32 * 512 + r.val; rw [(idx4 t).2.1]; omega
  | ⟨2, _⟩ => show win0_4.index t 2 * 512 + 1 * l.val = l.val; rw [(idx4 t).2.2]; omega

theorem blk4 (t : Fin cfg0.N) (r : Fin 512) (l : Fin 512) :
    iblk m c 4 t (ix3 0 r l : S1x512x512.Idx) = m ((c : Thread nD τ).loc main_arg4) (ix3 (bt t) (rt t r) l) := by
  unfold iblk
  rw [View.read_apply, emb4]
  show V m c main_arg4 _ = _
  rw [V_main_arg4]

theorem idx5 : ∀ t : Fin cfg0.N, win0_5.index t 0 = t.val / 32 ∧ win0_5.index t 1 = 0 ∧ win0_5.index t 2 = 0 :=
  (by decide +kernel : ∀ t : Fin grid0.N, win0_5.index t 0 = t.val / 32 ∧ win0_5.index t 1 = 0 ∧ win0_5.index t 2 = 0)

theorem emb5 (t : Fin cfg0.N) (l : Fin 1024) :
    ((cfg0.win 5).blk t).view.emb (ix3 0 0 l : S1x1x1024.Idx) = (ix3 (bt t) 0 l : S2x1x1024.Idx) := by
  funext a; apply Fin.ext
  match a with
  | ⟨0, _⟩ => show win0_5.index t 0 * 1 + 1 * 0 = t.val / 32; rw [(idx5 t).1]; omega
  | ⟨1, _⟩ => show win0_5.index t 1 * 1 + 1 * 0 = 0; rw [(idx5 t).2.1]
  | ⟨2, _⟩ => show win0_5.index t 2 * 1024 + 1 * l.val = l.val; rw [(idx5 t).2.2]; omega

theorem blk5 (t : Fin cfg0.N) (l : Fin 1024) :
    iblk m c 5 t (ix3 0 0 l : S1x1x1024.Idx) = m ((c : Thread nD τ).loc main_arg5) (ix3 (bt t) 0 l) := by
  unfold iblk
  rw [View.read_apply, emb5]
  show V m c main_arg5 _ = _
  rw [V_main_arg5]

theorem idx6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)

theorem emb6 (t : Fin cfg0.N) (n : Fin 3) (k : Fin 1024) (l : Fin 1024) :
    ((cfg0.win 6).blk t).view.emb (ix3 n k l : S3x1024x1024.Idx) = (ix3 n k l : S3x1024x1024.Idx) := by
  funext a; apply Fin.ext
  match a with
  | ⟨0, _⟩ => show win0_6.index t 0 * 3 + 1 * n.val = n.val; rw [(idx6 t).1]; omega
  | ⟨1, _⟩ => show win0_6.index t 1 * 1024 + 1 * k.val = k.val; rw [(idx6 t).2.1]; omega
  | ⟨2, _⟩ => show win0_6.index t 2 * 1024 + 1 * l.val = l.val; rw [(idx6 t).2.2]; omega

theorem blk6 (t : Fin cfg0.N) (n : Fin 3) (k : Fin 1024) (l : Fin 1024) :
    iblk m c 6 t (ix3 n k l : S3x1024x1024.Idx) = m ((c : Thread nD τ).loc main_arg6) (ix3 n k l) := by
  unfold iblk
  rw [View.read_apply, emb6]
  show V m c main_v0 _ = _
  entry_read
  rfl

theorem idx7 : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)

theorem emb7 (t : Fin cfg0.N) (n : Fin 3) (l : Fin 1024) :
    ((cfg0.win 7).blk t).view.emb (ix3 n 0 l : S3x1x1024.Idx) = (ix3 n 0 l : S3x1x1024.Idx) := by
  funext a; apply Fin.ext
  match a with
  | ⟨0, _⟩ => show win0_7.index t 0 * 3 + 1 * n.val = n.val; rw [(idx7 t).1]; omega
  | ⟨1, _⟩ => show win0_7.index t 1 * 1 + 1 * 0 = 0; rw [(idx7 t).2.1]
  | ⟨2, _⟩ => show win0_7.index t 2 * 1024 + 1 * l.val = l.val; rw [(idx7 t).2.2]; omega

theorem blk7 (t : Fin cfg0.N) (n : Fin 3) (l : Fin 1024) :
    iblk m c 7 t (ix3 n 0 l : S3x1x1024.Idx) = m ((c : Thread nD τ).loc main_arg7) (ix2 n l) := by
  unfold iblk
  rw [View.read_apply, emb7]
  show V m c main_v1 _ = _
  entry_read
  pointwise

theorem idx8 : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)

theorem emb8 (t : Fin cfg0.N) (n : Fin 3) (k : Fin 512) (l : Fin 1024) :
    ((cfg0.win 8).blk t).view.emb (ix3 n k l : S3x512x1024.Idx) = (ix3 n k l : S3x512x1024.Idx) := by
  funext a; apply Fin.ext
  match a with
  | ⟨0, _⟩ => show win0_8.index t 0 * 3 + 1 * n.val = n.val; rw [(idx8 t).1]; omega
  | ⟨1, _⟩ => show win0_8.index t 1 * 512 + 1 * k.val = k.val; rw [(idx8 t).2.1]; omega
  | ⟨2, _⟩ => show win0_8.index t 2 * 1024 + 1 * l.val = l.val; rw [(idx8 t).2.2]; omega

theorem blk8 (t : Fin cfg0.N) (n : Fin 3) (k : Fin 512) (l : Fin 1024) :
    iblk m c 8 t (ix3 n k l : S3x512x1024.Idx) = m ((c : Thread nD τ).loc main_arg8) (ix3 n k l) := by
  unfold iblk
  rw [View.read_apply, emb8]
  show V m c main_v2 _ = _
  entry_read
  rfl

theorem idx9 : ∀ t : Fin cfg0.N, win0_9.index t 0 = 0 ∧ win0_9.index t 1 = 0 :=
  (by decide +kernel : ∀ t : Fin grid0.N, win0_9.index t 0 = 0 ∧ win0_9.index t 1 = 0)

theorem emb9 (t : Fin cfg0.N) (k : Fin 1024) (l : Fin 1024) :
    ((cfg0.win 9).blk t).view.emb (ix2 k l : S1024x1024.Idx) = (ix2 k l : S1024x1024.Idx) := by
  funext a; apply Fin.ext
  match a with
  | ⟨0, _⟩ => show win0_9.index t 0 * 1024 + 1 * k.val = k.val; rw [(idx9 t).1]; omega
  | ⟨1, _⟩ => show win0_9.index t 1 * 1024 + 1 * l.val = l.val; rw [(idx9 t).2]; omega

theorem blk9 (t : Fin cfg0.N) (k : Fin 1024) (l : Fin 1024) :
    iblk m c 9 t (ix2 k l : S1024x1024.Idx) = m ((c : Thread nD τ).loc main_arg9) (ix2 k l) := by
  unfold iblk
  rw [View.read_apply, emb9]
  show V m c main_v3 _ = _
  entry_read
  rfl

theorem idx10 : ∀ t : Fin cfg0.N, win0_10.index t 0 = t.val / 32 ∧ win0_10.index t 1 = t.val % 32 ∧ win0_10.index t 2 = 0 :=
  (by decide +kernel : ∀ t : Fin grid0.N, win0_10.index t 0 = t.val / 32 ∧ win0_10.index t 1 = t.val % 32 ∧ win0_10.index t 2 = 0)

theorem emb10 (t : Fin cfg0.N) (r : Fin 512) (l : Fin 1024) :
    ((cfg0.win 10).blk t).view.emb (ix3 0 r l : S1x512x1024.Idx) = (ix3 (bt t) (rt t r) l : S2x16384x1024.Idx) := by
  funext a; apply Fin.ext
  match a with
  | ⟨0, _⟩ => show win0_10.index t 0 * 1 + 1 * 0 = t.val / 32; rw [(idx10 t).1]; omega
  | ⟨1, _⟩ => show win0_10.index t 1 * 512 + 1 * r.val = t.val % 32 * 512 + r.val; rw [(idx10 t).2.1]; omega
  | ⟨2, _⟩ => show win0_10.index t 2 * 1024 + 1 * l.val = l.val; rw [(idx10 t).2.2]; omega

theorem mem10 (t : Fin cfg0.N) (r : Fin 512) (l : Fin 1024) :
    (ix3 (bt t) (rt t r) l : S2x16384x1024.Idx) ∈ ((cfg0.win 10).blk t).view.set := by
  rw [← emb10]; exact View.emb_mem_set _ _

/-! ## The result array -/

/-- The whole result array as a function of the arguments. -/
def G (i : S2x16384x1024.Idx) : EReal :=
  cell (fun k => m ((c : Thread nD τ).loc main_arg0) (ix3 (i 0) (i 1) k)) (fun k => m ((c : Thread nD τ).loc main_arg1) (ix3 (i 0) (i 1) k)) (fun k => m ((c : Thread nD τ).loc main_arg2) (ix3 (i 0) (i 1) k)) (fun k => m ((c : Thread nD τ).loc main_arg3) (ix3 (i 0) (i 1) k)) (fun k => m ((c : Thread nD τ).loc main_arg4) (ix3 (i 0) (i 1) k))
    (fun k => m ((c : Thread nD τ).loc main_arg5) (ix3 (i 0) 0 k)) (fun n k l => m ((c : Thread nD τ).loc main_arg6) (ix3 n k l))
    (fun n l => m ((c : Thread nD τ).loc main_arg7) (ix2 n l)) (fun n k l => m ((c : Thread nD τ).loc main_arg8) (ix3 n k l))
    (fun k l => m ((c : Thread nD τ).loc main_arg9) (ix2 k l)) (i 2)

/-- What point `t` writes back is its block of `G`. -/
theorem flushed_eq (t : Fin cfg0.N) :
    (dats m 0 c).flushed 10 t = ((cfg0.win 10).blk t).view.read (Elt Ideal) (G m c) := by
  rw [Value.flushed10]
  show out0_10 _ _ _ _ _ _ _ _ _ _ = _
  funext y
  obtain ⟨r, l, rfl⟩ : ∃ (r : Fin 512) (l : Fin 1024), y = (ix3 0 r l : S1x512x1024.Idx) :=
    ⟨y 1, y 2, by funext a; match a with | ⟨0, _⟩ => exact Subsingleton.elim (α := Fin 1) _ _ | ⟨1, _⟩ => rfl | ⟨2, _⟩ => rfl⟩
  rw [View.read_apply, emb10, out_at]
  simp only [blk0, blk1, blk2, blk3, blk4, blk5, blk6, blk7, blk8, blk9]
  rfl

/-- Every index of the array is in some point's block. -/
theorem cover10 (i : S2x16384x1024.Idx) :
    ∃ t : Fin cfg0.N, (cfg0.win 10).flush t = true ∧ i ∈ ((cfg0.win 10).blk t).view.set := by
  have h0 : (i 0 : Nat) < 2 := (i 0).isLt
  have h1 : (i 1 : Nat) < 16384 := (i 1).isLt
  have hN : cfg0.N = 64 := N_0
  obtain ⟨t, ht⟩ : ∃ t : Fin cfg0.N, t.val = (i 0 : Nat) * 32 + (i 1 : Nat) / 512 := ⟨⟨_, by omega⟩, rfl⟩
  refine ⟨t, flush0_10 _, ?_⟩
  have e : (ix3 (bt t) (rt t ⟨(i 1 : Nat) % 512, by omega⟩) (i 2) : S2x16384x1024.Idx) = i := by
    funext a; apply Fin.ext
    match a with
    | ⟨0, _⟩ => show t.val / 32 = (i 0 : Nat); omega
    | ⟨1, _⟩ => show t.val % 32 * 512 + (i 1 : Nat) % 512 = (i 1 : Nat); omega
    | ⟨2, _⟩ => rfl
  have h := mem10 t ⟨(i 1 : Nat) % 512, by omega⟩ (i 2)
  rw [e] at h
  exact h

theorem final : (dats m 0 c).arrAt 10 cfg0.N = G m c :=
  (dats m 0 c).arrAt_eq_of_cover 10 (G m c) (fun t _ => flushed_eq m c t) cover10

end Cert.Kernel4Ideal.Merge

namespace Cert.Proof.Merge

open Cert.Merge

theorem preserves : Cert.preserves_Kernel4_Kernel4Ideal := trivial
theorem frame_k : Cert.quiescent_Kernel4 := fun m ρ _ => Cert.Kernel4.Gen.frame m ρ
theorem frame_ki : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem algebraic : Cert.algebraic_Kernel4Ideal_Reference4Ideal := by
  intro m ρ m' ρ' _ hagree
  refine ⟨fun c => Cert.Kernel4Ideal.Merge.G m c, ?_, ?_⟩
  · exact (θ_run Cert.Kernel4Ideal.defs _ _).mono
      (fun _ h c => ⟨(h c).1.trans (Cert.Kernel4Ideal.Merge.final m c), (h c).2⟩) (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    obtain ⟨a0, a1, a2, a3, a4, a5, a6, a7, a8, a9⟩ := hagree c
    funext i
    obtain ⟨b, r, l, rfl⟩ : ∃ (b : Fin 2) (r : Fin 16384) (l : Fin 1024), i = ix3 b r l :=
      ⟨i 0, i 1, i 2, by funext a; match a with | ⟨0, _⟩ => rfl | ⟨1, _⟩ => rfl | ⟨2, _⟩ => rfl⟩
    rw [a0, a1, a2, a3, a4, a5, a6, a7, a8, a9]
    pointwise
    rfl

end Cert.Proof.Merge

end
-- ==== Proof.Proj.lean ====
/-
  THE COMBINED PROJECTION: each of the kernel's ten result arrays is the reference's, over the extended reals. Both are
  read at an index and meet in four scalar formulas: the normed and modulated row (`Ffn.hid`), its product with a column
  of the weight (`lin`), a head's root-mean-square norm of 128 such products (`head`), and the gates' product.
-/
module

public import proofs.«01_k».proof.Defs
public import proofs.«01_k».proof.Proof.Ffn
public import proofs.«01_k».proof.Proof.Gen.Kernel5.Frame
public import proofs.«01_k».proof.Proof.Gen.Kernel5Ideal.Value
public import proofs.«01_k».proof.Proof.Gen.Reference5Ideal.Run
public import Idealize.ShloMosaic.Lib.Pointwise
public import Idealize.ShloMosaic.Lib.Pipeline.Value
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proj

open Cert.Ffn (hid)

/-- A row's product with one column. -/
def lin (h w : Fin 1024 → EReal) : EReal := ∑ k, h k * w k

/-- One element of a head of 128 products, normed: `p` the products, `g` the norm's weight. -/
def head (p g : Fin 128 → EReal) (l : Fin 128) : EReal :=
  p l * Ideal.rsqrt (Ideal.div (∑ j, p j * p j) (Ideal.ofBits .f32 0x43000000#32) + Ideal.ofBits .f32 0x358637BD#32) * g l

end Cert.Proj

namespace Cert.Kernel5Ideal.Proj

open Cert.Kernel5Ideal Cert.Kernel5Ideal.Gen Cert.Proj Cert.Ffn

/-! ## The payloads at an index -/

theorem pay3_at (v0 : Vec Ideal S1x512x1024 .f32) (v1 : Vec Ideal S1x1024 .f32) (v2 v3 : Vec Ideal S1x1x1024 .f32)
    (r : Fin 512) (l : Fin 1024) : k0_pay3 v0 v1 v2 v3 (ix3 0 r l)
      = hid (fun k => v0 (ix3 0 r k)) (fun k => v1 (ix2 0 k)) (fun k => v3 (ix3 0 0 k)) (fun k => v2 (ix3 0 0 k)) l := by
  pointwise [k0_pay3]
  rfl

theorem pay4_at (v0 : Vec Ideal S1x512x1024 .f32) (v1 : Vec Ideal S1x1024 .f32) (v2 v3 : Vec Ideal S1x1x1024 .f32)
    (r : Fin 512) (l : Fin 1024) : k0_pay4 v0 v1 v2 v3 (ix2 r l)
      = hid (fun k => v0 (ix3 0 r k)) (fun k => v1 (ix2 0 k)) (fun k => v3 (ix3 0 0 k)) (fun k => v2 (ix3 0 0 k)) l := by
  pointwise [k0_pay4]
  exact pay3_at v0 v1 v2 v3 r l

section Heads

variable (h : FVec Ideal S512x1024 .bf16) (w : Vec Ideal S1024x128 .bf16) (g : Vec Ideal S1x128 .f32) (r : Fin 512) (l : Fin 128)

/-- The head of row `r`. -/
abbrev hd : EReal := head (fun j => lin (fun k => h (ix2 r k)) (fun k => w (ix2 k j))) (fun j => g (ix2 0 j)) l

theorem q0_at : k0_pay7 h w g (ix3 0 r l) = hd h w g r l := by
  pointwise [k0_pay7]
  rfl

theorem q1_at : k0_pay11 (k0_pay10 h w g) (ix3 0 r l) = hd h w g r l := by
  pointwise [k0_pay11, k0_pay10]
  rfl

theorem q2_at : k0_pay18 (k0_pay14 h w g) (ix3 0 r l) = hd h w g r l := by
  pointwise [k0_pay18, k0_pay14]
  rfl

theorem q3_at : k0_pay23 (k0_pay21 h w g) (ix3 0 r l) = hd h w g r l := by
  pointwise [k0_pay23, k0_pay21]
  rfl

theorem k0_at : k0_pay6 h w g (ix3 0 r l) = hd h w g r l := by
  pointwise [k0_pay6]
  rfl

theorem k1_at : k0_pay9 h w g (ix3 0 r l) = hd h w g r l := by
  pointwise [k0_pay9]
  rfl

theorem k2_at : k0_pay17 (k0_pay13 h w) (k0_pay15 g) (k0_pay16 h w) (Scalar.ofBits .f32 0x358637BD#32) (ix3 0 r l) = hd h w g r l := by
  pointwise [k0_pay17, k0_pay13, k0_pay15, k0_pay16]
  rfl

theorem k3_at : k0_pay22 (k0_pay20 h w) g (ix3 0 r l) = hd h w g r l := by
  pointwise [k0_pay22, k0_pay20]
  rfl

theorem b0_at : k0_pay8 (k0_pay6 h w g) (ix3 0 r l) = hd h w g r l := by
  pointwise [k0_pay8, k0_pay6]
  rfl

theorem b1_at : k0_pay12 (k0_pay9 h w g) (ix3 0 r l) = hd h w g r l := by
  pointwise [k0_pay12, k0_pay9]
  rfl

theorem b2_at : k0_pay19 (k0_pay13 h w) (k0_pay15 g) (k0_pay16 h w) (Scalar.ofBits .f32 0x358637BD#32) (ix3 0 r l) = hd h w g r l := by
  pointwise [k0_pay19, k0_pay17, k0_pay13, k0_pay15, k0_pay16]
  rfl

theorem b3_at : k0_pay24 (k0_pay20 h w) g (ix3 0 r l) = hd h w g r l := by
  pointwise [k0_pay24, k0_pay22, k0_pay20]
  rfl

end Heads

theorem pay5_at (v0 : Vec Ideal S1x512x1024 .f32) (v1 : Vec Ideal S1x1024 .f32) (v2 v3 : Vec Ideal S1x1x1024 .f32)
    (w : Vec Ideal S1024x2048 .bf16) (r : Fin 512) (j : Fin 2048) : k0_pay5 v0 v1 v2 v3 w (ix3 0 r j)
      = lin (fun k => k0_pay4 v0 v1 v2 v3 (ix2 r k)) (fun k => w (ix2 k j)) := by
  pointwise [k0_pay5]
  rfl

theorem pay27_at (h : FVec Ideal S512x1024 .bf16) (w : Vec Ideal S1024x2048 .bf16) (r : Fin 512) (j : Fin 2048) :
    k0_pay27 h w (ix3 0 r j) = lin (fun k => h (ix2 r k)) (fun k => w (ix2 k j)) := by
  pointwise [k0_pay27]
  rfl

theorem pay25_at (h : FVec Ideal S512x1024 .bf16) (w : Vec Ideal S1024x512 .bf16) (r : Fin 512) (j : Fin 512) :
    k0_pay25 h w (ix3 0 r j) = lin (fun k => h (ix2 r k)) (fun k => w (ix2 k j)) := by
  pointwise [k0_pay25]
  rfl

theorem pay26_at (h : FVec Ideal S512x1024 .bf16) (w : Vec Ideal S1024x512 .bf16) (r : Fin 512) (j : Fin 512) :
    k0_pay26 h w (ix3 0 r j) = lin (fun k => h (ix2 r k)) (fun k => w (ix2 k j)) := by
  pointwise [k0_pay26, k0_pay25]
  rfl

theorem pay1_at (h : FVec Ideal S512x1024 .bf16) (w : Vec Ideal S1024x8 .bf16) (r : Fin 512) (j : Fin 8) :
    k0_pay1 h w (ix3 0 r j) = lin (fun k => h (ix2 r k)) (fun k => w (ix2 k j)) := by
  pointwise [k0_pay1]
  rfl

theorem pay2_at (h : FVec Ideal S1x512x1024 .bf16) (w : Vec Ideal S8x1024 .bf16) (r : Fin 512) (j : Fin 8) :
    k0_pay2 h w (ix3 0 j r) = lin (fun k => h (ix3 0 r k)) (fun k => w (ix2 j k)) := by
  pointwise [k0_pay2]
  unfold lin
  simp only [mul_comm]

theorem hz3 : (![0, 0, 0] : Fin 3 → Nat) = fun _ => 0 := funext fun a => by fin_cases a <;> rfl

/-! ## What the body leaves in each output's staging buffer, at an index -/

section Outs

variable (x0 : Vec Ideal S1x512x1024 .f32) (x1 x2 : Vec Ideal S1x1x1024 .f32) (x3 : Vec Ideal S1x1024 .f32)
  (x4 : Vec Ideal S1024x5632 .bf16) (x5 : Vec Ideal S1024x8 .bf16) (x6 : Vec Ideal S8x1024 .bf16) (x7 x8 : Vec Ideal S1x128 .f32)
  (r : Fin 512)

/-- The normed and modulated row `r` of the blocks. -/
abbrev hrow : Fin 1024 → EReal :=
  hid (fun k => x0 (ix3 0 r k)) (fun k => x3 (ix2 0 k)) (fun k => x1 (ix3 0 0 k)) (fun k => x2 (ix3 0 0 k))

theorem h28_at (k : Fin 1024) : k0_pay28 x0 x1 x2 x3 x4 x5 x6 x7 x8 (ix2 r k) = hrow x0 x1 x2 x3 r k := by
  unfold k0_pay28
  rw [pay4_at]
  pointwise [r0_0, r0_1, r0_2]

theorem out9_at (l : Fin 1024) : out0_9 x0 x1 x2 x3 x4 x5 x6 x7 x8 (ix3 0 r l) = hrow x0 x1 x2 x3 r l := by
  unfold out0_9
  rw [View.canon_unit_zero hz3, pay3_at]
  pointwise [r0_0, r0_1, r0_2]

theorem out10_at (j : Fin 2048) : out0_10 x0 x1 x2 x3 x4 x5 x6 x7 x8 (ix3 0 r j)
    = lin (hrow x0 x1 x2 x3 r) (fun k => x4 (ix2 k ⟨j.val, by omega⟩)) := by
  unfold out0_10
  rw [View.canon_unit_zero hz3, pay5_at]
  simp only [pay4_at]
  pointwise [r0_0, r0_1, r0_2, r0_3]

theorem out11_at (j : Fin 2048) : out0_11 x0 x1 x2 x3 x4 x5 x6 x7 x8 (ix3 0 r j)
    = lin (hrow x0 x1 x2 x3 r) (fun k => x4 (ix2 k ⟨3584 + j.val, by omega⟩)) := by
  unfold out0_11
  rw [View.canon_unit_zero hz3, pay27_at]
  simp only [h28_at]
  pointwise [r0_20]

theorem out14_at (j : Fin 512) : out0_14 x0 x1 x2 x3 x4 x5 x6 x7 x8 (ix3 0 r j)
    = lin (hrow x0 x1 x2 x3 r) (fun k => x4 (ix2 k ⟨3072 + j.val, by omega⟩)) := by
  unfold out0_14
  rw [View.canon_unit_zero hz3, pay25_at]
  simp only [h28_at]
  pointwise [r0_18]

theorem out16_at (j : Fin 512) : out0_16 x0 x1 x2 x3 x4 x5 x6 x7 x8 (ix3 0 r j)
    = lin (hrow x0 x1 x2 x3 r) (fun k => x4 (ix2 k ⟨3072 + j.val, by omega⟩)) := by
  unfold out0_16
  rw [View.canon_unit_zero hz3, pay26_at]
  simp only [h28_at]
  pointwise [r0_18]

theorem out17_at (j : Fin 8) : out0_17 x0 x1 x2 x3 x4 x5 x6 x7 x8 (ix3 0 r j)
    = lin (hrow x0 x1 x2 x3 r) (fun k => x5 (ix2 k j)) := by
  unfold out0_17
  rw [View.canon_unit_zero hz3, pay1_at]
  simp only [h28_at]
  pointwise [r0_21]

theorem out18_at (j : Fin 8) : out0_18 x0 x1 x2 x3 x4 x5 x6 x7 x8 (ix3 0 j r)
    = lin (hrow x0 x1 x2 x3 r) (fun k => x6 (ix2 j k)) := by
  unfold out0_18
  rw [View.canon_unit_zero hz3, pay2_at]
  simp only [pay3_at]
  pointwise [r0_0, r0_1, r0_2, r0_23]

/-- The heads of row `r`, whose columns start at `off`: element `l` of the 512, in head `l / 128`. -/
abbrev heads (off : Nat) (hoff : off ≤ 5120) (g : Vec Ideal S1x128 .f32) (y : S1x512x512.Idx) : EReal :=
  head (fun j => lin (hrow x0 x1 x2 x3 (y 1)) (fun k => x4 (ix2 k ⟨off + (y 2).val / 128 * 128 + j.val, by
      have h2 : (y 2).val < 512 := (y 2).isLt
      have := j.isLt; omega⟩)))
    (fun j => g (ix2 0 j)) ⟨(y 2).val % 128, Nat.mod_lt _ (by decide)⟩

theorem hd_eq_heads (off n : Nat) (hoff : off ≤ 5120) (hn : n < 4) (g : Vec Ideal S1x128 .f32) (W : Vec Ideal S1024x128 .bf16)
    (l : Fin 128) (hW : ∀ k j, W (ix2 k j) = x4 (ix2 k ⟨off + n * 128 + j.val, by have := j.isLt; omega⟩)) (y : S1x512x512.Idx)
    (h1 : y 1 = r) (h2 : (y 2).val = n * 128 + l.val) :
    hd (k0_pay28 x0 x1 x2 x3 x4 x5 x6 x7 x8) W (View.ld g r0_7) r l = heads x0 x1 x2 x3 x4 off hoff g y := by
  have hl := l.isLt
  have e1 : (y 2).val / 128 = n := by omega
  have e2 : (⟨(y 2).val % 128, Nat.mod_lt _ (by decide)⟩ : Fin 128) = l := Fin.ext (by show (y 2).val % 128 = l.val; omega)
  unfold hd heads
  simp only [h28_at, hW, e1, e2, h1]
  pointwise [r0_7]

theorem exists_row (x : S1x512x128.Idx) : ∃ (r : Fin 512) (l : Fin 128), x = ix3 0 r l :=
  ⟨x 1, x 2, by
    funext a
    match a with
    | ⟨0, _⟩ => exact Subsingleton.elim (α := Fin 1) _ _
    | ⟨1, _⟩ => rfl
    | ⟨2, _⟩ => rfl⟩

theorem out12_at (y : S1x512x512.Idx) : out0_12 x0 x1 x2 x3 x4 x5 x6 x7 x8 y = heads x0 x1 x2 x3 x4 2048 (by decide) x7 y := by
  unfold out0_12
  refine View.canon_apply_of_pieces _ _ ?_ y (cover0_12 _ _ _ _ y)
  simp only [List.forall_mem_cons, List.forall_mem_nil, List.not_mem_nil, false_imp_iff, implies_true, and_true]
  refine ⟨fun x => ?_, fun x => ?_, fun x => ?_, fun x => ?_⟩
  · obtain ⟨r, l, rfl⟩ := exists_row x
    rw [q3_at]
    exact hd_eq_heads x0 x1 x2 x3 x4 x5 x6 x7 x8 r 2048 3 (by decide) (by decide) x7 _ l (fun k j => by pointwise [r0_15]) _
      (Fin.ext (by show 0 + 1 * r.val = r.val; omega)) (by show 384 + 1 * l.val = 3 * 128 + l.val; omega)
  · obtain ⟨r, l, rfl⟩ := exists_row x
    rw [q2_at]
    exact hd_eq_heads x0 x1 x2 x3 x4 x5 x6 x7 x8 r 2048 2 (by decide) (by decide) x7 _ l (fun k j => by pointwise [r0_12]) _
      (Fin.ext (by show 0 + 1 * r.val = r.val; omega)) (by show 256 + 1 * l.val = 2 * 128 + l.val; omega)
  · obtain ⟨r, l, rfl⟩ := exists_row x
    rw [q1_at]
    exact hd_eq_heads x0 x1 x2 x3 x4 x5 x6 x7 x8 r 2048 1 (by decide) (by decide) x7 _ l (fun k j => by pointwise [r0_9]) _
      (Fin.ext (by show 0 + 1 * r.val = r.val; omega)) (by show 128 + 1 * l.val = 1 * 128 + l.val; omega)
  · obtain ⟨r, l, rfl⟩ := exists_row x
    rw [q0_at]
    exact hd_eq_heads x0 x1 x2 x3 x4 x5 x6 x7 x8 r 2048 0 (by decide) (by decide) x7 _ l (fun k j => by pointwise [r0_5]) _
      (Fin.ext (by show 0 + 1 * r.val = r.val; omega)) (by show 0 + 1 * l.val = 0 * 128 + l.val; omega)

theorem out13_at (y : S1x512x512.Idx) : out0_13 x0 x1 x2 x3 x4 x5 x6 x7 x8 y = heads x0 x1 x2 x3 x4 2560 (by decide) x8 y := by
  unfold out0_13
  refine View.canon_apply_of_pieces _ _ ?_ y (cover0_13 _ _ _ _ y)
  simp only [List.forall_mem_cons, List.forall_mem_nil, List.not_mem_nil, false_imp_iff, implies_true, and_true]
  refine ⟨fun x => ?_, fun x => ?_, fun x => ?_, fun x => ?_⟩
  · obtain ⟨r, l, rfl⟩ := exists_row x
    unfold k0_pay34
    rw [k3_at]
    exact hd_eq_heads x0 x1 x2 x3 x4 x5 x6 x7 x8 r 2560 3 (by decide) (by decide) x8 _ l (fun k j => by pointwise [r0_16]) _
      (Fin.ext (by show 0 + 1 * r.val = r.val; omega)) (by show 384 + 1 * l.val = 3 * 128 + l.val; omega)
  · obtain ⟨r, l, rfl⟩ := exists_row x
    unfold k0_pay31 k0_pay32 k0_pay33
    rw [k2_at]
    exact hd_eq_heads x0 x1 x2 x3 x4 x5 x6 x7 x8 r 2560 2 (by decide) (by decide) x8 _ l (fun k j => by pointwise [r0_13]) _
      (Fin.ext (by show 0 + 1 * r.val = r.val; omega)) (by show 256 + 1 * l.val = 2 * 128 + l.val; omega)
  · obtain ⟨r, l, rfl⟩ := exists_row x
    unfold k0_pay30
    rw [k1_at]
    exact hd_eq_heads x0 x1 x2 x3 x4 x5 x6 x7 x8 r 2560 1 (by decide) (by decide) x8 _ l (fun k j => by pointwise [r0_10]) _
      (Fin.ext (by show 0 + 1 * r.val = r.val; omega)) (by show 128 + 1 * l.val = 1 * 128 + l.val; omega)
  · obtain ⟨r, l, rfl⟩ := exists_row x
    unfold k0_pay29
    rw [k0_at]
    exact hd_eq_heads x0 x1 x2 x3 x4 x5 x6 x7 x8 r 2560 0 (by decide) (by decide) x8 _ l (fun k j => by pointwise [r0_6]) _
      (Fin.ext (by show 0 + 1 * r.val = r.val; omega)) (by show 0 + 1 * l.val = 0 * 128 + l.val; omega)

theorem out15_at (y : S1x512x512.Idx) : out0_15 x0 x1 x2 x3 x4 x5 x6 x7 x8 y = heads x0 x1 x2 x3 x4 2560 (by decide) x8 y := by
  unfold out0_15
  refine View.canon_apply_of_pieces _ _ ?_ y (cover0_15 _ _ _ _ y)
  simp only [List.forall_mem_cons, List.forall_mem_nil, List.not_mem_nil, false_imp_iff, implies_true, and_true]
  refine ⟨fun x => ?_, fun x => ?_, fun x => ?_, fun x => ?_⟩
  · obtain ⟨r, l, rfl⟩ := exists_row x
    unfold k0_pay34
    rw [b3_at]
    exact hd_eq_heads x0 x1 x2 x3 x4 x5 x6 x7 x8 r 2560 3 (by decide) (by decide) x8 _ l (fun k j => by pointwise [r0_16]) _
      (Fin.ext (by show 0 + 1 * r.val = r.val; omega)) (by show 384 + 1 * l.val = 3 * 128 + l.val; omega)
  · obtain ⟨r, l, rfl⟩ := exists_row x
    unfold k0_pay31 k0_pay32 k0_pay33
    rw [b2_at]
    exact hd_eq_heads x0 x1 x2 x3 x4 x5 x6 x7 x8 r 2560 2 (by decide) (by decide) x8 _ l (fun k j => by pointwise [r0_13]) _
      (Fin.ext (by show 0 + 1 * r.val = r.val; omega)) (by show 256 + 1 * l.val = 2 * 128 + l.val; omega)
  · obtain ⟨r, l, rfl⟩ := exists_row x
    unfold k0_pay30
    rw [b1_at]
    exact hd_eq_heads x0 x1 x2 x3 x4 x5 x6 x7 x8 r 2560 1 (by decide) (by decide) x8 _ l (fun k j => by pointwise [r0_10]) _
      (Fin.ext (by show 0 + 1 * r.val = r.val; omega)) (by show 128 + 1 * l.val = 1 * 128 + l.val; omega)
  · obtain ⟨r, l, rfl⟩ := exists_row x
    unfold k0_pay29
    rw [b0_at]
    exact hd_eq_heads x0 x1 x2 x3 x4 x5 x6 x7 x8 r 2560 0 (by decide) (by decide) x8 _ l (fun k j => by pointwise [r0_6]) _
      (Fin.ext (by show 0 + 1 * r.val = r.val; omega)) (by show 0 + 1 * l.val = 0 * 128 + l.val; omega)

theorem out12_ix (l : Fin 512) : out0_12 x0 x1 x2 x3 x4 x5 x6 x7 x8 (ix3 0 r l)
    = head (fun j => lin (hrow x0 x1 x2 x3 r) (fun k => x4 (ix2 k ⟨2048 + l.val / 128 * 128 + j.val, by have := l.isLt; have := j.isLt; omega⟩)))
        (fun j => x7 (ix2 0 j)) ⟨l.val % 128, Nat.mod_lt _ (by decide)⟩ :=
  out12_at x0 x1 x2 x3 x4 x5 x6 x7 x8 (ix3 0 r l)

theorem out13_ix (l : Fin 512) : out0_13 x0 x1 x2 x3 x4 x5 x6 x7 x8 (ix3 0 r l)
    = head (fun j => lin (hrow x0 x1 x2 x3 r) (fun k => x4 (ix2 k ⟨2560 + l.val / 128 * 128 + j.val, by have := l.isLt; have := j.isLt; omega⟩)))
        (fun j => x8 (ix2 0 j)) ⟨l.val % 128, Nat.mod_lt _ (by decide)⟩ :=
  out13_at x0 x1 x2 x3 x4 x5 x6 x7 x8 (ix3 0 r l)

theorem out15_ix (l : Fin 512) : out0_15 x0 x1 x2 x3 x4 x5 x6 x7 x8 (ix3 0 r l)
    = head (fun j => lin (hrow x0 x1 x2 x3 r) (fun k => x4 (ix2 k ⟨2560 + l.val / 128 * 128 + j.val, by have := l.isLt; have := j.isLt; omega⟩)))
        (fun j => x8 (ix2 0 j)) ⟨l.val % 128, Nat.mod_lt _ (by decide)⟩ :=
  out15_at x0 x1 x2 x3 x4 x5 x6 x7 x8 (ix3 0 r l)

end Outs

theorem head_congr {p p' : Fin 128 → EReal} (g : Fin 128 → EReal) (l : Fin 128) (h : ∀ j, p j = p' j) :
    head p g l = head p' g l := by rw [show p = p' from funext h]

theorem lin_congr (h : Fin 1024 → EReal) {w w' : Fin 1024 → EReal} (e : ∀ k, w k = w' k) : lin h w = lin h w' := by
  rw [show w = w' from funext e]

variable (m : (ℓ : Loc nD τ sig) → Buf (Elt Ideal) ℓ) (c : Dev nD)

theorem N64 (t : Fin cfg0.N) : t.val < 64 := t.isLt.trans_le N_0.le

/-- Point `t`'s batch number and its row `r`. -/
def bt (t : Fin cfg0.N) : Fin 2 := ⟨t.val / 32, by have := N64 t; omega⟩
def rt (t : Fin cfg0.N) (r : Fin 512) : Fin 16384 := ⟨t.val % 32 * 512 + r.val, by have := r.isLt; omega⟩

/-- The weight's column that column `j` of the re-laid weight is: the eight gate columns are left out. -/
def wc (j : Fin 5632) : Fin 5640 := if h : j.val < 2048 then ⟨j.val, by omega⟩ else ⟨j.val + 8, by have := j.isLt; omega⟩

/-- Gate `j`'s column of the weight. -/
def gc (j : Fin 8) : Fin 5640 := ⟨2048 + j.val, by have := j.isLt; omega⟩

theorem wc_lo {j : Fin 5632} (h : j.val < 2048) {n : Nat} {hn : n < 5640} (e : n = j.val) : wc j = ⟨n, hn⟩ := by
  unfold wc; rw [dif_pos h]; exact Fin.ext e.symm

theorem wc_hi {j : Fin 5632} (h : 2048 ≤ j.val) {n : Nat} {hn : n < 5640} (e : n = j.val + 8) : wc j = ⟨n, hn⟩ := by
  unfold wc; rw [dif_neg (by omega)]; exact Fin.ext e.symm

/-! ## The windows' blocks at an index -/

theorem idx0 : ∀ t : Fin cfg0.N, win0_0.index t 0 = t.val / 32 ∧ win0_0.index t 1 = t.val % 32 ∧ win0_0.index t 2 = 0 :=
  (by decide +kernel : ∀ t : Fin grid0.N, win0_0.index t 0 = t.val / 32 ∧ win0_0.index t 1 = t.val % 32 ∧ win0_0.index t 2 = 0)

theorem emb0 (t : Fin cfg0.N) (r : Fin 512) (l : Fin 1024) :
    ((cfg0.win 0).blk t).view.emb (ix3 0 r l : S1x512x1024.Idx) = (ix3 (bt t) (rt t r) l : S2x16384x1024.Idx) := by
  funext a; apply Fin.ext
  match a with
  | ⟨0, _⟩ => show win0_0.index t 0 * 1 + 1 * 0 = t.val / 32; rw [(idx0 t).1]; omega
  | ⟨1, _⟩ => show win0_0.index t 1 * 512 + 1 * r.val = t.val % 32 * 512 + r.val; rw [(idx0 t).2.1]; omega
  | ⟨2, _⟩ => show win0_0.index t 2 * 1024 + 1 * l.val = l.val; rw [(idx0 t).2.2]; omega

theorem blk0 (t : Fin cfg0.N) (r : Fin 512) (l : Fin 1024) :
    iblk m c 0 t (ix3 0 r l : S1x512x1024.Idx) = m ((c : Thread nD τ).loc main_arg0) (ix3 (bt t) (rt t r) l) := by
  unfold iblk
  rw [View.read_apply, emb0]
  show V m c main_arg0 _ = _
  rw [V_main_arg0]

theorem idx1 : ∀ t : Fin cfg0.N, win0_1.index t 0 = t.val / 32 ∧ win0_1.index t 1 = 0 ∧ win0_1.index t 2 = 0 :=
  (by decide +kernel : ∀ t : Fin grid0.N, win0_1.index t 0 = t.val / 32 ∧ win0_1.index t 1 = 0 ∧ win0_1.index t 2 = 0)

theorem emb1 (t : Fin cfg0.N) (l : Fin 1024) :
    ((cfg0.win 1).blk t).view.emb (ix3 0 0 l : S1x1x1024.Idx) = (ix3 (bt t) 0 l : S2x1x1024.Idx) := by
  funext a; apply Fin.ext
  match a with
  | ⟨0, _⟩ => show win0_1.index t 0 * 1 + 1 * 0 = t.val / 32; rw [(idx1 t).1]; omega
  | ⟨1, _⟩ => show win0_1.index t 1 * 1 + 1 * 0 = 0; rw [(idx1 t).2.1]
  | ⟨2, _⟩ => show win0_1.index t 2 * 1024 + 1 * l.val = l.val; rw [(idx1 t).2.2]; omega

theorem blk1 (t : Fin cfg0.N) (l : Fin 1024) :
    iblk m c 1 t (ix3 0 0 l : S1x1x1024.Idx) = m ((c : Thread nD τ).loc main_arg1) (ix3 (bt t) 0 l) := by
  unfold iblk
  rw [View.read_apply, emb1]
  show V m c main_arg1 _ = _
  rw [V_main_arg1]

theorem idx2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

theorem emb2 (t : Fin cfg0.N) (l : Fin 1024) :
    ((cfg0.win 2).blk t).view.emb (ix3 0 0 l : S1x1x1024.Idx) = (ix3 (bt t) 0 l : S2x1x1024.Idx) := by
  funext a; apply Fin.ext
  match a with
  | ⟨0, _⟩ => show win0_2.index t 0 * 1 + 1 * 0 = t.val / 32; rw [(idx2 t).1]; omega
  | ⟨1, _⟩ => show win0_2.index t 1 * 1 + 1 * 0 = 0; rw [(idx2 t).2.1]
  | ⟨2, _⟩ => show win0_2.index t 2 * 1024 + 1 * l.val = l.val; rw [(idx2 t).2.2]; omega

theorem blk2 (t : Fin cfg0.N) (l : Fin 1024) :
    iblk m c 2 t (ix3 0 0 l : S1x1x1024.Idx) = m ((c : Thread nD τ).loc main_arg2) (ix3 (bt t) 0 l) := by
  unfold iblk
  rw [View.read_apply, emb2]
  show V m c main_arg2 _ = _
  rw [V_main_arg2]

theorem idx3 : ∀ t : Fin cfg0.N, win0_3.index t 0 = 0 ∧ win0_3.index t 1 = 0 :=
  (by decide +kernel : ∀ t : Fin grid0.N, win0_3.index t 0 = 0 ∧ win0_3.index t 1 = 0)

theorem emb3 (t : Fin cfg0.N) (l : Fin 1024) :
    ((cfg0.win 3).blk t).view.emb (ix2 0 l : S1x1024.Idx) = (ix2 0 l : S1x1024.Idx) := by
  funext a; apply Fin.ext
  match a with
  | ⟨0, _⟩ => show win0_3.index t 0 * 1 + 1 * 0 = 0; rw [(idx3 t).1]
  | ⟨1, _⟩ => show win0_3.index t 1 * 1024 + 1 * l.val = l.val; rw [(idx3 t).2]; omega

theorem blk3 (t : Fin cfg0.N) (l : Fin 1024) :
    iblk m c 3 t (ix2 0 l : S1x1024.Idx) = m ((c : Thread nD τ).loc main_arg3) (ix2 0 l) := by
  unfold iblk
  rw [View.read_apply, emb3]
  show V m c main_arg3 _ = _
  rw [V_main_arg3]

theorem idx4 : ∀ t : Fin cfg0.N, win0_4.index t 0 = 0 ∧ win0_4.index t 1 = 0 :=
  (by decide +kernel : ∀ t : Fin grid0.N, win0_4.index t 0 = 0 ∧ win0_4.index t 1 = 0)

theorem emb4 (t : Fin cfg0.N) (k : Fin 1024) (l : Fin 5632) :
    ((cfg0.win 4).blk t).view.emb (ix2 k l : S1024x5632.Idx) = (ix2 k l : S1024x5632.Idx) := by
  funext a; apply Fin.ext
  match a with
  | ⟨0, _⟩ => show win0_4.index t 0 * 1024 + 1 * k.val = k.val; rw [(idx4 t).1]; omega
  | ⟨1, _⟩ => show win0_4.index t 1 * 5632 + 1 * l.val = l.val; rw [(idx4 t).2]; omega

theorem blk4 (t : Fin cfg0.N) (k : Fin 1024) (l : Fin 5632) :
    iblk m c 4 t (ix2 k l : S1024x5632.Idx) = m ((c : Thread nD τ).loc main_arg4) (ix2 k (wc l)) := by
  unfold iblk
  rw [View.read_apply, emb4]
  show V m c main_v3 _ = _
  entry_read
  pointwise
  unfold wc
  split <;> first | rfl | (congr 2; apply Fin.ext; show 2056 + (l.val - 2048) = l.val + 8; omega)

theorem idx5 : ∀ t : Fin cfg0.N, win0_5.index t 0 = 0 ∧ win0_5.index t 1 = 0 :=
  (by decide +kernel : ∀ t : Fin grid0.N, win0_5.index t 0 = 0 ∧ win0_5.index t 1 = 0)

theorem emb5 (t : Fin cfg0.N) (k : Fin 1024) (l : Fin 8) :
    ((cfg0.win 5).blk t).view.emb (ix2 k l : S1024x8.Idx) = (ix2 k l : S1024x8.Idx) := by
  funext a; apply Fin.ext
  match a with
  | ⟨0, _⟩ => show win0_5.index t 0 * 1024 + 1 * k.val = k.val; rw [(idx5 t).1]; omega
  | ⟨1, _⟩ => show win0_5.index t 1 * 8 + 1 * l.val = l.val; rw [(idx5 t).2]; omega

theorem blk5 (t : Fin cfg0.N) (k : Fin 1024) (l : Fin 8) :
    iblk m c 5 t (ix2 k l : S1024x8.Idx) = m ((c : Thread nD τ).loc main_arg4) (ix2 k (gc l)) := by
  unfold iblk
  rw [View.read_apply, emb5]
  show V m c main_v5 _ = _
  entry_read
  pointwise; rfl

theorem idx6 : ∀ t : Fin cfg0.N, win0_6.index t 0 = 0 ∧ win0_6.index t 1 = 0 :=
  (by decide +kernel : ∀ t : Fin grid0.N, win0_6.index t 0 = 0 ∧ win0_6.index t 1 = 0)

theorem emb6 (t : Fin cfg0.N) (k : Fin 8) (l : Fin 1024) :
    ((cfg0.win 6).blk t).view.emb (ix2 k l : S8x1024.Idx) = (ix2 k l : S8x1024.Idx) := by
  funext a; apply Fin.ext
  match a with
  | ⟨0, _⟩ => show win0_6.index t 0 * 8 + 1 * k.val = k.val; rw [(idx6 t).1]; omega
  | ⟨1, _⟩ => show win0_6.index t 1 * 1024 + 1 * l.val = l.val; rw [(idx6 t).2]; omega

theorem blk6 (t : Fin cfg0.N) (k : Fin 8) (l : Fin 1024) :
    iblk m c 6 t (ix2 k l : S8x1024.Idx) = m ((c : Thread nD τ).loc main_arg4) (ix2 l (gc k)) := by
  unfold iblk
  rw [View.read_apply, emb6]
  show V m c main_v6 _ = _
  entry_read
  pointwise; rfl

theorem idx7 : ∀ t : Fin cfg0.N, win0_7.index t 0 = 0 ∧ win0_7.index t 1 = 0 :=
  (by decide +kernel : ∀ t : Fin grid0.N, win0_7.index t 0 = 0 ∧ win0_7.index t 1 = 0)

theorem emb7 (t : Fin cfg0.N) (l : Fin 128) :
    ((cfg0.win 7).blk t).view.emb (ix2 0 l : S1x128.Idx) = (ix2 0 l : S1x128.Idx) := by
  funext a; apply Fin.ext
  match a with
  | ⟨0, _⟩ => show win0_7.index t 0 * 1 + 1 * 0 = 0; rw [(idx7 t).1]
  | ⟨1, _⟩ => show win0_7.index t 1 * 128 + 1 * l.val = l.val; rw [(idx7 t).2]; omega

theorem blk7 (t : Fin cfg0.N) (l : Fin 128) :
    iblk m c 7 t (ix2 0 l : S1x128.Idx) = m ((c : Thread nD τ).loc main_arg5) (ix1 l) := by
  unfold iblk
  rw [View.read_apply, emb7]
  show V m c main_v7 _ = _
  entry_read
  pointwise

theorem idx8 : ∀ t : Fin cfg0.N, win0_8.index t 0 = 0 ∧ win0_8.index t 1 = 0 :=
  (by decide +kernel : ∀ t : Fin grid0.N, win0_8.index t 0 = 0 ∧ win0_8.index t 1 = 0)

theorem emb8 (t : Fin cfg0.N) (l : Fin 128) :
    ((cfg0.win 8).blk t).view.emb (ix2 0 l : S1x128.Idx) = (ix2 0 l : S1x128.Idx) := by
  funext a; apply Fin.ext
  match a with
  | ⟨0, _⟩ => show win0_8.index t 0 * 1 + 1 * 0 = 0; rw [(idx8 t).1]
  | ⟨1, _⟩ => show win0_8.index t 1 * 128 + 1 * l.val = l.val; rw [(idx8 t).2]; omega

theorem blk8 (t : Fin cfg0.N) (l : Fin 128) :
    iblk m c 8 t (ix2 0 l : S1x128.Idx) = m ((c : Thread nD τ).loc main_arg6) (ix1 l) := by
  unfold iblk
  rw [View.read_apply, emb8]
  show V m c main_v8 _ = _
  entry_read
  pointwise

theorem idx9 : ∀ t : Fin cfg0.N, win0_9.index t 0 = t.val / 32 ∧ win0_9.index t 1 = t.val % 32 ∧ win0_9.index t 2 = 0 :=
  (by decide +kernel : ∀ t : Fin grid0.N, win0_9.index t 0 = t.val / 32 ∧ win0_9.index t 1 = t.val % 32 ∧ win0_9.index t 2 = 0)

theorem emb9 (t : Fin cfg0.N) (r : Fin 512) (l : Fin 1024) :
    ((cfg0.win 9).blk t).view.emb (ix3 0 r l : S1x512x1024.Idx) = (ix3 (bt t) (rt t r) l : S2x16384x1024.Idx) := by
  funext a; apply Fin.ext
  match a with
  | ⟨0, _⟩ => show win0_9.index t 0 * 1 + 1 * 0 = t.val / 32; rw [(idx9 t).1]; omega
  | ⟨1, _⟩ => show win0_9.index t 1 * 512 + 1 * r.val = t.val % 32 * 512 + r.val; rw [(idx9 t).2.1]; omega
  | ⟨2, _⟩ => show win0_9.index t 2 * 1024 + 1 * l.val = l.val; rw [(idx9 t).2.2]; omega

theorem mem9 (t : Fin cfg0.N) (r : Fin 512) (l : Fin 1024) :
    (ix3 (bt t) (rt t r) l : S2x16384x1024.Idx) ∈ ((cfg0.win 9).blk t).view.set := by
  rw [← emb9]; exact View.emb_mem_set _ _

theorem idx10 : ∀ t : Fin cfg0.N, win0_10.index t 0 = t.val / 32 ∧ win0_10.index t 1 = t.val % 32 ∧ win0_10.index t 2 = 0 :=
  (by decide +kernel : ∀ t : Fin grid0.N, win0_10.index t 0 = t.val / 32 ∧ win0_10.index t 1 = t.val % 32 ∧ win0_10.index t 2 = 0)

theorem emb10 (t : Fin cfg0.N) (r : Fin 512) (l : Fin 2048) :
    ((cfg0.win 10).blk t).view.emb (ix3 0 r l : S1x512x2048.Idx) = (ix3 (bt t) (rt t r) l : S2x16384x2048.Idx) := by
  funext a; apply Fin.ext
  match a with
  | ⟨0, _⟩ => show win0_10.index t 0 * 1 + 1 * 0 = t.val / 32; rw [(idx10 t).1]; omega
  | ⟨1, _⟩ => show win0_10.index t 1 * 512 + 1 * r.val = t.val % 32 * 512 + r.val; rw [(idx10 t).2.1]; omega
  | ⟨2, _⟩ => show win0_10.index t 2 * 2048 + 1 * l.val = l.val; rw [(idx10 t).2.2]; omega

theorem mem10 (t : Fin cfg0.N) (r : Fin 512) (l : Fin 2048) :
    (ix3 (bt t) (rt t r) l : S2x16384x2048.Idx) ∈ ((cfg0.win 10).blk t).view.set := by
  rw [← emb10]; exact View.emb_mem_set _ _

theorem idx11 : ∀ t : Fin cfg0.N, win0_11.index t 0 = t.val / 32 ∧ win0_11.index t 1 = t.val % 32 ∧ win0_11.index t 2 = 0 :=
  (by decide +kernel : ∀ t : Fin grid0.N, win0_11.index t 0 = t.val / 32 ∧ win0_11.index t 1 = t.val % 32 ∧ win0_11.index t 2 = 0)

theorem emb11 (t : Fin cfg0.N) (r : Fin 512) (l : Fin 2048) :
    ((cfg0.win 11).blk t).view.emb (ix3 0 r l : S1x512x2048.Idx) = (ix3 (bt t) (rt t r) l : S2x16384x2048.Idx) := by
  funext a; apply Fin.ext
  match a with
  | ⟨0, _⟩ => show win0_11.index t 0 * 1 + 1 * 0 = t.val / 32; rw [(idx11 t).1]; omega
  | ⟨1, _⟩ => show win0_11.index t 1 * 512 + 1 * r.val = t.val % 32 * 512 + r.val; rw [(idx11 t).2.1]; omega
  | ⟨2, _⟩ => show win0_11.index t 2 * 2048 + 1 * l.val = l.val; rw [(idx11 t).2.2]; omega

theorem mem11 (t : Fin cfg0.N) (r : Fin 512) (l : Fin 2048) :
    (ix3 (bt t) (rt t r) l : S2x16384x2048.Idx) ∈ ((cfg0.win 11).blk t).view.set := by
  rw [← emb11]; exact View.emb_mem_set _ _

theorem idx12 : ∀ t : Fin cfg0.N, win0_12.index t 0 = t.val / 32 ∧ win0_12.index t 1 = t.val % 32 ∧ win0_12.index t 2 = 0 :=
  (by decide +kernel : ∀ t : Fin grid0.N, win0_12.index t 0 = t.val / 32 ∧ win0_12.index t 1 = t.val % 32 ∧ win0_12.index t 2 = 0)

theorem emb12 (t : Fin cfg0.N) (r : Fin 512) (l : Fin 512) :
    ((cfg0.win 12).blk t).view.emb (ix3 0 r l : S1x512x512.Idx) = (ix3 (bt t) (rt t r) l : S2x16384x512.Idx) := by
  funext a; apply Fin.ext
  match a with
  | ⟨0, _⟩ => show win0_12.index t 0 * 1 + 1 * 0 = t.val / 32; rw [(idx12 t).1]; omega
  | ⟨1, _⟩ => show win0_12.index t 1 * 512 + 1 * r.val = t.val % 32 * 512 + r.val; rw [(idx12 t).2.1]; omega
  | ⟨2, _⟩ => show win0_12.index t 2 * 512 + 1 * l.val = l.val; rw [(idx12 t).2.2]; omega

theorem mem12 (t : Fin cfg0.N) (r : Fin 512) (l : Fin 512) :
    (ix3 (bt t) (rt t r) l : S2x16384x512.Idx) ∈ ((cfg0.win 12).blk t).view.set := by
  rw [← emb12]; exact View.emb_mem_set _ _

theorem idx13 : ∀ t : Fin cfg0.N, win0_13.index t 0 = t.val / 32 ∧ win0_13.index t 1 = t.val % 32 ∧ win0_13.index t 2 = 0 :=
  (by decide +kernel : ∀ t : Fin grid0.N, win0_13.index t 0 = t.val / 32 ∧ win0_13.index t 1 = t.val % 32 ∧ win0_13.index t 2 = 0)

theorem emb13 (t : Fin cfg0.N) (r : Fin 512) (l : Fin 512) :
    ((cfg0.win 13).blk t).view.emb (ix3 0 r l : S1x512x512.Idx) = (ix3 (bt t) (rt t r) l : S2x16384x512.Idx) := by
  funext a; apply Fin.ext
  match a with
  | ⟨0, _⟩ => show win0_13.index t 0 * 1 + 1 * 0 = t.val / 32; rw [(idx13 t).1]; omega
  | ⟨1, _⟩ => show win0_13.index t 1 * 512 + 1 * r.val = t.val % 32 * 512 + r.val; rw [(idx13 t).2.1]; omega
  | ⟨2, _⟩ => show win0_13.index t 2 * 512 + 1 * l.val = l.val; rw [(idx13 t).2.2]; omega

theorem mem13 (t : Fin cfg0.N) (r : Fin 512) (l : Fin 512) :
    (ix3 (bt t) (rt t r) l : S2x16384x512.Idx) ∈ ((cfg0.win 13).blk t).view.set := by
  rw [← emb13]; exact View.emb_mem_set _ _

theorem idx14 : ∀ t : Fin cfg0.N, win0_14.index t 0 = t.val / 32 ∧ win0_14.index t 1 = t.val % 32 ∧ win0_14.index t 2 = 0 :=
  (by decide +kernel : ∀ t : Fin grid0.N, win0_14.index t 0 = t.val / 32 ∧ win0_14.index t 1 = t.val % 32 ∧ win0_14.index t 2 = 0)

theorem emb14 (t : Fin cfg0.N) (r : Fin 512) (l : Fin 512) :
    ((cfg0.win 14).blk t).view.emb (ix3 0 r l : S1x512x512.Idx) = (ix3 (bt t) (rt t r) l : S2x16384x512.Idx) := by
  funext a; apply Fin.ext
  match a with
  | ⟨0, _⟩ => show win0_14.index t 0 * 1 + 1 * 0 = t.val / 32; rw [(idx14 t).1]; omega
  | ⟨1, _⟩ => show win0_14.index t 1 * 512 + 1 * r.val = t.val % 32 * 512 + r.val; rw [(idx14 t).2.1]; omega
  | ⟨2, _⟩ => show win0_14.index t 2 * 512 + 1 * l.val = l.val; rw [(idx14 t).2.2]; omega

theorem mem14 (t : Fin cfg0.N) (r : Fin 512) (l : Fin 512) :
    (ix3 (bt t) (rt t r) l : S2x16384x512.Idx) ∈ ((cfg0.win 14).blk t).view.set := by
  rw [← emb14]; exact View.emb_mem_set _ _

theorem idx15 : ∀ t : Fin cfg0.N, win0_15.index t 0 = t.val / 32 ∧ win0_15.index t 1 = t.val % 32 ∧ win0_15.index t 2 = 0 :=
  (by decide +kernel : ∀ t : Fin grid0.N, win0_15.index t 0 = t.val / 32 ∧ win0_15.index t 1 = t.val % 32 ∧ win0_15.index t 2 = 0)

theorem emb15 (t : Fin cfg0.N) (r : Fin 512) (l : Fin 512) :
    ((cfg0.win 15).blk t).view.emb (ix3 0 r l : S1x512x512.Idx) = (ix3 (bt t) (rt t r) l : S2x16384x512.Idx) := by
  funext a; apply Fin.ext
  match a with
  | ⟨0, _⟩ => show win0_15.index t 0 * 1 + 1 * 0 = t.val / 32; rw [(idx15 t).1]; omega
  | ⟨1, _⟩ => show win0_15.index t 1 * 512 + 1 * r.val = t.val % 32 * 512 + r.val; rw [(idx15 t).2.1]; omega
  | ⟨2, _⟩ => show win0_15.index t 2 * 512 + 1 * l.val = l.val; rw [(idx15 t).2.2]; omega

theorem mem15 (t : Fin cfg0.N) (r : Fin 512) (l : Fin 512) :
    (ix3 (bt t) (rt t r) l : S2x16384x512.Idx) ∈ ((cfg0.win 15).blk t).view.set := by
  rw [← emb15]; exact View.emb_mem_set _ _

theorem idx16 : ∀ t : Fin cfg0.N, win0_16.index t 0 = t.val / 32 ∧ win0_16.index t 1 = t.val % 32 ∧ win0_16.index t 2 = 0 :=
  (by decide +kernel : ∀ t : Fin grid0.N, win0_16.index t 0 = t.val / 32 ∧ win0_16.index t 1 = t.val % 32 ∧ win0_16.index t 2 = 0)

theorem emb16 (t : Fin cfg0.N) (r : Fin 512) (l : Fin 512) :
    ((cfg0.win 16).blk t).view.emb (ix3 0 r l : S1x512x512.Idx) = (ix3 (bt t) (rt t r) l : S2x16384x512.Idx) := by
  funext a; apply Fin.ext
  match a with
  | ⟨0, _⟩ => show win0_16.index t 0 * 1 + 1 * 0 = t.val / 32; rw [(idx16 t).1]; omega
  | ⟨1, _⟩ => show win0_16.index t 1 * 512 + 1 * r.val = t.val % 32 * 512 + r.val; rw [(idx16 t).2.1]; omega
  | ⟨2, _⟩ => show win0_16.index t 2 * 512 + 1 * l.val = l.val; rw [(idx16 t).2.2]; omega

theorem mem16 (t : Fin cfg0.N) (r : Fin 512) (l : Fin 512) :
    (ix3 (bt t) (rt t r) l : S2x16384x512.Idx) ∈ ((cfg0.win 16).blk t).view.set := by
  rw [← emb16]; exact View.emb_mem_set _ _

theorem idx17 : ∀ t : Fin cfg0.N, win0_17.index t 0 = t.val / 32 ∧ win0_17.index t 1 = t.val % 32 ∧ win0_17.index t 2 = 0 :=
  (by decide +kernel : ∀ t : Fin grid0.N, win0_17.index t 0 = t.val / 32 ∧ win0_17.index t 1 = t.val % 32 ∧ win0_17.index t 2 = 0)

theorem emb17 (t : Fin cfg0.N) (r : Fin 512) (l : Fin 8) :
    ((cfg0.win 17).blk t).view.emb (ix3 0 r l : S1x512x8.Idx) = (ix3 (bt t) (rt t r) l : S2x16384x8.Idx) := by
  funext a; apply Fin.ext
  match a with
  | ⟨0, _⟩ => show win0_17.index t 0 * 1 + 1 * 0 = t.val / 32; rw [(idx17 t).1]; omega
  | ⟨1, _⟩ => show win0_17.index t 1 * 512 + 1 * r.val = t.val % 32 * 512 + r.val; rw [(idx17 t).2.1]; omega
  | ⟨2, _⟩ => show win0_17.index t 2 * 8 + 1 * l.val = l.val; rw [(idx17 t).2.2]; omega

theorem mem17 (t : Fin cfg0.N) (r : Fin 512) (l : Fin 8) :
    (ix3 (bt t) (rt t r) l : S2x16384x8.Idx) ∈ ((cfg0.win 17).blk t).view.set := by
  rw [← emb17]; exact View.emb_mem_set _ _

theorem idx18 : ∀ t : Fin cfg0.N, win0_18.index t 0 = t.val / 32 ∧ win0_18.index t 1 = 0 ∧ win0_18.index t 2 = t.val % 32 :=
  (by decide +kernel : ∀ t : Fin grid0.N, win0_18.index t 0 = t.val / 32 ∧ win0_18.index t 1 = 0 ∧ win0_18.index t 2 = t.val % 32)

theorem emb18 (t : Fin cfg0.N) (l : Fin 8) (r : Fin 512) :
    ((cfg0.win 18).blk t).view.emb (ix3 0 l r : S1x8x512.Idx) = (ix3 (bt t) l (rt t r) : S2x8x16384.Idx) := by
  funext a; apply Fin.ext
  match a with
  | ⟨0, _⟩ => show win0_18.index t 0 * 1 + 1 * 0 = t.val / 32; rw [(idx18 t).1]; omega
  | ⟨1, _⟩ => show win0_18.index t 1 * 8 + 1 * l.val = l.val; rw [(idx18 t).2.1]; omega
  | ⟨2, _⟩ => show win0_18.index t 2 * 512 + 1 * r.val = t.val % 32 * 512 + r.val; rw [(idx18 t).2.2]; omega

theorem mem18 (t : Fin cfg0.N) (l : Fin 8) (r : Fin 512) :
    (ix3 (bt t) l (rt t r) : S2x8x16384.Idx) ∈ ((cfg0.win 18).blk t).view.set := by
  rw [← emb18]; exact View.emb_mem_set _ _

/-! ## The result arrays -/

/-- The normed and modulated row `r` of batch `b`. -/
def H (b : Fin 2) (r : Fin 16384) : Fin 1024 → EReal :=
  hid (fun k => m ((c : Thread nD τ).loc main_arg0) (ix3 b r k)) (fun k => m ((c : Thread nD τ).loc main_arg3) (ix2 0 k)) (fun k => m ((c : Thread nD τ).loc main_arg1) (ix3 b 0 k))
    (fun k => m ((c : Thread nD τ).loc main_arg2) (ix3 b 0 k))

/-- Row `r`'s product with the weight's column `j`. -/
def P (b : Fin 2) (r : Fin 16384) (j : Nat) (hj : j < 5640) : EReal :=
  lin (H m c b r) (fun k => m ((c : Thread nD τ).loc main_arg4) (ix2 k ⟨j, hj⟩))

/-- Row `r`'s normed heads, whose columns start at `off`, at element `l` of the 512. -/
def Q (off : Nat) (hoff : off ≤ 5128) (g : Fin 128 → EReal) (b : Fin 2) (r : Fin 16384) (l : Fin 512) : EReal :=
  head (fun j => P m c b r (off + (l.val / 128 * 128 + j.val)) (by have := l.isLt; have := j.isLt; omega)) g
    ⟨l.val % 128, Nat.mod_lt _ (by decide)⟩

theorem Q_eq (off : Nat) (hoff : off ≤ 5128) (g : Fin 128 → EReal) (b : Fin 2) (r : Fin 16384) (l : Fin 512) :
    Q m c off hoff g b r l = P m c b r (off + l.val) (by have := l.isLt; omega)
      * Ideal.rsqrt (Ideal.div (∑ j : Fin 128, P m c b r (off + (l.val / 128 * 128 + j.val)) (by have := l.isLt; have := j.isLt; omega)
          * P m c b r (off + (l.val / 128 * 128 + j.val)) (by have := l.isLt; have := j.isLt; omega))
        (Ideal.ofBits .f32 0x43000000#32) + Ideal.ofBits .f32 0x358637BD#32)
      * g ⟨l.val % 128, Nat.mod_lt _ (by decide)⟩ := by
  have e : l.val / 128 * 128 + l.val % 128 = l.val := by omega
  unfold Q head
  simp only [e]

theorem hrow_blk (t : Fin cfg0.N) (r : Fin 512) :
    hrow (iblk m c 0 t) (iblk m c 1 t) (iblk m c 2 t) (iblk m c 3 t) r = H m c (bt t) (rt t r) := by
  unfold hrow H
  simp only [blk0, blk1, blk2, blk3]

def G9 (i : S2x16384x1024.Idx) : EReal := H m c (i 0) (i 1) (i 2)

theorem flushed_eq9 (t : Fin cfg0.N) :
    (dats m 0 c).flushed 9 t = ((cfg0.win 9).blk t).view.read (Elt Ideal) (G9 m c) := by
  rw [Value.flushed9]
  show out0_9 _ _ _ _ _ _ _ _ _ = _
  funext y
  obtain ⟨r, l, rfl⟩ : ∃ (r : Fin 512) (l : Fin 1024), y = (ix3 0 r l : S1x512x1024.Idx) :=
    ⟨y 1, y 2, by funext a; match a with | ⟨0, _⟩ => exact Subsingleton.elim (α := Fin 1) _ _ | ⟨1, _⟩ => rfl | ⟨2, _⟩ => rfl⟩
  rw [View.read_apply, emb9]
  rw [out9_at, hrow_blk]; rfl

/-- Every index of the array is in some point's block. -/
theorem cover9 (i : S2x16384x1024.Idx) :
    ∃ t : Fin cfg0.N, (cfg0.win 9).flush t = true ∧ i ∈ ((cfg0.win 9).blk t).view.set := by
  have h0 : (i 0 : Nat) < 2 := (i 0).isLt
  have h1 : (i 1 : Nat) < 16384 := (i 1).isLt
  have hN : cfg0.N = 64 := N_0
  obtain ⟨t, ht⟩ : ∃ t : Fin cfg0.N, t.val = (i 0 : Nat) * 32 + (i 1 : Nat) / 512 := ⟨⟨_, by omega⟩, rfl⟩
  refine ⟨t, flush0_9 _, ?_⟩
  have e : (ix3 (bt t) (rt t ⟨(i 1 : Nat) % 512, by omega⟩) (i 2) : S2x16384x1024.Idx) = i := by
    funext a; apply Fin.ext
    match a with
    | ⟨0, _⟩ => show t.val / 32 = (i 0 : Nat); omega
    | ⟨1, _⟩ => show t.val % 32 * 512 + (i 1 : Nat) % 512 = (i 1 : Nat); omega
    | ⟨2, _⟩ => rfl
  have h := mem9 t ⟨(i 1 : Nat) % 512, by omega⟩ (i 2)
  rw [e] at h
  exact h

theorem final9 : (dats m 0 c).arrAt 9 cfg0.N = G9 m c :=
  (dats m 0 c).arrAt_eq_of_cover 9 (G9 m c) (fun t _ => flushed_eq9 m c t) cover9

def G10 (i : S2x16384x2048.Idx) : EReal := P m c (i 0) (i 1) (i 2) (by have h : (i 2 : Nat) < 2048 := (i 2).isLt; omega)

theorem flushed_eq10 (t : Fin cfg0.N) :
    (dats m 0 c).flushed 10 t = ((cfg0.win 10).blk t).view.read (Elt Ideal) (G10 m c) := by
  rw [Value.flushed10]
  show out0_10 _ _ _ _ _ _ _ _ _ = _
  funext y
  obtain ⟨r, l, rfl⟩ : ∃ (r : Fin 512) (l : Fin 2048), y = (ix3 0 r l : S1x512x2048.Idx) :=
    ⟨y 1, y 2, by funext a; match a with | ⟨0, _⟩ => exact Subsingleton.elim (α := Fin 1) _ _ | ⟨1, _⟩ => rfl | ⟨2, _⟩ => rfl⟩
  rw [View.read_apply, emb10]
  rw [out10_at, hrow_blk]; simp only [blk4]
  show _ = P m c (bt t) (rt t r) l.val (by have := l.isLt; omega)
  refine lin_congr _ fun k => ?_
  rw [wc_lo l.isLt rfl]

/-- Every index of the array is in some point's block. -/
theorem cover10 (i : S2x16384x2048.Idx) :
    ∃ t : Fin cfg0.N, (cfg0.win 10).flush t = true ∧ i ∈ ((cfg0.win 10).blk t).view.set := by
  have h0 : (i 0 : Nat) < 2 := (i 0).isLt
  have h1 : (i 1 : Nat) < 16384 := (i 1).isLt
  have hN : cfg0.N = 64 := N_0
  obtain ⟨t, ht⟩ : ∃ t : Fin cfg0.N, t.val = (i 0 : Nat) * 32 + (i 1 : Nat) / 512 := ⟨⟨_, by omega⟩, rfl⟩
  refine ⟨t, flush0_10 _, ?_⟩
  have e : (ix3 (bt t) (rt t ⟨(i 1 : Nat) % 512, by omega⟩) (i 2) : S2x16384x2048.Idx) = i := by
    funext a; apply Fin.ext
    match a with
    | ⟨0, _⟩ => show t.val / 32 = (i 0 : Nat); omega
    | ⟨1, _⟩ => show t.val % 32 * 512 + (i 1 : Nat) % 512 = (i 1 : Nat); omega
    | ⟨2, _⟩ => rfl
  have h := mem10 t ⟨(i 1 : Nat) % 512, by omega⟩ (i 2)
  rw [e] at h
  exact h

theorem final10 : (dats m 0 c).arrAt 10 cfg0.N = G10 m c :=
  (dats m 0 c).arrAt_eq_of_cover 10 (G10 m c) (fun t _ => flushed_eq10 m c t) cover10

def G11 (i : S2x16384x2048.Idx) : EReal := P m c (i 0) (i 1) (3592 + (i 2 : Nat)) (by have h : (i 2 : Nat) < 2048 := (i 2).isLt; omega)

theorem flushed_eq11 (t : Fin cfg0.N) :
    (dats m 0 c).flushed 11 t = ((cfg0.win 11).blk t).view.read (Elt Ideal) (G11 m c) := by
  rw [Value.flushed11]
  show out0_11 _ _ _ _ _ _ _ _ _ = _
  funext y
  obtain ⟨r, l, rfl⟩ : ∃ (r : Fin 512) (l : Fin 2048), y = (ix3 0 r l : S1x512x2048.Idx) :=
    ⟨y 1, y 2, by funext a; match a with | ⟨0, _⟩ => exact Subsingleton.elim (α := Fin 1) _ _ | ⟨1, _⟩ => rfl | ⟨2, _⟩ => rfl⟩
  rw [View.read_apply, emb11]
  rw [out11_at, hrow_blk]; simp only [blk4]
  show _ = P m c (bt t) (rt t r) (3592 + l.val) (by have := l.isLt; omega)
  refine lin_congr _ fun k => ?_
  rw [wc_hi (n := 3592 + l.val) (hn := by have := l.isLt; omega) (by show 2048 ≤ 3584 + l.val; omega) (by show _ = 3584 + l.val + 8; omega)]

/-- Every index of the array is in some point's block. -/
theorem cover11 (i : S2x16384x2048.Idx) :
    ∃ t : Fin cfg0.N, (cfg0.win 11).flush t = true ∧ i ∈ ((cfg0.win 11).blk t).view.set := by
  have h0 : (i 0 : Nat) < 2 := (i 0).isLt
  have h1 : (i 1 : Nat) < 16384 := (i 1).isLt
  have hN : cfg0.N = 64 := N_0
  obtain ⟨t, ht⟩ : ∃ t : Fin cfg0.N, t.val = (i 0 : Nat) * 32 + (i 1 : Nat) / 512 := ⟨⟨_, by omega⟩, rfl⟩
  refine ⟨t, flush0_11 _, ?_⟩
  have e : (ix3 (bt t) (rt t ⟨(i 1 : Nat) % 512, by omega⟩) (i 2) : S2x16384x2048.Idx) = i := by
    funext a; apply Fin.ext
    match a with
    | ⟨0, _⟩ => show t.val / 32 = (i 0 : Nat); omega
    | ⟨1, _⟩ => show t.val % 32 * 512 + (i 1 : Nat) % 512 = (i 1 : Nat); omega
    | ⟨2, _⟩ => rfl
  have h := mem11 t ⟨(i 1 : Nat) % 512, by omega⟩ (i 2)
  rw [e] at h
  exact h

theorem final11 : (dats m 0 c).arrAt 11 cfg0.N = G11 m c :=
  (dats m 0 c).arrAt_eq_of_cover 11 (G11 m c) (fun t _ => flushed_eq11 m c t) cover11

def G12 (i : S2x16384x512.Idx) : EReal := Q m c 2056 (by decide) (fun j => m ((c : Thread nD τ).loc main_arg5) (ix1 j)) (i 0) (i 1) (i 2)

theorem flushed_eq12 (t : Fin cfg0.N) :
    (dats m 0 c).flushed 12 t = ((cfg0.win 12).blk t).view.read (Elt Ideal) (G12 m c) := by
  rw [Value.flushed12]
  show out0_12 _ _ _ _ _ _ _ _ _ = _
  funext y
  obtain ⟨r, l, rfl⟩ : ∃ (r : Fin 512) (l : Fin 512), y = (ix3 0 r l : S1x512x512.Idx) :=
    ⟨y 1, y 2, by funext a; match a with | ⟨0, _⟩ => exact Subsingleton.elim (α := Fin 1) _ _ | ⟨1, _⟩ => rfl | ⟨2, _⟩ => rfl⟩
  rw [View.read_apply, emb12]
  rw [out12_ix, hrow_blk]; simp only [blk4, blk7]
  show _ = Q m c 2056 (by decide) (fun j => m ((c : Thread nD τ).loc main_arg5) (ix1 j)) (bt t) (rt t r) l
  refine head_congr _ _ fun j => lin_congr _ fun k => ?_
  rw [wc_hi (n := 2056 + (l.val / 128 * 128 + j.val)) (hn := by have := l.isLt; have := j.isLt; omega)
    (by show 2048 ≤ 2048 + l.val / 128 * 128 + j.val; omega) (by show _ = 2048 + l.val / 128 * 128 + j.val + 8; omega)]

/-- Every index of the array is in some point's block. -/
theorem cover12 (i : S2x16384x512.Idx) :
    ∃ t : Fin cfg0.N, (cfg0.win 12).flush t = true ∧ i ∈ ((cfg0.win 12).blk t).view.set := by
  have h0 : (i 0 : Nat) < 2 := (i 0).isLt
  have h1 : (i 1 : Nat) < 16384 := (i 1).isLt
  have hN : cfg0.N = 64 := N_0
  obtain ⟨t, ht⟩ : ∃ t : Fin cfg0.N, t.val = (i 0 : Nat) * 32 + (i 1 : Nat) / 512 := ⟨⟨_, by omega⟩, rfl⟩
  refine ⟨t, flush0_12 _, ?_⟩
  have e : (ix3 (bt t) (rt t ⟨(i 1 : Nat) % 512, by omega⟩) (i 2) : S2x16384x512.Idx) = i := by
    funext a; apply Fin.ext
    match a with
    | ⟨0, _⟩ => show t.val / 32 = (i 0 : Nat); omega
    | ⟨1, _⟩ => show t.val % 32 * 512 + (i 1 : Nat) % 512 = (i 1 : Nat); omega
    | ⟨2, _⟩ => rfl
  have h := mem12 t ⟨(i 1 : Nat) % 512, by omega⟩ (i 2)
  rw [e] at h
  exact h

theorem final12 : (dats m 0 c).arrAt 12 cfg0.N = G12 m c :=
  (dats m 0 c).arrAt_eq_of_cover 12 (G12 m c) (fun t _ => flushed_eq12 m c t) cover12

def G13 (i : S2x16384x512.Idx) : EReal := Q m c 2568 (by decide) (fun j => m ((c : Thread nD τ).loc main_arg6) (ix1 j)) (i 0) (i 1) (i 2)

theorem flushed_eq13 (t : Fin cfg0.N) :
    (dats m 0 c).flushed 13 t = ((cfg0.win 13).blk t).view.read (Elt Ideal) (G13 m c) := by
  rw [Value.flushed13]
  show out0_13 _ _ _ _ _ _ _ _ _ = _
  funext y
  obtain ⟨r, l, rfl⟩ : ∃ (r : Fin 512) (l : Fin 512), y = (ix3 0 r l : S1x512x512.Idx) :=
    ⟨y 1, y 2, by funext a; match a with | ⟨0, _⟩ => exact Subsingleton.elim (α := Fin 1) _ _ | ⟨1, _⟩ => rfl | ⟨2, _⟩ => rfl⟩
  rw [View.read_apply, emb13]
  rw [out13_ix, hrow_blk]; simp only [blk4, blk8]
  show _ = Q m c 2568 (by decide) (fun j => m ((c : Thread nD τ).loc main_arg6) (ix1 j)) (bt t) (rt t r) l
  refine head_congr _ _ fun j => lin_congr _ fun k => ?_
  rw [wc_hi (n := 2568 + (l.val / 128 * 128 + j.val)) (hn := by have := l.isLt; have := j.isLt; omega)
    (by show 2048 ≤ 2560 + l.val / 128 * 128 + j.val; omega) (by show _ = 2560 + l.val / 128 * 128 + j.val + 8; omega)]

/-- Every index of the array is in some point's block. -/
theorem cover13 (i : S2x16384x512.Idx) :
    ∃ t : Fin cfg0.N, (cfg0.win 13).flush t = true ∧ i ∈ ((cfg0.win 13).blk t).view.set := by
  have h0 : (i 0 : Nat) < 2 := (i 0).isLt
  have h1 : (i 1 : Nat) < 16384 := (i 1).isLt
  have hN : cfg0.N = 64 := N_0
  obtain ⟨t, ht⟩ : ∃ t : Fin cfg0.N, t.val = (i 0 : Nat) * 32 + (i 1 : Nat) / 512 := ⟨⟨_, by omega⟩, rfl⟩
  refine ⟨t, flush0_13 _, ?_⟩
  have e : (ix3 (bt t) (rt t ⟨(i 1 : Nat) % 512, by omega⟩) (i 2) : S2x16384x512.Idx) = i := by
    funext a; apply Fin.ext
    match a with
    | ⟨0, _⟩ => show t.val / 32 = (i 0 : Nat); omega
    | ⟨1, _⟩ => show t.val % 32 * 512 + (i 1 : Nat) % 512 = (i 1 : Nat); omega
    | ⟨2, _⟩ => rfl
  have h := mem13 t ⟨(i 1 : Nat) % 512, by omega⟩ (i 2)
  rw [e] at h
  exact h

theorem final13 : (dats m 0 c).arrAt 13 cfg0.N = G13 m c :=
  (dats m 0 c).arrAt_eq_of_cover 13 (G13 m c) (fun t _ => flushed_eq13 m c t) cover13

def G14 (i : S2x16384x512.Idx) : EReal := P m c (i 0) (i 1) (3080 + (i 2 : Nat)) (by have h : (i 2 : Nat) < 512 := (i 2).isLt; omega)

theorem flushed_eq14 (t : Fin cfg0.N) :
    (dats m 0 c).flushed 14 t = ((cfg0.win 14).blk t).view.read (Elt Ideal) (G14 m c) := by
  rw [Value.flushed14]
  show out0_14 _ _ _ _ _ _ _ _ _ = _
  funext y
  obtain ⟨r, l, rfl⟩ : ∃ (r : Fin 512) (l : Fin 512), y = (ix3 0 r l : S1x512x512.Idx) :=
    ⟨y 1, y 2, by funext a; match a with | ⟨0, _⟩ => exact Subsingleton.elim (α := Fin 1) _ _ | ⟨1, _⟩ => rfl | ⟨2, _⟩ => rfl⟩
  rw [View.read_apply, emb14]
  rw [out14_at, hrow_blk]; simp only [blk4]
  show _ = P m c (bt t) (rt t r) (3080 + l.val) (by have := l.isLt; omega)
  refine lin_congr _ fun k => ?_
  rw [wc_hi (n := 3080 + l.val) (hn := by have := l.isLt; omega) (by show 2048 ≤ 3072 + l.val; omega) (by show _ = 3072 + l.val + 8; omega)]

/-- Every index of the array is in some point's block. -/
theorem cover14 (i : S2x16384x512.Idx) :
    ∃ t : Fin cfg0.N, (cfg0.win 14).flush t = true ∧ i ∈ ((cfg0.win 14).blk t).view.set := by
  have h0 : (i 0 : Nat) < 2 := (i 0).isLt
  have h1 : (i 1 : Nat) < 16384 := (i 1).isLt
  have hN : cfg0.N = 64 := N_0
  obtain ⟨t, ht⟩ : ∃ t : Fin cfg0.N, t.val = (i 0 : Nat) * 32 + (i 1 : Nat) / 512 := ⟨⟨_, by omega⟩, rfl⟩
  refine ⟨t, flush0_14 _, ?_⟩
  have e : (ix3 (bt t) (rt t ⟨(i 1 : Nat) % 512, by omega⟩) (i 2) : S2x16384x512.Idx) = i := by
    funext a; apply Fin.ext
    match a with
    | ⟨0, _⟩ => show t.val / 32 = (i 0 : Nat); omega
    | ⟨1, _⟩ => show t.val % 32 * 512 + (i 1 : Nat) % 512 = (i 1 : Nat); omega
    | ⟨2, _⟩ => rfl
  have h := mem14 t ⟨(i 1 : Nat) % 512, by omega⟩ (i 2)
  rw [e] at h
  exact h

theorem final14 : (dats m 0 c).arrAt 14 cfg0.N = G14 m c :=
  (dats m 0 c).arrAt_eq_of_cover 14 (G14 m c) (fun t _ => flushed_eq14 m c t) cover14

theorem flushed_eq15 (t : Fin cfg0.N) :
    (dats m 0 c).flushed 15 t = ((cfg0.win 15).blk t).view.read (Elt Ideal) (G13 m c) := by
  rw [Value.flushed15]
  show out0_15 _ _ _ _ _ _ _ _ _ = _
  funext y
  obtain ⟨r, l, rfl⟩ : ∃ (r : Fin 512) (l : Fin 512), y = (ix3 0 r l : S1x512x512.Idx) :=
    ⟨y 1, y 2, by funext a; match a with | ⟨0, _⟩ => exact Subsingleton.elim (α := Fin 1) _ _ | ⟨1, _⟩ => rfl | ⟨2, _⟩ => rfl⟩
  rw [View.read_apply, emb15]
  rw [out15_ix, hrow_blk]; simp only [blk4, blk8]
  show _ = Q m c 2568 (by decide) (fun j => m ((c : Thread nD τ).loc main_arg6) (ix1 j)) (bt t) (rt t r) l
  refine head_congr _ _ fun j => lin_congr _ fun k => ?_
  rw [wc_hi (n := 2568 + (l.val / 128 * 128 + j.val)) (hn := by have := l.isLt; have := j.isLt; omega)
    (by show 2048 ≤ 2560 + l.val / 128 * 128 + j.val; omega) (by show _ = 2560 + l.val / 128 * 128 + j.val + 8; omega)]

/-- Every index of the array is in some point's block. -/
theorem cover15 (i : S2x16384x512.Idx) :
    ∃ t : Fin cfg0.N, (cfg0.win 15).flush t = true ∧ i ∈ ((cfg0.win 15).blk t).view.set := by
  have h0 : (i 0 : Nat) < 2 := (i 0).isLt
  have h1 : (i 1 : Nat) < 16384 := (i 1).isLt
  have hN : cfg0.N = 64 := N_0
  obtain ⟨t, ht⟩ : ∃ t : Fin cfg0.N, t.val = (i 0 : Nat) * 32 + (i 1 : Nat) / 512 := ⟨⟨_, by omega⟩, rfl⟩
  refine ⟨t, flush0_15 _, ?_⟩
  have e : (ix3 (bt t) (rt t ⟨(i 1 : Nat) % 512, by omega⟩) (i 2) : S2x16384x512.Idx) = i := by
    funext a; apply Fin.ext
    match a with
    | ⟨0, _⟩ => show t.val / 32 = (i 0 : Nat); omega
    | ⟨1, _⟩ => show t.val % 32 * 512 + (i 1 : Nat) % 512 = (i 1 : Nat); omega
    | ⟨2, _⟩ => rfl
  have h := mem15 t ⟨(i 1 : Nat) % 512, by omega⟩ (i 2)
  rw [e] at h
  exact h

theorem final15 : (dats m 0 c).arrAt 15 cfg0.N = G13 m c :=
  (dats m 0 c).arrAt_eq_of_cover 15 (G13 m c) (fun t _ => flushed_eq15 m c t) cover15

theorem flushed_eq16 (t : Fin cfg0.N) :
    (dats m 0 c).flushed 16 t = ((cfg0.win 16).blk t).view.read (Elt Ideal) (G14 m c) := by
  rw [Value.flushed16]
  show out0_16 _ _ _ _ _ _ _ _ _ = _
  funext y
  obtain ⟨r, l, rfl⟩ : ∃ (r : Fin 512) (l : Fin 512), y = (ix3 0 r l : S1x512x512.Idx) :=
    ⟨y 1, y 2, by funext a; match a with | ⟨0, _⟩ => exact Subsingleton.elim (α := Fin 1) _ _ | ⟨1, _⟩ => rfl | ⟨2, _⟩ => rfl⟩
  rw [View.read_apply, emb16]
  rw [out16_at, hrow_blk]; simp only [blk4]
  show _ = P m c (bt t) (rt t r) (3080 + l.val) (by have := l.isLt; omega)
  refine lin_congr _ fun k => ?_
  rw [wc_hi (n := 3080 + l.val) (hn := by have := l.isLt; omega) (by show 2048 ≤ 3072 + l.val; omega) (by show _ = 3072 + l.val + 8; omega)]

/-- Every index of the array is in some point's block. -/
theorem cover16 (i : S2x16384x512.Idx) :
    ∃ t : Fin cfg0.N, (cfg0.win 16).flush t = true ∧ i ∈ ((cfg0.win 16).blk t).view.set := by
  have h0 : (i 0 : Nat) < 2 := (i 0).isLt
  have h1 : (i 1 : Nat) < 16384 := (i 1).isLt
  have hN : cfg0.N = 64 := N_0
  obtain ⟨t, ht⟩ : ∃ t : Fin cfg0.N, t.val = (i 0 : Nat) * 32 + (i 1 : Nat) / 512 := ⟨⟨_, by omega⟩, rfl⟩
  refine ⟨t, flush0_16 _, ?_⟩
  have e : (ix3 (bt t) (rt t ⟨(i 1 : Nat) % 512, by omega⟩) (i 2) : S2x16384x512.Idx) = i := by
    funext a; apply Fin.ext
    match a with
    | ⟨0, _⟩ => show t.val / 32 = (i 0 : Nat); omega
    | ⟨1, _⟩ => show t.val % 32 * 512 + (i 1 : Nat) % 512 = (i 1 : Nat); omega
    | ⟨2, _⟩ => rfl
  have h := mem16 t ⟨(i 1 : Nat) % 512, by omega⟩ (i 2)
  rw [e] at h
  exact h

theorem final16 : (dats m 0 c).arrAt 16 cfg0.N = G14 m c :=
  (dats m 0 c).arrAt_eq_of_cover 16 (G14 m c) (fun t _ => flushed_eq16 m c t) cover16

def G17 (i : S2x16384x8.Idx) : EReal := P m c (i 0) (i 1) (2048 + (i 2 : Nat)) (by have h : (i 2 : Nat) < 8 := (i 2).isLt; omega)

theorem flushed_eq17 (t : Fin cfg0.N) :
    (dats m 0 c).flushed 17 t = ((cfg0.win 17).blk t).view.read (Elt Ideal) (G17 m c) := by
  rw [Value.flushed17]
  show out0_17 _ _ _ _ _ _ _ _ _ = _
  funext y
  obtain ⟨r, l, rfl⟩ : ∃ (r : Fin 512) (l : Fin 8), y = (ix3 0 r l : S1x512x8.Idx) :=
    ⟨y 1, y 2, by funext a; match a with | ⟨0, _⟩ => exact Subsingleton.elim (α := Fin 1) _ _ | ⟨1, _⟩ => rfl | ⟨2, _⟩ => rfl⟩
  rw [View.read_apply, emb17]
  rw [out17_at, hrow_blk]; simp only [blk5]; rfl

/-- Every index of the array is in some point's block. -/
theorem cover17 (i : S2x16384x8.Idx) :
    ∃ t : Fin cfg0.N, (cfg0.win 17).flush t = true ∧ i ∈ ((cfg0.win 17).blk t).view.set := by
  have h0 : (i 0 : Nat) < 2 := (i 0).isLt
  have h1 : (i 1 : Nat) < 16384 := (i 1).isLt
  have hN : cfg0.N = 64 := N_0
  obtain ⟨t, ht⟩ : ∃ t : Fin cfg0.N, t.val = (i 0 : Nat) * 32 + (i 1 : Nat) / 512 := ⟨⟨_, by omega⟩, rfl⟩
  refine ⟨t, flush0_17 _, ?_⟩
  have e : (ix3 (bt t) (rt t ⟨(i 1 : Nat) % 512, by omega⟩) (i 2) : S2x16384x8.Idx) = i := by
    funext a; apply Fin.ext
    match a with
    | ⟨0, _⟩ => show t.val / 32 = (i 0 : Nat); omega
    | ⟨1, _⟩ => show t.val % 32 * 512 + (i 1 : Nat) % 512 = (i 1 : Nat); omega
    | ⟨2, _⟩ => rfl
  have h := mem17 t ⟨(i 1 : Nat) % 512, by omega⟩ (i 2)
  rw [e] at h
  exact h

theorem final17 : (dats m 0 c).arrAt 17 cfg0.N = G17 m c :=
  (dats m 0 c).arrAt_eq_of_cover 17 (G17 m c) (fun t _ => flushed_eq17 m c t) cover17

def G18 (i : S2x8x16384.Idx) : EReal := P m c (i 0) (i 2) (2048 + (i 1 : Nat)) (by have h : (i 1 : Nat) < 8 := (i 1).isLt; omega)

theorem flushed_eq18 (t : Fin cfg0.N) :
    (dats m 0 c).flushed 18 t = ((cfg0.win 18).blk t).view.read (Elt Ideal) (G18 m c) := by
  rw [Value.flushed18]
  show out0_18 _ _ _ _ _ _ _ _ _ = _
  funext y
  obtain ⟨l, r, rfl⟩ : ∃ (l : Fin 8) (r : Fin 512), y = (ix3 0 l r : S1x8x512.Idx) :=
    ⟨y 1, y 2, by funext a; match a with | ⟨0, _⟩ => exact Subsingleton.elim (α := Fin 1) _ _ | ⟨1, _⟩ => rfl | ⟨2, _⟩ => rfl⟩
  rw [View.read_apply, emb18]
  rw [out18_at, hrow_blk]; simp only [blk6]; rfl

/-- Every index of the array is in some point's block. -/
theorem cover18 (i : S2x8x16384.Idx) :
    ∃ t : Fin cfg0.N, (cfg0.win 18).flush t = true ∧ i ∈ ((cfg0.win 18).blk t).view.set := by
  have h0 : (i 0 : Nat) < 2 := (i 0).isLt
  have h2 : (i 2 : Nat) < 16384 := (i 2).isLt
  have hN : cfg0.N = 64 := N_0
  obtain ⟨t, ht⟩ : ∃ t : Fin cfg0.N, t.val = (i 0 : Nat) * 32 + (i 2 : Nat) / 512 := ⟨⟨_, by omega⟩, rfl⟩
  refine ⟨t, flush0_18 _, ?_⟩
  have e : (ix3 (bt t) (i 1) (rt t ⟨(i 2 : Nat) % 512, by omega⟩) : S2x8x16384.Idx) = i := by
    funext a; apply Fin.ext
    match a with
    | ⟨0, _⟩ => show t.val / 32 = (i 0 : Nat); omega
    | ⟨1, _⟩ => rfl
    | ⟨2, _⟩ => show t.val % 32 * 512 + (i 2 : Nat) % 512 = (i 2 : Nat); omega
  have h := mem18 t (i 1) ⟨(i 2 : Nat) % 512, by omega⟩
  rw [e] at h
  exact h

theorem final18 : (dats m 0 c).arrAt 18 cfg0.N = G18 m c :=
  (dats m 0 c).arrAt_eq_of_cover 18 (G18 m c) (fun t _ => flushed_eq18 m c t) cover18

end Cert.Kernel5Ideal.Proj

namespace Cert.Proof.Proj

open Cert.Ffn Cert.Proj

theorem preserves : Cert.preserves_Kernel5_Kernel5Ideal := trivial
theorem frame_k : Cert.quiescent_Kernel5 := fun m ρ _ => Cert.Kernel5.Gen.frame m ρ
theorem frame_ki : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2.2.2.2.2.2.2.2.2.2,
      Idealize.ShloMosaic.sem_eq_zero_of_no_sems (by decide) r.2⟩)
    (Cert.Reference5Ideal.Value.run (F := Ideal) m ρ)

set_option maxHeartbeats 4000000 in
theorem algebraic : Cert.algebraic_Kernel5Ideal_Reference5Ideal := by
  intro m ρ m' ρ' _ hagree
  refine ⟨fun c => Cert.Kernel5Ideal.Proj.G9 m c, fun c => Cert.Kernel5Ideal.Proj.G10 m c, fun c => Cert.Kernel5Ideal.Proj.G11 m c, fun c => Cert.Kernel5Ideal.Proj.G12 m c, fun c => Cert.Kernel5Ideal.Proj.G13 m c, fun c => Cert.Kernel5Ideal.Proj.G14 m c, fun c => Cert.Kernel5Ideal.Proj.G13 m c, fun c => Cert.Kernel5Ideal.Proj.G14 m c, fun c => Cert.Kernel5Ideal.Proj.G17 m c, fun c => Cert.Kernel5Ideal.Proj.G18 m c, ?_, ?_⟩
  · exact (θ_run Cert.Kernel5Ideal.defs _ _).mono
      (fun _ h c => ⟨(h c).1.trans (Cert.Kernel5Ideal.Proj.final9 m c),
        (h c).2.1.trans (Cert.Kernel5Ideal.Proj.final10 m c),
        (h c).2.2.1.trans (Cert.Kernel5Ideal.Proj.final11 m c),
        (h c).2.2.2.1.trans (Cert.Kernel5Ideal.Proj.final12 m c),
        (h c).2.2.2.2.1.trans (Cert.Kernel5Ideal.Proj.final13 m c),
        (h c).2.2.2.2.2.1.trans (Cert.Kernel5Ideal.Proj.final14 m c),
        (h c).2.2.2.2.2.2.1.trans (Cert.Kernel5Ideal.Proj.final15 m c),
        (h c).2.2.2.2.2.2.2.1.trans (Cert.Kernel5Ideal.Proj.final16 m c),
        (h c).2.2.2.2.2.2.2.2.1.trans (Cert.Kernel5Ideal.Proj.final17 m c),
        (h c).2.2.2.2.2.2.2.2.2.1.trans (Cert.Kernel5Ideal.Proj.final18 m c),
        (h c).2.2.2.2.2.2.2.2.2.2⟩) (Cert.Kernel5Ideal.Value.run_blocks (F := Ideal) m ρ)
  · refine (θ_run Cert.Reference5Ideal.defs _ _).mono (fun _ h c => ?_) (Cert.Reference5Ideal.Value.run (F := Ideal) m' ρ')
    obtain ⟨a0, a1, a2, a3, a4, a5, a6⟩ := hagree c
    have e4 : ∀ (b : Fin 2) (r : Fin 16384) (l : Fin 512), (Cert.Reference5Ideal.Value.res_main_v52 (F := Ideal) m' c :
        Cert.Reference5Ideal.S2x16384x512.Idx → EReal) (ix3 b r l) = Cert.Kernel5Ideal.Proj.G13 m c (ix3 b r l) := by
      intro b r l
      unfold Cert.Reference5Ideal.Value.res_main_v52
      rw [a0, a1, a2, a3, a4, a6]
      pointwise
      exact (Cert.Kernel5Ideal.Proj.Q_eq m c 2568 (by decide) (fun j => m ((c : Thread Cert.Kernel5Ideal.nD Cert.Kernel5Ideal.τ).loc
        Cert.Kernel5Ideal.main_arg6) (ix1 j)) b r l).symm
    obtain ⟨h0, h1, h2, h3, h4, h5, h6, h7, h8, h9, hk⟩ := h c
    refine ⟨h0.trans ?_, h1.trans ?_, h2.trans ?_, h3.trans ?_, h4.trans ?_, h5.trans ?_, h6.trans ?_, h7.trans ?_, h8.trans ?_, h9.trans ?_, hk⟩
    · funext i
      obtain ⟨b, r, l, rfl⟩ : ∃ (b : Fin 2) (r : Fin 16384) (l : Fin 1024), i = ix3 b r l :=
        ⟨i 0, i 1, i 2, by funext a; match a with | ⟨0, _⟩ => rfl | ⟨1, _⟩ => rfl | ⟨2, _⟩ => rfl⟩
      rw [a0, a1, a2, a3]
      pointwise
      rfl
    · funext i
      obtain ⟨b, r, l, rfl⟩ : ∃ (b : Fin 2) (r : Fin 16384) (l : Fin 2048), i = ix3 b r l :=
        ⟨i 0, i 1, i 2, by funext a; match a with | ⟨0, _⟩ => rfl | ⟨1, _⟩ => rfl | ⟨2, _⟩ => rfl⟩
      rw [a0, a1, a2, a3, a4]
      pointwise
      rfl
    · funext i
      obtain ⟨b, r, l, rfl⟩ : ∃ (b : Fin 2) (r : Fin 16384) (l : Fin 2048), i = ix3 b r l :=
        ⟨i 0, i 1, i 2, by funext a; match a with | ⟨0, _⟩ => rfl | ⟨1, _⟩ => rfl | ⟨2, _⟩ => rfl⟩
      rw [a0, a1, a2, a3, a4]
      pointwise
      rfl
    · funext i
      obtain ⟨b, r, l, rfl⟩ : ∃ (b : Fin 2) (r : Fin 16384) (l : Fin 512), i = ix3 b r l :=
        ⟨i 0, i 1, i 2, by funext a; match a with | ⟨0, _⟩ => rfl | ⟨1, _⟩ => rfl | ⟨2, _⟩ => rfl⟩
      unfold Cert.Reference5Ideal.Value.res_main_v58
      rw [a0, a1, a2, a3, a4, a5]
      pointwise
      exact (Cert.Kernel5Ideal.Proj.Q_eq m c 2056 (by decide) (fun j => m ((c : Thread Cert.Kernel5Ideal.nD Cert.Kernel5Ideal.τ).loc
        Cert.Kernel5Ideal.main_arg5) (ix1 j)) b r l).symm
    · funext i
      obtain ⟨b, r, l, rfl⟩ : ∃ (b : Fin 2) (r : Fin 16384) (l : Fin 512), i = ix3 b r l :=
        ⟨i 0, i 1, i 2, by funext a; match a with | ⟨0, _⟩ => rfl | ⟨1, _⟩ => rfl | ⟨2, _⟩ => rfl⟩
      exact e4 b r l
    · funext i
      obtain ⟨b, r, l, rfl⟩ : ∃ (b : Fin 2) (r : Fin 16384) (l : Fin 512), i = ix3 b r l :=
        ⟨i 0, i 1, i 2, by funext a; match a with | ⟨0, _⟩ => rfl | ⟨1, _⟩ => rfl | ⟨2, _⟩ => rfl⟩
      rw [a0, a1, a2, a3, a4]
      pointwise
      rfl
    · funext i
      obtain ⟨b, r, l, rfl⟩ : ∃ (b : Fin 2) (r : Fin 16384) (l : Fin 512), i = ix3 b r l :=
        ⟨i 0, i 1, i 2, by funext a; match a with | ⟨0, _⟩ => rfl | ⟨1, _⟩ => rfl | ⟨2, _⟩ => rfl⟩
      exact e4 b r l
    · funext i
      obtain ⟨b, r, l, rfl⟩ : ∃ (b : Fin 2) (r : Fin 16384) (l : Fin 512), i = ix3 b r l :=
        ⟨i 0, i 1, i 2, by funext a; match a with | ⟨0, _⟩ => rfl | ⟨1, _⟩ => rfl | ⟨2, _⟩ => rfl⟩
      rw [a0, a1, a2, a3, a4]
      pointwise
      rfl
    · funext i
      obtain ⟨b, r, l, rfl⟩ : ∃ (b : Fin 2) (r : Fin 16384) (l : Fin 8), i = ix3 b r l :=
        ⟨i 0, i 1, i 2, by funext a; match a with | ⟨0, _⟩ => rfl | ⟨1, _⟩ => rfl | ⟨2, _⟩ => rfl⟩
      rw [a0, a1, a2, a3, a4]
      pointwise
      rfl
    · funext i
      obtain ⟨b, l, r, rfl⟩ : ∃ (b : Fin 2) (l : Fin 8) (r : Fin 16384), i = ix3 b l r :=
        ⟨i 0, i 1, i 2, by funext a; match a with | ⟨0, _⟩ => rfl | ⟨1, _⟩ => rfl | ⟨2, _⟩ => rfl⟩
      rw [a0, a1, a2, a3, a4]
      pointwise
      rfl

end Cert.Proof.Proj

end
-- ==== Proof.Sb.lean ====
module

public import Idealize.ShloMosaic.Lib.Pointwise
public import Idealize.ShloMosaic.Lib.WordCmp

/-
  STICK-BREAKING ATTENTION, ONE QUERY ROW, over the extended reals. A row has a score for every key; a key's softplus is its
  share of the stick; a key before the query weighs exp(score − the softplus of itself and of every later key before the
  query). The reference writes the inner sum as a product with a triangular 0/1 matrix over all keys. The kernel walks
  tiles of keys from the last to the first, carrying the tail of the sum and the weighted values. Both are brought to the
  same finite sums over natural-number key positions. The scores are finite; the values need not be.
-/

@[expose] public section

noncomputable section

namespace Cert.Sb

open Idealize.ShloMosaic Finset

/-! ## Single elements -/

/-- The kernel's softplus of a score. -/
def sp (z : EReal) : EReal :=
  max z 0 + Ideal.log1p (Ideal.exp (0 - FloatOps.absf (F := Ideal) (φ := .f32) z))

/-- The reference's logarithm of the sigmoid of minus the score. -/
def ls (z : EReal) : EReal :=
  -(if - -z ≠ - -z then - -z
    else max (- -z) 0 + Ideal.log1p (Ideal.exp (-FloatOps.absf (F := Ideal) (φ := .f32) (- -z))))

/-- Softplus over the reals. -/
def spR (r : ℝ) : ℝ := max r 0 + Real.log (1 + Real.exp (-|r|))

theorem coe_max (a b : ℝ) : max (a : EReal) (b : EReal) = ((max a b : ℝ) : EReal) :=
  (EReal.coe_strictMono.monotone.map_max (a := a) (b := b)).symm

theorem absf_coe (r : ℝ) : FloatOps.absf (F := Ideal) (φ := .f32) (r : EReal) = ((|r| : ℝ) : EReal) := by
  show max (r : EReal) (-(r : EReal)) = _
  rw [← EReal.coe_neg, coe_max]; rfl

theorem log1p_exp_coe (r : ℝ) : Ideal.log1p (Ideal.exp (r : EReal)) = ((Real.log (1 + Real.exp r) : ℝ) : EReal) := by
  show Ideal.log (1 + ((Real.exp r : ℝ) : EReal)) = _
  rw [← EReal.coe_one, ← EReal.coe_add]
  show (if 1 + Real.exp r ≤ 0 then (⊥ : EReal) else _) = _
  rw [if_neg (not_le.2 (by positivity))]

theorem sp_coe (r : ℝ) : sp (r : EReal) = ((spR r : ℝ) : EReal) := by
  unfold sp spR
  rw [absf_coe, zero_sub, ← EReal.coe_neg, log1p_exp_coe, ← EReal.coe_zero, coe_max, ← EReal.coe_add]

theorem ls_coe (r : ℝ) : ls (r : EReal) = ((-spR r : ℝ) : EReal) := by
  unfold ls spR
  rw [if_neg (by simp), neg_neg, absf_coe, ← EReal.coe_neg, log1p_exp_coe, ← EReal.coe_zero, coe_max, ← EReal.coe_add,
    ← EReal.coe_neg]

/-- An extended real that is a real number. -/
def Fin1 (x : EReal) : Prop := ∃ r : ℝ, x = (r : EReal)

theorem Fin1.mul {x y : EReal} (hx : Fin1 x) (hy : Fin1 y) : Fin1 (x * y) := by
  obtain ⟨a, rfl⟩ := hx; obtain ⟨b, rfl⟩ := hy; exact ⟨a * b, (EReal.coe_mul a b).symm⟩

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

theorem Fin1.sum {n : Nat} {f : Fin n → EReal} (h : ∀ x, Fin1 (f x)) : Fin1 (∑ x, f x) := by
  choose g hg using h
  exact ⟨∑ x, g x, by rw [← coe_sum]; exact sum_congr rfl fun x _ => hg x⟩

/-- The scale of the scores is a real number. -/
theorem scale_fin : Fin1 (Ideal.ofBits .f32 1035273459#32) := by
  show Fin1 (Ideal.ieee 8 23 1035273459#32)
  unfold Ideal.ieee Fin1
  dsimp only
  rw [if_neg (by decide), if_neg (by decide)]
  exact ⟨_, rfl⟩

/-- A score: the product of a query row and a key row, scaled. -/
def score (q k : Fin 128 → EReal) : EReal := (∑ x, q x * k x) * Ideal.ofBits .f32 1035273459#32

theorem score_fin {q k : Fin 128 → EReal} (hq : ∀ x, Fin1 (q x)) (hk : ∀ x, Fin1 (k x)) : Fin1 (score q k) :=
  (Fin1.sum fun x => (hq x).mul (hk x)).mul scale_fin

/-- What the precondition says of one element. -/
theorem fin_of_abs_lt {x : EReal}
    (h : FloatOps.cmpf (F := Ideal) (φ := .f32) .olt (FloatOps.hostAbsf x) (Ideal.ofBits .f32 0x7F800000#32) = 1#1) :
    Fin1 x := by
  have ht : Ideal.ofBits .f32 0x7F800000#32 = (⊤ : EReal) := by
    show Ideal.ieee 8 23 0x7F800000#32 = _
    unfold Ideal.ieee
    dsimp only
    rw [if_pos (by decide), if_pos (by decide), if_neg (by decide)]
  rw [ht] at h
  induction x with
  | bot => exact absurd h (by
      show ¬ (BitVec.ofBool (decide (max (⊥ : EReal) (-⊥) < ⊤)) = 1#1)
      simp)
  | top => exact absurd h (by
      show ¬ (BitVec.ofBool (decide (max (⊤ : EReal) (-⊤) < ⊤)) = 1#1)
      simp)
  | coe r => exact ⟨r, rfl⟩

/-! ## Comparisons of positions -/

theorem select_slt {α : Type} (k p : Nat) (hk : k < 2 ^ 31) (hp : p < 2 ^ 31) (a b : α) :
    Scalar.select (IntOp.cmpi .slt (BitVec.ofNat 32 k) (BitVec.ofNat 32 p)) a b = if k < p then a else b := by
  rw [WordCmp.cmpi_slt_ofNat (w := 32) hk hp]
  by_cases h : k < p <;> simp [Scalar.select, h]

theorem select_zero_mul (c : BitVec 1) (a b : EReal) : Scalar.select c a 0 * b = Scalar.select c (a * b) 0 := by
  unfold Scalar.select
  split_ifs
  · rfl
  · exact zero_mul b

theorem uitofp_sge (k p : Nat) (hk : k < 2 ^ 31) (hp : p < 2 ^ 31) :
    FloatOps.uitofp (F := Ideal) .f32 (IntOp.cmpi .sge (BitVec.ofNat 32 k) (BitVec.ofNat 32 p))
      = if p ≤ k then (1 : EReal) else 0 := by
  rw [WordCmp.cmpi_sge_ofNat (w := 32) hk hp]
  show (((BitVec.toNat _ : ℕ) : ℝ) : EReal) = _
  by_cases h : p ≤ k <;> simp [h]

/-- An element of the triangular matrix as the host computes it. -/
theorem tri_sel (k l : Nat) (hk : k < 2 ^ 31) (hl : l < 2 ^ 31) :
    Scalar.select (IntOp.cmpi .sge (IntOp.addi (BitVec.ofNat 32 k) 0#32) (BitVec.ofNat 32 l)) (1 : EReal) 0
      = if l ≤ k then 1 else 0 := by
  rw [show IntOp.addi (BitVec.ofNat 32 k) 0#32 = BitVec.ofNat 32 k from BitVec.add_zero _,
    WordCmp.cmpi_sge_ofNat (w := 32) hk hl]
  by_cases h : l ≤ k <;> simp [Scalar.select, h]

/-! ## The row's sums -/

/-- The softplus of the keys from `n` on, before the query at `p`. -/
def Sfx (Z : Nat → ℝ) (p n : Nat) : ℝ := ∑ k ∈ Ico n p, spR (Z k)

/-- The weight of key `k`. -/
def W (Z : Nat → ℝ) (p k : Nat) : EReal := Ideal.exp ((Z k : EReal) + ((-Sfx Z p k : ℝ) : EReal))

/-- The weighted values of the keys from `n` on. -/
def Acc (Z : Nat → ℝ) (V : Nat → EReal) (p n : Nat) : EReal := ∑ k ∈ Ico n p, W Z p k * V k

theorem sum_fin_ge {M : Type} [AddCommMonoid M] (g : Nat → M) (b n j : Nat) :
    ∑ x : Fin n, (if j ≤ x.val then g (b + x.val) else 0) = ∑ k ∈ Ico (b + j) (b + n), g k := by
  rw [Fin.sum_univ_eq_sum_range (fun x => if j ≤ x then g (b + x) else 0) n, ← sum_filter,
    add_comm b j, add_comm b n, ← sum_Ico_add' g j n b]
  refine sum_congr ?_ fun x _ => by rw [add_comm]
  ext x; simp [and_comm]

theorem sum_fin {M : Type} [AddCommMonoid M] (g : Nat → M) (b n : Nat) :
    ∑ x : Fin n, g (b + x.val) = ∑ k ∈ Ico b (b + n), g k := by
  have h := sum_fin_ge g b n 0
  simpa using h

/-- Cutting a sum over the keys before `p` to those up to `N`. -/
theorem sum_lt {M : Type} [AddCommMonoid M] (g : Nat → M) (b p N : Nat) (h : p ≤ N) :
    ∑ k ∈ Ico b N, (if k < p then g k else 0) = ∑ k ∈ Ico b p, g k := by
  rw [← sum_filter]
  refine sum_congr ?_ fun _ _ => rfl
  ext x; simp only [mem_filter, mem_Ico]; omega

/-- The kernel's cumulative sum of a tile: the product with the triangular matrix of the part that survives the rounding,
    and of the part that does not. -/
def cum {n : Nat} (f : Fin n → EReal) (u : Fin n → Fin n → EReal) (j : Fin n) : EReal :=
  ∑ x, f x * u x j + ∑ x, (f x - f x) * u x j

theorem cum_eq {n : Nat} (f : Fin n → EReal) (u : Fin n → Fin n → EReal) (g : Nat → ℝ) (b : Nat)
    (hf : ∀ x : Fin n, f x = (g (b + x.val) : EReal)) (hu : ∀ x j : Fin n, u x j = if j.val ≤ x.val then 1 else 0) (j : Fin n) :
    cum f u j = ((∑ k ∈ Ico (b + j.val) (b + n), g k : ℝ) : EReal) := by
  have h0 : ∑ x, (f x - f x) * u x j = 0 :=
    sum_eq_zero fun x _ => by rw [hf, ← EReal.coe_sub, sub_self, EReal.coe_zero, zero_mul]
  unfold cum
  rw [h0, add_zero, ← sum_fin_ge, ← coe_sum]
  refine sum_congr rfl fun x _ => ?_
  rw [hf, hu]
  split_ifs <;> simp

/-! ## One tile of the kernel -/

/-- The tail of the sum after a tile of keys before every query of the row. -/
def tail' {n : Nat} (z : Fin (n + 1) → EReal) (u : Fin (n + 1) → Fin (n + 1) → EReal) (t : EReal) : EReal :=
  t - cum (fun x => sp (z x)) u 0

/-- The weighted values after a tile of keys before every query of the row. -/
def acc' {n : Nat} (z : Fin n → EReal) (u : Fin n → Fin n → EReal) (v : Fin n → EReal) (t a : EReal) : EReal :=
  a + ∑ x, Ideal.exp (z x + (t - cum (fun y => sp (z y)) u x)) * v x

/-- The softplus of the query's own tile, zero from the query on. -/
def msp {n : Nat} (z : Fin n → EReal) (r : Nat) (x : Fin n) : EReal :=
  Scalar.select (IntOp.cmpi .slt (BitVec.ofNat 32 x.val) (BitVec.ofNat 32 r)) (sp (z x)) 0

/-- The tail of the sum after the query's own tile. -/
def tail0 {n : Nat} (z : Fin (n + 1) → EReal) (u : Fin (n + 1) → Fin (n + 1) → EReal) (r : Nat) : EReal :=
  0 - cum (msp z r) u 0

/-- The weighted values after the query's own tile. -/
def acc0 {n : Nat} (z : Fin n → EReal) (u : Fin n → Fin n → EReal) (v : Fin n → EReal) (r : Nat) : EReal :=
  ∑ x : Fin n, Scalar.select (IntOp.cmpi .slt (BitVec.ofNat 32 x.val) (BitVec.ofNat 32 r))
    (Ideal.exp (z x + (0 - cum (msp z r) u x))) 0 * v x

theorem Sfx_split (Z : Nat → ℝ) (p n m : Nat) (h : n ≤ m) (h' : m ≤ p) :
    Sfx Z p n = ∑ k ∈ Ico n m, spR (Z k) + Sfx Z p m := (sum_Ico_consecutive _ h h').symm

section tile
variable {n : Nat} (Z : Nat → ℝ) (V : Nat → EReal) (b p : Nat)

theorem tail_step {z : Fin (n + 1) → EReal} {u : Fin (n + 1) → Fin (n + 1) → EReal} {t : EReal}
    (hz : ∀ x : Fin (n + 1), z x = (Z (b + x.val) : EReal))
    (hu : ∀ x j : Fin (n + 1), u x j = if j.val ≤ x.val then 1 else 0)
    (hp : b + (n + 1) ≤ p) (ht : t = ((-Sfx Z p (b + (n + 1)) : ℝ) : EReal)) : tail' z u t = ((-Sfx Z p b : ℝ) : EReal) := by
  unfold tail'
  rw [cum_eq (fun x => sp (z x)) u (fun k => spR (Z k)) b (fun x => by rw [hz, sp_coe]) hu, ht, ← EReal.coe_sub,
    Sfx_split Z p b (b + (n + 1)) (by omega) hp]
  congr 1
  show _ - ∑ k ∈ Ico (b + 0) _, _ = _
  rw [add_zero]; ring

theorem acc_step {z : Fin n → EReal} {u : Fin n → Fin n → EReal} {v : Fin n → EReal} {t a : EReal}
    (hz : ∀ x : Fin n, z x = (Z (b + x.val) : EReal)) (hv : ∀ x : Fin n, v x = V (b + x.val))
    (hu : ∀ x j : Fin n, u x j = if j.val ≤ x.val then 1 else 0)
    (hp : b + n ≤ p) (ht : t = ((-Sfx Z p (b + n) : ℝ) : EReal)) (ha : a = Acc Z V p (b + n)) :
    acc' z u v t a = Acc Z V p b := by
  unfold acc'
  have h : ∀ x : Fin n, Ideal.exp (z x + (t - cum (fun y => sp (z y)) u x)) * v x
      = (fun k => W Z p k * V k) (b + x.val) := fun x => by
    have hx := x.isLt
    rw [cum_eq (fun x => sp (z x)) u (fun k => spR (Z k)) b (fun x => by rw [hz, sp_coe]) hu, ht, ← EReal.coe_sub, hz, hv]
    show _ = Ideal.exp (_ + ((-Sfx Z p (b + x.val) : ℝ) : EReal)) * _
    rw [Sfx_split Z p (b + x.val) (b + n) (by omega) hp]
    congr 5; ring
  rw [sum_congr rfl fun x _ => h x, sum_fin (fun k => W Z p k * V k), ha, add_comm]
  exact sum_Ico_consecutive _ (by omega) hp

theorem mcum {z : Fin n → EReal} {u : Fin n → Fin n → EReal} (r : Nat)
    (hz : ∀ x : Fin n, z x = (Z (b + x.val) : EReal)) (hu : ∀ x j : Fin n, u x j = if j.val ≤ x.val then 1 else 0)
    (hr : r ≤ n) (hn : n < 2 ^ 31) (hp : p = b + r) (j : Fin n) : cum (msp z r) u j = ((Sfx Z p (b + j.val) : ℝ) : EReal) := by
  rw [cum_eq (msp z r) u (fun k => if k < p then spR (Z k) else 0) b (fun x => ?_) hu]
  · rw [sum_lt (fun k => spR (Z k)) _ p (b + n) (by omega)]; rfl
  · have hx := x.isLt
    unfold msp
    rw [select_slt _ _ (by omega) (by omega), hz, sp_coe]
    by_cases h : x.val < r
    · rw [if_pos h, if_pos (by omega)]
    · rw [if_neg h, if_neg (by omega), EReal.coe_zero]

theorem tail_first {z : Fin (n + 1) → EReal} {u : Fin (n + 1) → Fin (n + 1) → EReal} (r : Nat)
    (hz : ∀ x : Fin (n + 1), z x = (Z (b + x.val) : EReal))
    (hu : ∀ x j : Fin (n + 1), u x j = if j.val ≤ x.val then 1 else 0)
    (hr : r ≤ n + 1) (hn : n + 1 < 2 ^ 31) (hp : p = b + r) : tail0 z u r = ((-Sfx Z p b : ℝ) : EReal) := by
  unfold tail0
  rw [mcum Z b p r hz hu hr hn hp, zero_sub, ← EReal.coe_neg]
  rfl

theorem acc_first {z : Fin n → EReal} {u : Fin n → Fin n → EReal} {v : Fin n → EReal} (r : Nat)
    (hz : ∀ x : Fin n, z x = (Z (b + x.val) : EReal)) (hv : ∀ x : Fin n, v x = V (b + x.val))
    (hu : ∀ x j : Fin n, u x j = if j.val ≤ x.val then 1 else 0)
    (hr : r ≤ n) (hn : n < 2 ^ 31) (hp : p = b + r) : acc0 z u v r = Acc Z V p b := by
  unfold acc0
  rw [Acc, ← sum_lt (fun k => W Z p k * V k) b p (b + n) (by omega), ← sum_fin]
  refine sum_congr rfl fun x _ => ?_
  have hx := x.isLt
  rw [select_slt _ _ (by omega) (by omega), mcum Z b p r hz hu hr hn hp, zero_sub, ← EReal.coe_neg, hz, hv]
  by_cases h : x.val < r
  · rw [if_pos h, if_pos (by omega)]; rfl
  · rw [if_neg h, if_neg (by omega), zero_mul]

end tile

/-! ## The reference's row -/

/-- The reference's masked logarithm at key `k`. -/
theorem ref_log (Z : Nat → ℝ) (p k : Nat) :
    (if k < p then ls (Z k : EReal) else 0) = (((if k < p then -spR (Z k) else 0 : ℝ)) : EReal) := by
  split_ifs
  · exact ls_coe _
  · rfl

/-- Its product with the triangular matrix, over the keys `0 … N - 1`. -/
theorem ref_inner (Z : Nat → ℝ) (p N j : Nat) (h : p ≤ N) :
    ∑ k ∈ range N, (if k < p then ls (Z k : EReal) else 0) * (if j ≤ k then (1 : EReal) else 0)
      = ((-Sfx Z p j : ℝ) : EReal) := by
  have e : ∀ k, (if k < p then ls (Z k : EReal) else 0) * (if j ≤ k then (1 : EReal) else 0)
      = (((if j ≤ k then (if k < p then -spR (Z k) else 0) else 0 : ℝ)) : EReal) := fun k => by
    rw [ref_log]; by_cases hj : j ≤ k
    · rw [if_pos hj, if_pos hj, mul_one]
    · rw [if_neg hj, if_neg hj, mul_zero, EReal.coe_zero]
  rw [sum_congr rfl fun k _ => e k, coe_sum]
  congr 1
  unfold Sfx
  rw [← sum_filter, ← sum_filter, ← sum_neg_distrib]
  refine sum_congr ?_ fun _ _ => rfl
  ext k; simp only [mem_filter, mem_range, mem_Ico]; omega

/-- The whole row: what the reference computes is the kernel's weighted values from key 0 on. -/
theorem ref_row (Z : Nat → ℝ) (V : Nat → EReal) (p N : Nat) (h : p ≤ N) :
    ∑ j ∈ range N, V j * (if j < p then Ideal.exp ((Z j : EReal) +
        ∑ k ∈ range N, (if k < p then ls (Z k : EReal) else 0) * (if j ≤ k then (1 : EReal) else 0)) else 0)
      = Acc Z V p 0 := by
  unfold Acc
  rw [← sum_lt (fun k => W Z p k * V k) 0 p N h, range_eq_Ico]
  refine sum_congr rfl fun j _ => ?_
  rw [← range_eq_Ico, ref_inner Z p N j h]
  split_ifs
  · exact mul_comm _ _
  · rw [mul_zero]

end Cert.Sb

end
-- ==== Proof.SbSample.lean ====
/-
  THE STICK-BREAKING ATTENTION OF THE SAMPLE: the kernel's result array is the reference's, over the extended reals, when the
  queries and keys are finite. One grid point takes the 32 queries of one sequence and head; it walks the new keys, then the
  eight tiles of past keys from the last to the first, and each step is a step of `Sb.tail'` and `Sb.acc'`.
-/
module

public import proofs.«01_k».proof.Defs
public import proofs.«01_k».proof.Proof.Sb
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Pre_finite_sample
public import Idealize.ShloMosaic.Lib.Pointwise
public import Idealize.ShloMosaic.Lib.ReduceAll
public import Idealize.ShloMosaic.Lib.Pipeline.Value
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SbSample

open Cert.Sb Finset

/-! ## One row of the result, from the arrays of queries, new keys and values, and past keys and values -/

section row
variable (q k v : (⟨3, ![16, 32, 512]⟩ : Shape).Idx → EReal) (kp vp : (⟨4, ![16, 2048, 4, 128]⟩ : Shape).Idx → EReal)

/-- Column `d` of head `h`. -/
def col (h : Fin 4) (d : Fin 128) : Fin 512 := ⟨h.val * 128 + d.val, by omega⟩

/-- The key at position `p`: past keys first, then the new ones. -/
def key (b : Fin 16) (h : Fin 4) (p : Nat) (d : Fin 128) : EReal :=
  if hp : p < 2048 then kp (ix4 b ⟨p, hp⟩ h d) else if hp : p - 2048 < 32 then k (ix3 b ⟨p - 2048, hp⟩ (col h d)) else 0

theorem key_past (b : Fin 16) (h : Fin 4) (x : Nat) (hx : x < 2048) (d : Fin 128) :
    key k kp b h x d = kp (ix4 b ⟨x, hx⟩ h d) := dif_pos hx

theorem key_new (b : Fin 16) (h : Fin 4) (x : Fin 32) (d : Fin 128) :
    key k kp b h (2048 + x.val) d = k (ix3 b x (col h d)) := by
  unfold key
  rw [dif_neg (by omega), dif_pos (by omega)]
  congr 2
  exact Fin.ext (by simp)

/-- The score of query `r` and the key at position `p`. -/
def sc (b : Fin 16) (h : Fin 4) (r : Fin 32) (p : Nat) : EReal := score (fun d => q (ix3 b r (col h d))) (key k kp b h p)

/-- That score as a real number. -/
def Z (b : Fin 16) (h : Fin 4) (r : Fin 32) (p : Nat) : ℝ := (sc q k kp b h r p).toReal

/-- One element of the result: the value at position `p` is that of `key`'s arrangement of `v` and `vp`. -/
def cell (b : Fin 16) (h : Fin 4) (r : Fin 32) (l : Fin 128) : EReal :=
  Acc (Z q k kp b h r) (fun p => key v vp b h p l) (2048 + r.val) 0

/-- The whole result. -/
def G (i : (⟨3, ![16, 32, 512]⟩ : Shape).Idx) : EReal :=
  cell q k v kp vp (i 0) ⟨(i 2).val / 128, Nat.div_lt_of_lt_mul (i 2).isLt⟩ (i 1) ⟨(i 2).val % 128, Nat.mod_lt _ (by decide)⟩

variable {q k kp}

theorem sc_coe (hq : ∀ i, Fin1 (q i)) (hk : ∀ i, Fin1 (k i)) (hkp : ∀ i, Fin1 (kp i)) (b : Fin 16) (h : Fin 4) (r : Fin 32)
    (p : Nat) : sc q k kp b h r p = (Z q k kp b h r p : EReal) := by
  obtain ⟨z, hz⟩ : Fin1 (sc q k kp b h r p) := score_fin (fun d => hq _) fun d => by
    unfold key
    split_ifs
    · exact hkp _
    · exact hk _
    · exact ⟨0, rfl⟩
  unfold Z
  rw [hz, EReal.toReal_coe]

end row

end Cert.SbSample

namespace Cert.Kernel2Ideal.Sample

open Cert.Kernel2Ideal Cert.Kernel2Ideal.Gen Cert.Sb

theorem hz3 : (![0, 0, 0] : Fin 3 → Nat) = fun _ => 0 := funext fun a => by fin_cases a <;> rfl

/-! ## The body of the kernel, one query row at a time -/

section body
variable (x0 x1 x2 : Vec Ideal S1x32x128 .bf16) (x3 x4 : Vec Ideal S1x2048x128 .f32) (x5 : Vec Ideal S32x32 .bf16)
  (x6 : Vec Ideal S256x256 .bf16) (r : Fin 32) (l : Fin 128)

/-- The scores of the new keys, and of the past keys of tile `n` counted from the last. -/
def zn (x : Fin 32) : EReal := score (fun k => x0 (ix3 0 r k)) (fun k => x1 (ix3 0 x k))
def zt (n : Nat) (x : Fin 256) : EReal :=
  score (fun k => x0 (ix3 0 r k)) (fun k => x3 (ix3 0 ⟨1792 - n * 256 + x.val, by omega⟩ k))
def vt (n : Nat) (x : Fin 256) : EReal := x4 (ix3 0 ⟨1792 - n * 256 + x.val, by omega⟩ l)
def us (x j : Fin 32) : EReal := x5 (ix2 x j)
def ut (x j : Fin 256) : EReal := x6 (ix2 x j)

/-- The tail and the weighted values after the new keys and `n` tiles of past keys. -/
def tl : Nat → EReal
  | 0 => tail0 (n := 31) (zn x0 x1 r) (us x5) r.val
  | n + 1 => tail' (n := 255) (zt x0 x3 r n) (ut x6) (tl n)
def ac : Nat → EReal
  | 0 => acc0 (zn x0 x1 r) (us x5) (fun x => x2 (ix3 0 x l)) r.val
  | n + 1 => acc' (zt x0 x3 r n) (ut x6) (vt x4 l n) (tl x0 x1 x3 x5 x6 r n) (ac n)

theorem ac_succ (n : Nat) : ac x0 x1 x2 x3 x4 x5 x6 r l (n + 1)
    = acc' (zt x0 x3 r n) (ut x6) (vt x4 l n) (tl x0 x1 x3 x5 x6 r n) (ac x0 x1 x2 x3 x4 x5 x6 r l n) := rfl

theorem t1 : k0_pay51 x0 x1 x2 x3 x4 x5 x6 (ix2 r 0) = tl x0 x1 x3 x5 x6 r 1 := by
  unfold k0_pay51
  pointwise [k0_pay13, k0_pay11, k0_pay10, k0_pay9, k0_pay7, k0_pay6, k0_pay5, k0_pay3, k0_pay1, k0_pay48, k0_pay49, k0_pay50, r0_0, r0_1, r0_2, r0_3]
  simp only [← select_zero_mul]
  rfl

theorem t2 : k0_pay52 x0 x1 x2 x3 x4 x5 x6 (ix2 r 0) = tl x0 x1 x3 x5 x6 r 2 := by
  unfold k0_pay52
  pointwise [k0_pay17, k0_pay15, k0_pay14, k0_pay1, k0_pay48, r0_0, r0_3, r0_4]
  rw [t1]
  rfl

theorem t3 : k0_pay54 x0 x1 x2 x3 x4 x5 x6 (ix2 r 0) = tl x0 x1 x3 x5 x6 r 3 := by
  unfold k0_pay54
  pointwise [k0_pay23, k0_pay21, k0_pay20, k0_pay18, k0_pay1, k0_pay48, k0_pay53, r0_0, r0_3, r0_5]
  rw [t2]
  rfl

theorem t4 : k0_pay57 x0 x1 x2 x3 x4 x5 x6 (ix2 r 0) = tl x0 x1 x3 x5 x6 r 4 := by
  unfold k0_pay57
  pointwise [k0_pay29, k0_pay27, k0_pay26, k0_pay25, k0_pay1, k0_pay48, k0_pay55, k0_pay56, r0_0, r0_3, r0_6]
  rw [t3]
  rfl

theorem t5 : k0_pay61 x0 x1 x2 x3 x4 x5 x6 (ix2 r 0) = tl x0 x1 x3 x5 x6 r 5 := by
  unfold k0_pay61
  pointwise [k0_pay37, k0_pay35, k0_pay34, k0_pay33, k0_pay32, k0_pay31, k0_pay1, k0_pay48, k0_pay58, k0_pay59, k0_pay60, r0_0, r0_3, r0_7]
  rw [t4]
  rfl

def b1 : FVec Ideal S32x128 .f32 :=
  k0_pay12 (k0_pay48 x0 x1 x2 x3 x4 x5 x6) (k0_pay2 (View.ld x2 r0_0)) (k0_pay49 x0 x1 x2 x3 x4 x5 x6) (k0_pay4 (F := Ideal)) k0_pay6 (k0_pay50 x0 x1 x2 x3 x4 x5 x6) (k0_pay8 (View.ld x0 r0_0) (View.ld x1 r0_0) (View.ld x5 r0_1)) (Scalar.ofBits .f32 0x00000000#32) (View.ld x3 r0_2) (View.ld x4 r0_2) (View.ld x6 r0_3)

theorem a1 : b1 x0 x1 x2 x3 x4 x5 x6 (ix2 r l) = ac x0 x1 x2 x3 x4 x5 x6 r l 1 := by
  unfold b1
  pointwise [k0_pay12, k0_pay11, k0_pay10, k0_pay9, k0_pay8, k0_pay7, k0_pay6, k0_pay5, k0_pay4, k0_pay3, k0_pay2, k0_pay1, k0_pay48, k0_pay49, k0_pay50, r0_0, r0_1, r0_2, r0_3]
  simp only [← select_zero_mul]
  rfl

def b2 : FVec Ideal S32x128 .f32 :=
  k0_pay16 (k0_pay48 x0 x1 x2 x3 x4 x5 x6) (b1 x0 x1 x2 x3 x4 x5 x6) (k0_pay51 x0 x1 x2 x3 x4 x5 x6) (View.ld x3 r0_4) (View.ld x4 r0_4) (View.ld x6 r0_3)

theorem a2 : b2 x0 x1 x2 x3 x4 x5 x6 (ix2 r l) = ac x0 x1 x2 x3 x4 x5 x6 r l 2 := by
  unfold b2
  pointwise [k0_pay16, k0_pay15, k0_pay14, k0_pay1, k0_pay48, r0_0, r0_3, r0_4]
  rw [t1, a1]
  rfl

def b3 : FVec Ideal S32x128 .f32 :=
  k0_pay22 (k0_pay48 x0 x1 x2 x3 x4 x5 x6) (b2 x0 x1 x2 x3 x4 x5 x6) (k0_pay52 x0 x1 x2 x3 x4 x5 x6) (k0_pay53 x0 x1 x2 x3 x4 x5 x6) (k0_pay19 (View.ld x4 r0_5)) (View.ld x6 r0_3)

theorem a3 : b3 x0 x1 x2 x3 x4 x5 x6 (ix2 r l) = ac x0 x1 x2 x3 x4 x5 x6 r l 3 := by
  unfold b3
  pointwise [k0_pay22, k0_pay21, k0_pay20, k0_pay19, k0_pay18, k0_pay1, k0_pay48, k0_pay53, r0_0, r0_3, r0_5]
  rw [t2, a2]
  rfl

def b4 : FVec Ideal S32x128 .f32 :=
  k0_pay28 (b3 x0 x1 x2 x3 x4 x5 x6) (k0_pay54 x0 x1 x2 x3 x4 x5 x6) (k0_pay24 (View.ld x4 r0_6)) (k0_pay55 x0 x1 x2 x3 x4 x5 x6) (k0_pay56 x0 x1 x2 x3 x4 x5 x6) (Scalar.ofBits .f32 0x00000000#32)

theorem a4 : b4 x0 x1 x2 x3 x4 x5 x6 (ix2 r l) = ac x0 x1 x2 x3 x4 x5 x6 r l 4 := by
  unfold b4
  pointwise [k0_pay28, k0_pay27, k0_pay26, k0_pay25, k0_pay24, k0_pay1, k0_pay48, k0_pay55, k0_pay56, r0_0, r0_3, r0_6]
  rw [t3, a3]
  rfl

def b5 : FVec Ideal S32x128 .f32 :=
  k0_pay36 (b4 x0 x1 x2 x3 x4 x5 x6) (k0_pay57 x0 x1 x2 x3 x4 x5 x6) (k0_pay30 (View.ld x4 r0_7)) (k0_pay58 x0 x1 x2 x3 x4 x5 x6) (k0_pay32 (k0_pay48 x0 x1 x2 x3 x4 x5 x6) (View.ld x3 r0_7)) (k0_pay59 x0 x1 x2 x3 x4 x5 x6) (k0_pay60 x0 x1 x2 x3 x4 x5 x6)

theorem a5 : b5 x0 x1 x2 x3 x4 x5 x6 (ix2 r l) = ac x0 x1 x2 x3 x4 x5 x6 r l 5 := by
  unfold b5
  pointwise [k0_pay36, k0_pay35, k0_pay34, k0_pay33, k0_pay32, k0_pay31, k0_pay30, k0_pay1, k0_pay48, k0_pay58, k0_pay59, k0_pay60, r0_0, r0_3, r0_7]
  rw [t4, a4]
  rfl

/-- The tail before the last tile but one. -/
theorem t6 : k0_pay42 (k0_pay61 x0 x1 x2 x3 x4 x5 x6) (k0_pay62 x0 x1 x2 x3 x4 x5 x6) (ix2 r 0) = tl x0 x1 x3 x5 x6 r 6 := by
  unfold k0_pay62
  pointwise [k0_pay42, k0_pay40, k0_pay39, k0_pay1, k0_pay48, r0_0, r0_3, r0_8]
  rw [t5]
  rfl

/-- The tail less the cumulative sum, as the next tile but one takes it. -/
theorem t5' (x : Fin 256) : k0_pay41 (k0_pay48 x0 x1 x2 x3 x4 x5 x6) (k0_pay57 x0 x1 x2 x3 x4 x5 x6) (k0_pay58 x0 x1 x2 x3 x4 x5 x6) (k0_pay59 x0 x1 x2 x3 x4 x5 x6) (k0_pay60 x0 x1 x2 x3 x4 x5 x6) (View.ld x3 r0_8) (View.ld x6 r0_3) (ix2 r x)
    = tl x0 x1 x3 x5 x6 r 5 - cum (fun y => sp (zt x0 x3 r 5 y)) (ut x6) x := by
  have h := t5 x0 x1 x2 x3 x4 x5 x6 r
  unfold k0_pay61 at h
  pointwise [k0_pay41, k0_pay40, k0_pay39, k0_pay1, k0_pay48, r0_0, r0_3, r0_8]
  rw [h]
  rfl

theorem a7' (w : FVec Ideal S32x256 .f32)
    (hw : ∀ x, w (ix2 r x) = tl x0 x1 x3 x5 x6 r 5 - cum (fun y => sp (zt x0 x3 r 5 y)) (ut x6) x) :
    k0_pay45 (k0_pay48 x0 x1 x2 x3 x4 x5 x6) (b5 x0 x1 x2 x3 x4 x5 x6) (k0_pay61 x0 x1 x2 x3 x4 x5 x6) (k0_pay38 (View.ld x4 r0_8)) (k0_pay39 (k0_pay48 x0 x1 x2 x3 x4 x5 x6) (View.ld x3 r0_8)) (k0_pay62 x0 x1 x2 x3 x4 x5 x6) w (View.ld x3 r0_9) (View.ld x4 r0_9) (View.ld x6 r0_3) (ix2 r l) = ac x0 x1 x2 x3 x4 x5 x6 r l 7 := by
  have e : ac x0 x1 x2 x3 x4 x5 x6 r l 7 = acc' (zt x0 x3 r 6) (ut x6) (vt x4 l 6) (tl x0 x1 x3 x5 x6 r 6)
      (acc' (zt x0 x3 r 5) (ut x6) (vt x4 l 5) (tl x0 x1 x3 x5 x6 r 5) (ac x0 x1 x2 x3 x4 x5 x6 r l 5)) := rfl
  rw [e]
  pointwise [k0_pay45, k0_pay44, k0_pay43, k0_pay39, k0_pay38, k0_pay1, k0_pay48, r0_0, r0_3, r0_8, r0_9]
  simp only [a5, t6, hw]
  rfl

def b7 : FVec Ideal S32x128 .f32 :=
  k0_pay45 (k0_pay48 x0 x1 x2 x3 x4 x5 x6) (b5 x0 x1 x2 x3 x4 x5 x6) (k0_pay61 x0 x1 x2 x3 x4 x5 x6) (k0_pay38 (View.ld x4 r0_8)) (k0_pay39 (k0_pay48 x0 x1 x2 x3 x4 x5 x6) (View.ld x3 r0_8)) (k0_pay62 x0 x1 x2 x3 x4 x5 x6) (k0_pay41 (k0_pay48 x0 x1 x2 x3 x4 x5 x6) (k0_pay57 x0 x1 x2 x3 x4 x5 x6) (k0_pay58 x0 x1 x2 x3 x4 x5 x6) (k0_pay59 x0 x1 x2 x3 x4 x5 x6) (k0_pay60 x0 x1 x2 x3 x4 x5 x6) (View.ld x3 r0_8) (View.ld x6 r0_3)) (View.ld x3 r0_9) (View.ld x4 r0_9) (View.ld x6 r0_3)

theorem a7 : b7 x0 x1 x2 x3 x4 x5 x6 (ix2 r l) = ac x0 x1 x2 x3 x4 x5 x6 r l 7 := a7' x0 x1 x2 x3 x4 x5 x6 r l _ (t5' x0 x1 x2 x3 x4 x5 x6 r)

/-- What the body leaves in the output's staging buffer, at an index. -/
theorem out_at : out0_7 x0 x1 x2 x3 x4 x5 x6 (ix3 0 r l) = ac x0 x1 x2 x3 x4 x5 x6 r l 8 := by
  have e : out0_7 x0 x1 x2 x3 x4 x5 x6 = View.canon [⟨r0_0, k0_pay47 (k0_pay48 x0 x1 x2 x3 x4 x5 x6) (b7 x0 x1 x2 x3 x4 x5 x6) (k0_pay46 (k0_pay48 x0 x1 x2 x3 x4 x5 x6) (k0_pay61 x0 x1 x2 x3 x4 x5 x6) (k0_pay62 x0 x1 x2 x3 x4 x5 x6) (View.ld x3 r0_9) (View.ld x6 r0_3)) (View.ld x3 r0_10) (View.ld x4 r0_10) (View.ld x6 r0_3)⟩] := rfl
  rw [e, View.canon_unit_zero hz3]
  pointwise [k0_pay47, k0_pay46, k0_pay44, k0_pay43, k0_pay1, k0_pay48, r0_0, r0_3, r0_9, r0_10]
  simp only [a7, t6]
  have hx : ∀ x : Fin 256, (⟨1792 - 7 * 256 + x.val, by omega⟩ : Fin 2048) = ⟨x.val, by omega⟩ := fun x => Fin.ext (by simp)
  have hz : ∀ x, zt x0 x3 r 7 x = score (fun k => x0 (ix3 0 r k)) (fun k => x3 (ix3 0 ⟨x.val, by omega⟩ k)) := fun x => by
    unfold zt; rw [hx]
  have hv : ∀ x, vt x4 l 7 x = x4 (ix3 0 ⟨x.val, by omega⟩ l) := fun x => by unfold vt; rw [hx]
  have e8 : ac x0 x1 x2 x3 x4 x5 x6 r l 8 = acc' (fun x => score (fun k => x0 (ix3 0 r k)) (fun k => x3 (ix3 0 ⟨x.val, by omega⟩ k))) (ut x6)
      (fun x => x4 (ix3 0 ⟨x.val, by omega⟩ l)) (tl x0 x1 x3 x5 x6 r 7) (ac x0 x1 x2 x3 x4 x5 x6 r l 7) := by
    rw [ac_succ, show zt x0 x3 r 7 = _ from funext hz, show vt x4 l 7 = _ from funext hv]
  rw [e8]
  rfl

end body

/-! ## The chain of tiles -/

section chain
variable {x0 x1 x2 : Vec Ideal S1x32x128 .bf16} {x3 x4 : Vec Ideal S1x2048x128 .f32} {x5 : Vec Ideal S32x32 .bf16}
  {x6 : Vec Ideal S256x256 .bf16} {r : Fin 32} {l : Fin 128} {Z : Nat → ℝ} {Vs : Nat → EReal}
  (hzn : ∀ x, zn x0 x1 r x = (Z (2048 + x.val) : EReal))
  (hzt : ∀ n, n < 8 → ∀ x, zt x0 x3 r n x = (Z (1792 - n * 256 + x.val) : EReal))
  (hus : ∀ x j, us x5 x j = if j.val ≤ x.val then 1 else 0)
  (hut : ∀ x j, ut x6 x j = if j.val ≤ x.val then 1 else 0)
include hzn hzt hus hut

theorem tl_eq : ∀ n, n ≤ 8 → tl x0 x1 x3 x5 x6 r n = ((-Sfx Z (2048 + r.val) (2048 - n * 256) : ℝ) : EReal)
  | 0, _ => tail_first (n := 31) Z _ _ r.val hzn hus (by omega) (by omega) rfl
  | n + 1, h => by
    have e : 2048 - (n + 1) * 256 = 1792 - n * 256 := by omega
    rw [e]
    refine tail_step (n := 255) Z _ _ (hzt n (by omega)) hut (by omega) ?_
    rw [tl_eq n (by omega), show 2048 - n * 256 = 1792 - n * 256 + (255 + 1) by omega]

theorem ac_eq (hvn : ∀ x, x2 (ix3 0 x l) = Vs (2048 + x.val))
    (hvt : ∀ n, n < 8 → ∀ x, vt x4 l n x = Vs (1792 - n * 256 + x.val)) :
    ∀ n, n ≤ 8 → ac x0 x1 x2 x3 x4 x5 x6 r l n = Acc Z Vs (2048 + r.val) (2048 - n * 256)
  | 0, _ => acc_first Z Vs _ _ r.val hzn hvn hus (by omega) (by omega) rfl
  | n + 1, h => by
    have e : 2048 - (n + 1) * 256 = 1792 - n * 256 := by omega
    have e' : 2048 - n * 256 = 1792 - n * 256 + 256 := by omega
    rw [e, ac_succ]
    refine acc_step Z Vs _ _ (hzt n (by omega)) (hvt n (by omega)) hut (by omega) ?_ ?_
    · rw [tl_eq hzn hzt hus hut n (by omega), e']
    · rw [ac_eq hvn hvt n (by omega), e']

end chain

variable (m : (ℓ : Loc nD τ sig) → Buf (Elt Ideal) ℓ) (c : Dev nD)

theorem N64 (t : Fin cfg0.N) : t.val < 64 := t.isLt.trans_le N_0.le

/-- Point `t`'s sequence, its head, and its head's column `l`. -/
def bt (t : Fin cfg0.N) : Fin 16 := ⟨t.val / 4, by have := N64 t; omega⟩
def ht (t : Fin cfg0.N) : Fin 4 := ⟨t.val % 4, by omega⟩
def lt (t : Fin cfg0.N) (l : Fin 128) : Fin 512 := ⟨t.val % 4 * 128 + l.val, by omega⟩

theorem main_v0_at (b : Fin 16) (x : Fin 2048) (h : Fin 4) (l : Fin 128) :
    (V m c main_v0 : S16x2048x512.Idx → EReal) (ix3 b x ⟨h.val * 128 + l.val, by omega⟩) = m ((c : Thread nD τ).loc main_arg3) (ix4 b x h l) := by
  have e : V m c main_v0 = StableHlo.after [hostOps0, hostOps0_1, hostOps0_2, hostOps0_3].flatten (fun b => m (c, b)) (Proc.devRef .tc main_v0) := rfl
  simp only [hostOps0, hostOps0_1, hostOps0_2, hostOps0_3, List.flatten_cons, List.flatten_nil, List.append_nil,
    List.cons_append, List.nil_append] at e
  rw [e]
  entry_read
  clear e
  pointwise

theorem main_v1_at (b : Fin 16) (x : Fin 2048) (h : Fin 4) (l : Fin 128) :
    (V m c main_v1 : S16x2048x512.Idx → EReal) (ix3 b x ⟨h.val * 128 + l.val, by omega⟩) = m ((c : Thread nD τ).loc main_arg4) (ix4 b x h l) := by
  have e : V m c main_v1 = StableHlo.after [hostOps0, hostOps0_1, hostOps0_2, hostOps0_3].flatten (fun b => m (c, b)) (Proc.devRef .tc main_v1) := rfl
  simp only [hostOps0, hostOps0_1, hostOps0_2, hostOps0_3, List.flatten_cons, List.flatten_nil, List.append_nil,
    List.cons_append, List.nil_append] at e
  rw [e]
  entry_read
  clear e
  pointwise

theorem main_v3_at (k l : Fin 32) :
    (V m c main_v3 : S32x32.Idx → EReal) (ix2 k l) = (if l.val ≤ k.val then (1 : EReal) else 0) := by
  have e : V m c main_v3 = StableHlo.after [hostOps0, hostOps0_1, hostOps0_2, hostOps0_3].flatten (fun b => m (c, b)) (Proc.devRef .tc main_v3) := rfl
  simp only [hostOps0, hostOps0_1, hostOps0_2, hostOps0_3, List.flatten_cons, List.flatten_nil, List.append_nil,
    List.cons_append, List.nil_append] at e
  rw [e]
  entry_read
  show select (cmpi .sge (addi (iotaInDim S32x32 32 0) (broadcastInDim S32x32 ![] bcast_S_S32x32 (constantI S_ 32 0#32))) (iotaInDim S32x32 32 1))
    (broadcastInDim S32x32 ![] bcast_S_S32x32 (constant S_ .bf16 16256#16)) (broadcastInDim S32x32 ![] bcast_S_S32x32 (constant S_ .bf16 0#16)) (ix2 k l) = _
  pointwise
  exact tri_sel k.val l.val (by omega) (by omega)

theorem main_v5_at (k l : Fin 256) :
    (V m c main_v5 : S256x256.Idx → EReal) (ix2 k l) = (if l.val ≤ k.val then (1 : EReal) else 0) := by
  have e : V m c main_v5 = StableHlo.after [hostOps0, hostOps0_1, hostOps0_2, hostOps0_3].flatten (fun b => m (c, b)) (Proc.devRef .tc main_v5) := rfl
  simp only [hostOps0, hostOps0_1, hostOps0_2, hostOps0_3, List.flatten_cons, List.flatten_nil, List.append_nil,
    List.cons_append, List.nil_append] at e
  rw [e]
  entry_read
  show select (cmpi .sge (addi (iotaInDim S256x256 32 0) (broadcastInDim S256x256 ![] bcast_S_S256x256 (constantI S_ 32 0#32))) (iotaInDim S256x256 32 1))
    (broadcastInDim S256x256 ![] bcast_S_S256x256 (constant S_ .bf16 16256#16)) (broadcastInDim S256x256 ![] bcast_S_S256x256 (constant S_ .bf16 0#16)) (ix2 k l) = _
  pointwise
  exact tri_sel k.val l.val (by omega) (by omega)

theorem idx0 : ∀ t : Fin cfg0.N, win0_0.index t 0 = t.val / 4 ∧ win0_0.index t 1 = 0 ∧ win0_0.index t 2 = t.val % 4 :=
  (by decide +kernel : ∀ t : Fin grid0.N, win0_0.index t 0 = t.val / 4 ∧ win0_0.index t 1 = 0 ∧ win0_0.index t 2 = t.val % 4)

theorem emb0 (t : Fin cfg0.N) (r : Fin 32) (l : Fin 128) :
    ((cfg0.win 0).blk t).view.emb (ix3 0 r l : S1x32x128.Idx) = (ix3 (bt t) r (lt t l) : S16x32x512.Idx) := by
  funext a; apply Fin.ext
  match a with
  | ⟨0, _⟩ => show win0_0.index t 0 * 1 + 1 * 0 = t.val / 4; rw [(idx0 t).1]; omega
  | ⟨1, _⟩ => show win0_0.index t 1 * 32 + 1 * r.val = r.val; rw [(idx0 t).2.1]; omega
  | ⟨2, _⟩ => show win0_0.index t 2 * 128 + 1 * l.val = t.val % 4 * 128 + l.val; rw [(idx0 t).2.2]; omega

theorem blk0 (t : Fin cfg0.N) (r : Fin 32) (l : Fin 128) :
    iblk m c 0 t (ix3 0 r l : S1x32x128.Idx) = m ((c : Thread nD τ).loc main_arg0) (ix3 (bt t) r (lt t l)) := by
  unfold iblk
  rw [View.read_apply, emb0]
  show V m c main_arg0 _ = _
  rw [V_main_arg0]

theorem idx1 : ∀ t : Fin cfg0.N, win0_1.index t 0 = t.val / 4 ∧ win0_1.index t 1 = 0 ∧ win0_1.index t 2 = t.val % 4 :=
  (by decide +kernel : ∀ t : Fin grid0.N, win0_1.index t 0 = t.val / 4 ∧ win0_1.index t 1 = 0 ∧ win0_1.index t 2 = t.val % 4)

theorem emb1 (t : Fin cfg0.N) (r : Fin 32) (l : Fin 128) :
    ((cfg0.win 1).blk t).view.emb (ix3 0 r l : S1x32x128.Idx) = (ix3 (bt t) r (lt t l) : S16x32x512.Idx) := by
  funext a; apply Fin.ext
  match a with
  | ⟨0, _⟩ => show win0_1.index t 0 * 1 + 1 * 0 = t.val / 4; rw [(idx1 t).1]; omega
  | ⟨1, _⟩ => show win0_1.index t 1 * 32 + 1 * r.val = r.val; rw [(idx1 t).2.1]; omega
  | ⟨2, _⟩ => show win0_1.index t 2 * 128 + 1 * l.val = t.val % 4 * 128 + l.val; rw [(idx1 t).2.2]; omega

theorem blk1 (t : Fin cfg0.N) (r : Fin 32) (l : Fin 128) :
    iblk m c 1 t (ix3 0 r l : S1x32x128.Idx) = m ((c : Thread nD τ).loc main_arg1) (ix3 (bt t) r (lt t l)) := by
  unfold iblk
  rw [View.read_apply, emb1]
  show V m c main_arg1 _ = _
  rw [V_main_arg1]

theorem idx2 : ∀ t : Fin cfg0.N, win0_2.index t 0 = t.val / 4 ∧ win0_2.index t 1 = 0 ∧ win0_2.index t 2 = t.val % 4 :=
  (by decide +kernel : ∀ t : Fin grid0.N, win0_2.index t 0 = t.val / 4 ∧ win0_2.index t 1 = 0 ∧ win0_2.index t 2 = t.val % 4)

theorem emb2 (t : Fin cfg0.N) (r : Fin 32) (l : Fin 128) :
    ((cfg0.win 2).blk t).view.emb (ix3 0 r l : S1x32x128.Idx) = (ix3 (bt t) r (lt t l) : S16x32x512.Idx) := by
  funext a; apply Fin.ext
  match a with
  | ⟨0, _⟩ => show win0_2.index t 0 * 1 + 1 * 0 = t.val / 4; rw [(idx2 t).1]; omega
  | ⟨1, _⟩ => show win0_2.index t 1 * 32 + 1 * r.val = r.val; rw [(idx2 t).2.1]; omega
  | ⟨2, _⟩ => show win0_2.index t 2 * 128 + 1 * l.val = t.val % 4 * 128 + l.val; rw [(idx2 t).2.2]; omega

theorem blk2 (t : Fin cfg0.N) (r : Fin 32) (l : Fin 128) :
    iblk m c 2 t (ix3 0 r l : S1x32x128.Idx) = m ((c : Thread nD τ).loc main_arg2) (ix3 (bt t) r (lt t l)) := by
  unfold iblk
  rw [View.read_apply, emb2]
  show V m c main_arg2 _ = _
  rw [V_main_arg2]

theorem idx3 : ∀ t : Fin cfg0.N, win0_3.index t 0 = t.val / 4 ∧ win0_3.index t 1 = 0 ∧ win0_3.index t 2 = t.val % 4 :=
  (by decide +kernel : ∀ t : Fin grid0.N, win0_3.index t 0 = t.val / 4 ∧ win0_3.index t 1 = 0 ∧ win0_3.index t 2 = t.val % 4)

theorem emb3 (t : Fin cfg0.N) (r : Fin 2048) (l : Fin 128) :
    ((cfg0.win 3).blk t).view.emb (ix3 0 r l : S1x2048x128.Idx) = (ix3 (bt t) r (lt t l) : S16x2048x512.Idx) := by
  funext a; apply Fin.ext
  match a with
  | ⟨0, _⟩ => show win0_3.index t 0 * 1 + 1 * 0 = t.val / 4; rw [(idx3 t).1]; omega
  | ⟨1, _⟩ => show win0_3.index t 1 * 2048 + 1 * r.val = r.val; rw [(idx3 t).2.1]; omega
  | ⟨2, _⟩ => show win0_3.index t 2 * 128 + 1 * l.val = t.val % 4 * 128 + l.val; rw [(idx3 t).2.2]; omega

theorem blk3 (t : Fin cfg0.N) (r : Fin 2048) (l : Fin 128) :
    iblk m c 3 t (ix3 0 r l : S1x2048x128.Idx) = m ((c : Thread nD τ).loc main_arg3) (ix4 (bt t) r (ht t) l) := by
  unfold iblk
  rw [View.read_apply, emb3]
  exact main_v0_at m c (bt t) r (ht t) l

theorem idx4 : ∀ t : Fin cfg0.N, win0_4.index t 0 = t.val / 4 ∧ win0_4.index t 1 = 0 ∧ win0_4.index t 2 = t.val % 4 :=
  (by decide +kernel : ∀ t : Fin grid0.N, win0_4.index t 0 = t.val / 4 ∧ win0_4.index t 1 = 0 ∧ win0_4.index t 2 = t.val % 4)

theorem emb4 (t : Fin cfg0.N) (r : Fin 2048) (l : Fin 128) :
    ((cfg0.win 4).blk t).view.emb (ix3 0 r l : S1x2048x128.Idx) = (ix3 (bt t) r (lt t l) : S16x2048x512.Idx) := by
  funext a; apply Fin.ext
  match a with
  | ⟨0, _⟩ => show win0_4.index t 0 * 1 + 1 * 0 = t.val / 4; rw [(idx4 t).1]; omega
  | ⟨1, _⟩ => show win0_4.index t 1 * 2048 + 1 * r.val = r.val; rw [(idx4 t).2.1]; omega
  | ⟨2, _⟩ => show win0_4.index t 2 * 128 + 1 * l.val = t.val % 4 * 128 + l.val; rw [(idx4 t).2.2]; omega

theorem blk4 (t : Fin cfg0.N) (r : Fin 2048) (l : Fin 128) :
    iblk m c 4 t (ix3 0 r l : S1x2048x128.Idx) = m ((c : Thread nD τ).loc main_arg4) (ix4 (bt t) r (ht t) l) := by
  unfold iblk
  rw [View.read_apply, emb4]
  exact main_v1_at m c (bt t) r (ht t) l

theorem idx5 : ∀ t : Fin cfg0.N, win0_5.index t 0 = 0 ∧ win0_5.index t 1 = 0 :=
  (by decide +kernel : ∀ t : Fin grid0.N, win0_5.index t 0 = 0 ∧ win0_5.index t 1 = 0)

theorem emb5 (t : Fin cfg0.N) (k : Fin 32) (l : Fin 32) :
    ((cfg0.win 5).blk t).view.emb (ix2 k l : S32x32.Idx) = (ix2 k l : S32x32.Idx) := by
  funext a; apply Fin.ext
  match a with
  | ⟨0, _⟩ => show win0_5.index t 0 * 32 + 1 * k.val = k.val; rw [(idx5 t).1]; omega
  | ⟨1, _⟩ => show win0_5.index t 1 * 32 + 1 * l.val = l.val; rw [(idx5 t).2]; omega

theorem idx6 : ∀ t : Fin cfg0.N, win0_6.index t 0 = 0 ∧ win0_6.index t 1 = 0 :=
  (by decide +kernel : ∀ t : Fin grid0.N, win0_6.index t 0 = 0 ∧ win0_6.index t 1 = 0)

theorem emb6 (t : Fin cfg0.N) (k : Fin 256) (l : Fin 256) :
    ((cfg0.win 6).blk t).view.emb (ix2 k l : S256x256.Idx) = (ix2 k l : S256x256.Idx) := by
  funext a; apply Fin.ext
  match a with
  | ⟨0, _⟩ => show win0_6.index t 0 * 256 + 1 * k.val = k.val; rw [(idx6 t).1]; omega
  | ⟨1, _⟩ => show win0_6.index t 1 * 256 + 1 * l.val = l.val; rw [(idx6 t).2]; omega

theorem idx7 : ∀ t : Fin cfg0.N, win0_7.index t 0 = t.val / 4 ∧ win0_7.index t 1 = 0 ∧ win0_7.index t 2 = t.val % 4 :=
  (by decide +kernel : ∀ t : Fin grid0.N, win0_7.index t 0 = t.val / 4 ∧ win0_7.index t 1 = 0 ∧ win0_7.index t 2 = t.val % 4)

theorem emb7 (t : Fin cfg0.N) (r : Fin 32) (l : Fin 128) :
    ((cfg0.win 7).blk t).view.emb (ix3 0 r l : S1x32x128.Idx) = (ix3 (bt t) r (lt t l) : S16x32x512.Idx) := by
  funext a; apply Fin.ext
  match a with
  | ⟨0, _⟩ => show win0_7.index t 0 * 1 + 1 * 0 = t.val / 4; rw [(idx7 t).1]; omega
  | ⟨1, _⟩ => show win0_7.index t 1 * 32 + 1 * r.val = r.val; rw [(idx7 t).2.1]; omega
  | ⟨2, _⟩ => show win0_7.index t 2 * 128 + 1 * l.val = t.val % 4 * 128 + l.val; rw [(idx7 t).2.2]; omega

theorem mem7 (t : Fin cfg0.N) (r : Fin 32) (l : Fin 128) :
    (ix3 (bt t) r (lt t l) : S16x32x512.Idx) ∈ ((cfg0.win 7).blk t).view.set := by
  rw [← emb7]; exact View.emb_mem_set _ _
theorem blk5 (t : Fin cfg0.N) (k l : Fin 32) :
    iblk m c 5 t (ix2 k l : S32x32.Idx) = (if l.val ≤ k.val then (1 : EReal) else 0) := by
  unfold iblk
  rw [View.read_apply, emb5]
  exact main_v3_at m c k l

theorem blk6 (t : Fin cfg0.N) (k l : Fin 256) :
    iblk m c 6 t (ix2 k l : S256x256.Idx) = (if l.val ≤ k.val then (1 : EReal) else 0) := by
  unfold iblk
  rw [View.read_apply, emb6]
  exact main_v5_at m c k l

/-! ## The result array -/

section result
open Cert.SbSample (sc Z sc_coe cell key key_past key_new)
variable (hq : ∀ i, Fin1 (m ((c : Thread nD τ).loc main_arg0) i)) (hk : ∀ i, Fin1 (m ((c : Thread nD τ).loc main_arg1) i))
  (hkp : ∀ i, Fin1 (m ((c : Thread nD τ).loc main_arg3) i))
include hq hk hkp

/-- One element of what point `t` writes back. -/
theorem out_cell (t : Fin cfg0.N) (r : Fin 32) (l : Fin 128) :
    ac (iblk m c 0 t) (iblk m c 1 t) (iblk m c 2 t) (iblk m c 3 t) (iblk m c 4 t) (iblk m c 5 t) (iblk m c 6 t) r l 8
      = cell (m ((c : Thread nD τ).loc main_arg0)) (m ((c : Thread nD τ).loc main_arg1)) (m ((c : Thread nD τ).loc main_arg2)) (m ((c : Thread nD τ).loc main_arg3)) (m ((c : Thread nD τ).loc main_arg4)) (bt t) (ht t) r l := by
  refine ac_eq (Z := Z (m ((c : Thread nD τ).loc main_arg0)) (m ((c : Thread nD τ).loc main_arg1)) (m ((c : Thread nD τ).loc main_arg3)) (bt t) (ht t) r) (Vs := fun p => key (m ((c : Thread nD τ).loc main_arg2)) (m ((c : Thread nD τ).loc main_arg4)) (bt t) (ht t) p l)
    (fun x => ?_) (fun n hn x => ?_) (blk5 m c t) (blk6 m c t) (fun x => ?_) (fun n hn x => ?_) 8 le_rfl
  · rw [← sc_coe hq hk hkp]
    unfold zn sc
    congr 1 <;> funext d
    · exact blk0 m c t r d
    · rw [key_new]; exact blk1 m c t x d
  · rw [← sc_coe hq hk hkp]
    unfold zt sc
    congr 1 <;> funext d
    · exact blk0 m c t r d
    · rw [key_past _ _ _ _ _ (by omega)]; exact blk3 m c t _ d
  · show _ = key _ _ _ _ _ _
    rw [key_new]; exact blk2 m c t x l
  · show _ = key _ _ _ _ _ _
    rw [key_past _ _ _ _ _ (by omega)]; exact blk4 m c t _ l

/-- What point `t` writes back is its block of the result. -/
theorem flushed_eq (t : Fin cfg0.N) :
    (dats m 0 c).flushed 7 t = ((cfg0.win 7).blk t).view.read (Elt Ideal) (Cert.SbSample.G (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed7]
  show out0_7 _ _ _ _ _ _ _ = _
  funext y
  obtain ⟨r, l, rfl⟩ : ∃ (r : Fin 32) (l : Fin 128), y = (ix3 0 r l : S1x32x128.Idx) :=
    ⟨y 1, y 2, by funext a; match a with | ⟨0, _⟩ => exact Subsingleton.elim (α := Fin 1) _ _ | ⟨1, _⟩ => rfl | ⟨2, _⟩ => rfl⟩
  rw [View.read_apply, emb7, out_at]
  refine (out_cell m c hq hk hkp t r l).trans ?_
  have e1 : (⟨(lt t l).val / 128, Nat.div_lt_of_lt_mul (lt t l).isLt⟩ : Fin 4) = ht t :=
    Fin.ext (show (t.val % 4 * 128 + l.val) / 128 = t.val % 4 by omega)
  have e2 : (⟨(lt t l).val % 128, Nat.mod_lt _ (by decide)⟩ : Fin 128) = l :=
    Fin.ext (show (t.val % 4 * 128 + l.val) % 128 = l.val by omega)
  show _ = cell _ _ _ _ _ (bt t) ⟨(lt t l).val / 128, _⟩ r ⟨(lt t l).val % 128, _⟩
  rw [e1, e2]

omit hq hk hkp in
/-- Every index of the array is in some point's block. -/
theorem cover7 (i : S16x32x512.Idx) :
    ∃ t : Fin cfg0.N, (cfg0.win 7).flush t = true ∧ i ∈ ((cfg0.win 7).blk t).view.set := by
  have h0 : (i 0 : Nat) < 16 := (i 0).isLt
  have h2 : (i 2 : Nat) < 512 := (i 2).isLt
  have hN : cfg0.N = 64 := N_0
  obtain ⟨t, ht⟩ : ∃ t : Fin cfg0.N, t.val = (i 0 : Nat) * 4 + (i 2 : Nat) / 128 := ⟨⟨_, by omega⟩, rfl⟩
  refine ⟨t, flush0_7 _, ?_⟩
  have e : (ix3 (bt t) (i 1) (lt t ⟨(i 2 : Nat) % 128, by omega⟩) : S16x32x512.Idx) = i := by
    funext a; apply Fin.ext
    match a with
    | ⟨0, _⟩ => show t.val / 4 = (i 0 : Nat); omega
    | ⟨1, _⟩ => rfl
    | ⟨2, _⟩ => show t.val % 4 * 128 + (i 2 : Nat) % 128 = (i 2 : Nat); omega
  have h := mem7 t (i 1) ⟨(i 2 : Nat) % 128, by omega⟩
  rw [e] at h
  exact h

theorem final : (dats m 0 c).arrAt 7 cfg0.N = Cert.SbSample.G (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 7 _ (fun t _ => flushed_eq m c hq hk hkp t) (cover7)

end result

end Cert.Kernel2Ideal.Sample

namespace Cert.Proof.SbSample

open Cert.Sb Cert.SbSample Finset

/-- A sum over all the keys is one over the past keys and one over the new keys. -/
theorem split (f : Nat → EReal) : ∑ j ∈ range 2080, f j = ∑ x : Fin 2048, f x.val + ∑ x : Fin 32, f (2048 + x.val) := by
  rw [show (2080 : Nat) = 2048 + 32 from rfl, Finset.sum_range_add, Finset.sum_range, Finset.sum_range]

/-- The reference's exponents for the key at position `j`, and one element of its result; `o` is its zero. -/
def inner (zp : Fin 2048 → EReal) (zn : Fin 32 → EReal) (o : EReal) (r : Fin 32) (j : Nat) : EReal :=
  ∑ y : Fin 2048, Scalar.select (IntOp.cmpi .slt (BitVec.ofNat 32 y.val) (IntOp.addi 2048#32 (BitVec.ofNat 32 r.val))) (ls (zp y)) o
      * FloatOps.uitofp (F := Ideal) .f32 (IntOp.cmpi .sge (BitVec.ofNat 32 y.val) (BitVec.ofNat 32 j))
  + ∑ y : Fin 32, Scalar.select (IntOp.cmpi .slt (BitVec.ofNat 32 (2048 + y.val)) (IntOp.addi 2048#32 (BitVec.ofNat 32 r.val))) (ls (zn y)) o
      * FloatOps.uitofp (F := Ideal) .f32 (IntOp.cmpi .sge (BitVec.ofNat 32 (2048 + y.val)) (BitVec.ofNat 32 j))

def refcell (zp : Fin 2048 → EReal) (zn : Fin 32 → EReal) (vp : Fin 2048 → EReal) (vn : Fin 32 → EReal) (o : EReal) (r : Fin 32) : EReal :=
  ∑ x : Fin 2048, vp x * Scalar.select (IntOp.cmpi .slt (BitVec.ofNat 32 x.val) (IntOp.addi 2048#32 (BitVec.ofNat 32 r.val)))
      (Ideal.exp (zp x + inner zp zn o r x.val)) o
  + ∑ x : Fin 32, vn x * Scalar.select (IntOp.cmpi .slt (BitVec.ofNat 32 (2048 + x.val)) (IntOp.addi 2048#32 (BitVec.ofNat 32 r.val)))
      (Ideal.exp (zn x + inner zp zn o r (2048 + x.val))) o

section ref
variable {zp : Fin 2048 → EReal} {zn : Fin 32 → EReal} {vp : Fin 2048 → EReal} {vn : Fin 32 → EReal} (r : Fin 32) {Z : Nat → ℝ}
  {V : Nat → EReal} (hzp : ∀ x, zp x = (Z x.val : EReal)) (hzn : ∀ x, zn x = (Z (2048 + x.val) : EReal))
include hzp hzn

omit hzp hzn in
theorem addi_pos (r : Nat) : IntOp.addi 2048#32 (BitVec.ofNat 32 r) = BitVec.ofNat 32 (2048 + r) := (BitVec.ofNat_add 2048 r).symm

theorem inner_eq (j : Nat) (hj : j < 2 ^ 31) : inner zp zn 0 r j
    = ∑ k ∈ range 2080, (if k < 2048 + r.val then ls (Z k : EReal) else 0) * (if j ≤ k then (1 : EReal) else 0) := by
  rw [split]
  unfold inner
  refine congrArg₂ (· + ·) (Finset.sum_congr rfl fun y _ => ?_) (Finset.sum_congr rfl fun y _ => ?_)
  · rw [addi_pos, select_slt _ _ (by omega) (by omega), uitofp_sge _ _ (by omega) hj, hzp]
  · rw [addi_pos, select_slt _ _ (by omega) (by omega), uitofp_sge _ _ (by omega) hj, hzn]

theorem refcell_eq (hvp : ∀ x, vp x = V x.val) (hvn : ∀ x, vn x = V (2048 + x.val)) :
    refcell zp zn vp vn 0 r = Acc Z V (2048 + r.val) 0 := by
  rw [← ref_row Z V (2048 + r.val) 2080 (by omega), split]
  unfold refcell
  refine congrArg₂ (· + ·) (Finset.sum_congr rfl fun y _ => ?_) (Finset.sum_congr rfl fun y _ => ?_)
  · rw [addi_pos, select_slt _ _ (by omega) (by omega), inner_eq r hzp hzn y.val (by omega), hzp, hvp]
  · rw [addi_pos, select_slt _ _ (by omega) (by omega), inner_eq r hzp hzn (2048 + y.val) (by omega), hzn, hvn]

end ref

section reference
open Cert.Reference2Ideal
variable (m' : (ℓ : Loc nD τ sig) → Buf (Elt Ideal) ℓ) (c : Dev nD) (b : Fin 16) (r : Fin 32) (l : Fin 512)

/-- The reference's result array at an index. -/
theorem ref_read :
    (Value.res_main_v36 (F := Ideal) m' c : S16x32x512.Idx → EReal) (ix3 b r l)
      = refcell (fun x => score (fun d => (m' ((c : Thread nD τ).loc main_arg0)) (ix3 b r (col ⟨l.val / 128, by omega⟩ d))) (fun d => (m' ((c : Thread nD τ).loc main_arg3)) (ix4 b x ⟨l.val / 128, by omega⟩ d)))
          (fun x => score (fun d => (m' ((c : Thread nD τ).loc main_arg0)) (ix3 b r (col ⟨l.val / 128, by omega⟩ d))) (fun d => (m' ((c : Thread nD τ).loc main_arg1)) (ix3 b x (col ⟨l.val / 128, by omega⟩ d))))
          (fun x => (m' ((c : Thread nD τ).loc main_arg4)) (ix4 b x ⟨l.val / 128, by omega⟩ ⟨l.val % 128, by omega⟩)) (fun x => (m' ((c : Thread nD τ).loc main_arg2)) (ix3 b x l))
          (id (constant (F := Ideal) S_ .f32 0#32) ix0) r := by
  unfold Value.res_main_v36
  pointwise
  rfl

theorem zero_const : id (constant (F := Ideal) S_ .f32 0#32) ix0 = (0 : EReal) := by
  show constant (F := Ideal) S_ .f32 0#32 ix0 = (0 : EReal)
  pointwise

theorem ref_at
    (hq : ∀ i, Fin1 ((m' ((c : Thread nD τ).loc main_arg0)) i)) (hk : ∀ i, Fin1 ((m' ((c : Thread nD τ).loc main_arg1)) i)) (hkp : ∀ i, Fin1 ((m' ((c : Thread nD τ).loc main_arg3)) i)) :
    (Value.res_main_v36 (F := Ideal) m' c : S16x32x512.Idx → EReal) (ix3 b r l) = G (m' ((c : Thread nD τ).loc main_arg0)) (m' ((c : Thread nD τ).loc main_arg1)) (m' ((c : Thread nD τ).loc main_arg2)) (m' ((c : Thread nD τ).loc main_arg3)) (m' ((c : Thread nD τ).loc main_arg4)) (ix3 b r l) := by
  rw [ref_read, zero_const]
  refine refcell_eq (Z := Z (m' ((c : Thread nD τ).loc main_arg0)) (m' ((c : Thread nD τ).loc main_arg1)) (m' ((c : Thread nD τ).loc main_arg3)) b ⟨l.val / 128, by omega⟩ r)
    (V := fun p => key (m' ((c : Thread nD τ).loc main_arg2)) (m' ((c : Thread nD τ).loc main_arg4)) b ⟨l.val / 128, by omega⟩ p ⟨l.val % 128, by omega⟩) r (fun x => ?_) (fun x => ?_) (fun x => ?_) (fun x => ?_)
  · rw [← sc_coe hq hk hkp]
    unfold sc
    congr 1; funext d
    rw [key_past _ _ _ _ _ x.isLt]
  · rw [← sc_coe hq hk hkp]
    unfold sc
    congr 1; funext d
    rw [key_new]
  · show _ = key _ _ _ _ _ _
    rw [key_past _ _ _ _ _ x.isLt]
  · show _ = key _ _ _ _ _ _
    rw [key_new]
    congr 2
    exact Fin.ext (show l.val = l.val / 128 * 128 + l.val % 128 by omega)

end reference

/-! ## The precondition -/

theorem fin_of_pre (q k v : FVec Ideal Cert.Pre_finite_sample.S16x32x512 .bf16) (kp vp : FVec Ideal Cert.Pre_finite_sample.S16x2048x4x128 .f32)
    (h : Cert.Pre_finite_sample.fn q k v kp vp = fun _ => 1#1) : (∀ i, Fin1 (q i)) ∧ (∀ i, Fin1 (k i)) ∧ ∀ i, Fin1 (kp i) := by
  have h0 := congrFun h ix0
  obtain ⟨h12, h3⟩ := IntOp.andi_eq_one.1 h0
  obtain ⟨h1, h2⟩ := IntOp.andi_eq_one.1 h12
  haveI : Subsingleton Cert.Pre_finite_sample.S_.Idx := ⟨fun a b => funext fun i => i.elim0⟩
  exact ⟨fun i => fin_of_abs_lt (Host.reduce_andi_all _ _ _ _ ix0 h1 i), fun i => fin_of_abs_lt (Host.reduce_andi_all _ _ _ _ ix0 h2 i),
    fun i => fin_of_abs_lt (Host.reduce_andi_all _ _ _ _ ix0 h3 i)⟩

/-! ## The claims -/

theorem preserves : Cert.preserves_Kernel2_Kernel2Ideal := trivial
theorem frame_k : Cert.quiescent_Kernel2 := fun m ρ _ => Cert.Kernel2.Gen.frame m ρ
theorem frame_ki : Cert.quiescent_Kernel2Ideal := fun m ρ _ => Cert.Kernel2Ideal.Gen.frame m ρ
theorem frame_ki_pre : Cert.quiescent_Kernel2Ideal_pre_finite_sample := fun m ρ _ => Cert.Kernel2Ideal.Gen.frame m ρ
theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)
theorem frame_ri_pre : Cert.quiescent_Reference2Ideal_pre_finite_sample := fun m ρ _ => frame_ri m ρ trivial

theorem algebraic : Cert.algebraic_Kernel2Ideal_Reference2Ideal_pre_finite_sample := by
  intro m ρ m' ρ' hpre hagree
  have hf := fun c => fin_of_pre _ _ _ _ _ (hpre c)
  refine ⟨fun c => G (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)), ?_, ?_⟩
  · exact (θ_run Cert.Kernel2Ideal.defs _ _).mono
      (fun _ h c => ⟨(h c).1.trans (Cert.Kernel2Ideal.Sample.final m c (hf c).1 (hf c).2.1 (hf c).2.2), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    obtain ⟨a0, a1, a2, a3, a4⟩ := hagree c
    obtain ⟨hq, hk, hkp⟩ := hf c
    rw [← a0] at hq
    rw [← a1] at hk
    rw [← a3] at hkp
    beta_reduce
    rw [← a0, ← a1, ← a2, ← a3, ← a4]
    funext i
    obtain ⟨b, r, l, rfl⟩ : ∃ (b : Fin 16) (r : Fin 32) (l : Fin 512), i = ix3 b r l :=
      ⟨i 0, i 1, i 2, by funext a; match a with | ⟨0, _⟩ => rfl | ⟨1, _⟩ => rfl | ⟨2, _⟩ => rfl⟩
    exact ref_at m' c b r l hq hk hkp

end Cert.Proof.SbSample

end
-- ==== Proof.SbRunIdeal.lean ====
/- The causal stick-breaking kernel of the prompt: its run, for any float values. One grid point is a head's row block
   of queries. Its body takes the diagonal tile of keys masked, then walks the earlier tiles from the last to the first
   in a loop that may stop early. `walk` is what the loop returns, and the run leaves `out0_5` in the result's block. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Prompt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The launch -/

/-- The buffers when the region is entered: after the host operations. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

set_option maxHeartbeats 800000 in
/-- The program up to the region: the host operations, then the region. -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- The host operations leave argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host operations leave argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host operations leave argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host operations leave argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's staging buffer holds its block at every point. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The loop -/

/-- Tile `k` of the keys lies inside the array: the side condition the loop's body assumes of its counter. -/
theorem chk_of_lt : ∀ k < 64, k0_chk1 (BitVec.ofNat 32 k) := by
  have h : ∀ k : Fin 64, k0_chk1 (BitVec.ofNat 32 k.val) := by decide +kernel
  exact fun k hk => h ⟨k, hk⟩

/-- The rectangle of tile `k`. -/
abbrev rT (k : ℕ) (hk : k < 64) : Rect S1x16384x128 :=
  Rect.unit (s := S1x16384x128) (k0_off2 (BitVec.ofNat 32 k)) S1x256x128.size (k0_off2_inb (BitVec.ofNat 32 k) (chk_of_lt k hk))

/-- The test of the loop on the largest tail entry: some weight can still differ from zero. -/
def live (z : F .f32) (mx : F .f32) : BitVec 1 :=
  Scalar.cmpf .ogt (k0_pay6 z mx) (Named.named κ "log_zero" 0xC2D00000#32)

/-- What the loop returns with `k` tiles to go, from the largest tail entry, the tail and the sum so far. -/
def walk (z : F .f32) (x2 x3 : Vec F S1x16384x128 .bf16) (v1 : FVec F S256x128 .bf16) (v3 : FVec F S256x256 .bf16) :
    ℕ → F .f32 → FVec F S256x1 .f32 → FVec F S256x128 .f32 → FVec F S256x128 .f32
  | 0, _, _, ac => ac
  | k + 1, mx, tl, ac => if live z mx = 1#1 then
      if h : k < 64 then walk z x2 x3 v1 v3 k (k0_pay11 v1 v3 tl (View.ld x2 (rT k h))) (k0_pay10 v1 v3 tl (View.ld x2 (rT k h)))
        (k0_pay9 v1 v3 tl ac (View.ld x2 (rT k h)) (View.ld x3 (rT k h)))
      else ac
    else ac

/-- With a tile to go the counter is that tile's number, -/
theorem ctr_succ (k : ℕ) : Scalar.subi (BitVec.ofNat 32 (k + 1)) 1#32 = BitVec.ofNat 32 k := by
  show BitVec.ofNat 32 (k + 1) - 1#32 = BitVec.ofNat 32 k
  rw [BitVec.ofNat_add]; exact BitVec.add_sub_cancel _ _

/-- at least zero; -/
theorem ctr_pos : ∀ k < 64, Scalar.cmpi .sge (BitVec.ofNat 32 k) 0#32 = 1#1 := by decide

/-- with none it is below zero. -/
theorem ctr_zero : Scalar.cmpi .sge (Scalar.subi (BitVec.ofNat 32 0) 1#32) 0#32 = 0#1 := by decide

theorem andi_zero (b : BitVec 1) : Scalar.andi (0#1) b = 0#1 := by revert b; decide
theorem andi_one (b : BitVec 1) : Scalar.andi (1#1) b = b := by revert b; decide

section Label

variable (c : Dev nD) (i : grid0.Coords) (z : F .f32) (arg5 : Memref sig .tc .vmem S1x16384x128 .bf16) (harg5 : arg5.IsWhole)
  (arg6 : Memref sig .tc .vmem S1x16384x128 .bf16) (harg6 : arg6.IsWhole) (v1 : FVec F S256x128 .bf16) (v3 : FVec F S256x256 .bf16)
  (f2 : Buf (Elt F) (arg5.view.loc (c : Thread nD τ))) (f3 : Buf (Elt F) (arg6.view.loc (c : Thread nD τ)))

/-- The keys' and the values' staging buffers, held. -/
def held : sProp 𝕄 :=
  iprop((arg5.view.loc (c : Thread nD τ) ↦[arg5.view.set]{fullShare} f2) ∗ (arg6.view.loc (c : Thread nD τ) ↦[arg6.view.set]{fullShare} f3))

/-- What the loop is asked with `k` tiles to go: the two buffers, handed back as they were, and the sum `walk` gives. -/
def spec (k : ℕ) (mx : F .f32) (tl : FVec F S256x1 .f32) (ac : FVec F S256x128 .f32) :
    sWPT 𝕄 (BitVec 32 × F .f32 × FVec F S256x1 .f32 × FVec F S256x128 .f32) := do
  sWPT.consume (held c arg5 arg6 f2 f3)
  let r ← sWPT.arbitrary
  sWPT.assume (r.2.2.2 = walk z (arg5.view.read (Elt F) f2) (arg6.view.read (Elt F) f3) v1 v3 k mx tl ac)
  sWPT.produce (held c arg5 arg6 f2 f3)
  pure r

theorem spec_apply (k : ℕ) (mx : F .f32) (tl : FVec F S256x1 .f32) (ac : FVec F S256x128 .f32) (K : BitVec 32 × F .f32 × FVec F S256x1 .f32 × FVec F S256x128 .f32 → sProp 𝕄) :
    spec c z arg5 arg6 v1 v3 f2 f3 k mx tl ac K
      = iprop(held c arg5 arg6 f2 f3 ∗ ∀ r : BitVec 32 × F .f32 × FVec F S256x1 .f32 × FVec F S256x128 .f32, ⌜r.2.2.2 = walk z (arg5.view.read (Elt F) f2) (arg6.view.read (Elt F) f3) v1 v3 k mx tl ac⌝ -∗ (held c arg5 arg6 f2 f3 -∗ K r)) := rfl

/-- One more tile: that tile's step, then the rest. -/
theorem walk_succ (x2 x3 : Vec F S1x16384x128 .bf16) (k : ℕ) (hk : k < 64) (mx : F .f32) (tl : FVec F S256x1 .f32) (ac : FVec F S256x128 .f32) (h : live z mx = 1#1) :
    walk z x2 x3 v1 v3 (k + 1) mx tl ac = walk z x2 x3 v1 v3 k (k0_pay11 v1 v3 tl (View.ld x2 (rT k hk))) (k0_pay10 v1 v3 tl (View.ld x2 (rT k hk)))
        (k0_pay9 v1 v3 tl ac (View.ld x2 (rT k hk)) (View.ld x3 (rT k hk))) := by
  rw [walk, if_pos h, dif_pos hk]

/-- A test that fails ends the walk. -/
theorem walk_stop (x2 x3 : Vec F S1x16384x128 .bf16) (k : ℕ) (mx : F .f32) (tl : FVec F S256x1 .f32) (ac : FVec F S256x128 .f32) (h : ¬ live z mx = 1#1) :
    walk z x2 x3 v1 v3 k mx tl ac = ac := by
  cases k with
  | zero => rfl
  | succ k => rw [walk, if_neg h]

/-- The loop's body meets its specification, by induction on the tiles to go. -/
theorem spec_le (E : Set ℕ) :
    ∀ k, k ≤ 64 → ∀ mx tl ac K, spec c z arg5 arg6 v1 v3 f2 f3 k mx tl ac K
      ⊢ wp frame (wpE (defs₀ (F := F)) Variants.nat (c : Thread nD τ) (some k)) E
          (defs₀ (F := F) .tc 1 ⟨i, z, arg5, harg5, arg6, harg6, v1, v3, Scalar.subi (BitVec.ofNat 32 k) 1#32, mx, tl, ac⟩) K := by
  intro k
  induction k with
  | zero =>
    intro _ mx tl ac K
    rw [spec_apply]
    show _ ⊢ wp frame (wpE (defs₀ (F := F)) Variants.nat (c : Thread nD τ) (some 0)) E
      (cc0_while1 i z arg5 harg5 arg6 harg6 v1 v3 (Scalar.subi (BitVec.ofNat 32 0) 1#32) mx tl ac) K
    simp only [cc0_while1_eq_skeleton]; unfold cc0_while1_skel
    simp only [ctr_zero, andi_zero, show ¬ (0#1 = 1#1) from by decide, ↓reduceIte, Prog.pure_eq_ret]
    iintro ⟨H, Hk⟩
    rw [wp_ret]; imodintro
    iapply Hk
    · ipureintro; rfl
    · iexact H
  | succ k ih =>
    intro hk mx tl ac K
    have hk4 : k < 64 := by omega
    rw [spec_apply]
    show _ ⊢ wp frame (wpE (defs₀ (F := F)) Variants.nat (c : Thread nD τ) (some (k + 1))) E
      (cc0_while1 i z arg5 harg5 arg6 harg6 v1 v3 (Scalar.subi (BitVec.ofNat 32 (k + 1)) 1#32) mx tl ac) K
    simp only [cc0_while1_eq_skeleton, ctr_succ]; unfold cc0_while1_skel
    simp only [ctr_pos k hk4, andi_one]
    by_cases hl : live z mx = 1#1
    · have hl' := hl
      unfold live at hl'
      simp only [hl', ↓reduceIte, Prog.lift, Prog.bind_op, Prog.bind_ret, Prog.pure_eq_ret]
      unfold held
      iintro ⟨⟨Hx, Hw⟩, Hk⟩
      iapply (wp_assume Variants.nat (c : Thread nD τ) (some (k + 1)) E (chk_of_lt k hk4))
      iapply (wp_load Variants.nat (c : Thread nD τ) (some (k + 1)) E (m := arg5) (View.setOn_subset_set _ _)) $$ Hx; iintro Hx
      iapply (wp_load Variants.nat (c : Thread nD τ) (some (k + 1)) E (m := arg6) (View.setOn_subset_set _ _)) $$ Hw; iintro Hw
      iapply (wp_call_spec Variants.nat (c : Thread nD τ) (some (k + 1)) E (spec c z arg5 arg6 v1 v3 f2 f3 k
          (k0_pay11 v1 v3 tl (View.ld (arg5.view.read (Elt F) f2) (rT k hk4))) (k0_pay10 v1 v3 tl (View.ld (arg5.view.read (Elt F) f2) (rT k hk4)))
          (k0_pay9 v1 v3 tl ac (View.ld (arg5.view.read (Elt F) f2) (rT k hk4)) (View.ld (arg6.view.read (Elt F) f3) (rT k hk4)))) k
        (fun u hu => by cases hu; exact Nat.lt_succ_self k)
        (ih (by omega) _ _ _))
      rw [spec_apply]; unfold held
      isplitl [Hx Hw]
      · isplitl [Hx]; · iexact Hx
        iexact Hw
      iintro %r %hr ⟨Hx, Hw⟩
      rw [wp_ret]; imodintro
      iapply Hk
      · ipureintro; rw [walk_succ (hk := hk4) (h := hl)]; exact hr
      · isplitl [Hx]; · iexact Hx
        iexact Hw
    · have hl' := hl
      unfold live at hl'
      simp only [hl', ↓reduceIte, Prog.pure_eq_ret]
      iintro ⟨H, Hk⟩
      rw [wp_ret]; imodintro
      iapply Hk
      · ipureintro; rw [walk_stop (h := hl)]
      · iexact H

end Label

/-! ## The body -/

abbrev rQ : Rect S1x256x128 := Rect.unit (s := S1x256x128) ![0, 0, 0] S1x256x128.size inb_S1x256x128_S1x256x128_0_0_0
abbrev rU : Rect S256x256 := Rect.unit (s := S256x256) ![0, 0] S256x256.size inb_S256x256_S256x256_0_0
abbrev rZ : Rect S1 := Rect.unit (s := S1) ![0] S1.size inb_S1_S1_0
abbrev rD (i : grid0.Coords) : Rect S1x16384x128 := Rect.unit (s := S1x16384x128) (k0_off1 i) S1x256x128.size (k0_off1_inb i)

/-- The bound on the scores, as the body reads it. -/
def bound (x0 : Vec F S1 .f32) : F .f32 := View.ld x0 rZ (Shape.Idx.first (numel1_S1.symm ▸ Nat.one_pos))

/-- The sum of every tile, over the blocks. -/
def total (i : grid0.Coords) (x0 : Vec F S1 .f32) (x1 : Vec F S1x256x128 .bf16) (x2 x3 : Vec F S1x16384x128 .bf16) (x4 : Vec F S256x256 .bf16) : FVec F S256x128 .f32 :=
  walk (bound x0) x2 x3 (k0_pay12 (View.ld x1 rQ)) (k0_pay13 (View.ld x4 rU)) (i 2).val
    (k0_pay4 (k0_pay15 (F := F)) (k0_pay21 (View.ld x1 rQ) (View.ld x4 rU) (View.ld x2 (rD i))) (k0_pay22 (View.ld x1 rQ) (View.ld x4 rU) (View.ld x2 (rD i))))
    (k0_pay3 (k0_pay15 (F := F)) (k0_pay21 (View.ld x1 rQ) (View.ld x4 rU) (View.ld x2 (rD i))) (k0_pay22 (View.ld x1 rQ) (View.ld x4 rU) (View.ld x2 (rD i))))
    (k0_pay2 (k0_pay14 (View.ld x3 (rD i))) (k0_pay15 (F := F)) (k0_pay16 (F := F)) (k0_pay17 (View.ld x1 rQ) (View.ld x2 (rD i))) k0_pay18
      (k0_pay21 (View.ld x1 rQ) (View.ld x4 rU) (View.ld x2 (rD i))) (k0_pay22 (View.ld x1 rQ) (View.ld x4 rU) (View.ld x2 (rD i))))

/-- The result's staging buffer after the body. -/
def out0_5 (i : grid0.Coords) (x0 : Vec F S1 .f32) (x1 : Vec F S1x256x128 .bf16) (x2 x3 : Vec F S1x16384x128 .bf16) (x4 : Vec F S256x256 .bf16) : Vec F S1x256x128 .bf16 :=
  View.canon [⟨rQ, k0_pay5 (total i x0 x1 x2 x3 x4)⟩]

theorem cover0_5 (p0 : Vec F S1x256x128 .bf16) (y : S1x256x128.Idx) :
    ∃ pc ∈ ([⟨rQ, p0⟩] : List (View.Piece (Elt F) S1x256x128 .bf16)), y ∈ pc.1.set :=
  View.cover_of_tiled [⟨rQ, p0⟩] S1x256x128.size (by rfl) y

set_option maxHeartbeats 1000000 in
/-- The body on whole staging buffers, the inputs' at read contents and the result's at anything. -/
theorem sound_kernel (c : Dev nD) (E : Set ℕ) (i : grid0.Coords) (arg3 : Memref sig .tc .smem S1 .f32) (harg3 : arg3.IsWhole) (arg4 : Memref sig .tc .vmem S1x256x128 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S256x256 .bf16) (harg7 : arg7.IsWhole) (arg8 : Memref sig .tc .vmem S1x256x128 .bf16) (harg8 : arg8.IsWhole)
    (x0 : Vec F S1 .f32) (x1 : Vec F S1x256x128 .bf16) (x2 x3 : Vec F S1x16384x128 .bf16) (x4 : Vec F S256x256 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (out0_5 i x0 x1 x2 x3 x4)) -∗ K ⟨⟩))
      ⊢ wp frame (wpE (defs₀ (F := F)) Variants.nat c none) E (cc0_sb_prompt i arg3 harg3 arg4 harg4 arg5 harg5 arg6 harg6 arg7 harg7 arg8 harg8) K := by
  simp only [cc0_sb_prompt_eq_skeleton]; unfold cc0_sb_prompt_skel
  simp only [k0_part1_eq_skeleton]; unfold k0_part1_skel
  simp only [smemLoad, smemLoadElt, Prog.lift, Prog.bind_op, Prog.bind_ret, Prog.pure_eq_ret]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  iapply (wp_load Variants.nat (c : Thread nD τ) none E (m := arg4) (View.setOn_subset_set _ _)) $$ H1; iintro H1
  iapply (wp_load Variants.nat (c : Thread nD τ) none E (m := arg7) (View.setOn_subset_set _ _)) $$ H4; iintro H4
  iapply (wp_load_rect Variants.nat (c : Thread nD τ) none E (m := arg3) (r := rZ) (View.set_slice_subset _ _)) $$ H0; iintro H0
  iapply (wp_load Variants.nat (c : Thread nD τ) none E (m := arg5) (View.setOn_subset_set _ _)) $$ H2; iintro H2
  iapply (wp_load Variants.nat (c : Thread nD τ) none E (m := arg6) (View.setOn_subset_set _ _)) $$ H3; iintro H3
  iapply (wp_call_spec Variants.nat (c : Thread nD τ) none E (spec c (bound (arg3.view.read (Elt F) f0)) arg5 arg6 _ _ f2 f3 (i 2).val _ _ _) (i 2).val
    (fun u hu => nomatch hu) (spec_le c i (bound (arg3.view.read (Elt F) f0)) arg5 harg5 arg6 harg6 _ _ f2 f3 E (i 2).val (Nat.le_of_lt (i 2).isLt) _ _ _))
  rw [spec_apply]; unfold held
  isplitl [H2 H3]
  · isplitl [H2]; · iexact H2
    iexact H3
  iintro %r %hr ⟨H2, H3⟩
  obtain ⟨r0, r1, r2, r3⟩ := r
  simp only [Prog.lift, Prog.bind_op, Prog.bind_ret, Prog.pure_eq_ret]
  iapply (wp_load Variants.nat (c : Thread nD τ) none E (m := arg8) (View.setOn_subset_set _ _)) $$ H5; iintro H5
  iapply (wp_store Variants.nat (c : Thread nD τ) none E (m := arg8) (r := rQ) (Mk := Finset.univ) ((View.setOn_subset_set _ _).trans (View.set_slice_subset _ _))) $$ H5; iintro H5
  rw [wp_ret]; imodintro
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  dsimp only at hr
  subst hr
  refine (View.read_writes_eq_canon _ f5 [⟨rQ, _⟩] (cover0_5 _)).trans ?_
  rfl

/-! ## The pipeline's proof data -/

/-- The arrays as the region finds them; after the body each input's buffer at its block and the result's at `out0_5`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (grid0.coords t) (iblk m c 0 t) (iblk m c 1 t) (iblk m c 2 t) (iblk m c 3 t) (iblk m c 4 t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = out0_5 (grid0.coords t) (iblk m c 0 t) (iblk m c 1 t) (iblk m c 2 t) (iblk m c 3 t) (iblk m c 4 t) := by dsimp only [dats]; rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every weakly fair execution terminates, with the pipeline's arrays at what the proof data gives and the counters at zero. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame (Q' := _) (cfgs (F := F)) (dats m) (0 : Fin 1) launch0 defs₀ Variants.nat m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

/-- The arguments end as launched. -/
theorem kept (r : PUnit × MemSt nD τ sig (Elt F)) (h : Pipeline.FramePost (cfgs (F := F)) (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩

/-- The arguments end as launched and the counters at zero, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => kept m r h.1 c, h.2⟩) (run_main_quiescent m ρ)

/-- What point `t` writes back. -/
theorem flushed5 (c : Dev nD) (t : Fin (cfg0 (F := F)).N) :
    (dats m 0 c).flushed 5 t = ((cfg0 (F := F)).win 5).cut (grid0.coords t) (out0_5 (grid0.coords t) (iblk m c 0 t) (iblk m c 1 t) (iblk m c 2 t) (iblk m c 3 t) (iblk m c 4 t)) := by
  show ((cfg0 (F := F)).win 5).cut (grid0.coords t) ((dats m 0 c).after 5 t) = _
  rw [after0_5]

/-- The run with the result's array named. -/
theorem run_blocks : θ_run defs (onTc (τ := τ) (main (F := F))) ⟨m, fun _ => 0, ρ⟩ fun r => ∀ c : Dev nD,
      r.2.mem ((c : Thread nD τ).loc main_v2) = (dats m 0 c).arrAt 5 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 5, kept m r h.1 c⟩) (run_main_quiescent m ρ)

end Cert.KernelIdeal.Prompt

end
-- ==== Proof.SbPrompt.lean ====
/-
  THE STICK-BREAKING ATTENTION OF THE PROMPT: the kernel's result array is the reference's, over the extended reals, when the
  queries, the keys and the bound on the scores are finite. One grid point takes 256 queries of one sequence and head; it takes
  their own tile of keys, then walks the tiles before it from the last to the first. The walk never stops early here: the test
  asks whether the tail plus the bound lies above the logarithm of zero, and both are finite.
-/
module

public import proofs.«01_k».proof.Defs
public import proofs.«01_k».proof.Proof.Sb
public import proofs.«01_k».proof.Proof.SbRun
public import proofs.«01_k».proof.Proof.SbRunIdeal
public import proofs.«01_k».proof.Proof.Gen.ReferenceIdeal.Run
public import proofs.«01_k».proof.Proof.Gen.Pre_finite_prompt
public import Idealize.ShloMosaic.PureOps.Ideal.Laws
public import Idealize.ShloMosaic.Lib.Pointwise
public import Idealize.ShloMosaic.Lib.ReduceAll
public import Idealize.ShloMosaic.Lib.Pipeline.Value
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SbPrompt

open Cert.Sb Finset

/-! ## One row of the result, from the arrays of queries, keys and values -/

section row
variable (q k v : (⟨3, ![2, 16384, 512]⟩ : Shape).Idx → EReal)

/-- Column `d` of head `h`. -/
def col (h : Fin 4) (d : Fin 128) : Fin 512 := ⟨h.val * 128 + d.val, by omega⟩

/-- The key at position `p`, zero past the last. -/
def key (b : Fin 2) (h : Fin 4) (p : Nat) (d : Fin 128) : EReal :=
  if hp : p < 16384 then k (ix3 b ⟨p, hp⟩ (col h d)) else 0

theorem key_lt (b : Fin 2) (h : Fin 4) (p : Nat) (hp : p < 16384) (d : Fin 128) : key k b h p d = k (ix3 b ⟨p, hp⟩ (col h d)) := dif_pos hp

/-- The score of the query at position `r` and the key at position `p`. -/
def sc (b : Fin 2) (h : Fin 4) (r : Fin 16384) (p : Nat) : EReal := score (fun d => q (ix3 b r (col h d))) (key k b h p)

/-- That score as a real number. -/
def Z (b : Fin 2) (h : Fin 4) (r : Fin 16384) (p : Nat) : ℝ := (sc q k b h r p).toReal

/-- One element of the result. -/
def cell (b : Fin 2) (h : Fin 4) (r : Fin 16384) (l : Fin 128) : EReal := Acc (Z q k b h r) (fun p => key v b h p l) r.val 0

/-- The whole result. -/
def G (i : (⟨3, ![2, 16384, 512]⟩ : Shape).Idx) : EReal :=
  cell q k v (i 0) ⟨(i 2).val / 128, Nat.div_lt_of_lt_mul (i 2).isLt⟩ (i 1) ⟨(i 2).val % 128, Nat.mod_lt _ (by decide)⟩

variable {q k}

theorem sc_coe (hq : ∀ i, Fin1 (q i)) (hk : ∀ i, Fin1 (k i)) (b : Fin 2) (h : Fin 4) (r : Fin 16384) (p : Nat) :
    sc q k b h r p = (Z q k b h r p : EReal) := by
  obtain ⟨z, hz⟩ : Fin1 (sc q k b h r p) := score_fin (fun d => hq _) fun d => by
    unfold key
    split_ifs
    · exact hk _
    · exact ⟨0, rfl⟩
  unfold Z
  rw [hz, EReal.toReal_coe]

end row

end Cert.SbPrompt

namespace Cert.KernelIdeal.PromptValue

open Cert.KernelIdeal Cert.KernelIdeal.Gen Cert.KernelIdeal.Prompt Cert.Sb

theorem hz3 : (![0, 0, 0] : Fin 3 → Nat) = fun _ => 0 := funext fun a => by fin_cases a <;> rfl
theorem hz2 : (![0, 0] : Fin 2 → Nat) = fun _ => 0 := funext fun a => by fin_cases a <;> rfl

/-! ## The body of the kernel at an index -/

section body
variable (v1 : FVec Ideal S256x128 .bf16) (v3 : FVec Ideal S256x256 .bf16) (x1 : Vec Ideal S1x256x128 .bf16)
  (x4 : Vec Ideal S256x256 .bf16) (w wv : Vec Ideal S1x256x128 .bf16) (t : FVec Ideal S256x1 .f32) (a : FVec Ideal S256x128 .f32)
  (r : Fin 256) (l : Fin 128)

/-- The scores of query `r` and a tile of keys. -/
def zt (x : Fin 256) : EReal := score (fun d => v1 (ix2 r d)) (fun d => w (ix3 0 x d))
def vt (x : Fin 256) : EReal := wv (ix3 0 x l)
def ut (x j : Fin 256) : EReal := v3 (ix2 x j)

theorem tail_at : k0_pay10 v1 v3 t w (ix2 r 0) = tail' (n := 255) (zt v1 w r) (ut v3) (t (ix2 r 0)) := by
  unfold k0_pay10
  pointwise [k0_pay8, k0_pay7]
  rfl

theorem acc_at : k0_pay9 v1 v3 t a w wv (ix2 r l) = acc' (zt v1 w r) (ut v3) (vt wv l) (t (ix2 r 0)) (a (ix2 r l)) := by
  unfold k0_pay9
  pointwise [k0_pay8, k0_pay7]
  rfl

theorem q_at (d : Fin 128) : k0_pay12 x1 (ix2 r d) = x1 (ix3 0 r d) := by
  pointwise [k0_pay12]

theorem u_at (j : Fin 256) : k0_pay13 x4 (ix2 r j) = x4 (ix2 r j) := by
  pointwise [k0_pay13]

theorem tail0_at : k0_pay3 (k0_pay15 (F := Ideal)) (k0_pay21 x1 x4 w) (k0_pay22 x1 x4 w) (ix2 r 0)
    = tail0 (n := 255) (zt (k0_pay12 x1) w r) (ut (k0_pay13 x4)) r.val := by
  have e : tail0 (n := 255) (zt (k0_pay12 x1) w r) (ut (k0_pay13 x4)) r.val
      = tail0 (n := 255) (fun x => score (fun d => x1 (ix3 0 r d)) (fun d => w (ix3 0 x d))) (fun x j => x4 (ix2 x j)) r.val := by
    have e1 : zt (k0_pay12 x1) w r = fun x => score (fun d => x1 (ix3 0 r d)) (fun d => w (ix3 0 x d)) := by
      funext x; unfold zt; simp only [q_at]
    have e2 : ut (k0_pay13 x4) = fun x j => x4 (ix2 x j) := by
      funext x j; exact u_at x4 x j
    rw [e1, e2]
  rw [e]
  unfold k0_pay3
  pointwise [k0_pay1, k0_pay12, k0_pay13, k0_pay15, k0_pay17, k0_pay18, k0_pay19, k0_pay20, k0_pay21, k0_pay22]
  simp only [← select_zero_mul]
  rfl

theorem acc0_at : k0_pay2 (k0_pay14 wv) (k0_pay15 (F := Ideal)) (k0_pay16 (F := Ideal)) (k0_pay17 x1 w) k0_pay18 (k0_pay21 x1 x4 w) (k0_pay22 x1 x4 w) (ix2 r l)
    = acc0 (zt (k0_pay12 x1) w r) (ut (k0_pay13 x4)) (vt wv l) r.val := by
  have e : acc0 (zt (k0_pay12 x1) w r) (ut (k0_pay13 x4)) (vt wv l) r.val
      = acc0 (fun x => score (fun d => x1 (ix3 0 r d)) (fun d => w (ix3 0 x d))) (fun x j => x4 (ix2 x j)) (vt wv l) r.val := by
    have e1 : zt (k0_pay12 x1) w r = fun x => score (fun d => x1 (ix3 0 r d)) (fun d => w (ix3 0 x d)) := by
      funext x; unfold zt; simp only [q_at]
    have e2 : ut (k0_pay13 x4) = fun x j => x4 (ix2 x j) := by
      funext x j; exact u_at x4 x j
    rw [e1, e2]
  rw [e]
  unfold k0_pay2
  pointwise [k0_pay1, k0_pay12, k0_pay13, k0_pay14, k0_pay15, k0_pay16, k0_pay17, k0_pay18, k0_pay19, k0_pay20, k0_pay21, k0_pay22]
  simp only [← select_zero_mul]
  rfl

end body

/-! ## The test of the loop -/

/-- The largest of entries none of which is −∞ is not −∞. -/
theorem red_ne_bot (src : FVec Ideal S1x256x1 .f32) (hs : ∀ i, src i ≠ (⊥ : EReal)) (j : S1.Idx) :
    multiReduction .maximumf [1, 2] S1 src 0xFF800000#32 reduces_S1x256x1_S1 (.inl rfl) rfl j ≠ (⊥ : EReal) := by
  have e := multiReduction_maximumf_eq_fold (F := Ideal) (φ := .f32) src 0xFF800000#32 reduces_S1x256x1_S1 (.inl rfl) rfl j
  haveI : Subsingleton S1.Idx := ⟨fun a b => funext fun i => by fin_cases i; exact Subsingleton.elim (α := Fin 1) _ _⟩
  refine ne_of_gt (lt_of_lt_of_eq ?_ e.symm)
  exact (Finset.lt_fold_max (α := S1x256x1.Idx) (β := EReal) _).2
    (Or.inr ⟨ix3 0 0 0, Finset.mem_filter.2 ⟨Finset.mem_univ _, Subsingleton.elim _ _⟩, bot_lt_iff_ne_bot.2 (hs _)⟩)

theorem first_ne_bot (v13 : FVec Ideal S256x1 .f32) (v35 v36 : FVec Ideal S256x256 .f32)
    (h : ∀ i, k0_pay3 v13 v35 v36 i ≠ (⊥ : EReal)) : k0_pay4 v13 v35 v36 ≠ (⊥ : EReal) :=
  red_ne_bot (shapeCast S1x256x1 (k0_pay3 v13 v35 v36) shapeCasts_S256x1_S1x256x1) (fun _ => h _) _

theorem next_ne_bot (v1 : FVec Ideal S256x128 .bf16) (v3 : FVec Ideal S256x256 .bf16) (t : FVec Ideal S256x1 .f32) (w : Vec Ideal S1x256x128 .bf16)
    (h : ∀ i, k0_pay10 v1 v3 t w i ≠ (⊥ : EReal)) : k0_pay11 v1 v3 t w ≠ (⊥ : EReal) :=
  red_ne_bot (shapeCast S1x256x1 (k0_pay10 v1 v3 t w) shapeCasts_S256x1_S1x256x1) (fun _ => h _) _

/-- With a finite bound and a tail that is not −∞ the test holds. -/
theorem live_one (z : ℝ) (mx : EReal) (h : mx ≠ ⊥) : live (F := Ideal) (z : EReal) mx = 1#1 := by
  unfold live
  rw [IdealRules.named_const.ideal_named_scalar Cert.KernelIdeal.κ "log_zero" (φ := .f32) 0xC2D00000#32 ⊥ rfl]
  show BitVec.ofBool (decide ((⊥ : EReal) < mx + (z : EReal))) = 1#1
  rw [decide_eq_true]
  · rfl
  · rw [bot_lt_iff_ne_bot]
    intro e
    rcases EReal.add_eq_bot_iff.1 e with e | e
    · exact h e
    · exact EReal.coe_ne_bot _ e

/-! ## The walk over the tiles -/

theorem off2_eq : ∀ k < 64, k0_off2 (BitVec.ofNat 32 k) = ![0, 256 * k, 0] := by
  have h : ∀ k : Fin 64, k0_off2 (BitVec.ofNat 32 k.val) = ![0, 256 * k.val, 0] := by decide +kernel
  exact fun k hk => h ⟨k, hk⟩

/-- A tile at an index. -/
theorem tile_at (x : Vec Ideal S1x16384x128 .bf16) (off : Fin 3 → ℕ) (inb) (b : ℕ) (e : off = ![0, b, 0]) (y : Fin 256) (d : Fin 128) (h : b + y.val < 16384) :
    View.ld x (Rect.unit (s := S1x16384x128) off S1x256x128.size inb) (ix3 0 y d : S1x256x128.Idx) = x (ix3 0 ⟨b + y.val, h⟩ d) := by
  subst e
  show x _ = _
  congr 1
  funext a; apply Fin.ext
  match a with
  | ⟨0, _⟩ => rfl
  | ⟨1, _⟩ => show b + 1 * y.val = b + y.val; omega
  | ⟨2, _⟩ => show 0 + 1 * d.val = d.val; omega

section walk
variable {x2 x3 : Vec Ideal S1x16384x128 .bf16} {v1 : FVec Ideal S256x128 .bf16} {v3 : FVec Ideal S256x256 .bf16}
  {Z : Fin 256 → ℕ → ℝ} {Vs : ℕ → EReal} {l : Fin 128}
  (hz : ∀ r p (hp : p < 16384), score (fun d => v1 (ix2 r d)) (fun d => x2 (ix3 0 ⟨p, hp⟩ d)) = (Z r p : EReal))
  (hv : ∀ p (hp : p < 16384), x3 (ix3 0 ⟨p, hp⟩ l) = Vs p)
  (hu : ∀ x j : Fin 256, ut v3 x j = if j.val ≤ x.val then 1 else 0)
include hz hv hu

theorem walk_eq (z : ℝ) (q0 : ℕ) : ∀ k, k ≤ 64 → 256 * k ≤ q0 → ∀ (mx : EReal) (t : FVec Ideal S256x1 .f32) (a : FVec Ideal S256x128 .f32), mx ≠ ⊥ →
    (∀ r, t (ix2 r 0) = ((-Sfx (Z r) (q0 + r.val) (256 * k) : ℝ) : EReal)) → (∀ r, a (ix2 r l) = Acc (Z r) Vs (q0 + r.val) (256 * k)) →
    ∀ r, walk (F := Ideal) (z : EReal) x2 x3 v1 v3 k mx t a (ix2 r l) = Acc (Z r) Vs (q0 + r.val) 0
  | 0, _, _, _, _, _, _, _, ha => fun r => ha r
  | k + 1, hk, hq, mx, t, a, hm, ht, ha => fun r => by
    have hz' : ∀ r x, zt v1 (View.ld x2 (rT k hk)) r x = (Z r (256 * k + x.val) : EReal) := fun r x => by
      rw [← hz r _ (by omega)]
      unfold zt
      congr 1; funext d
      exact tile_at x2 _ _ _ (off2_eq k hk) x d _
    have hv' : ∀ x, vt (View.ld x3 (rT k hk)) l x = Vs (256 * k + x.val) := fun x => by
      rw [← hv _ (by omega)]
      exact tile_at x3 _ _ _ (off2_eq k hk) x l _
    have ht' : ∀ r, k0_pay10 v1 v3 t (View.ld x2 (rT k hk)) (ix2 r 0) = ((-Sfx (Z r) (q0 + r.val) (256 * k) : ℝ) : EReal) := fun r => by
      rw [tail_at]
      exact tail_step (n := 255) (Z r) _ _ (hz' r) hu (by omega) (ht r)
    rw [walk_succ (F := Ideal) (hk := hk) (h := live_one z mx hm)]
    refine walk_eq z q0 k (by omega) (by omega) _ _ _ (next_ne_bot _ _ _ _ fun i => ?_) ht' (fun r => ?_) r
    · obtain ⟨r, rfl⟩ : ∃ r : Fin 256, i = (ix2 r 0 : S256x1.Idx) :=
        ⟨i 0, by funext a; match a with | ⟨0, _⟩ => rfl | ⟨1, _⟩ => exact Subsingleton.elim (α := Fin 1) _ _⟩
      rw [ht' r]
      exact EReal.coe_ne_bot _
    · rw [acc_at]
      exact acc_step (Z r) Vs _ _ (hz' r) hv' hu (by omega) (ht r) (ha r)

end walk

/-- The sum of every tile at an index. -/
theorem total_at (i : grid0.Coords) {x0 : Vec Ideal S1 .f32} {x1 : Vec Ideal S1x256x128 .bf16} {x2 x3 : Vec Ideal S1x16384x128 .bf16}
    {x4 : Vec Ideal S256x256 .bf16} {Z : Fin 256 → ℕ → ℝ} {Vs : ℕ → EReal} {l : Fin 128}
    (h0 : Fin1 (x0 (ix1 0)))
    (hz : ∀ r p (hp : p < 16384), score (fun d => x1 (ix3 0 r d)) (fun d => x2 (ix3 0 ⟨p, hp⟩ d)) = (Z r p : EReal))
    (hv : ∀ p (hp : p < 16384), x3 (ix3 0 ⟨p, hp⟩ l) = Vs p)
    (hu : ∀ x j : Fin 256, x4 (ix2 x j) = if j.val ≤ x.val then (1 : EReal) else 0) (r : Fin 256) :
    total i x0 x1 x2 x3 x4 (ix2 r l) = Acc (Z r) Vs (256 * (i 2).val + r.val) 0 := by
  have hi : (i 2).val < 64 := (i 2).isLt
  obtain ⟨z, e0⟩ : Fin1 (bound x0) := by
    have e : bound x0 = x0 (ix1 0) := by
      unfold bound
      show x0 _ = _
      congr 1
      funext a; fin_cases a; exact Subsingleton.elim (α := Fin 1) _ _
    rw [e]; exact h0
  unfold total
  rw [e0]
  have e1 : View.ld x1 rQ = x1 := View.ld_unit_zero hz3 _ _
  have e4 : View.ld x4 rU = x4 := View.ld_unit_zero hz2 _ _
  rw [e1, e4]
  have hq : ∀ r p (hp : p < 16384), score (fun d => k0_pay12 x1 (ix2 r d)) (fun d => x2 (ix3 0 ⟨p, hp⟩ d)) = (Z r p : EReal) := fun r p hp => by
    rw [← hz r p hp]; simp only [q_at]
  have hu' : ∀ x j : Fin 256, ut (k0_pay13 x4) x j = if j.val ≤ x.val then (1 : EReal) else 0 := fun x j => by
    unfold ut; rw [u_at]; exact hu x j
  have hz' : ∀ r x, zt (k0_pay12 x1) (View.ld x2 (rD i)) r x = (Z r (256 * (i 2).val + x.val) : EReal) := fun r x => by
    rw [← hq r _ (by omega)]
    unfold zt
    congr 1; funext d
    exact tile_at x2 _ _ _ (k0_off1_eq i) x d _
  have hv' : ∀ x, vt (View.ld x3 (rD i)) l x = Vs (256 * (i 2).val + x.val) := fun x => by
    rw [← hv _ (by omega)]
    exact tile_at x3 _ _ _ (k0_off1_eq i) x l _
  have ht : ∀ r, k0_pay3 (k0_pay15 (F := Ideal)) (k0_pay21 x1 x4 (View.ld x2 (rD i))) (k0_pay22 x1 x4 (View.ld x2 (rD i))) (ix2 r 0)
      = ((-Sfx (Z r) (256 * (i 2).val + r.val) (256 * (i 2).val) : ℝ) : EReal) := fun r => by
    rw [tail0_at]
    exact tail_first (n := 255) (Z r) _ _ r.val (hz' r) hu' (by omega) (by omega) rfl
  refine walk_eq hq hv hu' z (256 * (i 2).val) (i 2).val (by omega) le_rfl _ _ _ (first_ne_bot _ _ _ fun i => ?_) ht (fun r => ?_) r
  · obtain ⟨r, rfl⟩ : ∃ r : Fin 256, i = (ix2 r 0 : S256x1.Idx) :=
      ⟨i 0, by funext a; match a with | ⟨0, _⟩ => rfl | ⟨1, _⟩ => exact Subsingleton.elim (α := Fin 1) _ _⟩
    rw [ht r]
    exact EReal.coe_ne_bot _
  · rw [acc0_at]
    exact acc_first (Z r) Vs _ _ r.val (hz' r) hv' hu' (by omega) (by omega) rfl

/-! ## The blocks of the arrays -/

variable (m : (ℓ : Loc nD τ sig) → Buf (Elt Ideal) ℓ) (c : Dev nD)

theorem N512 (t : Fin (cfg0 (F := Ideal)).N) : t.val < 512 := t.isLt.trans_le N_0.le

/-- Point `t`'s sequence, its head, the position of its query `r`, and its head's column `l`. -/
def bt (t : Fin (cfg0 (F := Ideal)).N) : Fin 2 := ⟨t.val / 256, by have := N512 t; omega⟩
def ht (t : Fin (cfg0 (F := Ideal)).N) : Fin 4 := ⟨t.val / 64 % 4, by omega⟩
def qt (t : Fin (cfg0 (F := Ideal)).N) (r : Fin 256) : Fin 16384 := ⟨t.val % 64 * 256 + r.val, by omega⟩
def lt (t : Fin (cfg0 (F := Ideal)).N) (l : Fin 128) : Fin 512 := ⟨t.val / 64 % 4 * 128 + l.val, by omega⟩

theorem tile_of : ∀ t : Fin (cfg0 (F := Ideal)).N, (grid0.coords t 2).val = t.val % 64 :=
  (by decide +kernel : ∀ t : Fin grid0.N, (grid0.coords t 2).val = t.val % 64)

theorem main_v1_at (k l : Fin 256) :
    (V m c main_v1 : S256x256.Idx → EReal) (ix2 k l) = (if l.val ≤ k.val then (1 : EReal) else 0) := by
  have e : V m c main_v1 = StableHlo.after [hostOps0, hostOps0_1].flatten (fun b => m (c, b)) (Proc.devRef .tc main_v1) := rfl
  simp only [hostOps0, hostOps0_1, List.flatten_cons, List.flatten_nil, List.append_nil, List.cons_append, List.nil_append] at e
  rw [e]
  entry_read
  show select (cmpi .sge (addi (iotaInDim S256x256 32 0) (broadcastInDim S256x256 ![] bcast_S_S256x256 (constantI S_ 32 0#32))) (iotaInDim S256x256 32 1))
    (broadcastInDim S256x256 ![] bcast_S_S256x256 (constant S_ .bf16 16256#16)) (broadcastInDim S256x256 ![] bcast_S_S256x256 (constant S_ .bf16 0#16)) (ix2 k l) = _
  pointwise
  exact tri_sel k.val l.val (by omega) (by omega)

theorem idx0 : ∀ t : Fin (cfg0 (F := Ideal)).N, win0_0.index t 0 = 0 :=
  (by decide +kernel : ∀ t : Fin grid0.N, win0_0.index t 0 = 0)

theorem emb0 (t : Fin (cfg0 (F := Ideal)).N)  :
    (((cfg0 (F := Ideal)).win 0).blk t).view.emb (ix1 0 : S1.Idx) = (ix1 0 : S1.Idx) := by
  funext a; apply Fin.ext
  match a with
  | ⟨0, _⟩ => show win0_0.index t 0 * 1 + 1 * 0 = 0; rw [(idx0 t)]

theorem idx1 : ∀ t : Fin (cfg0 (F := Ideal)).N, win0_1.index t 0 = t.val / 256 ∧ win0_1.index t 1 = t.val % 64 ∧ win0_1.index t 2 = t.val / 64 % 4 :=
  (by decide +kernel : ∀ t : Fin grid0.N, win0_1.index t 0 = t.val / 256 ∧ win0_1.index t 1 = t.val % 64 ∧ win0_1.index t 2 = t.val / 64 % 4)

theorem emb1 (t : Fin (cfg0 (F := Ideal)).N) (r : Fin 256) (l : Fin 128) :
    (((cfg0 (F := Ideal)).win 1).blk t).view.emb (ix3 0 r l : S1x256x128.Idx) = (ix3 (bt t) (qt t r) (lt t l) : S2x16384x512.Idx) := by
  funext a; apply Fin.ext
  match a with
  | ⟨0, _⟩ => show win0_1.index t 0 * 1 + 1 * 0 = t.val / 256; rw [(idx1 t).1]; omega
  | ⟨1, _⟩ => show win0_1.index t 1 * 256 + 1 * r.val = t.val % 64 * 256 + r.val; rw [(idx1 t).2.1]; omega
  | ⟨2, _⟩ => show win0_1.index t 2 * 128 + 1 * l.val = t.val / 64 % 4 * 128 + l.val; rw [(idx1 t).2.2]; omega

theorem blk1 (t : Fin (cfg0 (F := Ideal)).N) (r : Fin 256) (l : Fin 128) :
    iblk m c 1 t (ix3 0 r l : S1x256x128.Idx) = m ((c : Thread nD τ).loc main_arg1) (ix3 (bt t) (qt t r) (lt t l)) := by
  unfold iblk
  rw [View.read_apply, emb1]
  show V m c main_arg1 _ = _
  rw [V_main_arg1]

theorem idx2 : ∀ t : Fin (cfg0 (F := Ideal)).N, win0_2.index t 0 = t.val / 256 ∧ win0_2.index t 1 = 0 ∧ win0_2.index t 2 = t.val / 64 % 4 :=
  (by decide +kernel : ∀ t : Fin grid0.N, win0_2.index t 0 = t.val / 256 ∧ win0_2.index t 1 = 0 ∧ win0_2.index t 2 = t.val / 64 % 4)

theorem emb2 (t : Fin (cfg0 (F := Ideal)).N) (x : Fin 16384) (l : Fin 128) :
    (((cfg0 (F := Ideal)).win 2).blk t).view.emb (ix3 0 x l : S1x16384x128.Idx) = (ix3 (bt t) x (lt t l) : S2x16384x512.Idx) := by
  funext a; apply Fin.ext
  match a with
  | ⟨0, _⟩ => show win0_2.index t 0 * 1 + 1 * 0 = t.val / 256; rw [(idx2 t).1]; omega
  | ⟨1, _⟩ => show win0_2.index t 1 * 16384 + 1 * x.val = x.val; rw [(idx2 t).2.1]; omega
  | ⟨2, _⟩ => show win0_2.index t 2 * 128 + 1 * l.val = t.val / 64 % 4 * 128 + l.val; rw [(idx2 t).2.2]; omega

theorem blk2 (t : Fin (cfg0 (F := Ideal)).N) (x : Fin 16384) (l : Fin 128) :
    iblk m c 2 t (ix3 0 x l : S1x16384x128.Idx) = m ((c : Thread nD τ).loc main_arg2) (ix3 (bt t) x (lt t l)) := by
  unfold iblk
  rw [View.read_apply, emb2]
  show V m c main_arg2 _ = _
  rw [V_main_arg2]

theorem idx3 : ∀ t : Fin (cfg0 (F := Ideal)).N, win0_3.index t 0 = t.val / 256 ∧ win0_3.index t 1 = 0 ∧ win0_3.index t 2 = t.val / 64 % 4 :=
  (by decide +kernel : ∀ t : Fin grid0.N, win0_3.index t 0 = t.val / 256 ∧ win0_3.index t 1 = 0 ∧ win0_3.index t 2 = t.val / 64 % 4)

theorem emb3 (t : Fin (cfg0 (F := Ideal)).N) (x : Fin 16384) (l : Fin 128) :
    (((cfg0 (F := Ideal)).win 3).blk t).view.emb (ix3 0 x l : S1x16384x128.Idx) = (ix3 (bt t) x (lt t l) : S2x16384x512.Idx) := by
  funext a; apply Fin.ext
  match a with
  | ⟨0, _⟩ => show win0_3.index t 0 * 1 + 1 * 0 = t.val / 256; rw [(idx3 t).1]; omega
  | ⟨1, _⟩ => show win0_3.index t 1 * 16384 + 1 * x.val = x.val; rw [(idx3 t).2.1]; omega
  | ⟨2, _⟩ => show win0_3.index t 2 * 128 + 1 * l.val = t.val / 64 % 4 * 128 + l.val; rw [(idx3 t).2.2]; omega

theorem blk3 (t : Fin (cfg0 (F := Ideal)).N) (x : Fin 16384) (l : Fin 128) :
    iblk m c 3 t (ix3 0 x l : S1x16384x128.Idx) = m ((c : Thread nD τ).loc main_arg3) (ix3 (bt t) x (lt t l)) := by
  unfold iblk
  rw [View.read_apply, emb3]
  show V m c main_arg3 _ = _
  rw [V_main_arg3]

theorem idx4 : ∀ t : Fin (cfg0 (F := Ideal)).N, win0_4.index t 0 = 0 ∧ win0_4.index t 1 = 0 :=
  (by decide +kernel : ∀ t : Fin grid0.N, win0_4.index t 0 = 0 ∧ win0_4.index t 1 = 0)

theorem emb4 (t : Fin (cfg0 (F := Ideal)).N) (k : Fin 256) (l : Fin 256) :
    (((cfg0 (F := Ideal)).win 4).blk t).view.emb (ix2 k l : S256x256.Idx) = (ix2 k l : S256x256.Idx) := by
  funext a; apply Fin.ext
  match a with
  | ⟨0, _⟩ => show win0_4.index t 0 * 256 + 1 * k.val = k.val; rw [(idx4 t).1]; omega
  | ⟨1, _⟩ => show win0_4.index t 1 * 256 + 1 * l.val = l.val; rw [(idx4 t).2]; omega

theorem idx5 : ∀ t : Fin (cfg0 (F := Ideal)).N, win0_5.index t 0 = t.val / 256 ∧ win0_5.index t 1 = t.val % 64 ∧ win0_5.index t 2 = t.val / 64 % 4 :=
  (by decide +kernel : ∀ t : Fin grid0.N, win0_5.index t 0 = t.val / 256 ∧ win0_5.index t 1 = t.val % 64 ∧ win0_5.index t 2 = t.val / 64 % 4)

theorem emb5 (t : Fin (cfg0 (F := Ideal)).N) (r : Fin 256) (l : Fin 128) :
    (((cfg0 (F := Ideal)).win 5).blk t).view.emb (ix3 0 r l : S1x256x128.Idx) = (ix3 (bt t) (qt t r) (lt t l) : S2x16384x512.Idx) := by
  funext a; apply Fin.ext
  match a with
  | ⟨0, _⟩ => show win0_5.index t 0 * 1 + 1 * 0 = t.val / 256; rw [(idx5 t).1]; omega
  | ⟨1, _⟩ => show win0_5.index t 1 * 256 + 1 * r.val = t.val % 64 * 256 + r.val; rw [(idx5 t).2.1]; omega
  | ⟨2, _⟩ => show win0_5.index t 2 * 128 + 1 * l.val = t.val / 64 % 4 * 128 + l.val; rw [(idx5 t).2.2]; omega

theorem mem5 (t : Fin (cfg0 (F := Ideal)).N) (r : Fin 256) (l : Fin 128) :
    (ix3 (bt t) (qt t r) (lt t l) : S2x16384x512.Idx) ∈ (((cfg0 (F := Ideal)).win 5).blk t).view.set := by
  rw [← emb5]; exact View.emb_mem_set _ _

theorem blk0 (t : Fin (cfg0 (F := Ideal)).N) : iblk m c 0 t (ix1 0 : S1.Idx) = m ((c : Thread nD τ).loc main_arg0) (ix1 0) := by
  unfold iblk
  rw [View.read_apply, emb0]
  show V m c main_arg0 _ = _
  rw [V_main_arg0]

theorem blk4 (t : Fin (cfg0 (F := Ideal)).N) (k l : Fin 256) :
    iblk m c 4 t (ix2 k l : S256x256.Idx) = (if l.val ≤ k.val then (1 : EReal) else 0) := by
  unfold iblk
  rw [View.read_apply, emb4]
  exact main_v1_at m c k l

/-! ## The result array -/

section result
open Cert.SbPrompt
variable (hz : Fin1 ((m ((c : Thread nD τ).loc main_arg0)) (ix1 0))) (hq : ∀ i, Fin1 ((m ((c : Thread nD τ).loc main_arg1)) i)) (hk : ∀ i, Fin1 ((m ((c : Thread nD τ).loc main_arg2)) i))
include hz hq hk

/-- One element of what point `t` writes back. -/
theorem out_cell (t : Fin (cfg0 (F := Ideal)).N) (r : Fin 256) (l : Fin 128) :
    total (F := Ideal) (grid0.coords t) (iblk m c 0 t) (iblk m c 1 t) (iblk m c 2 t) (iblk m c 3 t) (iblk m c 4 t) (ix2 r l)
      = cell (m ((c : Thread nD τ).loc main_arg1)) (m ((c : Thread nD τ).loc main_arg2)) (m ((c : Thread nD τ).loc main_arg3)) (bt t) (ht t) (qt t r) l := by
  have h := total_at (grid0.coords t) (x0 := iblk m c 0 t) (x1 := iblk m c 1 t) (x2 := iblk m c 2 t) (x3 := iblk m c 3 t) (x4 := iblk m c 4 t)
    (Z := fun r => Z (m ((c : Thread nD τ).loc main_arg1)) (m ((c : Thread nD τ).loc main_arg2)) (bt t) (ht t) (qt t r)) (Vs := fun p => key (m ((c : Thread nD τ).loc main_arg3)) (bt t) (ht t) p l) (l := l)
    (by rw [blk0]; exact hz) (fun r p hp => ?_) (fun p hp => ?_) (blk4 m c t) r
  · refine h.trans ?_
    unfold cell
    rw [tile_of]
    congr 1
    show 256 * (t.val % 64) + r.val = t.val % 64 * 256 + r.val
    omega
  · rw [← sc_coe hq hk]
    unfold sc
    congr 1 <;> funext d
    · exact blk1 m c t r d
    · rw [key_lt _ _ _ _ hp]; exact blk2 m c t _ d
  · rw [key_lt _ _ _ _ hp]; exact blk3 m c t _ l

omit hz hq hk in
/-- The stored block at an index. -/
theorem store_at (a : FVec Ideal S256x128 .f32) (r : Fin 256) (l : Fin 128) :
    (View.canon (Val := Elt Ideal) [⟨rQ, k0_pay5 a⟩] : S1x256x128.Idx → Elt Ideal .bf16) (ix3 0 r l) = a (ix2 r l) := by
  rw [View.canon_unit_zero hz3]
  pointwise [k0_pay5]

/-- What point `t` writes back is its block of the result. -/
theorem flushed_eq (t : Fin (cfg0 (F := Ideal)).N) :
    (dats m 0 c).flushed 5 t = (((cfg0 (F := Ideal)).win 5).blk t).view.read (Elt Ideal) (G (m ((c : Thread nD τ).loc main_arg1)) (m ((c : Thread nD τ).loc main_arg2)) (m ((c : Thread nD τ).loc main_arg3))) := by
  rw [flushed5]
  show out0_5 _ _ _ _ _ _ = _
  funext y
  obtain ⟨r, l, rfl⟩ : ∃ (r : Fin 256) (l : Fin 128), y = (ix3 0 r l : S1x256x128.Idx) :=
    ⟨y 1, y 2, by funext a; match a with | ⟨0, _⟩ => exact Subsingleton.elim (α := Fin 1) _ _ | ⟨1, _⟩ => rfl | ⟨2, _⟩ => rfl⟩
  rw [View.read_apply, emb5]
  refine (store_at _ r l).trans ((out_cell m c hz hq hk t r l).trans ?_)
  have e1 : (⟨(lt t l).val / 128, Nat.div_lt_of_lt_mul (lt t l).isLt⟩ : Fin 4) = ht t :=
    Fin.ext (show (t.val / 64 % 4 * 128 + l.val) / 128 = t.val / 64 % 4 by omega)
  have e2 : (⟨(lt t l).val % 128, Nat.mod_lt _ (by decide)⟩ : Fin 128) = l :=
    Fin.ext (show (t.val / 64 % 4 * 128 + l.val) % 128 = l.val by omega)
  show _ = cell _ _ _ (bt t) ⟨(lt t l).val / 128, _⟩ (qt t r) ⟨(lt t l).val % 128, _⟩
  rw [e1, e2]

omit hz hq hk in
/-- Every index of the array is in some point's block. -/
theorem cover5 (i : S2x16384x512.Idx) :
    ∃ t : Fin (cfg0 (F := Ideal)).N, ((cfg0 (F := Ideal)).win 5).flush t = true ∧ i ∈ (((cfg0 (F := Ideal)).win 5).blk t).view.set := by
  have h0 : (i 0 : Nat) < 2 := (i 0).isLt
  have h1 : (i 1 : Nat) < 16384 := (i 1).isLt
  have h2 : (i 2 : Nat) < 512 := (i 2).isLt
  have hN : (cfg0 (F := Ideal)).N = 512 := N_0
  obtain ⟨t, ht⟩ : ∃ t : Fin (cfg0 (F := Ideal)).N, t.val = ((i 0 : Nat) * 4 + (i 2 : Nat) / 128) * 64 + (i 1 : Nat) / 256 := ⟨⟨_, by omega⟩, rfl⟩
  refine ⟨t, flush0_5 _, ?_⟩
  have e : (ix3 (bt t) (qt t ⟨(i 1 : Nat) % 256, by omega⟩) (lt t ⟨(i 2 : Nat) % 128, by omega⟩) : S2x16384x512.Idx) = i := by
    funext a; apply Fin.ext
    match a with
    | ⟨0, _⟩ => show t.val / 256 = (i 0 : Nat); omega
    | ⟨1, _⟩ => show t.val % 64 * 256 + (i 1 : Nat) % 256 = (i 1 : Nat); omega
    | ⟨2, _⟩ => show t.val / 64 % 4 * 128 + (i 2 : Nat) % 128 = (i 2 : Nat); omega
  have h := mem5 t ⟨(i 1 : Nat) % 256, by omega⟩ ⟨(i 2 : Nat) % 128, by omega⟩
  rw [e] at h
  exact h

theorem final : (dats m 0 c).arrAt 5 (cfg0 (F := Ideal)).N = G (m ((c : Thread nD τ).loc main_arg1)) (m ((c : Thread nD τ).loc main_arg2)) (m ((c : Thread nD τ).loc main_arg3)) :=
  (dats m 0 c).arrAt_eq_of_cover 5 _ (fun t _ => flushed_eq m c hz hq hk t) cover5

end result

end Cert.KernelIdeal.PromptValue

namespace Cert.Proof.SbPrompt

open Cert.Sb Cert.SbPrompt Finset

/-- The reference's exponents for the key at position `j`, and one element of its result; `o` is its zero. -/
def inner (z : Fin 16384 → EReal) (o : EReal) (r : Fin 16384) (j : Nat) : EReal :=
  ∑ y : Fin 16384, Scalar.select (IntOp.cmpi .slt (BitVec.ofNat 32 y.val) (IntOp.addi 0#32 (BitVec.ofNat 32 r.val))) (ls (z y)) o
      * FloatOps.uitofp (F := Ideal) .f32 (IntOp.cmpi .sge (BitVec.ofNat 32 y.val) (BitVec.ofNat 32 j))

def refcell (z v : Fin 16384 → EReal) (o : EReal) (r : Fin 16384) : EReal :=
  ∑ x : Fin 16384, v x * Scalar.select (IntOp.cmpi .slt (BitVec.ofNat 32 x.val) (IntOp.addi 0#32 (BitVec.ofNat 32 r.val)))
      (Ideal.exp (z x + inner z o r x.val)) o

section ref
variable {z v : Fin 16384 → EReal} (r : Fin 16384) {Z : Nat → ℝ} {V : Nat → EReal} (hz : ∀ x, z x = (Z x.val : EReal))
include hz

omit hz in
theorem addi_pos (r : Nat) : IntOp.addi 0#32 (BitVec.ofNat 32 r) = BitVec.ofNat 32 r := BitVec.zero_add _

theorem inner_eq (j : Nat) (hj : j < 2 ^ 31) : inner z 0 r j
    = ∑ k ∈ range 16384, (if k < r.val then ls (Z k : EReal) else 0) * (if j ≤ k then (1 : EReal) else 0) := by
  rw [Finset.sum_range]
  unfold inner
  refine Finset.sum_congr rfl fun y _ => ?_
  rw [addi_pos, select_slt _ _ (by omega) (by omega), uitofp_sge _ _ (by omega) hj, hz]

theorem refcell_eq (hv : ∀ x, v x = V x.val) : refcell z v 0 r = Acc Z V r.val 0 := by
  rw [← ref_row Z V r.val 16384 (by omega), Finset.sum_range]
  unfold refcell
  refine Finset.sum_congr rfl fun y _ => ?_
  rw [addi_pos, select_slt _ _ (by omega) (by omega), inner_eq r hz y.val (by omega), hz, hv]

end ref

section reference
open Cert.ReferenceIdeal
variable (m' : (ℓ : Loc nD τ sig) → Buf (Elt Ideal) ℓ) (c : Dev nD) (b : Fin 2) (r : Fin 16384) (l : Fin 512)

/-- The reference's result array at an index. -/
theorem ref_read :
    (Value.res_main_v34 (F := Ideal) m' c : S2x16384x512.Idx → EReal) (ix3 b r l)
      = refcell (fun x => score (fun d => (m' ((c : Thread nD τ).loc main_arg1)) (ix3 b r (col ⟨l.val / 128, by omega⟩ d))) (fun d => (m' ((c : Thread nD τ).loc main_arg2)) (ix3 b x (col ⟨l.val / 128, by omega⟩ d))))
          (fun x => (m' ((c : Thread nD τ).loc main_arg3)) (ix3 b x l)) (id (constant (F := Ideal) S_ .f32 0#32) ix0) r := by
  unfold Value.res_main_v34
  pointwise
  rfl

theorem zero_const : id (constant (F := Ideal) S_ .f32 0#32) ix0 = (0 : EReal) := by
  show constant (F := Ideal) S_ .f32 0#32 ix0 = (0 : EReal)
  pointwise

theorem ref_at (hq : ∀ i, Fin1 ((m' ((c : Thread nD τ).loc main_arg1)) i)) (hk : ∀ i, Fin1 ((m' ((c : Thread nD τ).loc main_arg2)) i)) :
    (Value.res_main_v34 (F := Ideal) m' c : S2x16384x512.Idx → EReal) (ix3 b r l) = G (m' ((c : Thread nD τ).loc main_arg1)) (m' ((c : Thread nD τ).loc main_arg2)) (m' ((c : Thread nD τ).loc main_arg3)) (ix3 b r l) := by
  rw [ref_read, zero_const]
  refine refcell_eq (Z := Z (m' ((c : Thread nD τ).loc main_arg1)) (m' ((c : Thread nD τ).loc main_arg2)) b ⟨l.val / 128, by omega⟩ r) (V := fun p => key (m' ((c : Thread nD τ).loc main_arg3)) b ⟨l.val / 128, by omega⟩ p ⟨l.val % 128, by omega⟩) r (fun x => ?_) (fun x => ?_)
  · rw [← sc_coe hq hk]
    unfold sc
    congr 1; funext d
    rw [key_lt _ _ _ _ x.isLt]
  · show _ = key _ _ _ _ _
    rw [key_lt _ _ _ _ x.isLt]
    congr 2
    exact Fin.ext (show l.val = l.val / 128 * 128 + l.val % 128 by omega)

end reference

/-! ## The precondition -/

theorem fin_of_pre (zb : FVec Ideal Cert.Pre_finite_prompt.S1 .f32) (q k v : FVec Ideal Cert.Pre_finite_prompt.S2x16384x512 .bf16)
    (h : Cert.Pre_finite_prompt.fn zb q k v = fun _ => 1#1) : Fin1 (zb (ix1 0)) ∧ (∀ i, Fin1 (q i)) ∧ ∀ i, Fin1 (k i) := by
  have h0 := congrFun h ix0
  obtain ⟨h12, h3⟩ := IntOp.andi_eq_one.1 h0
  obtain ⟨h1, h2⟩ := IntOp.andi_eq_one.1 h12
  haveI : Subsingleton Cert.Pre_finite_prompt.S_.Idx := ⟨fun a b => funext fun i => i.elim0⟩
  exact ⟨fin_of_abs_lt (Host.reduce_andi_all _ _ _ _ ix0 h1 (ix1 0)), fun i => fin_of_abs_lt (Host.reduce_andi_all _ _ _ _ ix0 h2 i),
    fun i => fin_of_abs_lt (Host.reduce_andi_all _ _ _ _ ix0 h3 i)⟩

/-! ## The claims -/

theorem preserves : Cert.preserves_Kernel_KernelIdeal := IdealRules.named_const.statement Cert.KernelIdeal.κ "log_zero" .f32 0xC2D00000#32 ⊥ rfl
theorem frame_k : Cert.quiescent_Kernel := fun m ρ _ => Cert.Kernel.Prompt.frame m ρ
theorem frame_ki : Cert.quiescent_KernelIdeal := fun m ρ _ => Cert.KernelIdeal.Prompt.frame m ρ
theorem frame_ki_pre : Cert.quiescent_KernelIdeal_pre_finite_prompt := fun m ρ _ => Cert.KernelIdeal.Prompt.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ri_pre : Cert.quiescent_ReferenceIdeal_pre_finite_prompt := fun m ρ _ => frame_ri m ρ trivial

theorem algebraic : Cert.algebraic_KernelIdeal_ReferenceIdeal_pre_finite_prompt := by
  intro m ρ m' ρ' hpre hagree
  have hf := fun c => fin_of_pre _ _ _ _ (hpre c)
  refine ⟨fun c => G (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.PromptValue.final m c (hf c).1 (hf c).2.1 (hf c).2.2), (h c).2⟩)
      (Cert.KernelIdeal.Prompt.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨_, a1, a2, a3⟩ := hagree c
    obtain ⟨_, hq, hk⟩ := hf c
    rw [← a1] at hq
    rw [← a2] at hk
    beta_reduce
    rw [← a1, ← a2, ← a3]
    funext i
    obtain ⟨b, r, l, rfl⟩ : ∃ (b : Fin 2) (r : Fin 16384) (l : Fin 512), i = ix3 b r l :=
      ⟨i 0, i 1, i 2, by funext a; match a with | ⟨0, _⟩ => rfl | ⟨1, _⟩ => rfl | ⟨2, _⟩ => rfl⟩
    exact ref_at m' c b r l hq hk

end Cert.Proof.SbPrompt

end
-- ==== Proof.FfnSample.lean ====
/-
  THE FEED-FORWARD BLOCK AT THE SAMPLE'S SHAPES: the kernel's result array is the reference's, over the extended reals.
  Both are read at an index and meet in the scalar formula `Ffn.cell`. A block holds eight sequences of 32 rows; the body
  lays them out as 256 rows, and row `r` of those is row `r % 32` of sequence `r / 32`.
-/
module

public import proofs.«01_k».proof.Defs
public import proofs.«01_k».proof.Proof.Ffn
public import proofs.«01_k».proof.Proof.Gen.Kernel6.Frame
public import proofs.«01_k».proof.Proof.Gen.Kernel6Ideal.Value
public import proofs.«01_k».proof.Proof.Gen.Reference6Ideal.Run
public import Idealize.ShloMosaic.Lib.Pointwise
public import Idealize.ShloMosaic.Lib.Pipeline.Value
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel6Ideal.Ffn

open Cert.Kernel6Ideal Cert.Kernel6Ideal.Gen Cert.Ffn

/-! ## The payloads at an index -/

/-- Row `r` of the 256: its sequence in the block, and its row there. -/
def bi (r : Fin 256) : Fin 8 := ⟨r.val / 32, by have := r.isLt; omega⟩
def ri (r : Fin 256) : Fin 32 := ⟨r.val % 32, by omega⟩

theorem bi_fl (b : Fin 8) (r : Fin 32) (h : b.val * 32 + r.val < 256) : bi ⟨b.val * 32 + r.val, h⟩ = b :=
  Fin.ext (by show (b.val * 32 + r.val) / 32 = b.val; have := r.isLt; omega)
theorem ri_fl (b : Fin 8) (r : Fin 32) (h : b.val * 32 + r.val < 256) : ri ⟨b.val * 32 + r.val, h⟩ = r :=
  Fin.ext (by show (b.val * 32 + r.val) % 32 = r.val; have := r.isLt; omega)

theorem pay2_at (v0 : Vec Ideal S8x32x1024 .f32) (v1 : Vec Ideal S1x1024 .f32) (v2 v3 : Vec Ideal S8x1x1024 .f32)
    (r : Fin 256) (l : Fin 1024) : k0_pay2 v0 v1 v2 v3 (ix2 r l)
      = hid (fun k => v0 (ix3 (bi r) (ri r) k)) (fun k => v1 (ix2 0 k)) (fun k => v3 (ix3 (bi r) 0 k)) (fun k => v2 (ix3 (bi r) 0 k)) l := by
  pointwise [k0_pay2]
  rfl

theorem pay3_at (v0 : Vec Ideal S8x32x1024 .f32) (v1 : Vec Ideal S1x1024 .f32) (v2 v3 : Vec Ideal S8x1x1024 .f32)
    (w : Vec Ideal S1024x2048 .bf16) (r : Fin 256) (j : Fin 2048) : k0_pay3 v0 v1 v2 v3 w (ix2 r j)
      = up (hid (fun k => v0 (ix3 (bi r) (ri r) k)) (fun k => v1 (ix2 0 k)) (fun k => v3 (ix3 (bi r) 0 k)) (fun k => v2 (ix3 (bi r) 0 k)))
          (fun k j => w (ix2 k j)) j := by
  pointwise [k0_pay3]
  simp only [pay2_at]
  rfl

theorem pay4_at (v0 : Vec Ideal S8x32x1024 .f32) (v1 : Vec Ideal S1x1024 .f32) (v2 v3 : Vec Ideal S8x1x1024 .f32)
    (w : Vec Ideal S1024x2048 .bf16) (r : Fin 256) (j : Fin 2048) : k0_pay4 v0 v1 v2 v3 w (ix2 r j)
      = up (hid (fun k => v0 (ix3 (bi r) (ri r) k)) (fun k => v1 (ix2 0 k)) (fun k => v3 (ix3 (bi r) 0 k)) (fun k => v2 (ix3 (bi r) 0 k)))
          (fun k j => w (ix2 k j)) j := by
  pointwise [k0_pay4]
  simp only [pay2_at]
  rfl

theorem pay5_at (v0 : Vec Ideal S8x32x1024 .f32) (v1 : Vec Ideal S1x1024 .f32) (v2 v3 : Vec Ideal S8x1x1024 .f32)
    (w : Vec Ideal S1024x2048 .bf16) (r : Fin 256) (j : Fin 2048) :
    k0_pay5 v0 v1 v2 v3 w (ix2 r j) = Ideal.exp (-(k0_pay3 v0 v1 v2 v3 w (ix2 r j))) := by
  pointwise [k0_pay5]
  rw [zero_sub]

theorem pay6_at (r : Fin 256) (j : Fin 2048) : k0_pay6 (F := Ideal) (ix2 r j) = 1 := by
  pointwise [k0_pay6]

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output's staging buffer, at an index. -/
theorem out_at (x0 : Vec Ideal S8x32x1024 .f32) (x1 x2 x3 : Vec Ideal S8x1x1024 .f32) (x4 : Vec Ideal S1x1024 .f32)
    (x5 x6 : Vec Ideal S1024x2048 .bf16) (x7 : Vec Ideal S2048x1024 .bf16) (b : Fin 8) (r : Fin 32) (l : Fin 1024) :
    out0_8 x0 x1 x2 x3 x4 x5 x6 x7 (ix3 b r l)
      = cell (fun k => x0 (ix3 b r k)) (fun k => x4 (ix2 0 k)) (fun k => x1 (ix3 b 0 k)) (fun k => x2 (ix3 b 0 k))
          (fun k => x3 (ix3 b 0 k)) (fun k j => x5 (ix2 k j)) (fun k j => x6 (ix2 k j)) (fun j l => x7 (ix2 j l)) l := by
  unfold out0_8
  rw [View.canon_unit_zero hz3]
  have e3 {s : Fin 3 → Nat} {φ : EltTy} (h) (x : Vec Ideal ⟨3, s⟩ φ) : View.ld x (Rect.unit ![0, 0, 0] s h) = x :=
    View.ld_unit_zero (S := ⟨3, s⟩) hz3 h x
  have e2 {s : Fin 2 → Nat} {φ : EltTy} (h) (x : Vec Ideal ⟨2, s⟩ φ) : View.ld x (Rect.unit ![0, 0] s h) = x :=
    View.ld_unit_zero (S := ⟨2, s⟩) hz2 h x
  simp only [r0_0, r0_1, r0_2, r0_3, r0_4, e3, e2]
  pointwise [k0_pay1]
  simp only [pay5_at, pay6_at, pay3_at, pay4_at, bi_fl, ri_fl]
  rfl

/-! ## The blocks at an index -/

variable (m : (ℓ : Loc nD τ sig) → Buf (Elt Ideal) ℓ) (c : Dev nD)

theorem N2 (t : Fin cfg0.N) : t.val < 2 := t.isLt.trans_le N_0.le

/-- The sequence that point `t`'s block holds at `b`. -/
def bt (t : Fin cfg0.N) (b : Fin 8) : Fin 16 := ⟨t.val * 8 + b.val, by have := N2 t; have := b.isLt; omega⟩

theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

theorem emb0 (t : Fin cfg0.N) (b : Fin 8) (r : Fin 32) (l : Fin 1024) :
    ((cfg0.win 0).blk t).view.emb (ix3 b r l : S8x32x1024.Idx) = (ix3 (bt t b) r l : S16x32x1024.Idx) := by
  funext a; apply Fin.ext
  match a with
  | ⟨0, _⟩ => show win0_0.index t 0 * 8 + 1 * b.val = t.val * 8 + b.val; rw [(idx0 t).1]; omega
  | ⟨1, _⟩ => show win0_0.index t 1 * 32 + 1 * r.val = r.val; rw [(idx0 t).2.1]; omega
  | ⟨2, _⟩ => show win0_0.index t 2 * 1024 + 1 * l.val = l.val; rw [(idx0 t).2.2]; omega

theorem blk0 (t : Fin cfg0.N) (b : Fin 8) (r : Fin 32) (l : Fin 1024) :
    iblk m c 0 t (ix3 b r l : S8x32x1024.Idx) = m ((c : Thread nD τ).loc main_arg0) (ix3 (bt t b) r l) := by
  unfold iblk
  rw [View.read_apply, emb0]
  show V m c main_arg0 _ = _
  rw [V_main_arg0]

theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

theorem emb1 (t : Fin cfg0.N) (b : Fin 8) (l : Fin 1024) :
    ((cfg0.win 1).blk t).view.emb (ix3 b 0 l : S8x1x1024.Idx) = (ix3 (bt t b) 0 l : S16x1x1024.Idx) := by
  funext a; apply Fin.ext
  match a with
  | ⟨0, _⟩ => show win0_1.index t 0 * 8 + 1 * b.val = t.val * 8 + b.val; rw [(idx1 t).1]; omega
  | ⟨1, _⟩ => show win0_1.index t 1 * 1 + 1 * 0 = 0; rw [(idx1 t).2.1]
  | ⟨2, _⟩ => show win0_1.index t 2 * 1024 + 1 * l.val = l.val; rw [(idx1 t).2.2]; omega

theorem blk1 (t : Fin cfg0.N) (b : Fin 8) (l : Fin 1024) :
    iblk m c 1 t (ix3 b 0 l : S8x1x1024.Idx) = m ((c : Thread nD τ).loc main_arg1) (ix3 (bt t b) 0 l) := by
  unfold iblk
  rw [View.read_apply, emb1]
  show V m c main_arg1 _ = _
  rw [V_main_arg1]

theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

theorem emb2 (t : Fin cfg0.N) (b : Fin 8) (l : Fin 1024) :
    ((cfg0.win 2).blk t).view.emb (ix3 b 0 l : S8x1x1024.Idx) = (ix3 (bt t b) 0 l : S16x1x1024.Idx) := by
  funext a; apply Fin.ext
  match a with
  | ⟨0, _⟩ => show win0_2.index t 0 * 8 + 1 * b.val = t.val * 8 + b.val; rw [(idx2 t).1]; omega
  | ⟨1, _⟩ => show win0_2.index t 1 * 1 + 1 * 0 = 0; rw [(idx2 t).2.1]
  | ⟨2, _⟩ => show win0_2.index t 2 * 1024 + 1 * l.val = l.val; rw [(idx2 t).2.2]; omega

theorem blk2 (t : Fin cfg0.N) (b : Fin 8) (l : Fin 1024) :
    iblk m c 2 t (ix3 b 0 l : S8x1x1024.Idx) = m ((c : Thread nD τ).loc main_arg2) (ix3 (bt t b) 0 l) := by
  unfold iblk
  rw [View.read_apply, emb2]
  show V m c main_arg2 _ = _
  rw [V_main_arg2]

theorem idx3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

theorem emb3 (t : Fin cfg0.N) (b : Fin 8) (l : Fin 1024) :
    ((cfg0.win 3).blk t).view.emb (ix3 b 0 l : S8x1x1024.Idx) = (ix3 (bt t b) 0 l : S16x1x1024.Idx) := by
  funext a; apply Fin.ext
  match a with
  | ⟨0, _⟩ => show win0_3.index t 0 * 8 + 1 * b.val = t.val * 8 + b.val; rw [(idx3 t).1]; omega
  | ⟨1, _⟩ => show win0_3.index t 1 * 1 + 1 * 0 = 0; rw [(idx3 t).2.1]
  | ⟨2, _⟩ => show win0_3.index t 2 * 1024 + 1 * l.val = l.val; rw [(idx3 t).2.2]; omega

theorem blk3 (t : Fin cfg0.N) (b : Fin 8) (l : Fin 1024) :
    iblk m c 3 t (ix3 b 0 l : S8x1x1024.Idx) = m ((c : Thread nD τ).loc main_arg3) (ix3 (bt t b) 0 l) := by
  unfold iblk
  rw [View.read_apply, emb3]
  show V m c main_arg3 _ = _
  rw [V_main_arg3]

theorem idx4 : ∀ t : Fin cfg0.N, win0_4.index t 0 = 0 ∧ win0_4.index t 1 = 0 :=
  (by decide +kernel : ∀ t : Fin grid0.N, win0_4.index t 0 = 0 ∧ win0_4.index t 1 = 0)

theorem emb4 (t : Fin cfg0.N) (l : Fin 1024) :
    ((cfg0.win 4).blk t).view.emb (ix2 0 l : S1x1024.Idx) = (ix2 0 l : S1x1024.Idx) := by
  funext a; apply Fin.ext
  match a with
  | ⟨0, _⟩ => show win0_4.index t 0 * 1 + 1 * 0 = 0; rw [(idx4 t).1]
  | ⟨1, _⟩ => show win0_4.index t 1 * 1024 + 1 * l.val = l.val; rw [(idx4 t).2]; omega

theorem blk4 (t : Fin cfg0.N) (l : Fin 1024) :
    iblk m c 4 t (ix2 0 l : S1x1024.Idx) = m ((c : Thread nD τ).loc main_arg4) (ix2 0 l) := by
  unfold iblk
  rw [View.read_apply, emb4]
  show V m c main_arg4 _ = _
  rw [V_main_arg4]

theorem idx5 : ∀ t : Fin cfg0.N, win0_5.index t 0 = 0 ∧ win0_5.index t 1 = 0 :=
  (by decide +kernel : ∀ t : Fin grid0.N, win0_5.index t 0 = 0 ∧ win0_5.index t 1 = 0)

theorem emb5 (t : Fin cfg0.N) (k : Fin 1024) (l : Fin 2048) :
    ((cfg0.win 5).blk t).view.emb (ix2 k l : S1024x2048.Idx) = (ix2 k l : S1024x2048.Idx) := by
  funext a; apply Fin.ext
  match a with
  | ⟨0, _⟩ => show win0_5.index t 0 * 1024 + 1 * k.val = k.val; rw [(idx5 t).1]; omega
  | ⟨1, _⟩ => show win0_5.index t 1 * 2048 + 1 * l.val = l.val; rw [(idx5 t).2]; omega

theorem blk5 (t : Fin cfg0.N) (k : Fin 1024) (l : Fin 2048) :
    iblk m c 5 t (ix2 k l : S1024x2048.Idx) = m ((c : Thread nD τ).loc main_arg5) (ix2 k l) := by
  unfold iblk
  rw [View.read_apply, emb5]
  show V m c main_v0 _ = _
  entry_read
  rfl

theorem idx6 : ∀ t : Fin cfg0.N, win0_6.index t 0 = 0 ∧ win0_6.index t 1 = 0 :=
  (by decide +kernel : ∀ t : Fin grid0.N, win0_6.index t 0 = 0 ∧ win0_6.index t 1 = 0)

theorem emb6 (t : Fin cfg0.N) (k : Fin 1024) (l : Fin 2048) :
    ((cfg0.win 6).blk t).view.emb (ix2 k l : S1024x2048.Idx) = (ix2 k l : S1024x2048.Idx) := by
  funext a; apply Fin.ext
  match a with
  | ⟨0, _⟩ => show win0_6.index t 0 * 1024 + 1 * k.val = k.val; rw [(idx6 t).1]; omega
  | ⟨1, _⟩ => show win0_6.index t 1 * 2048 + 1 * l.val = l.val; rw [(idx6 t).2]; omega

theorem blk6 (t : Fin cfg0.N) (k : Fin 1024) (l : Fin 2048) :
    iblk m c 6 t (ix2 k l : S1024x2048.Idx) = m ((c : Thread nD τ).loc main_arg6) (ix2 k l) := by
  unfold iblk
  rw [View.read_apply, emb6]
  show V m c main_v1 _ = _
  entry_read
  rfl

theorem idx7 : ∀ t : Fin cfg0.N, win0_7.index t 0 = 0 ∧ win0_7.index t 1 = 0 :=
  (by decide +kernel : ∀ t : Fin grid0.N, win0_7.index t 0 = 0 ∧ win0_7.index t 1 = 0)

theorem emb7 (t : Fin cfg0.N) (k : Fin 2048) (l : Fin 1024) :
    ((cfg0.win 7).blk t).view.emb (ix2 k l : S2048x1024.Idx) = (ix2 k l : S2048x1024.Idx) := by
  funext a; apply Fin.ext
  match a with
  | ⟨0, _⟩ => show win0_7.index t 0 * 2048 + 1 * k.val = k.val; rw [(idx7 t).1]; omega
  | ⟨1, _⟩ => show win0_7.index t 1 * 1024 + 1 * l.val = l.val; rw [(idx7 t).2]; omega

theorem blk7 (t : Fin cfg0.N) (k : Fin 2048) (l : Fin 1024) :
    iblk m c 7 t (ix2 k l : S2048x1024.Idx) = m ((c : Thread nD τ).loc main_arg7) (ix2 k l) := by
  unfold iblk
  rw [View.read_apply, emb7]
  show V m c main_v2 _ = _
  entry_read
  rfl

theorem idx8 : ∀ t : Fin cfg0.N, win0_8.index t 0 = t.val ∧ win0_8.index t 1 = 0 ∧ win0_8.index t 2 = 0 :=
  (by decide +kernel : ∀ t : Fin grid0.N, win0_8.index t 0 = t.val ∧ win0_8.index t 1 = 0 ∧ win0_8.index t 2 = 0)

theorem emb8 (t : Fin cfg0.N) (b : Fin 8) (r : Fin 32) (l : Fin 1024) :
    ((cfg0.win 8).blk t).view.emb (ix3 b r l : S8x32x1024.Idx) = (ix3 (bt t b) r l : S16x32x1024.Idx) := by
  funext a; apply Fin.ext
  match a with
  | ⟨0, _⟩ => show win0_8.index t 0 * 8 + 1 * b.val = t.val * 8 + b.val; rw [(idx8 t).1]; omega
  | ⟨1, _⟩ => show win0_8.index t 1 * 32 + 1 * r.val = r.val; rw [(idx8 t).2.1]; omega
  | ⟨2, _⟩ => show win0_8.index t 2 * 1024 + 1 * l.val = l.val; rw [(idx8 t).2.2]; omega

theorem mem8 (t : Fin cfg0.N) (b : Fin 8) (r : Fin 32) (l : Fin 1024) :
    (ix3 (bt t b) r l : S16x32x1024.Idx) ∈ ((cfg0.win 8).blk t).view.set := by
  rw [← emb8]; exact View.emb_mem_set _ _

/-! ## The result array -/

/-- The whole result array as a function of the arguments. -/
def G (i : S16x32x1024.Idx) : EReal :=
  cell (fun k => m ((c : Thread nD τ).loc main_arg0) (ix3 (i 0) (i 1) k)) (fun k => m ((c : Thread nD τ).loc main_arg4) (ix2 0 k))
    (fun k => m ((c : Thread nD τ).loc main_arg1) (ix3 (i 0) 0 k)) (fun k => m ((c : Thread nD τ).loc main_arg2) (ix3 (i 0) 0 k))
    (fun k => m ((c : Thread nD τ).loc main_arg3) (ix3 (i 0) 0 k)) (fun k j => m ((c : Thread nD τ).loc main_arg5) (ix2 k j))
    (fun k j => m ((c : Thread nD τ).loc main_arg6) (ix2 k j)) (fun j l => m ((c : Thread nD τ).loc main_arg7) (ix2 j l)) (i 2)

/-- What point `t` writes back is its block of `G`. -/
theorem flushed_eq (t : Fin cfg0.N) :
    (dats m 0 c).flushed 8 t = ((cfg0.win 8).blk t).view.read (Elt Ideal) (G m c) := by
  rw [Value.flushed8]
  show out0_8 _ _ _ _ _ _ _ _ = _
  funext y
  obtain ⟨b, r, l, rfl⟩ : ∃ (b : Fin 8) (r : Fin 32) (l : Fin 1024), y = (ix3 b r l : S8x32x1024.Idx) :=
    ⟨y 0, y 1, y 2, by funext a; match a with | ⟨0, _⟩ => rfl | ⟨1, _⟩ => rfl | ⟨2, _⟩ => rfl⟩
  rw [View.read_apply, emb8, out_at]
  simp only [blk0, blk1, blk2, blk3, blk4, blk5, blk6, blk7]
  rfl

/-- Every index of the array is in some point's block. -/
theorem cover8 (i : S16x32x1024.Idx) :
    ∃ t : Fin cfg0.N, (cfg0.win 8).flush t = true ∧ i ∈ ((cfg0.win 8).blk t).view.set := by
  have h0 : (i 0 : Nat) < 16 := (i 0).isLt
  have hN : cfg0.N = 2 := N_0
  obtain ⟨t, ht⟩ : ∃ t : Fin cfg0.N, t.val = (i 0 : Nat) / 8 := ⟨⟨_, by omega⟩, rfl⟩
  refine ⟨t, flush0_8 _, ?_⟩
  have e : (ix3 (bt t ⟨(i 0 : Nat) % 8, by omega⟩) (i 1) (i 2) : S16x32x1024.Idx) = i := by
    funext a; apply Fin.ext
    match a with
    | ⟨0, _⟩ => show t.val * 8 + (i 0 : Nat) % 8 = (i 0 : Nat); omega
    | ⟨1, _⟩ => rfl
    | ⟨2, _⟩ => rfl
  have h := mem8 t ⟨(i 0 : Nat) % 8, by omega⟩ (i 1) (i 2)
  rw [e] at h
  exact h

theorem final : (dats m 0 c).arrAt 8 cfg0.N = G m c :=
  (dats m 0 c).arrAt_eq_of_cover 8 (G m c) (fun t _ => flushed_eq m c t) cover8

end Cert.Kernel6Ideal.Ffn

namespace Cert.Reference6Ideal.Ffn

open Cert.Reference6Ideal Cert.Reference6Ideal.Gen Cert.Ffn

/-- The reference's result at an index. -/
theorem ref_at (m : (ℓ : Loc nD τ sig) → Buf (Elt Ideal) ℓ) (c : Dev nD) (b : Fin 16) (r : Fin 32) (l : Fin 1024) :
    (Value.res_out0 m c : S16x32x1024.Idx → EReal) (ix3 b r l)
      = cell (fun k => m ((c : Thread nD τ).loc main_arg0) (ix3 b r k)) (fun k => m ((c : Thread nD τ).loc main_arg4) (ix2 0 k))
        (fun k => m ((c : Thread nD τ).loc main_arg1) (ix3 b 0 k)) (fun k => m ((c : Thread nD τ).loc main_arg2) (ix3 b 0 k))
        (fun k => m ((c : Thread nD τ).loc main_arg3) (ix3 b 0 k)) (fun k j => m ((c : Thread nD τ).loc main_arg5) (ix2 k j))
        (fun k j => m ((c : Thread nD τ).loc main_arg6) (ix2 k j)) (fun j l => m ((c : Thread nD τ).loc main_arg7) (ix2 j l)) l := by
  pointwise [Value.res_out0, Value.res_main_v29]
  rfl

end Cert.Reference6Ideal.Ffn

namespace Cert.Proof.FfnSample

theorem preserves : Cert.preserves_Kernel6_Kernel6Ideal := trivial
theorem frame_k : Cert.quiescent_Kernel6 := fun m ρ _ => Cert.Kernel6.Gen.frame m ρ
theorem frame_ki : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem algebraic : Cert.algebraic_Kernel6Ideal_Reference6Ideal := by
  intro m ρ m' ρ' _ hagree
  refine ⟨fun c => Cert.Kernel6Ideal.Ffn.G m c, ?_, ?_⟩
  · exact (θ_run Cert.Kernel6Ideal.defs _ _).mono
      (fun _ h c => ⟨(h c).1.trans (Cert.Kernel6Ideal.Ffn.final m c), (h c).2⟩) (Cert.Kernel6Ideal.Value.run_blocks (F := Ideal) m ρ)
  · refine (θ_run Cert.Reference6Ideal.defs _ _).mono (fun _ h c => ⟨(h c).1.trans ?_, (h c).2⟩)
      (Cert.Reference6Ideal.Value.run (F := Ideal) m' ρ')
    obtain ⟨a0, a1, a2, a3, a4, a5, a6, a7⟩ := hagree c
    funext i
    obtain ⟨b, r, l, rfl⟩ : ∃ (b : Fin 16) (r : Fin 32) (l : Fin 1024), i = ix3 b r l :=
      ⟨i 0, i 1, i 2, by funext a; match a with | ⟨0, _⟩ => rfl | ⟨1, _⟩ => rfl | ⟨2, _⟩ => rfl⟩
    refine (Cert.Reference6Ideal.Ffn.ref_at m' c b r l).trans ?_
    rw [a0, a1, a2, a3, a4, a5, a6, a7]
    rfl

end Cert.Proof.FfnSample

end
-- ==== Proof.MergeSample.lean ====
/-
  THE MERGE OF THE THREE BRANCHES AT THE SAMPLE'S SHAPES: the kernel's result array is the reference's, over the extended
  reals. Both are read at an index and meet in the scalar formula `Merge.cell`. A block holds eight sequences of 32 rows.
-/
module

public import proofs.«01_k».proof.Defs
public import proofs.«01_k».proof.Proof.Merge
public import proofs.«01_k».proof.Proof.Gen.Kernel7.Frame
public import proofs.«01_k».proof.Proof.Gen.Kernel7Ideal.Value
public import proofs.«01_k».proof.Proof.Gen.Reference7Ideal.Run
public import Idealize.ShloMosaic.Lib.Pointwise
public import Idealize.ShloMosaic.Lib.Pipeline.Value
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel7Ideal.Merge

open Cert.Kernel7Ideal Cert.Kernel7Ideal.Gen Cert.Merge

theorem hz3 : (![0, 0, 0] : Fin 3 → Nat) = fun _ => 0 := funext fun a => by fin_cases a <;> rfl

/-- What the body leaves in the output's staging buffer, at an index. -/
theorem out_at (x0 : Vec Ideal S8x32x1024 .f32) (x1 : Vec Ideal S8x32x1024 .bf16) (x2 x3 x4 : Vec Ideal S8x32x512 .bf16)
    (x5 : Vec Ideal S8x1x1024 .f32) (x6 : Vec Ideal S3x1024x1024 .bf16) (x7 : Vec Ideal S3x1x1024 .f32)
    (x8 : Vec Ideal S3x512x1024 .bf16) (x9 : Vec Ideal S1024x1024 .bf16) (b : Fin 8) (r : Fin 32) (l : Fin 1024) :
    out0_10 x0 x1 x2 x3 x4 x5 x6 x7 x8 x9 (ix3 b r l)
      = cell (fun k => x0 (ix3 b r k)) (fun k => x1 (ix3 b r k)) (fun k => x2 (ix3 b r k)) (fun k => x3 (ix3 b r k))
          (fun k => x4 (ix3 b r k)) (fun k => x5 (ix3 b 0 k)) (fun n k l => x6 (ix3 n k l)) (fun n l => x7 (ix3 n 0 l))
          (fun n k l => x8 (ix3 n k l)) (fun k l => x9 (ix2 k l)) l := by
  unfold out0_10
  rw [View.canon_unit_zero hz3]
  pointwise [k0_pay1, k0_pay2, k0_pay3, k0_pay4, k0_pay5, k0_pay6, k0_pay7, k0_pay8, k0_pay9, r0_0, r0_1, r0_2, r0_3,
    r0_4, r0_5, r0_6, r0_7, r0_8, r0_9, r0_10, r0_11, r0_12]
  simp only [zero_sub]
  rfl

variable (m : (ℓ : Loc nD τ sig) → Buf (Elt Ideal) ℓ) (c : Dev nD)

theorem N2 (t : Fin cfg0.N) : t.val < 2 := t.isLt.trans_le N_0.le

/-- The sequence that point `t`'s block holds at `b`. -/
def bt (t : Fin cfg0.N) (b : Fin 8) : Fin 16 := ⟨t.val * 8 + b.val, by have := N2 t; have := b.isLt; omega⟩

/-! ## The windows' blocks at an index -/

theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

theorem emb0 (t : Fin cfg0.N) (b : Fin 8) (r : Fin 32) (l : Fin 1024) :
    ((cfg0.win 0).blk t).view.emb (ix3 b r l : S8x32x1024.Idx) = (ix3 (bt t b) r l : S16x32x1024.Idx) := by
  funext a; apply Fin.ext
  match a with
  | ⟨0, _⟩ => show win0_0.index t 0 * 8 + 1 * b.val = t.val * 8 + b.val; rw [(idx0 t).1]; omega
  | ⟨1, _⟩ => show win0_0.index t 1 * 32 + 1 * r.val = r.val; rw [(idx0 t).2.1]; omega
  | ⟨2, _⟩ => show win0_0.index t 2 * 1024 + 1 * l.val = l.val; rw [(idx0 t).2.2]; omega

theorem blk0 (t : Fin cfg0.N) (b : Fin 8) (r : Fin 32) (l : Fin 1024) :
    iblk m c 0 t (ix3 b r l : S8x32x1024.Idx) = m ((c : Thread nD τ).loc main_arg0) (ix3 (bt t b) r l) := by
  unfold iblk
  rw [View.read_apply, emb0]
  show V m c main_arg0 _ = _
  rw [V_main_arg0]

theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

theorem emb1 (t : Fin cfg0.N) (b : Fin 8) (r : Fin 32) (l : Fin 1024) :
    ((cfg0.win 1).blk t).view.emb (ix3 b r l : S8x32x1024.Idx) = (ix3 (bt t b) r l : S16x32x1024.Idx) := by
  funext a; apply Fin.ext
  match a with
  | ⟨0, _⟩ => show win0_1.index t 0 * 8 + 1 * b.val = t.val * 8 + b.val; rw [(idx1 t).1]; omega
  | ⟨1, _⟩ => show win0_1.index t 1 * 32 + 1 * r.val = r.val; rw [(idx1 t).2.1]; omega
  | ⟨2, _⟩ => show win0_1.index t 2 * 1024 + 1 * l.val = l.val; rw [(idx1 t).2.2]; omega

theorem blk1 (t : Fin cfg0.N) (b : Fin 8) (r : Fin 32) (l : Fin 1024) :
    iblk m c 1 t (ix3 b r l : S8x32x1024.Idx) = m ((c : Thread nD τ).loc main_arg1) (ix3 (bt t b) r l) := by
  unfold iblk
  rw [View.read_apply, emb1]
  show V m c main_arg1 _ = _
  rw [V_main_arg1]

theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

theorem emb2 (t : Fin cfg0.N) (b : Fin 8) (r : Fin 32) (l : Fin 512) :
    ((cfg0.win 2).blk t).view.emb (ix3 b r l : S8x32x512.Idx) = (ix3 (bt t b) r l : S16x32x512.Idx) := by
  funext a; apply Fin.ext
  match a with
  | ⟨0, _⟩ => show win0_2.index t 0 * 8 + 1 * b.val = t.val * 8 + b.val; rw [(idx2 t).1]; omega
  | ⟨1, _⟩ => show win0_2.index t 1 * 32 + 1 * r.val = r.val; rw [(idx2 t).2.1]; omega
  | ⟨2, _⟩ => show win0_2.index t 2 * 512 + 1 * l.val = l.val; rw [(idx2 t).2.2]; omega

theorem blk2 (t : Fin cfg0.N) (b : Fin 8) (r : Fin 32) (l : Fin 512) :
    iblk m c 2 t (ix3 b r l : S8x32x512.Idx) = m ((c : Thread nD τ).loc main_arg2) (ix3 (bt t b) r l) := by
  unfold iblk
  rw [View.read_apply, emb2]
  show V m c main_arg2 _ = _
  rw [V_main_arg2]

theorem idx3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

theorem emb3 (t : Fin cfg0.N) (b : Fin 8) (r : Fin 32) (l : Fin 512) :
    ((cfg0.win 3).blk t).view.emb (ix3 b r l : S8x32x512.Idx) = (ix3 (bt t b) r l : S16x32x512.Idx) := by
  funext a; apply Fin.ext
  match a with
  | ⟨0, _⟩ => show win0_3.index t 0 * 8 + 1 * b.val = t.val * 8 + b.val; rw [(idx3 t).1]; omega
  | ⟨1, _⟩ => show win0_3.index t 1 * 32 + 1 * r.val = r.val; rw [(idx3 t).2.1]; omega
  | ⟨2, _⟩ => show win0_3.index t 2 * 512 + 1 * l.val = l.val; rw [(idx3 t).2.2]; omega

theorem blk3 (t : Fin cfg0.N) (b : Fin 8) (r : Fin 32) (l : Fin 512) :
    iblk m c 3 t (ix3 b r l : S8x32x512.Idx) = m ((c : Thread nD τ).loc main_arg3) (ix3 (bt t b) r l) := by
  unfold iblk
  rw [View.read_apply, emb3]
  show V m c main_arg3 _ = _
  rw [V_main_arg3]

theorem idx4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

theorem emb4 (t : Fin cfg0.N) (b : Fin 8) (r : Fin 32) (l : Fin 512) :
    ((cfg0.win 4).blk t).view.emb (ix3 b r l : S8x32x512.Idx) = (ix3 (bt t b) r l : S16x32x512.Idx) := by
  funext a; apply Fin.ext
  match a with
  | ⟨0, _⟩ => show win0_4.index t 0 * 8 + 1 * b.val = t.val * 8 + b.val; rw [(idx4 t).1]; omega
  | ⟨1, _⟩ => show win0_4.index t 1 * 32 + 1 * r.val = r.val; rw [(idx4 t).2.1]; omega
  | ⟨2, _⟩ => show win0_4.index t 2 * 512 + 1 * l.val = l.val; rw [(idx4 t).2.2]; omega

theorem blk4 (t : Fin cfg0.N) (b : Fin 8) (r : Fin 32) (l : Fin 512) :
    iblk m c 4 t (ix3 b r l : S8x32x512.Idx) = m ((c : Thread nD τ).loc main_arg4) (ix3 (bt t b) r l) := by
  unfold iblk
  rw [View.read_apply, emb4]
  show V m c main_arg4 _ = _
  rw [V_main_arg4]

theorem idx5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)

theorem emb5 (t : Fin cfg0.N) (b : Fin 8) (l : Fin 1024) :
    ((cfg0.win 5).blk t).view.emb (ix3 b 0 l : S8x1x1024.Idx) = (ix3 (bt t b) 0 l : S16x1x1024.Idx) := by
  funext a; apply Fin.ext
  match a with
  | ⟨0, _⟩ => show win0_5.index t 0 * 8 + 1 * b.val = t.val * 8 + b.val; rw [(idx5 t).1]; omega
  | ⟨1, _⟩ => show win0_5.index t 1 * 1 + 1 * 0 = 0; rw [(idx5 t).2.1]
  | ⟨2, _⟩ => show win0_5.index t 2 * 1024 + 1 * l.val = l.val; rw [(idx5 t).2.2]; omega

theorem blk5 (t : Fin cfg0.N) (b : Fin 8) (l : Fin 1024) :
    iblk m c 5 t (ix3 b 0 l : S8x1x1024.Idx) = m ((c : Thread nD τ).loc main_arg5) (ix3 (bt t b) 0 l) := by
  unfold iblk
  rw [View.read_apply, emb5]
  show V m c main_arg5 _ = _
  rw [V_main_arg5]

theorem idx6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)

theorem emb6 (t : Fin cfg0.N) (n : Fin 3) (k : Fin 1024) (l : Fin 1024) :
    ((cfg0.win 6).blk t).view.emb (ix3 n k l : S3x1024x1024.Idx) = (ix3 n k l : S3x1024x1024.Idx) := by
  funext a; apply Fin.ext
  match a with
  | ⟨0, _⟩ => show win0_6.index t 0 * 3 + 1 * n.val = n.val; rw [(idx6 t).1]; omega
  | ⟨1, _⟩ => show win0_6.index t 1 * 1024 + 1 * k.val = k.val; rw [(idx6 t).2.1]; omega
  | ⟨2, _⟩ => show win0_6.index t 2 * 1024 + 1 * l.val = l.val; rw [(idx6 t).2.2]; omega

theorem blk6 (t : Fin cfg0.N) (n : Fin 3) (k : Fin 1024) (l : Fin 1024) :
    iblk m c 6 t (ix3 n k l : S3x1024x1024.Idx) = m ((c : Thread nD τ).loc main_arg6) (ix3 n k l) := by
  unfold iblk
  rw [View.read_apply, emb6]
  show V m c main_v0 _ = _
  entry_read
  rfl

theorem idx7 : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)

theorem emb7 (t : Fin cfg0.N) (n : Fin 3) (l : Fin 1024) :
    ((cfg0.win 7).blk t).view.emb (ix3 n 0 l : S3x1x1024.Idx) = (ix3 n 0 l : S3x1x1024.Idx) := by
  funext a; apply Fin.ext
  match a with
  | ⟨0, _⟩ => show win0_7.index t 0 * 3 + 1 * n.val = n.val; rw [(idx7 t).1]; omega
  | ⟨1, _⟩ => show win0_7.index t 1 * 1 + 1 * 0 = 0; rw [(idx7 t).2.1]
  | ⟨2, _⟩ => show win0_7.index t 2 * 1024 + 1 * l.val = l.val; rw [(idx7 t).2.2]; omega

theorem blk7 (t : Fin cfg0.N) (n : Fin 3) (l : Fin 1024) :
    iblk m c 7 t (ix3 n 0 l : S3x1x1024.Idx) = m ((c : Thread nD τ).loc main_arg7) (ix2 n l) := by
  unfold iblk
  rw [View.read_apply, emb7]
  show V m c main_v1 _ = _
  entry_read
  pointwise

theorem idx8 : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)

theorem emb8 (t : Fin cfg0.N) (n : Fin 3) (k : Fin 512) (l : Fin 1024) :
    ((cfg0.win 8).blk t).view.emb (ix3 n k l : S3x512x1024.Idx) = (ix3 n k l : S3x512x1024.Idx) := by
  funext a; apply Fin.ext
  match a with
  | ⟨0, _⟩ => show win0_8.index t 0 * 3 + 1 * n.val = n.val; rw [(idx8 t).1]; omega
  | ⟨1, _⟩ => show win0_8.index t 1 * 512 + 1 * k.val = k.val; rw [(idx8 t).2.1]; omega
  | ⟨2, _⟩ => show win0_8.index t 2 * 1024 + 1 * l.val = l.val; rw [(idx8 t).2.2]; omega

theorem blk8 (t : Fin cfg0.N) (n : Fin 3) (k : Fin 512) (l : Fin 1024) :
    iblk m c 8 t (ix3 n k l : S3x512x1024.Idx) = m ((c : Thread nD τ).loc main_arg8) (ix3 n k l) := by
  unfold iblk
  rw [View.read_apply, emb8]
  show V m c main_v2 _ = _
  entry_read
  rfl

theorem idx9 : ∀ t : Fin cfg0.N, win0_9.index t 0 = 0 ∧ win0_9.index t 1 = 0 :=
  (by decide +kernel : ∀ t : Fin grid0.N, win0_9.index t 0 = 0 ∧ win0_9.index t 1 = 0)

theorem emb9 (t : Fin cfg0.N) (k : Fin 1024) (l : Fin 1024) :
    ((cfg0.win 9).blk t).view.emb (ix2 k l : S1024x1024.Idx) = (ix2 k l : S1024x1024.Idx) := by
  funext a; apply Fin.ext
  match a with
  | ⟨0, _⟩ => show win0_9.index t 0 * 1024 + 1 * k.val = k.val; rw [(idx9 t).1]; omega
  | ⟨1, _⟩ => show win0_9.index t 1 * 1024 + 1 * l.val = l.val; rw [(idx9 t).2]; omega

theorem blk9 (t : Fin cfg0.N) (k : Fin 1024) (l : Fin 1024) :
    iblk m c 9 t (ix2 k l : S1024x1024.Idx) = m ((c : Thread nD τ).loc main_arg9) (ix2 k l) := by
  unfold iblk
  rw [View.read_apply, emb9]
  show V m c main_v3 _ = _
  entry_read
  rfl

theorem idx10 : ∀ t : Fin cfg0.N, win0_10.index t 0 = t.val ∧ win0_10.index t 1 = 0 ∧ win0_10.index t 2 = 0 :=
  (by decide +kernel : ∀ t : Fin grid0.N, win0_10.index t 0 = t.val ∧ win0_10.index t 1 = 0 ∧ win0_10.index t 2 = 0)

theorem emb10 (t : Fin cfg0.N) (b : Fin 8) (r : Fin 32) (l : Fin 1024) :
    ((cfg0.win 10).blk t).view.emb (ix3 b r l : S8x32x1024.Idx) = (ix3 (bt t b) r l : S16x32x1024.Idx) := by
  funext a; apply Fin.ext
  match a with
  | ⟨0, _⟩ => show win0_10.index t 0 * 8 + 1 * b.val = t.val * 8 + b.val; rw [(idx10 t).1]; omega
  | ⟨1, _⟩ => show win0_10.index t 1 * 32 + 1 * r.val = r.val; rw [(idx10 t).2.1]; omega
  | ⟨2, _⟩ => show win0_10.index t 2 * 1024 + 1 * l.val = l.val; rw [(idx10 t).2.2]; omega

theorem mem10 (t : Fin cfg0.N) (b : Fin 8) (r : Fin 32) (l : Fin 1024) :
    (ix3 (bt t b) r l : S16x32x1024.Idx) ∈ ((cfg0.win 10).blk t).view.set := by
  rw [← emb10]; exact View.emb_mem_set _ _

/-! ## The result array -/

/-- The whole result array as a function of the arguments. -/
def G (i : S16x32x1024.Idx) : EReal :=
  cell (fun k => m ((c : Thread nD τ).loc main_arg0) (ix3 (i 0) (i 1) k)) (fun k => m ((c : Thread nD τ).loc main_arg1) (ix3 (i 0) (i 1) k)) (fun k => m ((c : Thread nD τ).loc main_arg2) (ix3 (i 0) (i 1) k)) (fun k => m ((c : Thread nD τ).loc main_arg3) (ix3 (i 0) (i 1) k)) (fun k => m ((c : Thread nD τ).loc main_arg4) (ix3 (i 0) (i 1) k))
    (fun k => m ((c : Thread nD τ).loc main_arg5) (ix3 (i 0) 0 k)) (fun n k l => m ((c : Thread nD τ).loc main_arg6) (ix3 n k l))
    (fun n l => m ((c : Thread nD τ).loc main_arg7) (ix2 n l)) (fun n k l => m ((c : Thread nD τ).loc main_arg8) (ix3 n k l))
    (fun k l => m ((c : Thread nD τ).loc main_arg9) (ix2 k l)) (i 2)

/-- What point `t` writes back is its block of `G`. -/
theorem flushed_eq (t : Fin cfg0.N) :
    (dats m 0 c).flushed 10 t = ((cfg0.win 10).blk t).view.read (Elt Ideal) (G m c) := by
  rw [Value.flushed10]
  show out0_10 _ _ _ _ _ _ _ _ _ _ = _
  funext y
  obtain ⟨b, r, l, rfl⟩ : ∃ (b : Fin 8) (r : Fin 32) (l : Fin 1024), y = (ix3 b r l : S8x32x1024.Idx) :=
    ⟨y 0, y 1, y 2, by funext a; match a with | ⟨0, _⟩ => rfl | ⟨1, _⟩ => rfl | ⟨2, _⟩ => rfl⟩
  rw [View.read_apply, emb10, out_at]
  simp only [blk0, blk1, blk2, blk3, blk4, blk5, blk6, blk7, blk8, blk9]
  rfl

/-- Every index of the array is in some point's block. -/
theorem cover10 (i : S16x32x1024.Idx) :
    ∃ t : Fin cfg0.N, (cfg0.win 10).flush t = true ∧ i ∈ ((cfg0.win 10).blk t).view.set := by
  have h0 : (i 0 : Nat) < 16 := (i 0).isLt
  have hN : cfg0.N = 2 := N_0
  obtain ⟨t, ht⟩ : ∃ t : Fin cfg0.N, t.val = (i 0 : Nat) / 8 := ⟨⟨_, by omega⟩, rfl⟩
  refine ⟨t, flush0_10 _, ?_⟩
  have e : (ix3 (bt t ⟨(i 0 : Nat) % 8, by omega⟩) (i 1) (i 2) : S16x32x1024.Idx) = i := by
    funext a; apply Fin.ext
    match a with
    | ⟨0, _⟩ => show t.val * 8 + (i 0 : Nat) % 8 = (i 0 : Nat); omega
    | ⟨1, _⟩ => rfl
    | ⟨2, _⟩ => rfl
  have h := mem10 t ⟨(i 0 : Nat) % 8, by omega⟩ (i 1) (i 2)
  rw [e] at h
  exact h

theorem final : (dats m 0 c).arrAt 10 cfg0.N = G m c :=
  (dats m 0 c).arrAt_eq_of_cover 10 (G m c) (fun t _ => flushed_eq m c t) cover10

end Cert.Kernel7Ideal.Merge

namespace Cert.Proof.MergeSample

open Cert.Merge

theorem preserves : Cert.preserves_Kernel7_Kernel7Ideal := trivial
theorem frame_k : Cert.quiescent_Kernel7 := fun m ρ _ => Cert.Kernel7.Gen.frame m ρ
theorem frame_ki : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem algebraic : Cert.algebraic_Kernel7Ideal_Reference7Ideal := by
  intro m ρ m' ρ' _ hagree
  refine ⟨fun c => Cert.Kernel7Ideal.Merge.G m c, ?_, ?_⟩
  · exact (θ_run Cert.Kernel7Ideal.defs _ _).mono
      (fun _ h c => ⟨(h c).1.trans (Cert.Kernel7Ideal.Merge.final m c), (h c).2⟩) (Cert.Kernel7Ideal.Value.run_blocks (F := Ideal) m ρ)
  · refine (θ_run Cert.Reference7Ideal.defs _ _).mono (fun _ h c => ⟨(h c).1.trans ?_, (h c).2⟩)
      (Cert.Reference7Ideal.Value.run (F := Ideal) m' ρ')
    obtain ⟨a0, a1, a2, a3, a4, a5, a6, a7, a8, a9⟩ := hagree c
    funext i
    obtain ⟨b, r, l, rfl⟩ : ∃ (b : Fin 16) (r : Fin 32) (l : Fin 1024), i = ix3 b r l :=
      ⟨i 0, i 1, i 2, by funext a; match a with | ⟨0, _⟩ => rfl | ⟨1, _⟩ => rfl | ⟨2, _⟩ => rfl⟩
    rw [a0, a1, a2, a3, a4, a5, a6, a7, a8, a9]
    pointwise
    rfl

end Cert.Proof.MergeSample

end
-- ==== Proof.ProjSample.lean ====
/-
  THE COMBINED PROJECTION AT THE SAMPLE'S SHAPES: each of the kernel's ten result arrays is the reference's, over the
  extended reals. The scalar formulas are those of the prompt's call: `Ffn.hid`, `Proj.lin`, `Proj.head`. A block holds eight
  sequences of 32 rows, laid out in the body as 256 rows; the gates' transpose is stored one sequence at a time.
-/
module

public import proofs.«01_k».proof.Defs
public import proofs.«01_k».proof.Proof.Ffn
public import proofs.«01_k».proof.Proof.Proj
public import proofs.«01_k».proof.Proof.Gen.Kernel8.Frame
public import proofs.«01_k».proof.Proof.Gen.Kernel8Ideal.Value
public import proofs.«01_k».proof.Proof.Gen.Reference8Ideal.Run
public import Idealize.ShloMosaic.Lib.Pointwise
public import Idealize.ShloMosaic.Lib.Pipeline.Value
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel8Ideal.Proj

open Cert.Kernel8Ideal Cert.Kernel8Ideal.Gen Cert.Proj Cert.Ffn

/-! ## The payloads at an index -/

/-- Row `r` of the 256: its sequence in the block, and its row there. -/
def bi (r : Fin 256) : Fin 8 := ⟨r.val / 32, by have := r.isLt; omega⟩
def ri (r : Fin 256) : Fin 32 := ⟨r.val % 32, by omega⟩

/-- Row `r` of sequence `b` among the 256. -/
def fl (b : Fin 8) (r : Fin 32) : Fin 256 := ⟨b.val * 32 + r.val, by have := b.isLt; have := r.isLt; omega⟩

theorem bi_fl (b : Fin 8) (r : Fin 32) (h : b.val * 32 + r.val < 256) : bi ⟨b.val * 32 + r.val, h⟩ = b :=
  Fin.ext (by show (b.val * 32 + r.val) / 32 = b.val; have := r.isLt; omega)
theorem ri_fl (b : Fin 8) (r : Fin 32) (h : b.val * 32 + r.val < 256) : ri ⟨b.val * 32 + r.val, h⟩ = r :=
  Fin.ext (by show (b.val * 32 + r.val) % 32 = r.val; have := r.isLt; omega)

theorem pay3_at (v0 : Vec Ideal S8x32x1024 .f32) (v1 : Vec Ideal S1x1024 .f32) (v2 v3 : Vec Ideal S8x1x1024 .f32)
    (b : Fin 8) (r : Fin 32) (l : Fin 1024) : k0_pay3 v0 v1 v2 v3 (ix3 b r l)
      = hid (fun k => v0 (ix3 b r k)) (fun k => v1 (ix2 0 k)) (fun k => v3 (ix3 b 0 k)) (fun k => v2 (ix3 b 0 k)) l := by
  pointwise [k0_pay3]
  rfl

theorem pay4_row (v0 : Vec Ideal S8x32x1024 .f32) (v1 : Vec Ideal S1x1024 .f32) (v2 v3 : Vec Ideal S8x1x1024 .f32)
    (r : Fin 256) (l : Fin 1024) : k0_pay4 v0 v1 v2 v3 (ix2 r l) = k0_pay3 v0 v1 v2 v3 (ix3 (bi r) (ri r) l) := by
  pointwise [k0_pay4]
  rfl

theorem pay4_at (v0 : Vec Ideal S8x32x1024 .f32) (v1 : Vec Ideal S1x1024 .f32) (v2 v3 : Vec Ideal S8x1x1024 .f32)
    (b : Fin 8) (r : Fin 32) (l : Fin 1024) : k0_pay4 v0 v1 v2 v3 (ix2 (fl b r) l)
      = hid (fun k => v0 (ix3 b r k)) (fun k => v1 (ix2 0 k)) (fun k => v3 (ix3 b 0 k)) (fun k => v2 (ix3 b 0 k)) l := by
  rw [pay4_row, pay3_at]
  unfold fl
  rw [bi_fl, ri_fl]

section Heads

variable (h : FVec Ideal S256x1024 .bf16) (w : Vec Ideal S1024x128 .bf16) (g : Vec Ideal S1x128 .f32) (b : Fin 8) (r : Fin 32) (l : Fin 128)

/-- The head of row `r`. -/
abbrev hd : EReal := head (fun j => lin (fun k => h (ix2 (fl b r) k)) (fun k => w (ix2 k j))) (fun j => g (ix2 0 j)) l

theorem q0_at : k0_pay7 h w g (ix3 b r l) = hd h w g b r l := by
  pointwise [k0_pay7]
  rfl

theorem q1_at : k0_pay11 (k0_pay10 h w g) (ix3 b r l) = hd h w g b r l := by
  pointwise [k0_pay11, k0_pay10]
  rfl

theorem q2_at : k0_pay18 (k0_pay14 h w g) (ix3 b r l) = hd h w g b r l := by
  pointwise [k0_pay18, k0_pay14]
  rfl

theorem q3_at : k0_pay23 (k0_pay21 h w g) (ix3 b r l) = hd h w g b r l := by
  pointwise [k0_pay23, k0_pay21]
  rfl

theorem k0_at : k0_pay6 h w g (ix3 b r l) = hd h w g b r l := by
  pointwise [k0_pay6]
  rfl

theorem k1_at : k0_pay9 h w g (ix3 b r l) = hd h w g b r l := by
  pointwise [k0_pay9]
  rfl

theorem k2_at : k0_pay17 (k0_pay13 h w) (k0_pay15 g) (k0_pay16 h w) (Scalar.ofBits .f32 0x358637BD#32) (ix3 b r l) = hd h w g b r l := by
  pointwise [k0_pay17, k0_pay13, k0_pay15, k0_pay16]
  rfl

theorem k3_at : k0_pay22 (k0_pay20 h w) g (ix3 b r l) = hd h w g b r l := by
  pointwise [k0_pay22, k0_pay20]
  rfl

theorem b0_at : k0_pay8 (k0_pay6 h w g) (ix3 b r l) = hd h w g b r l := by
  pointwise [k0_pay8, k0_pay6]
  rfl

theorem b1_at : k0_pay12 (k0_pay9 h w g) (ix3 b r l) = hd h w g b r l := by
  pointwise [k0_pay12, k0_pay9]
  rfl

theorem b2_at : k0_pay19 (k0_pay13 h w) (k0_pay15 g) (k0_pay16 h w) (Scalar.ofBits .f32 0x358637BD#32) (ix3 b r l) = hd h w g b r l := by
  pointwise [k0_pay19, k0_pay17, k0_pay13, k0_pay15, k0_pay16]
  rfl

theorem b3_at : k0_pay24 (k0_pay20 h w) g (ix3 b r l) = hd h w g b r l := by
  pointwise [k0_pay24, k0_pay22, k0_pay20]
  rfl

end Heads

theorem pay5_at (v0 : Vec Ideal S8x32x1024 .f32) (v1 : Vec Ideal S1x1024 .f32) (v2 v3 : Vec Ideal S8x1x1024 .f32)
    (w : Vec Ideal S1024x2048 .bf16) (b : Fin 8) (r : Fin 32) (j : Fin 2048) : k0_pay5 v0 v1 v2 v3 w (ix3 b r j)
      = lin (fun k => k0_pay4 v0 v1 v2 v3 (ix2 (fl b r) k)) (fun k => w (ix2 k j)) := by
  pointwise [k0_pay5]
  rfl

theorem pay27_at (h : FVec Ideal S256x1024 .bf16) (w : Vec Ideal S1024x2048 .bf16) (b : Fin 8) (r : Fin 32) (j : Fin 2048) :
    k0_pay27 h w (ix3 b r j) = lin (fun k => h (ix2 (fl b r) k)) (fun k => w (ix2 k j)) := by
  pointwise [k0_pay27]
  rfl

theorem pay25_at (h : FVec Ideal S256x1024 .bf16) (w : Vec Ideal S1024x512 .bf16) (b : Fin 8) (r : Fin 32) (j : Fin 512) :
    k0_pay25 h w (ix3 b r j) = lin (fun k => h (ix2 (fl b r) k)) (fun k => w (ix2 k j)) := by
  pointwise [k0_pay25]
  rfl

theorem pay26_at (h : FVec Ideal S256x1024 .bf16) (w : Vec Ideal S1024x512 .bf16) (b : Fin 8) (r : Fin 32) (j : Fin 512) :
    k0_pay26 h w (ix3 b r j) = lin (fun k => h (ix2 (fl b r) k)) (fun k => w (ix2 k j)) := by
  pointwise [k0_pay26, k0_pay25]
  rfl

theorem pay1_at (h : FVec Ideal S256x1024 .bf16) (w : Vec Ideal S1024x8 .bf16) (b : Fin 8) (r : Fin 32) (j : Fin 8) :
    k0_pay28 h w (ix3 b r j) = lin (fun k => h (ix2 (fl b r) k)) (fun k => w (ix2 k j)) := by
  pointwise [k0_pay28]
  rfl

theorem t0_at (h : FVec Ideal S8x32x1024 .bf16) (w : Vec Ideal S8x1024 .bf16) (r : Fin 32) (j : Fin 8) :
    k0_pay29 h w (ix3 0 j r) = lin (fun k => h (ix3 0 r k)) (fun k => w (ix2 j k)) := by
  pointwise [k0_pay29]
  unfold lin
  simp only [mul_comm]

theorem t1_at (h : FVec Ideal S8x32x1024 .bf16) (w : Vec Ideal S8x1024 .bf16) (r : Fin 32) (j : Fin 8) :
    k0_pay30 h w (ix3 0 j r) = lin (fun k => h (ix3 1 r k)) (fun k => w (ix2 j k)) := by
  pointwise [k0_pay30]
  unfold lin
  simp only [mul_comm]

theorem t2_at (h : FVec Ideal S8x32x1024 .bf16) (w : Vec Ideal S8x1024 .bf16) (r : Fin 32) (j : Fin 8) :
    k0_pay32 (k0_pay31 h w) (ix3 0 j r) = lin (fun k => h (ix3 2 r k)) (fun k => w (ix2 j k)) := by
  pointwise [k0_pay32, k0_pay31]
  unfold lin
  simp only [mul_comm]

theorem t3_at (h : FVec Ideal S8x32x1024 .bf16) (w : Vec Ideal S8x1024 .bf16) (r : Fin 32) (j : Fin 8) :
    k0_pay33 h w (ix3 0 j r) = lin (fun k => h (ix3 3 r k)) (fun k => w (ix2 j k)) := by
  pointwise [k0_pay33]
  unfold lin
  simp only [mul_comm]

theorem t4_at (h : FVec Ideal S8x32x1024 .bf16) (w : Vec Ideal S8x1024 .bf16) (r : Fin 32) (j : Fin 8) :
    k0_pay34 h w (ix3 0 j r) = lin (fun k => h (ix3 4 r k)) (fun k => w (ix2 j k)) := by
  pointwise [k0_pay34]
  unfold lin
  simp only [mul_comm]

theorem t5_at (h : FVec Ideal S8x32x1024 .bf16) (w : Vec Ideal S8x1024 .bf16) (r : Fin 32) (j : Fin 8) :
    k0_pay35 h w (ix3 0 j r) = lin (fun k => h (ix3 5 r k)) (fun k => w (ix2 j k)) := by
  pointwise [k0_pay35]
  unfold lin
  simp only [mul_comm]

theorem t6_at (h : FVec Ideal S8x32x1024 .bf16) (w : Vec Ideal S8x1024 .bf16) (r : Fin 32) (j : Fin 8) :
    k0_pay1 (k0_pay36 h w) (ix3 0 j r) = lin (fun k => h (ix3 6 r k)) (fun k => w (ix2 j k)) := by
  pointwise [k0_pay1, k0_pay36]
  unfold lin
  simp only [mul_comm]

theorem t7_at (h : FVec Ideal S8x32x1024 .bf16) (w : Vec Ideal S8x1024 .bf16) (r : Fin 32) (j : Fin 8) :
    k0_pay2 h w (ix3 0 j r) = lin (fun k => h (ix3 7 r k)) (fun k => w (ix2 j k)) := by
  pointwise [k0_pay2]
  unfold lin
  simp only [mul_comm]

theorem hz3 : (![0, 0, 0] : Fin 3 → Nat) = fun _ => 0 := funext fun a => by fin_cases a <;> rfl

/-! ## What the body leaves in each output's staging buffer, at an index -/

section Outs

variable (x0 : Vec Ideal S8x32x1024 .f32) (x1 x2 : Vec Ideal S8x1x1024 .f32) (x3 : Vec Ideal S1x1024 .f32)
  (x4 : Vec Ideal S1024x5632 .bf16) (x5 : Vec Ideal S1024x8 .bf16) (x6 : Vec Ideal S8x1024 .bf16) (x7 x8 : Vec Ideal S1x128 .f32)
  (b : Fin 8) (r : Fin 32)

/-- The normed and modulated row `r` of the blocks. -/
abbrev hrow : Fin 1024 → EReal :=
  hid (fun k => x0 (ix3 b r k)) (fun k => x3 (ix2 0 k)) (fun k => x1 (ix3 b 0 k)) (fun k => x2 (ix3 b 0 k))

theorem h28_at (k : Fin 1024) : k0_pay38 x0 x1 x2 x3 x4 x5 x6 x7 x8 (ix2 (fl b r) k) = hrow x0 x1 x2 x3 b r k := by
  unfold k0_pay38
  rw [pay4_at]
  pointwise [r0_0, r0_1, r0_2]

theorem out9_at (l : Fin 1024) : out0_9 x0 x1 x2 x3 x4 x5 x6 x7 x8 (ix3 b r l) = hrow x0 x1 x2 x3 b r l := by
  unfold out0_9
  rw [View.canon_unit_zero hz3, pay3_at]
  pointwise [r0_0, r0_1, r0_2]

theorem out10_at (j : Fin 2048) : out0_10 x0 x1 x2 x3 x4 x5 x6 x7 x8 (ix3 b r j)
    = lin (hrow x0 x1 x2 x3 b r) (fun k => x4 (ix2 k ⟨j.val, by omega⟩)) := by
  unfold out0_10
  rw [View.canon_unit_zero hz3, pay5_at]
  simp only [pay4_at]
  pointwise [r0_0, r0_1, r0_2, r0_3]

theorem out11_at (j : Fin 2048) : out0_11 x0 x1 x2 x3 x4 x5 x6 x7 x8 (ix3 b r j)
    = lin (hrow x0 x1 x2 x3 b r) (fun k => x4 (ix2 k ⟨3584 + j.val, by omega⟩)) := by
  unfold out0_11
  rw [View.canon_unit_zero hz3, pay27_at]
  simp only [h28_at]
  pointwise [r0_20]

theorem out14_at (j : Fin 512) : out0_14 x0 x1 x2 x3 x4 x5 x6 x7 x8 (ix3 b r j)
    = lin (hrow x0 x1 x2 x3 b r) (fun k => x4 (ix2 k ⟨3072 + j.val, by omega⟩)) := by
  unfold out0_14
  rw [View.canon_unit_zero hz3, pay25_at]
  simp only [h28_at]
  pointwise [r0_18]

theorem out16_at (j : Fin 512) : out0_16 x0 x1 x2 x3 x4 x5 x6 x7 x8 (ix3 b r j)
    = lin (hrow x0 x1 x2 x3 b r) (fun k => x4 (ix2 k ⟨3072 + j.val, by omega⟩)) := by
  unfold out0_16
  rw [View.canon_unit_zero hz3, pay26_at]
  simp only [h28_at]
  pointwise [r0_18]

theorem out17_at (j : Fin 8) : out0_17 x0 x1 x2 x3 x4 x5 x6 x7 x8 (ix3 b r j)
    = lin (hrow x0 x1 x2 x3 b r) (fun k => x5 (ix2 k j)) := by
  unfold out0_17
  rw [View.canon_unit_zero hz3, pay1_at]
  simp only [h28_at]
  pointwise [r0_21]

theorem exists_gate (x : S1x8x32.Idx) : ∃ (j : Fin 8) (r : Fin 32), x = ix3 0 j r :=
  ⟨x 1, x 2, by
    funext a
    match a with
    | ⟨0, _⟩ => exact Subsingleton.elim (α := Fin 1) _ _
    | ⟨1, _⟩ => rfl
    | ⟨2, _⟩ => rfl⟩

/-- The transposed gates of the block, at an index. -/
abbrev gatesT (y : S8x8x32.Idx) : EReal := lin (hrow x0 x1 x2 x3 (y 0) (y 2)) (fun k => x6 (ix2 (y 1) k))

theorem gates_eq (n : Fin 8) (j : Fin 8) (r : Fin 32) (y : S8x8x32.Idx) (h0 : (y 0).val = n.val) (h1 : (y 1).val = j.val)
    (h2 : (y 2).val = r.val) :
    lin (fun k => k0_pay37 x0 x1 x2 x3 x4 x5 x6 x7 x8 (ix3 n r k)) (fun k => View.ld x6 r0_23 (ix2 j k)) = gatesT x0 x1 x2 x3 x6 y := by
  have e0 : y 0 = n := Fin.ext h0
  have e1 : y 1 = j := Fin.ext h1
  have e2 : y 2 = r := Fin.ext h2
  unfold gatesT k0_pay37
  simp only [pay3_at, e0, e1, e2]
  pointwise [r0_0, r0_1, r0_2, r0_23]

theorem out18_all (y : S8x8x32.Idx) : out0_18 x0 x1 x2 x3 x4 x5 x6 x7 x8 y = gatesT x0 x1 x2 x3 x6 y := by
  unfold out0_18
  refine View.canon_apply_of_pieces _ _ ?_ y (cover0_18 _ _ _ _ _ _ _ _ y)
  simp only [List.forall_mem_cons, List.forall_mem_nil, List.not_mem_nil, false_imp_iff, implies_true, and_true]
  refine ⟨fun x => ?_, fun x => ?_, fun x => ?_, fun x => ?_, fun x => ?_, fun x => ?_, fun x => ?_, fun x => ?_⟩
  · obtain ⟨j, r, rfl⟩ := exists_gate x
    rw [t7_at]
    exact gates_eq x0 x1 x2 x3 x4 x5 x6 x7 x8 7 j r _ (by show 7 + 1 * 0 = 7; omega) (by show 0 + 1 * j.val = j.val; omega)
      (by show 0 + 1 * r.val = r.val; omega)
  · obtain ⟨j, r, rfl⟩ := exists_gate x
    rw [t6_at]
    exact gates_eq x0 x1 x2 x3 x4 x5 x6 x7 x8 6 j r _ (by show 6 + 1 * 0 = 6; omega) (by show 0 + 1 * j.val = j.val; omega)
      (by show 0 + 1 * r.val = r.val; omega)
  · obtain ⟨j, r, rfl⟩ := exists_gate x
    rw [t5_at]
    exact gates_eq x0 x1 x2 x3 x4 x5 x6 x7 x8 5 j r _ (by show 5 + 1 * 0 = 5; omega) (by show 0 + 1 * j.val = j.val; omega)
      (by show 0 + 1 * r.val = r.val; omega)
  · obtain ⟨j, r, rfl⟩ := exists_gate x
    rw [t4_at]
    exact gates_eq x0 x1 x2 x3 x4 x5 x6 x7 x8 4 j r _ (by show 4 + 1 * 0 = 4; omega) (by show 0 + 1 * j.val = j.val; omega)
      (by show 0 + 1 * r.val = r.val; omega)
  · obtain ⟨j, r, rfl⟩ := exists_gate x
    rw [t3_at]
    exact gates_eq x0 x1 x2 x3 x4 x5 x6 x7 x8 3 j r _ (by show 3 + 1 * 0 = 3; omega) (by show 0 + 1 * j.val = j.val; omega)
      (by show 0 + 1 * r.val = r.val; omega)
  · obtain ⟨j, r, rfl⟩ := exists_gate x
    rw [t2_at]
    exact gates_eq x0 x1 x2 x3 x4 x5 x6 x7 x8 2 j r _ (by show 2 + 1 * 0 = 2; omega) (by show 0 + 1 * j.val = j.val; omega)
      (by show 0 + 1 * r.val = r.val; omega)
  · obtain ⟨j, r, rfl⟩ := exists_gate x
    rw [t1_at]
    exact gates_eq x0 x1 x2 x3 x4 x5 x6 x7 x8 1 j r _ (by show 1 + 1 * 0 = 1; omega) (by show 0 + 1 * j.val = j.val; omega)
      (by show 0 + 1 * r.val = r.val; omega)
  · obtain ⟨j, r, rfl⟩ := exists_gate x
    rw [t0_at]
    exact gates_eq x0 x1 x2 x3 x4 x5 x6 x7 x8 0 j r _ (by show 0 + 1 * 0 = 0; omega) (by show 0 + 1 * j.val = j.val; omega)
      (by show 0 + 1 * r.val = r.val; omega)

theorem out18_at (j : Fin 8) : out0_18 x0 x1 x2 x3 x4 x5 x6 x7 x8 (ix3 b j r)
    = lin (hrow x0 x1 x2 x3 b r) (fun k => x6 (ix2 j k)) :=
  out18_all x0 x1 x2 x3 x4 x5 x6 x7 x8 (ix3 b j r)

/-- The heads of row `r`, whose columns start at `off`: element `l` of the 512, in head `l / 128`. -/
abbrev heads (off : Nat) (hoff : off ≤ 5120) (g : Vec Ideal S1x128 .f32) (y : S8x32x512.Idx) : EReal :=
  head (fun j => lin (hrow x0 x1 x2 x3 (y 0) (y 1)) (fun k => x4 (ix2 k ⟨off + (y 2).val / 128 * 128 + j.val, by
      have h2 : (y 2).val < 512 := (y 2).isLt
      have := j.isLt; omega⟩)))
    (fun j => g (ix2 0 j)) ⟨(y 2).val % 128, Nat.mod_lt _ (by decide)⟩

theorem hd_eq_heads (off n : Nat) (hoff : off ≤ 5120) (hn : n < 4) (g : Vec Ideal S1x128 .f32) (W : Vec Ideal S1024x128 .bf16)
    (l : Fin 128) (hW : ∀ k j, W (ix2 k j) = x4 (ix2 k ⟨off + n * 128 + j.val, by have := j.isLt; omega⟩)) (y : S8x32x512.Idx)
    (h0 : y 0 = b) (h1 : y 1 = r) (h2 : (y 2).val = n * 128 + l.val) :
    hd (k0_pay38 x0 x1 x2 x3 x4 x5 x6 x7 x8) W (View.ld g r0_7) b r l = heads x0 x1 x2 x3 x4 off hoff g y := by
  have hl := l.isLt
  have e1 : (y 2).val / 128 = n := by omega
  have e2 : (⟨(y 2).val % 128, Nat.mod_lt _ (by decide)⟩ : Fin 128) = l := Fin.ext (by show (y 2).val % 128 = l.val; omega)
  unfold hd heads
  simp only [h28_at, hW, e1, e2, h0, h1]
  pointwise [r0_7]

theorem exists_row (x : S8x32x128.Idx) : ∃ (b : Fin 8) (r : Fin 32) (l : Fin 128), x = ix3 b r l :=
  ⟨x 0, x 1, x 2, by
    funext a
    match a with
    | ⟨0, _⟩ => rfl
    | ⟨1, _⟩ => rfl
    | ⟨2, _⟩ => rfl⟩

theorem out12_at (y : S8x32x512.Idx) : out0_12 x0 x1 x2 x3 x4 x5 x6 x7 x8 y = heads x0 x1 x2 x3 x4 2048 (by decide) x7 y := by
  unfold out0_12
  refine View.canon_apply_of_pieces _ _ ?_ y (cover0_12 _ _ _ _ y)
  simp only [List.forall_mem_cons, List.forall_mem_nil, List.not_mem_nil, false_imp_iff, implies_true, and_true]
  refine ⟨fun x => ?_, fun x => ?_, fun x => ?_, fun x => ?_⟩
  · obtain ⟨b, r, l, rfl⟩ := exists_row x
    rw [q3_at]
    exact hd_eq_heads x0 x1 x2 x3 x4 x5 x6 x7 x8 b r 2048 3 (by decide) (by decide) x7 _ l (fun k j => by pointwise [r0_15]) _
      (Fin.ext (by show 0 + 1 * b.val = b.val; omega)) (Fin.ext (by show 0 + 1 * r.val = r.val; omega)) (by show 384 + 1 * l.val = 3 * 128 + l.val; omega)
  · obtain ⟨b, r, l, rfl⟩ := exists_row x
    rw [q2_at]
    exact hd_eq_heads x0 x1 x2 x3 x4 x5 x6 x7 x8 b r 2048 2 (by decide) (by decide) x7 _ l (fun k j => by pointwise [r0_12]) _
      (Fin.ext (by show 0 + 1 * b.val = b.val; omega)) (Fin.ext (by show 0 + 1 * r.val = r.val; omega)) (by show 256 + 1 * l.val = 2 * 128 + l.val; omega)
  · obtain ⟨b, r, l, rfl⟩ := exists_row x
    rw [q1_at]
    exact hd_eq_heads x0 x1 x2 x3 x4 x5 x6 x7 x8 b r 2048 1 (by decide) (by decide) x7 _ l (fun k j => by pointwise [r0_9]) _
      (Fin.ext (by show 0 + 1 * b.val = b.val; omega)) (Fin.ext (by show 0 + 1 * r.val = r.val; omega)) (by show 128 + 1 * l.val = 1 * 128 + l.val; omega)
  · obtain ⟨b, r, l, rfl⟩ := exists_row x
    rw [q0_at]
    exact hd_eq_heads x0 x1 x2 x3 x4 x5 x6 x7 x8 b r 2048 0 (by decide) (by decide) x7 _ l (fun k j => by pointwise [r0_5]) _
      (Fin.ext (by show 0 + 1 * b.val = b.val; omega)) (Fin.ext (by show 0 + 1 * r.val = r.val; omega)) (by show 0 + 1 * l.val = 0 * 128 + l.val; omega)

theorem out13_at (y : S8x32x512.Idx) : out0_13 x0 x1 x2 x3 x4 x5 x6 x7 x8 y = heads x0 x1 x2 x3 x4 2560 (by decide) x8 y := by
  unfold out0_13
  refine View.canon_apply_of_pieces _ _ ?_ y (cover0_13 _ _ _ _ y)
  simp only [List.forall_mem_cons, List.forall_mem_nil, List.not_mem_nil, false_imp_iff, implies_true, and_true]
  refine ⟨fun x => ?_, fun x => ?_, fun x => ?_, fun x => ?_⟩
  · obtain ⟨b, r, l, rfl⟩ := exists_row x
    unfold k0_pay44
    rw [k3_at]
    exact hd_eq_heads x0 x1 x2 x3 x4 x5 x6 x7 x8 b r 2560 3 (by decide) (by decide) x8 _ l (fun k j => by pointwise [r0_16]) _
      (Fin.ext (by show 0 + 1 * b.val = b.val; omega)) (Fin.ext (by show 0 + 1 * r.val = r.val; omega)) (by show 384 + 1 * l.val = 3 * 128 + l.val; omega)
  · obtain ⟨b, r, l, rfl⟩ := exists_row x
    unfold k0_pay41 k0_pay42 k0_pay43
    rw [k2_at]
    exact hd_eq_heads x0 x1 x2 x3 x4 x5 x6 x7 x8 b r 2560 2 (by decide) (by decide) x8 _ l (fun k j => by pointwise [r0_13]) _
      (Fin.ext (by show 0 + 1 * b.val = b.val; omega)) (Fin.ext (by show 0 + 1 * r.val = r.val; omega)) (by show 256 + 1 * l.val = 2 * 128 + l.val; omega)
  · obtain ⟨b, r, l, rfl⟩ := exists_row x
    unfold k0_pay40
    rw [k1_at]
    exact hd_eq_heads x0 x1 x2 x3 x4 x5 x6 x7 x8 b r 2560 1 (by decide) (by decide) x8 _ l (fun k j => by pointwise [r0_10]) _
      (Fin.ext (by show 0 + 1 * b.val = b.val; omega)) (Fin.ext (by show 0 + 1 * r.val = r.val; omega)) (by show 128 + 1 * l.val = 1 * 128 + l.val; omega)
  · obtain ⟨b, r, l, rfl⟩ := exists_row x
    unfold k0_pay39
    rw [k0_at]
    exact hd_eq_heads x0 x1 x2 x3 x4 x5 x6 x7 x8 b r 2560 0 (by decide) (by decide) x8 _ l (fun k j => by pointwise [r0_6]) _
      (Fin.ext (by show 0 + 1 * b.val = b.val; omega)) (Fin.ext (by show 0 + 1 * r.val = r.val; omega)) (by show 0 + 1 * l.val = 0 * 128 + l.val; omega)

theorem out15_at (y : S8x32x512.Idx) : out0_15 x0 x1 x2 x3 x4 x5 x6 x7 x8 y = heads x0 x1 x2 x3 x4 2560 (by decide) x8 y := by
  unfold out0_15
  refine View.canon_apply_of_pieces _ _ ?_ y (cover0_15 _ _ _ _ y)
  simp only [List.forall_mem_cons, List.forall_mem_nil, List.not_mem_nil, false_imp_iff, implies_true, and_true]
  refine ⟨fun x => ?_, fun x => ?_, fun x => ?_, fun x => ?_⟩
  · obtain ⟨b, r, l, rfl⟩ := exists_row x
    unfold k0_pay44
    rw [b3_at]
    exact hd_eq_heads x0 x1 x2 x3 x4 x5 x6 x7 x8 b r 2560 3 (by decide) (by decide) x8 _ l (fun k j => by pointwise [r0_16]) _
      (Fin.ext (by show 0 + 1 * b.val = b.val; omega)) (Fin.ext (by show 0 + 1 * r.val = r.val; omega)) (by show 384 + 1 * l.val = 3 * 128 + l.val; omega)
  · obtain ⟨b, r, l, rfl⟩ := exists_row x
    unfold k0_pay41 k0_pay42 k0_pay43
    rw [b2_at]
    exact hd_eq_heads x0 x1 x2 x3 x4 x5 x6 x7 x8 b r 2560 2 (by decide) (by decide) x8 _ l (fun k j => by pointwise [r0_13]) _
      (Fin.ext (by show 0 + 1 * b.val = b.val; omega)) (Fin.ext (by show 0 + 1 * r.val = r.val; omega)) (by show 256 + 1 * l.val = 2 * 128 + l.val; omega)
  · obtain ⟨b, r, l, rfl⟩ := exists_row x
    unfold k0_pay40
    rw [b1_at]
    exact hd_eq_heads x0 x1 x2 x3 x4 x5 x6 x7 x8 b r 2560 1 (by decide) (by decide) x8 _ l (fun k j => by pointwise [r0_10]) _
      (Fin.ext (by show 0 + 1 * b.val = b.val; omega)) (Fin.ext (by show 0 + 1 * r.val = r.val; omega)) (by show 128 + 1 * l.val = 1 * 128 + l.val; omega)
  · obtain ⟨b, r, l, rfl⟩ := exists_row x
    unfold k0_pay39
    rw [b0_at]
    exact hd_eq_heads x0 x1 x2 x3 x4 x5 x6 x7 x8 b r 2560 0 (by decide) (by decide) x8 _ l (fun k j => by pointwise [r0_6]) _
      (Fin.ext (by show 0 + 1 * b.val = b.val; omega)) (Fin.ext (by show 0 + 1 * r.val = r.val; omega)) (by show 0 + 1 * l.val = 0 * 128 + l.val; omega)

theorem out12_ix (l : Fin 512) : out0_12 x0 x1 x2 x3 x4 x5 x6 x7 x8 (ix3 b r l)
    = head (fun j => lin (hrow x0 x1 x2 x3 b r) (fun k => x4 (ix2 k ⟨2048 + l.val / 128 * 128 + j.val, by have := l.isLt; have := j.isLt; omega⟩)))
        (fun j => x7 (ix2 0 j)) ⟨l.val % 128, Nat.mod_lt _ (by decide)⟩ :=
  out12_at x0 x1 x2 x3 x4 x5 x6 x7 x8 (ix3 b r l)

theorem out13_ix (l : Fin 512) : out0_13 x0 x1 x2 x3 x4 x5 x6 x7 x8 (ix3 b r l)
    = head (fun j => lin (hrow x0 x1 x2 x3 b r) (fun k => x4 (ix2 k ⟨2560 + l.val / 128 * 128 + j.val, by have := l.isLt; have := j.isLt; omega⟩)))
        (fun j => x8 (ix2 0 j)) ⟨l.val % 128, Nat.mod_lt _ (by decide)⟩ :=
  out13_at x0 x1 x2 x3 x4 x5 x6 x7 x8 (ix3 b r l)

theorem out15_ix (l : Fin 512) : out0_15 x0 x1 x2 x3 x4 x5 x6 x7 x8 (ix3 b r l)
    = head (fun j => lin (hrow x0 x1 x2 x3 b r) (fun k => x4 (ix2 k ⟨2560 + l.val / 128 * 128 + j.val, by have := l.isLt; have := j.isLt; omega⟩)))
        (fun j => x8 (ix2 0 j)) ⟨l.val % 128, Nat.mod_lt _ (by decide)⟩ :=
  out15_at x0 x1 x2 x3 x4 x5 x6 x7 x8 (ix3 b r l)

end Outs

theorem head_congr {p p' : Fin 128 → EReal} (g : Fin 128 → EReal) (l : Fin 128) (h : ∀ j, p j = p' j) :
    head p g l = head p' g l := by rw [show p = p' from funext h]

theorem lin_congr (h : Fin 1024 → EReal) {w w' : Fin 1024 → EReal} (e : ∀ k, w k = w' k) : lin h w = lin h w' := by
  rw [show w = w' from funext e]

variable (m : (ℓ : Loc nD τ sig) → Buf (Elt Ideal) ℓ) (c : Dev nD)

theorem N2 (t : Fin cfg0.N) : t.val < 2 := t.isLt.trans_le N_0.le

/-- The sequence that point `t`'s block holds at `b`. -/
def bt (t : Fin cfg0.N) (b : Fin 8) : Fin 16 := ⟨t.val * 8 + b.val, by have := N2 t; have := b.isLt; omega⟩

/-- The weight's column that column `j` of the re-laid weight is: the eight gate columns are left out. -/
def wc (j : Fin 5632) : Fin 5640 := if h : j.val < 2048 then ⟨j.val, by omega⟩ else ⟨j.val + 8, by have := j.isLt; omega⟩

/-- Gate `j`'s column of the weight. -/
def gc (j : Fin 8) : Fin 5640 := ⟨2048 + j.val, by have := j.isLt; omega⟩

theorem wc_lo {j : Fin 5632} (h : j.val < 2048) {n : Nat} {hn : n < 5640} (e : n = j.val) : wc j = ⟨n, hn⟩ := by
  unfold wc; rw [dif_pos h]; exact Fin.ext e.symm

theorem wc_hi {j : Fin 5632} (h : 2048 ≤ j.val) {n : Nat} {hn : n < 5640} (e : n = j.val + 8) : wc j = ⟨n, hn⟩ := by
  unfold wc; rw [dif_neg (by omega)]; exact Fin.ext e.symm

/-! ## The windows' blocks at an index -/

theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

theorem emb0 (t : Fin cfg0.N) (b : Fin 8) (r : Fin 32) (l : Fin 1024) :
    ((cfg0.win 0).blk t).view.emb (ix3 b r l : S8x32x1024.Idx) = (ix3 (bt t b) r l : S16x32x1024.Idx) := by
  funext a; apply Fin.ext
  match a with
  | ⟨0, _⟩ => show win0_0.index t 0 * 8 + 1 * b.val = t.val * 8 + b.val; rw [(idx0 t).1]; omega
  | ⟨1, _⟩ => show win0_0.index t 1 * 32 + 1 * r.val = r.val; rw [(idx0 t).2.1]; omega
  | ⟨2, _⟩ => show win0_0.index t 2 * 1024 + 1 * l.val = l.val; rw [(idx0 t).2.2]; omega

theorem blk0 (t : Fin cfg0.N) (b : Fin 8) (r : Fin 32) (l : Fin 1024) :
    iblk m c 0 t (ix3 b r l : S8x32x1024.Idx) = m ((c : Thread nD τ).loc main_arg0) (ix3 (bt t b) r l) := by
  unfold iblk
  rw [View.read_apply, emb0]
  show V m c main_arg0 _ = _
  rw [V_main_arg0]

theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

theorem emb1 (t : Fin cfg0.N) (b : Fin 8) (l : Fin 1024) :
    ((cfg0.win 1).blk t).view.emb (ix3 b 0 l : S8x1x1024.Idx) = (ix3 (bt t b) 0 l : S16x1x1024.Idx) := by
  funext a; apply Fin.ext
  match a with
  | ⟨0, _⟩ => show win0_1.index t 0 * 8 + 1 * b.val = t.val * 8 + b.val; rw [(idx1 t).1]; omega
  | ⟨1, _⟩ => show win0_1.index t 1 * 1 + 1 * 0 = 0; rw [(idx1 t).2.1]
  | ⟨2, _⟩ => show win0_1.index t 2 * 1024 + 1 * l.val = l.val; rw [(idx1 t).2.2]; omega

theorem blk1 (t : Fin cfg0.N) (b : Fin 8) (l : Fin 1024) :
    iblk m c 1 t (ix3 b 0 l : S8x1x1024.Idx) = m ((c : Thread nD τ).loc main_arg1) (ix3 (bt t b) 0 l) := by
  unfold iblk
  rw [View.read_apply, emb1]
  show V m c main_arg1 _ = _
  rw [V_main_arg1]

theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

theorem emb2 (t : Fin cfg0.N) (b : Fin 8) (l : Fin 1024) :
    ((cfg0.win 2).blk t).view.emb (ix3 b 0 l : S8x1x1024.Idx) = (ix3 (bt t b) 0 l : S16x1x1024.Idx) := by
  funext a; apply Fin.ext
  match a with
  | ⟨0, _⟩ => show win0_2.index t 0 * 8 + 1 * b.val = t.val * 8 + b.val; rw [(idx2 t).1]; omega
  | ⟨1, _⟩ => show win0_2.index t 1 * 1 + 1 * 0 = 0; rw [(idx2 t).2.1]
  | ⟨2, _⟩ => show win0_2.index t 2 * 1024 + 1 * l.val = l.val; rw [(idx2 t).2.2]; omega

theorem blk2 (t : Fin cfg0.N) (b : Fin 8) (l : Fin 1024) :
    iblk m c 2 t (ix3 b 0 l : S8x1x1024.Idx) = m ((c : Thread nD τ).loc main_arg2) (ix3 (bt t b) 0 l) := by
  unfold iblk
  rw [View.read_apply, emb2]
  show V m c main_arg2 _ = _
  rw [V_main_arg2]

theorem idx3 : ∀ t : Fin cfg0.N, win0_3.index t 0 = 0 ∧ win0_3.index t 1 = 0 :=
  (by decide +kernel : ∀ t : Fin grid0.N, win0_3.index t 0 = 0 ∧ win0_3.index t 1 = 0)

theorem emb3 (t : Fin cfg0.N) (l : Fin 1024) :
    ((cfg0.win 3).blk t).view.emb (ix2 0 l : S1x1024.Idx) = (ix2 0 l : S1x1024.Idx) := by
  funext a; apply Fin.ext
  match a with
  | ⟨0, _⟩ => show win0_3.index t 0 * 1 + 1 * 0 = 0; rw [(idx3 t).1]
  | ⟨1, _⟩ => show win0_3.index t 1 * 1024 + 1 * l.val = l.val; rw [(idx3 t).2]; omega

theorem blk3 (t : Fin cfg0.N) (l : Fin 1024) :
    iblk m c 3 t (ix2 0 l : S1x1024.Idx) = m ((c : Thread nD τ).loc main_arg3) (ix2 0 l) := by
  unfold iblk
  rw [View.read_apply, emb3]
  show V m c main_arg3 _ = _
  rw [V_main_arg3]

theorem idx4 : ∀ t : Fin cfg0.N, win0_4.index t 0 = 0 ∧ win0_4.index t 1 = 0 :=
  (by decide +kernel : ∀ t : Fin grid0.N, win0_4.index t 0 = 0 ∧ win0_4.index t 1 = 0)

theorem emb4 (t : Fin cfg0.N) (k : Fin 1024) (l : Fin 5632) :
    ((cfg0.win 4).blk t).view.emb (ix2 k l : S1024x5632.Idx) = (ix2 k l : S1024x5632.Idx) := by
  funext a; apply Fin.ext
  match a with
  | ⟨0, _⟩ => show win0_4.index t 0 * 1024 + 1 * k.val = k.val; rw [(idx4 t).1]; omega
  | ⟨1, _⟩ => show win0_4.index t 1 * 5632 + 1 * l.val = l.val; rw [(idx4 t).2]; omega

theorem blk4 (t : Fin cfg0.N) (k : Fin 1024) (l : Fin 5632) :
    iblk m c 4 t (ix2 k l : S1024x5632.Idx) = m ((c : Thread nD τ).loc main_arg4) (ix2 k (wc l)) := by
  unfold iblk
  rw [View.read_apply, emb4]
  show V m c main_v3 _ = _
  entry_read
  pointwise
  unfold wc
  split <;> first | rfl | (congr 2; apply Fin.ext; show 2056 + (l.val - 2048) = l.val + 8; omega)

theorem idx5 : ∀ t : Fin cfg0.N, win0_5.index t 0 = 0 ∧ win0_5.index t 1 = 0 :=
  (by decide +kernel : ∀ t : Fin grid0.N, win0_5.index t 0 = 0 ∧ win0_5.index t 1 = 0)

theorem emb5 (t : Fin cfg0.N) (k : Fin 1024) (l : Fin 8) :
    ((cfg0.win 5).blk t).view.emb (ix2 k l : S1024x8.Idx) = (ix2 k l : S1024x8.Idx) := by
  funext a; apply Fin.ext
  match a with
  | ⟨0, _⟩ => show win0_5.index t 0 * 1024 + 1 * k.val = k.val; rw [(idx5 t).1]; omega
  | ⟨1, _⟩ => show win0_5.index t 1 * 8 + 1 * l.val = l.val; rw [(idx5 t).2]; omega

theorem blk5 (t : Fin cfg0.N) (k : Fin 1024) (l : Fin 8) :
    iblk m c 5 t (ix2 k l : S1024x8.Idx) = m ((c : Thread nD τ).loc main_arg4) (ix2 k (gc l)) := by
  unfold iblk
  rw [View.read_apply, emb5]
  show V m c main_v5 _ = _
  entry_read
  pointwise; rfl

theorem idx6 : ∀ t : Fin cfg0.N, win0_6.index t 0 = 0 ∧ win0_6.index t 1 = 0 :=
  (by decide +kernel : ∀ t : Fin grid0.N, win0_6.index t 0 = 0 ∧ win0_6.index t 1 = 0)

theorem emb6 (t : Fin cfg0.N) (k : Fin 8) (l : Fin 1024) :
    ((cfg0.win 6).blk t).view.emb (ix2 k l : S8x1024.Idx) = (ix2 k l : S8x1024.Idx) := by
  funext a; apply Fin.ext
  match a with
  | ⟨0, _⟩ => show win0_6.index t 0 * 8 + 1 * k.val = k.val; rw [(idx6 t).1]; omega
  | ⟨1, _⟩ => show win0_6.index t 1 * 1024 + 1 * l.val = l.val; rw [(idx6 t).2]; omega

theorem blk6 (t : Fin cfg0.N) (k : Fin 8) (l : Fin 1024) :
    iblk m c 6 t (ix2 k l : S8x1024.Idx) = m ((c : Thread nD τ).loc main_arg4) (ix2 l (gc k)) := by
  unfold iblk
  rw [View.read_apply, emb6]
  show V m c main_v6 _ = _
  entry_read
  pointwise; rfl

theorem idx7 : ∀ t : Fin cfg0.N, win0_7.index t 0 = 0 ∧ win0_7.index t 1 = 0 :=
  (by decide +kernel : ∀ t : Fin grid0.N, win0_7.index t 0 = 0 ∧ win0_7.index t 1 = 0)

theorem emb7 (t : Fin cfg0.N) (l : Fin 128) :
    ((cfg0.win 7).blk t).view.emb (ix2 0 l : S1x128.Idx) = (ix2 0 l : S1x128.Idx) := by
  funext a; apply Fin.ext
  match a with
  | ⟨0, _⟩ => show win0_7.index t 0 * 1 + 1 * 0 = 0; rw [(idx7 t).1]
  | ⟨1, _⟩ => show win0_7.index t 1 * 128 + 1 * l.val = l.val; rw [(idx7 t).2]; omega

theorem blk7 (t : Fin cfg0.N) (l : Fin 128) :
    iblk m c 7 t (ix2 0 l : S1x128.Idx) = m ((c : Thread nD τ).loc main_arg5) (ix1 l) := by
  unfold iblk
  rw [View.read_apply, emb7]
  show V m c main_v7 _ = _
  entry_read
  pointwise

theorem idx8 : ∀ t : Fin cfg0.N, win0_8.index t 0 = 0 ∧ win0_8.index t 1 = 0 :=
  (by decide +kernel : ∀ t : Fin grid0.N, win0_8.index t 0 = 0 ∧ win0_8.index t 1 = 0)

theorem emb8 (t : Fin cfg0.N) (l : Fin 128) :
    ((cfg0.win 8).blk t).view.emb (ix2 0 l : S1x128.Idx) = (ix2 0 l : S1x128.Idx) := by
  funext a; apply Fin.ext
  match a with
  | ⟨0, _⟩ => show win0_8.index t 0 * 1 + 1 * 0 = 0; rw [(idx8 t).1]
  | ⟨1, _⟩ => show win0_8.index t 1 * 128 + 1 * l.val = l.val; rw [(idx8 t).2]; omega

theorem blk8 (t : Fin cfg0.N) (l : Fin 128) :
    iblk m c 8 t (ix2 0 l : S1x128.Idx) = m ((c : Thread nD τ).loc main_arg6) (ix1 l) := by
  unfold iblk
  rw [View.read_apply, emb8]
  show V m c main_v8 _ = _
  entry_read
  pointwise

theorem idx9 : ∀ t : Fin cfg0.N, win0_9.index t 0 = t.val ∧ win0_9.index t 1 = 0 ∧ win0_9.index t 2 = 0 :=
  (by decide +kernel : ∀ t : Fin grid0.N, win0_9.index t 0 = t.val ∧ win0_9.index t 1 = 0 ∧ win0_9.index t 2 = 0)

theorem emb9 (t : Fin cfg0.N) (b : Fin 8) (r : Fin 32) (l : Fin 1024) :
    ((cfg0.win 9).blk t).view.emb (ix3 b r l : S8x32x1024.Idx) = (ix3 (bt t b) r l : S16x32x1024.Idx) := by
  funext a; apply Fin.ext
  match a with
  | ⟨0, _⟩ => show win0_9.index t 0 * 8 + 1 * b.val = t.val * 8 + b.val; rw [(idx9 t).1]; omega
  | ⟨1, _⟩ => show win0_9.index t 1 * 32 + 1 * r.val = r.val; rw [(idx9 t).2.1]; omega
  | ⟨2, _⟩ => show win0_9.index t 2 * 1024 + 1 * l.val = l.val; rw [(idx9 t).2.2]; omega

theorem mem9 (t : Fin cfg0.N) (b : Fin 8) (r : Fin 32) (l : Fin 1024) :
    (ix3 (bt t b) r l : S16x32x1024.Idx) ∈ ((cfg0.win 9).blk t).view.set := by
  rw [← emb9]; exact View.emb_mem_set _ _

theorem idx10 : ∀ t : Fin cfg0.N, win0_10.index t 0 = t.val ∧ win0_10.index t 1 = 0 ∧ win0_10.index t 2 = 0 :=
  (by decide +kernel : ∀ t : Fin grid0.N, win0_10.index t 0 = t.val ∧ win0_10.index t 1 = 0 ∧ win0_10.index t 2 = 0)

theorem emb10 (t : Fin cfg0.N) (b : Fin 8) (r : Fin 32) (l : Fin 2048) :
    ((cfg0.win 10).blk t).view.emb (ix3 b r l : S8x32x2048.Idx) = (ix3 (bt t b) r l : S16x32x2048.Idx) := by
  funext a; apply Fin.ext
  match a with
  | ⟨0, _⟩ => show win0_10.index t 0 * 8 + 1 * b.val = t.val * 8 + b.val; rw [(idx10 t).1]; omega
  | ⟨1, _⟩ => show win0_10.index t 1 * 32 + 1 * r.val = r.val; rw [(idx10 t).2.1]; omega
  | ⟨2, _⟩ => show win0_10.index t 2 * 2048 + 1 * l.val = l.val; rw [(idx10 t).2.2]; omega

theorem mem10 (t : Fin cfg0.N) (b : Fin 8) (r : Fin 32) (l : Fin 2048) :
    (ix3 (bt t b) r l : S16x32x2048.Idx) ∈ ((cfg0.win 10).blk t).view.set := by
  rw [← emb10]; exact View.emb_mem_set _ _

theorem idx11 : ∀ t : Fin cfg0.N, win0_11.index t 0 = t.val ∧ win0_11.index t 1 = 0 ∧ win0_11.index t 2 = 0 :=
  (by decide +kernel : ∀ t : Fin grid0.N, win0_11.index t 0 = t.val ∧ win0_11.index t 1 = 0 ∧ win0_11.index t 2 = 0)

theorem emb11 (t : Fin cfg0.N) (b : Fin 8) (r : Fin 32) (l : Fin 2048) :
    ((cfg0.win 11).blk t).view.emb (ix3 b r l : S8x32x2048.Idx) = (ix3 (bt t b) r l : S16x32x2048.Idx) := by
  funext a; apply Fin.ext
  match a with
  | ⟨0, _⟩ => show win0_11.index t 0 * 8 + 1 * b.val = t.val * 8 + b.val; rw [(idx11 t).1]; omega
  | ⟨1, _⟩ => show win0_11.index t 1 * 32 + 1 * r.val = r.val; rw [(idx11 t).2.1]; omega
  | ⟨2, _⟩ => show win0_11.index t 2 * 2048 + 1 * l.val = l.val; rw [(idx11 t).2.2]; omega

theorem mem11 (t : Fin cfg0.N) (b : Fin 8) (r : Fin 32) (l : Fin 2048) :
    (ix3 (bt t b) r l : S16x32x2048.Idx) ∈ ((cfg0.win 11).blk t).view.set := by
  rw [← emb11]; exact View.emb_mem_set _ _

theorem idx12 : ∀ t : Fin cfg0.N, win0_12.index t 0 = t.val ∧ win0_12.index t 1 = 0 ∧ win0_12.index t 2 = 0 :=
  (by decide +kernel : ∀ t : Fin grid0.N, win0_12.index t 0 = t.val ∧ win0_12.index t 1 = 0 ∧ win0_12.index t 2 = 0)

theorem emb12 (t : Fin cfg0.N) (b : Fin 8) (r : Fin 32) (l : Fin 512) :
    ((cfg0.win 12).blk t).view.emb (ix3 b r l : S8x32x512.Idx) = (ix3 (bt t b) r l : S16x32x512.Idx) := by
  funext a; apply Fin.ext
  match a with
  | ⟨0, _⟩ => show win0_12.index t 0 * 8 + 1 * b.val = t.val * 8 + b.val; rw [(idx12 t).1]; omega
  | ⟨1, _⟩ => show win0_12.index t 1 * 32 + 1 * r.val = r.val; rw [(idx12 t).2.1]; omega
  | ⟨2, _⟩ => show win0_12.index t 2 * 512 + 1 * l.val = l.val; rw [(idx12 t).2.2]; omega

theorem mem12 (t : Fin cfg0.N) (b : Fin 8) (r : Fin 32) (l : Fin 512) :
    (ix3 (bt t b) r l : S16x32x512.Idx) ∈ ((cfg0.win 12).blk t).view.set := by
  rw [← emb12]; exact View.emb_mem_set _ _

theorem idx13 : ∀ t : Fin cfg0.N, win0_13.index t 0 = t.val ∧ win0_13.index t 1 = 0 ∧ win0_13.index t 2 = 0 :=
  (by decide +kernel : ∀ t : Fin grid0.N, win0_13.index t 0 = t.val ∧ win0_13.index t 1 = 0 ∧ win0_13.index t 2 = 0)

theorem emb13 (t : Fin cfg0.N) (b : Fin 8) (r : Fin 32) (l : Fin 512) :
    ((cfg0.win 13).blk t).view.emb (ix3 b r l : S8x32x512.Idx) = (ix3 (bt t b) r l : S16x32x512.Idx) := by
  funext a; apply Fin.ext
  match a with
  | ⟨0, _⟩ => show win0_13.index t 0 * 8 + 1 * b.val = t.val * 8 + b.val; rw [(idx13 t).1]; omega
  | ⟨1, _⟩ => show win0_13.index t 1 * 32 + 1 * r.val = r.val; rw [(idx13 t).2.1]; omega
  | ⟨2, _⟩ => show win0_13.index t 2 * 512 + 1 * l.val = l.val; rw [(idx13 t).2.2]; omega

theorem mem13 (t : Fin cfg0.N) (b : Fin 8) (r : Fin 32) (l : Fin 512) :
    (ix3 (bt t b) r l : S16x32x512.Idx) ∈ ((cfg0.win 13).blk t).view.set := by
  rw [← emb13]; exact View.emb_mem_set _ _

theorem idx14 : ∀ t : Fin cfg0.N, win0_14.index t 0 = t.val ∧ win0_14.index t 1 = 0 ∧ win0_14.index t 2 = 0 :=
  (by decide +kernel : ∀ t : Fin grid0.N, win0_14.index t 0 = t.val ∧ win0_14.index t 1 = 0 ∧ win0_14.index t 2 = 0)

theorem emb14 (t : Fin cfg0.N) (b : Fin 8) (r : Fin 32) (l : Fin 512) :
    ((cfg0.win 14).blk t).view.emb (ix3 b r l : S8x32x512.Idx) = (ix3 (bt t b) r l : S16x32x512.Idx) := by
  funext a; apply Fin.ext
  match a with
  | ⟨0, _⟩ => show win0_14.index t 0 * 8 + 1 * b.val = t.val * 8 + b.val; rw [(idx14 t).1]; omega
  | ⟨1, _⟩ => show win0_14.index t 1 * 32 + 1 * r.val = r.val; rw [(idx14 t).2.1]; omega
  | ⟨2, _⟩ => show win0_14.index t 2 * 512 + 1 * l.val = l.val; rw [(idx14 t).2.2]; omega

theorem mem14 (t : Fin cfg0.N) (b : Fin 8) (r : Fin 32) (l : Fin 512) :
    (ix3 (bt t b) r l : S16x32x512.Idx) ∈ ((cfg0.win 14).blk t).view.set := by
  rw [← emb14]; exact View.emb_mem_set _ _

theorem idx15 : ∀ t : Fin cfg0.N, win0_15.index t 0 = t.val ∧ win0_15.index t 1 = 0 ∧ win0_15.index t 2 = 0 :=
  (by decide +kernel : ∀ t : Fin grid0.N, win0_15.index t 0 = t.val ∧ win0_15.index t 1 = 0 ∧ win0_15.index t 2 = 0)

theorem emb15 (t : Fin cfg0.N) (b : Fin 8) (r : Fin 32) (l : Fin 512) :
    ((cfg0.win 15).blk t).view.emb (ix3 b r l : S8x32x512.Idx) = (ix3 (bt t b) r l : S16x32x512.Idx) := by
  funext a; apply Fin.ext
  match a with
  | ⟨0, _⟩ => show win0_15.index t 0 * 8 + 1 * b.val = t.val * 8 + b.val; rw [(idx15 t).1]; omega
  | ⟨1, _⟩ => show win0_15.index t 1 * 32 + 1 * r.val = r.val; rw [(idx15 t).2.1]; omega
  | ⟨2, _⟩ => show win0_15.index t 2 * 512 + 1 * l.val = l.val; rw [(idx15 t).2.2]; omega

theorem mem15 (t : Fin cfg0.N) (b : Fin 8) (r : Fin 32) (l : Fin 512) :
    (ix3 (bt t b) r l : S16x32x512.Idx) ∈ ((cfg0.win 15).blk t).view.set := by
  rw [← emb15]; exact View.emb_mem_set _ _

theorem idx16 : ∀ t : Fin cfg0.N, win0_16.index t 0 = t.val ∧ win0_16.index t 1 = 0 ∧ win0_16.index t 2 = 0 :=
  (by decide +kernel : ∀ t : Fin grid0.N, win0_16.index t 0 = t.val ∧ win0_16.index t 1 = 0 ∧ win0_16.index t 2 = 0)

theorem emb16 (t : Fin cfg0.N) (b : Fin 8) (r : Fin 32) (l : Fin 512) :
    ((cfg0.win 16).blk t).view.emb (ix3 b r l : S8x32x512.Idx) = (ix3 (bt t b) r l : S16x32x512.Idx) := by
  funext a; apply Fin.ext
  match a with
  | ⟨0, _⟩ => show win0_16.index t 0 * 8 + 1 * b.val = t.val * 8 + b.val; rw [(idx16 t).1]; omega
  | ⟨1, _⟩ => show win0_16.index t 1 * 32 + 1 * r.val = r.val; rw [(idx16 t).2.1]; omega
  | ⟨2, _⟩ => show win0_16.index t 2 * 512 + 1 * l.val = l.val; rw [(idx16 t).2.2]; omega

theorem mem16 (t : Fin cfg0.N) (b : Fin 8) (r : Fin 32) (l : Fin 512) :
    (ix3 (bt t b) r l : S16x32x512.Idx) ∈ ((cfg0.win 16).blk t).view.set := by
  rw [← emb16]; exact View.emb_mem_set _ _

theorem idx17 : ∀ t : Fin cfg0.N, win0_17.index t 0 = t.val ∧ win0_17.index t 1 = 0 ∧ win0_17.index t 2 = 0 :=
  (by decide +kernel : ∀ t : Fin grid0.N, win0_17.index t 0 = t.val ∧ win0_17.index t 1 = 0 ∧ win0_17.index t 2 = 0)

theorem emb17 (t : Fin cfg0.N) (b : Fin 8) (r : Fin 32) (l : Fin 8) :
    ((cfg0.win 17).blk t).view.emb (ix3 b r l : S8x32x8.Idx) = (ix3 (bt t b) r l : S16x32x8.Idx) := by
  funext a; apply Fin.ext
  match a with
  | ⟨0, _⟩ => show win0_17.index t 0 * 8 + 1 * b.val = t.val * 8 + b.val; rw [(idx17 t).1]; omega
  | ⟨1, _⟩ => show win0_17.index t 1 * 32 + 1 * r.val = r.val; rw [(idx17 t).2.1]; omega
  | ⟨2, _⟩ => show win0_17.index t 2 * 8 + 1 * l.val = l.val; rw [(idx17 t).2.2]; omega

theorem mem17 (t : Fin cfg0.N) (b : Fin 8) (r : Fin 32) (l : Fin 8) :
    (ix3 (bt t b) r l : S16x32x8.Idx) ∈ ((cfg0.win 17).blk t).view.set := by
  rw [← emb17]; exact View.emb_mem_set _ _

theorem idx18 : ∀ t : Fin cfg0.N, win0_18.index t 0 = t.val ∧ win0_18.index t 1 = 0 ∧ win0_18.index t 2 = 0 :=
  (by decide +kernel : ∀ t : Fin grid0.N, win0_18.index t 0 = t.val ∧ win0_18.index t 1 = 0 ∧ win0_18.index t 2 = 0)

theorem emb18 (t : Fin cfg0.N) (b : Fin 8) (l : Fin 8) (r : Fin 32) :
    ((cfg0.win 18).blk t).view.emb (ix3 b l r : S8x8x32.Idx) = (ix3 (bt t b) l r : S16x8x32.Idx) := by
  funext a; apply Fin.ext
  match a with
  | ⟨0, _⟩ => show win0_18.index t 0 * 8 + 1 * b.val = t.val * 8 + b.val; rw [(idx18 t).1]; omega
  | ⟨1, _⟩ => show win0_18.index t 1 * 8 + 1 * l.val = l.val; rw [(idx18 t).2.1]; omega
  | ⟨2, _⟩ => show win0_18.index t 2 * 32 + 1 * r.val = r.val; rw [(idx18 t).2.2]; omega

theorem mem18 (t : Fin cfg0.N) (b : Fin 8) (l : Fin 8) (r : Fin 32) :
    (ix3 (bt t b) l r : S16x8x32.Idx) ∈ ((cfg0.win 18).blk t).view.set := by
  rw [← emb18]; exact View.emb_mem_set _ _

/-! ## The result arrays -/

/-- The normed and modulated row `r` of batch `b`. -/
def H (b : Fin 16) (r : Fin 32) : Fin 1024 → EReal :=
  hid (fun k => m ((c : Thread nD τ).loc main_arg0) (ix3 b r k)) (fun k => m ((c : Thread nD τ).loc main_arg3) (ix2 0 k)) (fun k => m ((c : Thread nD τ).loc main_arg1) (ix3 b 0 k))
    (fun k => m ((c : Thread nD τ).loc main_arg2) (ix3 b 0 k))

/-- Row `r`'s product with the weight's column `j`. -/
def P (b : Fin 16) (r : Fin 32) (j : Nat) (hj : j < 5640) : EReal :=
  lin (H m c b r) (fun k => m ((c : Thread nD τ).loc main_arg4) (ix2 k ⟨j, hj⟩))

/-- Row `r`'s normed heads, whose columns start at `off`, at element `l` of the 512. -/
def Q (off : Nat) (hoff : off ≤ 5128) (g : Fin 128 → EReal) (b : Fin 16) (r : Fin 32) (l : Fin 512) : EReal :=
  head (fun j => P m c b r (off + (l.val / 128 * 128 + j.val)) (by have := l.isLt; have := j.isLt; omega)) g
    ⟨l.val % 128, Nat.mod_lt _ (by decide)⟩

theorem Q_eq (off : Nat) (hoff : off ≤ 5128) (g : Fin 128 → EReal) (b : Fin 16) (r : Fin 32) (l : Fin 512) :
    Q m c off hoff g b r l = P m c b r (off + l.val) (by have := l.isLt; omega)
      * Ideal.rsqrt (Ideal.div (∑ j : Fin 128, P m c b r (off + (l.val / 128 * 128 + j.val)) (by have := l.isLt; have := j.isLt; omega)
          * P m c b r (off + (l.val / 128 * 128 + j.val)) (by have := l.isLt; have := j.isLt; omega))
        (Ideal.ofBits .f32 0x43000000#32) + Ideal.ofBits .f32 0x358637BD#32)
      * g ⟨l.val % 128, Nat.mod_lt _ (by decide)⟩ := by
  have e : l.val / 128 * 128 + l.val % 128 = l.val := by omega
  unfold Q head
  simp only [e]

theorem hrow_blk (t : Fin cfg0.N) (b : Fin 8) (r : Fin 32) :
    hrow (iblk m c 0 t) (iblk m c 1 t) (iblk m c 2 t) (iblk m c 3 t) b r = H m c (bt t b) r := by
  unfold hrow H
  simp only [blk0, blk1, blk2, blk3]

def G9 (i : S16x32x1024.Idx) : EReal := H m c (i 0) (i 1) (i 2)

theorem flushed_eq9 (t : Fin cfg0.N) :
    (dats m 0 c).flushed 9 t = ((cfg0.win 9).blk t).view.read (Elt Ideal) (G9 m c) := by
  rw [Value.flushed9]
  show out0_9 _ _ _ _ _ _ _ _ _ = _
  funext y
  obtain ⟨b, r, l, rfl⟩ : ∃ (b : Fin 8) (r : Fin 32) (l : Fin 1024), y = (ix3 b r l : S8x32x1024.Idx) :=
    ⟨y 0, y 1, y 2, by funext a; match a with | ⟨0, _⟩ => rfl | ⟨1, _⟩ => rfl | ⟨2, _⟩ => rfl⟩
  rw [View.read_apply, emb9]
  rw [out9_at, hrow_blk]; rfl

/-- Every index of the array is in some point's block. -/
theorem cover9 (i : S16x32x1024.Idx) :
    ∃ t : Fin cfg0.N, (cfg0.win 9).flush t = true ∧ i ∈ ((cfg0.win 9).blk t).view.set := by
  have h0 : (i 0 : Nat) < 16 := (i 0).isLt
  have hN : cfg0.N = 2 := N_0
  obtain ⟨t, ht⟩ : ∃ t : Fin cfg0.N, t.val = (i 0 : Nat) / 8 := ⟨⟨_, by omega⟩, rfl⟩
  refine ⟨t, flush0_9 _, ?_⟩
  have e : (ix3 (bt t ⟨(i 0 : Nat) % 8, by omega⟩) (i 1) (i 2) : S16x32x1024.Idx) = i := by
    funext a; apply Fin.ext
    match a with
    | ⟨0, _⟩ => show t.val * 8 + (i 0 : Nat) % 8 = (i 0 : Nat); omega
    | ⟨1, _⟩ => rfl
    | ⟨2, _⟩ => rfl
  have h := mem9 t ⟨(i 0 : Nat) % 8, by omega⟩ (i 1) (i 2)
  rw [e] at h
  exact h

theorem final9 : (dats m 0 c).arrAt 9 cfg0.N = G9 m c :=
  (dats m 0 c).arrAt_eq_of_cover 9 (G9 m c) (fun t _ => flushed_eq9 m c t) cover9

def G10 (i : S16x32x2048.Idx) : EReal := P m c (i 0) (i 1) (i 2) (by have h : (i 2 : Nat) < 2048 := (i 2).isLt; omega)

theorem flushed_eq10 (t : Fin cfg0.N) :
    (dats m 0 c).flushed 10 t = ((cfg0.win 10).blk t).view.read (Elt Ideal) (G10 m c) := by
  rw [Value.flushed10]
  show out0_10 _ _ _ _ _ _ _ _ _ = _
  funext y
  obtain ⟨b, r, l, rfl⟩ : ∃ (b : Fin 8) (r : Fin 32) (l : Fin 2048), y = (ix3 b r l : S8x32x2048.Idx) :=
    ⟨y 0, y 1, y 2, by funext a; match a with | ⟨0, _⟩ => rfl | ⟨1, _⟩ => rfl | ⟨2, _⟩ => rfl⟩
  rw [View.read_apply, emb10]
  rw [out10_at, hrow_blk]; simp only [blk4]
  show _ = P m c (bt t b) r l.val (by have := l.isLt; omega)
  refine lin_congr _ fun k => ?_
  rw [wc_lo l.isLt rfl]

/-- Every index of the array is in some point's block. -/
theorem cover10 (i : S16x32x2048.Idx) :
    ∃ t : Fin cfg0.N, (cfg0.win 10).flush t = true ∧ i ∈ ((cfg0.win 10).blk t).view.set := by
  have h0 : (i 0 : Nat) < 16 := (i 0).isLt
  have hN : cfg0.N = 2 := N_0
  obtain ⟨t, ht⟩ : ∃ t : Fin cfg0.N, t.val = (i 0 : Nat) / 8 := ⟨⟨_, by omega⟩, rfl⟩
  refine ⟨t, flush0_10 _, ?_⟩
  have e : (ix3 (bt t ⟨(i 0 : Nat) % 8, by omega⟩) (i 1) (i 2) : S16x32x2048.Idx) = i := by
    funext a; apply Fin.ext
    match a with
    | ⟨0, _⟩ => show t.val * 8 + (i 0 : Nat) % 8 = (i 0 : Nat); omega
    | ⟨1, _⟩ => rfl
    | ⟨2, _⟩ => rfl
  have h := mem10 t ⟨(i 0 : Nat) % 8, by omega⟩ (i 1) (i 2)
  rw [e] at h
  exact h

theorem final10 : (dats m 0 c).arrAt 10 cfg0.N = G10 m c :=
  (dats m 0 c).arrAt_eq_of_cover 10 (G10 m c) (fun t _ => flushed_eq10 m c t) cover10

def G11 (i : S16x32x2048.Idx) : EReal := P m c (i 0) (i 1) (3592 + (i 2 : Nat)) (by have h : (i 2 : Nat) < 2048 := (i 2).isLt; omega)

theorem flushed_eq11 (t : Fin cfg0.N) :
    (dats m 0 c).flushed 11 t = ((cfg0.win 11).blk t).view.read (Elt Ideal) (G11 m c) := by
  rw [Value.flushed11]
  show out0_11 _ _ _ _ _ _ _ _ _ = _
  funext y
  obtain ⟨b, r, l, rfl⟩ : ∃ (b : Fin 8) (r : Fin 32) (l : Fin 2048), y = (ix3 b r l : S8x32x2048.Idx) :=
    ⟨y 0, y 1, y 2, by funext a; match a with | ⟨0, _⟩ => rfl | ⟨1, _⟩ => rfl | ⟨2, _⟩ => rfl⟩
  rw [View.read_apply, emb11]
  rw [out11_at, hrow_blk]; simp only [blk4]
  show _ = P m c (bt t b) r (3592 + l.val) (by have := l.isLt; omega)
  refine lin_congr _ fun k => ?_
  rw [wc_hi (n := 3592 + l.val) (hn := by have := l.isLt; omega) (by show 2048 ≤ 3584 + l.val; omega) (by show _ = 3584 + l.val + 8; omega)]

/-- Every index of the array is in some point's block. -/
theorem cover11 (i : S16x32x2048.Idx) :
    ∃ t : Fin cfg0.N, (cfg0.win 11).flush t = true ∧ i ∈ ((cfg0.win 11).blk t).view.set := by
  have h0 : (i 0 : Nat) < 16 := (i 0).isLt
  have hN : cfg0.N = 2 := N_0
  obtain ⟨t, ht⟩ : ∃ t : Fin cfg0.N, t.val = (i 0 : Nat) / 8 := ⟨⟨_, by omega⟩, rfl⟩
  refine ⟨t, flush0_11 _, ?_⟩
  have e : (ix3 (bt t ⟨(i 0 : Nat) % 8, by omega⟩) (i 1) (i 2) : S16x32x2048.Idx) = i := by
    funext a; apply Fin.ext
    match a with
    | ⟨0, _⟩ => show t.val * 8 + (i 0 : Nat) % 8 = (i 0 : Nat); omega
    | ⟨1, _⟩ => rfl
    | ⟨2, _⟩ => rfl
  have h := mem11 t ⟨(i 0 : Nat) % 8, by omega⟩ (i 1) (i 2)
  rw [e] at h
  exact h

theorem final11 : (dats m 0 c).arrAt 11 cfg0.N = G11 m c :=
  (dats m 0 c).arrAt_eq_of_cover 11 (G11 m c) (fun t _ => flushed_eq11 m c t) cover11

def G12 (i : S16x32x512.Idx) : EReal := Q m c 2056 (by decide) (fun j => m ((c : Thread nD τ).loc main_arg5) (ix1 j)) (i 0) (i 1) (i 2)

theorem flushed_eq12 (t : Fin cfg0.N) :
    (dats m 0 c).flushed 12 t = ((cfg0.win 12).blk t).view.read (Elt Ideal) (G12 m c) := by
  rw [Value.flushed12]
  show out0_12 _ _ _ _ _ _ _ _ _ = _
  funext y
  obtain ⟨b, r, l, rfl⟩ : ∃ (b : Fin 8) (r : Fin 32) (l : Fin 512), y = (ix3 b r l : S8x32x512.Idx) :=
    ⟨y 0, y 1, y 2, by funext a; match a with | ⟨0, _⟩ => rfl | ⟨1, _⟩ => rfl | ⟨2, _⟩ => rfl⟩
  rw [View.read_apply, emb12]
  rw [out12_ix, hrow_blk]; simp only [blk4, blk7]
  show _ = Q m c 2056 (by decide) (fun j => m ((c : Thread nD τ).loc main_arg5) (ix1 j)) (bt t b) r l
  refine head_congr _ _ fun j => lin_congr _ fun k => ?_
  rw [wc_hi (n := 2056 + (l.val / 128 * 128 + j.val)) (hn := by have := l.isLt; have := j.isLt; omega)
    (by show 2048 ≤ 2048 + l.val / 128 * 128 + j.val; omega) (by show _ = 2048 + l.val / 128 * 128 + j.val + 8; omega)]

/-- Every index of the array is in some point's block. -/
theorem cover12 (i : S16x32x512.Idx) :
    ∃ t : Fin cfg0.N, (cfg0.win 12).flush t = true ∧ i ∈ ((cfg0.win 12).blk t).view.set := by
  have h0 : (i 0 : Nat) < 16 := (i 0).isLt
  have hN : cfg0.N = 2 := N_0
  obtain ⟨t, ht⟩ : ∃ t : Fin cfg0.N, t.val = (i 0 : Nat) / 8 := ⟨⟨_, by omega⟩, rfl⟩
  refine ⟨t, flush0_12 _, ?_⟩
  have e : (ix3 (bt t ⟨(i 0 : Nat) % 8, by omega⟩) (i 1) (i 2) : S16x32x512.Idx) = i := by
    funext a; apply Fin.ext
    match a with
    | ⟨0, _⟩ => show t.val * 8 + (i 0 : Nat) % 8 = (i 0 : Nat); omega
    | ⟨1, _⟩ => rfl
    | ⟨2, _⟩ => rfl
  have h := mem12 t ⟨(i 0 : Nat) % 8, by omega⟩ (i 1) (i 2)
  rw [e] at h
  exact h

theorem final12 : (dats m 0 c).arrAt 12 cfg0.N = G12 m c :=
  (dats m 0 c).arrAt_eq_of_cover 12 (G12 m c) (fun t _ => flushed_eq12 m c t) cover12

def G13 (i : S16x32x512.Idx) : EReal := Q m c 2568 (by decide) (fun j => m ((c : Thread nD τ).loc main_arg6) (ix1 j)) (i 0) (i 1) (i 2)

theorem flushed_eq13 (t : Fin cfg0.N) :
    (dats m 0 c).flushed 13 t = ((cfg0.win 13).blk t).view.read (Elt Ideal) (G13 m c) := by
  rw [Value.flushed13]
  show out0_13 _ _ _ _ _ _ _ _ _ = _
  funext y
  obtain ⟨b, r, l, rfl⟩ : ∃ (b : Fin 8) (r : Fin 32) (l : Fin 512), y = (ix3 b r l : S8x32x512.Idx) :=
    ⟨y 0, y 1, y 2, by funext a; match a with | ⟨0, _⟩ => rfl | ⟨1, _⟩ => rfl | ⟨2, _⟩ => rfl⟩
  rw [View.read_apply, emb13]
  rw [out13_ix, hrow_blk]; simp only [blk4, blk8]
  show _ = Q m c 2568 (by decide) (fun j => m ((c : Thread nD τ).loc main_arg6) (ix1 j)) (bt t b) r l
  refine head_congr _ _ fun j => lin_congr _ fun k => ?_
  rw [wc_hi (n := 2568 + (l.val / 128 * 128 + j.val)) (hn := by have := l.isLt; have := j.isLt; omega)
    (by show 2048 ≤ 2560 + l.val / 128 * 128 + j.val; omega) (by show _ = 2560 + l.val / 128 * 128 + j.val + 8; omega)]

/-- Every index of the array is in some point's block. -/
theorem cover13 (i : S16x32x512.Idx) :
    ∃ t : Fin cfg0.N, (cfg0.win 13).flush t = true ∧ i ∈ ((cfg0.win 13).blk t).view.set := by
  have h0 : (i 0 : Nat) < 16 := (i 0).isLt
  have hN : cfg0.N = 2 := N_0
  obtain ⟨t, ht⟩ : ∃ t : Fin cfg0.N, t.val = (i 0 : Nat) / 8 := ⟨⟨_, by omega⟩, rfl⟩
  refine ⟨t, flush0_13 _, ?_⟩
  have e : (ix3 (bt t ⟨(i 0 : Nat) % 8, by omega⟩) (i 1) (i 2) : S16x32x512.Idx) = i := by
    funext a; apply Fin.ext
    match a with
    | ⟨0, _⟩ => show t.val * 8 + (i 0 : Nat) % 8 = (i 0 : Nat); omega
    | ⟨1, _⟩ => rfl
    | ⟨2, _⟩ => rfl
  have h := mem13 t ⟨(i 0 : Nat) % 8, by omega⟩ (i 1) (i 2)
  rw [e] at h
  exact h

theorem final13 : (dats m 0 c).arrAt 13 cfg0.N = G13 m c :=
  (dats m 0 c).arrAt_eq_of_cover 13 (G13 m c) (fun t _ => flushed_eq13 m c t) cover13

def G14 (i : S16x32x512.Idx) : EReal := P m c (i 0) (i 1) (3080 + (i 2 : Nat)) (by have h : (i 2 : Nat) < 512 := (i 2).isLt; omega)

theorem flushed_eq14 (t : Fin cfg0.N) :
    (dats m 0 c).flushed 14 t = ((cfg0.win 14).blk t).view.read (Elt Ideal) (G14 m c) := by
  rw [Value.flushed14]
  show out0_14 _ _ _ _ _ _ _ _ _ = _
  funext y
  obtain ⟨b, r, l, rfl⟩ : ∃ (b : Fin 8) (r : Fin 32) (l : Fin 512), y = (ix3 b r l : S8x32x512.Idx) :=
    ⟨y 0, y 1, y 2, by funext a; match a with | ⟨0, _⟩ => rfl | ⟨1, _⟩ => rfl | ⟨2, _⟩ => rfl⟩
  rw [View.read_apply, emb14]
  rw [out14_at, hrow_blk]; simp only [blk4]
  show _ = P m c (bt t b) r (3080 + l.val) (by have := l.isLt; omega)
  refine lin_congr _ fun k => ?_
  rw [wc_hi (n := 3080 + l.val) (hn := by have := l.isLt; omega) (by show 2048 ≤ 3072 + l.val; omega) (by show _ = 3072 + l.val + 8; omega)]

/-- Every index of the array is in some point's block. -/
theorem cover14 (i : S16x32x512.Idx) :
    ∃ t : Fin cfg0.N, (cfg0.win 14).flush t = true ∧ i ∈ ((cfg0.win 14).blk t).view.set := by
  have h0 : (i 0 : Nat) < 16 := (i 0).isLt
  have hN : cfg0.N = 2 := N_0
  obtain ⟨t, ht⟩ : ∃ t : Fin cfg0.N, t.val = (i 0 : Nat) / 8 := ⟨⟨_, by omega⟩, rfl⟩
  refine ⟨t, flush0_14 _, ?_⟩
  have e : (ix3 (bt t ⟨(i 0 : Nat) % 8, by omega⟩) (i 1) (i 2) : S16x32x512.Idx) = i := by
    funext a; apply Fin.ext
    match a with
    | ⟨0, _⟩ => show t.val * 8 + (i 0 : Nat) % 8 = (i 0 : Nat); omega
    | ⟨1, _⟩ => rfl
    | ⟨2, _⟩ => rfl
  have h := mem14 t ⟨(i 0 : Nat) % 8, by omega⟩ (i 1) (i 2)
  rw [e] at h
  exact h

theorem final14 : (dats m 0 c).arrAt 14 cfg0.N = G14 m c :=
  (dats m 0 c).arrAt_eq_of_cover 14 (G14 m c) (fun t _ => flushed_eq14 m c t) cover14

theorem flushed_eq15 (t : Fin cfg0.N) :
    (dats m 0 c).flushed 15 t = ((cfg0.win 15).blk t).view.read (Elt Ideal) (G13 m c) := by
  rw [Value.flushed15]
  show out0_15 _ _ _ _ _ _ _ _ _ = _
  funext y
  obtain ⟨b, r, l, rfl⟩ : ∃ (b : Fin 8) (r : Fin 32) (l : Fin 512), y = (ix3 b r l : S8x32x512.Idx) :=
    ⟨y 0, y 1, y 2, by funext a; match a with | ⟨0, _⟩ => rfl | ⟨1, _⟩ => rfl | ⟨2, _⟩ => rfl⟩
  rw [View.read_apply, emb15]
  rw [out15_ix, hrow_blk]; simp only [blk4, blk8]
  show _ = Q m c 2568 (by decide) (fun j => m ((c : Thread nD τ).loc main_arg6) (ix1 j)) (bt t b) r l
  refine head_congr _ _ fun j => lin_congr _ fun k => ?_
  rw [wc_hi (n := 2568 + (l.val / 128 * 128 + j.val)) (hn := by have := l.isLt; have := j.isLt; omega)
    (by show 2048 ≤ 2560 + l.val / 128 * 128 + j.val; omega) (by show _ = 2560 + l.val / 128 * 128 + j.val + 8; omega)]

/-- Every index of the array is in some point's block. -/
theorem cover15 (i : S16x32x512.Idx) :
    ∃ t : Fin cfg0.N, (cfg0.win 15).flush t = true ∧ i ∈ ((cfg0.win 15).blk t).view.set := by
  have h0 : (i 0 : Nat) < 16 := (i 0).isLt
  have hN : cfg0.N = 2 := N_0
  obtain ⟨t, ht⟩ : ∃ t : Fin cfg0.N, t.val = (i 0 : Nat) / 8 := ⟨⟨_, by omega⟩, rfl⟩
  refine ⟨t, flush0_15 _, ?_⟩
  have e : (ix3 (bt t ⟨(i 0 : Nat) % 8, by omega⟩) (i 1) (i 2) : S16x32x512.Idx) = i := by
    funext a; apply Fin.ext
    match a with
    | ⟨0, _⟩ => show t.val * 8 + (i 0 : Nat) % 8 = (i 0 : Nat); omega
    | ⟨1, _⟩ => rfl
    | ⟨2, _⟩ => rfl
  have h := mem15 t ⟨(i 0 : Nat) % 8, by omega⟩ (i 1) (i 2)
  rw [e] at h
  exact h

theorem final15 : (dats m 0 c).arrAt 15 cfg0.N = G13 m c :=
  (dats m 0 c).arrAt_eq_of_cover 15 (G13 m c) (fun t _ => flushed_eq15 m c t) cover15

theorem flushed_eq16 (t : Fin cfg0.N) :
    (dats m 0 c).flushed 16 t = ((cfg0.win 16).blk t).view.read (Elt Ideal) (G14 m c) := by
  rw [Value.flushed16]
  show out0_16 _ _ _ _ _ _ _ _ _ = _
  funext y
  obtain ⟨b, r, l, rfl⟩ : ∃ (b : Fin 8) (r : Fin 32) (l : Fin 512), y = (ix3 b r l : S8x32x512.Idx) :=
    ⟨y 0, y 1, y 2, by funext a; match a with | ⟨0, _⟩ => rfl | ⟨1, _⟩ => rfl | ⟨2, _⟩ => rfl⟩
  rw [View.read_apply, emb16]
  rw [out16_at, hrow_blk]; simp only [blk4]
  show _ = P m c (bt t b) r (3080 + l.val) (by have := l.isLt; omega)
  refine lin_congr _ fun k => ?_
  rw [wc_hi (n := 3080 + l.val) (hn := by have := l.isLt; omega) (by show 2048 ≤ 3072 + l.val; omega) (by show _ = 3072 + l.val + 8; omega)]

/-- Every index of the array is in some point's block. -/
theorem cover16 (i : S16x32x512.Idx) :
    ∃ t : Fin cfg0.N, (cfg0.win 16).flush t = true ∧ i ∈ ((cfg0.win 16).blk t).view.set := by
  have h0 : (i 0 : Nat) < 16 := (i 0).isLt
  have hN : cfg0.N = 2 := N_0
  obtain ⟨t, ht⟩ : ∃ t : Fin cfg0.N, t.val = (i 0 : Nat) / 8 := ⟨⟨_, by omega⟩, rfl⟩
  refine ⟨t, flush0_16 _, ?_⟩
  have e : (ix3 (bt t ⟨(i 0 : Nat) % 8, by omega⟩) (i 1) (i 2) : S16x32x512.Idx) = i := by
    funext a; apply Fin.ext
    match a with
    | ⟨0, _⟩ => show t.val * 8 + (i 0 : Nat) % 8 = (i 0 : Nat); omega
    | ⟨1, _⟩ => rfl
    | ⟨2, _⟩ => rfl
  have h := mem16 t ⟨(i 0 : Nat) % 8, by omega⟩ (i 1) (i 2)
  rw [e] at h
  exact h

theorem final16 : (dats m 0 c).arrAt 16 cfg0.N = G14 m c :=
  (dats m 0 c).arrAt_eq_of_cover 16 (G14 m c) (fun t _ => flushed_eq16 m c t) cover16

def G17 (i : S16x32x8.Idx) : EReal := P m c (i 0) (i 1) (2048 + (i 2 : Nat)) (by have h : (i 2 : Nat) < 8 := (i 2).isLt; omega)

theorem flushed_eq17 (t : Fin cfg0.N) :
    (dats m 0 c).flushed 17 t = ((cfg0.win 17).blk t).view.read (Elt Ideal) (G17 m c) := by
  rw [Value.flushed17]
  show out0_17 _ _ _ _ _ _ _ _ _ = _
  funext y
  obtain ⟨b, r, l, rfl⟩ : ∃ (b : Fin 8) (r : Fin 32) (l : Fin 8), y = (ix3 b r l : S8x32x8.Idx) :=
    ⟨y 0, y 1, y 2, by funext a; match a with | ⟨0, _⟩ => rfl | ⟨1, _⟩ => rfl | ⟨2, _⟩ => rfl⟩
  rw [View.read_apply, emb17]
  rw [out17_at, hrow_blk]; simp only [blk5]; rfl

/-- Every index of the array is in some point's block. -/
theorem cover17 (i : S16x32x8.Idx) :
    ∃ t : Fin cfg0.N, (cfg0.win 17).flush t = true ∧ i ∈ ((cfg0.win 17).blk t).view.set := by
  have h0 : (i 0 : Nat) < 16 := (i 0).isLt
  have hN : cfg0.N = 2 := N_0
  obtain ⟨t, ht⟩ : ∃ t : Fin cfg0.N, t.val = (i 0 : Nat) / 8 := ⟨⟨_, by omega⟩, rfl⟩
  refine ⟨t, flush0_17 _, ?_⟩
  have e : (ix3 (bt t ⟨(i 0 : Nat) % 8, by omega⟩) (i 1) (i 2) : S16x32x8.Idx) = i := by
    funext a; apply Fin.ext
    match a with
    | ⟨0, _⟩ => show t.val * 8 + (i 0 : Nat) % 8 = (i 0 : Nat); omega
    | ⟨1, _⟩ => rfl
    | ⟨2, _⟩ => rfl
  have h := mem17 t ⟨(i 0 : Nat) % 8, by omega⟩ (i 1) (i 2)
  rw [e] at h
  exact h

theorem final17 : (dats m 0 c).arrAt 17 cfg0.N = G17 m c :=
  (dats m 0 c).arrAt_eq_of_cover 17 (G17 m c) (fun t _ => flushed_eq17 m c t) cover17

def G18 (i : S16x8x32.Idx) : EReal := P m c (i 0) (i 2) (2048 + (i 1 : Nat)) (by have h : (i 1 : Nat) < 8 := (i 1).isLt; omega)

theorem flushed_eq18 (t : Fin cfg0.N) :
    (dats m 0 c).flushed 18 t = ((cfg0.win 18).blk t).view.read (Elt Ideal) (G18 m c) := by
  rw [Value.flushed18]
  show out0_18 _ _ _ _ _ _ _ _ _ = _
  funext y
  obtain ⟨b, l, r, rfl⟩ : ∃ (b : Fin 8) (l : Fin 8) (r : Fin 32), y = (ix3 b l r : S8x8x32.Idx) :=
    ⟨y 0, y 1, y 2, by funext a; match a with | ⟨0, _⟩ => rfl | ⟨1, _⟩ => rfl | ⟨2, _⟩ => rfl⟩
  rw [View.read_apply, emb18]
  rw [out18_at, hrow_blk]; simp only [blk6]; rfl

/-- Every index of the array is in some point's block. -/
theorem cover18 (i : S16x8x32.Idx) :
    ∃ t : Fin cfg0.N, (cfg0.win 18).flush t = true ∧ i ∈ ((cfg0.win 18).blk t).view.set := by
  have h0 : (i 0 : Nat) < 16 := (i 0).isLt
  have hN : cfg0.N = 2 := N_0
  obtain ⟨t, ht⟩ : ∃ t : Fin cfg0.N, t.val = (i 0 : Nat) / 8 := ⟨⟨_, by omega⟩, rfl⟩
  refine ⟨t, flush0_18 _, ?_⟩
  have e : (ix3 (bt t ⟨(i 0 : Nat) % 8, by omega⟩) (i 1) (i 2) : S16x8x32.Idx) = i := by
    funext a; apply Fin.ext
    match a with
    | ⟨0, _⟩ => show t.val * 8 + (i 0 : Nat) % 8 = (i 0 : Nat); omega
    | ⟨1, _⟩ => rfl
    | ⟨2, _⟩ => rfl
  have h := mem18 t ⟨(i 0 : Nat) % 8, by omega⟩ (i 1) (i 2)
  rw [e] at h
  exact h

theorem final18 : (dats m 0 c).arrAt 18 cfg0.N = G18 m c :=
  (dats m 0 c).arrAt_eq_of_cover 18 (G18 m c) (fun t _ => flushed_eq18 m c t) cover18

end Cert.Kernel8Ideal.Proj

namespace Cert.Proof.ProjSample

open Cert.Ffn Cert.Proj

theorem preserves : Cert.preserves_Kernel8_Kernel8Ideal := trivial
theorem frame_k : Cert.quiescent_Kernel8 := fun m ρ _ => Cert.Kernel8.Gen.frame m ρ
theorem frame_ki : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2.2.2.2.2.2.2.2.2.2,
      Idealize.ShloMosaic.sem_eq_zero_of_no_sems (by decide) r.2⟩)
    (Cert.Reference8Ideal.Value.run (F := Ideal) m ρ)

set_option maxHeartbeats 4000000 in
theorem algebraic : Cert.algebraic_Kernel8Ideal_Reference8Ideal := by
  intro m ρ m' ρ' _ hagree
  refine ⟨fun c => Cert.Kernel8Ideal.Proj.G9 m c, fun c => Cert.Kernel8Ideal.Proj.G10 m c, fun c => Cert.Kernel8Ideal.Proj.G11 m c, fun c => Cert.Kernel8Ideal.Proj.G12 m c, fun c => Cert.Kernel8Ideal.Proj.G13 m c, fun c => Cert.Kernel8Ideal.Proj.G14 m c, fun c => Cert.Kernel8Ideal.Proj.G13 m c, fun c => Cert.Kernel8Ideal.Proj.G14 m c, fun c => Cert.Kernel8Ideal.Proj.G17 m c, fun c => Cert.Kernel8Ideal.Proj.G18 m c, ?_, ?_⟩
  · exact (θ_run Cert.Kernel8Ideal.defs _ _).mono
      (fun _ h c => ⟨(h c).1.trans (Cert.Kernel8Ideal.Proj.final9 m c),
        (h c).2.1.trans (Cert.Kernel8Ideal.Proj.final10 m c),
        (h c).2.2.1.trans (Cert.Kernel8Ideal.Proj.final11 m c),
        (h c).2.2.2.1.trans (Cert.Kernel8Ideal.Proj.final12 m c),
        (h c).2.2.2.2.1.trans (Cert.Kernel8Ideal.Proj.final13 m c),
        (h c).2.2.2.2.2.1.trans (Cert.Kernel8Ideal.Proj.final14 m c),
        (h c).2.2.2.2.2.2.1.trans (Cert.Kernel8Ideal.Proj.final15 m c),
        (h c).2.2.2.2.2.2.2.1.trans (Cert.Kernel8Ideal.Proj.final16 m c),
        (h c).2.2.2.2.2.2.2.2.1.trans (Cert.Kernel8Ideal.Proj.final17 m c),
        (h c).2.2.2.2.2.2.2.2.2.1.trans (Cert.Kernel8Ideal.Proj.final18 m c),
        (h c).2.2.2.2.2.2.2.2.2.2⟩) (Cert.Kernel8Ideal.Value.run_blocks (F := Ideal) m ρ)
  · refine (θ_run Cert.Reference8Ideal.defs _ _).mono (fun _ h c => ?_) (Cert.Reference8Ideal.Value.run (F := Ideal) m' ρ')
    obtain ⟨a0, a1, a2, a3, a4, a5, a6⟩ := hagree c
    have e4 : ∀ (b : Fin 16) (r : Fin 32) (l : Fin 512), (Cert.Reference8Ideal.Value.res_main_v52 (F := Ideal) m' c :
        Cert.Reference8Ideal.S16x32x512.Idx → EReal) (ix3 b r l) = Cert.Kernel8Ideal.Proj.G13 m c (ix3 b r l) := by
      intro b r l
      unfold Cert.Reference8Ideal.Value.res_main_v52
      rw [a0, a1, a2, a3, a4, a6]
      pointwise
      exact (Cert.Kernel8Ideal.Proj.Q_eq m c 2568 (by decide) (fun j => m ((c : Thread Cert.Kernel8Ideal.nD Cert.Kernel8Ideal.τ).loc
        Cert.Kernel8Ideal.main_arg6) (ix1 j)) b r l).symm
    obtain ⟨h0, h1, h2, h3, h4, h5, h6, h7, h8, h9, hk⟩ := h c
    refine ⟨h0.trans ?_, h1.trans ?_, h2.trans ?_, h3.trans ?_, h4.trans ?_, h5.trans ?_, h6.trans ?_, h7.trans ?_, h8.trans ?_, h9.trans ?_, hk⟩
    · funext i
      obtain ⟨b, r, l, rfl⟩ : ∃ (b : Fin 16) (r : Fin 32) (l : Fin 1024), i = ix3 b r l :=
        ⟨i 0, i 1, i 2, by funext a; match a with | ⟨0, _⟩ => rfl | ⟨1, _⟩ => rfl | ⟨2, _⟩ => rfl⟩
      rw [a0, a1, a2, a3]
      pointwise
      rfl
    · funext i
      obtain ⟨b, r, l, rfl⟩ : ∃ (b : Fin 16) (r : Fin 32) (l : Fin 2048), i = ix3 b r l :=
        ⟨i 0, i 1, i 2, by funext a; match a with | ⟨0, _⟩ => rfl | ⟨1, _⟩ => rfl | ⟨2, _⟩ => rfl⟩
      rw [a0, a1, a2, a3, a4]
      pointwise
      rfl
    · funext i
      obtain ⟨b, r, l, rfl⟩ : ∃ (b : Fin 16) (r : Fin 32) (l : Fin 2048), i = ix3 b r l :=
        ⟨i 0, i 1, i 2, by funext a; match a with | ⟨0, _⟩ => rfl | ⟨1, _⟩ => rfl | ⟨2, _⟩ => rfl⟩
      rw [a0, a1, a2, a3, a4]
      pointwise
      rfl
    · funext i
      obtain ⟨b, r, l, rfl⟩ : ∃ (b : Fin 16) (r : Fin 32) (l : Fin 512), i = ix3 b r l :=
        ⟨i 0, i 1, i 2, by funext a; match a with | ⟨0, _⟩ => rfl | ⟨1, _⟩ => rfl | ⟨2, _⟩ => rfl⟩
      unfold Cert.Reference8Ideal.Value.res_main_v58
      rw [a0, a1, a2, a3, a4, a5]
      pointwise
      exact (Cert.Kernel8Ideal.Proj.Q_eq m c 2056 (by decide) (fun j => m ((c : Thread Cert.Kernel8Ideal.nD Cert.Kernel8Ideal.τ).loc
        Cert.Kernel8Ideal.main_arg5) (ix1 j)) b r l).symm
    · funext i
      obtain ⟨b, r, l, rfl⟩ : ∃ (b : Fin 16) (r : Fin 32) (l : Fin 512), i = ix3 b r l :=
        ⟨i 0, i 1, i 2, by funext a; match a with | ⟨0, _⟩ => rfl | ⟨1, _⟩ => rfl | ⟨2, _⟩ => rfl⟩
      exact e4 b r l
    · funext i
      obtain ⟨b, r, l, rfl⟩ : ∃ (b : Fin 16) (r : Fin 32) (l : Fin 512), i = ix3 b r l :=
        ⟨i 0, i 1, i 2, by funext a; match a with | ⟨0, _⟩ => rfl | ⟨1, _⟩ => rfl | ⟨2, _⟩ => rfl⟩
      rw [a0, a1, a2, a3, a4]
      pointwise
      rfl
    · funext i
      obtain ⟨b, r, l, rfl⟩ : ∃ (b : Fin 16) (r : Fin 32) (l : Fin 512), i = ix3 b r l :=
        ⟨i 0, i 1, i 2, by funext a; match a with | ⟨0, _⟩ => rfl | ⟨1, _⟩ => rfl | ⟨2, _⟩ => rfl⟩
      exact e4 b r l
    · funext i
      obtain ⟨b, r, l, rfl⟩ : ∃ (b : Fin 16) (r : Fin 32) (l : Fin 512), i = ix3 b r l :=
        ⟨i 0, i 1, i 2, by funext a; match a with | ⟨0, _⟩ => rfl | ⟨1, _⟩ => rfl | ⟨2, _⟩ => rfl⟩
      rw [a0, a1, a2, a3, a4]
      pointwise
      rfl
    · funext i
      obtain ⟨b, r, l, rfl⟩ : ∃ (b : Fin 16) (r : Fin 32) (l : Fin 8), i = ix3 b r l :=
        ⟨i 0, i 1, i 2, by funext a; match a with | ⟨0, _⟩ => rfl | ⟨1, _⟩ => rfl | ⟨2, _⟩ => rfl⟩
      rw [a0, a1, a2, a3, a4]
      pointwise
      rfl
    · funext i
      obtain ⟨b, l, r, rfl⟩ : ∃ (b : Fin 16) (l : Fin 8) (r : Fin 32), i = ix3 b l r :=
        ⟨i 0, i 1, i 2, by funext a; match a with | ⟨0, _⟩ => rfl | ⟨1, _⟩ => rfl | ⟨2, _⟩ => rfl⟩
      rw [a0, a1, a2, a3, a4]
      pointwise
      rfl

end Cert.Proof.ProjSample

end
-- ==== Proof.Ada.lean ====
/-
  THE MODULATION OF ALL THE LAYERS: the kernel's result array is the reference's, over the extended reals. Both are read at
  an index and meet in one scalar formula, `cell`: the conditioning row times its own sigmoid, the product with a column of
  the layer's weight, and the bias.
-/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import Idealize.ShloMosaic.Lib.Pointwise
public import Idealize.ShloMosaic.Lib.Pipeline.Value
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Ada

/-- One element of the result: `x` the conditioning row, `w` the weight's column, `b` its bias. -/
def cell (x w : Fin 1024 → EReal) (b : EReal) : EReal := ∑ k, x k * Ideal.div 1 (1 + Ideal.exp (-(x k))) * w k + b

end Cert.Ada

namespace Cert.Kernel9Ideal.Ada

open Cert.Kernel9Ideal Cert.Kernel9Ideal.Gen Cert.Ada

theorem hz3 : (![0, 0, 0] : Fin 3 → Nat) = fun _ => 0 := funext fun a => by fin_cases a <;> rfl

/-- What the body leaves in the output's staging buffer, at an index. -/
theorem out_at (x0 : Vec Ideal S18x1024 .f32) (x1 : Vec Ideal S1x1024x1152 .f32) (x2 : Vec Ideal S1x1x1152 .f32) (r : Fin 18)
    (j : Fin 1152) : out0_3 x0 x1 x2 (ix3 0 r j) = cell (fun k => x0 (ix2 r k)) (fun k => x1 (ix3 0 k j)) (x2 (ix3 0 0 j)) := by
  unfold out0_3
  rw [View.canon_unit_zero hz3]
  pointwise [k0_pay1, r0_0, r0_1, r0_2]
  simp only [zero_sub]
  rfl

variable (m : (ℓ : Loc nD τ sig) → Buf (Elt Ideal) ℓ) (c : Dev nD)

theorem N32 (t : Fin cfg0.N) : t.val < 32 := t.isLt.trans_le N_0.le

/-- Point `t`'s layer, and its column `j` of that layer's. -/
def ly (t : Fin cfg0.N) : Fin 4 := ⟨t.val / 8, by have := N32 t; omega⟩
def cl (t : Fin cfg0.N) (j : Fin 1152) : Fin 9216 := ⟨t.val % 8 * 1152 + j.val, by have := j.isLt; omega⟩

/-! ## The windows' blocks at an index -/

theorem idx0 : ∀ t : Fin cfg0.N, win0_0.index t 0 = 0 ∧ win0_0.index t 1 = 0 :=
  (by decide +kernel : ∀ t : Fin grid0.N, win0_0.index t 0 = 0 ∧ win0_0.index t 1 = 0)

theorem emb0 (t : Fin cfg0.N) (r : Fin 18) (k : Fin 1024) :
    ((cfg0.win 0).blk t).view.emb (ix2 r k : S18x1024.Idx) = (ix2 r k : S18x1024.Idx) := by
  funext a; apply Fin.ext
  match a with
  | ⟨0, _⟩ => show win0_0.index t 0 * 18 + 1 * r.val = r.val; rw [(idx0 t).1]; omega
  | ⟨1, _⟩ => show win0_0.index t 1 * 1024 + 1 * k.val = k.val; rw [(idx0 t).2]; omega

theorem blk0 (t : Fin cfg0.N) (r : Fin 18) (k : Fin 1024) :
    iblk m c 0 t (ix2 r k : S18x1024.Idx) = m ((c : Thread nD τ).loc main_arg0) (ix2 r k) := by
  unfold iblk
  rw [View.read_apply, emb0]
  show V m c main_arg0 _ = _
  rw [V_main_arg0]

theorem idx1 : ∀ t : Fin cfg0.N, win0_1.index t 0 = t.val / 8 ∧ win0_1.index t 1 = 0 ∧ win0_1.index t 2 = t.val % 8 :=
  (by decide +kernel : ∀ t : Fin grid0.N, win0_1.index t 0 = t.val / 8 ∧ win0_1.index t 1 = 0 ∧ win0_1.index t 2 = t.val % 8)

theorem emb1 (t : Fin cfg0.N) (k : Fin 1024) (j : Fin 1152) :
    ((cfg0.win 1).blk t).view.emb (ix3 0 k j : S1x1024x1152.Idx) = (ix3 (ly t) k (cl t j) : S4x1024x9216.Idx) := by
  funext a; apply Fin.ext
  match a with
  | ⟨0, _⟩ => show win0_1.index t 0 * 1 + 1 * 0 = t.val / 8; rw [(idx1 t).1]; omega
  | ⟨1, _⟩ => show win0_1.index t 1 * 1024 + 1 * k.val = k.val; rw [(idx1 t).2.1]; omega
  | ⟨2, _⟩ => show win0_1.index t 2 * 1152 + 1 * j.val = t.val % 8 * 1152 + j.val; rw [(idx1 t).2.2]; omega

theorem blk1 (t : Fin cfg0.N) (k : Fin 1024) (j : Fin 1152) :
    iblk m c 1 t (ix3 0 k j : S1x1024x1152.Idx) = m ((c : Thread nD τ).loc main_arg1) (ix3 (ly t) k (cl t j)) := by
  unfold iblk
  rw [View.read_apply, emb1]
  show V m c main_arg1 _ = _
  rw [V_main_arg1]

theorem idx2 : ∀ t : Fin cfg0.N, win0_2.index t 0 = t.val / 8 ∧ win0_2.index t 1 = 0 ∧ win0_2.index t 2 = t.val % 8 :=
  (by decide +kernel : ∀ t : Fin grid0.N, win0_2.index t 0 = t.val / 8 ∧ win0_2.index t 1 = 0 ∧ win0_2.index t 2 = t.val % 8)

theorem emb2 (t : Fin cfg0.N) (j : Fin 1152) :
    ((cfg0.win 2).blk t).view.emb (ix3 0 0 j : S1x1x1152.Idx) = (ix3 (ly t) 0 (cl t j) : S4x1x9216.Idx) := by
  funext a; apply Fin.ext
  match a with
  | ⟨0, _⟩ => show win0_2.index t 0 * 1 + 1 * 0 = t.val / 8; rw [(idx2 t).1]; omega
  | ⟨1, _⟩ => show win0_2.index t 1 * 1 + 1 * 0 = 0; rw [(idx2 t).2.1]
  | ⟨2, _⟩ => show win0_2.index t 2 * 1152 + 1 * j.val = t.val % 8 * 1152 + j.val; rw [(idx2 t).2.2]; omega

theorem blk2 (t : Fin cfg0.N) (j : Fin 1152) :
    iblk m c 2 t (ix3 0 0 j : S1x1x1152.Idx) = m ((c : Thread nD τ).loc main_arg2) (ix2 (ly t) (cl t j)) := by
  unfold iblk
  rw [View.read_apply, emb2]
  show V m c main_v0 _ = _
  entry_read
  pointwise

theorem idx3 : ∀ t : Fin cfg0.N, win0_3.index t 0 = t.val / 8 ∧ win0_3.index t 1 = 0 ∧ win0_3.index t 2 = t.val % 8 :=
  (by decide +kernel : ∀ t : Fin grid0.N, win0_3.index t 0 = t.val / 8 ∧ win0_3.index t 1 = 0 ∧ win0_3.index t 2 = t.val % 8)

theorem emb3 (t : Fin cfg0.N) (r : Fin 18) (j : Fin 1152) :
    ((cfg0.win 3).blk t).view.emb (ix3 0 r j : S1x18x1152.Idx) = (ix3 (ly t) r (cl t j) : S4x18x9216.Idx) := by
  funext a; apply Fin.ext
  match a with
  | ⟨0, _⟩ => show win0_3.index t 0 * 1 + 1 * 0 = t.val / 8; rw [(idx3 t).1]; omega
  | ⟨1, _⟩ => show win0_3.index t 1 * 18 + 1 * r.val = r.val; rw [(idx3 t).2.1]; omega
  | ⟨2, _⟩ => show win0_3.index t 2 * 1152 + 1 * j.val = t.val % 8 * 1152 + j.val; rw [(idx3 t).2.2]; omega

theorem mem3 (t : Fin cfg0.N) (r : Fin 18) (j : Fin 1152) :
    (ix3 (ly t) r (cl t j) : S4x18x9216.Idx) ∈ ((cfg0.win 3).blk t).view.set := by
  rw [← emb3]; exact View.emb_mem_set _ _

/-! ## The result array -/

/-- The whole result array as a function of the arguments. -/
def G (i : S4x18x9216.Idx) : EReal :=
  cell (fun k => m ((c : Thread nD τ).loc main_arg0) (ix2 (i 1) k)) (fun k => m ((c : Thread nD τ).loc main_arg1) (ix3 (i 0) k (i 2)))
    (m ((c : Thread nD τ).loc main_arg2) (ix2 (i 0) (i 2)))

/-- What point `t` writes back is its block of `G`. -/
theorem flushed_eq (t : Fin cfg0.N) :
    (dats m 0 c).flushed 3 t = ((cfg0.win 3).blk t).view.read (Elt Ideal) (G m c) := by
  rw [Value.flushed3]
  show out0_3 _ _ _ = _
  funext y
  obtain ⟨r, j, rfl⟩ : ∃ (r : Fin 18) (j : Fin 1152), y = (ix3 0 r j : S1x18x1152.Idx) :=
    ⟨y 1, y 2, by funext a; match a with | ⟨0, _⟩ => exact Subsingleton.elim (α := Fin 1) _ _ | ⟨1, _⟩ => rfl | ⟨2, _⟩ => rfl⟩
  rw [View.read_apply, emb3, out_at]
  simp only [blk0, blk1, blk2]
  rfl

/-- Every index of the array is in some point's block. -/
theorem cover3 (i : S4x18x9216.Idx) :
    ∃ t : Fin cfg0.N, (cfg0.win 3).flush t = true ∧ i ∈ ((cfg0.win 3).blk t).view.set := by
  have h0 : (i 0 : Nat) < 4 := (i 0).isLt
  have h2 : (i 2 : Nat) < 9216 := (i 2).isLt
  have hN : cfg0.N = 32 := N_0
  obtain ⟨t, ht⟩ : ∃ t : Fin cfg0.N, t.val = (i 0 : Nat) * 8 + (i 2 : Nat) / 1152 := ⟨⟨_, by omega⟩, rfl⟩
  refine ⟨t, flush0_3 _, ?_⟩
  have e : (ix3 (ly t) (i 1) (cl t ⟨(i 2 : Nat) % 1152, by omega⟩) : S4x18x9216.Idx) = i := by
    funext a; apply Fin.ext
    match a with
    | ⟨0, _⟩ => show t.val / 8 = (i 0 : Nat); omega
    | ⟨1, _⟩ => rfl
    | ⟨2, _⟩ => show t.val % 8 * 1152 + (i 2 : Nat) % 1152 = (i 2 : Nat); omega
  have h := mem3 t (i 1) ⟨(i 2 : Nat) % 1152, by omega⟩
  rw [e] at h
  exact h

theorem final : (dats m 0 c).arrAt 3 cfg0.N = G m c :=
  (dats m 0 c).arrAt_eq_of_cover 3 (G m c) (fun t _ => flushed_eq m c t) cover3

end Cert.Kernel9Ideal.Ada

namespace Cert.Proof.Ada

open Cert.Ada

theorem preserves : Cert.preserves_Kernel9_Kernel9Ideal := trivial
theorem frame_k : Cert.quiescent_Kernel9 := fun m ρ _ => Cert.Kernel9.Gen.frame m ρ
theorem frame_ki : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem algebraic : Cert.algebraic_Kernel9Ideal_Reference9Ideal := by
  intro m ρ m' ρ' _ hagree
  refine ⟨fun c => Cert.Kernel9Ideal.Ada.G m c, ?_, ?_⟩
  · exact (θ_run Cert.Kernel9Ideal.defs _ _).mono
      (fun _ h c => ⟨(h c).1.trans (Cert.Kernel9Ideal.Ada.final m c), (h c).2⟩) (Cert.Kernel9Ideal.Value.run_blocks (F := Ideal) m ρ)
  · refine (θ_run Cert.Reference9Ideal.defs _ _).mono (fun _ h c => ⟨(h c).1.trans ?_, (h c).2⟩)
      (Cert.Reference9Ideal.Value.run (F := Ideal) m' ρ')
    obtain ⟨a0, a1, a2⟩ := hagree c
    funext i
    obtain ⟨b, r, l, rfl⟩ : ∃ (b : Fin 4) (r : Fin 18) (l : Fin 9216), i = ix3 b r l :=
      ⟨i 0, i 1, i 2, by funext a; match a with | ⟨0, _⟩ => rfl | ⟨1, _⟩ => rfl | ⟨2, _⟩ => rfl⟩
    rw [a0, a1, a2]
    pointwise
    rfl

end Cert.Proof.Ada

end
-- ==== Proof.Hgrn.lean ====
/-
  THE GATED RECURRENCE'S BODY, ONE CHUNK: each head's scores, output and next state at an index, from the chunk's queries, decay
  logits and values, the lower bound's row and the state before the chunk. The decays' logarithms and the keys are real numbers
  where the arrays are, so the chunk's sums are sums of real numbers; only the state may be infinite.
-/
module

public import proofs.«01_k».proof.Proof.Gen.Kernel10Ideal.Value
public import Idealize.ShloMosaic.Lib.Pointwise
public import Idealize.ShloMosaic.Lib.Pipeline.Value
public import Idealize.ShloMosaic.Lib.Tactic
public import proofs.«01_k».proof.Proof.Sb

@[expose] public section

set_option maxRecDepth 16384

noncomputable section

open Idealize.ShloMosaic Idealize.ShloMosaic.TcCoe Idealize.SL.Sem

namespace Cert.Kernel10Ideal.Hg

open Cert.Kernel10Ideal Cert.Kernel10Ideal.Gen

/-! ## One head of one chunk, as the kernel computes it -/

/-- The scores of sixteen rows against the chunk's tokens: the queries scaled to the reference row, the keys from it. -/
def blk (ref : FVec Ideal S1x128 .f32) (qs aq : FVec Ideal S16x128 .f32) (a kk : FVec Ideal S128x128 .f32) (hi r0 : BitVec 32) :
    FVec Ideal S16x128 .f32 :=
  select (cmpi .sle (iota .tc S16x128 32 [1] iota_S16x128_d1_w32)
      (addi (iota .tc S16x128 32 [0] iota_S16x128_d0_w32) (broadcast S16x128 r0)))
    (matmul dot_S16x128_S128x128_S16x128_1_1_0_0_n_n none
      (truncf .bf16 (mulf qs (exp (subf aq (broadcastTo S16x128 ref broadcasts_S1x128_S16x128)))) bitsLt_bf16_f32)
      (truncf .bf16 (mulf kk (exp (select (cmpi .slt (iota .tc S128x128 32 [0] iota_S128x128_d0_w32) (broadcast S128x128 hi))
        (subf (broadcastTo S128x128 ref broadcasts_S1x128_S128x128) a)
        (broadcast S128x128 (Scalar.ofBits .f32 0xFF800000#32))))) bitsLt_bf16_f32)
      (constant S16x128 .f32 0x00000000#32))
    (broadcast S16x128 (Scalar.ofBits .f32 0x00000000#32))

theorem select_slt {α : Type} (k p : Nat) (hk : k < 2 ^ 31) (hp : p < 2 ^ 31) (a b : α) :
    Scalar.select (IntOp.cmpi .slt (BitVec.ofNat 32 k) (BitVec.ofNat 32 p)) a b = if k < p then a else b := by
  rw [WordCmp.cmpi_slt_ofNat (w := 32) hk hp]
  by_cases h : k < p <;> simp [Scalar.select, h]

theorem select_sle {α : Type} (k p : Nat) (hk : k < 2 ^ 31) (hp : p < 2 ^ 31) (a b : α) :
    Scalar.select (IntOp.cmpi .sle (BitVec.ofNat 32 k) (BitVec.ofNat 32 p)) a b = if k ≤ p then a else b := by
  rw [WordCmp.cmpi_sle_ofNat (w := 32) hk hp]
  by_cases h : k ≤ p <;> simp [Scalar.select, h]

theorem blk_at (ref : FVec Ideal S1x128 .f32) (qs aq : FVec Ideal S16x128 .f32) (a kk : FVec Ideal S128x128 .f32) (n : ℕ) (hn : n ≤ 112)
    (r : Fin 16) (s : Fin 128) (R Q A B K : Fin 128 → ℝ) (h1 : ∀ c, ref (ix2 0 c) = (R c : EReal)) (h2 : ∀ c, qs (ix2 r c) = (Q c : EReal))
    (h3 : ∀ c, aq (ix2 r c) = (A c : EReal)) (h4 : ∀ c, a (ix2 s c) = (B c : EReal)) (h5 : ∀ c, kk (ix2 s c) = (K c : EReal)) :
    blk ref qs aq a kk (BitVec.ofNat 32 (n + 16)) (BitVec.ofNat 32 n) (ix2 r s)
      = ((if s.val ≤ n + r.val then ∑ c, Q c * K c * Real.exp (A c - B c) else 0 : ℝ) : EReal) := by
  have hr := r.isLt
  have hs := s.isLt
  pointwise [blk]
  have e : IntOp.addi (BitVec.ofNat 32 r.val) (BitVec.ofNat 32 n) = BitVec.ofNat 32 (n + r.val) := by
    show BitVec.ofNat 32 r.val + BitVec.ofNat 32 n = _
    rw [Nat.add_comm, BitVec.ofNat_add]
  rw [e, select_sle _ _ (by omega) (by omega)]
  by_cases h : s.val ≤ n + r.val
  · rw [if_pos h, if_pos h, ← Sb.coe_sum]
    refine Finset.sum_congr rfl fun c _ => ?_
    rw [select_slt _ _ (by omega) (by omega), if_pos (by omega), h1, h2, h3, h4, h5, ← EReal.coe_sub, ← EReal.coe_sub, Ideal.exp_coe,
      Ideal.exp_coe, ← EReal.coe_mul, ← EReal.coe_mul, ← EReal.coe_mul]
    congr 1
    have : A c - B c = (A c - R c) + (R c - B c) := by ring
    rw [this, Real.exp_add]
    ring
  · rw [if_neg h, if_neg h]
    rfl

/-- The chunk's scores: eight blocks of sixteen rows. -/
def scores (q a kk : FVec Ideal S128x128 .f32) : FVec Ideal S128x128 .f32 :=
  concatenate S128x128 0 [
    ⟨S16x128, blk (broadcast S1x128 (Scalar.ofBits .f32 0x00000000#32))
      (extractStridedSlice S16x128 ![0, 0] q slices_S128x128_o0_0_S16x128) (extractStridedSlice S16x128 ![0, 0] a slices_S128x128_o0_0_S16x128)
      a kk 16#32 0#32⟩,
    ⟨S16x128, blk (extractStridedSlice S1x128 ![15, 0] a slices_S128x128_o15_0_S1x128)
      (extractStridedSlice S16x128 ![16, 0] q slices_S128x128_o16_0_S16x128) (extractStridedSlice S16x128 ![16, 0] a slices_S128x128_o16_0_S16x128)
      a kk 32#32 16#32⟩,
    ⟨S16x128, blk (extractStridedSlice S1x128 ![31, 0] a slices_S128x128_o31_0_S1x128)
      (extractStridedSlice S16x128 ![32, 0] q slices_S128x128_o32_0_S16x128) (extractStridedSlice S16x128 ![32, 0] a slices_S128x128_o32_0_S16x128)
      a kk 48#32 32#32⟩,
    ⟨S16x128, blk (extractStridedSlice S1x128 ![47, 0] a slices_S128x128_o47_0_S1x128)
      (extractStridedSlice S16x128 ![48, 0] q slices_S128x128_o48_0_S16x128) (extractStridedSlice S16x128 ![48, 0] a slices_S128x128_o48_0_S16x128)
      a kk 64#32 48#32⟩,
    ⟨S16x128, blk (extractStridedSlice S1x128 ![63, 0] a slices_S128x128_o63_0_S1x128)
      (extractStridedSlice S16x128 ![64, 0] q slices_S128x128_o64_0_S16x128) (extractStridedSlice S16x128 ![64, 0] a slices_S128x128_o64_0_S16x128)
      a kk 80#32 64#32⟩,
    ⟨S16x128, blk (extractStridedSlice S1x128 ![79, 0] a slices_S128x128_o79_0_S1x128)
      (extractStridedSlice S16x128 ![80, 0] q slices_S128x128_o80_0_S16x128) (extractStridedSlice S16x128 ![80, 0] a slices_S128x128_o80_0_S16x128)
      a kk 96#32 80#32⟩,
    ⟨S16x128, blk (extractStridedSlice S1x128 ![95, 0] a slices_S128x128_o95_0_S1x128)
      (extractStridedSlice S16x128 ![96, 0] q slices_S128x128_o96_0_S16x128) (extractStridedSlice S16x128 ![96, 0] a slices_S128x128_o96_0_S16x128)
      a kk 112#32 96#32⟩,
    ⟨S16x128, blk (extractStridedSlice S1x128 ![111, 0] a slices_S128x128_o111_0_S1x128)
      (extractStridedSlice S16x128 ![112, 0] q slices_S128x128_o112_0_S16x128) (extractStridedSlice S16x128 ![112, 0] a slices_S128x128_o112_0_S16x128)
      a kk 128#32 112#32⟩] concatenates_S16x128_S16x128_S16x128_S16x128_S16x128_S16x128_S16x128_S16x128_S128x128_d0

variable (q a kk st : FVec Ideal S128x128 .f32) (v : FVec Ideal S128x128 .bf16) (Q A K V : Fin 128 → Fin 128 → ℝ)
  (hq : ∀ t c, q (ix2 t c) = (Q t c : EReal)) (ha : ∀ t c, a (ix2 t c) = (A t c : EReal))
  (hk : ∀ t c, kk (ix2 t c) = (K t c : EReal)) (hv : ∀ t c, v (ix2 t c) = (V t c : EReal))

include hq ha hk in
theorem blk_row (t s : Fin 128) (ref : FVec Ideal S1x128 .f32) (qs aq : FVec Ideal S16x128 .f32) (n : ℕ) (hn : n ≤ 112) (r : Fin 16)
    (e : n + r.val = t.val) (R : Fin 128 → ℝ) (h1 : ∀ c, ref (ix2 0 c) = (R c : EReal)) (h2 : ∀ c, qs (ix2 r c) = q (ix2 t c))
    (h3 : ∀ c, aq (ix2 r c) = a (ix2 t c)) (hi r0 : BitVec 32) (hh : hi = BitVec.ofNat 32 (n + 16)) (h0 : r0 = BitVec.ofNat 32 n) :
    blk ref qs aq a kk hi r0 (ix2 r s)
      = ((if s ≤ t then ∑ c, Q t c * K s c * Real.exp (A t c - A s c) else 0 : ℝ) : EReal) := by
  rw [hh, h0, blk_at ref qs aq a kk n hn r s R (Q t) (A t) (A s) (K s) h1 (fun c => (h2 c).trans (hq t c)) (fun c => (h3 c).trans (ha t c)) (ha s) (hk s), e]
  rfl

include hq ha hk in
theorem scores_at (t s : Fin 128) :
    scores q a kk (ix2 t s) = ((if s ≤ t then ∑ c, Q t c * K s c * Real.exp (A t c - A s c) else 0 : ℝ) : EReal) := by
  pointwise [scores]
  generalize hZ : ((if s ≤ t then ∑ c, Q t c * K s c * Real.exp (A t c - A s c) else 0 : ℝ) : EReal) = Z
  have hz := fun ref qs aq n hn r e R h1 h2 h3 hi r0 hh h0 =>
    (blk_row q a kk Q A K hq ha hk t s ref qs aq n hn r e R h1 h2 h3 hi r0 hh h0).trans hZ
  clear hZ
  have ht := t.isLt
  by_cases g0 : t.val < 16
  · rw [dif_pos g0]
    refine hz _ _ _ 0 (by omega) _ (by simp only; omega) (fun _ => 0) (fun c => by pointwise; rfl) (fun c => ?_) (fun c => ?_) _ _ rfl rfl <;>
      (pointwise; try (congr 2; apply Fin.ext; simp only; omega))
  rw [dif_neg g0]
  by_cases g1 : t.val - 16 < 16
  · rw [dif_pos g1]
    refine hz _ _ _ 16 (by omega) _ (by simp only; omega) (A 15) (fun c => by pointwise; exact ha _ _) (fun c => ?_) (fun c => ?_) _ _ rfl rfl <;>
      (pointwise; try (congr 2; apply Fin.ext; simp only; omega))
  rw [dif_neg g1]
  by_cases g2 : t.val - 16 - 16 < 16
  · rw [dif_pos g2]
    refine hz _ _ _ 32 (by omega) _ (by simp only; omega) (A 31) (fun c => by pointwise; exact ha _ _) (fun c => ?_) (fun c => ?_) _ _ rfl rfl <;>
      (pointwise; try (congr 2; apply Fin.ext; simp only; omega))
  rw [dif_neg g2]
  by_cases g3 : t.val - 16 - 16 - 16 < 16
  · rw [dif_pos g3]
    refine hz _ _ _ 48 (by omega) _ (by simp only; omega) (A 47) (fun c => by pointwise; exact ha _ _) (fun c => ?_) (fun c => ?_) _ _ rfl rfl <;>
      (pointwise; try (congr 2; apply Fin.ext; simp only; omega))
  rw [dif_neg g3]
  by_cases g4 : t.val - 16 - 16 - 16 - 16 < 16
  · rw [dif_pos g4]
    refine hz _ _ _ 64 (by omega) _ (by simp only; omega) (A 63) (fun c => by pointwise; exact ha _ _) (fun c => ?_) (fun c => ?_) _ _ rfl rfl <;>
      (pointwise; try (congr 2; apply Fin.ext; simp only; omega))
  rw [dif_neg g4]
  by_cases g5 : t.val - 16 - 16 - 16 - 16 - 16 < 16
  · rw [dif_pos g5]
    refine hz _ _ _ 80 (by omega) _ (by simp only; omega) (A 79) (fun c => by pointwise; exact ha _ _) (fun c => ?_) (fun c => ?_) _ _ rfl rfl <;>
      (pointwise; try (congr 2; apply Fin.ext; simp only; omega))
  rw [dif_neg g5]
  by_cases g6 : t.val - 16 - 16 - 16 - 16 - 16 - 16 < 16
  · rw [dif_pos g6]
    refine hz _ _ _ 96 (by omega) _ (by simp only; omega) (A 95) (fun c => by pointwise; exact ha _ _) (fun c => ?_) (fun c => ?_) _ _ rfl rfl <;>
      (pointwise; try (congr 2; apply Fin.ext; simp only; omega))
  rw [dif_neg g6]
  refine hz _ _ _ 112 (by omega) _ (by simp only; omega) (A 111) (fun c => by pointwise; exact ha _ _) (fun c => ?_) (fun c => ?_) _ _ rfl rfl <;>
    (pointwise; try (congr 2; apply Fin.ext; simp only; omega))

/-- The head's output before the norm. -/
def headO : FVec Ideal S128x128 .f32 :=
  addf (matmul dot_S128x128_S128x128_S128x128_1_0_0_1_n_n none (truncf .bf16 (scores q a kk) bitsLt_bf16_f32) v (constant S128x128 .f32 0x00000000#32))
    (matmul dot_S128x128_S128x128_S128x128_1_1_0_0_n_n none (truncf .bf16 (mulf q (exp a)) bitsLt_bf16_f32) (truncf .bf16 st bitsLt_bf16_f32)
      (constant S128x128 .f32 0x00000000#32))

include hq ha hk hv in
theorem headO_at (t d : Fin 128) :
    headO q a kk st v (ix2 t d)
      = ((∑ s, (if s ≤ t then ∑ c, Q t c * K s c * Real.exp (A t c - A s c) else 0) * V s d : ℝ) : EReal)
        + ∑ c, ((Q t c * Real.exp (A t c) : ℝ) : EReal) * st (ix2 d c) := by
  pointwise [headO]
  congr 1
  · rw [← Sb.coe_sum]
    refine Finset.sum_congr rfl fun s _ => ?_
    rw [scores_at q a kk Q A K hq ha hk, hv, EReal.coe_mul]
  · refine Finset.sum_congr rfl fun c _ => ?_
    rw [hq, ha, Ideal.exp_coe, EReal.coe_mul]

include ha hk hv in
theorem headSt_at (d c : Fin 128) :
    k0_pay67 (F := Ideal) v a kk st (ix2 d c)
      = st (ix2 d c) * ((Real.exp (A 127 c) : ℝ) : EReal) + ((∑ s, V s d * (K s c * Real.exp (A 127 c - A s c)) : ℝ) : EReal) := by
  pointwise [k0_pay67]
  rw [ha, Ideal.exp_coe, ← Sb.coe_sum]
  congr 1
  refine Finset.sum_congr rfl fun s _ => ?_
  rw [hv, hk, ha, ← EReal.coe_sub, Ideal.exp_coe, EReal.coe_mul, EReal.coe_mul]

/-! ## The decays and the keys -/

/-- The sigmoid, the logarithm of the decay and the key's scale, over the reals. -/
def sgR (f : ℝ) : ℝ := 1 / (1 + Real.exp (-f))
def lfR (b f : ℝ) : ℝ := Real.log (b + (1 - b) * sgR f)
def kkR (b f : ℝ) : ℝ := (1 - b) * sgR (-f)

theorem sgR_pos (f : ℝ) : 0 < sgR f := by unfold sgR; positivity
theorem sgR_le (f : ℝ) : sgR f ≤ 1 := by
  unfold sgR
  rw [div_le_one (by positivity)]
  have := Real.exp_pos (-f)
  linarith

theorem arg_pos (b f : ℝ) (h0 : 0 ≤ b) (h1 : b ≤ 1) : 0 < b + (1 - b) * sgR f := by
  have := sgR_pos f
  rcases eq_or_lt_of_le h0 with h | h
  · rw [← h]; linarith
  · have : 0 ≤ (1 - b) * sgR f := mul_nonneg (by linarith) this.le
    linarith

/-- The sigmoid from the exponential of minus the absolute value. -/
theorem div_exp (f : ℝ) : Ideal.div 1 (1 + Ideal.exp (0 - FloatOps.absf (F := Ideal) (φ := .f32) (f : EReal))) = ((1 / (1 + Real.exp (-|f|)) : ℝ) : EReal) := by
  rw [Sb.absf_coe, zero_sub, ← EReal.coe_neg, Ideal.exp_coe, ← EReal.coe_one, ← EReal.coe_add, Ideal.div_coe (by positivity), ← EReal.coe_mul, one_mul]

theorem exp_mul_div (f : ℝ) : Ideal.exp (0 - FloatOps.absf (F := Ideal) (φ := .f32) (f : EReal)) * Ideal.div 1 (1 + Ideal.exp (0 - FloatOps.absf (F := Ideal) (φ := .f32) (f : EReal)))
    = ((1 / (1 + Real.exp |f|) : ℝ) : EReal) := by
  rw [div_exp, Sb.absf_coe, zero_sub, ← EReal.coe_neg, Ideal.exp_coe, ← EReal.coe_mul]
  congr 1
  rw [Real.exp_neg]
  have := Real.exp_pos |f|
  field_simp
  ring

theorem pay9_at (x : Vec Ideal S1x128x512 .f32) (lb : Vec Ideal S1x512 .f32) (t : Fin 128) (j : Fin 512) (b f : ℝ)
    (hb : lb (ix2 0 j) = (b : EReal)) (hf : x (ix3 0 t j) = (f : EReal)) (h0 : 0 ≤ b) (h1 : b ≤ 1) :
    k0_pay9 (F := Ideal) x lb (ix2 t j) = (lfR b f : EReal) := by
  pointwise [k0_pay2, k0_pay3, k0_pay4, k0_pay5, k0_pay6, k0_pay9]
  rw [hb, hf, exp_mul_div, div_exp]
  have e : (if (0 : EReal) ≤ (f : EReal) then ((1 / (1 + Real.exp (-|f|)) : ℝ) : EReal) else ((1 / (1 + Real.exp |f|) : ℝ) : EReal)) = (sgR f : EReal) := by
    by_cases h : 0 ≤ f
    · rw [if_pos (EReal.coe_nonneg.2 h), abs_of_nonneg h]; rfl
    · rw [if_neg (fun g => h (EReal.coe_nonneg.1 g)), abs_of_neg (not_le.1 h)]; rfl
  rw [e, ← EReal.coe_one, ← EReal.coe_sub, ← EReal.coe_mul, ← EReal.coe_add, Ideal.log_coe, if_neg (not_le.2 (arg_pos b f h0 h1))]
  rfl

theorem pay10_at (x : Vec Ideal S1x128x512 .f32) (lb : Vec Ideal S1x512 .f32) (t : Fin 128) (j : Fin 512) (b f : ℝ)
    (hb : lb (ix2 0 j) = (b : EReal)) (hf : x (ix3 0 t j) = (f : EReal)) (h0 : 0 ≤ b) (h1 : b ≤ 1) :
    k0_pay10 (F := Ideal) x lb (ix2 t j) = 0 := by
  have e : k0_pay10 (F := Ideal) x lb (ix2 t j) = k0_pay9 (F := Ideal) x lb (ix2 t j) - k0_pay9 (F := Ideal) x lb (ix2 t j) := rfl
  rw [e, pay9_at x lb t j b f hb hf h0 h1, ← EReal.coe_sub, sub_self]
  rfl

theorem pay7_at (x : Vec Ideal S1x128x512 .f32) (lb : Vec Ideal S1x512 .f32) (t : Fin 128) (j : Fin 512) (b f : ℝ)
    (hb : lb (ix2 0 j) = (b : EReal)) (hf : x (ix3 0 t j) = (f : EReal)) :
    k0_pay7 (F := Ideal) x lb (ix2 t j) = (kkR b f : EReal) := by
  pointwise [k0_pay2, k0_pay7, k0_pay3, k0_pay4, k0_pay5, k0_pay6, k0_pay9]
  rw [hb, hf, exp_mul_div, div_exp]
  have e : (if (0 : EReal) ≤ (f : EReal) then ((1 / (1 + Real.exp |f|) : ℝ) : EReal) else ((1 / (1 + Real.exp (-|f|)) : ℝ) : EReal)) = (sgR (-f) : EReal) := by
    unfold sgR
    rw [neg_neg]
    by_cases h : 0 ≤ f
    · rw [if_pos (EReal.coe_nonneg.2 h), abs_of_nonneg h]
    · rw [if_neg (fun g => h (EReal.coe_nonneg.1 g)), abs_of_neg (not_le.1 h), neg_neg]
  rw [e, ← EReal.coe_one, ← EReal.coe_sub, ← EReal.coe_mul]
  rfl

theorem pay14_at (x : Vec Ideal S1x128x512 .f32) (lb : Vec Ideal S1x512 .f32) (tri : Vec Ideal S128x128 .bf16) (t : Fin 128) (j : Fin 512)
    (b : ℝ) (f : Fin 128 → ℝ)
    (hb : lb (ix2 0 j) = (b : EReal)) (hf : ∀ t, x (ix3 0 t j) = (f t : EReal)) (h0 : 0 ≤ b) (h1 : b ≤ 1)
    (ht : ∀ t s : Fin 128, tri (ix2 t s) = if s ≤ t then 1 else 0) :
    k0_pay14 (F := Ideal) (k0_pay8 tri) (k0_pay11 x lb) (k0_pay12 x lb) (k0_pay13 x lb tri) (ix2 t j)
      = ((∑ s : Fin 128, if s ≤ t then lfR b (f s) else 0 : ℝ) : EReal) := by
  pointwise [k0_pay14, k0_pay8, k0_pay11, k0_pay12, k0_pay13]
  simp only [pay10_at x lb _ j b _ hb (hf _) h0 h1, pay9_at x lb _ j b _ hb (hf _) h0 h1, ht, sub_zero, mul_zero, Finset.sum_const_zero, add_zero]
  rw [← Sb.coe_sum]
  refine Finset.sum_congr rfl fun s _ => ?_
  split_ifs
  · rw [one_mul]
  · rw [zero_mul]; rfl

/-! ## The pieces the body stores -/

/-- The norm over the head and the gate. -/
def yEl (g : EReal) (o : Fin 128 → EReal) (d : Fin 128) (w : EReal) : EReal :=
  o d * Ideal.rsqrt (Ideal.div (∑ x, o x * o x) (Ideal.ofBits FTy.f32 1124073472#32) + Ideal.ofBits FTy.f32 897988541#32) * w
    * (g * Ideal.div 1 (1 + Ideal.exp (0 - g)))

theorem yP (g : FVec Ideal S128x128 .f32) (o : FVec Ideal S128x128 .f32) (w : Vec Ideal S1x128 .f32) (t d : Fin 128) :
    k0_pay69 (F := Ideal) g o w (ix3 0 t d) = yEl (g (ix2 t d)) (fun e => o (ix2 t e)) d (w (ix2 0 d)) := by
  pointwise [k0_pay69]
  rfl

/-- The columns of a head: of the queries, the decays' logits, the values, the gates, and in the lower bound's and the norm's rows. -/
def colw (h : Fin 4) (c : Fin 128) : Fin 512 := ⟨128 * h.val + c.val, by have := h.isLt; have := c.isLt; omega⟩
def colq (h : Fin 4) (c : Fin 128) : Fin 2048 := ⟨128 * h.val + c.val, by have := h.isLt; have := c.isLt; omega⟩
def colf (j : Fin 512) : Fin 2048 := ⟨512 + j.val, by have := j.isLt; omega⟩
def colv (h : Fin 4) (c : Fin 128) : Fin 2048 := ⟨1024 + 128 * h.val + c.val, by have := h.isLt; have := c.isLt; omega⟩
def colg (j : Fin 512) : Fin 2048 := ⟨1536 + j.val, by have := j.isLt; omega⟩

section Block

variable (X : Fin 128 → Fin 2048 → ℝ) (b : Fin 512 → ℝ)

/-- The decays' running sum within the chunk, and the keys. -/
def AB (h : Fin 4) (t c : Fin 128) : ℝ := ∑ s : Fin 128, if s ≤ t then lfR (b (colw h c)) (X s (colf (colw h c))) else 0
def KB (h : Fin 4) (t c : Fin 128) : ℝ := kkR (b (colw h c)) (X t (colf (colw h c)))

/-- The state the chunk leaves, and the chunk's output before the norm, at an index. -/
def sB (st : Vec Ideal S1x4x128x128 .f32) (h : Fin 4) (d c : Fin 128) : EReal :=
  st (ix4 0 h d c) * ((Real.exp (AB X b h 127 c) : ℝ) : EReal)
    + ((∑ s, X s (colv h d) * (KB X b h s c * Real.exp (AB X b h 127 c - AB X b h s c)) : ℝ) : EReal)
def oB (st : Vec Ideal S1x4x128x128 .f32) (h : Fin 4) (t d : Fin 128) : EReal :=
  ((∑ s, (if s ≤ t then ∑ c, X t (colq h c) * KB X b h s c * Real.exp (AB X b h t c - AB X b h s c) else 0) * X s (colv h d) : ℝ) : EReal)
    + ∑ c, ((X t (colq h c) * Real.exp (AB X b h t c) : ℝ) : EReal) * st (ix4 0 h d c)

def G6 (st : Vec Ideal S1x4x128x128 .f32) : Vec Ideal S1x4x128x128 .f32 := fun y => sB X b st (y 1) (y 2) (y 3)
def G5 (x0 : Vec Ideal S1x128x2048 .f32) (x3 : Vec Ideal S1x512 .f32) (st : Vec Ideal S1x4x128x128 .f32) : Vec Ideal S1x128x512 .bf16 := fun y =>
  yEl (x0 (ix3 0 (y 1) (colg (y 2)))) (fun e => oB X b st ⟨(y 2).val / 128, by have := (y 2).isLt; change (y 2).val < 512 at this; omega⟩ (y 1) e)
    ⟨(y 2).val % 128, by omega⟩ (x3 (ix2 0 (y 2)))

variable (x0 : Vec Ideal S1x128x2048 .f32) (x2 : Vec Ideal S1x512 .f32) (x3 : Vec Ideal S1x512 .f32) (x4 : Vec Ideal S128x128 .bf16)
  (st : Vec Ideal S1x4x128x128 .f32)

/-- The decays' logits, the lower bound, the triangle, as the body loads them. -/
abbrev fx : Vec Ideal S1x128x512 .f32 := View.ld x0 (Rect.unit ![0, 0, 512] ![1, 128, 512] inb_S1x128x2048_S1x128x512_0_0_512)
abbrev lx : Vec Ideal S1x512 .f32 := View.ld x2 (Rect.unit ![0, 0] ![1, 512] inb_S1x512_S1x512_0_0)
abbrev tx : Vec Ideal S128x128 .bf16 := View.ld x4 (Rect.unit ![0, 0] ![128, 128] inb_S128x128_S128x128_0_0)
abbrev a14 : FVec Ideal S128x512 .f32 :=
  k0_pay14 (k0_pay8 (tx x4)) (k0_pay11 (fx x0) (lx x2)) (k0_pay12 (fx x0) (lx x2)) (k0_pay13 (fx x0) (lx x2) (tx x4))

/-- The block's numbers are real, the lower bound between zero and one, the triangle ones on and under the diagonal. -/
structure Good : Prop where
  hx : ∀ (t : Fin 128) (j : Fin 2048), j.val < 1536 → x0 (ix3 0 t j) = (X t j : EReal)
  hb : ∀ j, x2 (ix2 0 j) = (b j : EReal)
  h0 : ∀ j, 0 ≤ b j
  h1 : ∀ j, b j ≤ 1
  ht : ∀ t s : Fin 128, x4 (ix2 t s) = if s ≤ t then 1 else 0

variable (hG : Good X b x0 x2 x4)
include hG

theorem a14_at (h : Fin 4) (t c : Fin 128) : a14 x0 x2 x4 (ix2 t (colw h c)) = (AB X b h t c : EReal) := by
  refine pay14_at (fx x0) (lx x2) (tx x4) t (colw h c) (b (colw h c)) (fun s => X s (colf (colw h c))) ?_ ?_ (hG.h0 _) (hG.h1 _) ?_
  · pointwise [lx]; exact hG.hb _
  · intro s; pointwise [fx]; exact hG.hx s (colf (colw h c)) (by have := (colw h c).isLt; simp only [colf]; omega)
  · intro t s; pointwise [tx]; exact hG.ht t s

theorem k7_at (h : Fin 4) (t c : Fin 128) : k0_pay7 (F := Ideal) (fx x0) (lx x2) (ix2 t (colw h c)) = (KB X b h t c : EReal) := by
  refine pay7_at (fx x0) (lx x2) t (colw h c) (b (colw h c)) (X t (colf (colw h c))) ?_ ?_
  · pointwise [lx]; exact hG.hb _
  · pointwise [fx]; exact hG.hx t (colf (colw h c)) (by have := (colw h c).isLt; simp only [colf]; omega)

/-! Head 0. -/

abbrev q0 : FVec Ideal S128x128 .f32 := k0_pay15 (View.ld x0 (Rect.unit ![0, 0, 0] ![1, 128, 128] inb_S1x128x2048_S1x128x128_0_0_0))
abbrev v0 : FVec Ideal S128x128 .bf16 := k0_pay16 (View.ld x0 (Rect.unit ![0, 0, 1024] ![1, 128, 128] inb_S1x128x2048_S1x128x128_0_0_1024))
abbrev g0 : FVec Ideal S128x128 .f32 := k0_pay17 (View.ld x0 (Rect.unit ![0, 0, 1536] ![1, 128, 128] inb_S1x128x2048_S1x128x128_0_0_1536))
abbrev a0 : FVec Ideal S128x128 .f32 := extractStridedSlice S128x128 ![0, 0] (a14 x0 x2 x4) slices_S128x512_o0_0_S128x128
abbrev k0 : FVec Ideal S128x128 .f32 := extractStridedSlice S128x128 ![0, 0] (k0_pay7 (fx x0) (lx x2)) slices_S128x512_o0_0_S128x128
abbrev s0 : FVec Ideal S128x128 .f32 := k0_pay20 (View.ld st (Rect.unit ![0, 0, 0, 0] ![1, 1, 128, 128] inb_S1x4x128x128_S1x1x128x128_0_0_0_0))

theorem q0_at (t c : Fin 128) : q0 x0 (ix2 t c) = (X t (colq 0 c) : EReal) := by
  pointwise [k0_pay15]
  exact (congrArg (fun j => x0 (ix3 0 t j)) (Fin.ext (by simp [colq]))).trans (hG.hx t (colq 0 c) (by have := c.isLt; simp [colq]; omega))
theorem v0_at (t c : Fin 128) : v0 x0 (ix2 t c) = (X t (colv 0 c) : EReal) := by
  pointwise [k0_pay16]
  exact (congrArg (fun j => x0 (ix3 0 t j)) (Fin.ext (by simp [colv]))).trans (hG.hx t (colv 0 c) (by have := c.isLt; simp [colv]; omega))
theorem a0_at (t c : Fin 128) : a0 x0 x2 x4 (ix2 t c) = (AB X b 0 t c : EReal) := by
  refine Eq.trans ?_ (a14_at X b x0 x2 x4 hG 0 t c)
  pointwise
  exact congrArg (fun j => a14 x0 x2 x4 (ix2 t j)) (Fin.ext (by simp [colw]))
theorem k0_at (t c : Fin 128) : k0 x0 x2 (ix2 t c) = (KB X b 0 t c : EReal) := by
  refine Eq.trans ?_ (k7_at X b x0 x2 x4 hG 0 t c)
  pointwise
  exact congrArg (fun j => k0_pay7 (F := Ideal) (fx x0) (lx x2) (ix2 t j)) (Fin.ext (by simp [colw]))
omit hG in
theorem s0_at (d c : Fin 128) : s0 st (ix2 d c) = st (ix4 0 0 d c) := by
  pointwise [k0_pay20]

theorem S0_at (d c : Fin 128) : k0_pay68 (F := Ideal) (k0_pay67 (v0 x0) (a0 x0 x2 x4) (k0 x0 x2) (s0 st)) (ix4 0 0 d c) = sB X b st 0 d c := by
  have e : k0_pay68 (F := Ideal) (k0_pay67 (v0 x0) (a0 x0 x2 x4) (k0 x0 x2) (s0 st)) (ix4 0 0 d c)
      = k0_pay67 (F := Ideal) (v0 x0) (a0 x0 x2 x4) (k0 x0 x2) (s0 st) (ix2 d c) := by
    pointwise [k0_pay68]
  rw [e, headSt_at _ _ _ _ _ _ _ (a0_at X b x0 x2 x4 hG) (k0_at X b x0 x2 x4 hG) (v0_at X b x0 x2 x4 hG), s0_at]
  rfl

theorem O0_at (t d : Fin 128) : headO (q0 x0) (a0 x0 x2 x4) (k0 x0 x2) (s0 st) (v0 x0) (ix2 t d) = oB X b st 0 t d := by
  rw [headO_at _ _ _ _ _ _ _ _ _ (q0_at X b x0 x2 x4 hG) (a0_at X b x0 x2 x4 hG) (k0_at X b x0 x2 x4 hG) (v0_at X b x0 x2 x4 hG)]
  simp only [s0_at]
  rfl

theorem Y0_at (t d : Fin 128) :
    k0_pay69 (F := Ideal) (g0 x0) (headO (q0 x0) (a0 x0 x2 x4) (k0 x0 x2) (s0 st) (v0 x0))
        (View.ld x3 (Rect.unit ![0, 0] ![1, 128] inb_S1x512_S1x128_0_0)) (ix3 0 t d)
      = yEl (x0 (ix3 0 t (colg (colw 0 d)))) (fun e => oB X b st 0 t e) d (x3 (ix2 0 (colw 0 d))) := by
  rw [yP]
  simp only [O0_at X b x0 x2 x4 st hG]
  congr 1
  · pointwise [k0_pay17]
    exact congrArg (fun j => x0 (ix3 0 t j)) (Fin.ext (by simp [colg, colw]; try omega))
  · pointwise
    exact congrArg (fun j => x3 (ix2 0 j)) (Fin.ext (by simp [colw]))

/-! Head 1. -/

abbrev q1 : FVec Ideal S128x128 .f32 := k0_pay15 (View.ld x0 (Rect.unit ![0, 0, 128] ![1, 128, 128] inb_S1x128x2048_S1x128x128_0_0_128))
abbrev v1 : FVec Ideal S128x128 .bf16 := k0_pay16 (View.ld x0 (Rect.unit ![0, 0, 1152] ![1, 128, 128] inb_S1x128x2048_S1x128x128_0_0_1152))
abbrev g1 : FVec Ideal S128x128 .f32 := k0_pay17 (View.ld x0 (Rect.unit ![0, 0, 1664] ![1, 128, 128] inb_S1x128x2048_S1x128x128_0_0_1664))
abbrev a1 : FVec Ideal S128x128 .f32 := extractStridedSlice S128x128 ![0, 128] (a14 x0 x2 x4) slices_S128x512_o0_128_S128x128
abbrev k1 : FVec Ideal S128x128 .f32 := extractStridedSlice S128x128 ![0, 128] (k0_pay7 (fx x0) (lx x2)) slices_S128x512_o0_128_S128x128
abbrev s1 : FVec Ideal S128x128 .f32 := k0_pay20 (View.ld st (Rect.unit ![0, 1, 0, 0] ![1, 1, 128, 128] inb_S1x4x128x128_S1x1x128x128_0_1_0_0))

theorem q1_at (t c : Fin 128) : q1 x0 (ix2 t c) = (X t (colq 1 c) : EReal) := by
  pointwise [k0_pay15]
  exact (congrArg (fun j => x0 (ix3 0 t j)) (Fin.ext (by simp [colq]))).trans (hG.hx t (colq 1 c) (by have := c.isLt; simp [colq]; omega))
theorem v1_at (t c : Fin 128) : v1 x0 (ix2 t c) = (X t (colv 1 c) : EReal) := by
  pointwise [k0_pay16]
  exact (congrArg (fun j => x0 (ix3 0 t j)) (Fin.ext (by simp [colv]))).trans (hG.hx t (colv 1 c) (by have := c.isLt; simp [colv]; omega))
theorem a1_at (t c : Fin 128) : a1 x0 x2 x4 (ix2 t c) = (AB X b 1 t c : EReal) := by
  refine Eq.trans ?_ (a14_at X b x0 x2 x4 hG 1 t c)
  pointwise
  exact congrArg (fun j => a14 x0 x2 x4 (ix2 t j)) (Fin.ext (by simp [colw]))
theorem k1_at (t c : Fin 128) : k1 x0 x2 (ix2 t c) = (KB X b 1 t c : EReal) := by
  refine Eq.trans ?_ (k7_at X b x0 x2 x4 hG 1 t c)
  pointwise
  exact congrArg (fun j => k0_pay7 (F := Ideal) (fx x0) (lx x2) (ix2 t j)) (Fin.ext (by simp [colw]))
omit hG in
theorem s1_at (d c : Fin 128) : s1 st (ix2 d c) = st (ix4 0 1 d c) := by
  pointwise [k0_pay20]

theorem S1_at (d c : Fin 128) : k0_pay68 (F := Ideal) (k0_pay67 (v1 x0) (a1 x0 x2 x4) (k1 x0 x2) (s1 st)) (ix4 0 0 d c) = sB X b st 1 d c := by
  have e : k0_pay68 (F := Ideal) (k0_pay67 (v1 x0) (a1 x0 x2 x4) (k1 x0 x2) (s1 st)) (ix4 0 0 d c)
      = k0_pay67 (F := Ideal) (v1 x0) (a1 x0 x2 x4) (k1 x0 x2) (s1 st) (ix2 d c) := by
    pointwise [k0_pay68]
  rw [e, headSt_at _ _ _ _ _ _ _ (a1_at X b x0 x2 x4 hG) (k1_at X b x0 x2 x4 hG) (v1_at X b x0 x2 x4 hG), s1_at]
  rfl

theorem O1_at (t d : Fin 128) : headO (q1 x0) (a1 x0 x2 x4) (k1 x0 x2) (s1 st) (v1 x0) (ix2 t d) = oB X b st 1 t d := by
  rw [headO_at _ _ _ _ _ _ _ _ _ (q1_at X b x0 x2 x4 hG) (a1_at X b x0 x2 x4 hG) (k1_at X b x0 x2 x4 hG) (v1_at X b x0 x2 x4 hG)]
  simp only [s1_at]
  rfl

theorem Y1_at (t d : Fin 128) :
    k0_pay69 (F := Ideal) (g1 x0) (headO (q1 x0) (a1 x0 x2 x4) (k1 x0 x2) (s1 st) (v1 x0))
        (View.ld x3 (Rect.unit ![0, 128] ![1, 128] inb_S1x512_S1x128_0_128)) (ix3 0 t d)
      = yEl (x0 (ix3 0 t (colg (colw 1 d)))) (fun e => oB X b st 1 t e) d (x3 (ix2 0 (colw 1 d))) := by
  rw [yP]
  simp only [O1_at X b x0 x2 x4 st hG]
  congr 1
  · pointwise [k0_pay17]
    exact congrArg (fun j => x0 (ix3 0 t j)) (Fin.ext (by simp [colg, colw]; try omega))
  · pointwise
    exact congrArg (fun j => x3 (ix2 0 j)) (Fin.ext (by simp [colw]))

/-! Head 2. -/

abbrev q2 : FVec Ideal S128x128 .f32 := k0_pay15 (View.ld x0 (Rect.unit ![0, 0, 256] ![1, 128, 128] inb_S1x128x2048_S1x128x128_0_0_256))
abbrev v2 : FVec Ideal S128x128 .bf16 := k0_pay16 (View.ld x0 (Rect.unit ![0, 0, 1280] ![1, 128, 128] inb_S1x128x2048_S1x128x128_0_0_1280))
abbrev g2 : FVec Ideal S128x128 .f32 := k0_pay17 (View.ld x0 (Rect.unit ![0, 0, 1792] ![1, 128, 128] inb_S1x128x2048_S1x128x128_0_0_1792))
abbrev a2 : FVec Ideal S128x128 .f32 := extractStridedSlice S128x128 ![0, 256] (a14 x0 x2 x4) slices_S128x512_o0_256_S128x128
abbrev k2 : FVec Ideal S128x128 .f32 := extractStridedSlice S128x128 ![0, 256] (k0_pay7 (fx x0) (lx x2)) slices_S128x512_o0_256_S128x128
abbrev s2 : FVec Ideal S128x128 .f32 := k0_pay20 (View.ld st (Rect.unit ![0, 2, 0, 0] ![1, 1, 128, 128] inb_S1x4x128x128_S1x1x128x128_0_2_0_0))

theorem q2_at (t c : Fin 128) : q2 x0 (ix2 t c) = (X t (colq 2 c) : EReal) := by
  pointwise [k0_pay15]
  exact (congrArg (fun j => x0 (ix3 0 t j)) (Fin.ext (by simp [colq]))).trans (hG.hx t (colq 2 c) (by have := c.isLt; simp [colq]; omega))
theorem v2_at (t c : Fin 128) : v2 x0 (ix2 t c) = (X t (colv 2 c) : EReal) := by
  pointwise [k0_pay16]
  exact (congrArg (fun j => x0 (ix3 0 t j)) (Fin.ext (by simp [colv]))).trans (hG.hx t (colv 2 c) (by have := c.isLt; simp [colv]; omega))
theorem a2_at (t c : Fin 128) : a2 x0 x2 x4 (ix2 t c) = (AB X b 2 t c : EReal) := by
  refine Eq.trans ?_ (a14_at X b x0 x2 x4 hG 2 t c)
  pointwise
  exact congrArg (fun j => a14 x0 x2 x4 (ix2 t j)) (Fin.ext (by simp [colw]))
theorem k2_at (t c : Fin 128) : k2 x0 x2 (ix2 t c) = (KB X b 2 t c : EReal) := by
  refine Eq.trans ?_ (k7_at X b x0 x2 x4 hG 2 t c)
  pointwise
  exact congrArg (fun j => k0_pay7 (F := Ideal) (fx x0) (lx x2) (ix2 t j)) (Fin.ext (by simp [colw]))
omit hG in
theorem s2_at (d c : Fin 128) : s2 st (ix2 d c) = st (ix4 0 2 d c) := by
  pointwise [k0_pay20]

theorem S2_at (d c : Fin 128) : k0_pay68 (F := Ideal) (k0_pay67 (v2 x0) (a2 x0 x2 x4) (k2 x0 x2) (s2 st)) (ix4 0 0 d c) = sB X b st 2 d c := by
  have e : k0_pay68 (F := Ideal) (k0_pay67 (v2 x0) (a2 x0 x2 x4) (k2 x0 x2) (s2 st)) (ix4 0 0 d c)
      = k0_pay67 (F := Ideal) (v2 x0) (a2 x0 x2 x4) (k2 x0 x2) (s2 st) (ix2 d c) := by
    pointwise [k0_pay68]
  rw [e, headSt_at _ _ _ _ _ _ _ (a2_at X b x0 x2 x4 hG) (k2_at X b x0 x2 x4 hG) (v2_at X b x0 x2 x4 hG), s2_at]
  rfl

theorem O2_at (t d : Fin 128) : headO (q2 x0) (a2 x0 x2 x4) (k2 x0 x2) (s2 st) (v2 x0) (ix2 t d) = oB X b st 2 t d := by
  rw [headO_at _ _ _ _ _ _ _ _ _ (q2_at X b x0 x2 x4 hG) (a2_at X b x0 x2 x4 hG) (k2_at X b x0 x2 x4 hG) (v2_at X b x0 x2 x4 hG)]
  simp only [s2_at]
  rfl

theorem Y2_at (t d : Fin 128) :
    k0_pay69 (F := Ideal) (g2 x0) (headO (q2 x0) (a2 x0 x2 x4) (k2 x0 x2) (s2 st) (v2 x0))
        (View.ld x3 (Rect.unit ![0, 256] ![1, 128] inb_S1x512_S1x128_0_256)) (ix3 0 t d)
      = yEl (x0 (ix3 0 t (colg (colw 2 d)))) (fun e => oB X b st 2 t e) d (x3 (ix2 0 (colw 2 d))) := by
  rw [yP]
  simp only [O2_at X b x0 x2 x4 st hG]
  congr 1
  · pointwise [k0_pay17]
    exact congrArg (fun j => x0 (ix3 0 t j)) (Fin.ext (by simp [colg, colw]; try omega))
  · pointwise
    exact congrArg (fun j => x3 (ix2 0 j)) (Fin.ext (by simp [colw]))

/-! Head 3. -/

abbrev q3 : FVec Ideal S128x128 .f32 := k0_pay15 (View.ld x0 (Rect.unit ![0, 0, 384] ![1, 128, 128] inb_S1x128x2048_S1x128x128_0_0_384))
abbrev v3 : FVec Ideal S128x128 .bf16 := k0_pay16 (View.ld x0 (Rect.unit ![0, 0, 1408] ![1, 128, 128] inb_S1x128x2048_S1x128x128_0_0_1408))
abbrev g3 : FVec Ideal S128x128 .f32 := k0_pay17 (View.ld x0 (Rect.unit ![0, 0, 1920] ![1, 128, 128] inb_S1x128x2048_S1x128x128_0_0_1920))
abbrev a3 : FVec Ideal S128x128 .f32 := extractStridedSlice S128x128 ![0, 384] (a14 x0 x2 x4) slices_S128x512_o0_384_S128x128
abbrev k3 : FVec Ideal S128x128 .f32 := extractStridedSlice S128x128 ![0, 384] (k0_pay7 (fx x0) (lx x2)) slices_S128x512_o0_384_S128x128
abbrev s3 : FVec Ideal S128x128 .f32 := k0_pay20 (View.ld st (Rect.unit ![0, 3, 0, 0] ![1, 1, 128, 128] inb_S1x4x128x128_S1x1x128x128_0_3_0_0))

theorem q3_at (t c : Fin 128) : q3 x0 (ix2 t c) = (X t (colq 3 c) : EReal) := by
  pointwise [k0_pay15]
  exact (congrArg (fun j => x0 (ix3 0 t j)) (Fin.ext (by simp [colq]))).trans (hG.hx t (colq 3 c) (by have := c.isLt; simp [colq]; omega))
theorem v3_at (t c : Fin 128) : v3 x0 (ix2 t c) = (X t (colv 3 c) : EReal) := by
  pointwise [k0_pay16]
  exact (congrArg (fun j => x0 (ix3 0 t j)) (Fin.ext (by simp [colv]))).trans (hG.hx t (colv 3 c) (by have := c.isLt; simp [colv]; omega))
theorem a3_at (t c : Fin 128) : a3 x0 x2 x4 (ix2 t c) = (AB X b 3 t c : EReal) := by
  refine Eq.trans ?_ (a14_at X b x0 x2 x4 hG 3 t c)
  pointwise
  exact congrArg (fun j => a14 x0 x2 x4 (ix2 t j)) (Fin.ext (by simp [colw]))
theorem k3_at (t c : Fin 128) : k3 x0 x2 (ix2 t c) = (KB X b 3 t c : EReal) := by
  refine Eq.trans ?_ (k7_at X b x0 x2 x4 hG 3 t c)
  pointwise
  exact congrArg (fun j => k0_pay7 (F := Ideal) (fx x0) (lx x2) (ix2 t j)) (Fin.ext (by simp [colw]))
omit hG in
theorem s3_at (d c : Fin 128) : s3 st (ix2 d c) = st (ix4 0 3 d c) := by
  pointwise [k0_pay20]

theorem S3_at (d c : Fin 128) : k0_pay68 (F := Ideal) (k0_pay67 (v3 x0) (a3 x0 x2 x4) (k3 x0 x2) (s3 st)) (ix4 0 0 d c) = sB X b st 3 d c := by
  have e : k0_pay68 (F := Ideal) (k0_pay67 (v3 x0) (a3 x0 x2 x4) (k3 x0 x2) (s3 st)) (ix4 0 0 d c)
      = k0_pay67 (F := Ideal) (v3 x0) (a3 x0 x2 x4) (k3 x0 x2) (s3 st) (ix2 d c) := by
    pointwise [k0_pay68]
  rw [e, headSt_at _ _ _ _ _ _ _ (a3_at X b x0 x2 x4 hG) (k3_at X b x0 x2 x4 hG) (v3_at X b x0 x2 x4 hG), s3_at]
  rfl

theorem O3_at (t d : Fin 128) : headO (q3 x0) (a3 x0 x2 x4) (k3 x0 x2) (s3 st) (v3 x0) (ix2 t d) = oB X b st 3 t d := by
  rw [headO_at _ _ _ _ _ _ _ _ _ (q3_at X b x0 x2 x4 hG) (a3_at X b x0 x2 x4 hG) (k3_at X b x0 x2 x4 hG) (v3_at X b x0 x2 x4 hG)]
  simp only [s3_at]
  rfl

theorem Y3_at (t d : Fin 128) :
    k0_pay69 (F := Ideal) (g3 x0) (headO (q3 x0) (a3 x0 x2 x4) (k3 x0 x2) (s3 st) (v3 x0))
        (View.ld x3 (Rect.unit ![0, 384] ![1, 128] inb_S1x512_S1x128_0_384)) (ix3 0 t d)
      = yEl (x0 (ix3 0 t (colg (colw 3 d)))) (fun e => oB X b st 3 t e) d (x3 (ix2 0 (colw 3 d))) := by
  rw [yP]
  simp only [O3_at X b x0 x2 x4 st hG]
  congr 1
  · pointwise [k0_pay17]
    exact congrArg (fun j => x0 (ix3 0 t j)) (Fin.ext (by simp [colg, colw]; try omega))
  · pointwise
    exact congrArg (fun j => x3 (ix2 0 j)) (Fin.ext (by simp [colw]))

end Block

end Cert.Kernel10Ideal.Hg

end
-- ==== Proof.HgrnBody.lean ====
/-
  THE BODY OF THE GATED RECURRENCE: what it leaves in the output's block and in the state's, in both cases: the first chunk
  of a sequence starts from the given state, a later one from what the chunk before left.
-/
module

public import proofs.«01_k».proof.Proof.Hgrn
public import Idealize.ShloMosaic.Lib.Pipeline.ReadBack

@[expose] public section

set_option maxRecDepth 16384

noncomputable section

open Idealize.ShloMosaic Idealize.ShloMosaic.TcCoe Idealize.SL.Sem

namespace Cert.Kernel10Ideal.Hg

open Cert.Kernel10Ideal Cert.Kernel10Ideal.Gen

theorem exists4 (x : S1x1x128x128.Idx) : ∃ d c : Fin 128, x = ix4 0 0 d c :=
  ⟨x 2, x 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩

theorem exists3 (x : S1x128x128.Idx) : ∃ t d : Fin 128, x = ix3 0 t d :=
  ⟨x 1, x 2, by
    funext a
    match a with
    | ⟨0, _⟩ => exact Subsingleton.elim (α := Fin 1) _ _
    | ⟨1, _⟩ => rfl
    | ⟨2, _⟩ => rfl⟩

theorem sB_congr (X : Fin 128 → Fin 2048 → ℝ) (b : Fin 512 → ℝ) (st : Vec Ideal S1x4x128x128 .f32) (h h' : Fin 4) (d d' c c' : Fin 128)
    (e1 : h = h') (e2 : d = d') (e3 : c = c') : sB X b st h d c = sB X b st h' d' c' := by rw [e1, e2, e3]

theorem G5_at (X : Fin 128 → Fin 2048 → ℝ) (b : Fin 512 → ℝ) (x0 : Vec Ideal S1x128x2048 .f32) (x3 : Vec Ideal S1x512 .f32)
    (st : Vec Ideal S1x4x128x128 .f32) (y : S1x128x512.Idx) (h : Fin 4) (t d : Fin 128) (e1 : y 1 = t) (e2 : y 2 = colw h d) :
    yEl (x0 (ix3 0 t (colg (colw h d)))) (fun e => oB X b st h t e) d (x3 (ix2 0 (colw h d))) = G5 X b x0 x3 st y := by
  unfold G5
  have := d.isLt
  have a1 : (⟨(colw h d).val / 128, by have := (colw h d).isLt; omega⟩ : Fin 4) = h :=
    Fin.ext (by simp only [colw]; omega)
  have a2 : (⟨(colw h d).val % 128, by omega⟩ : Fin 128) = d :=
    Fin.ext (by simp only [colw]; omega)
  simp only [e1, e2, a1, a2]

theorem out_B6 (c : Dev nD) (i : grid0.Coords) (arg2 : Memref sig .tc .vmem S1x128x2048 .f32) (harg2 : arg2.IsWhole) (arg3 : Memref sig .tc .vmem S1x4x128x128 .f32) (harg3 : arg3.IsWhole)
  (arg4 : Memref sig .tc .vmem S1x512 .f32) (harg4 : arg4.IsWhole) (arg5 : Memref sig .tc .vmem S1x512 .f32) (harg5 : arg5.IsWhole) (arg6 : Memref sig .tc .vmem S128x128 .bf16) (harg6 : arg6.IsWhole)
  (arg7 : Memref sig .tc .vmem S1x128x512 .bf16) (harg7 : arg7.IsWhole) (arg8 : Memref sig .tc .vmem S1x4x128x128 .f32) (harg8 : arg8.IsWhole)
  (X : Fin 128 → Fin 2048 → ℝ) (b : Fin 512 → ℝ) (x0 : Vec Ideal S1x128x2048 .f32) (x1 : Vec Ideal S1x4x128x128 .f32) (x2 : Vec Ideal S1x512 .f32)
  (x3 : Vec Ideal S1x512 .f32) (x4 : Vec Ideal S128x128 .bf16) (xo6 : Vec Ideal S1x4x128x128 .f32) (hG : Good X b x0 x2 x4) (hc : ¬cond0_0 i) :
    out0_B_6 c i arg2 harg2 arg3 harg3 arg4 harg4 arg5 harg5 arg6 harg6 arg7 harg7 arg8 harg8 hc x0 x1 x2 x3 x4 xo6 = G6 X b xo6 := by
  have hz : (![0, 0, 0, 0] : Fin 4 → Nat) = fun _ => 0 := funext fun a => by fin_cases a <;> rfl
  funext y
  have hcov := cover0_B_6 c i arg2 harg2 arg3 harg3 arg4 harg4 arg5 harg5 arg6 harg6 arg7 harg7 arg8 harg8 hc x0 x1 x2 x3 x4 xo6
  unfold out0_B_6
  rw [View.read_writes_eq_canon _ _ _ hcov]
  refine View.canon_apply_of_pieces (G6 X b xo6) _ ?_ y (hcov y)
  unfold kernelRun0_B
  dsimp only
  sl_unfold_words
  simp only [View.readAt_eq_ld, harg2.read_unread, harg3.read_unread, harg4.read_unread, harg5.read_unread, harg6.read_unread, harg8.read_unread]
  simp only [List.forall_mem_cons, List.forall_mem_nil, List.not_mem_nil, false_imp_iff, implies_true, and_true]
  refine ⟨fun x => ?_, fun x => ?_, fun x => ?_, fun x => ?_⟩
  · obtain ⟨d, c', rfl⟩ := exists4 x
    refine (S3_at X b x0 x2 x4 xo6 hG d c').trans ?_
    exact sB_congr _ _ _ _ _ _ _ _ _ (Fin.ext (by show 3 = 3 + 1 * 0; omega)) (Fin.ext (by show d.val = 0 + 1 * d.val; omega)) (Fin.ext (by show c'.val = 0 + 1 * c'.val; omega))
  · obtain ⟨d, c', rfl⟩ := exists4 x
    refine (S2_at X b x0 x2 x4 xo6 hG d c').trans ?_
    exact sB_congr _ _ _ _ _ _ _ _ _ (Fin.ext (by show 2 = 2 + 1 * 0; omega)) (Fin.ext (by show d.val = 0 + 1 * d.val; omega)) (Fin.ext (by show c'.val = 0 + 1 * c'.val; omega))
  · obtain ⟨d, c', rfl⟩ := exists4 x
    refine (S1_at X b x0 x2 x4 xo6 hG d c').trans ?_
    exact sB_congr _ _ _ _ _ _ _ _ _ (Fin.ext (by show 1 = 1 + 1 * 0; omega)) (Fin.ext (by show d.val = 0 + 1 * d.val; omega)) (Fin.ext (by show c'.val = 0 + 1 * c'.val; omega))
  · obtain ⟨d, c', rfl⟩ := exists4 x
    refine (S0_at X b x0 x2 x4 xo6 hG d c').trans ?_
    exact sB_congr _ _ _ _ _ _ _ _ _ (Fin.ext (by show 0 = 0 + 1 * 0; omega)) (Fin.ext (by show d.val = 0 + 1 * d.val; omega)) (Fin.ext (by show c'.val = 0 + 1 * c'.val; omega))

theorem out_B5 (c : Dev nD) (i : grid0.Coords) (arg2 : Memref sig .tc .vmem S1x128x2048 .f32) (harg2 : arg2.IsWhole) (arg3 : Memref sig .tc .vmem S1x4x128x128 .f32) (harg3 : arg3.IsWhole)
  (arg4 : Memref sig .tc .vmem S1x512 .f32) (harg4 : arg4.IsWhole) (arg5 : Memref sig .tc .vmem S1x512 .f32) (harg5 : arg5.IsWhole) (arg6 : Memref sig .tc .vmem S128x128 .bf16) (harg6 : arg6.IsWhole)
  (arg7 : Memref sig .tc .vmem S1x128x512 .bf16) (harg7 : arg7.IsWhole) (arg8 : Memref sig .tc .vmem S1x4x128x128 .f32) (harg8 : arg8.IsWhole)
  (X : Fin 128 → Fin 2048 → ℝ) (b : Fin 512 → ℝ) (x0 : Vec Ideal S1x128x2048 .f32) (x1 : Vec Ideal S1x4x128x128 .f32) (x2 : Vec Ideal S1x512 .f32)
  (x3 : Vec Ideal S1x512 .f32) (x4 : Vec Ideal S128x128 .bf16) (xo6 : Vec Ideal S1x4x128x128 .f32) (hG : Good X b x0 x2 x4) (hc : ¬cond0_0 i) :
    out0_B_5 c i arg2 harg2 arg3 harg3 arg4 harg4 arg5 harg5 arg6 harg6 arg7 harg7 arg8 harg8 hc x0 x1 x2 x3 x4 xo6 = G5 X b x0 x3 xo6 := by
  have hz : (![0, 0, 0, 0] : Fin 4 → Nat) = fun _ => 0 := funext fun a => by fin_cases a <;> rfl
  funext y
  have hcov := cover0_B_5 c i arg2 harg2 arg3 harg3 arg4 harg4 arg5 harg5 arg6 harg6 arg7 harg7 arg8 harg8 hc x0 x1 x2 x3 x4 xo6
  unfold out0_B_5
  rw [View.read_writes_eq_canon _ _ _ hcov]
  refine View.canon_apply_of_pieces (G5 X b x0 x3 xo6) _ ?_ y (hcov y)
  unfold kernelRun0_B
  dsimp only
  sl_unfold_words
  simp only [View.readAt_eq_ld, harg2.read_unread, harg3.read_unread, harg4.read_unread, harg5.read_unread, harg6.read_unread, harg8.read_unread]
  simp only [List.forall_mem_cons, List.forall_mem_nil, List.not_mem_nil, false_imp_iff, implies_true, and_true]
  refine ⟨fun x => ?_, fun x => ?_, fun x => ?_, fun x => ?_⟩
  · obtain ⟨t, d, rfl⟩ := exists3 x
    refine (Y3_at X b x0 x2 x3 x4 xo6 hG t d).trans ?_
    exact G5_at _ _ _ _ _ _ 3 t d (Fin.ext (by show 0 + 1 * t.val = t.val; omega)) (Fin.ext (by show 384 + 1 * d.val = 128 * 3 + d.val; omega))
  · obtain ⟨t, d, rfl⟩ := exists3 x
    refine (Y2_at X b x0 x2 x3 x4 xo6 hG t d).trans ?_
    exact G5_at _ _ _ _ _ _ 2 t d (Fin.ext (by show 0 + 1 * t.val = t.val; omega)) (Fin.ext (by show 256 + 1 * d.val = 128 * 2 + d.val; omega))
  · obtain ⟨t, d, rfl⟩ := exists3 x
    refine (Y1_at X b x0 x2 x3 x4 xo6 hG t d).trans ?_
    exact G5_at _ _ _ _ _ _ 1 t d (Fin.ext (by show 0 + 1 * t.val = t.val; omega)) (Fin.ext (by show 128 + 1 * d.val = 128 * 1 + d.val; omega))
  · obtain ⟨t, d, rfl⟩ := exists3 x
    refine (Y0_at X b x0 x2 x3 x4 xo6 hG t d).trans ?_
    exact G5_at _ _ _ _ _ _ 0 t d (Fin.ext (by show 0 + 1 * t.val = t.val; omega)) (Fin.ext (by show 0 + 1 * d.val = 128 * 0 + d.val; omega))

theorem out_A5 (c : Dev nD) (i : grid0.Coords) (arg2 : Memref sig .tc .vmem S1x128x2048 .f32) (harg2 : arg2.IsWhole) (arg3 : Memref sig .tc .vmem S1x4x128x128 .f32) (harg3 : arg3.IsWhole)
  (arg4 : Memref sig .tc .vmem S1x512 .f32) (harg4 : arg4.IsWhole) (arg5 : Memref sig .tc .vmem S1x512 .f32) (harg5 : arg5.IsWhole) (arg6 : Memref sig .tc .vmem S128x128 .bf16) (harg6 : arg6.IsWhole)
  (arg7 : Memref sig .tc .vmem S1x128x512 .bf16) (harg7 : arg7.IsWhole) (arg8 : Memref sig .tc .vmem S1x4x128x128 .f32) (harg8 : arg8.IsWhole)
  (X : Fin 128 → Fin 2048 → ℝ) (b : Fin 512 → ℝ) (x0 : Vec Ideal S1x128x2048 .f32) (x1 : Vec Ideal S1x4x128x128 .f32) (x2 : Vec Ideal S1x512 .f32)
  (x3 : Vec Ideal S1x512 .f32) (x4 : Vec Ideal S128x128 .bf16) (xo6 : Vec Ideal S1x4x128x128 .f32) (hG : Good X b x0 x2 x4) (hc : cond0_0 i) :
    out0_A_5 c i arg2 harg2 arg3 harg3 arg4 harg4 arg5 harg5 arg6 harg6 arg7 harg7 arg8 harg8 hc x0 x1 x2 x3 x4 = G5 X b x0 x3 x1 := by
  have hz : (![0, 0, 0, 0] : Fin 4 → Nat) = fun _ => 0 := funext fun a => by fin_cases a <;> rfl
  funext y
  have hcov := cover0_A_5 c i arg2 harg2 arg3 harg3 arg4 harg4 arg5 harg5 arg6 harg6 arg7 harg7 arg8 harg8 hc x0 x1 x2 x3 x4
  unfold out0_A_5
  rw [View.read_writes_eq_canon _ _ _ hcov]
  refine View.canon_apply_of_pieces (G5 X b x0 x3 x1) _ ?_ y (hcov y)
  unfold kernelRun0_A
  dsimp only
  sl_unfold_words
  simp only [View.readAt_eq_ld, harg2.read_unread, harg3.read_unread, harg4.read_unread, harg5.read_unread, harg6.read_unread, harg8.read_unread]
  simp (disch := decide) only [View.readCov_skip, View.readCov_fill]
  have hw : View.ld x1 (Rect.unit ![0, 0, 0, 0] ![1, 4, 128, 128] inb_S1x4x128x128_S1x4x128x128_0_0_0_0) = x1 := View.ld_unit_zero (S := S1x4x128x128) hz _ x1
  simp only [hw]
  simp only [List.forall_mem_cons, List.forall_mem_nil, List.not_mem_nil, false_imp_iff, implies_true, and_true]
  refine ⟨fun x => ?_, fun x => ?_, fun x => ?_, fun x => ?_⟩
  · obtain ⟨t, d, rfl⟩ := exists3 x
    refine (Y3_at X b x0 x2 x3 x4 x1 hG t d).trans ?_
    exact G5_at _ _ _ _ _ _ 3 t d (Fin.ext (by show 0 + 1 * t.val = t.val; omega)) (Fin.ext (by show 384 + 1 * d.val = 128 * 3 + d.val; omega))
  · obtain ⟨t, d, rfl⟩ := exists3 x
    refine (Y2_at X b x0 x2 x3 x4 x1 hG t d).trans ?_
    exact G5_at _ _ _ _ _ _ 2 t d (Fin.ext (by show 0 + 1 * t.val = t.val; omega)) (Fin.ext (by show 256 + 1 * d.val = 128 * 2 + d.val; omega))
  · obtain ⟨t, d, rfl⟩ := exists3 x
    refine (Y1_at X b x0 x2 x3 x4 x1 hG t d).trans ?_
    exact G5_at _ _ _ _ _ _ 1 t d (Fin.ext (by show 0 + 1 * t.val = t.val; omega)) (Fin.ext (by show 128 + 1 * d.val = 128 * 1 + d.val; omega))
  · obtain ⟨t, d, rfl⟩ := exists3 x
    refine (Y0_at X b x0 x2 x3 x4 x1 hG t d).trans ?_
    exact G5_at _ _ _ _ _ _ 0 t d (Fin.ext (by show 0 + 1 * t.val = t.val; omega)) (Fin.ext (by show 0 + 1 * d.val = 128 * 0 + d.val; omega))

theorem out_A6 (c : Dev nD) (i : grid0.Coords) (arg2 : Memref sig .tc .vmem S1x128x2048 .f32) (harg2 : arg2.IsWhole) (arg3 : Memref sig .tc .vmem S1x4x128x128 .f32) (harg3 : arg3.IsWhole)
  (arg4 : Memref sig .tc .vmem S1x512 .f32) (harg4 : arg4.IsWhole) (arg5 : Memref sig .tc .vmem S1x512 .f32) (harg5 : arg5.IsWhole) (arg6 : Memref sig .tc .vmem S128x128 .bf16) (harg6 : arg6.IsWhole)
  (arg7 : Memref sig .tc .vmem S1x128x512 .bf16) (harg7 : arg7.IsWhole) (arg8 : Memref sig .tc .vmem S1x4x128x128 .f32) (harg8 : arg8.IsWhole)
  (X : Fin 128 → Fin 2048 → ℝ) (b : Fin 512 → ℝ) (x0 : Vec Ideal S1x128x2048 .f32) (x1 : Vec Ideal S1x4x128x128 .f32) (x2 : Vec Ideal S1x512 .f32)
  (x3 : Vec Ideal S1x512 .f32) (x4 : Vec Ideal S128x128 .bf16) (xo6 : Vec Ideal S1x4x128x128 .f32) (hG : Good X b x0 x2 x4) (hc : cond0_0 i) :
    out0_A_6 c i arg2 harg2 arg3 harg3 arg4 harg4 arg5 harg5 arg6 harg6 arg7 harg7 arg8 harg8 hc x0 x1 x2 x3 x4 = G6 X b x1 := by
  have hz : (![0, 0, 0, 0] : Fin 4 → Nat) = fun _ => 0 := funext fun a => by fin_cases a <;> rfl
  funext y
  have hcov := cover0_A_6 c i arg2 harg2 arg3 harg3 arg4 harg4 arg5 harg5 arg6 harg6 arg7 harg7 arg8 harg8 hc x0 x1 x2 x3 x4
  unfold out0_A_6
  rw [View.read_writes_eq_canon _ _ _ hcov]
  unfold kernelRun0_A
  dsimp only
  sl_unfold_words
  simp only [View.readAt_eq_ld, harg2.read_unread, harg3.read_unread, harg4.read_unread, harg5.read_unread, harg6.read_unread, harg8.read_unread]
  simp (disch := decide) only [View.readCov_skip, View.readCov_fill]
  have hw : View.ld x1 (Rect.unit ![0, 0, 0, 0] ![1, 4, 128, 128] inb_S1x4x128x128_S1x4x128x128_0_0_0_0) = x1 := View.ld_unit_zero (S := S1x4x128x128) hz _ x1
  simp only [hw]
  refine View.canon_append_of_piecesOf (G6 X b x1) [_] [_, _, _, _] ?_ y ?_
  swap
  · exact View.cover_of_tiledBy (s := S1x4x128x128) _ ![1, 1, 128, 128] (by sl_kernel_rfl) y
  unfold View.PiecesOf View.PiecesOf View.PiecesOf View.PiecesOf View.PiecesOf
  refine ⟨fun x => ?_, fun x => ?_, fun x => ?_, fun x => ?_, trivial⟩
  · obtain ⟨d, c', rfl⟩ := exists4 x
    refine (S3_at X b x0 x2 x4 x1 hG d c').trans ?_
    exact sB_congr _ _ _ _ _ _ _ _ _ (Fin.ext (by show 3 = 3 + 1 * 0; omega)) (Fin.ext (by show d.val = 0 + 1 * d.val; omega)) (Fin.ext (by show c'.val = 0 + 1 * c'.val; omega))
  · obtain ⟨d, c', rfl⟩ := exists4 x
    refine (S2_at X b x0 x2 x4 x1 hG d c').trans ?_
    exact sB_congr _ _ _ _ _ _ _ _ _ (Fin.ext (by show 2 = 2 + 1 * 0; omega)) (Fin.ext (by show d.val = 0 + 1 * d.val; omega)) (Fin.ext (by show c'.val = 0 + 1 * c'.val; omega))
  · obtain ⟨d, c', rfl⟩ := exists4 x
    refine (S1_at X b x0 x2 x4 x1 hG d c').trans ?_
    exact sB_congr _ _ _ _ _ _ _ _ _ (Fin.ext (by show 1 = 1 + 1 * 0; omega)) (Fin.ext (by show d.val = 0 + 1 * d.val; omega)) (Fin.ext (by show c'.val = 0 + 1 * c'.val; omega))
  · obtain ⟨d, c', rfl⟩ := exists4 x
    refine (S0_at X b x0 x2 x4 x1 hG d c').trans ?_
    exact sB_congr _ _ _ _ _ _ _ _ _ (Fin.ext (by show 0 = 0 + 1 * 0; omega)) (Fin.ext (by show d.val = 0 + 1 * d.val; omega)) (Fin.ext (by show c'.val = 0 + 1 * c'.val; omega))

end Cert.Kernel10Ideal.Hg

end
-- ==== Proof.HgrnMath.lean ====
/-
  THE GATED RECURRENCE UNROLLED: with the decays' logarithms summed, the state after a number of tokens is the first state times
  the whole decay plus every token's own term times what decayed it since, and a token's output reads that state. A chunk of 128
  tokens, taken over the state before it, gives the unrolled form again.
-/
module

public import Idealize.ShloMosaic.Lib.Pointwise
public import Idealize.ShloMosaic.Lib.Pipeline.Value
public import proofs.«01_k».proof.Proof.Sb

@[expose] public section

noncomputable section

open Idealize.ShloMosaic Finset

namespace Cert.HgrnMath

/-- A real weight over a state that is a decayed extended number plus a real one. -/
theorem wmul (w e x : ℝ) (S : EReal) (he : 0 < e) :
    (w : EReal) * (S * (e : EReal) + (x : EReal)) = ((w * e : ℝ) : EReal) * S + ((w * x : ℝ) : EReal) := by
  induction S using EReal.rec with
  | coe s =>
    rw [← EReal.coe_mul, ← EReal.coe_add, ← EReal.coe_mul, ← EReal.coe_mul, ← EReal.coe_add]
    congr 1; ring
  | top =>
    rw [EReal.top_mul_coe_of_pos he, EReal.top_add_coe]
    rcases lt_trichotomy w 0 with h | h | h
    · rw [EReal.coe_mul_top_of_neg h, EReal.coe_mul_top_of_neg (mul_neg_of_neg_of_pos h he), EReal.bot_add]
    · subst h; simp
    · rw [EReal.coe_mul_top_of_pos h, EReal.coe_mul_top_of_pos (mul_pos h he), EReal.top_add_coe]
  | bot =>
    rw [EReal.bot_mul_coe_of_pos he, EReal.bot_add]
    rcases lt_trichotomy w 0 with h | h | h
    · rw [EReal.coe_mul_bot_of_neg h, EReal.coe_mul_bot_of_neg (mul_neg_of_neg_of_pos h he), EReal.top_add_coe]
    · subst h; simp
    · rw [EReal.coe_mul_bot_of_pos h, EReal.coe_mul_bot_of_pos (mul_pos h he), EReal.bot_add]

/-- A sum to a token's own position in its chunk. -/
theorem sum_le {n : Nat} (f : Nat → ℝ) (t : Fin n) : (∑ s : Fin n, if s ≤ t then f s.val else 0) = ∑ s ∈ range (t.val + 1), f s := by
  have e : (∑ s : Fin n, if s ≤ t then f s.val else 0) = ∑ s ∈ range n, if s ≤ t.val then f s else 0 := by
    rw [Finset.sum_range]
    exact Finset.sum_congr rfl fun s _ => by simp only [Fin.le_def]
  rw [e, ← Finset.sum_filter]
  congr 1
  ext s
  have := t.isLt
  simp only [Finset.mem_filter, Finset.mem_range]
  omega

variable (L K Q V : Nat → Fin 128 → ℝ) (S0 : Fin 128 → Fin 128 → EReal)

/-- The decays' logarithms of the first `n` tokens, summed. -/
def P (n : Nat) (c : Fin 128) : ℝ := ∑ i ∈ range n, L i c

/-- The state after `n` tokens. -/
def U (n : Nat) (d c : Fin 128) : EReal :=
  S0 d c * ((Real.exp (P L n c) : ℝ) : EReal) + ((∑ s ∈ range n, V s d * (K s c * Real.exp (P L n c - P L (s + 1) c)) : ℝ) : EReal)

/-- Token `T`'s output. -/
def O (T : Nat) (d : Fin 128) : EReal :=
  ((∑ s ∈ range (T + 1), (∑ c, Q T c * K s c * Real.exp (P L (T + 1) c - P L (s + 1) c)) * V s d : ℝ) : EReal)
    + ∑ c, ((Q T c * Real.exp (P L (T + 1) c) : ℝ) : EReal) * S0 d c

theorem P_add (n m : Nat) (c : Fin 128) : P L (n + m) c = P L n c + ∑ i ∈ range m, L (n + i) c := by
  unfold P; rw [Finset.sum_range_add]

theorem U_zero (d c : Fin 128) : U L K V S0 0 d c = S0 d c := by
  unfold U P
  simp

/-- A chunk's state from the state before it. -/
theorem U_step (N : Nat) (d c : Fin 128) (A : Fin 128 → ℝ) (hA : ∀ s : Fin 128, A s = P L (N + s.val + 1) c - P L N c) :
    U L K V S0 N d c * ((Real.exp (A 127) : ℝ) : EReal)
      + ((∑ s : Fin 128, V (N + s.val) d * (K (N + s.val) c * Real.exp (A 127 - A s)) : ℝ) : EReal) = U L K V S0 (N + 128) d c := by
  have h127 : A 127 = P L (N + 128) c - P L N c := hA 127
  unfold U
  rw [mul_comm (S0 d c * _ + _), wmul _ _ _ _ (Real.exp_pos _), add_assoc, ← EReal.coe_add, mul_comm (S0 d c)]
  congr 2
  · congr 1
    rw [← Real.exp_add, h127]; congr 1; ring
  · rw [Finset.sum_range_add, Finset.mul_sum, Finset.sum_range (n := 128)]
    congr 1
    · refine Finset.sum_congr rfl fun s _ => ?_
      have : Real.exp (P L (N + 128) c - P L (s + 1) c) = Real.exp (A 127) * Real.exp (P L N c - P L (s + 1) c) := by
        rw [← Real.exp_add, h127]; congr 1; ring
      rw [this]; ring
    · refine Finset.sum_congr rfl fun s _ => ?_
      rw [h127, hA s]
      congr 3; ring

/-- A chunk's outputs from the state before it. -/
theorem O_step (N : Nat) (t d : Fin 128) (A : Fin 128 → Fin 128 → ℝ) (hA : ∀ s c : Fin 128, A s c = P L (N + s.val + 1) c - P L N c) :
    ((∑ s : Fin 128, (if s ≤ t then ∑ c, Q (N + t.val) c * K (N + s.val) c * Real.exp (A t c - A s c) else 0) * V (N + s.val) d : ℝ) : EReal)
      + ∑ c, ((Q (N + t.val) c * Real.exp (A t c) : ℝ) : EReal) * U L K V S0 N d c = O L K Q V S0 (N + t.val) d := by
  have e1 : ∀ c : Fin 128, ((Q (N + t.val) c * Real.exp (A t c) : ℝ) : EReal) * U L K V S0 N d c
      = ((Q (N + t.val) c * Real.exp (P L (N + t.val + 1) c) : ℝ) : EReal) * S0 d c
        + ((Q (N + t.val) c * Real.exp (A t c) * ∑ s ∈ range N, V s d * (K s c * Real.exp (P L N c - P L (s + 1) c)) : ℝ) : EReal) := fun c => by
    unfold U
    rw [wmul _ _ _ _ (Real.exp_pos _)]
    congr 2
    rw [mul_assoc, ← Real.exp_add, hA]
    congr 3; ring
  simp only [e1]
  rw [Finset.sum_add_distrib, Sb.coe_sum, add_comm (∑ c, ((Q (N + t.val) c * Real.exp (P L (N + t.val + 1) c) : ℝ) : EReal) * S0 d c), ← add_assoc, ← EReal.coe_add]
  unfold O
  congr 2
  rw [add_assoc N t.val 1, Finset.sum_range_add, add_comm]
  congr 1
  · rw [← add_assoc]
    simp only [Finset.mul_sum, Finset.sum_mul]
    rw [Finset.sum_comm]
    refine Finset.sum_congr rfl fun s _ => Finset.sum_congr rfl fun c _ => ?_
    have : Real.exp (P L (N + t.val + 1) c - P L (s + 1) c) = Real.exp (A t c) * Real.exp (P L N c - P L (s + 1) c) := by
      rw [← Real.exp_add, hA]; congr 1; ring
    rw [this]; ring
  · rw [← sum_le (n := 128)]
    refine Finset.sum_congr rfl fun s _ => ?_
    by_cases h : s ≤ t
    · rw [if_pos h, if_pos h]
      congr 1
      refine Finset.sum_congr rfl fun c _ => ?_
      rw [hA, hA]
      congr 2
      rw [← add_assoc]; ring
    · rw [if_neg h, if_neg h, zero_mul]

end Cert.HgrnMath

end
-- ==== Proof.HgrnPrompt.lean ====
/-
  THE GATED RECURRENCE OF THE PROMPT: what the kernel's two result arrays hold. Each chunk continues from the state the chunk
  before left in the state's block, so the block holds the unrolled recurrence after every chunk, and the output's blocks hold
  the unrolled outputs, normed and gated.
-/
module

public import proofs.«01_k».proof.Proof.HgrnBody
public import proofs.«01_k».proof.Proof.HgrnMath
public import proofs.«01_k».proof.Proof.Gen.Kernel10Ideal.Value
public import Idealize.ShloMosaic.Lib.Pointwise
public import Idealize.ShloMosaic.Lib.Pipeline.Value
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel10Ideal.Hg

open Cert.Kernel10Ideal Cert.Kernel10Ideal.Gen Cert.HgrnMath

/-! ## The unrolled recurrence of the arrays -/

section arrays
variable (hg : S2x16384x2048.Idx → EReal) (s0t : S2x4x128x128.Idx → EReal) (lb nw : S1x512.Idx → EReal)

/-- Token `n`'s number in column `j`, and each head's decay logarithm, key, query and value. -/
def rr (b : Fin 2) (n : Nat) (j : Fin 2048) : ℝ := (hg (ix3 b ⟨n % 16384, Nat.mod_lt _ (by decide)⟩ j)).toReal
def bb (j : Fin 512) : ℝ := (lb (ix2 0 j)).toReal
def gL (b : Fin 2) (h : Fin 4) (n : Nat) (c : Fin 128) : ℝ := lfR (bb lb (colw h c)) (rr hg b n (colf (colw h c)))
def gK (b : Fin 2) (h : Fin 4) (n : Nat) (c : Fin 128) : ℝ := kkR (bb lb (colw h c)) (rr hg b n (colf (colw h c)))
def gQ (b : Fin 2) (h : Fin 4) (n : Nat) (c : Fin 128) : ℝ := rr hg b n (colq h c)
def gV (b : Fin 2) (h : Fin 4) (n : Nat) (c : Fin 128) : ℝ := rr hg b n (colv h c)
def gS (b : Fin 2) (h : Fin 4) (d c : Fin 128) : EReal := s0t (ix4 b h d c)

/-- The state after `n` tokens and token `n`'s output before the norm. -/
def gU (b : Fin 2) (h : Fin 4) (n : Nat) (d c : Fin 128) : EReal := U (gL hg lb b h) (gK hg lb b h) (gV hg b h) (gS s0t b h) n d c
def gO (b : Fin 2) (h : Fin 4) (n : Nat) (d : Fin 128) : EReal := O (gL hg lb b h) (gK hg lb b h) (gQ hg b h) (gV hg b h) (gS s0t b h) n d

/-- The two results. -/
def yOut : S2x16384x512.Idx → EReal := fun y =>
  yEl (hg (ix3 (y 0) (y 1) (colg (y 2)))) (fun e => gO hg s0t lb (y 0) ⟨(y 2).val / 128, by have := (y 2).isLt; change (y 2).val < 512 at this; omega⟩ (y 1).val e)
    ⟨(y 2).val % 128, by omega⟩ (nw (ix2 0 (y 2)))
def sOut : S2x4x128x128.Idx → EReal := fun y => gU hg s0t lb (y 0) (y 1) 16384 (y 2) (y 3)

/-- What the precondition says of the arrays. -/
structure Fine : Prop where
  fin : ∀ b t (j : Fin 2048), j.val < 1536 → Sb.Fin1 (hg (ix3 b t j))
  l0 : ∀ j, 0 ≤ lb (ix2 0 j)
  l1 : ∀ j, lb (ix2 0 j) ≤ 1

variable {hg lb}

theorem Fine.rr_coe (hF : Fine hg lb) (b : Fin 2) (t : Fin 16384) (j : Fin 2048) (hj : j.val < 1536) : hg (ix3 b t j) = (rr hg b t.val j : EReal) := by
  obtain ⟨r, hr⟩ := hF.fin b t j hj
  have e : (⟨t.val % 16384, Nat.mod_lt _ (by decide)⟩ : Fin 16384) = t := Fin.ext (Nat.mod_eq_of_lt t.isLt)
  unfold rr
  rw [e, hr, EReal.toReal_coe]

theorem Fine.bb_coe (hF : Fine hg lb) (j : Fin 512) : lb (ix2 0 j) = (bb lb j : EReal) :=
  (EReal.coe_toReal (fun h => absurd (hF.l1 j) (by rw [h]; exact not_le.2 (EReal.coe_lt_top 1)))
    (fun h => absurd (hF.l0 j) (by rw [h]; exact not_le.2 EReal.bot_lt_zero))).symm

theorem Fine.bb0 (hF : Fine hg lb) (j : Fin 512) : 0 ≤ bb lb j := by
  have h := hF.l0 j
  rw [hF.bb_coe] at h
  exact_mod_cast h

theorem Fine.bb1 (hF : Fine hg lb) (j : Fin 512) : bb lb j ≤ 1 := by
  have h := hF.l1 j
  rw [hF.bb_coe] at h
  exact_mod_cast h

variable (hg lb)

/-- A chunk's decay logarithms summed are the difference of the whole sums. -/
theorem AB_eq (b : Fin 2) (N : Nat) (h : Fin 4) (t c : Fin 128) :
    AB (fun s j => rr hg b (N + s.val) j) (bb lb) h t c = P (gL hg lb b h) (N + t.val + 1) c - P (gL hg lb b h) N c := by
  unfold AB
  have e := sum_le (fun s => gL hg lb b h (N + s) c) t
  rw [add_assoc N, P_add, add_sub_cancel_left, ← e]
  rfl

/-- A chunk over the unrolled state gives the unrolled state, and the unrolled outputs. -/
theorem G6_eq (b : Fin 2) (N : Nat) (st : Vec Ideal S1x4x128x128 .f32) (hst : ∀ h d c, st (ix4 0 h d c) = gU hg s0t lb b h N d c) (h : Fin 4) (d c : Fin 128) :
    G6 (fun s j => rr hg b (N + s.val) j) (bb lb) st (ix4 0 h d c) = gU hg s0t lb b h (N + 128) d c := by
  show sB _ _ st h d c = _
  unfold sB
  rw [hst]
  exact U_step (gL hg lb b h) (gK hg lb b h) (gV hg b h) (gS s0t b h) N d c
    (fun s => AB (fun s j => rr hg b (N + s.val) j) (bb lb) h s c) (fun s => AB_eq hg lb b N h s c)

theorem oB_eq (b : Fin 2) (N : Nat) (st : Vec Ideal S1x4x128x128 .f32) (hst : ∀ h d c, st (ix4 0 h d c) = gU hg s0t lb b h N d c) (h : Fin 4) (t d : Fin 128) :
    oB (fun s j => rr hg b (N + s.val) j) (bb lb) st h t d = gO hg s0t lb b h (N + t.val) d := by
  unfold oB
  simp only [hst]
  exact O_step (gL hg lb b h) (gK hg lb b h) (gQ hg b h) (gV hg b h) (gS s0t b h) N t d
    (fun s c => AB (fun s j => rr hg b (N + s.val) j) (bb lb) h s c) (fun s c => AB_eq hg lb b N h s c)

end arrays

/-! ## The blocks of the arrays -/

variable (m : (ℓ : Loc nD τ sig) → Buf (Elt Ideal) ℓ) (c : Dev nD)

theorem N256 (t : Fin cfg0.N) : t.val < 256 := t.isLt.trans_le N_0.le

/-- Point `t`'s sequence, and the position of its token `r`. -/
def bt (t : Fin cfg0.N) : Fin 2 := ⟨t.val / 128, by have := N256 t; omega⟩
def tt (t : Fin cfg0.N) (r : Fin 128) : Fin 16384 := ⟨t.val % 128 * 128 + r.val, by omega⟩

theorem main_v1_at (k l : Fin 128) :
    (V m c main_v1 : S128x128.Idx → EReal) (ix2 k l) = (if l.val ≤ k.val then (1 : EReal) else 0) := by
  have e : V m c main_v1 = StableHlo.after [hostOps0, hostOps0_1].flatten (fun b => m (c, b)) (Proc.devRef .tc main_v1) := rfl
  simp only [hostOps0, hostOps0_1, List.flatten_cons, List.flatten_nil, List.append_nil, List.cons_append, List.nil_append] at e
  rw [e]
  entry_read
  show select (cmpi .sge (addi (iotaInDim S128x128 32 0) (broadcastInDim S128x128 ![] bcast_S_S128x128 (constantI S_ 32 0#32))) (iotaInDim S128x128 32 1))
    (broadcastInDim S128x128 ![] bcast_S_S128x128 (constant S_ .bf16 16256#16)) (broadcastInDim S128x128 ![] bcast_S_S128x128 (constant S_ .bf16 0#16)) (ix2 k l) = _
  pointwise
  exact Sb.tri_sel k.val l.val (by omega) (by omega)

theorem idx0 : ∀ t : Fin cfg0.N, win0_0.index t 0 = t.val / 128 ∧ win0_0.index t 1 = t.val % 128 ∧ win0_0.index t 2 = 0 :=
  (by decide +kernel : ∀ t : Fin grid0.N, win0_0.index t 0 = t.val / 128 ∧ win0_0.index t 1 = t.val % 128 ∧ win0_0.index t 2 = 0)

theorem emb0 (t : Fin cfg0.N) (r : Fin 128) (j : Fin 2048) :
    ((cfg0.win 0).blk t).view.emb (ix3 0 r j : S1x128x2048.Idx) = (ix3 (bt t) (tt t r) j : S2x16384x2048.Idx) := by
  funext a; apply Fin.ext
  match a with
  | ⟨0, _⟩ => show win0_0.index t 0 * 1 + 1 * 0 = t.val / 128; rw [(idx0 t).1]; omega
  | ⟨1, _⟩ => show win0_0.index t 1 * 128 + 1 * r.val = t.val % 128 * 128 + r.val; rw [(idx0 t).2.1]; omega
  | ⟨2, _⟩ => show win0_0.index t 2 * 2048 + 1 * j.val = j.val; rw [(idx0 t).2.2]; omega

theorem blk0 (t : Fin cfg0.N) (r : Fin 128) (j : Fin 2048) :
    iblk m c 0 t (ix3 0 r j : S1x128x2048.Idx) = m ((c : Thread nD τ).loc main_arg0) (ix3 (bt t) (tt t r) j) := by
  unfold iblk
  rw [View.read_apply, emb0]
  show V m c main_arg0 _ = _
  rw [V_main_arg0]

theorem idx1 : ∀ t : Fin cfg0.N, win0_1.index t 0 = t.val / 128 ∧ win0_1.index t 1 = 0 ∧ win0_1.index t 2 = 0 ∧ win0_1.index t 3 = 0 :=
  (by decide +kernel : ∀ t : Fin grid0.N, win0_1.index t 0 = t.val / 128 ∧ win0_1.index t 1 = 0 ∧ win0_1.index t 2 = 0 ∧ win0_1.index t 3 = 0)

theorem emb1 (t : Fin cfg0.N) (h : Fin 4) (d : Fin 128) (e : Fin 128) :
    ((cfg0.win 1).blk t).view.emb (ix4 0 h d e : S1x4x128x128.Idx) = (ix4 (bt t) h d e : S2x4x128x128.Idx) := by
  funext a; apply Fin.ext
  match a with
  | ⟨0, _⟩ => show win0_1.index t 0 * 1 + 1 * 0 = t.val / 128; rw [(idx1 t).1]; omega
  | ⟨1, _⟩ => show win0_1.index t 1 * 4 + 1 * h.val = h.val; rw [(idx1 t).2.1]; omega
  | ⟨2, _⟩ => show win0_1.index t 2 * 128 + 1 * d.val = d.val; rw [(idx1 t).2.2.1]; omega
  | ⟨3, _⟩ => show win0_1.index t 3 * 128 + 1 * e.val = e.val; rw [(idx1 t).2.2.2]; omega

theorem blk1 (t : Fin cfg0.N) (h : Fin 4) (d : Fin 128) (e : Fin 128) :
    iblk m c 1 t (ix4 0 h d e : S1x4x128x128.Idx) = m ((c : Thread nD τ).loc main_arg1) (ix4 (bt t) h d e) := by
  unfold iblk
  rw [View.read_apply, emb1]
  show V m c main_arg1 _ = _
  rw [V_main_arg1]

theorem idx2 : ∀ t : Fin cfg0.N, win0_2.index t 0 = 0 ∧ win0_2.index t 1 = 0 :=
  (by decide +kernel : ∀ t : Fin grid0.N, win0_2.index t 0 = 0 ∧ win0_2.index t 1 = 0)

theorem emb2 (t : Fin cfg0.N) (j : Fin 512) :
    ((cfg0.win 2).blk t).view.emb (ix2 0 j : S1x512.Idx) = (ix2 0 j : S1x512.Idx) := by
  funext a; apply Fin.ext
  match a with
  | ⟨0, _⟩ => show win0_2.index t 0 * 1 + 1 * 0 = 0; rw [(idx2 t).1]
  | ⟨1, _⟩ => show win0_2.index t 1 * 512 + 1 * j.val = j.val; rw [(idx2 t).2]; omega

theorem blk2 (t : Fin cfg0.N) (j : Fin 512) :
    iblk m c 2 t (ix2 0 j : S1x512.Idx) = m ((c : Thread nD τ).loc main_arg2) (ix2 0 j) := by
  unfold iblk
  rw [View.read_apply, emb2]
  show V m c main_arg2 _ = _
  rw [V_main_arg2]

theorem idx3 : ∀ t : Fin cfg0.N, win0_3.index t 0 = 0 ∧ win0_3.index t 1 = 0 :=
  (by decide +kernel : ∀ t : Fin grid0.N, win0_3.index t 0 = 0 ∧ win0_3.index t 1 = 0)

theorem emb3 (t : Fin cfg0.N) (j : Fin 512) :
    ((cfg0.win 3).blk t).view.emb (ix2 0 j : S1x512.Idx) = (ix2 0 j : S1x512.Idx) := by
  funext a; apply Fin.ext
  match a with
  | ⟨0, _⟩ => show win0_3.index t 0 * 1 + 1 * 0 = 0; rw [(idx3 t).1]
  | ⟨1, _⟩ => show win0_3.index t 1 * 512 + 1 * j.val = j.val; rw [(idx3 t).2]; omega

theorem blk3 (t : Fin cfg0.N) (j : Fin 512) :
    iblk m c 3 t (ix2 0 j : S1x512.Idx) = m ((c : Thread nD τ).loc main_arg3) (ix2 0 j) := by
  unfold iblk
  rw [View.read_apply, emb3]
  show V m c main_arg3 _ = _
  rw [V_main_arg3]

theorem idx4 : ∀ t : Fin cfg0.N, win0_4.index t 0 = 0 ∧ win0_4.index t 1 = 0 :=
  (by decide +kernel : ∀ t : Fin grid0.N, win0_4.index t 0 = 0 ∧ win0_4.index t 1 = 0)

theorem emb4 (t : Fin cfg0.N) (k : Fin 128) (l : Fin 128) :
    ((cfg0.win 4).blk t).view.emb (ix2 k l : S128x128.Idx) = (ix2 k l : S128x128.Idx) := by
  funext a; apply Fin.ext
  match a with
  | ⟨0, _⟩ => show win0_4.index t 0 * 128 + 1 * k.val = k.val; rw [(idx4 t).1]; omega
  | ⟨1, _⟩ => show win0_4.index t 1 * 128 + 1 * l.val = l.val; rw [(idx4 t).2]; omega

theorem idx5 : ∀ t : Fin cfg0.N, win0_5.index t 0 = t.val / 128 ∧ win0_5.index t 1 = t.val % 128 ∧ win0_5.index t 2 = 0 :=
  (by decide +kernel : ∀ t : Fin grid0.N, win0_5.index t 0 = t.val / 128 ∧ win0_5.index t 1 = t.val % 128 ∧ win0_5.index t 2 = 0)

theorem emb5 (t : Fin cfg0.N) (r : Fin 128) (j : Fin 512) :
    ((cfg0.win 5).blk t).view.emb (ix3 0 r j : S1x128x512.Idx) = (ix3 (bt t) (tt t r) j : S2x16384x512.Idx) := by
  funext a; apply Fin.ext
  match a with
  | ⟨0, _⟩ => show win0_5.index t 0 * 1 + 1 * 0 = t.val / 128; rw [(idx5 t).1]; omega
  | ⟨1, _⟩ => show win0_5.index t 1 * 128 + 1 * r.val = t.val % 128 * 128 + r.val; rw [(idx5 t).2.1]; omega
  | ⟨2, _⟩ => show win0_5.index t 2 * 512 + 1 * j.val = j.val; rw [(idx5 t).2.2]; omega

theorem mem5 (t : Fin cfg0.N) (r : Fin 128) (j : Fin 512) :
    (ix3 (bt t) (tt t r) j : S2x16384x512.Idx) ∈ ((cfg0.win 5).blk t).view.set := by
  rw [← emb5]; exact View.emb_mem_set _ _

theorem idx6 : ∀ t : Fin cfg0.N, win0_6.index t 0 = t.val / 128 ∧ win0_6.index t 1 = 0 ∧ win0_6.index t 2 = 0 ∧ win0_6.index t 3 = 0 :=
  (by decide +kernel : ∀ t : Fin grid0.N, win0_6.index t 0 = t.val / 128 ∧ win0_6.index t 1 = 0 ∧ win0_6.index t 2 = 0 ∧ win0_6.index t 3 = 0)

theorem emb6 (t : Fin cfg0.N) (h : Fin 4) (d : Fin 128) (e : Fin 128) :
    ((cfg0.win 6).blk t).view.emb (ix4 0 h d e : S1x4x128x128.Idx) = (ix4 (bt t) h d e : S2x4x128x128.Idx) := by
  funext a; apply Fin.ext
  match a with
  | ⟨0, _⟩ => show win0_6.index t 0 * 1 + 1 * 0 = t.val / 128; rw [(idx6 t).1]; omega
  | ⟨1, _⟩ => show win0_6.index t 1 * 4 + 1 * h.val = h.val; rw [(idx6 t).2.1]; omega
  | ⟨2, _⟩ => show win0_6.index t 2 * 128 + 1 * d.val = d.val; rw [(idx6 t).2.2.1]; omega
  | ⟨3, _⟩ => show win0_6.index t 3 * 128 + 1 * e.val = e.val; rw [(idx6 t).2.2.2]; omega

theorem mem6 (t : Fin cfg0.N) (h : Fin 4) (d : Fin 128) (e : Fin 128) :
    (ix4 (bt t) h d e : S2x4x128x128.Idx) ∈ ((cfg0.win 6).blk t).view.set := by
  rw [← emb6]; exact View.emb_mem_set _ _

theorem blk4 (t : Fin cfg0.N) (k l : Fin 128) :
    iblk m c 4 t (ix2 k l : S128x128.Idx) = (if l ≤ k then (1 : EReal) else 0) := by
  unfold iblk
  rw [View.read_apply, emb4]
  exact main_v1_at m c k l

/-! ## The result arrays -/

/-- The argument arrays. -/
abbrev aHg : S2x16384x2048.Idx → EReal := m ((c : Thread nD τ).loc main_arg0)
abbrev aS : S2x4x128x128.Idx → EReal := m ((c : Thread nD τ).loc main_arg1)
abbrev aLb : S1x512.Idx → EReal := m ((c : Thread nD τ).loc main_arg2)
abbrev aNw : S1x512.Idx → EReal := m ((c : Thread nD τ).loc main_arg3)

/-- Point `t`'s chunk. -/
abbrev XX (t : Fin cfg0.N) : Fin 128 → Fin 2048 → ℝ := fun s j => rr (aHg m c) (bt t) (t.val % 128 * 128 + s.val) j

section result
variable (hF : Fine (aHg m c) (aLb m c))
include hF

theorem good (t : Fin cfg0.N) : Good (XX m c t) (bb (aLb m c)) (iblk m c 0 t) (iblk m c 2 t) (iblk m c 4 t) where
  hx r j hj := (blk0 m c t r j).trans (hF.rr_coe (bt t) (tt t r) j hj)
  hb j := (blk2 m c t j).trans (hF.bb_coe j)
  h0 := hF.bb0
  h1 := hF.bb1
  ht k l := blk4 m c t k l

omit hF in
theorem exists_ix4 (y : S1x4x128x128.Idx) : ∃ (h : Fin 4) (d e : Fin 128), y = ix4 0 h d e :=
  ⟨y 1, y 2, y 3, by
    funext a
    match a with
    | ⟨0, _⟩ => exact Subsingleton.elim (α := Fin 1) _ _
    | ⟨1, _⟩ => rfl
    | ⟨2, _⟩ => rfl
    | ⟨3, _⟩ => rfl⟩

omit hF in
theorem first_at (t : Fin cfg0.N) (h0 : t.val % 128 = 0) (h : Fin 4) (d e : Fin 128) :
    iblk m c 1 t (ix4 0 h d e : S1x4x128x128.Idx) = gU (aHg m c) (aS m c) (aLb m c) (bt t) h (t.val % 128 * 128) d e := by
  rw [h0, Nat.zero_mul]
  refine (blk1 m c t h d e).trans ?_
  unfold gU
  rw [U_zero]
  rfl

/-- What the point leaves in each block, in each case. -/
theorem outs5_A (t : Fin cfg0.N) (h0 : t.val % 128 = 0) :
    (outsAt0 m c t.val t.isLt).1 = G5 (XX m c t) (bb (aLb m c)) (iblk m c 0 t) (iblk m c 3 t) (iblk m c 1 t) := by
  simp only [outsAt0_A m c t h0]
  exact out_A5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (XX m c t) (bb (aLb m c)) (iblk m c 0 t) (iblk m c 1 t) (iblk m c 2 t) (iblk m c 3 t) (iblk m c 4 t) (iblk m c 1 t) (good m c hF t) ((hcond0_0 t).mpr h0)

theorem outs6_A (t : Fin cfg0.N) (h0 : t.val % 128 = 0) :
    (outsAt0 m c t.val t.isLt).2 = G6 (XX m c t) (bb (aLb m c)) (iblk m c 1 t) := by
  simp only [outsAt0_A m c t h0]
  exact out_A6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (XX m c t) (bb (aLb m c)) (iblk m c 0 t) (iblk m c 1 t) (iblk m c 2 t) (iblk m c 3 t) (iblk m c 4 t) (iblk m c 1 t) (good m c hF t) ((hcond0_0 t).mpr h0)

theorem outs5_B (t : Fin cfg0.N) (h0 : ¬t.val % 128 = 0) :
    (outsAt0 m c t.val t.isLt).1 = G5 (XX m c t) (bb (aLb m c)) (iblk m c 0 t) (iblk m c 3 t) (outsAt0 m c (t.val - 1) (Nat.lt_of_le_of_lt (Nat.sub_le _ _) t.isLt)).2 := by
  simp only [outsAt0_B m c t h0]
  exact out_B5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (XX m c t) (bb (aLb m c)) (iblk m c 0 t) (iblk m c 1 t) (iblk m c 2 t) (iblk m c 3 t) (iblk m c 4 t) _ (good m c hF t) (fun h => h0 ((hcond0_0 t).mp h))

theorem outs6_B (t : Fin cfg0.N) (h0 : ¬t.val % 128 = 0) :
    (outsAt0 m c t.val t.isLt).2 = G6 (XX m c t) (bb (aLb m c)) (outsAt0 m c (t.val - 1) (Nat.lt_of_le_of_lt (Nat.sub_le _ _) t.isLt)).2 := by
  simp only [outsAt0_B m c t h0]
  exact out_B6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (XX m c t) (bb (aLb m c)) (iblk m c 0 t) (iblk m c 1 t) (iblk m c 2 t) (iblk m c 3 t) (iblk m c 4 t) _ (good m c hF t) (fun h => h0 ((hcond0_0 t).mp h))

omit hF in
/-- The state the chunk before left is the one this chunk starts from. -/
theorem prev (t : Fin cfg0.N) (h0 : ¬t.val % 128 = 0)
    (ih : ∀ (h : Fin 4) (d e : Fin 128), (outsAt0 m c (t.val - 1) (Nat.lt_of_le_of_lt (Nat.sub_le _ _) t.isLt)).2 (ix4 0 h d e : S1x4x128x128.Idx)
      = gU (aHg m c) (aS m c) (aLb m c) (bt ⟨t.val - 1, Nat.lt_of_le_of_lt (Nat.sub_le _ _) t.isLt⟩) h ((t.val - 1) % 128 * 128 + 128) d e) (h : Fin 4) (d e : Fin 128) :
    (outsAt0 m c (t.val - 1) (Nat.lt_of_le_of_lt (Nat.sub_le _ _) t.isLt)).2 (ix4 0 h d e : S1x4x128x128.Idx)
      = gU (aHg m c) (aS m c) (aLb m c) (bt t) h (t.val % 128 * 128) d e := by
  rw [ih]
  have e1 : bt ⟨t.val - 1, Nat.lt_of_le_of_lt (Nat.sub_le _ _) t.isLt⟩ = bt t := Fin.ext (show (t.val - 1) / 128 = t.val / 128 by omega)
  have e2 : (t.val - 1) % 128 * 128 + 128 = t.val % 128 * 128 := by omega
  rw [e1, e2]

/-- The state's block after each point is the unrolled state. -/
theorem outs2 : ∀ (n : Nat) (t : Fin cfg0.N) (_ : t.val = n) (h : Fin 4) (d e : Fin 128),
    (outsAt0 m c t.val t.isLt).2 (ix4 0 h d e : S1x4x128x128.Idx) = gU (aHg m c) (aS m c) (aLb m c) (bt t) h (t.val % 128 * 128 + 128) d e := by
  intro n
  induction n with
  | zero =>
    intro t ht h d e
    have h0 : t.val % 128 = 0 := by omega
    rw [outs6_A m c hF t h0]
    exact G6_eq (aHg m c) (aS m c) (aLb m c) (bt t) (t.val % 128 * 128) _ (first_at m c t h0) h d e
  | succ n ih =>
    intro t ht h d e
    by_cases h0 : t.val % 128 = 0
    · rw [outs6_A m c hF t h0]
      exact G6_eq (aHg m c) (aS m c) (aLb m c) (bt t) (t.val % 128 * 128) _ (first_at m c t h0) h d e
    · rw [outs6_B m c hF t h0]
      exact G6_eq (aHg m c) (aS m c) (aLb m c) (bt t) (t.val % 128 * 128) _
        (prev m c t h0 (ih ⟨t.val - 1, Nat.lt_of_le_of_lt (Nat.sub_le _ _) t.isLt⟩ (show t.val - 1 = n by omega))) h d e

omit hF in
theorem oB_good (t : Fin cfg0.N) (st : Vec Ideal S1x4x128x128 .f32) (hst : ∀ h d e, st (ix4 0 h d e) = gU (aHg m c) (aS m c) (aLb m c) (bt t) h (t.val % 128 * 128) d e)
    (r : Fin 128) (j : Fin 512) :
    G5 (XX m c t) (bb (aLb m c)) (iblk m c 0 t) (iblk m c 3 t) st (ix3 0 r j) = yOut (aHg m c) (aS m c) (aLb m c) (aNw m c) (ix3 (bt t) (tt t r) j) := by
  show yEl (iblk m c 0 t (ix3 0 r (colg j) : S1x128x2048.Idx)) (fun e => oB (XX m c t) (bb (aLb m c)) st _ r e) _ (iblk m c 3 t (ix2 0 j : S1x512.Idx)) = _
  rw [blk0, blk3]
  simp only [oB_eq (aHg m c) (aS m c) (aLb m c) (bt t) (t.val % 128 * 128) st hst]
  rfl

/-- What point `t` writes back is its block of each result. -/
theorem flushed5_eq (t : Fin cfg0.N) :
    (dats m 0 c).flushed 5 t = ((cfg0.win 5).blk t).view.read (Elt Ideal) (yOut (aHg m c) (aS m c) (aLb m c) (aNw m c)) := by
  rw [Value.flushed5]
  show (outsAt0 m c t.val t.isLt).1 = _
  funext y
  obtain ⟨r, j, rfl⟩ : ∃ (r : Fin 128) (j : Fin 512), y = (ix3 0 r j : S1x128x512.Idx) :=
    ⟨y 1, y 2, by funext a; match a with | ⟨0, _⟩ => exact Subsingleton.elim (α := Fin 1) _ _ | ⟨1, _⟩ => rfl | ⟨2, _⟩ => rfl⟩
  rw [View.read_apply, emb5]
  by_cases h0 : t.val % 128 = 0
  · rw [outs5_A m c hF t h0]
    exact oB_good m c t _ (first_at m c t h0) r j
  · rw [outs5_B m c hF t h0]
    exact oB_good m c t _ (prev m c t h0 (outs2 m c hF _ ⟨t.val - 1, Nat.lt_of_le_of_lt (Nat.sub_le _ _) t.isLt⟩ rfl)) r j

theorem flushed6_eq (t : Fin cfg0.N) (hf : (cfg0.win 6).flush t = true) :
    (dats m 0 c).flushed 6 t = ((cfg0.win 6).blk t).view.read (Elt Ideal) (sOut (aHg m c) (aS m c) (aLb m c)) := by
  have h127 : t.val % 128 = 127 := (flush0_6 t).1 hf
  rw [Value.flushed6]
  show (outsAt0 m c t.val t.isLt).2 = _
  funext y
  obtain ⟨h, d, e, rfl⟩ := exists_ix4 y
  rw [View.read_apply, emb6]
  refine (outs2 m c hF t.val t rfl h d e).trans ?_
  rw [h127]
  rfl

end result

/-- Every index of the array is in some point's block. -/
theorem cover5 (i : S2x16384x512.Idx) :
    ∃ t : Fin cfg0.N, (cfg0.win 5).flush t = true ∧ i ∈ ((cfg0.win 5).blk t).view.set := by
  have h0 : (i 0 : Nat) < 2 := (i 0).isLt
  have h1 : (i 1 : Nat) < 16384 := (i 1).isLt
  have h2 : (i 2 : Nat) < 512 := (i 2).isLt
  have hN : cfg0.N = 256 := N_0
  obtain ⟨t, ht⟩ : ∃ t : Fin cfg0.N, t.val = (i 0 : Nat) * 128 + (i 1 : Nat) / 128 := ⟨⟨_, by omega⟩, rfl⟩
  refine ⟨t, flush0_5 _, ?_⟩
  have e : (ix3 (bt t) (tt t ⟨(i 1 : Nat) % 128, by omega⟩) (⟨(i 2 : Nat), by omega⟩) : S2x16384x512.Idx) = i := by
    funext a; apply Fin.ext
    match a with
    | ⟨0, _⟩ => show t.val / 128 = (i 0 : Nat); omega
    | ⟨1, _⟩ => show t.val % 128 * 128 + (i 1 : Nat) % 128 = (i 1 : Nat); omega
    | ⟨2, _⟩ => rfl
  have h := mem5 t ⟨(i 1 : Nat) % 128, by omega⟩ ⟨(i 2 : Nat), by omega⟩
  rw [e] at h
  exact h

/-- Every index of the array is in some point's block. -/
theorem cover6 (i : S2x4x128x128.Idx) :
    ∃ t : Fin cfg0.N, (cfg0.win 6).flush t = true ∧ i ∈ ((cfg0.win 6).blk t).view.set := by
  have h0 : (i 0 : Nat) < 2 := (i 0).isLt
  have h1 : (i 1 : Nat) < 4 := (i 1).isLt
  have h2 : (i 2 : Nat) < 128 := (i 2).isLt
  have h3 : (i 3 : Nat) < 128 := (i 3).isLt
  have hN : cfg0.N = 256 := N_0
  obtain ⟨t, ht⟩ : ∃ t : Fin cfg0.N, t.val = (i 0 : Nat) * 128 + 127 := ⟨⟨_, by omega⟩, rfl⟩
  refine ⟨t, (flush0_6 _).2 (by omega), ?_⟩
  have e : (ix4 (bt t) (⟨(i 1 : Nat), by omega⟩) (⟨(i 2 : Nat), by omega⟩) (⟨(i 3 : Nat), by omega⟩) : S2x4x128x128.Idx) = i := by
    funext a; apply Fin.ext
    match a with
    | ⟨0, _⟩ => show t.val / 128 = (i 0 : Nat); omega
    | ⟨1, _⟩ => rfl
    | ⟨2, _⟩ => rfl
    | ⟨3, _⟩ => rfl
  have h := mem6 t ⟨(i 1 : Nat), by omega⟩ ⟨(i 2 : Nat), by omega⟩ ⟨(i 3 : Nat), by omega⟩
  rw [e] at h
  exact h

theorem final5 (hF : Fine (aHg m c) (aLb m c)) : (dats m 0 c).arrAt 5 cfg0.N = yOut (aHg m c) (aS m c) (aLb m c) (aNw m c) :=
  (dats m 0 c).arrAt_eq_of_cover 5 _ (fun t _ => flushed5_eq m c hF t) cover5

theorem final6 (hF : Fine (aHg m c) (aLb m c)) : (dats m 0 c).arrAt 6 cfg0.N = sOut (aHg m c) (aS m c) (aLb m c) :=
  (dats m 0 c).arrAt_eq_of_cover 6 _ (fun t hf => flushed6_eq m c hF t hf) cover6

end Cert.Kernel10Ideal.Hg

end
-- ==== Proof.HgrnRef.lean ====
/-
  THE GATED RECURRENCE OF THE PROMPT: the reference's two result arrays are the unrolled recurrence too, and the claims. The
  reference takes the logarithm of a decay as the logarithm of a sum of exponentials of two logarithms, one of which is −∞ where
  the lower bound is zero or one; the kernel takes it of the decay itself.
-/
module

public import proofs.«01_k».proof.Defs
public import proofs.«01_k».proof.Proof.HgrnPrompt
public import proofs.«01_k».proof.Proof.Gen.Kernel10.Frame
public import proofs.«01_k».proof.Proof.Gen.Reference10Ideal.Run
public import proofs.«01_k».proof.Proof.Gen.Pre_hgrn_inputs
public import Idealize.ShloMosaic.Lib.Pointwise
public import Idealize.ShloMosaic.Lib.Pipeline.Value
public import Idealize.ShloMosaic.Lib.Claim
public import Idealize.ShloMosaic.Lib.ReduceAll
public import Idealize.ShloMosaic.Lib.Quiescent

@[expose] public section

set_option maxRecDepth 16384

noncomputable section

open Idealize.ShloMosaic Idealize.ShloMosaic.TcCoe Idealize.SL.Sem

namespace Cert.HgrnMath

open Cert.Sb Cert.Kernel10Ideal.Hg

/-- The logarithm of a sum of two exponentials. -/
theorem log_add_exp (X Y : ℝ) : max X Y + Real.log (1 + Real.exp (-|X - Y|)) = Real.log (Real.exp X + Real.exp Y) := by
  rcases le_total X Y with h | h
  · rw [max_eq_right h, abs_of_nonpos (by linarith), neg_neg]
    have e : Real.exp X + Real.exp Y = Real.exp Y * (1 + Real.exp (X - Y)) := by
      rw [mul_add, ← Real.exp_add, mul_one, add_comm, add_sub_cancel]
    rw [e, Real.log_mul (Real.exp_ne_zero _) (by positivity), Real.log_exp]
  · rw [max_eq_left h, abs_of_nonneg (by linarith)]
    have e : Real.exp X + Real.exp Y = Real.exp X * (1 + Real.exp (-(X - Y))) := by
      rw [mul_add, ← Real.exp_add, mul_one, neg_sub, add_sub_cancel]
    rw [e, Real.log_mul (Real.exp_ne_zero _) (by positivity), Real.log_exp]

theorem log_sgR (f : ℝ) : -spR (-f) = Real.log (sgR f) := by
  have h := log_add_exp (-f) 0
  rw [sub_zero, Real.exp_zero] at h
  unfold spR sgR
  rw [h, one_div, Real.log_inv, add_comm]

/-- The reference's logarithm of the sigmoid, and of the decay. -/
def refLs (f : EReal) : EReal :=
  -(if -f ≠ -f then -f else max (-f) 0 + Ideal.log1p (Ideal.exp (-FloatOps.absf (F := Ideal) (φ := .f32) (-f))))
def refLae (x y : EReal) : EReal :=
  if x - y ≠ x - y then x + y else max x y + Ideal.log1p (Ideal.exp (-FloatOps.absf (F := Ideal) (φ := .f32) (x - y)))
def refLf (l f : EReal) : EReal := refLae (Ideal.log l) (Ideal.log1p (-l) + refLs f)

theorem refLs_coe (f : ℝ) : refLs (f : EReal) = ((Real.log (sgR f) : ℝ) : EReal) := by
  unfold refLs
  rw [if_neg (by simp), ← EReal.coe_neg, absf_coe, ← EReal.coe_neg, log1p_exp_coe, ← EReal.coe_zero, coe_max, ← EReal.coe_add,
    ← EReal.coe_neg, ← log_sgR]
  rfl

theorem refLae_coe (X Y : ℝ) : refLae (X : EReal) (Y : EReal) = ((Real.log (Real.exp X + Real.exp Y) : ℝ) : EReal) := by
  unfold refLae
  rw [if_neg (by simp), ← EReal.coe_sub, absf_coe, ← EReal.coe_neg, log1p_exp_coe, coe_max, ← EReal.coe_add, log_add_exp]

theorem log1p_exp_bot : Ideal.log1p (Ideal.exp (⊥ : EReal)) = 0 := by
  rw [Ideal.exp_bot]
  show Ideal.log (1 + 0) = 0
  rw [add_zero, ← EReal.coe_one, Ideal.log_coe, if_neg (by norm_num), Real.log_one]
  rfl

theorem refLae_bot_left (Y : ℝ) : refLae ⊥ (Y : EReal) = (Y : EReal) := by
  unfold refLae
  have e : FloatOps.absf (F := Ideal) (φ := .f32) ((⊥ : EReal) - (Y : EReal)) = (⊤ : EReal) := by
    rw [EReal.bot_sub]
    show max (⊥ : EReal) (-⊥) = ⊤
    simp
  rw [if_neg (by simp), e, EReal.neg_top, log1p_exp_bot, add_zero, max_eq_right bot_le]

theorem refLae_bot_right (X : ℝ) : refLae (X : EReal) ⊥ = (X : EReal) := by
  unfold refLae
  have e : FloatOps.absf (F := Ideal) (φ := .f32) ((X : EReal) - (⊥ : EReal)) = (⊤ : EReal) := by
    rw [EReal.coe_sub_bot]
    show max (⊤ : EReal) (-⊤) = ⊤
    simp
  rw [if_neg (by simp), e, EReal.neg_top, log1p_exp_bot, add_zero, max_eq_left bot_le]

theorem refLf_coe (b f : ℝ) (h0 : 0 ≤ b) (h1 : b ≤ 1) : refLf (b : EReal) (f : EReal) = ((lfR b f : ℝ) : EReal) := by
  have hs := sgR_pos f
  have e1 : Ideal.log1p (-(b : EReal)) = Ideal.log ((1 - b : ℝ) : EReal) := by
    show Ideal.log (1 + -(b : EReal)) = _
    rw [← EReal.coe_neg, ← EReal.coe_one, ← EReal.coe_add]
    rfl
  unfold refLf lfR
  rw [e1, refLs_coe, Ideal.log_coe, Ideal.log_coe]
  rcases eq_or_lt_of_le h0 with h | h
  · subst h
    rw [if_pos le_rfl, if_neg (by norm_num), ← EReal.coe_add, refLae_bot_left]
    simp
  · rw [if_neg (not_le.2 h)]
    rcases eq_or_lt_of_le h1 with h' | h'
    · subst h'
      rw [if_pos (by norm_num), EReal.bot_add, refLae_bot_right]
      simp
    · rw [if_neg (by linarith), ← EReal.coe_add, refLae_coe, Real.exp_log h, Real.exp_add, Real.exp_log (by linarith), Real.exp_log hs]

theorem sgR_neg (f : ℝ) : sgR (-f) = 1 - sgR f := by
  unfold sgR
  have := Real.exp_pos f
  rw [neg_neg, Real.exp_neg]
  field_simp
  ring

theorem kk_eq (b f : ℝ) (h0 : 0 ≤ b) (h1 : b ≤ 1) : -(Ideal.exp ((lfR b f : ℝ) : EReal) - 1) = ((kkR b f : ℝ) : EReal) := by
  unfold lfR kkR
  rw [Ideal.exp_coe, Real.exp_log (arg_pos b f h0 h1), ← EReal.coe_one, ← EReal.coe_sub, ← EReal.coe_neg, sgR_neg]
  congr 1
  ring

/-- A position's mask as a bit and as a number. -/
theorem mask_sel (t s : Nat) (ht : t < 2 ^ 31) (hs : s < 2 ^ 31) :
    Scalar.select (IntOp.cmpi .sge (IntOp.addi (BitVec.ofNat 32 t) 0#32) (BitVec.ofNat 32 s)) 1#1 0#1 = if s ≤ t then 1#1 else 0#1 := by
  rw [show IntOp.addi (BitVec.ofNat 32 t) 0#32 = BitVec.ofNat 32 t from BitVec.add_zero _, WordCmp.cmpi_sge_ofNat (w := 32) ht hs]
  by_cases h : s ≤ t <;> simp [Scalar.select, h]

theorem mask_num (t s : Nat) (ht : t < 2 ^ 31) (hs : s < 2 ^ 31) :
    FloatOps.uitofp (F := Ideal) .f32 (Scalar.select (IntOp.cmpi .sge (IntOp.addi (BitVec.ofNat 32 t) 0#32) (BitVec.ofNat 32 s)) 1#1 0#1)
      = if s ≤ t then (1 : EReal) else 0 := by
  rw [mask_sel t s ht hs]
  show (((BitVec.toNat _ : ℕ) : ℝ) : EReal) = _
  by_cases h : s ≤ t <;> simp [h]

theorem mask_pick (t s : Nat) (ht : t < 2 ^ 31) (hs : s < 2 ^ 31) (x y : EReal) :
    Scalar.select (Scalar.select (IntOp.cmpi .sge (IntOp.addi (BitVec.ofNat 32 t) 0#32) (BitVec.ofNat 32 s)) 1#1 0#1) x y
      = if s ≤ t then x else y := by
  rw [mask_sel t s ht hs]
  by_cases h : s ≤ t <;> simp [Scalar.select, h]

theorem neg_inf : id (constant (F := Ideal) Cert.Reference10Ideal.S_ .f32 4286578688#32) ix0 = (⊥ : EReal) := by
  show Ideal.ieee 8 23 0xFF800000#32 = (⊥ : EReal)
  unfold Ideal.ieee
  dsimp only
  rw [if_pos (by decide), if_pos (by decide), if_pos (by decide)]

end Cert.HgrnMath

namespace Cert.Reference10Ideal.Hg

open Cert.Reference10Ideal Cert.Reference10Ideal.Gen Cert.Kernel10Ideal.Hg Cert.HgrnMath

variable (V0 : Valuation τ sig (Elt Ideal))

abbrev vHg : Cert.Kernel10Ideal.S2x16384x2048.Idx → EReal := V0 (Proc.devRef .tc main_arg0)
abbrev vS : Cert.Kernel10Ideal.S2x4x128x128.Idx → EReal := V0 (Proc.devRef .tc main_arg1)
abbrev vLb : Cert.Kernel10Ideal.S1x512.Idx → EReal := V0 (Proc.devRef .tc main_arg2)
abbrev vNw : Cert.Kernel10Ideal.S1x512.Idx → EReal := V0 (Proc.devRef .tc main_arg3)
abbrev lf (b : Fin 2) (t : Fin 16384) (h : Fin 4) (c : Fin 128) : EReal := (Value.res_main_v29 (F := Ideal) V0 : S2x16384x4x128.Idx → EReal) (ix4 b t h c)
abbrev kk (b : Fin 2) (t : Fin 16384) (h : Fin 4) (c : Fin 128) : EReal := (Value.res_main_v31 (F := Ideal) V0 : S2x16384x4x128.Idx → EReal) (ix4 b t h c)
abbrev aa (b : Fin 2) (t : Fin 16384) (h : Fin 4) (c : Fin 128) : EReal := (Value.res_main_v36 (F := Ideal) V0 : S2x16384x4x128.Idx → EReal) (ix4 b t h c)
abbrev oo (b : Fin 2) (t : Fin 16384) (h : Fin 4) (d : Fin 128) : EReal := (Value.res_main_v58 (F := Ideal) V0 : S2x16384x4x128.Idx → EReal) (ix4 b t h d)
abbrev ae (b : Fin 2) (h : Fin 4) (c : Fin 128) : EReal := (Value.res_main_v60 (F := Ideal) V0 : S2x4x128.Idx → EReal) (ix3 b h c)

/-! ## The reference's arrays read at an index -/

theorem cw (h : Fin 4) (c : Fin 128) (p : h.val * 128 + c.val < 512) : (⟨h.val * 128 + c.val, p⟩ : Fin 512) = colw h c :=
  Fin.ext (by simp only [colw]; omega)
theorem cq (h : Fin 4) (c : Fin 128) (p : h.val * 128 + c.val < 2048) : (⟨h.val * 128 + c.val, p⟩ : Fin 2048) = colq h c :=
  Fin.ext (by simp only [colq]; omega)
theorem cf (h : Fin 4) (c : Fin 128) (p : 512 + (h.val * 128 + c.val) < 2048) : (⟨512 + (h.val * 128 + c.val), p⟩ : Fin 2048) = colf (colw h c) :=
  Fin.ext (by simp only [colf, colw]; omega)
theorem cv (h : Fin 4) (c : Fin 128) (p : 1024 + (h.val * 128 + c.val) < 2048) : (⟨1024 + (h.val * 128 + c.val), p⟩ : Fin 2048) = colv h c :=
  Fin.ext (by simp only [colv]; omega)

theorem lf_raw (b : Fin 2) (t : Fin 16384) (h : Fin 4) (c : Fin 128) :
    lf V0 b t h c = refLf (vLb V0 (ix2 0 (colw h c))) (vHg V0 (ix3 b t (colf (colw h c)))) := by
  rw [← cf h c (by omega), ← cw h c (by omega)]
  unfold lf Value.res_main_v29 Value.res_main_v20 Value.res_main_v16 Value.res_main_v15 Value.res_main_call0_call0_v3 Value.res_main_call0_call0_cst Value.res_main_call0_v0 Value.res_main_v8
  pointwise
  unfold refLf refLae refLs
  rfl

theorem kk_raw (b : Fin 2) (t : Fin 16384) (h : Fin 4) (c : Fin 128) : kk V0 b t h c = -(Ideal.exp (lf V0 b t h c) - 1) := by
  unfold kk Value.res_main_v31
  pointwise

theorem aa_raw (b : Fin 2) (t : Fin 16384) (h : Fin 4) (c : Fin 128) : aa V0 b t h c = ∑ x, lf V0 b x h c *
    FloatOps.uitofp (F := Ideal) .f32 (Scalar.select (IntOp.cmpi .sge (IntOp.addi (BitVec.ofNat 32 t.val) 0#32) (BitVec.ofNat 32 x.val)) 1#1 0#1) := by
  unfold aa Value.res_main_v36 Value.res_main_v33
  pointwise

theorem oo_raw (b : Fin 2) (t : Fin 16384) (h : Fin 4) (d : Fin 128) : oo V0 b t h d
    = ∑ x : Fin 16384, vHg V0 (ix3 b x (colv h d)) * ∑ e, vHg V0 (ix3 b t (colq h e))
        * Ideal.exp (Scalar.select (Scalar.select (IntOp.cmpi .sge (IntOp.addi (BitVec.ofNat 32 t.val) 0#32) (BitVec.ofNat 32 x.val)) 1#1 0#1)
            (aa V0 b t h e - aa V0 b x h e) (id (constant (F := Ideal) S_ .f32 4286578688#32) ix0))
        * kk V0 b x h e
      + ∑ e, vS V0 (ix4 b h d e) * (vHg V0 (ix3 b t (colq h e)) * Ideal.exp (aa V0 b t h e)) := by
  have q : ∀ e, colq h e = ⟨h.val * 128 + e.val, by omega⟩ := fun e => (cq h e (by omega)).symm
  simp only [← cv h d (by omega), q]
  unfold oo Value.res_main_v58 Value.res_main_v33 Value.res_main_v0 Value.res_main_v2 Value.res_main_v6
  pointwise

theorem ae_raw (b : Fin 2) (h : Fin 4) (c : Fin 128) : ae V0 b h c = aa V0 b 16383 h c := by
  unfold ae Value.res_main_v60
  pointwise

/-! ## Their values -/

section values
variable (hF : Fine (vHg V0) (vLb V0))
include hF

theorem lf_at (b : Fin 2) (t : Fin 16384) (h : Fin 4) (c : Fin 128) : lf V0 b t h c = (gL (vHg V0) (vLb V0) b h t.val c : EReal) := by
  rw [lf_raw, hF.bb_coe, hF.rr_coe b t (colf (colw h c)) (by have := (colw h c).isLt; simp only [colf]; omega), refLf_coe _ _ (hF.bb0 _) (hF.bb1 _)]
  rfl

theorem kk_at (b : Fin 2) (t : Fin 16384) (h : Fin 4) (c : Fin 128) : kk V0 b t h c = (gK (vHg V0) (vLb V0) b h t.val c : EReal) := by
  rw [kk_raw, lf_at V0 hF]
  exact kk_eq _ _ (hF.bb0 _) (hF.bb1 _)

theorem aa_at (b : Fin 2) (t : Fin 16384) (h : Fin 4) (c : Fin 128) : aa V0 b t h c = (P (gL (vHg V0) (vLb V0) b h) (t.val + 1) c : EReal) := by
  rw [aa_raw]
  have e : ∀ x : Fin 16384, lf V0 b x h c *
      FloatOps.uitofp (F := Ideal) .f32 (Scalar.select (IntOp.cmpi .sge (IntOp.addi (BitVec.ofNat 32 t.val) 0#32) (BitVec.ofNat 32 x.val)) 1#1 0#1)
      = ((if x ≤ t then gL (vHg V0) (vLb V0) b h x.val c else 0 : ℝ) : EReal) := fun x => by
    rw [lf_at V0 hF, mask_num _ _ (by omega) (by omega)]
    by_cases hx : x ≤ t
    · rw [if_pos hx, if_pos (Fin.le_def.1 hx), mul_one]
    · rw [if_neg hx, if_neg (fun h => hx (Fin.le_def.2 h)), mul_zero, EReal.coe_zero]
  simp only [e]
  rw [Sb.coe_sum, sum_le (fun n => gL (vHg V0) (vLb V0) b h n c) t]
  rfl

theorem hv_at (b : Fin 2) (x : Fin 16384) (h : Fin 4) (d : Fin 128) : vHg V0 (ix3 b x (colv h d)) = (gV (vHg V0) b h x.val d : EReal) :=
  hF.rr_coe b x (colv h d) (by have := h.isLt; have := d.isLt; simp only [colv]; omega)

theorem hq_at (b : Fin 2) (x : Fin 16384) (h : Fin 4) (d : Fin 128) : vHg V0 (ix3 b x (colq h d)) = (gQ (vHg V0) b h x.val d : EReal) :=
  hF.rr_coe b x (colq h d) (by have := h.isLt; have := d.isLt; simp only [colq]; omega)

theorem oo_at (b : Fin 2) (t : Fin 16384) (h : Fin 4) (d : Fin 128) : oo V0 b t h d = gO (vHg V0) (vS V0) (vLb V0) b h t.val d := by
  rw [oo_raw, neg_inf]
  unfold gO O
  refine congrArg₂ (· + ·) ?_ ?_
  · have e : ∀ x : Fin 16384, vHg V0 (ix3 b x (colv h d)) * ∑ e, vHg V0 (ix3 b t (colq h e))
        * Ideal.exp (Scalar.select (Scalar.select (IntOp.cmpi .sge (IntOp.addi (BitVec.ofNat 32 t.val) 0#32) (BitVec.ofNat 32 x.val)) 1#1 0#1)
            (aa V0 b t h e - aa V0 b x h e) ⊥)
        * kk V0 b x h e
        = ((if x ≤ t then (∑ e, gQ (vHg V0) b h t.val e * gK (vHg V0) (vLb V0) b h x.val e
            * Real.exp (P (gL (vHg V0) (vLb V0) b h) (t.val + 1) e - P (gL (vHg V0) (vLb V0) b h) (x.val + 1) e)) * gV (vHg V0) b h x.val d else 0 : ℝ) : EReal) := fun x => by
      simp only [mask_pick _ _ (show t.val < 2 ^ 31 by omega) (show x.val < 2 ^ 31 by omega)]
      by_cases hx : x ≤ t
      · simp only [if_pos hx, if_pos (Fin.le_def.1 hx), aa_at V0 hF, kk_at V0 hF, hv_at V0 hF, hq_at V0 hF]
        rw [mul_comm (∑ e, gQ (vHg V0) b h t.val e * _ * _), EReal.coe_mul, ← Sb.coe_sum]
        congr 1
        refine Finset.sum_congr rfl fun e _ => ?_
        rw [← EReal.coe_sub, Ideal.exp_coe, ← EReal.coe_mul, ← EReal.coe_mul]
        congr 1
        ring
      · simp only [if_neg hx, if_neg (fun h => hx (Fin.le_def.2 h)), Ideal.exp_bot, mul_zero, zero_mul, Finset.sum_const_zero, EReal.coe_zero]
    simp only [e]
    rw [Sb.coe_sum, sum_le (fun n => (∑ e, gQ (vHg V0) b h t.val e * gK (vHg V0) (vLb V0) b h n e
            * Real.exp (P (gL (vHg V0) (vLb V0) b h) (t.val + 1) e - P (gL (vHg V0) (vLb V0) b h) (n + 1) e)) * gV (vHg V0) b h n d) t]
  · refine Finset.sum_congr rfl fun e _ => ?_
    rw [aa_at V0 hF, hq_at V0 hF, Ideal.exp_coe, ← EReal.coe_mul, mul_comm]
    rfl

theorem y_at (b : Fin 2) (t : Fin 16384) (j : Fin 512) :
    ((truncf .bf16 (mulf (shapeCast _ (mulf (mulf (Value.res_main_v58 V0) (broadcastInDim S2x16384x4x128 ![0, 1, 2, 3] bcast_S2x16384x4x1_S2x16384x4x128_0_1_2_3 (Host.rsqrt (addf (Host.divf (broadcastInDim S2x16384x4x1 ![0, 1, 2] bcast_S2x16384x4_S2x16384x4x1_0_1_2 (Host.reduceAdd (mulf (Value.res_main_v58 V0) (Value.res_main_v58 V0)) (constant S_ .f32 0x00000000#32) reducesTo_S2x16384x4x128_S2x16384x4_d3 h_S_)) (broadcastInDim S2x16384x4x1 ![] bcast_S_S2x16384x4x1 (constant S_ .f32 0x43000000#32))) (broadcastInDim S2x16384x4x1 ![] bcast_S_S2x16384x4x1 (constant S_ .f32 0x358637BD#32)))))) (broadcastInDim S2x16384x4x128 ![0, 1, 2, 3] bcast_S1x1x4x128_S2x16384x4x128_0_1_2_3 (broadcastInDim S1x1x4x128 ![2, 3] bcast_S4x128_S1x1x4x128_2_3 (shapeCast _ (V0 (Proc.devRef .tc main_arg3)) shapeCasts_S1x512_S4x128)))) shapeCasts_S2x16384x4x128_S2x16384x512) (mulf (Value.res_main_v7 V0) (Host.divf (broadcastInDim S2x16384x512 ![] bcast_S_S2x16384x512 (constant S_ .f32 0x3F800000#32)) (addf (broadcastInDim S2x16384x512 ![] bcast_S_S2x16384x512 (constant S_ .f32 0x3F800000#32)) (Host.exp (Host.negf (Value.res_main_v7 V0))))))) bitsLt_bf16_f32)
      : S2x16384x512.Idx → EReal) (ix3 b t j) = yOut (vHg V0) (vS V0) (vLb V0) (vNw V0) (ix3 b t j) := by
  have e : ∀ d, gO (vHg V0) (vS V0) (vLb V0) b ⟨j.val / 128, by omega⟩ t.val d = oo V0 b t ⟨j.val / 128, by omega⟩ d := fun d => (oo_at V0 hF b t _ d).symm
  show _ = yEl (vHg V0 (ix3 b t (colg j))) (fun d => gO (vHg V0) (vS V0) (vLb V0) b ⟨j.val / 128, _⟩ t.val d) ⟨j.val % 128, _⟩ (vNw V0 (ix2 0 j))
  simp only [e]
  unfold Value.res_main_v7 yEl
  rw [zero_sub]
  pointwise
  rfl

theorem s_at (b : Fin 2) (h : Fin 4) (d c : Fin 128) :
    ((transpose S2x4x128x128 [0, 1, 3, 2] (addf (mulf (broadcastInDim S2x4x128x128 ![0, 1, 2, 3] bcast_S2x4x128x1_S2x4x128x128_0_1_2_3 (broadcastInDim S2x4x128x1 ![0, 1, 2] bcast_S2x4x128_S2x4x128x1_0_1_2 (Host.exp (φ := .f32) (Value.res_main_v60 V0)))) (Value.res_main_v0 V0)) (Host.dotGeneral (φ₁ := .f32) (φ₂ := .f32) dot_S2x16384x4x128_S2x16384x4x128_S2x4x128x128_1_1_3_3_02_02 none (mulf (φ := .f32) (Value.res_main_v31 V0) (Host.exp (φ := .f32) (subf (φ := .f32) (broadcastInDim S2x16384x4x128 ![0, 1, 2, 3] bcast_S2x1x4x128_S2x16384x4x128_0_1_2_3 (broadcastInDim S2x1x4x128 ![0, 2, 3] bcast_S2x4x128_S2x1x4x128_0_2_3 (Value.res_main_v60 V0))) (Value.res_main_v36 V0)))) (Value.res_main_v6 V0))) transposes_S2x4x128x128_S2x4x128x128_0_1_3_2)
      : S2x4x128x128.Idx → EReal) (ix4 b h d c) = sOut (vHg V0) (vS V0) (vLb V0) (ix4 b h d c) := by
  have raw : ((transpose S2x4x128x128 [0, 1, 3, 2] (addf (mulf (broadcastInDim S2x4x128x128 ![0, 1, 2, 3] bcast_S2x4x128x1_S2x4x128x128_0_1_2_3 (broadcastInDim S2x4x128x1 ![0, 1, 2] bcast_S2x4x128_S2x4x128x1_0_1_2 (Host.exp (φ := .f32) (Value.res_main_v60 V0)))) (Value.res_main_v0 V0)) (Host.dotGeneral (φ₁ := .f32) (φ₂ := .f32) dot_S2x16384x4x128_S2x16384x4x128_S2x4x128x128_1_1_3_3_02_02 none (mulf (φ := .f32) (Value.res_main_v31 V0) (Host.exp (φ := .f32) (subf (φ := .f32) (broadcastInDim S2x16384x4x128 ![0, 1, 2, 3] bcast_S2x1x4x128_S2x16384x4x128_0_1_2_3 (broadcastInDim S2x1x4x128 ![0, 2, 3] bcast_S2x4x128_S2x1x4x128_0_2_3 (Value.res_main_v60 V0))) (Value.res_main_v36 V0)))) (Value.res_main_v6 V0))) transposes_S2x4x128x128_S2x4x128x128_0_1_3_2)
      : S2x4x128x128.Idx → EReal) (ix4 b h d c)
      = Ideal.exp (ae V0 b h c) * vS V0 (ix4 b h d c) + ∑ x : Fin 16384, kk V0 b x h c * Ideal.exp (ae V0 b h c - aa V0 b x h c) * vHg V0 (ix3 b x (colv h d)) := by
    simp only [← cv h d (by omega)]
    unfold Value.res_main_v0 Value.res_main_v6
    pointwise
  refine raw.trans ?_
  have last : ((16383 : Fin 16384).val + 1) = 16384 := rfl
  rw [ae_raw, aa_at V0 hF b 16383, last, Ideal.exp_coe, mul_comm]
  show _ = U (gL (vHg V0) (vLb V0) b h) (gK (vHg V0) (vLb V0) b h) (gV (vHg V0) b h) (gS (vS V0) b h) 16384 d c
  unfold U
  refine congrArg₂ (· + ·) rfl ?_
  rw [Finset.sum_range, ← Sb.coe_sum]
  refine Finset.sum_congr rfl fun x _ => ?_
  rw [kk_at V0 hF, aa_at V0 hF, hv_at V0 hF, ← EReal.coe_sub, Ideal.exp_coe, ← EReal.coe_mul, ← EReal.coe_mul]
  exact congrArg _ (mul_comm _ _)

end values

end Cert.Reference10Ideal.Hg

/-! ## The claims -/

namespace Cert.Proof.Hgrn

open Cert.Kernel10Ideal.Hg Cert.Reference10Ideal.Hg

theorem le_of_cmp_oge {x y : EReal} (h : FloatOps.cmpf (F := Ideal) (φ := .f32) .oge x y = 1#1) : y ≤ x := by
  have h' : BitVec.ofBool (decide (y ≤ x)) = 1#1 := h
  by_contra hn
  rw [decide_eq_false hn] at h'
  exact absurd h' (by decide)

theorem le_of_cmp_ole {x y : EReal} (h : FloatOps.cmpf (F := Ideal) (φ := .f32) .ole x y = 1#1) : x ≤ y := by
  have h' : BitVec.ofBool (decide (x ≤ y)) = 1#1 := h
  by_contra hn
  rw [decide_eq_false hn] at h'
  exact absurd h' (by decide)

/-- What the precondition says of the arrays. -/
theorem fine_of_pre (hg : FVec Ideal Cert.Pre_hgrn_inputs.S2x16384x2048 .f32) (s0t : FVec Ideal Cert.Pre_hgrn_inputs.S2x4x128x128 .f32)
    (lb nw : FVec Ideal Cert.Pre_hgrn_inputs.S1x512 .f32)
    (h : Cert.Pre_hgrn_inputs.fn hg s0t lb nw = fun _ => 1#1) : Fine hg lb := by
  have h0 := congrFun h ix0
  obtain ⟨h12, h3⟩ := IntOp.andi_eq_one.1 h0
  obtain ⟨h1, h2⟩ := IntOp.andi_eq_one.1 h12
  haveI : Subsingleton Cert.Pre_hgrn_inputs.S_.Idx := ⟨fun a b => funext fun i => i.elim0⟩
  refine ⟨fun b t j hj => ?_, fun j => ?_, fun j => ?_⟩
  · have e := Sb.fin_of_abs_lt (Host.reduce_andi_all _ _ _ _ ix0 h1 (ix3 b t ⟨j.val, hj⟩))
    have e' : extractStridedSlice Cert.Pre_hgrn_inputs.S2x16384x1536 ![0, 0, 0] hg Cert.Pre_hgrn_inputs.Facts.slices_S2x16384x2048_S2x16384x1536_0_0_0 (ix3 b t ⟨j.val, hj⟩) = hg (ix3 b t j) := by
      pointwise
    exact e' ▸ e
  · have e := le_of_cmp_oge (Host.reduce_andi_all _ _ _ _ ix0 h2 (ix2 0 j))
    have e' : broadcastInDim Cert.Pre_hgrn_inputs.S1x512 ![] Cert.Pre_hgrn_inputs.Facts.bcast_S_S1x512 (constant (F := Ideal) Cert.Pre_hgrn_inputs.S_ .f32 0x00000000#32) (ix2 0 j) = (0 : EReal) := by
      pointwise
    rwa [e'] at e
  · have e := le_of_cmp_ole (Host.reduce_andi_all _ _ _ _ ix0 h3 (ix2 0 j))
    have e' : broadcastInDim Cert.Pre_hgrn_inputs.S1x512 ![] Cert.Pre_hgrn_inputs.Facts.bcast_S_S1x512 (constant (F := Ideal) Cert.Pre_hgrn_inputs.S_ .f32 0x3F800000#32) (ix2 0 j) = (1 : EReal) := by
      pointwise
    rwa [e'] at e

theorem preserves : Cert.preserves_Kernel10_Kernel10Ideal := trivial
theorem frame_k : Cert.quiescent_Kernel10 := fun m ρ _ => Cert.Kernel10.Gen.frame m ρ
theorem frame_ki : Cert.quiescent_Kernel10Ideal := fun m ρ _ => Cert.Kernel10Ideal.Gen.frame m ρ
theorem frame_ki_pre : Cert.quiescent_Kernel10Ideal_pre_hgrn_inputs := fun m ρ _ => Cert.Kernel10Ideal.Gen.frame m ρ
theorem frame_ri : Cert.quiescent_Reference10Ideal := fun m ρ _ =>
  (θ_run Cert.Reference10Ideal.defs _ _).mono (fun r h => ⟨fun c => (h c).2.2, Idealize.ShloMosaic.sem_eq_zero_of_no_sems (by decide) r.2⟩)
    (Cert.Reference10Ideal.Value.run (F := Ideal) m ρ)
theorem frame_ri_pre : Cert.quiescent_Reference10Ideal_pre_hgrn_inputs := fun m ρ _ => frame_ri m ρ trivial

theorem algebraic : Cert.algebraic_Kernel10Ideal_Reference10Ideal_pre_hgrn_inputs := by
  intro m ρ m' ρ' hpre hagree
  have hf := fun c => fine_of_pre _ _ _ _ (hpre c)
  refine ⟨fun c => yOut (aHg m c) (aS m c) (aLb m c) (aNw m c), fun c => sOut (aHg m c) (aS m c) (aLb m c), ?_, ?_⟩
  · exact (θ_run Cert.Kernel10Ideal.defs _ _).mono
      (fun _ h c => ⟨(h c).1.trans (final5 m c (hf c)), (h c).2.1.trans (final6 m c (hf c)), (h c).2.2⟩)
      (Cert.Kernel10Ideal.Value.run_blocks (F := Ideal) m ρ)
  · refine (θ_run Cert.Reference10Ideal.defs _ _).mono (fun _ h c => ⟨(h c).1.trans ?_, (h c).2.1.trans ?_, (h c).2.2⟩)
      (Cert.Reference10Ideal.Value.run (F := Ideal) m' ρ')
    all_goals
      obtain ⟨a0, a1, a2, a3⟩ := hagree c
      have hF := hf c
      rw [← a0, ← a2] at hF
    · have e : yOut (aHg m c) (aS m c) (aLb m c) (aNw m c)
          = yOut (vHg (StableHlo.launchContents m' c)) (vS (StableHlo.launchContents m' c)) (vLb (StableHlo.launchContents m' c)) (vNw (StableHlo.launchContents m' c)) := by
        show _ = yOut (m' ((c : Thread Cert.Reference10Ideal.nD Cert.Reference10Ideal.τ).loc Cert.Reference10Ideal.main_arg0)) (m' ((c : Thread Cert.Reference10Ideal.nD Cert.Reference10Ideal.τ).loc Cert.Reference10Ideal.main_arg1)) (m' ((c : Thread Cert.Reference10Ideal.nD Cert.Reference10Ideal.τ).loc Cert.Reference10Ideal.main_arg2)) (m' ((c : Thread Cert.Reference10Ideal.nD Cert.Reference10Ideal.τ).loc Cert.Reference10Ideal.main_arg3))
        rw [a0, a1, a2, a3]
      beta_reduce
      rw [e]
      funext i
      obtain ⟨b, t, j, rfl⟩ : ∃ (b : Fin 2) (t : Fin 16384) (j : Fin 512), i = ix3 b t j :=
        ⟨i 0, i 1, i 2, by funext a; match a with | ⟨0, _⟩ => rfl | ⟨1, _⟩ => rfl | ⟨2, _⟩ => rfl⟩
      exact y_at _ hF b t j
    · have e : sOut (aHg m c) (aS m c) (aLb m c)
          = sOut (vHg (StableHlo.launchContents m' c)) (vS (StableHlo.launchContents m' c)) (vLb (StableHlo.launchContents m' c)) := by
        show _ = sOut (m' ((c : Thread Cert.Reference10Ideal.nD Cert.Reference10Ideal.τ).loc Cert.Reference10Ideal.main_arg0)) (m' ((c : Thread Cert.Reference10Ideal.nD Cert.Reference10Ideal.τ).loc Cert.Reference10Ideal.main_arg1)) (m' ((c : Thread Cert.Reference10Ideal.nD Cert.Reference10Ideal.τ).loc Cert.Reference10Ideal.main_arg2))
        rw [a0, a1, a2]
      beta_reduce
      rw [e]
      funext i
      obtain ⟨b, h, d, e, rfl⟩ : ∃ (b : Fin 2) (h : Fin 4) (d e : Fin 128), i = ix4 b h d e :=
        ⟨i 0, i 1, i 2, i 3, by funext a; match a with | ⟨0, _⟩ => rfl | ⟨1, _⟩ => rfl | ⟨2, _⟩ => rfl | ⟨3, _⟩ => rfl⟩
      exact s_at _ hF b h d e

end Cert.Proof.Hgrn

end
-- ==== Proof.HgrnSample.lean ====
/-
  THE GATED RECURRENCE'S BODY AT THE SAMPLE'S SHAPES, ONE CHUNK OF 32 TOKENS: each head's scores, output and next state at an
  index, over the extended reals. A decay's logarithm is a real number or −∞, and so is a sum of them; where a token's sum is −∞
  every weight that it decays is zero, and where it is a real number so are the sums before it.
-/
module

public import proofs.«01_k».proof.Proof.Gen.Kernel11Ideal.Value
public import Idealize.ShloMosaic.Lib.Pointwise
public import Idealize.ShloMosaic.Lib.Pipeline.Value
public import Idealize.ShloMosaic.Lib.Tactic
public import proofs.«01_k».proof.Proof.HgrnRef

@[expose] public section

set_option maxRecDepth 16384

noncomputable section

open Idealize.ShloMosaic Idealize.ShloMosaic.TcCoe Idealize.SL.Sem

namespace Cert.Kernel11Ideal.Hg

open Cert.Kernel11Ideal Cert.Kernel11Ideal.Gen
open Cert.Kernel10Ideal.Hg (select_slt select_sle sgR lfR kkR arg_pos div_exp exp_mul_div yEl colw colq colf colv colg)
open Cert.HgrnMath

/-! ## Decays over the extended reals -/

theorem sum_bot {ι : Type} (S : Finset ι) (f : ι → EReal) (i : ι) (hi : i ∈ S) (h : f i = ⊥) : ∑ j ∈ S, f j = ⊥ := by
  classical
  rw [← Finset.add_sum_erase S f hi, h, EReal.bot_add]

theorem exists_bot {ι : Type} (S : Finset ι) (f : ι → EReal) (h : ∑ j ∈ S, f j = ⊥) : ∃ i ∈ S, f i = ⊥ := by
  classical
  induction S using Finset.induction_on with
  | empty => simp at h
  | insert a S ha ih =>
    rw [Finset.sum_insert ha] at h
    rcases EReal.add_eq_bot_iff.1 h with h | h
    · exact ⟨a, Finset.mem_insert_self _ _, h⟩
    · obtain ⟨i, hi, e⟩ := ih h
      exact ⟨i, Finset.mem_insert_of_mem hi, e⟩

theorem sum_ne_top {ι : Type} (S : Finset ι) (f : ι → EReal) (h : ∀ i, f i ≠ ⊤) : ∑ j ∈ S, f j ≠ ⊤ := by
  classical
  induction S using Finset.induction_on with
  | empty => simp
  | insert a S ha ih =>
    rw [Finset.sum_insert ha]
    exact (EReal.add_lt_top (h a) ih).ne

/-- A sum to a token's own position. -/
def upto (x : Fin 32 → EReal) (t : Fin 32) : EReal := ∑ s, if s ≤ t then x s else 0

theorem upto_ne_top (x : Fin 32 → EReal) (h : ∀ s, x s ≠ ⊤) (t : Fin 32) : upto x t ≠ ⊤ :=
  sum_ne_top _ _ fun s => by split_ifs; exacts [h s, EReal.zero_ne_top]

theorem upto_bot (x : Fin 32 → EReal) (s t : Fin 32) (hs : s ≤ t) (h : upto x s = ⊥) : upto x t = ⊥ := by
  obtain ⟨i, _, e⟩ := exists_bot _ _ h
  by_cases hi : i ≤ s
  · rw [if_pos hi] at e
    exact sum_bot _ _ i (Finset.mem_univ _) (by rw [if_pos (hi.trans hs), e])
  · rw [if_neg hi] at e
    exact absurd e EReal.zero_ne_bot

/-- The three parts of the triangle's product: the second and the third are zero wherever the first is not −∞. -/
theorem upto_split (x : Fin 32 → EReal) (hx : ∀ s, x s ≠ ⊤) (tri : Fin 32 → EReal) (t : Fin 32) (ht : ∀ s, tri s = if s ≤ t then 1 else 0) :
    (∑ s, tri s * x s) + (∑ s, tri s * (x s - x s)) + (∑ s, tri s * (x s - x s - (x s - x s))) = upto x t := by
  have e0 : (∑ s, tri s * x s) = upto x t := Finset.sum_congr rfl fun s _ => by
    rw [ht]; split_ifs
    · rw [one_mul]
    · rw [zero_mul]
  by_cases h : upto x t = ⊥
  · rw [e0, h, EReal.bot_add, EReal.bot_add]
  · have hz : ∀ s, s ≤ t → x s - x s = 0 := fun s hs => by
      refine EReal.sub_self (hx s) fun hb => h (sum_bot _ _ s (Finset.mem_univ _) ?_)
      rw [if_pos hs, hb]
    have e1 : (∑ s, tri s * (x s - x s)) = 0 := Finset.sum_eq_zero fun s _ => by
      rw [ht]; split_ifs with hs
      · rw [hz s hs, mul_zero]
      · rw [zero_mul]
    have e2 : (∑ s, tri s * (x s - x s - (x s - x s))) = 0 := Finset.sum_eq_zero fun s _ => by
      rw [ht]; split_ifs with hs
      · rw [hz s hs, sub_zero, mul_zero]
      · rw [zero_mul]
    rw [e0, e1, e2, add_zero, add_zero]

/-- A decay taken in two steps. -/
theorem two_steps (q k x y z : EReal) (hx : x ≠ ⊤) (hy : y ≠ ⊤) (hz : z ≠ ⊤) (by' : x ≠ ⊥ → y ≠ ⊥) (bz : x ≠ ⊥ → z ≠ ⊥) :
    q * Ideal.exp (x - y) * (k * Ideal.exp (y - z)) = q * Ideal.exp (x - z) * k := by
  by_cases h : x = ⊥
  · rw [h, EReal.bot_sub, EReal.bot_sub, Ideal.exp_bot]
    simp
  · lift x to ℝ using ⟨hx, h⟩
    lift y to ℝ using ⟨hy, by' h⟩
    lift z to ℝ using ⟨hz, bz h⟩
    rw [← EReal.coe_sub, ← EReal.coe_sub, ← EReal.coe_sub, Ideal.exp_coe, Ideal.exp_coe, Ideal.exp_coe,
      show x - z = (x - y) + (y - z) by ring, Real.exp_add, EReal.coe_mul]
    ac_rfl

/-! ## One head of the chunk, as the kernel computes it -/

/-- The scores of sixteen rows against the chunk's tokens: the queries scaled to the reference row, the keys from it. -/
def blk (ref : FVec Ideal S1x128 .f32) (qs aq : FVec Ideal S16x128 .f32) (a kk : FVec Ideal S32x128 .f32) (hi r0 : BitVec 32) :
    FVec Ideal S16x32 .f32 :=
  select (cmpi .sle (iota .tc S16x32 32 [1] iota_S16x32_d1_w32)
      (addi (iota .tc S16x32 32 [0] iota_S16x32_d0_w32) (broadcast S16x32 r0)))
    (matmul dot_S16x128_S32x128_S16x32_1_1_0_0_n_n none
      (truncf .bf16 (mulf qs (exp (subf aq (broadcastTo S16x128 ref broadcasts_S1x128_S16x128)))) bitsLt_bf16_f32)
      (truncf .bf16 (mulf kk (exp (select (cmpi .slt (iota .tc S32x128 32 [0] iota_S32x128_d0_w32) (broadcast S32x128 hi))
        (subf (broadcastTo S32x128 ref broadcasts_S1x128_S32x128) a)
        (broadcast S32x128 (Scalar.ofBits .f32 0xFF800000#32))))) bitsLt_bf16_f32)
      (constant S16x32 .f32 0x00000000#32))
    (broadcast S16x32 (Scalar.ofBits .f32 0x00000000#32))

theorem blk_at (ref : FVec Ideal S1x128 .f32) (qs aq : FVec Ideal S16x128 .f32) (a kk : FVec Ideal S32x128 .f32) (n : ℕ) (hn : n ≤ 16)
    (r : Fin 16) (s : Fin 32) :
    blk ref qs aq a kk (BitVec.ofNat 32 (n + 16)) (BitVec.ofNat 32 n) (ix2 r s)
      = if s.val ≤ n + r.val then ∑ c, qs (ix2 r c) * Ideal.exp (aq (ix2 r c) - ref (ix2 0 c)) * (kk (ix2 s c) * Ideal.exp (ref (ix2 0 c) - a (ix2 s c))) else 0 := by
  have hr := r.isLt
  have hs := s.isLt
  pointwise [blk]
  have e : IntOp.addi (BitVec.ofNat 32 r.val) (BitVec.ofNat 32 n) = BitVec.ofNat 32 (n + r.val) := by
    show BitVec.ofNat 32 r.val + BitVec.ofNat 32 n = _
    rw [Nat.add_comm, BitVec.ofNat_add]
  rw [e, select_sle _ _ (by omega) (by omega)]
  by_cases h : s.val ≤ n + r.val
  · rw [if_pos h, if_pos h]
    refine Finset.sum_congr rfl fun c _ => ?_
    rw [select_slt _ _ (by omega) (by omega), if_pos (by omega)]
  · rw [if_neg h, if_neg h]

/-- The chunk's scores: two blocks of sixteen rows. -/
def scores (q a kk : FVec Ideal S32x128 .f32) : FVec Ideal S32x32 .f32 :=
  concatenate S32x32 0 [
    ⟨S16x32, blk (broadcast S1x128 (Scalar.ofBits .f32 0x00000000#32))
      (extractStridedSlice S16x128 ![0, 0] q slices_S32x128_o0_0_S16x128) (extractStridedSlice S16x128 ![0, 0] a slices_S32x128_o0_0_S16x128)
      a kk 16#32 0#32⟩,
    ⟨S16x32, blk (extractStridedSlice S1x128 ![15, 0] a slices_S32x128_o15_0_S1x128)
      (extractStridedSlice S16x128 ![16, 0] q slices_S32x128_o16_0_S16x128) (extractStridedSlice S16x128 ![16, 0] a slices_S32x128_o16_0_S16x128)
      a kk 32#32 16#32⟩] concatenates_S16x32_S16x32_S32x32_d0

variable (q a kk : FVec Ideal S32x128 .f32) (st : FVec Ideal S128x128 .f32) (v : FVec Ideal S32x128 .bf16)
  (ha : ∀ t c, a (ix2 t c) ≠ ⊤) (hm : ∀ (s t : Fin 32) (c : Fin 128), s ≤ t → a (ix2 s c) = ⊥ → a (ix2 t c) = ⊥)

include ha hm in
theorem blk_row (t s : Fin 32) (ref : FVec Ideal S1x128 .f32) (qs aq : FVec Ideal S16x128 .f32) (n : ℕ) (hn : n ≤ 16) (r : Fin 16)
    (e : n + r.val = t.val) (h1 : ∀ c, ref (ix2 0 c) = 0 ∨ ∃ u : Fin 32, u ≤ t ∧ ref (ix2 0 c) = a (ix2 u c)) (h2 : ∀ c, qs (ix2 r c) = q (ix2 t c))
    (h3 : ∀ c, aq (ix2 r c) = a (ix2 t c)) (hi r0 : BitVec 32) (hh : hi = BitVec.ofNat 32 (n + 16)) (h0 : r0 = BitVec.ofNat 32 n) :
    blk ref qs aq a kk hi r0 (ix2 r s)
      = if s ≤ t then ∑ c, q (ix2 t c) * Ideal.exp (a (ix2 t c) - a (ix2 s c)) * kk (ix2 s c) else 0 := by
  rw [hh, h0, blk_at ref qs aq a kk n hn r s, e]
  by_cases h : s ≤ t
  · rw [if_pos h, if_pos (Fin.le_def.1 h)]
    refine Finset.sum_congr rfl fun c _ => ?_
    rw [h2, h3]
    refine two_steps _ _ _ _ _ (ha t c) ?_ (ha s c) (fun hb hr => ?_) (fun hb hs => hb (hm s t c h hs))
    · rcases h1 c with g | ⟨u, -, g⟩
      · rw [g]; exact EReal.zero_ne_top
      · rw [g]; exact ha u c
    · rcases h1 c with g | ⟨u, hu, g⟩
      · rw [g] at hr; exact absurd hr EReal.zero_ne_bot
      · rw [g] at hr; exact hb (hm u t c hu hr)
  · rw [if_neg h, if_neg fun g => h (Fin.le_def.2 g)]

include ha hm in
theorem scores_at (t s : Fin 32) :
    scores q a kk (ix2 t s) = if s ≤ t then ∑ c, q (ix2 t c) * Ideal.exp (a (ix2 t c) - a (ix2 s c)) * kk (ix2 s c) else 0 := by
  pointwise [scores]
  generalize hZ : (if s ≤ t then ∑ c, q (ix2 t c) * Ideal.exp (a (ix2 t c) - a (ix2 s c)) * kk (ix2 s c) else 0) = Z
  have hz := fun ref qs aq n hn r e h1 h2 h3 hi r0 hh h0 =>
    (blk_row q a kk ha hm t s ref qs aq n hn r e h1 h2 h3 hi r0 hh h0).trans hZ
  clear hZ
  have ht := t.isLt
  by_cases g0 : t.val < 16
  · rw [dif_pos g0]
    refine hz _ _ _ 0 (by omega) _ (by simp only; omega) (fun c => .inl (by pointwise)) (fun c => ?_) (fun c => ?_) _ _ rfl rfl <;>
      (pointwise; try (congr 2; apply Fin.ext; simp only; omega))
  rw [dif_neg g0]
  refine hz _ _ _ 16 (by omega) _ (by simp only; omega) (fun c => .inr ⟨15, Fin.le_def.2 (show 15 ≤ t.val by omega), by pointwise⟩) (fun c => ?_) (fun c => ?_) _ _ rfl rfl <;>
    (pointwise; try (congr 2; apply Fin.ext; simp only; omega))

/-- The head's output before the norm. -/
def headO : FVec Ideal S32x128 .f32 :=
  addf (matmul dot_S32x32_S32x128_S32x128_1_0_0_1_n_n none (truncf .bf16 (scores q a kk) bitsLt_bf16_f32) v (constant S32x128 .f32 0x00000000#32))
    (matmul dot_S32x128_S128x128_S32x128_1_1_0_0_n_n none (truncf .bf16 (mulf q (exp a)) bitsLt_bf16_f32) (truncf .bf16 st bitsLt_bf16_f32)
      (constant S32x128 .f32 0x00000000#32))

include ha hm in
theorem headO_at (t : Fin 32) (d : Fin 128) :
    headO q a kk st v (ix2 t d)
      = (∑ s, (if s ≤ t then ∑ c, q (ix2 t c) * Ideal.exp (a (ix2 t c) - a (ix2 s c)) * kk (ix2 s c) else 0) * v (ix2 s d))
        + ∑ c, q (ix2 t c) * Ideal.exp (a (ix2 t c)) * st (ix2 d c) := by
  pointwise [headO]
  congr 1
  refine Finset.sum_congr rfl fun s _ => ?_
  rw [scores_at q a kk ha hm]

theorem headSt_at (d c : Fin 128) :
    k0_pay24 (F := Ideal) v a kk st (ix4 0 0 d c)
      = st (ix2 d c) * Ideal.exp (a (ix2 31 c)) + ∑ s, v (ix2 s d) * (kk (ix2 s c) * Ideal.exp (a (ix2 31 c) - a (ix2 s c))) := by
  pointwise [k0_pay24]

/-! ## The decays and the keys -/

/-- The kernel's logarithm of a decay, and its key's scale. -/
def kLf (b f : EReal) : EReal :=
  Ideal.log (b + (1 - b) * if 0 ≤ f then Ideal.div 1 (1 + Ideal.exp (0 - FloatOps.absf (F := Ideal) (φ := .f32) f))
    else Ideal.exp (0 - FloatOps.absf (F := Ideal) (φ := .f32) f) * Ideal.div 1 (1 + Ideal.exp (0 - FloatOps.absf (F := Ideal) (φ := .f32) f)))
def kKk (b f : EReal) : EReal :=
  (1 - b) * if 0 ≤ f then Ideal.exp (0 - FloatOps.absf (F := Ideal) (φ := .f32) f) * Ideal.div 1 (1 + Ideal.exp (0 - FloatOps.absf (F := Ideal) (φ := .f32) f))
    else Ideal.div 1 (1 + Ideal.exp (0 - FloatOps.absf (F := Ideal) (φ := .f32) f))

theorem abs_top : FloatOps.absf (F := Ideal) (φ := .f32) (⊤ : EReal) = (⊤ : EReal) := by
  show max (⊤ : EReal) (-⊤) = ⊤
  simp
theorem abs_bot : FloatOps.absf (F := Ideal) (φ := .f32) (⊥ : EReal) = (⊤ : EReal) := by
  show max (⊥ : EReal) (-⊥) = ⊤
  simp
theorem exp_zero_sub_top : Ideal.exp (0 - (⊤ : EReal)) = 0 := by rw [zero_sub, EReal.neg_top, Ideal.exp_bot]
theorem div_one_one : Ideal.div 1 (1 + 0) = 1 := by
  rw [add_zero, ← EReal.coe_one, Ideal.div_coe one_ne_zero]
  simp

theorem kLf_coe (b f : ℝ) (h0 : 0 ≤ b) (h1 : b ≤ 1) : kLf (b : EReal) (f : EReal) = (lfR b f : EReal) := by
  unfold kLf
  rw [exp_mul_div, div_exp]
  have e : (if (0 : EReal) ≤ (f : EReal) then ((1 / (1 + Real.exp (-|f|)) : ℝ) : EReal) else ((1 / (1 + Real.exp |f|) : ℝ) : EReal)) = (sgR f : EReal) := by
    by_cases h : 0 ≤ f
    · rw [if_pos (EReal.coe_nonneg.2 h), abs_of_nonneg h]; rfl
    · rw [if_neg (fun g => h (EReal.coe_nonneg.1 g)), abs_of_neg (not_le.1 h)]; rfl
  rw [e, ← EReal.coe_one, ← EReal.coe_sub, ← EReal.coe_mul, ← EReal.coe_add, Ideal.log_coe, if_neg (not_le.2 (arg_pos b f h0 h1))]
  rfl

theorem kKk_coe (b f : ℝ) : kKk (b : EReal) (f : EReal) = (kkR b f : EReal) := by
  unfold kKk
  rw [exp_mul_div, div_exp]
  have e : (if (0 : EReal) ≤ (f : EReal) then ((1 / (1 + Real.exp |f|) : ℝ) : EReal) else ((1 / (1 + Real.exp (-|f|)) : ℝ) : EReal)) = (sgR (-f) : EReal) := by
    unfold sgR
    rw [neg_neg]
    by_cases h : 0 ≤ f
    · rw [if_pos (EReal.coe_nonneg.2 h), abs_of_nonneg h]
    · rw [if_neg (fun g => h (EReal.coe_nonneg.1 g)), abs_of_neg (not_le.1 h), neg_neg]
  rw [e, ← EReal.coe_one, ← EReal.coe_sub, ← EReal.coe_mul]
  rfl

theorem kLf_top (b : ℝ) : kLf (b : EReal) ⊤ = 0 := by
  unfold kLf
  rw [abs_top, exp_zero_sub_top, div_one_one, if_pos le_top, mul_one, ← EReal.coe_one, ← EReal.coe_sub, ← EReal.coe_add, Ideal.log_coe,
    show b + (1 - b) = 1 by ring, if_neg (by norm_num), Real.log_one]
  rfl
theorem kLf_bot (b : ℝ) : kLf (b : EReal) ⊥ = Ideal.log (b : EReal) := by
  unfold kLf
  rw [abs_bot, exp_zero_sub_top, if_neg (not_le.2 EReal.bot_lt_zero), zero_mul, mul_zero, add_zero]
theorem kKk_top (b : ℝ) : kKk (b : EReal) ⊤ = 0 := by
  unfold kKk
  rw [abs_top, exp_zero_sub_top, if_pos le_top, zero_mul, mul_zero]
theorem kKk_bot (b : ℝ) : kKk (b : EReal) ⊥ = 1 - (b : EReal) := by
  unfold kKk
  rw [abs_bot, exp_zero_sub_top, div_one_one, if_neg (not_le.2 EReal.bot_lt_zero), mul_one]

theorem refLs_top : refLs ⊤ = 0 := by
  unfold refLs
  rw [if_neg (by simp), EReal.neg_top, abs_bot, EReal.neg_top, log1p_exp_bot, max_eq_right bot_le, add_zero, neg_zero]
theorem refLs_bot : refLs ⊥ = ⊥ := by
  unfold refLs
  rw [if_neg (by simp), EReal.neg_bot, abs_top, EReal.neg_top, log1p_exp_bot, max_eq_left le_top, add_zero, EReal.neg_top]

theorem refLf_top (b : ℝ) (h0 : 0 ≤ b) (h1 : b ≤ 1) : refLf (b : EReal) ⊤ = 0 := by
  have e1 : Ideal.log1p (-(b : EReal)) = Ideal.log ((1 - b : ℝ) : EReal) := by
    show Ideal.log (1 + -(b : EReal)) = _
    rw [← EReal.coe_neg, ← EReal.coe_one, ← EReal.coe_add]
    rfl
  unfold refLf
  rw [e1, refLs_top, add_zero, Ideal.log_coe, Ideal.log_coe]
  rcases eq_or_lt_of_le h0 with h | h
  · subst h
    rw [if_pos le_rfl, if_neg (by norm_num), refLae_bot_left]
    simp
  · rw [if_neg (not_le.2 h)]
    rcases eq_or_lt_of_le h1 with h' | h'
    · subst h'
      rw [if_pos (by norm_num), refLae_bot_right]
      simp
    · rw [if_neg (by linarith), refLae_coe, Real.exp_log h, Real.exp_log (by linarith), show b + (1 - b) = 1 by ring, Real.log_one]
      rfl

theorem refLf_bot (b : ℝ) (h0 : 0 ≤ b) : refLf (b : EReal) ⊥ = Ideal.log (b : EReal) := by
  unfold refLf
  rw [refLs_bot, EReal.add_bot, Ideal.log_coe]
  rcases eq_or_lt_of_le h0 with h | h
  · subst h
    rw [if_pos le_rfl]
    unfold refLae
    rw [if_neg (by simp), max_self, EReal.bot_add]
  · rw [if_neg (not_le.2 h), refLae_bot_right]

/-- The kernel's forms are the reference's for every logit, finite or not. -/
theorem kLf_eq (b : ℝ) (f : EReal) (h0 : 0 ≤ b) (h1 : b ≤ 1) : kLf (b : EReal) f = refLf (b : EReal) f := by
  induction f using EReal.rec with
  | coe f => rw [kLf_coe b f h0 h1, refLf_coe b f h0 h1]
  | top => rw [kLf_top, refLf_top b h0 h1]
  | bot => rw [kLf_bot, refLf_bot b h0]

theorem kKk_eq (b : ℝ) (f : EReal) (h0 : 0 ≤ b) (h1 : b ≤ 1) : kKk (b : EReal) f = -(Ideal.exp (refLf (b : EReal) f) - 1) := by
  induction f using EReal.rec with
  | coe f => rw [kKk_coe b f, refLf_coe b f h0 h1, kk_eq b f h0 h1]
  | top =>
    rw [kKk_top, refLf_top b h0 h1, ← EReal.coe_zero, Ideal.exp_coe, Real.exp_zero, ← EReal.coe_one, ← EReal.coe_sub, sub_self, ← EReal.coe_neg, neg_zero]
  | bot =>
    rw [kKk_bot, refLf_bot b h0, Ideal.log_coe]
    rcases eq_or_lt_of_le h0 with h | h
    · subst h
      rw [if_pos le_rfl, Ideal.exp_bot]
      simp
    · rw [if_neg (not_le.2 h), Ideal.exp_coe, Real.exp_log h, ← EReal.coe_one, ← EReal.coe_sub, ← EReal.coe_sub, ← EReal.coe_neg, neg_sub]

theorem refLf_ne_top (b : ℝ) (f : EReal) (h0 : 0 ≤ b) (h1 : b ≤ 1) : refLf (b : EReal) f ≠ ⊤ := by
  induction f using EReal.rec with
  | coe f => rw [refLf_coe b f h0 h1]; exact EReal.coe_ne_top _
  | top => rw [refLf_top b h0 h1]; exact EReal.zero_ne_top
  | bot =>
    rw [refLf_bot b h0, Ideal.log_coe]
    split_ifs
    · exact bot_ne_top
    · exact EReal.coe_ne_top _

theorem pay9_at (x : Vec Ideal S1x32x512 .f32) (lb : Vec Ideal S1x512 .f32) (t : Fin 32) (j : Fin 512) (b : ℝ)
    (hb : lb (ix2 0 j) = (b : EReal)) (h0 : 0 ≤ b) (h1 : b ≤ 1) :
    k0_pay9 (F := Ideal) x lb (ix2 t j) = refLf (b : EReal) (x (ix3 0 t j)) := by
  rw [← kLf_eq b _ h0 h1, ← hb]
  pointwise [k0_pay2, k0_pay3, k0_pay4, k0_pay5, k0_pay6, k0_pay9]
  rfl

theorem pay7_at (x : Vec Ideal S1x32x512 .f32) (lb : Vec Ideal S1x512 .f32) (t : Fin 32) (j : Fin 512) (b : ℝ)
    (hb : lb (ix2 0 j) = (b : EReal)) (h0 : 0 ≤ b) (h1 : b ≤ 1) :
    k0_pay7 (F := Ideal) x lb (ix2 t j) = -(Ideal.exp (refLf (b : EReal) (x (ix3 0 t j))) - 1) := by
  rw [← kKk_eq b _ h0 h1, ← hb]
  pointwise [k0_pay2, k0_pay7, k0_pay3, k0_pay4, k0_pay5, k0_pay6, k0_pay9]
  rfl

theorem pay14_at (x : Vec Ideal S1x32x512 .f32) (lb : Vec Ideal S1x512 .f32) (tri : Vec Ideal S32x32 .bf16) (t : Fin 32) (j : Fin 512)
    (b : ℝ) (hb : lb (ix2 0 j) = (b : EReal)) (h0 : 0 ≤ b) (h1 : b ≤ 1)
    (ht : ∀ t s : Fin 32, tri (ix2 t s) = if s ≤ t then 1 else 0) :
    k0_pay14 (F := Ideal) (k0_pay8 tri) (k0_pay11 x lb) (k0_pay12 x lb) (k0_pay13 x lb tri) (ix2 t j)
      = upto (fun s => refLf (b : EReal) (x (ix3 0 s j))) t := by
  have e10 : ∀ s, k0_pay10 (F := Ideal) x lb (ix2 s j) = refLf (b : EReal) (x (ix3 0 s j)) - refLf (b : EReal) (x (ix3 0 s j)) := fun s => by
    rw [← pay9_at x lb s j b hb h0 h1]; rfl
  rw [← upto_split (fun s => refLf (b : EReal) (x (ix3 0 s j))) (fun s => refLf_ne_top b _ h0 h1) (fun s => tri (ix2 t s)) t (ht t)]
  pointwise [k0_pay14, k0_pay8, k0_pay11, k0_pay12, k0_pay13]
  simp only [e10, pay9_at x lb _ j b hb h0 h1]

/-! ## The pieces the body stores -/

theorem yP (g : FVec Ideal S32x128 .f32) (o : FVec Ideal S32x128 .f32) (w : Vec Ideal S1x128 .f32) (t : Fin 32) (d : Fin 128) :
    k0_pay25 (F := Ideal) g o w (ix3 0 t d) = yEl (g (ix2 t d)) (fun e => o (ix2 t e)) d (w (ix2 0 d)) := by
  pointwise [k0_pay25]
  rfl

section Block

variable (X : Fin 32 → Fin 2048 → EReal) (b : Fin 512 → ℝ)

/-- The decays' running sum within the chunk, and the keys. -/
def LB (h : Fin 4) (t : Fin 32) (c : Fin 128) : EReal := refLf (b (colw h c) : EReal) (X t (colf (colw h c)))
def AB (h : Fin 4) (t : Fin 32) (c : Fin 128) : EReal := upto (fun s => LB X b h s c) t
def KB (h : Fin 4) (t : Fin 32) (c : Fin 128) : EReal := -(Ideal.exp (LB X b h t c) - 1)

/-- The state the chunk leaves, and the chunk's output before the norm, at an index, from the state before it. -/
def sB (S : Fin 4 → Fin 128 → Fin 128 → EReal) (h : Fin 4) (d c : Fin 128) : EReal :=
  S h d c * Ideal.exp (AB X b h 31 c) + ∑ s, X s (colv h d) * (KB X b h s c * Ideal.exp (AB X b h 31 c - AB X b h s c))
def oB (S : Fin 4 → Fin 128 → Fin 128 → EReal) (h : Fin 4) (t : Fin 32) (d : Fin 128) : EReal :=
  (∑ s, (if s ≤ t then ∑ c, X t (colq h c) * Ideal.exp (AB X b h t c - AB X b h s c) * KB X b h s c else 0) * X s (colv h d))
    + ∑ c, X t (colq h c) * Ideal.exp (AB X b h t c) * S h d c

/-- A state's block as a function of head, value and channel. -/
abbrev sF (st : Vec Ideal S1x4x128x128 .f32) : Fin 4 → Fin 128 → Fin 128 → EReal := fun h d c => st (ix4 0 h d c)

def G6 (st : Vec Ideal S1x4x128x128 .f32) : Vec Ideal S1x4x128x128 .f32 := fun y => sB X b (sF st) (y 1) (y 2) (y 3)
def G5 (x0 : Vec Ideal S1x32x2048 .f32) (x3 : Vec Ideal S1x512 .f32) (st : Vec Ideal S1x4x128x128 .f32) : Vec Ideal S1x32x512 .bf16 := fun y =>
  yEl (x0 (ix3 0 (y 1) (colg (y 2)))) (fun e => oB X b (sF st) ⟨(y 2).val / 128, by have := (y 2).isLt; change (y 2).val < 512 at this; omega⟩ (y 1) e)
    ⟨(y 2).val % 128, by omega⟩ (x3 (ix2 0 (y 2)))

variable (x0 : Vec Ideal S1x32x2048 .f32) (x2 : Vec Ideal S1x512 .f32) (x3 : Vec Ideal S1x512 .f32) (x4 : Vec Ideal S32x32 .bf16)
  (st : Vec Ideal S1x4x128x128 .f32)

/-- The decays' logits, the lower bound, the triangle, as the body loads them. -/
abbrev fx : Vec Ideal S1x32x512 .f32 := View.ld x0 (Rect.unit ![0, 0, 512] ![1, 32, 512] inb_S1x32x2048_S1x32x512_0_0_512)
abbrev lx : Vec Ideal S1x512 .f32 := View.ld x2 (Rect.unit ![0, 0] ![1, 512] inb_S1x512_S1x512_0_0)
abbrev tx : Vec Ideal S32x32 .bf16 := View.ld x4 (Rect.unit ![0, 0] ![32, 32] inb_S32x32_S32x32_0_0)
abbrev a14 : FVec Ideal S32x512 .f32 :=
  k0_pay14 (k0_pay8 (tx x4)) (k0_pay11 (fx x0) (lx x2)) (k0_pay12 (fx x0) (lx x2)) (k0_pay13 (fx x0) (lx x2) (tx x4))

/-- The block's numbers, the lower bound a real number between zero and one, the triangle ones on and under the diagonal. -/
structure Good : Prop where
  hx : ∀ (t : Fin 32) (j : Fin 2048), x0 (ix3 0 t j) = X t j
  hb : ∀ j, x2 (ix2 0 j) = (b j : EReal)
  h0 : ∀ j, 0 ≤ b j
  h1 : ∀ j, b j ≤ 1
  ht : ∀ t s : Fin 32, x4 (ix2 t s) = if s ≤ t then 1 else 0

variable (hG : Good X b x0 x2 x4)
include hG

theorem fx_at (t : Fin 32) (j : Fin 512) : fx x0 (ix3 0 t j) = X t (colf j) := by
  pointwise [fx]; exact hG.hx t (colf j)

theorem lx_at (j : Fin 512) : lx x2 (ix2 0 j) = (b j : EReal) := by
  pointwise [lx]; exact hG.hb _

theorem a14_at (h : Fin 4) (t : Fin 32) (c : Fin 128) : a14 x0 x2 x4 (ix2 t (colw h c)) = AB X b h t c := by
  refine (pay14_at (fx x0) (lx x2) (tx x4) t (colw h c) (b (colw h c)) (lx_at X b x0 x2 x4 hG _) (hG.h0 _) (hG.h1 _) ?_).trans ?_
  · intro t s; pointwise [tx]; exact hG.ht t s
  · simp only [fx_at X b x0 x2 x4 hG]
    rfl

theorem k7_at (h : Fin 4) (t : Fin 32) (c : Fin 128) : k0_pay7 (F := Ideal) (fx x0) (lx x2) (ix2 t (colw h c)) = KB X b h t c := by
  refine (pay7_at (fx x0) (lx x2) t (colw h c) (b (colw h c)) (lx_at X b x0 x2 x4 hG _) (hG.h0 _) (hG.h1 _)).trans ?_
  rw [fx_at X b x0 x2 x4 hG]
  rfl

theorem AB_ne_top (h : Fin 4) (t : Fin 32) (c : Fin 128) : AB X b h t c ≠ ⊤ :=
  upto_ne_top _ (fun _ => refLf_ne_top _ _ (hG.h0 _) (hG.h1 _)) _

omit hG in
theorem AB_bot (h : Fin 4) (s t : Fin 32) (c : Fin 128) (hs : s ≤ t) (e : AB X b h s c = ⊥) : AB X b h t c = ⊥ := upto_bot _ s t hs e

/-! Head 0. -/

abbrev q0 : FVec Ideal S32x128 .f32 := k0_pay15 (View.ld x0 (Rect.unit ![0, 0, 0] ![1, 32, 128] inb_S1x32x2048_S1x32x128_0_0_0))
abbrev v0 : FVec Ideal S32x128 .bf16 := k0_pay16 (View.ld x0 (Rect.unit ![0, 0, 1024] ![1, 32, 128] inb_S1x32x2048_S1x32x128_0_0_1024))
abbrev g0 : FVec Ideal S32x128 .f32 := k0_pay17 (View.ld x0 (Rect.unit ![0, 0, 1536] ![1, 32, 128] inb_S1x32x2048_S1x32x128_0_0_1536))
abbrev a0 : FVec Ideal S32x128 .f32 := extractStridedSlice S32x128 ![0, 0] (a14 x0 x2 x4) slices_S32x512_o0_0_S32x128
abbrev k0 : FVec Ideal S32x128 .f32 := extractStridedSlice S32x128 ![0, 0] (k0_pay7 (fx x0) (lx x2)) slices_S32x512_o0_0_S32x128
abbrev s0 : FVec Ideal S128x128 .f32 := k0_pay20 (View.ld st (Rect.unit ![0, 0, 0, 0] ![1, 1, 128, 128] inb_S1x4x128x128_S1x1x128x128_0_0_0_0))

theorem q0_at (t : Fin 32) (c : Fin 128) : q0 x0 (ix2 t c) = X t (colq 0 c) := by
  pointwise [k0_pay15]
  exact (congrArg (fun j => x0 (ix3 0 t j)) (Fin.ext (by simp [colq]))).trans (hG.hx t (colq 0 c))
theorem v0_at (t : Fin 32) (c : Fin 128) : v0 x0 (ix2 t c) = X t (colv 0 c) := by
  pointwise [k0_pay16]
  exact (congrArg (fun j => x0 (ix3 0 t j)) (Fin.ext (by simp [colv]))).trans (hG.hx t (colv 0 c))
theorem a0_at (t : Fin 32) (c : Fin 128) : a0 x0 x2 x4 (ix2 t c) = AB X b 0 t c := by
  refine Eq.trans ?_ (a14_at X b x0 x2 x4 hG 0 t c)
  pointwise
  exact congrArg (fun j => a14 x0 x2 x4 (ix2 t j)) (Fin.ext (by simp [colw]))
theorem k0_at (t : Fin 32) (c : Fin 128) : k0 x0 x2 (ix2 t c) = KB X b 0 t c := by
  refine Eq.trans ?_ (k7_at X b x0 x2 x4 hG 0 t c)
  pointwise
  exact congrArg (fun j => k0_pay7 (F := Ideal) (fx x0) (lx x2) (ix2 t j)) (Fin.ext (by simp [colw]))
omit hG in
theorem s0_at (d c : Fin 128) : s0 st (ix2 d c) = st (ix4 0 0 d c) := by
  pointwise [k0_pay20]

theorem S0_at (d c : Fin 128) : k0_pay24 (F := Ideal) (v0 x0) (a0 x0 x2 x4) (k0 x0 x2) (s0 st) (ix4 0 0 d c) = sB X b (sF st) 0 d c := by
  rw [headSt_at]
  simp only [a0_at X b x0 x2 x4 hG, k0_at X b x0 x2 x4 hG, v0_at X b x0 x2 x4 hG, s0_at]
  rfl

theorem O0_at (t : Fin 32) (d : Fin 128) : headO (q0 x0) (a0 x0 x2 x4) (k0 x0 x2) (s0 st) (v0 x0) (ix2 t d) = oB X b (sF st) 0 t d := by
  have ha : ∀ t c, a0 x0 x2 x4 (ix2 t c) ≠ ⊤ := fun t c => by rw [a0_at X b x0 x2 x4 hG]; exact AB_ne_top X b x0 x2 x4 hG 0 t c
  have hm : ∀ (s t : Fin 32) (c : Fin 128), s ≤ t → a0 x0 x2 x4 (ix2 s c) = ⊥ → a0 x0 x2 x4 (ix2 t c) = ⊥ := fun s t c hs e => by
    rw [a0_at X b x0 x2 x4 hG] at e ⊢; exact AB_bot X b 0 s t c hs e
  rw [headO_at _ _ _ _ _ ha hm]
  simp only [q0_at X b x0 x2 x4 hG, a0_at X b x0 x2 x4 hG, k0_at X b x0 x2 x4 hG, v0_at X b x0 x2 x4 hG, s0_at]
  rfl

theorem Y0_at (t : Fin 32) (d : Fin 128) :
    k0_pay25 (F := Ideal) (g0 x0) (headO (q0 x0) (a0 x0 x2 x4) (k0 x0 x2) (s0 st) (v0 x0))
        (View.ld x3 (Rect.unit ![0, 0] ![1, 128] inb_S1x512_S1x128_0_0)) (ix3 0 t d)
      = yEl (x0 (ix3 0 t (colg (colw 0 d)))) (fun e => oB X b (sF st) 0 t e) d (x3 (ix2 0 (colw 0 d))) := by
  rw [yP]
  simp only [O0_at X b x0 x2 x4 st hG]
  congr 1
  · pointwise [k0_pay17]
    exact congrArg (fun j => x0 (ix3 0 t j)) (Fin.ext (by simp [colg, colw]; try omega))
  · pointwise
    exact congrArg (fun j => x3 (ix2 0 j)) (Fin.ext (by simp [colw]))

/-! Head 1. -/

abbrev q1 : FVec Ideal S32x128 .f32 := k0_pay15 (View.ld x0 (Rect.unit ![0, 0, 128] ![1, 32, 128] inb_S1x32x2048_S1x32x128_0_0_128))
abbrev v1 : FVec Ideal S32x128 .bf16 := k0_pay16 (View.ld x0 (Rect.unit ![0, 0, 1152] ![1, 32, 128] inb_S1x32x2048_S1x32x128_0_0_1152))
abbrev g1 : FVec Ideal S32x128 .f32 := k0_pay17 (View.ld x0 (Rect.unit ![0, 0, 1664] ![1, 32, 128] inb_S1x32x2048_S1x32x128_0_0_1664))
abbrev a1 : FVec Ideal S32x128 .f32 := extractStridedSlice S32x128 ![0, 128] (a14 x0 x2 x4) slices_S32x512_o0_128_S32x128
abbrev k1 : FVec Ideal S32x128 .f32 := extractStridedSlice S32x128 ![0, 128] (k0_pay7 (fx x0) (lx x2)) slices_S32x512_o0_128_S32x128
abbrev s1 : FVec Ideal S128x128 .f32 := k0_pay20 (View.ld st (Rect.unit ![0, 1, 0, 0] ![1, 1, 128, 128] inb_S1x4x128x128_S1x1x128x128_0_1_0_0))

theorem q1_at (t : Fin 32) (c : Fin 128) : q1 x0 (ix2 t c) = X t (colq 1 c) := by
  pointwise [k0_pay15]
  exact (congrArg (fun j => x0 (ix3 0 t j)) (Fin.ext (by simp [colq]))).trans (hG.hx t (colq 1 c))
theorem v1_at (t : Fin 32) (c : Fin 128) : v1 x0 (ix2 t c) = X t (colv 1 c) := by
  pointwise [k0_pay16]
  exact (congrArg (fun j => x0 (ix3 0 t j)) (Fin.ext (by simp [colv]))).trans (hG.hx t (colv 1 c))
theorem a1_at (t : Fin 32) (c : Fin 128) : a1 x0 x2 x4 (ix2 t c) = AB X b 1 t c := by
  refine Eq.trans ?_ (a14_at X b x0 x2 x4 hG 1 t c)
  pointwise
  exact congrArg (fun j => a14 x0 x2 x4 (ix2 t j)) (Fin.ext (by simp [colw]))
theorem k1_at (t : Fin 32) (c : Fin 128) : k1 x0 x2 (ix2 t c) = KB X b 1 t c := by
  refine Eq.trans ?_ (k7_at X b x0 x2 x4 hG 1 t c)
  pointwise
  exact congrArg (fun j => k0_pay7 (F := Ideal) (fx x0) (lx x2) (ix2 t j)) (Fin.ext (by simp [colw]))
omit hG in
theorem s1_at (d c : Fin 128) : s1 st (ix2 d c) = st (ix4 0 1 d c) := by
  pointwise [k0_pay20]

theorem S1_at (d c : Fin 128) : k0_pay24 (F := Ideal) (v1 x0) (a1 x0 x2 x4) (k1 x0 x2) (s1 st) (ix4 0 0 d c) = sB X b (sF st) 1 d c := by
  rw [headSt_at]
  simp only [a1_at X b x0 x2 x4 hG, k1_at X b x0 x2 x4 hG, v1_at X b x0 x2 x4 hG, s1_at]
  rfl

theorem O1_at (t : Fin 32) (d : Fin 128) : headO (q1 x0) (a1 x0 x2 x4) (k1 x0 x2) (s1 st) (v1 x0) (ix2 t d) = oB X b (sF st) 1 t d := by
  have ha : ∀ t c, a1 x0 x2 x4 (ix2 t c) ≠ ⊤ := fun t c => by rw [a1_at X b x0 x2 x4 hG]; exact AB_ne_top X b x0 x2 x4 hG 1 t c
  have hm : ∀ (s t : Fin 32) (c : Fin 128), s ≤ t → a1 x0 x2 x4 (ix2 s c) = ⊥ → a1 x0 x2 x4 (ix2 t c) = ⊥ := fun s t c hs e => by
    rw [a1_at X b x0 x2 x4 hG] at e ⊢; exact AB_bot X b 1 s t c hs e
  rw [headO_at _ _ _ _ _ ha hm]
  simp only [q1_at X b x0 x2 x4 hG, a1_at X b x0 x2 x4 hG, k1_at X b x0 x2 x4 hG, v1_at X b x0 x2 x4 hG, s1_at]
  rfl

theorem Y1_at (t : Fin 32) (d : Fin 128) :
    k0_pay25 (F := Ideal) (g1 x0) (headO (q1 x0) (a1 x0 x2 x4) (k1 x0 x2) (s1 st) (v1 x0))
        (View.ld x3 (Rect.unit ![0, 128] ![1, 128] inb_S1x512_S1x128_0_128)) (ix3 0 t d)
      = yEl (x0 (ix3 0 t (colg (colw 1 d)))) (fun e => oB X b (sF st) 1 t e) d (x3 (ix2 0 (colw 1 d))) := by
  rw [yP]
  simp only [O1_at X b x0 x2 x4 st hG]
  congr 1
  · pointwise [k0_pay17]
    exact congrArg (fun j => x0 (ix3 0 t j)) (Fin.ext (by simp [colg, colw]; try omega))
  · pointwise
    exact congrArg (fun j => x3 (ix2 0 j)) (Fin.ext (by simp [colw]))

/-! Head 2. -/

abbrev q2 : FVec Ideal S32x128 .f32 := k0_pay15 (View.ld x0 (Rect.unit ![0, 0, 256] ![1, 32, 128] inb_S1x32x2048_S1x32x128_0_0_256))
abbrev v2 : FVec Ideal S32x128 .bf16 := k0_pay16 (View.ld x0 (Rect.unit ![0, 0, 1280] ![1, 32, 128] inb_S1x32x2048_S1x32x128_0_0_1280))
abbrev g2 : FVec Ideal S32x128 .f32 := k0_pay17 (View.ld x0 (Rect.unit ![0, 0, 1792] ![1, 32, 128] inb_S1x32x2048_S1x32x128_0_0_1792))
abbrev a2 : FVec Ideal S32x128 .f32 := extractStridedSlice S32x128 ![0, 256] (a14 x0 x2 x4) slices_S32x512_o0_256_S32x128
abbrev k2 : FVec Ideal S32x128 .f32 := extractStridedSlice S32x128 ![0, 256] (k0_pay7 (fx x0) (lx x2)) slices_S32x512_o0_256_S32x128
abbrev s2 : FVec Ideal S128x128 .f32 := k0_pay20 (View.ld st (Rect.unit ![0, 2, 0, 0] ![1, 1, 128, 128] inb_S1x4x128x128_S1x1x128x128_0_2_0_0))

theorem q2_at (t : Fin 32) (c : Fin 128) : q2 x0 (ix2 t c) = X t (colq 2 c) := by
  pointwise [k0_pay15]
  exact (congrArg (fun j => x0 (ix3 0 t j)) (Fin.ext (by simp [colq]))).trans (hG.hx t (colq 2 c))
theorem v2_at (t : Fin 32) (c : Fin 128) : v2 x0 (ix2 t c) = X t (colv 2 c) := by
  pointwise [k0_pay16]
  exact (congrArg (fun j => x0 (ix3 0 t j)) (Fin.ext (by simp [colv]))).trans (hG.hx t (colv 2 c))
theorem a2_at (t : Fin 32) (c : Fin 128) : a2 x0 x2 x4 (ix2 t c) = AB X b 2 t c := by
  refine Eq.trans ?_ (a14_at X b x0 x2 x4 hG 2 t c)
  pointwise
  exact congrArg (fun j => a14 x0 x2 x4 (ix2 t j)) (Fin.ext (by simp [colw]))
theorem k2_at (t : Fin 32) (c : Fin 128) : k2 x0 x2 (ix2 t c) = KB X b 2 t c := by
  refine Eq.trans ?_ (k7_at X b x0 x2 x4 hG 2 t c)
  pointwise
  exact congrArg (fun j => k0_pay7 (F := Ideal) (fx x0) (lx x2) (ix2 t j)) (Fin.ext (by simp [colw]))
omit hG in
theorem s2_at (d c : Fin 128) : s2 st (ix2 d c) = st (ix4 0 2 d c) := by
  pointwise [k0_pay20]

theorem S2_at (d c : Fin 128) : k0_pay24 (F := Ideal) (v2 x0) (a2 x0 x2 x4) (k2 x0 x2) (s2 st) (ix4 0 0 d c) = sB X b (sF st) 2 d c := by
  rw [headSt_at]
  simp only [a2_at X b x0 x2 x4 hG, k2_at X b x0 x2 x4 hG, v2_at X b x0 x2 x4 hG, s2_at]
  rfl

theorem O2_at (t : Fin 32) (d : Fin 128) : headO (q2 x0) (a2 x0 x2 x4) (k2 x0 x2) (s2 st) (v2 x0) (ix2 t d) = oB X b (sF st) 2 t d := by
  have ha : ∀ t c, a2 x0 x2 x4 (ix2 t c) ≠ ⊤ := fun t c => by rw [a2_at X b x0 x2 x4 hG]; exact AB_ne_top X b x0 x2 x4 hG 2 t c
  have hm : ∀ (s t : Fin 32) (c : Fin 128), s ≤ t → a2 x0 x2 x4 (ix2 s c) = ⊥ → a2 x0 x2 x4 (ix2 t c) = ⊥ := fun s t c hs e => by
    rw [a2_at X b x0 x2 x4 hG] at e ⊢; exact AB_bot X b 2 s t c hs e
  rw [headO_at _ _ _ _ _ ha hm]
  simp only [q2_at X b x0 x2 x4 hG, a2_at X b x0 x2 x4 hG, k2_at X b x0 x2 x4 hG, v2_at X b x0 x2 x4 hG, s2_at]
  rfl

theorem Y2_at (t : Fin 32) (d : Fin 128) :
    k0_pay25 (F := Ideal) (g2 x0) (headO (q2 x0) (a2 x0 x2 x4) (k2 x0 x2) (s2 st) (v2 x0))
        (View.ld x3 (Rect.unit ![0, 256] ![1, 128] inb_S1x512_S1x128_0_256)) (ix3 0 t d)
      = yEl (x0 (ix3 0 t (colg (colw 2 d)))) (fun e => oB X b (sF st) 2 t e) d (x3 (ix2 0 (colw 2 d))) := by
  rw [yP]
  simp only [O2_at X b x0 x2 x4 st hG]
  congr 1
  · pointwise [k0_pay17]
    exact congrArg (fun j => x0 (ix3 0 t j)) (Fin.ext (by simp [colg, colw]; try omega))
  · pointwise
    exact congrArg (fun j => x3 (ix2 0 j)) (Fin.ext (by simp [colw]))

/-! Head 3. -/

abbrev q3 : FVec Ideal S32x128 .f32 := k0_pay15 (View.ld x0 (Rect.unit ![0, 0, 384] ![1, 32, 128] inb_S1x32x2048_S1x32x128_0_0_384))
abbrev v3 : FVec Ideal S32x128 .bf16 := k0_pay16 (View.ld x0 (Rect.unit ![0, 0, 1408] ![1, 32, 128] inb_S1x32x2048_S1x32x128_0_0_1408))
abbrev g3 : FVec Ideal S32x128 .f32 := k0_pay17 (View.ld x0 (Rect.unit ![0, 0, 1920] ![1, 32, 128] inb_S1x32x2048_S1x32x128_0_0_1920))
abbrev a3 : FVec Ideal S32x128 .f32 := extractStridedSlice S32x128 ![0, 384] (a14 x0 x2 x4) slices_S32x512_o0_384_S32x128
abbrev k3 : FVec Ideal S32x128 .f32 := extractStridedSlice S32x128 ![0, 384] (k0_pay7 (fx x0) (lx x2)) slices_S32x512_o0_384_S32x128
abbrev s3 : FVec Ideal S128x128 .f32 := k0_pay20 (View.ld st (Rect.unit ![0, 3, 0, 0] ![1, 1, 128, 128] inb_S1x4x128x128_S1x1x128x128_0_3_0_0))

theorem q3_at (t : Fin 32) (c : Fin 128) : q3 x0 (ix2 t c) = X t (colq 3 c) := by
  pointwise [k0_pay15]
  exact (congrArg (fun j => x0 (ix3 0 t j)) (Fin.ext (by simp [colq]))).trans (hG.hx t (colq 3 c))
theorem v3_at (t : Fin 32) (c : Fin 128) : v3 x0 (ix2 t c) = X t (colv 3 c) := by
  pointwise [k0_pay16]
  exact (congrArg (fun j => x0 (ix3 0 t j)) (Fin.ext (by simp [colv]))).trans (hG.hx t (colv 3 c))
theorem a3_at (t : Fin 32) (c : Fin 128) : a3 x0 x2 x4 (ix2 t c) = AB X b 3 t c := by
  refine Eq.trans ?_ (a14_at X b x0 x2 x4 hG 3 t c)
  pointwise
  exact congrArg (fun j => a14 x0 x2 x4 (ix2 t j)) (Fin.ext (by simp [colw]))
theorem k3_at (t : Fin 32) (c : Fin 128) : k3 x0 x2 (ix2 t c) = KB X b 3 t c := by
  refine Eq.trans ?_ (k7_at X b x0 x2 x4 hG 3 t c)
  pointwise
  exact congrArg (fun j => k0_pay7 (F := Ideal) (fx x0) (lx x2) (ix2 t j)) (Fin.ext (by simp [colw]))
omit hG in
theorem s3_at (d c : Fin 128) : s3 st (ix2 d c) = st (ix4 0 3 d c) := by
  pointwise [k0_pay20]

theorem S3_at (d c : Fin 128) : k0_pay24 (F := Ideal) (v3 x0) (a3 x0 x2 x4) (k3 x0 x2) (s3 st) (ix4 0 0 d c) = sB X b (sF st) 3 d c := by
  rw [headSt_at]
  simp only [a3_at X b x0 x2 x4 hG, k3_at X b x0 x2 x4 hG, v3_at X b x0 x2 x4 hG, s3_at]
  rfl

theorem O3_at (t : Fin 32) (d : Fin 128) : headO (q3 x0) (a3 x0 x2 x4) (k3 x0 x2) (s3 st) (v3 x0) (ix2 t d) = oB X b (sF st) 3 t d := by
  have ha : ∀ t c, a3 x0 x2 x4 (ix2 t c) ≠ ⊤ := fun t c => by rw [a3_at X b x0 x2 x4 hG]; exact AB_ne_top X b x0 x2 x4 hG 3 t c
  have hm : ∀ (s t : Fin 32) (c : Fin 128), s ≤ t → a3 x0 x2 x4 (ix2 s c) = ⊥ → a3 x0 x2 x4 (ix2 t c) = ⊥ := fun s t c hs e => by
    rw [a3_at X b x0 x2 x4 hG] at e ⊢; exact AB_bot X b 3 s t c hs e
  rw [headO_at _ _ _ _ _ ha hm]
  simp only [q3_at X b x0 x2 x4 hG, a3_at X b x0 x2 x4 hG, k3_at X b x0 x2 x4 hG, v3_at X b x0 x2 x4 hG, s3_at]
  rfl

theorem Y3_at (t : Fin 32) (d : Fin 128) :
    k0_pay25 (F := Ideal) (g3 x0) (headO (q3 x0) (a3 x0 x2 x4) (k3 x0 x2) (s3 st) (v3 x0))
        (View.ld x3 (Rect.unit ![0, 384] ![1, 128] inb_S1x512_S1x128_0_384)) (ix3 0 t d)
      = yEl (x0 (ix3 0 t (colg (colw 3 d)))) (fun e => oB X b (sF st) 3 t e) d (x3 (ix2 0 (colw 3 d))) := by
  rw [yP]
  simp only [O3_at X b x0 x2 x4 st hG]
  congr 1
  · pointwise [k0_pay17]
    exact congrArg (fun j => x0 (ix3 0 t j)) (Fin.ext (by simp [colg, colw]; try omega))
  · pointwise
    exact congrArg (fun j => x3 (ix2 0 j)) (Fin.ext (by simp [colw]))

end Block

end Cert.Kernel11Ideal.Hg

end
-- ==== Proof.HgrnSampleBody.lean ====
/-
  THE BODY OF THE GATED RECURRENCE AT THE SAMPLE'S SHAPES: what it leaves in the output's block and in the state's. The sequence is
  one chunk, so it always starts from the given state.
-/
module

public import proofs.«01_k».proof.Proof.HgrnSample
public import Idealize.ShloMosaic.Lib.Pipeline.ReadBack

@[expose] public section

set_option maxRecDepth 16384

noncomputable section

open Idealize.ShloMosaic Idealize.ShloMosaic.TcCoe Idealize.SL.Sem

namespace Cert.Kernel11Ideal.Hg

open Cert.Kernel11Ideal Cert.Kernel11Ideal.Gen
open Cert.Kernel10Ideal.Hg (yEl colw colg)

theorem exists4 (x : S1x1x128x128.Idx) : ∃ d c : Fin 128, x = ix4 0 0 d c :=
  ⟨x 2, x 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩

theorem exists3 (x : S1x32x128.Idx) : ∃ (t : Fin 32) (d : Fin 128), x = ix3 0 t d :=
  ⟨x 1, x 2, by
    funext a
    match a with
    | ⟨0, _⟩ => exact Subsingleton.elim (α := Fin 1) _ _
    | ⟨1, _⟩ => rfl
    | ⟨2, _⟩ => rfl⟩

theorem sB_congr (X : Fin 32 → Fin 2048 → EReal) (b : Fin 512 → ℝ) (st : Vec Ideal S1x4x128x128 .f32) (h h' : Fin 4) (d d' c c' : Fin 128)
    (e1 : h = h') (e2 : d = d') (e3 : c = c') : sB X b (sF st) h d c = sB X b (sF st) h' d' c' := by rw [e1, e2, e3]

theorem G5_at (X : Fin 32 → Fin 2048 → EReal) (b : Fin 512 → ℝ) (x0 : Vec Ideal S1x32x2048 .f32) (x3 : Vec Ideal S1x512 .f32)
    (st : Vec Ideal S1x4x128x128 .f32) (y : S1x32x512.Idx) (h : Fin 4) (t : Fin 32) (d : Fin 128) (e1 : y 1 = t) (e2 : y 2 = colw h d) :
    yEl (x0 (ix3 0 t (colg (colw h d)))) (fun e => oB X b (sF st) h t e) d (x3 (ix2 0 (colw h d))) = G5 X b x0 x3 st y := by
  unfold G5
  have := d.isLt
  have a1 : (⟨(colw h d).val / 128, by have := (colw h d).isLt; omega⟩ : Fin 4) = h :=
    Fin.ext (by simp only [colw]; omega)
  have a2 : (⟨(colw h d).val % 128, by omega⟩ : Fin 128) = d :=
    Fin.ext (by simp only [colw]; omega)
  simp only [e1, e2, a1, a2]

theorem out_A5 (c : Dev nD) (i : grid0.Coords) (arg2 : Memref sig .tc .vmem S1x32x2048 .f32) (harg2 : arg2.IsWhole) (arg3 : Memref sig .tc .vmem S1x4x128x128 .f32) (harg3 : arg3.IsWhole)
  (arg4 : Memref sig .tc .vmem S1x512 .f32) (harg4 : arg4.IsWhole) (arg5 : Memref sig .tc .vmem S1x512 .f32) (harg5 : arg5.IsWhole) (arg6 : Memref sig .tc .vmem S32x32 .bf16) (harg6 : arg6.IsWhole)
  (arg7 : Memref sig .tc .vmem S1x32x512 .bf16) (harg7 : arg7.IsWhole) (arg8 : Memref sig .tc .vmem S1x4x128x128 .f32) (harg8 : arg8.IsWhole)
  (X : Fin 32 → Fin 2048 → EReal) (b : Fin 512 → ℝ) (x0 : Vec Ideal S1x32x2048 .f32) (x1 : Vec Ideal S1x4x128x128 .f32) (x2 : Vec Ideal S1x512 .f32)
  (x3 : Vec Ideal S1x512 .f32) (x4 : Vec Ideal S32x32 .bf16) (hG : Good X b x0 x2 x4) (hc : cond0_0 i) :
    out0_A_5 c i arg2 harg2 arg3 harg3 arg4 harg4 arg5 harg5 arg6 harg6 arg7 harg7 arg8 harg8 hc x0 x1 x2 x3 x4 = G5 X b x0 x3 x1 := by
  have hz : (![0, 0, 0, 0] : Fin 4 → Nat) = fun _ => 0 := funext fun a => by fin_cases a <;> rfl
  funext y
  have hcov := cover0_A_5 c i arg2 harg2 arg3 harg3 arg4 harg4 arg5 harg5 arg6 harg6 arg7 harg7 arg8 harg8 hc x0 x1 x2 x3 x4
  unfold out0_A_5
  rw [View.read_writes_eq_canon _ _ _ hcov]
  refine View.canon_apply_of_pieces (G5 X b x0 x3 x1) _ ?_ y (hcov y)
  unfold kernelRun0_A
  dsimp only
  sl_unfold_words
  simp only [View.readAt_eq_ld, harg2.read_unread, harg3.read_unread, harg4.read_unread, harg5.read_unread, harg6.read_unread, harg8.read_unread]
  simp (disch := decide) only [View.readCov_skip, View.readCov_fill]
  have hw : View.ld x1 (Rect.unit ![0, 0, 0, 0] ![1, 4, 128, 128] inb_S1x4x128x128_S1x4x128x128_0_0_0_0) = x1 := View.ld_unit_zero (S := S1x4x128x128) hz _ x1
  simp only [hw]
  simp only [List.forall_mem_cons, List.forall_mem_nil, List.not_mem_nil, false_imp_iff, implies_true, and_true]
  refine ⟨fun x => ?_, fun x => ?_, fun x => ?_, fun x => ?_⟩
  · obtain ⟨t, d, rfl⟩ := exists3 x
    refine (Y3_at X b x0 x2 x3 x4 x1 hG t d).trans ?_
    exact G5_at _ _ _ _ _ _ 3 t d (Fin.ext (by show 0 + 1 * t.val = t.val; omega)) (Fin.ext (by show 384 + 1 * d.val = 128 * 3 + d.val; omega))
  · obtain ⟨t, d, rfl⟩ := exists3 x
    refine (Y2_at X b x0 x2 x3 x4 x1 hG t d).trans ?_
    exact G5_at _ _ _ _ _ _ 2 t d (Fin.ext (by show 0 + 1 * t.val = t.val; omega)) (Fin.ext (by show 256 + 1 * d.val = 128 * 2 + d.val; omega))
  · obtain ⟨t, d, rfl⟩ := exists3 x
    refine (Y1_at X b x0 x2 x3 x4 x1 hG t d).trans ?_
    exact G5_at _ _ _ _ _ _ 1 t d (Fin.ext (by show 0 + 1 * t.val = t.val; omega)) (Fin.ext (by show 128 + 1 * d.val = 128 * 1 + d.val; omega))
  · obtain ⟨t, d, rfl⟩ := exists3 x
    refine (Y0_at X b x0 x2 x3 x4 x1 hG t d).trans ?_
    exact G5_at _ _ _ _ _ _ 0 t d (Fin.ext (by show 0 + 1 * t.val = t.val; omega)) (Fin.ext (by show 0 + 1 * d.val = 128 * 0 + d.val; omega))

theorem out_A6 (c : Dev nD) (i : grid0.Coords) (arg2 : Memref sig .tc .vmem S1x32x2048 .f32) (harg2 : arg2.IsWhole) (arg3 : Memref sig .tc .vmem S1x4x128x128 .f32) (harg3 : arg3.IsWhole)
  (arg4 : Memref sig .tc .vmem S1x512 .f32) (harg4 : arg4.IsWhole) (arg5 : Memref sig .tc .vmem S1x512 .f32) (harg5 : arg5.IsWhole) (arg6 : Memref sig .tc .vmem S32x32 .bf16) (harg6 : arg6.IsWhole)
  (arg7 : Memref sig .tc .vmem S1x32x512 .bf16) (harg7 : arg7.IsWhole) (arg8 : Memref sig .tc .vmem S1x4x128x128 .f32) (harg8 : arg8.IsWhole)
  (X : Fin 32 → Fin 2048 → EReal) (b : Fin 512 → ℝ) (x0 : Vec Ideal S1x32x2048 .f32) (x1 : Vec Ideal S1x4x128x128 .f32) (x2 : Vec Ideal S1x512 .f32)
  (x3 : Vec Ideal S1x512 .f32) (x4 : Vec Ideal S32x32 .bf16) (hG : Good X b x0 x2 x4) (hc : cond0_0 i) :
    out0_A_6 c i arg2 harg2 arg3 harg3 arg4 harg4 arg5 harg5 arg6 harg6 arg7 harg7 arg8 harg8 hc x0 x1 x2 x3 x4 = G6 X b x1 := by
  have hz : (![0, 0, 0, 0] : Fin 4 → Nat) = fun _ => 0 := funext fun a => by fin_cases a <;> rfl
  funext y
  have hcov := cover0_A_6 c i arg2 harg2 arg3 harg3 arg4 harg4 arg5 harg5 arg6 harg6 arg7 harg7 arg8 harg8 hc x0 x1 x2 x3 x4
  unfold out0_A_6
  rw [View.read_writes_eq_canon _ _ _ hcov]
  unfold kernelRun0_A
  dsimp only
  sl_unfold_words
  simp only [View.readAt_eq_ld, harg2.read_unread, harg3.read_unread, harg4.read_unread, harg5.read_unread, harg6.read_unread, harg8.read_unread]
  simp (disch := decide) only [View.readCov_skip, View.readCov_fill]
  have hw : View.ld x1 (Rect.unit ![0, 0, 0, 0] ![1, 4, 128, 128] inb_S1x4x128x128_S1x4x128x128_0_0_0_0) = x1 := View.ld_unit_zero (S := S1x4x128x128) hz _ x1
  simp only [hw]
  refine View.canon_append_of_piecesOf (G6 X b x1) [_] [_, _, _, _] ?_ y ?_
  swap
  · exact View.cover_of_tiledBy (s := S1x4x128x128) _ ![1, 1, 128, 128] (by sl_kernel_rfl) y
  unfold View.PiecesOf View.PiecesOf View.PiecesOf View.PiecesOf View.PiecesOf
  refine ⟨fun x => ?_, fun x => ?_, fun x => ?_, fun x => ?_, trivial⟩
  · obtain ⟨d, c', rfl⟩ := exists4 x
    refine (S3_at X b x0 x2 x4 x1 hG d c').trans ?_
    exact sB_congr _ _ _ _ _ _ _ _ _ (Fin.ext (by show 3 = 3 + 1 * 0; omega)) (Fin.ext (by show d.val = 0 + 1 * d.val; omega)) (Fin.ext (by show c'.val = 0 + 1 * c'.val; omega))
  · obtain ⟨d, c', rfl⟩ := exists4 x
    refine (S2_at X b x0 x2 x4 x1 hG d c').trans ?_
    exact sB_congr _ _ _ _ _ _ _ _ _ (Fin.ext (by show 2 = 2 + 1 * 0; omega)) (Fin.ext (by show d.val = 0 + 1 * d.val; omega)) (Fin.ext (by show c'.val = 0 + 1 * c'.val; omega))
  · obtain ⟨d, c', rfl⟩ := exists4 x
    refine (S1_at X b x0 x2 x4 x1 hG d c').trans ?_
    exact sB_congr _ _ _ _ _ _ _ _ _ (Fin.ext (by show 1 = 1 + 1 * 0; omega)) (Fin.ext (by show d.val = 0 + 1 * d.val; omega)) (Fin.ext (by show c'.val = 0 + 1 * c'.val; omega))
  · obtain ⟨d, c', rfl⟩ := exists4 x
    refine (S0_at X b x0 x2 x4 x1 hG d c').trans ?_
    exact sB_congr _ _ _ _ _ _ _ _ _ (Fin.ext (by show 0 = 0 + 1 * 0; omega)) (Fin.ext (by show d.val = 0 + 1 * d.val; omega)) (Fin.ext (by show c'.val = 0 + 1 * c'.val; omega))

end Cert.Kernel11Ideal.Hg

end
-- ==== Proof.HgrnSampleRun.lean ====
/-
  THE GATED RECURRENCE OF THE SAMPLE: what the kernel's two result arrays hold. Each sequence is one chunk from the given state.
-/
module

public import proofs.«01_k».proof.Proof.HgrnSampleBody
public import proofs.«01_k».proof.Proof.Gen.Kernel11Ideal.Value
public import Idealize.ShloMosaic.Lib.Pointwise
public import Idealize.ShloMosaic.Lib.Pipeline.Value
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel11Ideal.Hg

open Cert.Kernel11Ideal Cert.Kernel11Ideal.Gen Cert.HgrnMath
open Cert.Kernel10Ideal.Hg (yEl colw colq colf colv colg)

/-! ## The results -/

section arrays
variable (hg : S16x32x2048.Idx → EReal) (s0t : S16x4x128x128.Idx → EReal) (lb nw : S1x512.Idx → EReal)

/-- A sequence's numbers by token and column, the lower bound, and a sequence's given state. -/
abbrev hX (b : Fin 16) : Fin 32 → Fin 2048 → EReal := fun s j => hg (ix3 b s j)
def bb (j : Fin 512) : ℝ := (lb (ix2 0 j)).toReal
abbrev hS (b : Fin 16) : Fin 4 → Fin 128 → Fin 128 → EReal := fun h d c => s0t (ix4 b h d c)

/-- The two results. -/
def yOut : S16x32x512.Idx → EReal := fun y =>
  yEl (hg (ix3 (y 0) (y 1) (colg (y 2)))) (fun e => oB (hX hg (y 0)) (bb lb) (hS s0t (y 0)) ⟨(y 2).val / 128, by have := (y 2).isLt; change (y 2).val < 512 at this; omega⟩ (y 1) e)
    ⟨(y 2).val % 128, by omega⟩ (nw (ix2 0 (y 2)))
def sOut : S16x4x128x128.Idx → EReal := fun y => sB (hX hg (y 0)) (bb lb) (hS s0t (y 0)) (y 1) (y 2) (y 3)

/-- What the precondition says of the lower bound. -/
structure Fine : Prop where
  l0 : ∀ j, 0 ≤ lb (ix2 0 j)
  l1 : ∀ j, lb (ix2 0 j) ≤ 1

variable {lb}

theorem Fine.bb_coe (hF : Fine lb) (j : Fin 512) : lb (ix2 0 j) = (bb lb j : EReal) :=
  (EReal.coe_toReal (fun h => absurd (hF.l1 j) (by rw [h]; exact not_le.2 (EReal.coe_lt_top 1)))
    (fun h => absurd (hF.l0 j) (by rw [h]; exact not_le.2 EReal.bot_lt_zero))).symm

theorem Fine.bb0 (hF : Fine lb) (j : Fin 512) : 0 ≤ bb lb j := by
  have h := hF.l0 j
  rw [hF.bb_coe] at h
  exact_mod_cast h

theorem Fine.bb1 (hF : Fine lb) (j : Fin 512) : bb lb j ≤ 1 := by
  have h := hF.l1 j
  rw [hF.bb_coe] at h
  exact_mod_cast h

end arrays

/-! ## The blocks of the arrays -/

variable (m : (ℓ : Loc nD τ sig) → Buf (Elt Ideal) ℓ) (c : Dev nD)

theorem N16 (t : Fin cfg0.N) : t.val < 16 := t.isLt.trans_le N_0.le

/-- Point `t`'s sequence. -/
def bt (t : Fin cfg0.N) : Fin 16 := ⟨t.val, N16 t⟩

theorem main_v1_at (k l : Fin 32) :
    (V m c main_v1 : S32x32.Idx → EReal) (ix2 k l) = (if l.val ≤ k.val then (1 : EReal) else 0) := by
  have e : V m c main_v1 = StableHlo.after [hostOps0, hostOps0_1].flatten (fun b => m (c, b)) (Proc.devRef .tc main_v1) := rfl
  simp only [hostOps0, hostOps0_1, List.flatten_cons, List.flatten_nil, List.append_nil, List.cons_append, List.nil_append] at e
  rw [e]
  entry_read
  show select (cmpi .sge (addi (iotaInDim S32x32 32 0) (broadcastInDim S32x32 ![] bcast_S_S32x32 (constantI S_ 32 0#32))) (iotaInDim S32x32 32 1))
    (broadcastInDim S32x32 ![] bcast_S_S32x32 (constant S_ .bf16 16256#16)) (broadcastInDim S32x32 ![] bcast_S_S32x32 (constant S_ .bf16 0#16)) (ix2 k l) = _
  pointwise
  exact Sb.tri_sel k.val l.val (by omega) (by omega)

theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

theorem emb0 (t : Fin cfg0.N) (r : Fin 32) (j : Fin 2048) :
    ((cfg0.win 0).blk t).view.emb (ix3 0 r j : S1x32x2048.Idx) = (ix3 (bt t) r j : S16x32x2048.Idx) := by
  funext a; apply Fin.ext
  match a with
  | ⟨0, _⟩ => show win0_0.index t 0 * 1 + 1 * 0 = t.val; rw [(idx0 t).1]; omega
  | ⟨1, _⟩ => show win0_0.index t 1 * 32 + 1 * r.val = r.val; rw [(idx0 t).2.1]; omega
  | ⟨2, _⟩ => show win0_0.index t 2 * 2048 + 1 * j.val = j.val; rw [(idx0 t).2.2]; omega

theorem blk0 (t : Fin cfg0.N) (r : Fin 32) (j : Fin 2048) :
    iblk m c 0 t (ix3 0 r j : S1x32x2048.Idx) = m ((c : Thread nD τ).loc main_arg0) (ix3 (bt t) r j) := by
  unfold iblk
  rw [View.read_apply, emb0]
  show V m c main_arg0 _ = _
  rw [V_main_arg0]

theorem idx1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

theorem emb1 (t : Fin cfg0.N) (h : Fin 4) (d : Fin 128) (e : Fin 128) :
    ((cfg0.win 1).blk t).view.emb (ix4 0 h d e : S1x4x128x128.Idx) = (ix4 (bt t) h d e : S16x4x128x128.Idx) := by
  funext a; apply Fin.ext
  match a with
  | ⟨0, _⟩ => show win0_1.index t 0 * 1 + 1 * 0 = t.val; rw [(idx1 t).1]; omega
  | ⟨1, _⟩ => show win0_1.index t 1 * 4 + 1 * h.val = h.val; rw [(idx1 t).2.1]; omega
  | ⟨2, _⟩ => show win0_1.index t 2 * 128 + 1 * d.val = d.val; rw [(idx1 t).2.2.1]; omega
  | ⟨3, _⟩ => show win0_1.index t 3 * 128 + 1 * e.val = e.val; rw [(idx1 t).2.2.2]; omega

theorem blk1 (t : Fin cfg0.N) (h : Fin 4) (d : Fin 128) (e : Fin 128) :
    iblk m c 1 t (ix4 0 h d e : S1x4x128x128.Idx) = m ((c : Thread nD τ).loc main_arg1) (ix4 (bt t) h d e) := by
  unfold iblk
  rw [View.read_apply, emb1]
  show V m c main_arg1 _ = _
  rw [V_main_arg1]

theorem idx2 : ∀ t : Fin cfg0.N, win0_2.index t 0 = 0 ∧ win0_2.index t 1 = 0 :=
  (by decide +kernel : ∀ t : Fin grid0.N, win0_2.index t 0 = 0 ∧ win0_2.index t 1 = 0)

theorem emb2 (t : Fin cfg0.N) (j : Fin 512) :
    ((cfg0.win 2).blk t).view.emb (ix2 0 j : S1x512.Idx) = (ix2 0 j : S1x512.Idx) := by
  funext a; apply Fin.ext
  match a with
  | ⟨0, _⟩ => show win0_2.index t 0 * 1 + 1 * 0 = 0; rw [(idx2 t).1]
  | ⟨1, _⟩ => show win0_2.index t 1 * 512 + 1 * j.val = j.val; rw [(idx2 t).2]; omega

theorem blk2 (t : Fin cfg0.N) (j : Fin 512) :
    iblk m c 2 t (ix2 0 j : S1x512.Idx) = m ((c : Thread nD τ).loc main_arg2) (ix2 0 j) := by
  unfold iblk
  rw [View.read_apply, emb2]
  show V m c main_arg2 _ = _
  rw [V_main_arg2]

theorem idx3 : ∀ t : Fin cfg0.N, win0_3.index t 0 = 0 ∧ win0_3.index t 1 = 0 :=
  (by decide +kernel : ∀ t : Fin grid0.N, win0_3.index t 0 = 0 ∧ win0_3.index t 1 = 0)

theorem emb3 (t : Fin cfg0.N) (j : Fin 512) :
    ((cfg0.win 3).blk t).view.emb (ix2 0 j : S1x512.Idx) = (ix2 0 j : S1x512.Idx) := by
  funext a; apply Fin.ext
  match a with
  | ⟨0, _⟩ => show win0_3.index t 0 * 1 + 1 * 0 = 0; rw [(idx3 t).1]
  | ⟨1, _⟩ => show win0_3.index t 1 * 512 + 1 * j.val = j.val; rw [(idx3 t).2]; omega

theorem blk3 (t : Fin cfg0.N) (j : Fin 512) :
    iblk m c 3 t (ix2 0 j : S1x512.Idx) = m ((c : Thread nD τ).loc main_arg3) (ix2 0 j) := by
  unfold iblk
  rw [View.read_apply, emb3]
  show V m c main_arg3 _ = _
  rw [V_main_arg3]

theorem idx4 : ∀ t : Fin cfg0.N, win0_4.index t 0 = 0 ∧ win0_4.index t 1 = 0 :=
  (by decide +kernel : ∀ t : Fin grid0.N, win0_4.index t 0 = 0 ∧ win0_4.index t 1 = 0)

theorem emb4 (t : Fin cfg0.N) (k : Fin 32) (l : Fin 32) :
    ((cfg0.win 4).blk t).view.emb (ix2 k l : S32x32.Idx) = (ix2 k l : S32x32.Idx) := by
  funext a; apply Fin.ext
  match a with
  | ⟨0, _⟩ => show win0_4.index t 0 * 32 + 1 * k.val = k.val; rw [(idx4 t).1]; omega
  | ⟨1, _⟩ => show win0_4.index t 1 * 32 + 1 * l.val = l.val; rw [(idx4 t).2]; omega

theorem idx5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)

theorem emb5 (t : Fin cfg0.N) (r : Fin 32) (j : Fin 512) :
    ((cfg0.win 5).blk t).view.emb (ix3 0 r j : S1x32x512.Idx) = (ix3 (bt t) r j : S16x32x512.Idx) := by
  funext a; apply Fin.ext
  match a with
  | ⟨0, _⟩ => show win0_5.index t 0 * 1 + 1 * 0 = t.val; rw [(idx5 t).1]; omega
  | ⟨1, _⟩ => show win0_5.index t 1 * 32 + 1 * r.val = r.val; rw [(idx5 t).2.1]; omega
  | ⟨2, _⟩ => show win0_5.index t 2 * 512 + 1 * j.val = j.val; rw [(idx5 t).2.2]; omega

theorem mem5 (t : Fin cfg0.N) (r : Fin 32) (j : Fin 512) :
    (ix3 (bt t) r j : S16x32x512.Idx) ∈ ((cfg0.win 5).blk t).view.set := by
  rw [← emb5]; exact View.emb_mem_set _ _

theorem idx6 : ∀ t : Fin cfg0.N, win0_6.index t 0 = t.val ∧ win0_6.index t 1 = 0 ∧ win0_6.index t 2 = 0 ∧ win0_6.index t 3 = 0 :=
  (by decide +kernel : ∀ t : Fin grid0.N, win0_6.index t 0 = t.val ∧ win0_6.index t 1 = 0 ∧ win0_6.index t 2 = 0 ∧ win0_6.index t 3 = 0)

theorem emb6 (t : Fin cfg0.N) (h : Fin 4) (d : Fin 128) (e : Fin 128) :
    ((cfg0.win 6).blk t).view.emb (ix4 0 h d e : S1x4x128x128.Idx) = (ix4 (bt t) h d e : S16x4x128x128.Idx) := by
  funext a; apply Fin.ext
  match a with
  | ⟨0, _⟩ => show win0_6.index t 0 * 1 + 1 * 0 = t.val; rw [(idx6 t).1]; omega
  | ⟨1, _⟩ => show win0_6.index t 1 * 4 + 1 * h.val = h.val; rw [(idx6 t).2.1]; omega
  | ⟨2, _⟩ => show win0_6.index t 2 * 128 + 1 * d.val = d.val; rw [(idx6 t).2.2.1]; omega
  | ⟨3, _⟩ => show win0_6.index t 3 * 128 + 1 * e.val = e.val; rw [(idx6 t).2.2.2]; omega

theorem mem6 (t : Fin cfg0.N) (h : Fin 4) (d : Fin 128) (e : Fin 128) :
    (ix4 (bt t) h d e : S16x4x128x128.Idx) ∈ ((cfg0.win 6).blk t).view.set := by
  rw [← emb6]; exact View.emb_mem_set _ _

theorem blk4 (t : Fin cfg0.N) (k l : Fin 32) :
    iblk m c 4 t (ix2 k l : S32x32.Idx) = (if l ≤ k then (1 : EReal) else 0) := by
  unfold iblk
  rw [View.read_apply, emb4]
  exact main_v1_at m c k l

/-! ## The result arrays -/

/-- The argument arrays. -/
abbrev aHg : S16x32x2048.Idx → EReal := m ((c : Thread nD τ).loc main_arg0)
abbrev aS : S16x4x128x128.Idx → EReal := m ((c : Thread nD τ).loc main_arg1)
abbrev aLb : S1x512.Idx → EReal := m ((c : Thread nD τ).loc main_arg2)
abbrev aNw : S1x512.Idx → EReal := m ((c : Thread nD τ).loc main_arg3)

/-- Point `t`'s chunk. -/
abbrev XX (t : Fin cfg0.N) : Fin 32 → Fin 2048 → EReal := hX (aHg m c) (bt t)

section result
variable (hF : Fine (aLb m c))
include hF

theorem good (t : Fin cfg0.N) : Good (XX m c t) (bb (aLb m c)) (iblk m c 0 t) (iblk m c 2 t) (iblk m c 4 t) where
  hx r j := blk0 m c t r j
  hb j := (blk2 m c t j).trans (hF.bb_coe j)
  h0 := hF.bb0
  h1 := hF.bb1
  ht k l := blk4 m c t k l

omit hF in
theorem exists_ix4 (y : S1x4x128x128.Idx) : ∃ (h : Fin 4) (d e : Fin 128), y = ix4 0 h d e :=
  ⟨y 1, y 2, y 3, by
    funext a
    match a with
    | ⟨0, _⟩ => exact Subsingleton.elim (α := Fin 1) _ _
    | ⟨1, _⟩ => rfl
    | ⟨2, _⟩ => rfl
    | ⟨3, _⟩ => rfl⟩

omit hF in
theorem first_eq (t : Fin cfg0.N) : sF (iblk m c 1 t) = hS (aS m c) (bt t) := by
  funext h d e
  exact blk1 m c t h d e

omit hF in
theorem G5_good (t : Fin cfg0.N) (r : Fin 32) (j : Fin 512) :
    G5 (XX m c t) (bb (aLb m c)) (iblk m c 0 t) (iblk m c 3 t) (iblk m c 1 t) (ix3 0 r j) = yOut (aHg m c) (aS m c) (aLb m c) (aNw m c) (ix3 (bt t) r j) := by
  show yEl (iblk m c 0 t (ix3 0 r (colg j) : S1x32x2048.Idx)) (fun e => oB (XX m c t) (bb (aLb m c)) (sF (iblk m c 1 t)) _ r e) _ (iblk m c 3 t (ix2 0 j : S1x512.Idx)) = _
  rw [blk0, blk3, first_eq]
  rfl

/-- What point `t` writes back is its block of each result. -/
theorem flushed5_eq (t : Fin cfg0.N) :
    (dats m 0 c).flushed 5 t = ((cfg0.win 5).blk t).view.read (Elt Ideal) (yOut (aHg m c) (aS m c) (aLb m c) (aNw m c)) := by
  rw [Value.flushed5_A, out_A5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (XX m c t) (bb (aLb m c)) (iblk m c 0 t) (iblk m c 1 t) (iblk m c 2 t) (iblk m c 3 t) (iblk m c 4 t) (good m c hF t) (hcond0_0 t)]
  show G5 (XX m c t) (bb (aLb m c)) (iblk m c 0 t) (iblk m c 3 t) (iblk m c 1 t) = _
  funext y
  obtain ⟨r, j, rfl⟩ : ∃ (r : Fin 32) (j : Fin 512), y = (ix3 0 r j : S1x32x512.Idx) :=
    ⟨y 1, y 2, by funext a; match a with | ⟨0, _⟩ => exact Subsingleton.elim (α := Fin 1) _ _ | ⟨1, _⟩ => rfl | ⟨2, _⟩ => rfl⟩
  rw [View.read_apply, emb5]
  exact G5_good m c t r j

theorem flushed6_eq (t : Fin cfg0.N) :
    (dats m 0 c).flushed 6 t = ((cfg0.win 6).blk t).view.read (Elt Ideal) (sOut (aHg m c) (aS m c) (aLb m c)) := by
  rw [Value.flushed6_A, out_A6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (XX m c t) (bb (aLb m c)) (iblk m c 0 t) (iblk m c 1 t) (iblk m c 2 t) (iblk m c 3 t) (iblk m c 4 t) (good m c hF t) (hcond0_0 t)]
  show G6 (XX m c t) (bb (aLb m c)) (iblk m c 1 t) = _
  funext y
  obtain ⟨h, d, e, rfl⟩ := exists_ix4 y
  rw [View.read_apply, emb6]
  show sB (XX m c t) (bb (aLb m c)) (sF (iblk m c 1 t)) h d e = _
  rw [first_eq]
  rfl

end result

/-- Every index of the array is in some point's block. -/
theorem cover5 (i : S16x32x512.Idx) :
    ∃ t : Fin cfg0.N, (cfg0.win 5).flush t = true ∧ i ∈ ((cfg0.win 5).blk t).view.set := by
  have h0 : (i 0 : Nat) < 16 := (i 0).isLt
  have hN : cfg0.N = 16 := N_0
  refine ⟨⟨(i 0 : Nat), by omega⟩, flush0_5 _, ?_⟩
  have h := mem5 ⟨(i 0 : Nat), by omega⟩ (i 1) (i 2)
  have e : (ix3 (bt ⟨(i 0 : Nat), by omega⟩) (i 1) (i 2) : S16x32x512.Idx) = i := by
    funext a
    match a with
    | ⟨0, _⟩ => rfl
    | ⟨1, _⟩ => rfl
    | ⟨2, _⟩ => rfl
  rw [e] at h
  exact h

/-- Every index of the array is in some point's block. -/
theorem cover6 (i : S16x4x128x128.Idx) :
    ∃ t : Fin cfg0.N, (cfg0.win 6).flush t = true ∧ i ∈ ((cfg0.win 6).blk t).view.set := by
  have h0 : (i 0 : Nat) < 16 := (i 0).isLt
  have hN : cfg0.N = 16 := N_0
  refine ⟨⟨(i 0 : Nat), by omega⟩, flush0_6 _, ?_⟩
  have h := mem6 ⟨(i 0 : Nat), by omega⟩ (i 1) (i 2) (i 3)
  have e : (ix4 (bt ⟨(i 0 : Nat), by omega⟩) (i 1) (i 2) (i 3) : S16x4x128x128.Idx) = i := by
    funext a
    match a with
    | ⟨0, _⟩ => rfl
    | ⟨1, _⟩ => rfl
    | ⟨2, _⟩ => rfl
    | ⟨3, _⟩ => rfl
  rw [e] at h
  exact h

theorem final5 (hF : Fine (aLb m c)) : (dats m 0 c).arrAt 5 cfg0.N = yOut (aHg m c) (aS m c) (aLb m c) (aNw m c) :=
  (dats m 0 c).arrAt_eq_of_cover 5 _ (fun t _ => flushed5_eq m c hF t) cover5

theorem final6 (hF : Fine (aLb m c)) : (dats m 0 c).arrAt 6 cfg0.N = sOut (aHg m c) (aS m c) (aLb m c) :=
  (dats m 0 c).arrAt_eq_of_cover 6 _ (fun t _ => flushed6_eq m c hF t) cover6

end Cert.Kernel11Ideal.Hg

end
-- ==== Proof.HgrnSampleRef.lean ====
/-
  THE GATED RECURRENCE OF THE SAMPLE: the reference's two result arrays are the kernel's, term by term, and the claims.
-/
module

public import proofs.«01_k».proof.Defs
public import proofs.«01_k».proof.Proof.HgrnSampleRun
public import proofs.«01_k».proof.Proof.HgrnRef
public import proofs.«01_k».proof.Proof.Gen.Kernel11.Frame
public import proofs.«01_k».proof.Proof.Gen.Reference11Ideal.Run
public import proofs.«01_k».proof.Proof.Gen.Pre_hgrn_bound
public import Idealize.ShloMosaic.Lib.Pointwise
public import Idealize.ShloMosaic.Lib.Pipeline.Value
public import Idealize.ShloMosaic.Lib.Claim
public import Idealize.ShloMosaic.Lib.ReduceAll
public import Idealize.ShloMosaic.Lib.Quiescent

@[expose] public section

set_option maxRecDepth 16384

noncomputable section

open Idealize.ShloMosaic Idealize.ShloMosaic.TcCoe Idealize.SL.Sem

namespace Cert.HgrnMath

theorem neg_inf_sample : id (constant (F := Ideal) Cert.Reference11Ideal.S_ .f32 4286578688#32) ix0 = (⊥ : EReal) := neg_inf

end Cert.HgrnMath

namespace Cert.Reference11Ideal.Hg

open Cert.Reference11Ideal Cert.Reference11Ideal.Gen Cert.Kernel11Ideal.Hg Cert.HgrnMath
open Cert.Kernel10Ideal.Hg (yEl colw colq colf colv colg)
open Cert.Reference10Ideal.Hg (cw cq cf cv)

variable (V0 : Valuation τ sig (Elt Ideal))

abbrev vHg : Cert.Kernel11Ideal.S16x32x2048.Idx → EReal := V0 (Proc.devRef .tc main_arg0)
abbrev vS : Cert.Kernel11Ideal.S16x4x128x128.Idx → EReal := V0 (Proc.devRef .tc main_arg1)
abbrev vLb : Cert.Kernel11Ideal.S1x512.Idx → EReal := V0 (Proc.devRef .tc main_arg2)
abbrev vNw : Cert.Kernel11Ideal.S1x512.Idx → EReal := V0 (Proc.devRef .tc main_arg3)
abbrev lf (b : Fin 16) (t : Fin 32) (h : Fin 4) (c : Fin 128) : EReal := (Value.res_main_v29 (F := Ideal) V0 : S16x32x4x128.Idx → EReal) (ix4 b t h c)
abbrev kk (b : Fin 16) (t : Fin 32) (h : Fin 4) (c : Fin 128) : EReal := (Value.res_main_v31 (F := Ideal) V0 : S16x32x4x128.Idx → EReal) (ix4 b t h c)
abbrev aa (b : Fin 16) (t : Fin 32) (h : Fin 4) (c : Fin 128) : EReal := (Value.res_main_v36 (F := Ideal) V0 : S16x32x4x128.Idx → EReal) (ix4 b t h c)
abbrev oo (b : Fin 16) (t : Fin 32) (h : Fin 4) (d : Fin 128) : EReal := (Value.res_main_v58 (F := Ideal) V0 : S16x32x4x128.Idx → EReal) (ix4 b t h d)
abbrev ae (b : Fin 16) (h : Fin 4) (c : Fin 128) : EReal := (Value.res_main_v60 (F := Ideal) V0 : S16x4x128.Idx → EReal) (ix3 b h c)

/-! ## The reference's arrays read at an index -/

theorem lf_raw (b : Fin 16) (t : Fin 32) (h : Fin 4) (c : Fin 128) :
    lf V0 b t h c = refLf (vLb V0 (ix2 0 (colw h c))) (vHg V0 (ix3 b t (colf (colw h c)))) := by
  rw [← cf h c (by omega), ← cw h c (by omega)]
  unfold lf Value.res_main_v29 Value.res_main_v20 Value.res_main_v16 Value.res_main_v15 Value.res_main_call0_call0_v3 Value.res_main_call0_call0_cst Value.res_main_call0_v0 Value.res_main_v8
  pointwise
  unfold refLf refLae refLs
  rfl

theorem kk_raw (b : Fin 16) (t : Fin 32) (h : Fin 4) (c : Fin 128) : kk V0 b t h c = -(Ideal.exp (lf V0 b t h c) - 1) := by
  unfold kk Value.res_main_v31
  pointwise

theorem aa_raw (b : Fin 16) (t : Fin 32) (h : Fin 4) (c : Fin 128) : aa V0 b t h c = ∑ x, lf V0 b x h c *
    FloatOps.uitofp (F := Ideal) .f32 (Scalar.select (IntOp.cmpi .sge (IntOp.addi (BitVec.ofNat 32 t.val) 0#32) (BitVec.ofNat 32 x.val)) 1#1 0#1) := by
  unfold aa Value.res_main_v36 Value.res_main_v33
  pointwise

theorem oo_raw (b : Fin 16) (t : Fin 32) (h : Fin 4) (d : Fin 128) : oo V0 b t h d
    = ∑ x : Fin 32, vHg V0 (ix3 b x (colv h d)) * ∑ e, vHg V0 (ix3 b t (colq h e))
        * Ideal.exp (Scalar.select (Scalar.select (IntOp.cmpi .sge (IntOp.addi (BitVec.ofNat 32 t.val) 0#32) (BitVec.ofNat 32 x.val)) 1#1 0#1)
            (aa V0 b t h e - aa V0 b x h e) (id (constant (F := Ideal) S_ .f32 4286578688#32) ix0))
        * kk V0 b x h e
      + ∑ e, vS V0 (ix4 b h d e) * (vHg V0 (ix3 b t (colq h e)) * Ideal.exp (aa V0 b t h e)) := by
  have q : ∀ e, colq h e = ⟨h.val * 128 + e.val, by omega⟩ := fun e => (cq h e (by omega)).symm
  simp only [← cv h d (by omega), q]
  unfold oo Value.res_main_v58 Value.res_main_v33 Value.res_main_v0 Value.res_main_v2 Value.res_main_v6
  pointwise

theorem ae_raw (b : Fin 16) (h : Fin 4) (c : Fin 128) : ae V0 b h c = aa V0 b 31 h c := by
  unfold ae Value.res_main_v60
  pointwise

/-! ## Their values -/

section values
variable (hF : Fine (vLb V0))
include hF

theorem lf_at (b : Fin 16) (t : Fin 32) (h : Fin 4) (c : Fin 128) : lf V0 b t h c = LB (hX (vHg V0) b) (bb (vLb V0)) h t c := by
  rw [lf_raw, hF.bb_coe]
  rfl

theorem kk_at (b : Fin 16) (t : Fin 32) (h : Fin 4) (c : Fin 128) : kk V0 b t h c = KB (hX (vHg V0) b) (bb (vLb V0)) h t c := by
  rw [kk_raw, lf_at V0 hF]
  rfl

theorem aa_at (b : Fin 16) (t : Fin 32) (h : Fin 4) (c : Fin 128) : aa V0 b t h c = AB (hX (vHg V0) b) (bb (vLb V0)) h t c := by
  rw [aa_raw]
  show _ = ∑ x : Fin 32, if x ≤ t then LB (hX (vHg V0) b) (bb (vLb V0)) h x c else 0
  refine Finset.sum_congr rfl fun x _ => ?_
  rw [lf_at V0 hF, mask_num _ _ (by omega) (by omega)]
  by_cases hx : x ≤ t
  · rw [if_pos hx, if_pos (Fin.le_def.1 hx), mul_one]
  · rw [if_neg hx, if_neg (fun h => hx (Fin.le_def.2 h)), mul_zero]

theorem oo_at (b : Fin 16) (t : Fin 32) (h : Fin 4) (d : Fin 128) :
    oo V0 b t h d = oB (hX (vHg V0) b) (bb (vLb V0)) (hS (vS V0) b) h t d := by
  rw [oo_raw, neg_inf_sample]
  unfold oB
  refine congrArg₂ (· + ·) (Finset.sum_congr rfl fun x _ => ?_) (Finset.sum_congr rfl fun e _ => ?_)
  · simp only [mask_pick _ _ (show t.val < 2 ^ 31 by omega) (show x.val < 2 ^ 31 by omega)]
    rw [mul_comm]
    congr 1
    by_cases hx : x ≤ t
    · simp only [if_pos hx, if_pos (Fin.le_def.1 hx), aa_at V0 hF, kk_at V0 hF]
    · simp only [if_neg hx, if_neg (fun h => hx (Fin.le_def.2 h)), Ideal.exp_bot, mul_zero, zero_mul, Finset.sum_const_zero]
  · rw [aa_at V0 hF, mul_comm]

theorem y_at (b : Fin 16) (t : Fin 32) (j : Fin 512) :
    ((truncf .bf16 (mulf (shapeCast _ (mulf (mulf (Value.res_main_v58 V0) (broadcastInDim S16x32x4x128 ![0, 1, 2, 3] bcast_S16x32x4x1_S16x32x4x128_0_1_2_3 (Host.rsqrt (addf (Host.divf (broadcastInDim S16x32x4x1 ![0, 1, 2] bcast_S16x32x4_S16x32x4x1_0_1_2 (Host.reduceAdd (mulf (Value.res_main_v58 V0) (Value.res_main_v58 V0)) (constant S_ .f32 0x00000000#32) reducesTo_S16x32x4x128_S16x32x4_d3 h_S_)) (broadcastInDim S16x32x4x1 ![] bcast_S_S16x32x4x1 (constant S_ .f32 0x43000000#32))) (broadcastInDim S16x32x4x1 ![] bcast_S_S16x32x4x1 (constant S_ .f32 0x358637BD#32)))))) (broadcastInDim S16x32x4x128 ![0, 1, 2, 3] bcast_S1x1x4x128_S16x32x4x128_0_1_2_3 (broadcastInDim S1x1x4x128 ![2, 3] bcast_S4x128_S1x1x4x128_2_3 (shapeCast _ (V0 (Proc.devRef .tc main_arg3)) shapeCasts_S1x512_S4x128)))) shapeCasts_S16x32x4x128_S16x32x512) (mulf (Value.res_main_v7 V0) (Host.divf (broadcastInDim S16x32x512 ![] bcast_S_S16x32x512 (constant S_ .f32 0x3F800000#32)) (addf (broadcastInDim S16x32x512 ![] bcast_S_S16x32x512 (constant S_ .f32 0x3F800000#32)) (Host.exp (Host.negf (Value.res_main_v7 V0))))))) bitsLt_bf16_f32)
      : S16x32x512.Idx → EReal) (ix3 b t j) = yOut (vHg V0) (vS V0) (vLb V0) (vNw V0) (ix3 b t j) := by
  have e : ∀ d, oB (hX (vHg V0) b) (bb (vLb V0)) (hS (vS V0) b) ⟨j.val / 128, by omega⟩ t d = oo V0 b t ⟨j.val / 128, by omega⟩ d := fun d => (oo_at V0 hF b t _ d).symm
  show _ = yEl (vHg V0 (ix3 b t (colg j))) (fun d => oB (hX (vHg V0) b) (bb (vLb V0)) (hS (vS V0) b) ⟨j.val / 128, _⟩ t d) ⟨j.val % 128, _⟩ (vNw V0 (ix2 0 j))
  simp only [e]
  unfold Value.res_main_v7 yEl
  rw [zero_sub]
  pointwise
  rfl

theorem s_at (b : Fin 16) (h : Fin 4) (d c : Fin 128) :
    ((transpose S16x4x128x128 [0, 1, 3, 2] (addf (mulf (broadcastInDim S16x4x128x128 ![0, 1, 2, 3] bcast_S16x4x128x1_S16x4x128x128_0_1_2_3 (broadcastInDim S16x4x128x1 ![0, 1, 2] bcast_S16x4x128_S16x4x128x1_0_1_2 (Host.exp (φ := .f32) (Value.res_main_v60 V0)))) (Value.res_main_v0 V0)) (Host.dotGeneral (φ₁ := .f32) (φ₂ := .f32) dot_S16x32x4x128_S16x32x4x128_S16x4x128x128_1_1_3_3_02_02 none (mulf (φ := .f32) (Value.res_main_v31 V0) (Host.exp (φ := .f32) (subf (φ := .f32) (broadcastInDim S16x32x4x128 ![0, 1, 2, 3] bcast_S16x1x4x128_S16x32x4x128_0_1_2_3 (broadcastInDim S16x1x4x128 ![0, 2, 3] bcast_S16x4x128_S16x1x4x128_0_2_3 (Value.res_main_v60 V0))) (Value.res_main_v36 V0)))) (Value.res_main_v6 V0))) transposes_S16x4x128x128_S16x4x128x128_0_1_3_2)
      : S16x4x128x128.Idx → EReal) (ix4 b h d c) = sOut (vHg V0) (vS V0) (vLb V0) (ix4 b h d c) := by
  have raw : ((transpose S16x4x128x128 [0, 1, 3, 2] (addf (mulf (broadcastInDim S16x4x128x128 ![0, 1, 2, 3] bcast_S16x4x128x1_S16x4x128x128_0_1_2_3 (broadcastInDim S16x4x128x1 ![0, 1, 2] bcast_S16x4x128_S16x4x128x1_0_1_2 (Host.exp (φ := .f32) (Value.res_main_v60 V0)))) (Value.res_main_v0 V0)) (Host.dotGeneral (φ₁ := .f32) (φ₂ := .f32) dot_S16x32x4x128_S16x32x4x128_S16x4x128x128_1_1_3_3_02_02 none (mulf (φ := .f32) (Value.res_main_v31 V0) (Host.exp (φ := .f32) (subf (φ := .f32) (broadcastInDim S16x32x4x128 ![0, 1, 2, 3] bcast_S16x1x4x128_S16x32x4x128_0_1_2_3 (broadcastInDim S16x1x4x128 ![0, 2, 3] bcast_S16x4x128_S16x1x4x128_0_2_3 (Value.res_main_v60 V0))) (Value.res_main_v36 V0)))) (Value.res_main_v6 V0))) transposes_S16x4x128x128_S16x4x128x128_0_1_3_2)
      : S16x4x128x128.Idx → EReal) (ix4 b h d c)
      = Ideal.exp (ae V0 b h c) * vS V0 (ix4 b h d c) + ∑ x : Fin 32, kk V0 b x h c * Ideal.exp (ae V0 b h c - aa V0 b x h c) * vHg V0 (ix3 b x (colv h d)) := by
    simp only [← cv h d (by omega)]
    unfold Value.res_main_v0 Value.res_main_v6
    pointwise
  refine raw.trans ?_
  rw [ae_raw, mul_comm]
  simp only [aa_at V0 hF, kk_at V0 hF]
  show _ = sB (hX (vHg V0) b) (bb (vLb V0)) (hS (vS V0) b) h d c
  unfold sB
  exact congrArg₂ (· + ·) rfl (Finset.sum_congr rfl fun x _ => mul_comm _ _)

end values

end Cert.Reference11Ideal.Hg

/-! ## The claims -/

namespace Cert.Proof.HgrnSample

open Cert.Kernel11Ideal.Hg Cert.Reference11Ideal.Hg
open Cert.Proof.Hgrn (le_of_cmp_oge le_of_cmp_ole)

/-- What the precondition says of the lower bound. -/
theorem fine_of_pre (hg : FVec Ideal Cert.Pre_hgrn_bound.S16x32x2048 .f32) (s0t : FVec Ideal Cert.Pre_hgrn_bound.S16x4x128x128 .f32)
    (lb nw : FVec Ideal Cert.Pre_hgrn_bound.S1x512 .f32)
    (h : Cert.Pre_hgrn_bound.fn hg s0t lb nw = fun _ => 1#1) : Fine lb := by
  obtain ⟨h2, h3⟩ := IntOp.andi_eq_one.1 (congrFun h ix0)
  haveI : Subsingleton Cert.Pre_hgrn_bound.S_.Idx := ⟨fun a b => funext fun i => i.elim0⟩
  refine ⟨fun j => ?_, fun j => ?_⟩
  · have e := le_of_cmp_oge (Host.reduce_andi_all _ _ _ _ ix0 h2 (ix2 0 j))
    have e' : broadcastInDim Cert.Pre_hgrn_bound.S1x512 ![] Cert.Pre_hgrn_bound.Facts.bcast_S_S1x512 (constant (F := Ideal) Cert.Pre_hgrn_bound.S_ .f32 0x00000000#32) (ix2 0 j) = (0 : EReal) := by
      pointwise
    rwa [e'] at e
  · have e := le_of_cmp_ole (Host.reduce_andi_all _ _ _ _ ix0 h3 (ix2 0 j))
    have e' : broadcastInDim Cert.Pre_hgrn_bound.S1x512 ![] Cert.Pre_hgrn_bound.Facts.bcast_S_S1x512 (constant (F := Ideal) Cert.Pre_hgrn_bound.S_ .f32 0x3F800000#32) (ix2 0 j) = (1 : EReal) := by
      pointwise
    rwa [e'] at e

theorem preserves : Cert.preserves_Kernel11_Kernel11Ideal := trivial
theorem frame_k : Cert.quiescent_Kernel11 := fun m ρ _ => Cert.Kernel11.Gen.frame m ρ
theorem frame_ki : Cert.quiescent_Kernel11Ideal := fun m ρ _ => Cert.Kernel11Ideal.Gen.frame m ρ
theorem frame_ki_pre : Cert.quiescent_Kernel11Ideal_pre_hgrn_bound := fun m ρ _ => Cert.Kernel11Ideal.Gen.frame m ρ
theorem frame_ri : Cert.quiescent_Reference11Ideal := fun m ρ _ =>
  (θ_run Cert.Reference11Ideal.defs _ _).mono (fun r h => ⟨fun c => (h c).2.2, Idealize.ShloMosaic.sem_eq_zero_of_no_sems (by decide) r.2⟩)
    (Cert.Reference11Ideal.Value.run (F := Ideal) m ρ)
theorem frame_ri_pre : Cert.quiescent_Reference11Ideal_pre_hgrn_bound := fun m ρ _ => frame_ri m ρ trivial

theorem algebraic : Cert.algebraic_Kernel11Ideal_Reference11Ideal_pre_hgrn_bound := by
  intro m ρ m' ρ' hpre hagree
  have hf := fun c => fine_of_pre _ _ _ _ (hpre c)
  refine ⟨fun c => yOut (aHg m c) (aS m c) (aLb m c) (aNw m c), fun c => sOut (aHg m c) (aS m c) (aLb m c), ?_, ?_⟩
  · exact (θ_run Cert.Kernel11Ideal.defs _ _).mono
      (fun _ h c => ⟨(h c).1.trans (final5 m c (hf c)), (h c).2.1.trans (final6 m c (hf c)), (h c).2.2⟩)
      (Cert.Kernel11Ideal.Value.run_blocks (F := Ideal) m ρ)
  · refine (θ_run Cert.Reference11Ideal.defs _ _).mono (fun _ h c => ⟨(h c).1.trans ?_, (h c).2.1.trans ?_, (h c).2.2⟩)
      (Cert.Reference11Ideal.Value.run (F := Ideal) m' ρ')
    all_goals
      obtain ⟨a0, a1, a2, a3⟩ := hagree c
      have hF := hf c
      rw [← a2] at hF
    · have e : yOut (aHg m c) (aS m c) (aLb m c) (aNw m c)
          = yOut (vHg (StableHlo.launchContents m' c)) (vS (StableHlo.launchContents m' c)) (vLb (StableHlo.launchContents m' c)) (vNw (StableHlo.launchContents m' c)) := by
        show _ = yOut (m' ((c : Thread Cert.Reference11Ideal.nD Cert.Reference11Ideal.τ).loc Cert.Reference11Ideal.main_arg0)) (m' ((c : Thread Cert.Reference11Ideal.nD Cert.Reference11Ideal.τ).loc Cert.Reference11Ideal.main_arg1)) (m' ((c : Thread Cert.Reference11Ideal.nD Cert.Reference11Ideal.τ).loc Cert.Reference11Ideal.main_arg2)) (m' ((c : Thread Cert.Reference11Ideal.nD Cert.Reference11Ideal.τ).loc Cert.Reference11Ideal.main_arg3))
        rw [a0, a1, a2, a3]
      beta_reduce
      rw [e]
      funext i
      obtain ⟨b, t, j, rfl⟩ : ∃ (b : Fin 16) (t : Fin 32) (j : Fin 512), i = ix3 b t j :=
        ⟨i 0, i 1, i 2, by funext a; match a with | ⟨0, _⟩ => rfl | ⟨1, _⟩ => rfl | ⟨2, _⟩ => rfl⟩
      exact y_at _ hF b t j
    · have e : sOut (aHg m c) (aS m c) (aLb m c)
          = sOut (vHg (StableHlo.launchContents m' c)) (vS (StableHlo.launchContents m' c)) (vLb (StableHlo.launchContents m' c)) := by
        show _ = sOut (m' ((c : Thread Cert.Reference11Ideal.nD Cert.Reference11Ideal.τ).loc Cert.Reference11Ideal.main_arg0)) (m' ((c : Thread Cert.Reference11Ideal.nD Cert.Reference11Ideal.τ).loc Cert.Reference11Ideal.main_arg1)) (m' ((c : Thread Cert.Reference11Ideal.nD Cert.Reference11Ideal.τ).loc Cert.Reference11Ideal.main_arg2))
        rw [a0, a1, a2]
      beta_reduce
      rw [e]
      funext i
      obtain ⟨b, h, d, e, rfl⟩ : ∃ (b : Fin 16) (h : Fin 4) (d e : Fin 128), i = ix4 b h d e :=
        ⟨i 0, i 1, i 2, i 3, by funext a; match a with | ⟨0, _⟩ => rfl | ⟨1, _⟩ => rfl | ⟨2, _⟩ => rfl | ⟨3, _⟩ => rfl⟩
      exact s_at _ hF b h d e

end Cert.Proof.HgrnSample

end
-- ==== Proof.lean ====
/-
  The certificate: the claims about every call, put together. Each call's frames, its `preserves` and its `algebraic` claim
  are proved in that call's own module under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Pre_hgrn_inputs
public import proofs.«01_k».proof.Proof.Gen.Pre_finite_prompt
public import proofs.«01_k».proof.Proof.Gen.Pre_finite_sample
public import proofs.«01_k».proof.Proof.Ffn
public import proofs.«01_k».proof.Proof.Merge
public import proofs.«01_k».proof.Proof.Proj
public import proofs.«01_k».proof.Proof.SbSample
public import proofs.«01_k».proof.Proof.SbPrompt
public import proofs.«01_k».proof.Proof.FfnSample
public import proofs.«01_k».proof.Proof.MergeSample
public import proofs.«01_k».proof.Proof.ProjSample
public import proofs.«01_k».proof.Proof.Ada
public import proofs.«01_k».proof.Proof.HgrnRef
public import proofs.«01_k».proof.Proof.HgrnSampleRef
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Pre_finite_prompt.Gen.facts,
    Cert.Pre_finite_sample.Gen.facts,
    Cert.Pre_hgrn_inputs.Gen.facts,
    Cert.Pre_hgrn_bound.Gen.facts,
    SbPrompt.frame_k,
    SbPrompt.frame_ki,
    SbPrompt.frame_ki_pre,
    SbPrompt.frame_ri,
    SbPrompt.frame_ri_pre,
    SbSample.frame_k,
    SbSample.frame_ki,
    SbSample.frame_ki_pre,
    SbSample.frame_ri,
    SbSample.frame_ri_pre,
    Ffn.frame_k,
    Ffn.frame_ki,
    Ffn.frame_ri,
    Merge.frame_k,
    Merge.frame_ki,
    Merge.frame_ri,
    Proj.frame_k,
    Proj.frame_ki,
    Proj.frame_ri,
    FfnSample.frame_k,
    FfnSample.frame_ki,
    FfnSample.frame_ri,
    MergeSample.frame_k,
    MergeSample.frame_ki,
    MergeSample.frame_ri,
    ProjSample.frame_k,
    ProjSample.frame_ki,
    ProjSample.frame_ri,
    Ada.frame_k,
    Ada.frame_ki,
    Ada.frame_ri,
    Hgrn.frame_k,
    Hgrn.frame_ki,
    Hgrn.frame_ki_pre,
    Hgrn.frame_ri,
    Hgrn.frame_ri_pre,
    HgrnSample.frame_k,
    HgrnSample.frame_ki,
    HgrnSample.frame_ki_pre,
    HgrnSample.frame_ri,
    HgrnSample.frame_ri_pre,
    SbPrompt.preserves,
    SbPrompt.algebraic,
    SbSample.preserves,
    SbSample.algebraic,
    Ffn.preserves,
    Ffn.algebraic,
    Merge.preserves,
    Merge.algebraic,
    Proj.preserves,
    Proj.algebraic,
    FfnSample.preserves,
    FfnSample.algebraic,
    MergeSample.preserves,
    MergeSample.algebraic,
    ProjSample.preserves,
    ProjSample.algebraic,
    Ada.preserves,
    Ada.algebraic,
    Hgrn.preserves,
    Hgrn.algebraic,
    HgrnSample.preserves,
    HgrnSample.algebraic⟩

end Cert.Proof

end
